-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_attn_b [hPre_finite_attn_b : Cert.Pre_finite_attn_b.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_attn_b.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1))).1 = (fun _ => 1#1)
    ∧ (Cert.Pre_finite_attn_b.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1))).2 = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_attn_b [hPre_finite_attn_b : Cert.Pre_finite_attn_b.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1))).1 = (fun _ => 1#1)
    ∧ (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1))).2 = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasBwdIdeal_finite_bias [hPre_finite_bias : Cert.Pre_finite_bias.Facts] (m : (ℓ : Loc Cert.BiasBwdIdeal.nD Cert.BiasBwdIdeal.τ Cert.BiasBwdIdeal.sig) → Buf (Elt Ideal) ℓ) : Prop :=
  ∀ c : Dev Cert.BiasBwdIdeal.nD,
    (Cert.Pre_finite_bias.fn (F := Ideal) (m ((c.tc : Thread Cert.BiasBwdIdeal.nD Cert.BiasBwdIdeal.τ).loc Cert.BiasBwdIdeal.main_arg0)) (m ((c.tc : Thread Cert.BiasBwdIdeal.nD Cert.BiasBwdIdeal.τ).loc Cert.BiasBwdIdeal.main_arg1))).1 = (fun _ => 1#1)
    ∧ (Cert.Pre_finite_bias.fn (F := Ideal) (m ((c.tc : Thread Cert.BiasBwdIdeal.nD Cert.BiasBwdIdeal.τ).loc Cert.BiasBwdIdeal.main_arg0)) (m ((c.tc : Thread Cert.BiasBwdIdeal.nD Cert.BiasBwdIdeal.τ).loc Cert.BiasBwdIdeal.main_arg1))).2 = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_bias [hPre_finite_bias : Cert.Pre_finite_bias.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_bias.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))).1 = (fun _ => 1#1)
    ∧ (Cert.Pre_finite_bias.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))).2 = (fun _ => 1#1)

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_finite_ln [hPre_finite_ln : Cert.Pre_finite_ln.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.2.2 = (fun _ => 1#1)

def Pre_DxMix (m : (ℓ : Loc Cert.DxMix.nD Cert.DxMix.τ Cert.DxMix.sig) → Buf (Elt Bits) ℓ) : Prop :=
  True

def Pre_DxMixIdeal (m : (ℓ : Loc Cert.DxMixIdeal.nD Cert.DxMixIdeal.τ Cert.DxMixIdeal.sig) → Buf (Elt Ideal) ℓ) : Prop :=
  True

def Pre_DxMixIdeal_finite_mix [hPre_finite_mix : Cert.Pre_finite_mix.Facts] (m : (ℓ : Loc Cert.DxMixIdeal.nD Cert.DxMixIdeal.τ Cert.DxMixIdeal.sig) → Buf (Elt Ideal) ℓ) : Prop :=
  ∀ c : Dev Cert.DxMixIdeal.nD,
    (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.2.2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.2.2.2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.2.2.2.2.1 = (fun _ => 1#1)
    ∧ (Cert.Pre_finite_mix.fn (F := Ideal) (m ((c.tc : Thread Cert.DxMixIdeal.nD Cert.DxMixIdeal.τ).loc Cert.DxMixIdeal.main_arg0)) (m ((c.tc : Thread Cert.DxMixIdeal.nD Cert.DxMixIdeal.τ).loc Cert.DxMixIdeal.main_arg1)) (m ((c.tc : Thread Cert.DxMixIdeal.nD Cert.DxMixIdeal.τ).loc Cert.DxMixIdeal.main_arg2)) (m ((c.tc : Thread Cert.DxMixIdeal.nD Cert.DxMixIdeal.τ).loc Cert.DxMixIdeal.main_arg3)) (m ((c.tc : Thread Cert.DxMixIdeal.nD Cert.DxMixIdeal.τ).loc Cert.DxMixIdeal.main_arg4)) (m ((c.tc : Thread Cert.DxMixIdeal.nD Cert.DxMixIdeal.τ).loc Cert.DxMixIdeal.main_arg5)) (m ((c.tc : Thread Cert.DxMixIdeal.nD Cert.DxMixIdeal.τ).loc Cert.DxMixIdeal.main_arg6)) (m ((c.tc : Thread Cert.DxMixIdeal.nD Cert.DxMixIdeal.τ).loc Cert.DxMixIdeal.main_arg7))).2.2.2.2.2.2.2 = (fun _ => 1#1)

def Pre_DxMixRefIdeal (m : (ℓ : Loc Cert.DxMixRefIdeal.nD Cert.DxMixRefIdeal.τ Cert.DxMixRefIdeal.sig) → Buf (Elt Ideal) ℓ) : Prop :=
  True

def Pre_DxMixRefIdeal_finite_mix [hPre_finite_mix : Cert.Pre_finite_mix.Facts] (m : (ℓ : Loc Cert.DxMixRefIdeal.nD Cert.DxMixRefIdeal.τ Cert.DxMixRefIdeal.sig) → Buf (Elt Ideal) ℓ) : Prop :=
  ∀ c : Dev Cert.DxMixRefIdeal.nD,
    (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.2.2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.2.2.2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.2.2.2.2.1 = (fun _ => 1#1)
    ∧ (Cert.Pre_finite_mix.fn (F := Ideal) (m ((c.tc : Thread Cert.DxMixRefIdeal.nD Cert.DxMixRefIdeal.τ).loc Cert.DxMixRefIdeal.main_arg0)) (m ((c.tc : Thread Cert.DxMixRefIdeal.nD Cert.DxMixRefIdeal.τ).loc Cert.DxMixRefIdeal.main_arg1)) (m ((c.tc : Thread Cert.DxMixRefIdeal.nD Cert.DxMixRefIdeal.τ).loc Cert.DxMixRefIdeal.main_arg2)) (m ((c.tc : Thread Cert.DxMixRefIdeal.nD Cert.DxMixRefIdeal.τ).loc Cert.DxMixRefIdeal.main_arg3)) (m ((c.tc : Thread Cert.DxMixRefIdeal.nD Cert.DxMixRefIdeal.τ).loc Cert.DxMixRefIdeal.main_arg4)) (m ((c.tc : Thread Cert.DxMixRefIdeal.nD Cert.DxMixRefIdeal.τ).loc Cert.DxMixRefIdeal.main_arg5)) (m ((c.tc : Thread Cert.DxMixRefIdeal.nD Cert.DxMixRefIdeal.τ).loc Cert.DxMixRefIdeal.main_arg6)) (m ((c.tc : Thread Cert.DxMixRefIdeal.nD Cert.DxMixRefIdeal.τ).loc Cert.DxMixRefIdeal.main_arg7))).2.2.2.2.2.2.2 = (fun _ => 1#1)

def Pre_DxFfn (m : (ℓ : Loc Cert.DxFfn.nD Cert.DxFfn.τ Cert.DxFfn.sig) → Buf (Elt Bits) ℓ) : Prop :=
  True

def Pre_DxFfnIdeal (m : (ℓ : Loc Cert.DxFfnIdeal.nD Cert.DxFfnIdeal.τ Cert.DxFfnIdeal.sig) → Buf (Elt Ideal) ℓ) : Prop :=
  True

def Pre_DxFfnIdeal_finite_ffn [hPre_finite_ffn : Cert.Pre_finite_ffn.Facts] (m : (ℓ : Loc Cert.DxFfnIdeal.nD Cert.DxFfnIdeal.τ Cert.DxFfnIdeal.sig) → Buf (Elt Ideal) ℓ) : Prop :=
  ∀ c : Dev Cert.DxFfnIdeal.nD,
    (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.2.2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.2.2.2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.2.2.2.2.1 = (fun _ => 1#1)
    ∧ (Cert.Pre_finite_ffn.fn (F := Ideal) (m ((c.tc : Thread Cert.DxFfnIdeal.nD Cert.DxFfnIdeal.τ).loc Cert.DxFfnIdeal.main_arg0)) (m ((c.tc : Thread Cert.DxFfnIdeal.nD Cert.DxFfnIdeal.τ).loc Cert.DxFfnIdeal.main_arg1)) (m ((c.tc : Thread Cert.DxFfnIdeal.nD Cert.DxFfnIdeal.τ).loc Cert.DxFfnIdeal.main_arg2)) (m ((c.tc : Thread Cert.DxFfnIdeal.nD Cert.DxFfnIdeal.τ).loc Cert.DxFfnIdeal.main_arg3)) (m ((c.tc : Thread Cert.DxFfnIdeal.nD Cert.DxFfnIdeal.τ).loc Cert.DxFfnIdeal.main_arg4)) (m ((c.tc : Thread Cert.DxFfnIdeal.nD Cert.DxFfnIdeal.τ).loc Cert.DxFfnIdeal.main_arg5)) (m ((c.tc : Thread Cert.DxFfnIdeal.nD Cert.DxFfnIdeal.τ).loc Cert.DxFfnIdeal.main_arg6)) (m ((c.tc : Thread Cert.DxFfnIdeal.nD Cert.DxFfnIdeal.τ).loc Cert.DxFfnIdeal.main_arg7))).2.2.2.2.2.2.2 = (fun _ => 1#1)

def Pre_DxFfnRefIdeal (m : (ℓ : Loc Cert.DxFfnRefIdeal.nD Cert.DxFfnRefIdeal.τ Cert.DxFfnRefIdeal.sig) → Buf (Elt Ideal) ℓ) : Prop :=
  True

def Pre_DxFfnRefIdeal_finite_ffn [hPre_finite_ffn : Cert.Pre_finite_ffn.Facts] (m : (ℓ : Loc Cert.DxFfnRefIdeal.nD Cert.DxFfnRefIdeal.τ Cert.DxFfnRefIdeal.sig) → Buf (Elt Ideal) ℓ) : Prop :=
  ∀ c : Dev Cert.DxFfnRefIdeal.nD,
    (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.2.2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.2.2.2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.2.2.2.2.1 = (fun _ => 1#1)
    ∧ (Cert.Pre_finite_ffn.fn (F := Ideal) (m ((c.tc : Thread Cert.DxFfnRefIdeal.nD Cert.DxFfnRefIdeal.τ).loc Cert.DxFfnRefIdeal.main_arg0)) (m ((c.tc : Thread Cert.DxFfnRefIdeal.nD Cert.DxFfnRefIdeal.τ).loc Cert.DxFfnRefIdeal.main_arg1)) (m ((c.tc : Thread Cert.DxFfnRefIdeal.nD Cert.DxFfnRefIdeal.τ).loc Cert.DxFfnRefIdeal.main_arg2)) (m ((c.tc : Thread Cert.DxFfnRefIdeal.nD Cert.DxFfnRefIdeal.τ).loc Cert.DxFfnRefIdeal.main_arg3)) (m ((c.tc : Thread Cert.DxFfnRefIdeal.nD Cert.DxFfnRefIdeal.τ).loc Cert.DxFfnRefIdeal.main_arg4)) (m ((c.tc : Thread Cert.DxFfnRefIdeal.nD Cert.DxFfnRefIdeal.τ).loc Cert.DxFfnRefIdeal.main_arg5)) (m ((c.tc : Thread Cert.DxFfnRefIdeal.nD Cert.DxFfnRefIdeal.τ).loc Cert.DxFfnRefIdeal.main_arg6)) (m ((c.tc : Thread Cert.DxFfnRefIdeal.nD Cert.DxFfnRefIdeal.τ).loc Cert.DxFfnRefIdeal.main_arg7))).2.2.2.2.2.2.2 = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_mid [hPre_finite_mid : Cert.Pre_finite_mid.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4))).1 = (fun _ => 1#1)
    ∧ (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4))).2.1 = (fun _ => 1#1)
    ∧ (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4))).2.2.1 = (fun _ => 1#1)
    ∧ (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4))).2.2.2.1 = (fun _ => 1#1)
    ∧ (Cert.Pre_finite_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4))).2.2.2.2 = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_mid [hPre_finite_mid : Cert.Pre_finite_mid.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4))).1 = (fun _ => 1#1)
    ∧ (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4))).2.1 = (fun _ => 1#1)
    ∧ (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4))).2.2.1 = (fun _ => 1#1)
    ∧ (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4))).2.2.2.1 = (fun _ => 1#1)
    ∧ (Cert.Pre_finite_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4))).2.2.2.2 = (fun _ => 1#1)

def Pre_DxFirst (m : (ℓ : Loc Cert.DxFirst.nD Cert.DxFirst.τ Cert.DxFirst.sig) → Buf (Elt Bits) ℓ) : Prop :=
  True

def Pre_DxFirstIdeal (m : (ℓ : Loc Cert.DxFirstIdeal.nD Cert.DxFirstIdeal.τ Cert.DxFirstIdeal.sig) → Buf (Elt Ideal) ℓ) : Prop :=
  True

def Pre_DxFirstRefIdeal (m : (ℓ : Loc Cert.DxFirstRefIdeal.nD Cert.DxFirstRefIdeal.τ Cert.DxFirstRefIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_attn_a [hPre_finite_attn_a : Cert.Pre_finite_attn_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).1 = (fun _ => 1#1)
    ∧ (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2.1 = (fun _ => 1#1)
    ∧ (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2.2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_attn_a [hPre_finite_attn_a : Cert.Pre_finite_attn_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2.1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2.2 = (fun _ => 1#1)

def Pre_AttnBFwd (m : (ℓ : Loc Cert.AttnBFwd.nD Cert.AttnBFwd.τ Cert.AttnBFwd.sig) → Buf (Elt Bits) ℓ) : Prop :=
  True

def Pre_AttnBFwdIdeal (m : (ℓ : Loc Cert.AttnBFwdIdeal.nD Cert.AttnBFwdIdeal.τ Cert.AttnBFwdIdeal.sig) → Buf (Elt Ideal) ℓ) : Prop :=
  True

def Pre_AttnBFwdIdeal_finite_attn_b_fwd [hPre_finite_attn_b_fwd : Cert.Pre_finite_attn_b_fwd.Facts] (m : (ℓ : Loc Cert.AttnBFwdIdeal.nD Cert.AttnBFwdIdeal.τ Cert.AttnBFwdIdeal.sig) → Buf (Elt Ideal) ℓ) : Prop :=
  ∀ c : Dev Cert.AttnBFwdIdeal.nD,
    (Cert.Pre_finite_attn_b_fwd.fn (F := Ideal) (m ((c.tc : Thread Cert.AttnBFwdIdeal.nD Cert.AttnBFwdIdeal.τ).loc Cert.AttnBFwdIdeal.main_arg0))) = (fun _ => 1#1)

def Pre_AttnBFwdRefIdeal (m : (ℓ : Loc Cert.AttnBFwdRefIdeal.nD Cert.AttnBFwdRefIdeal.τ Cert.AttnBFwdRefIdeal.sig) → Buf (Elt Ideal) ℓ) : Prop :=
  True

def Pre_AttnBFwdRefIdeal_finite_attn_b_fwd [hPre_finite_attn_b_fwd : Cert.Pre_finite_attn_b_fwd.Facts] (m : (ℓ : Loc Cert.AttnBFwdRefIdeal.nD Cert.AttnBFwdRefIdeal.τ Cert.AttnBFwdRefIdeal.sig) → Buf (Elt Ideal) ℓ) : Prop :=
  ∀ c : Dev Cert.AttnBFwdRefIdeal.nD,
    (Cert.Pre_finite_attn_b_fwd.fn (F := Ideal) (m ((c.tc : Thread Cert.AttnBFwdRefIdeal.nD Cert.AttnBFwdRefIdeal.τ).loc Cert.AttnBFwdRefIdeal.main_arg0))) = (fun _ => 1#1)

def Pre_AttnAFwd (m : (ℓ : Loc Cert.AttnAFwd.nD Cert.AttnAFwd.τ Cert.AttnAFwd.sig) → Buf (Elt Bits) ℓ) : Prop :=
  True

def Pre_AttnAFwdIdeal (m : (ℓ : Loc Cert.AttnAFwdIdeal.nD Cert.AttnAFwdIdeal.τ Cert.AttnAFwdIdeal.sig) → Buf (Elt Ideal) ℓ) : Prop :=
  True

def Pre_AttnAFwdIdeal_finite_attn_a_fwd [hPre_finite_attn_a_fwd : Cert.Pre_finite_attn_a_fwd.Facts] (m : (ℓ : Loc Cert.AttnAFwdIdeal.nD Cert.AttnAFwdIdeal.τ Cert.AttnAFwdIdeal.sig) → Buf (Elt Ideal) ℓ) : Prop :=
  ∀ c : Dev Cert.AttnAFwdIdeal.nD,
    (Cert.Pre_finite_attn_a_fwd.fn (F := Ideal) (m ((c.tc : Thread Cert.AttnAFwdIdeal.nD Cert.AttnAFwdIdeal.τ).loc Cert.AttnAFwdIdeal.main_arg0)) (m ((c.tc : Thread Cert.AttnAFwdIdeal.nD Cert.AttnAFwdIdeal.τ).loc Cert.AttnAFwdIdeal.main_arg1))).1 = (fun _ => 1#1)
    ∧ (Cert.Pre_finite_attn_a_fwd.fn (F := Ideal) (m ((c.tc : Thread Cert.AttnAFwdIdeal.nD Cert.AttnAFwdIdeal.τ).loc Cert.AttnAFwdIdeal.main_arg0)) (m ((c.tc : Thread Cert.AttnAFwdIdeal.nD Cert.AttnAFwdIdeal.τ).loc Cert.AttnAFwdIdeal.main_arg1))).2 = (fun _ => 1#1)

def Pre_AttnAFwdRefIdeal (m : (ℓ : Loc Cert.AttnAFwdRefIdeal.nD Cert.AttnAFwdRefIdeal.τ Cert.AttnAFwdRefIdeal.sig) → Buf (Elt Ideal) ℓ) : Prop :=
  True

def Pre_AttnAFwdRefIdeal_finite_attn_a_fwd [hPre_finite_attn_a_fwd : Cert.Pre_finite_attn_a_fwd.Facts] (m : (ℓ : Loc Cert.AttnAFwdRefIdeal.nD Cert.AttnAFwdRefIdeal.τ Cert.AttnAFwdRefIdeal.sig) → Buf (Elt Ideal) ℓ) : Prop :=
  ∀ c : Dev Cert.AttnAFwdRefIdeal.nD,
    (Cert.Pre_finite_attn_a_fwd.fn (F := Ideal) (m ((c.tc : Thread Cert.AttnAFwdRefIdeal.nD Cert.AttnAFwdRefIdeal.τ).loc Cert.AttnAFwdRefIdeal.main_arg0)) (m ((c.tc : Thread Cert.AttnAFwdRefIdeal.nD Cert.AttnAFwdRefIdeal.τ).loc Cert.AttnAFwdRefIdeal.main_arg1))).1 = (fun _ => 1#1)
    ∧ (Cert.Pre_finite_attn_a_fwd.fn (F := Ideal) (m ((c.tc : Thread Cert.AttnAFwdRefIdeal.nD Cert.AttnAFwdRefIdeal.τ).loc Cert.AttnAFwdRefIdeal.main_arg0)) (m ((c.tc : Thread Cert.AttnAFwdRefIdeal.nD Cert.AttnAFwdRefIdeal.τ).loc Cert.AttnAFwdRefIdeal.main_arg1))).2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_DownLnRefIdeal (m : (ℓ : Loc Cert.DownLnRefIdeal.nD Cert.DownLnRefIdeal.τ Cert.DownLnRefIdeal.sig) → Buf (Elt Ideal) ℓ) : Prop :=
  True

def Pre_BiasBand (m : (ℓ : Loc Cert.BiasBand.nD Cert.BiasBand.τ Cert.BiasBand.sig) → Buf (Elt Bits) ℓ) : Prop :=
  True

def Pre_BiasBandIdeal (m : (ℓ : Loc Cert.BiasBandIdeal.nD Cert.BiasBandIdeal.τ Cert.BiasBandIdeal.sig) → Buf (Elt Ideal) ℓ) : Prop :=
  True

def Pre_BiasBandIdeal_finite_band [hPre_finite_band : Cert.Pre_finite_band.Facts] (m : (ℓ : Loc Cert.BiasBandIdeal.nD Cert.BiasBandIdeal.τ Cert.BiasBandIdeal.sig) → Buf (Elt Ideal) ℓ) : Prop :=
  ∀ c : Dev Cert.BiasBandIdeal.nD,
    (Cert.Pre_finite_band.fn (F := Ideal) (m ((c.tc : Thread Cert.BiasBandIdeal.nD Cert.BiasBandIdeal.τ).loc Cert.BiasBandIdeal.main_arg0))) = (fun _ => 1#1)

def Pre_BiasBandRefIdeal (m : (ℓ : Loc Cert.BiasBandRefIdeal.nD Cert.BiasBandRefIdeal.τ Cert.BiasBandRefIdeal.sig) → Buf (Elt Ideal) ℓ) : Prop :=
  True

def Pre_BiasBandRefIdeal_finite_band [hPre_finite_band : Cert.Pre_finite_band.Facts] (m : (ℓ : Loc Cert.BiasBandRefIdeal.nD Cert.BiasBandRefIdeal.τ Cert.BiasBandRefIdeal.sig) → Buf (Elt Ideal) ℓ) : Prop :=
  ∀ c : Dev Cert.BiasBandRefIdeal.nD,
    (Cert.Pre_finite_band.fn (F := Ideal) (m ((c.tc : Thread Cert.BiasBandRefIdeal.nD Cert.BiasBandRefIdeal.τ).loc Cert.BiasBandRefIdeal.main_arg0))) = (fun _ => 1#1)

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBIdeal_pre_finite_attn_b [hAttnBIdeal : Cert.AttnBIdeal.Facts] [hPre_finite_attn_b : Cert.Pre_finite_attn_b.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_attn_b m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def quiescent_AttnBRefIdeal_pre_finite_attn_b [hAttnBRefIdeal : Cert.AttnBRefIdeal.Facts] [hPre_finite_attn_b : Cert.Pre_finite_attn_b.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_attn_b m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasBwdIdeal_pre_finite_bias [hBiasBwdIdeal : Cert.BiasBwdIdeal.Facts] [hPre_finite_bias : Cert.Pre_finite_bias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal_finite_bias m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_BiasRefIdeal_pre_finite_bias [hBiasRefIdeal : Cert.BiasRefIdeal.Facts] [hPre_finite_bias : Cert.Pre_finite_bias.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_bias m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnRefIdeal_pre_finite_ln [hLnRefIdeal : Cert.LnRefIdeal.Facts] [hPre_finite_ln : Cert.Pre_finite_ln.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_finite_ln m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_DxMix [hDxMix : Cert.DxMix.Facts] : Prop :=
  ∀ (m : (ℓ : Loc Cert.DxMix.nD Cert.DxMix.τ Cert.DxMix.sig) → Buf (Elt Bits) ℓ) (g : Dev Cert.DxMix.nD → PrngReg), Pre_DxMix m →
    θ_run (Cert.DxMix.defs (F := Bits)) (onTc (τ := Cert.DxMix.τ) (Cert.DxMix.main (F := Bits))) ⟨m, fun _ => 0, g⟩ (fun r => (∀ c : Dev Cert.DxMix.nD,
      r.2.mem ((c.tc : Thread Cert.DxMix.nD Cert.DxMix.τ).loc Cert.DxMix.main_arg0) = m ((c.tc : Thread Cert.DxMix.nD Cert.DxMix.τ).loc Cert.DxMix.main_arg0)
      ∧ r.2.mem ((c.tc : Thread Cert.DxMix.nD Cert.DxMix.τ).loc Cert.DxMix.main_arg1) = m ((c.tc : Thread Cert.DxMix.nD Cert.DxMix.τ).loc Cert.DxMix.main_arg1)
      ∧ r.2.mem ((c.tc : Thread Cert.DxMix.nD Cert.DxMix.τ).loc Cert.DxMix.main_arg2) = m ((c.tc : Thread Cert.DxMix.nD Cert.DxMix.τ).loc Cert.DxMix.main_arg2)
      ∧ r.2.mem ((c.tc : Thread Cert.DxMix.nD Cert.DxMix.τ).loc Cert.DxMix.main_arg3) = m ((c.tc : Thread Cert.DxMix.nD Cert.DxMix.τ).loc Cert.DxMix.main_arg3)
      ∧ r.2.mem ((c.tc : Thread Cert.DxMix.nD Cert.DxMix.τ).loc Cert.DxMix.main_arg4) = m ((c.tc : Thread Cert.DxMix.nD Cert.DxMix.τ).loc Cert.DxMix.main_arg4)
      ∧ r.2.mem ((c.tc : Thread Cert.DxMix.nD Cert.DxMix.τ).loc Cert.DxMix.main_arg5) = m ((c.tc : Thread Cert.DxMix.nD Cert.DxMix.τ).loc Cert.DxMix.main_arg5)
      ∧ r.2.mem ((c.tc : Thread Cert.DxMix.nD Cert.DxMix.τ).loc Cert.DxMix.main_arg6) = m ((c.tc : Thread Cert.DxMix.nD Cert.DxMix.τ).loc Cert.DxMix.main_arg6)
      ∧ r.2.mem ((c.tc : Thread Cert.DxMix.nD Cert.DxMix.τ).loc Cert.DxMix.main_arg7) = m ((c.tc : Thread Cert.DxMix.nD Cert.DxMix.τ).loc Cert.DxMix.main_arg7))
      ∧ r.2.sem = fun _ => 0)

def quiescent_DxMixIdeal [hDxMixIdeal : Cert.DxMixIdeal.Facts] : Prop :=
  ∀ (m : (ℓ : Loc Cert.DxMixIdeal.nD Cert.DxMixIdeal.τ Cert.DxMixIdeal.sig) → Buf (Elt Ideal) ℓ) (g : Dev Cert.DxMixIdeal.nD → PrngReg), Pre_DxMixIdeal m →
    θ_run (Cert.DxMixIdeal.defs (F := Ideal)) (onTc (τ := Cert.DxMixIdeal.τ) (Cert.DxMixIdeal.main (F := Ideal))) ⟨m, fun _ => 0, g⟩ (fun r => (∀ c : Dev Cert.DxMixIdeal.nD,
      r.2.mem ((c.tc : Thread Cert.DxMixIdeal.nD Cert.DxMixIdeal.τ).loc Cert.DxMixIdeal.main_arg0) = m ((c.tc : Thread Cert.DxMixIdeal.nD Cert.DxMixIdeal.τ).loc Cert.DxMixIdeal.main_arg0)
      ∧ r.2.mem ((c.tc : Thread Cert.DxMixIdeal.nD Cert.DxMixIdeal.τ).loc Cert.DxMixIdeal.main_arg1) = m ((c.tc : Thread Cert.DxMixIdeal.nD Cert.DxMixIdeal.τ).loc Cert.DxMixIdeal.main_arg1)
      ∧ r.2.mem ((c.tc : Thread Cert.DxMixIdeal.nD Cert.DxMixIdeal.τ).loc Cert.DxMixIdeal.main_arg2) = m ((c.tc : Thread Cert.DxMixIdeal.nD Cert.DxMixIdeal.τ).loc Cert.DxMixIdeal.main_arg2)
      ∧ r.2.mem ((c.tc : Thread Cert.DxMixIdeal.nD Cert.DxMixIdeal.τ).loc Cert.DxMixIdeal.main_arg3) = m ((c.tc : Thread Cert.DxMixIdeal.nD Cert.DxMixIdeal.τ).loc Cert.DxMixIdeal.main_arg3)
      ∧ r.2.mem ((c.tc : Thread Cert.DxMixIdeal.nD Cert.DxMixIdeal.τ).loc Cert.DxMixIdeal.main_arg4) = m ((c.tc : Thread Cert.DxMixIdeal.nD Cert.DxMixIdeal.τ).loc Cert.DxMixIdeal.main_arg4)
      ∧ r.2.mem ((c.tc : Thread Cert.DxMixIdeal.nD Cert.DxMixIdeal.τ).loc Cert.DxMixIdeal.main_arg5) = m ((c.tc : Thread Cert.DxMixIdeal.nD Cert.DxMixIdeal.τ).loc Cert.DxMixIdeal.main_arg5)
      ∧ r.2.mem ((c.tc : Thread Cert.DxMixIdeal.nD Cert.DxMixIdeal.τ).loc Cert.DxMixIdeal.main_arg6) = m ((c.tc : Thread Cert.DxMixIdeal.nD Cert.DxMixIdeal.τ).loc Cert.DxMixIdeal.main_arg6)
      ∧ r.2.mem ((c.tc : Thread Cert.DxMixIdeal.nD Cert.DxMixIdeal.τ).loc Cert.DxMixIdeal.main_arg7) = m ((c.tc : Thread Cert.DxMixIdeal.nD Cert.DxMixIdeal.τ).loc Cert.DxMixIdeal.main_arg7))
      ∧ r.2.sem = fun _ => 0)

def quiescent_DxMixIdeal_pre_finite_mix [hDxMixIdeal : Cert.DxMixIdeal.Facts] [hPre_finite_mix : Cert.Pre_finite_mix.Facts] : Prop :=
  ∀ (m : (ℓ : Loc Cert.DxMixIdeal.nD Cert.DxMixIdeal.τ Cert.DxMixIdeal.sig) → Buf (Elt Ideal) ℓ) (g : Dev Cert.DxMixIdeal.nD → PrngReg), Pre_DxMixIdeal_finite_mix m →
    θ_run (Cert.DxMixIdeal.defs (F := Ideal)) (onTc (τ := Cert.DxMixIdeal.τ) (Cert.DxMixIdeal.main (F := Ideal))) ⟨m, fun _ => 0, g⟩ (fun r => (∀ c : Dev Cert.DxMixIdeal.nD,
      r.2.mem ((c.tc : Thread Cert.DxMixIdeal.nD Cert.DxMixIdeal.τ).loc Cert.DxMixIdeal.main_arg0) = m ((c.tc : Thread Cert.DxMixIdeal.nD Cert.DxMixIdeal.τ).loc Cert.DxMixIdeal.main_arg0)
      ∧ r.2.mem ((c.tc : Thread Cert.DxMixIdeal.nD Cert.DxMixIdeal.τ).loc Cert.DxMixIdeal.main_arg1) = m ((c.tc : Thread Cert.DxMixIdeal.nD Cert.DxMixIdeal.τ).loc Cert.DxMixIdeal.main_arg1)
      ∧ r.2.mem ((c.tc : Thread Cert.DxMixIdeal.nD Cert.DxMixIdeal.τ).loc Cert.DxMixIdeal.main_arg2) = m ((c.tc : Thread Cert.DxMixIdeal.nD Cert.DxMixIdeal.τ).loc Cert.DxMixIdeal.main_arg2)
      ∧ r.2.mem ((c.tc : Thread Cert.DxMixIdeal.nD Cert.DxMixIdeal.τ).loc Cert.DxMixIdeal.main_arg3) = m ((c.tc : Thread Cert.DxMixIdeal.nD Cert.DxMixIdeal.τ).loc Cert.DxMixIdeal.main_arg3)
      ∧ r.2.mem ((c.tc : Thread Cert.DxMixIdeal.nD Cert.DxMixIdeal.τ).loc Cert.DxMixIdeal.main_arg4) = m ((c.tc : Thread Cert.DxMixIdeal.nD Cert.DxMixIdeal.τ).loc Cert.DxMixIdeal.main_arg4)
      ∧ r.2.mem ((c.tc : Thread Cert.DxMixIdeal.nD Cert.DxMixIdeal.τ).loc Cert.DxMixIdeal.main_arg5) = m ((c.tc : Thread Cert.DxMixIdeal.nD Cert.DxMixIdeal.τ).loc Cert.DxMixIdeal.main_arg5)
      ∧ r.2.mem ((c.tc : Thread Cert.DxMixIdeal.nD Cert.DxMixIdeal.τ).loc Cert.DxMixIdeal.main_arg6) = m ((c.tc : Thread Cert.DxMixIdeal.nD Cert.DxMixIdeal.τ).loc Cert.DxMixIdeal.main_arg6)
      ∧ r.2.mem ((c.tc : Thread Cert.DxMixIdeal.nD Cert.DxMixIdeal.τ).loc Cert.DxMixIdeal.main_arg7) = m ((c.tc : Thread Cert.DxMixIdeal.nD Cert.DxMixIdeal.τ).loc Cert.DxMixIdeal.main_arg7))
      ∧ r.2.sem = fun _ => 0)

def quiescent_DxMixRefIdeal [hDxMixRefIdeal : Cert.DxMixRefIdeal.Facts] : Prop :=
  ∀ (m : (ℓ : Loc Cert.DxMixRefIdeal.nD Cert.DxMixRefIdeal.τ Cert.DxMixRefIdeal.sig) → Buf (Elt Ideal) ℓ) (g : Dev Cert.DxMixRefIdeal.nD → PrngReg), Pre_DxMixRefIdeal m →
    θ_run (Cert.DxMixRefIdeal.defs (F := Ideal)) (onTc (τ := Cert.DxMixRefIdeal.τ) (Cert.DxMixRefIdeal.main (F := Ideal))) ⟨m, fun _ => 0, g⟩ (fun r => (∀ c : Dev Cert.DxMixRefIdeal.nD,
      r.2.mem ((c.tc : Thread Cert.DxMixRefIdeal.nD Cert.DxMixRefIdeal.τ).loc Cert.DxMixRefIdeal.main_arg0) = m ((c.tc : Thread Cert.DxMixRefIdeal.nD Cert.DxMixRefIdeal.τ).loc Cert.DxMixRefIdeal.main_arg0)
      ∧ r.2.mem ((c.tc : Thread Cert.DxMixRefIdeal.nD Cert.DxMixRefIdeal.τ).loc Cert.DxMixRefIdeal.main_arg1) = m ((c.tc : Thread Cert.DxMixRefIdeal.nD Cert.DxMixRefIdeal.τ).loc Cert.DxMixRefIdeal.main_arg1)
      ∧ r.2.mem ((c.tc : Thread Cert.DxMixRefIdeal.nD Cert.DxMixRefIdeal.τ).loc Cert.DxMixRefIdeal.main_arg2) = m ((c.tc : Thread Cert.DxMixRefIdeal.nD Cert.DxMixRefIdeal.τ).loc Cert.DxMixRefIdeal.main_arg2)
      ∧ r.2.mem ((c.tc : Thread Cert.DxMixRefIdeal.nD Cert.DxMixRefIdeal.τ).loc Cert.DxMixRefIdeal.main_arg3) = m ((c.tc : Thread Cert.DxMixRefIdeal.nD Cert.DxMixRefIdeal.τ).loc Cert.DxMixRefIdeal.main_arg3)
      ∧ r.2.mem ((c.tc : Thread Cert.DxMixRefIdeal.nD Cert.DxMixRefIdeal.τ).loc Cert.DxMixRefIdeal.main_arg4) = m ((c.tc : Thread Cert.DxMixRefIdeal.nD Cert.DxMixRefIdeal.τ).loc Cert.DxMixRefIdeal.main_arg4)
      ∧ r.2.mem ((c.tc : Thread Cert.DxMixRefIdeal.nD Cert.DxMixRefIdeal.τ).loc Cert.DxMixRefIdeal.main_arg5) = m ((c.tc : Thread Cert.DxMixRefIdeal.nD Cert.DxMixRefIdeal.τ).loc Cert.DxMixRefIdeal.main_arg5)
      ∧ r.2.mem ((c.tc : Thread Cert.DxMixRefIdeal.nD Cert.DxMixRefIdeal.τ).loc Cert.DxMixRefIdeal.main_arg6) = m ((c.tc : Thread Cert.DxMixRefIdeal.nD Cert.DxMixRefIdeal.τ).loc Cert.DxMixRefIdeal.main_arg6)
      ∧ r.2.mem ((c.tc : Thread Cert.DxMixRefIdeal.nD Cert.DxMixRefIdeal.τ).loc Cert.DxMixRefIdeal.main_arg7) = m ((c.tc : Thread Cert.DxMixRefIdeal.nD Cert.DxMixRefIdeal.τ).loc Cert.DxMixRefIdeal.main_arg7))
      ∧ r.2.sem = fun _ => 0)

def quiescent_DxMixRefIdeal_pre_finite_mix [hDxMixRefIdeal : Cert.DxMixRefIdeal.Facts] [hPre_finite_mix : Cert.Pre_finite_mix.Facts] : Prop :=
  ∀ (m : (ℓ : Loc Cert.DxMixRefIdeal.nD Cert.DxMixRefIdeal.τ Cert.DxMixRefIdeal.sig) → Buf (Elt Ideal) ℓ) (g : Dev Cert.DxMixRefIdeal.nD → PrngReg), Pre_DxMixRefIdeal_finite_mix m →
    θ_run (Cert.DxMixRefIdeal.defs (F := Ideal)) (onTc (τ := Cert.DxMixRefIdeal.τ) (Cert.DxMixRefIdeal.main (F := Ideal))) ⟨m, fun _ => 0, g⟩ (fun r => (∀ c : Dev Cert.DxMixRefIdeal.nD,
      r.2.mem ((c.tc : Thread Cert.DxMixRefIdeal.nD Cert.DxMixRefIdeal.τ).loc Cert.DxMixRefIdeal.main_arg0) = m ((c.tc : Thread Cert.DxMixRefIdeal.nD Cert.DxMixRefIdeal.τ).loc Cert.DxMixRefIdeal.main_arg0)
      ∧ r.2.mem ((c.tc : Thread Cert.DxMixRefIdeal.nD Cert.DxMixRefIdeal.τ).loc Cert.DxMixRefIdeal.main_arg1) = m ((c.tc : Thread Cert.DxMixRefIdeal.nD Cert.DxMixRefIdeal.τ).loc Cert.DxMixRefIdeal.main_arg1)
      ∧ r.2.mem ((c.tc : Thread Cert.DxMixRefIdeal.nD Cert.DxMixRefIdeal.τ).loc Cert.DxMixRefIdeal.main_arg2) = m ((c.tc : Thread Cert.DxMixRefIdeal.nD Cert.DxMixRefIdeal.τ).loc Cert.DxMixRefIdeal.main_arg2)
      ∧ r.2.mem ((c.tc : Thread Cert.DxMixRefIdeal.nD Cert.DxMixRefIdeal.τ).loc Cert.DxMixRefIdeal.main_arg3) = m ((c.tc : Thread Cert.DxMixRefIdeal.nD Cert.DxMixRefIdeal.τ).loc Cert.DxMixRefIdeal.main_arg3)
      ∧ r.2.mem ((c.tc : Thread Cert.DxMixRefIdeal.nD Cert.DxMixRefIdeal.τ).loc Cert.DxMixRefIdeal.main_arg4) = m ((c.tc : Thread Cert.DxMixRefIdeal.nD Cert.DxMixRefIdeal.τ).loc Cert.DxMixRefIdeal.main_arg4)
      ∧ r.2.mem ((c.tc : Thread Cert.DxMixRefIdeal.nD Cert.DxMixRefIdeal.τ).loc Cert.DxMixRefIdeal.main_arg5) = m ((c.tc : Thread Cert.DxMixRefIdeal.nD Cert.DxMixRefIdeal.τ).loc Cert.DxMixRefIdeal.main_arg5)
      ∧ r.2.mem ((c.tc : Thread Cert.DxMixRefIdeal.nD Cert.DxMixRefIdeal.τ).loc Cert.DxMixRefIdeal.main_arg6) = m ((c.tc : Thread Cert.DxMixRefIdeal.nD Cert.DxMixRefIdeal.τ).loc Cert.DxMixRefIdeal.main_arg6)
      ∧ r.2.mem ((c.tc : Thread Cert.DxMixRefIdeal.nD Cert.DxMixRefIdeal.τ).loc Cert.DxMixRefIdeal.main_arg7) = m ((c.tc : Thread Cert.DxMixRefIdeal.nD Cert.DxMixRefIdeal.τ).loc Cert.DxMixRefIdeal.main_arg7))
      ∧ r.2.sem = fun _ => 0)

def quiescent_DxFfn [hDxFfn : Cert.DxFfn.Facts] : Prop :=
  ∀ (m : (ℓ : Loc Cert.DxFfn.nD Cert.DxFfn.τ Cert.DxFfn.sig) → Buf (Elt Bits) ℓ) (g : Dev Cert.DxFfn.nD → PrngReg), Pre_DxFfn m →
    θ_run (Cert.DxFfn.defs (F := Bits)) (onTc (τ := Cert.DxFfn.τ) (Cert.DxFfn.main (F := Bits))) ⟨m, fun _ => 0, g⟩ (fun r => (∀ c : Dev Cert.DxFfn.nD,
      r.2.mem ((c.tc : Thread Cert.DxFfn.nD Cert.DxFfn.τ).loc Cert.DxFfn.main_arg0) = m ((c.tc : Thread Cert.DxFfn.nD Cert.DxFfn.τ).loc Cert.DxFfn.main_arg0)
      ∧ r.2.mem ((c.tc : Thread Cert.DxFfn.nD Cert.DxFfn.τ).loc Cert.DxFfn.main_arg1) = m ((c.tc : Thread Cert.DxFfn.nD Cert.DxFfn.τ).loc Cert.DxFfn.main_arg1)
      ∧ r.2.mem ((c.tc : Thread Cert.DxFfn.nD Cert.DxFfn.τ).loc Cert.DxFfn.main_arg2) = m ((c.tc : Thread Cert.DxFfn.nD Cert.DxFfn.τ).loc Cert.DxFfn.main_arg2)
      ∧ r.2.mem ((c.tc : Thread Cert.DxFfn.nD Cert.DxFfn.τ).loc Cert.DxFfn.main_arg3) = m ((c.tc : Thread Cert.DxFfn.nD Cert.DxFfn.τ).loc Cert.DxFfn.main_arg3)
      ∧ r.2.mem ((c.tc : Thread Cert.DxFfn.nD Cert.DxFfn.τ).loc Cert.DxFfn.main_arg4) = m ((c.tc : Thread Cert.DxFfn.nD Cert.DxFfn.τ).loc Cert.DxFfn.main_arg4)
      ∧ r.2.mem ((c.tc : Thread Cert.DxFfn.nD Cert.DxFfn.τ).loc Cert.DxFfn.main_arg5) = m ((c.tc : Thread Cert.DxFfn.nD Cert.DxFfn.τ).loc Cert.DxFfn.main_arg5)
      ∧ r.2.mem ((c.tc : Thread Cert.DxFfn.nD Cert.DxFfn.τ).loc Cert.DxFfn.main_arg6) = m ((c.tc : Thread Cert.DxFfn.nD Cert.DxFfn.τ).loc Cert.DxFfn.main_arg6)
      ∧ r.2.mem ((c.tc : Thread Cert.DxFfn.nD Cert.DxFfn.τ).loc Cert.DxFfn.main_arg7) = m ((c.tc : Thread Cert.DxFfn.nD Cert.DxFfn.τ).loc Cert.DxFfn.main_arg7))
      ∧ r.2.sem = fun _ => 0)

def quiescent_DxFfnIdeal [hDxFfnIdeal : Cert.DxFfnIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg), Pre_DxFfnIdeal m →
    θ_run (Cert.DxFfnIdeal.defs (F := Ideal)) (onTc (τ := Cert.DxFfnIdeal.τ) (Cert.DxFfnIdeal.main (F := Ideal))) ⟨m, fun _ => 0, g⟩ (fun r => (∀ c : Dev Cert.DxFfnIdeal.nD,
      r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
      ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
      ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
      ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3)
      ∧ r.2.mem ((c.tc : Thread Cert.DxFfnIdeal.nD Cert.DxFfnIdeal.τ).loc Cert.DxFfnIdeal.main_arg4) = m ((c.tc : Thread Cert.DxFfnIdeal.nD Cert.DxFfnIdeal.τ).loc Cert.DxFfnIdeal.main_arg4)
      ∧ r.2.mem ((c.tc : Thread Cert.DxFfnIdeal.nD Cert.DxFfnIdeal.τ).loc Cert.DxFfnIdeal.main_arg5) = m ((c.tc : Thread Cert.DxFfnIdeal.nD Cert.DxFfnIdeal.τ).loc Cert.DxFfnIdeal.main_arg5)
      ∧ r.2.mem ((c.tc : Thread Cert.DxFfnIdeal.nD Cert.DxFfnIdeal.τ).loc Cert.DxFfnIdeal.main_arg6) = m ((c.tc : Thread Cert.DxFfnIdeal.nD Cert.DxFfnIdeal.τ).loc Cert.DxFfnIdeal.main_arg6)
      ∧ r.2.mem ((c.tc : Thread Cert.DxFfnIdeal.nD Cert.DxFfnIdeal.τ).loc Cert.DxFfnIdeal.main_arg7) = m ((c.tc : Thread Cert.DxFfnIdeal.nD Cert.DxFfnIdeal.τ).loc Cert.DxFfnIdeal.main_arg7))
      ∧ r.2.sem = fun _ => 0)

def quiescent_DxFfnIdeal_pre_finite_ffn [hDxFfnIdeal : Cert.DxFfnIdeal.Facts] [hPre_finite_ffn : Cert.Pre_finite_ffn.Facts] : Prop :=
  ∀ (m : (ℓ : Loc Cert.DxFfnIdeal.nD Cert.DxFfnIdeal.τ Cert.DxFfnIdeal.sig) → Buf (Elt Ideal) ℓ) (g : Dev Cert.DxFfnIdeal.nD → PrngReg), Pre_DxFfnIdeal_finite_ffn m →
    θ_run (Cert.DxFfnIdeal.defs (F := Ideal)) (onTc (τ := Cert.DxFfnIdeal.τ) (Cert.DxFfnIdeal.main (F := Ideal))) ⟨m, fun _ => 0, g⟩ (fun r => (∀ c : Dev Cert.DxFfnIdeal.nD,
      r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
      ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
      ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
      ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3)
      ∧ r.2.mem ((c.tc : Thread Cert.DxFfnIdeal.nD Cert.DxFfnIdeal.τ).loc Cert.DxFfnIdeal.main_arg4) = m ((c.tc : Thread Cert.DxFfnIdeal.nD Cert.DxFfnIdeal.τ).loc Cert.DxFfnIdeal.main_arg4)
      ∧ r.2.mem ((c.tc : Thread Cert.DxFfnIdeal.nD Cert.DxFfnIdeal.τ).loc Cert.DxFfnIdeal.main_arg5) = m ((c.tc : Thread Cert.DxFfnIdeal.nD Cert.DxFfnIdeal.τ).loc Cert.DxFfnIdeal.main_arg5)
      ∧ r.2.mem ((c.tc : Thread Cert.DxFfnIdeal.nD Cert.DxFfnIdeal.τ).loc Cert.DxFfnIdeal.main_arg6) = m ((c.tc : Thread Cert.DxFfnIdeal.nD Cert.DxFfnIdeal.τ).loc Cert.DxFfnIdeal.main_arg6)
      ∧ r.2.mem ((c.tc : Thread Cert.DxFfnIdeal.nD Cert.DxFfnIdeal.τ).loc Cert.DxFfnIdeal.main_arg7) = m ((c.tc : Thread Cert.DxFfnIdeal.nD Cert.DxFfnIdeal.τ).loc Cert.DxFfnIdeal.main_arg7))
      ∧ r.2.sem = fun _ => 0)

def quiescent_DxFfnRefIdeal [hDxFfnRefIdeal : Cert.DxFfnRefIdeal.Facts] : Prop :=
  ∀ (m : (ℓ : Loc Cert.DxFfnRefIdeal.nD Cert.DxFfnRefIdeal.τ Cert.DxFfnRefIdeal.sig) → Buf (Elt Ideal) ℓ) (g : Dev Cert.DxFfnRefIdeal.nD → PrngReg), Pre_DxFfnRefIdeal m →
    θ_run (Cert.DxFfnRefIdeal.defs (F := Ideal)) (onTc (τ := Cert.DxFfnRefIdeal.τ) (Cert.DxFfnRefIdeal.main (F := Ideal))) ⟨m, fun _ => 0, g⟩ (fun r => (∀ c : Dev Cert.DxFfnRefIdeal.nD,
      r.2.mem ((c.tc : Thread Cert.DxFfnRefIdeal.nD Cert.DxFfnRefIdeal.τ).loc Cert.DxFfnRefIdeal.main_arg0) = m ((c.tc : Thread Cert.DxFfnRefIdeal.nD Cert.DxFfnRefIdeal.τ).loc Cert.DxFfnRefIdeal.main_arg0)
      ∧ r.2.mem ((c.tc : Thread Cert.DxFfnRefIdeal.nD Cert.DxFfnRefIdeal.τ).loc Cert.DxFfnRefIdeal.main_arg1) = m ((c.tc : Thread Cert.DxFfnRefIdeal.nD Cert.DxFfnRefIdeal.τ).loc Cert.DxFfnRefIdeal.main_arg1)
      ∧ r.2.mem ((c.tc : Thread Cert.DxFfnRefIdeal.nD Cert.DxFfnRefIdeal.τ).loc Cert.DxFfnRefIdeal.main_arg2) = m ((c.tc : Thread Cert.DxFfnRefIdeal.nD Cert.DxFfnRefIdeal.τ).loc Cert.DxFfnRefIdeal.main_arg2)
      ∧ r.2.mem ((c.tc : Thread Cert.DxFfnRefIdeal.nD Cert.DxFfnRefIdeal.τ).loc Cert.DxFfnRefIdeal.main_arg3) = m ((c.tc : Thread Cert.DxFfnRefIdeal.nD Cert.DxFfnRefIdeal.τ).loc Cert.DxFfnRefIdeal.main_arg3)
      ∧ r.2.mem ((c.tc : Thread Cert.DxFfnRefIdeal.nD Cert.DxFfnRefIdeal.τ).loc Cert.DxFfnRefIdeal.main_arg4) = m ((c.tc : Thread Cert.DxFfnRefIdeal.nD Cert.DxFfnRefIdeal.τ).loc Cert.DxFfnRefIdeal.main_arg4)
      ∧ r.2.mem ((c.tc : Thread Cert.DxFfnRefIdeal.nD Cert.DxFfnRefIdeal.τ).loc Cert.DxFfnRefIdeal.main_arg5) = m ((c.tc : Thread Cert.DxFfnRefIdeal.nD Cert.DxFfnRefIdeal.τ).loc Cert.DxFfnRefIdeal.main_arg5)
      ∧ r.2.mem ((c.tc : Thread Cert.DxFfnRefIdeal.nD Cert.DxFfnRefIdeal.τ).loc Cert.DxFfnRefIdeal.main_arg6) = m ((c.tc : Thread Cert.DxFfnRefIdeal.nD Cert.DxFfnRefIdeal.τ).loc Cert.DxFfnRefIdeal.main_arg6)
      ∧ r.2.mem ((c.tc : Thread Cert.DxFfnRefIdeal.nD Cert.DxFfnRefIdeal.τ).loc Cert.DxFfnRefIdeal.main_arg7) = m ((c.tc : Thread Cert.DxFfnRefIdeal.nD Cert.DxFfnRefIdeal.τ).loc Cert.DxFfnRefIdeal.main_arg7))
      ∧ r.2.sem = fun _ => 0)

def quiescent_DxFfnRefIdeal_pre_finite_ffn [hDxFfnRefIdeal : Cert.DxFfnRefIdeal.Facts] [hPre_finite_ffn : Cert.Pre_finite_ffn.Facts] : Prop :=
  ∀ (m : (ℓ : Loc Cert.DxFfnRefIdeal.nD Cert.DxFfnRefIdeal.τ Cert.DxFfnRefIdeal.sig) → Buf (Elt Ideal) ℓ) (g : Dev Cert.DxFfnRefIdeal.nD → PrngReg), Pre_DxFfnRefIdeal_finite_ffn m →
    θ_run (Cert.DxFfnRefIdeal.defs (F := Ideal)) (onTc (τ := Cert.DxFfnRefIdeal.τ) (Cert.DxFfnRefIdeal.main (F := Ideal))) ⟨m, fun _ => 0, g⟩ (fun r => (∀ c : Dev Cert.DxFfnRefIdeal.nD,
      r.2.mem ((c.tc : Thread Cert.DxFfnRefIdeal.nD Cert.DxFfnRefIdeal.τ).loc Cert.DxFfnRefIdeal.main_arg0) = m ((c.tc : Thread Cert.DxFfnRefIdeal.nD Cert.DxFfnRefIdeal.τ).loc Cert.DxFfnRefIdeal.main_arg0)
      ∧ r.2.mem ((c.tc : Thread Cert.DxFfnRefIdeal.nD Cert.DxFfnRefIdeal.τ).loc Cert.DxFfnRefIdeal.main_arg1) = m ((c.tc : Thread Cert.DxFfnRefIdeal.nD Cert.DxFfnRefIdeal.τ).loc Cert.DxFfnRefIdeal.main_arg1)
      ∧ r.2.mem ((c.tc : Thread Cert.DxFfnRefIdeal.nD Cert.DxFfnRefIdeal.τ).loc Cert.DxFfnRefIdeal.main_arg2) = m ((c.tc : Thread Cert.DxFfnRefIdeal.nD Cert.DxFfnRefIdeal.τ).loc Cert.DxFfnRefIdeal.main_arg2)
      ∧ r.2.mem ((c.tc : Thread Cert.DxFfnRefIdeal.nD Cert.DxFfnRefIdeal.τ).loc Cert.DxFfnRefIdeal.main_arg3) = m ((c.tc : Thread Cert.DxFfnRefIdeal.nD Cert.DxFfnRefIdeal.τ).loc Cert.DxFfnRefIdeal.main_arg3)
      ∧ r.2.mem ((c.tc : Thread Cert.DxFfnRefIdeal.nD Cert.DxFfnRefIdeal.τ).loc Cert.DxFfnRefIdeal.main_arg4) = m ((c.tc : Thread Cert.DxFfnRefIdeal.nD Cert.DxFfnRefIdeal.τ).loc Cert.DxFfnRefIdeal.main_arg4)
      ∧ r.2.mem ((c.tc : Thread Cert.DxFfnRefIdeal.nD Cert.DxFfnRefIdeal.τ).loc Cert.DxFfnRefIdeal.main_arg5) = m ((c.tc : Thread Cert.DxFfnRefIdeal.nD Cert.DxFfnRefIdeal.τ).loc Cert.DxFfnRefIdeal.main_arg5)
      ∧ r.2.mem ((c.tc : Thread Cert.DxFfnRefIdeal.nD Cert.DxFfnRefIdeal.τ).loc Cert.DxFfnRefIdeal.main_arg6) = m ((c.tc : Thread Cert.DxFfnRefIdeal.nD Cert.DxFfnRefIdeal.τ).loc Cert.DxFfnRefIdeal.main_arg6)
      ∧ r.2.mem ((c.tc : Thread Cert.DxFfnRefIdeal.nD Cert.DxFfnRefIdeal.τ).loc Cert.DxFfnRefIdeal.main_arg7) = m ((c.tc : Thread Cert.DxFfnRefIdeal.nD Cert.DxFfnRefIdeal.τ).loc Cert.DxFfnRefIdeal.main_arg7))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidIdeal_pre_finite_mid [hFfnMidIdeal : Cert.FfnMidIdeal.Facts] [hPre_finite_mid : Cert.Pre_finite_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_mid m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_FfnMidRefIdeal_pre_finite_mid [hFfnMidRefIdeal : Cert.FfnMidRefIdeal.Facts] [hPre_finite_mid : Cert.Pre_finite_mid.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_mid m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_DxFirst [hDxFirst : Cert.DxFirst.Facts] : Prop :=
  ∀ (m : (ℓ : Loc Cert.DxFirst.nD Cert.DxFirst.τ Cert.DxFirst.sig) → Buf (Elt Bits) ℓ) (g : Dev Cert.DxFirst.nD → PrngReg), Pre_DxFirst m →
    θ_run (Cert.DxFirst.defs (F := Bits)) (onTc (τ := Cert.DxFirst.τ) (Cert.DxFirst.main (F := Bits))) ⟨m, fun _ => 0, g⟩ (fun r => (∀ c : Dev Cert.DxFirst.nD,
      r.2.mem ((c.tc : Thread Cert.DxFirst.nD Cert.DxFirst.τ).loc Cert.DxFirst.main_arg0) = m ((c.tc : Thread Cert.DxFirst.nD Cert.DxFirst.τ).loc Cert.DxFirst.main_arg0)
      ∧ r.2.mem ((c.tc : Thread Cert.DxFirst.nD Cert.DxFirst.τ).loc Cert.DxFirst.main_arg1) = m ((c.tc : Thread Cert.DxFirst.nD Cert.DxFirst.τ).loc Cert.DxFirst.main_arg1)
      ∧ r.2.mem ((c.tc : Thread Cert.DxFirst.nD Cert.DxFirst.τ).loc Cert.DxFirst.main_arg2) = m ((c.tc : Thread Cert.DxFirst.nD Cert.DxFirst.τ).loc Cert.DxFirst.main_arg2)
      ∧ r.2.mem ((c.tc : Thread Cert.DxFirst.nD Cert.DxFirst.τ).loc Cert.DxFirst.main_arg3) = m ((c.tc : Thread Cert.DxFirst.nD Cert.DxFirst.τ).loc Cert.DxFirst.main_arg3)
      ∧ r.2.mem ((c.tc : Thread Cert.DxFirst.nD Cert.DxFirst.τ).loc Cert.DxFirst.main_arg4) = m ((c.tc : Thread Cert.DxFirst.nD Cert.DxFirst.τ).loc Cert.DxFirst.main_arg4))
      ∧ r.2.sem = fun _ => 0)

def quiescent_DxFirstIdeal [hDxFirstIdeal : Cert.DxFirstIdeal.Facts] : Prop :=
  ∀ (m : (ℓ : Loc Cert.DxFirstIdeal.nD Cert.DxFirstIdeal.τ Cert.DxFirstIdeal.sig) → Buf (Elt Ideal) ℓ) (g : Dev Cert.DxFirstIdeal.nD → PrngReg), Pre_DxFirstIdeal m →
    θ_run (Cert.DxFirstIdeal.defs (F := Ideal)) (onTc (τ := Cert.DxFirstIdeal.τ) (Cert.DxFirstIdeal.main (F := Ideal))) ⟨m, fun _ => 0, g⟩ (fun r => (∀ c : Dev Cert.DxFirstIdeal.nD,
      r.2.mem ((c.tc : Thread Cert.DxFirstIdeal.nD Cert.DxFirstIdeal.τ).loc Cert.DxFirstIdeal.main_arg0) = m ((c.tc : Thread Cert.DxFirstIdeal.nD Cert.DxFirstIdeal.τ).loc Cert.DxFirstIdeal.main_arg0)
      ∧ r.2.mem ((c.tc : Thread Cert.DxFirstIdeal.nD Cert.DxFirstIdeal.τ).loc Cert.DxFirstIdeal.main_arg1) = m ((c.tc : Thread Cert.DxFirstIdeal.nD Cert.DxFirstIdeal.τ).loc Cert.DxFirstIdeal.main_arg1)
      ∧ r.2.mem ((c.tc : Thread Cert.DxFirstIdeal.nD Cert.DxFirstIdeal.τ).loc Cert.DxFirstIdeal.main_arg2) = m ((c.tc : Thread Cert.DxFirstIdeal.nD Cert.DxFirstIdeal.τ).loc Cert.DxFirstIdeal.main_arg2)
      ∧ r.2.mem ((c.tc : Thread Cert.DxFirstIdeal.nD Cert.DxFirstIdeal.τ).loc Cert.DxFirstIdeal.main_arg3) = m ((c.tc : Thread Cert.DxFirstIdeal.nD Cert.DxFirstIdeal.τ).loc Cert.DxFirstIdeal.main_arg3)
      ∧ r.2.mem ((c.tc : Thread Cert.DxFirstIdeal.nD Cert.DxFirstIdeal.τ).loc Cert.DxFirstIdeal.main_arg4) = m ((c.tc : Thread Cert.DxFirstIdeal.nD Cert.DxFirstIdeal.τ).loc Cert.DxFirstIdeal.main_arg4))
      ∧ r.2.sem = fun _ => 0)

def quiescent_DxFirstRefIdeal [hDxFirstRefIdeal : Cert.DxFirstRefIdeal.Facts] : Prop :=
  ∀ (m : (ℓ : Loc Cert.DxFirstRefIdeal.nD Cert.DxFirstRefIdeal.τ Cert.DxFirstRefIdeal.sig) → Buf (Elt Ideal) ℓ) (g : Dev Cert.DxFirstRefIdeal.nD → PrngReg), Pre_DxFirstRefIdeal m →
    θ_run (Cert.DxFirstRefIdeal.defs (F := Ideal)) (onTc (τ := Cert.DxFirstRefIdeal.τ) (Cert.DxFirstRefIdeal.main (F := Ideal))) ⟨m, fun _ => 0, g⟩ (fun r => (∀ c : Dev Cert.DxFirstRefIdeal.nD,
      r.2.mem ((c.tc : Thread Cert.DxFirstRefIdeal.nD Cert.DxFirstRefIdeal.τ).loc Cert.DxFirstRefIdeal.main_arg0) = m ((c.tc : Thread Cert.DxFirstRefIdeal.nD Cert.DxFirstRefIdeal.τ).loc Cert.DxFirstRefIdeal.main_arg0)
      ∧ r.2.mem ((c.tc : Thread Cert.DxFirstRefIdeal.nD Cert.DxFirstRefIdeal.τ).loc Cert.DxFirstRefIdeal.main_arg1) = m ((c.tc : Thread Cert.DxFirstRefIdeal.nD Cert.DxFirstRefIdeal.τ).loc Cert.DxFirstRefIdeal.main_arg1)
      ∧ r.2.mem ((c.tc : Thread Cert.DxFirstRefIdeal.nD Cert.DxFirstRefIdeal.τ).loc Cert.DxFirstRefIdeal.main_arg2) = m ((c.tc : Thread Cert.DxFirstRefIdeal.nD Cert.DxFirstRefIdeal.τ).loc Cert.DxFirstRefIdeal.main_arg2)
      ∧ r.2.mem ((c.tc : Thread Cert.DxFirstRefIdeal.nD Cert.DxFirstRefIdeal.τ).loc Cert.DxFirstRefIdeal.main_arg3) = m ((c.tc : Thread Cert.DxFirstRefIdeal.nD Cert.DxFirstRefIdeal.τ).loc Cert.DxFirstRefIdeal.main_arg3)
      ∧ r.2.mem ((c.tc : Thread Cert.DxFirstRefIdeal.nD Cert.DxFirstRefIdeal.τ).loc Cert.DxFirstRefIdeal.main_arg4) = m ((c.tc : Thread Cert.DxFirstRefIdeal.nD Cert.DxFirstRefIdeal.τ).loc Cert.DxFirstRefIdeal.main_arg4))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnAIdeal_pre_finite_attn_a [hAttnAIdeal : Cert.AttnAIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_attn_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnARefIdeal_pre_finite_attn_a [hAttnARefIdeal : Cert.AttnARefIdeal.Facts] [hPre_finite_attn_a : Cert.Pre_finite_attn_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_attn_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnBFwd [hAttnBFwd : Cert.AttnBFwd.Facts] : Prop :=
  ∀ (m : (ℓ : Loc Cert.AttnBFwd.nD Cert.AttnBFwd.τ Cert.AttnBFwd.sig) → Buf (Elt Bits) ℓ) (g : Dev Cert.AttnBFwd.nD → PrngReg), Pre_AttnBFwd m →
    θ_run (Cert.AttnBFwd.defs (F := Bits)) (onTc (τ := Cert.AttnBFwd.τ) (Cert.AttnBFwd.main (F := Bits))) ⟨m, fun _ => 0, g⟩ (fun r => (∀ c : Dev Cert.AttnBFwd.nD,
      r.2.mem ((c.tc : Thread Cert.AttnBFwd.nD Cert.AttnBFwd.τ).loc Cert.AttnBFwd.main_arg0) = m ((c.tc : Thread Cert.AttnBFwd.nD Cert.AttnBFwd.τ).loc Cert.AttnBFwd.main_arg0))
      ∧ r.2.sem = fun _ => 0)

def quiescent_AttnBFwdIdeal [hAttnBFwdIdeal : Cert.AttnBFwdIdeal.Facts] : Prop :=
  ∀ (m : (ℓ : Loc Cert.AttnBFwdIdeal.nD Cert.AttnBFwdIdeal.τ Cert.AttnBFwdIdeal.sig) → Buf (Elt Ideal) ℓ) (g : Dev Cert.AttnBFwdIdeal.nD → PrngReg), Pre_AttnBFwdIdeal m →
    θ_run (Cert.AttnBFwdIdeal.defs (F := Ideal)) (onTc (τ := Cert.AttnBFwdIdeal.τ) (Cert.AttnBFwdIdeal.main (F := Ideal))) ⟨m, fun _ => 0, g⟩ (fun r => (∀ c : Dev Cert.AttnBFwdIdeal.nD,
      r.2.mem ((c.tc : Thread Cert.AttnBFwdIdeal.nD Cert.AttnBFwdIdeal.τ).loc Cert.AttnBFwdIdeal.main_arg0) = m ((c.tc : Thread Cert.AttnBFwdIdeal.nD Cert.AttnBFwdIdeal.τ).loc Cert.AttnBFwdIdeal.main_arg0))
      ∧ r.2.sem = fun _ => 0)

def quiescent_AttnBFwdIdeal_pre_finite_attn_b_fwd [hAttnBFwdIdeal : Cert.AttnBFwdIdeal.Facts] [hPre_finite_attn_b_fwd : Cert.Pre_finite_attn_b_fwd.Facts] : Prop :=
  ∀ (m : (ℓ : Loc Cert.AttnBFwdIdeal.nD Cert.AttnBFwdIdeal.τ Cert.AttnBFwdIdeal.sig) → Buf (Elt Ideal) ℓ) (g : Dev Cert.AttnBFwdIdeal.nD → PrngReg), Pre_AttnBFwdIdeal_finite_attn_b_fwd m →
    θ_run (Cert.AttnBFwdIdeal.defs (F := Ideal)) (onTc (τ := Cert.AttnBFwdIdeal.τ) (Cert.AttnBFwdIdeal.main (F := Ideal))) ⟨m, fun _ => 0, g⟩ (fun r => (∀ c : Dev Cert.AttnBFwdIdeal.nD,
      r.2.mem ((c.tc : Thread Cert.AttnBFwdIdeal.nD Cert.AttnBFwdIdeal.τ).loc Cert.AttnBFwdIdeal.main_arg0) = m ((c.tc : Thread Cert.AttnBFwdIdeal.nD Cert.AttnBFwdIdeal.τ).loc Cert.AttnBFwdIdeal.main_arg0))
      ∧ r.2.sem = fun _ => 0)

def quiescent_AttnBFwdRefIdeal [hAttnBFwdRefIdeal : Cert.AttnBFwdRefIdeal.Facts] : Prop :=
  ∀ (m : (ℓ : Loc Cert.AttnBFwdRefIdeal.nD Cert.AttnBFwdRefIdeal.τ Cert.AttnBFwdRefIdeal.sig) → Buf (Elt Ideal) ℓ) (g : Dev Cert.AttnBFwdRefIdeal.nD → PrngReg), Pre_AttnBFwdRefIdeal m →
    θ_run (Cert.AttnBFwdRefIdeal.defs (F := Ideal)) (onTc (τ := Cert.AttnBFwdRefIdeal.τ) (Cert.AttnBFwdRefIdeal.main (F := Ideal))) ⟨m, fun _ => 0, g⟩ (fun r => (∀ c : Dev Cert.AttnBFwdRefIdeal.nD,
      r.2.mem ((c.tc : Thread Cert.AttnBFwdRefIdeal.nD Cert.AttnBFwdRefIdeal.τ).loc Cert.AttnBFwdRefIdeal.main_arg0) = m ((c.tc : Thread Cert.AttnBFwdRefIdeal.nD Cert.AttnBFwdRefIdeal.τ).loc Cert.AttnBFwdRefIdeal.main_arg0))
      ∧ r.2.sem = fun _ => 0)

def quiescent_AttnBFwdRefIdeal_pre_finite_attn_b_fwd [hAttnBFwdRefIdeal : Cert.AttnBFwdRefIdeal.Facts] [hPre_finite_attn_b_fwd : Cert.Pre_finite_attn_b_fwd.Facts] : Prop :=
  ∀ (m : (ℓ : Loc Cert.AttnBFwdRefIdeal.nD Cert.AttnBFwdRefIdeal.τ Cert.AttnBFwdRefIdeal.sig) → Buf (Elt Ideal) ℓ) (g : Dev Cert.AttnBFwdRefIdeal.nD → PrngReg), Pre_AttnBFwdRefIdeal_finite_attn_b_fwd m →
    θ_run (Cert.AttnBFwdRefIdeal.defs (F := Ideal)) (onTc (τ := Cert.AttnBFwdRefIdeal.τ) (Cert.AttnBFwdRefIdeal.main (F := Ideal))) ⟨m, fun _ => 0, g⟩ (fun r => (∀ c : Dev Cert.AttnBFwdRefIdeal.nD,
      r.2.mem ((c.tc : Thread Cert.AttnBFwdRefIdeal.nD Cert.AttnBFwdRefIdeal.τ).loc Cert.AttnBFwdRefIdeal.main_arg0) = m ((c.tc : Thread Cert.AttnBFwdRefIdeal.nD Cert.AttnBFwdRefIdeal.τ).loc Cert.AttnBFwdRefIdeal.main_arg0))
      ∧ r.2.sem = fun _ => 0)

def quiescent_AttnAFwd [hAttnAFwd : Cert.AttnAFwd.Facts] : Prop :=
  ∀ (m : (ℓ : Loc Cert.AttnAFwd.nD Cert.AttnAFwd.τ Cert.AttnAFwd.sig) → Buf (Elt Bits) ℓ) (g : Dev Cert.AttnAFwd.nD → PrngReg), Pre_AttnAFwd m →
    θ_run (Cert.AttnAFwd.defs (F := Bits)) (onTc (τ := Cert.AttnAFwd.τ) (Cert.AttnAFwd.main (F := Bits))) ⟨m, fun _ => 0, g⟩ (fun r => (∀ c : Dev Cert.AttnAFwd.nD,
      r.2.mem ((c.tc : Thread Cert.AttnAFwd.nD Cert.AttnAFwd.τ).loc Cert.AttnAFwd.main_arg0) = m ((c.tc : Thread Cert.AttnAFwd.nD Cert.AttnAFwd.τ).loc Cert.AttnAFwd.main_arg0)
      ∧ r.2.mem ((c.tc : Thread Cert.AttnAFwd.nD Cert.AttnAFwd.τ).loc Cert.AttnAFwd.main_arg1) = m ((c.tc : Thread Cert.AttnAFwd.nD Cert.AttnAFwd.τ).loc Cert.AttnAFwd.main_arg1))
      ∧ r.2.sem = fun _ => 0)

def quiescent_AttnAFwdIdeal [hAttnAFwdIdeal : Cert.AttnAFwdIdeal.Facts] : Prop :=
  ∀ (m : (ℓ : Loc Cert.AttnAFwdIdeal.nD Cert.AttnAFwdIdeal.τ Cert.AttnAFwdIdeal.sig) → Buf (Elt Ideal) ℓ) (g : Dev Cert.AttnAFwdIdeal.nD → PrngReg), Pre_AttnAFwdIdeal m →
    θ_run (Cert.AttnAFwdIdeal.defs (F := Ideal)) (onTc (τ := Cert.AttnAFwdIdeal.τ) (Cert.AttnAFwdIdeal.main (F := Ideal))) ⟨m, fun _ => 0, g⟩ (fun r => (∀ c : Dev Cert.AttnAFwdIdeal.nD,
      r.2.mem ((c.tc : Thread Cert.AttnAFwdIdeal.nD Cert.AttnAFwdIdeal.τ).loc Cert.AttnAFwdIdeal.main_arg0) = m ((c.tc : Thread Cert.AttnAFwdIdeal.nD Cert.AttnAFwdIdeal.τ).loc Cert.AttnAFwdIdeal.main_arg0)
      ∧ r.2.mem ((c.tc : Thread Cert.AttnAFwdIdeal.nD Cert.AttnAFwdIdeal.τ).loc Cert.AttnAFwdIdeal.main_arg1) = m ((c.tc : Thread Cert.AttnAFwdIdeal.nD Cert.AttnAFwdIdeal.τ).loc Cert.AttnAFwdIdeal.main_arg1))
      ∧ r.2.sem = fun _ => 0)

def quiescent_AttnAFwdIdeal_pre_finite_attn_a_fwd [hAttnAFwdIdeal : Cert.AttnAFwdIdeal.Facts] [hPre_finite_attn_a_fwd : Cert.Pre_finite_attn_a_fwd.Facts] : Prop :=
  ∀ (m : (ℓ : Loc Cert.AttnAFwdIdeal.nD Cert.AttnAFwdIdeal.τ Cert.AttnAFwdIdeal.sig) → Buf (Elt Ideal) ℓ) (g : Dev Cert.AttnAFwdIdeal.nD → PrngReg), Pre_AttnAFwdIdeal_finite_attn_a_fwd m →
    θ_run (Cert.AttnAFwdIdeal.defs (F := Ideal)) (onTc (τ := Cert.AttnAFwdIdeal.τ) (Cert.AttnAFwdIdeal.main (F := Ideal))) ⟨m, fun _ => 0, g⟩ (fun r => (∀ c : Dev Cert.AttnAFwdIdeal.nD,
      r.2.mem ((c.tc : Thread Cert.AttnAFwdIdeal.nD Cert.AttnAFwdIdeal.τ).loc Cert.AttnAFwdIdeal.main_arg0) = m ((c.tc : Thread Cert.AttnAFwdIdeal.nD Cert.AttnAFwdIdeal.τ).loc Cert.AttnAFwdIdeal.main_arg0)
      ∧ r.2.mem ((c.tc : Thread Cert.AttnAFwdIdeal.nD Cert.AttnAFwdIdeal.τ).loc Cert.AttnAFwdIdeal.main_arg1) = m ((c.tc : Thread Cert.AttnAFwdIdeal.nD Cert.AttnAFwdIdeal.τ).loc Cert.AttnAFwdIdeal.main_arg1))
      ∧ r.2.sem = fun _ => 0)

def quiescent_AttnAFwdRefIdeal [hAttnAFwdRefIdeal : Cert.AttnAFwdRefIdeal.Facts] : Prop :=
  ∀ (m : (ℓ : Loc Cert.AttnAFwdRefIdeal.nD Cert.AttnAFwdRefIdeal.τ Cert.AttnAFwdRefIdeal.sig) → Buf (Elt Ideal) ℓ) (g : Dev Cert.AttnAFwdRefIdeal.nD → PrngReg), Pre_AttnAFwdRefIdeal m →
    θ_run (Cert.AttnAFwdRefIdeal.defs (F := Ideal)) (onTc (τ := Cert.AttnAFwdRefIdeal.τ) (Cert.AttnAFwdRefIdeal.main (F := Ideal))) ⟨m, fun _ => 0, g⟩ (fun r => (∀ c : Dev Cert.AttnAFwdRefIdeal.nD,
      r.2.mem ((c.tc : Thread Cert.AttnAFwdRefIdeal.nD Cert.AttnAFwdRefIdeal.τ).loc Cert.AttnAFwdRefIdeal.main_arg0) = m ((c.tc : Thread Cert.AttnAFwdRefIdeal.nD Cert.AttnAFwdRefIdeal.τ).loc Cert.AttnAFwdRefIdeal.main_arg0)
      ∧ r.2.mem ((c.tc : Thread Cert.AttnAFwdRefIdeal.nD Cert.AttnAFwdRefIdeal.τ).loc Cert.AttnAFwdRefIdeal.main_arg1) = m ((c.tc : Thread Cert.AttnAFwdRefIdeal.nD Cert.AttnAFwdRefIdeal.τ).loc Cert.AttnAFwdRefIdeal.main_arg1))
      ∧ r.2.sem = fun _ => 0)

def quiescent_AttnAFwdRefIdeal_pre_finite_attn_a_fwd [hAttnAFwdRefIdeal : Cert.AttnAFwdRefIdeal.Facts] [hPre_finite_attn_a_fwd : Cert.Pre_finite_attn_a_fwd.Facts] : Prop :=
  ∀ (m : (ℓ : Loc Cert.AttnAFwdRefIdeal.nD Cert.AttnAFwdRefIdeal.τ Cert.AttnAFwdRefIdeal.sig) → Buf (Elt Ideal) ℓ) (g : Dev Cert.AttnAFwdRefIdeal.nD → PrngReg), Pre_AttnAFwdRefIdeal_finite_attn_a_fwd m →
    θ_run (Cert.AttnAFwdRefIdeal.defs (F := Ideal)) (onTc (τ := Cert.AttnAFwdRefIdeal.τ) (Cert.AttnAFwdRefIdeal.main (F := Ideal))) ⟨m, fun _ => 0, g⟩ (fun r => (∀ c : Dev Cert.AttnAFwdRefIdeal.nD,
      r.2.mem ((c.tc : Thread Cert.AttnAFwdRefIdeal.nD Cert.AttnAFwdRefIdeal.τ).loc Cert.AttnAFwdRefIdeal.main_arg0) = m ((c.tc : Thread Cert.AttnAFwdRefIdeal.nD Cert.AttnAFwdRefIdeal.τ).loc Cert.AttnAFwdRefIdeal.main_arg0)
      ∧ r.2.mem ((c.tc : Thread Cert.AttnAFwdRefIdeal.nD Cert.AttnAFwdRefIdeal.τ).loc Cert.AttnAFwdRefIdeal.main_arg1) = m ((c.tc : Thread Cert.AttnAFwdRefIdeal.nD Cert.AttnAFwdRefIdeal.τ).loc Cert.AttnAFwdRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_DownLnRefIdeal [hDownLnRefIdeal : Cert.DownLnRefIdeal.Facts] : Prop :=
  ∀ (m : (ℓ : Loc Cert.DownLnRefIdeal.nD Cert.DownLnRefIdeal.τ Cert.DownLnRefIdeal.sig) → Buf (Elt Ideal) ℓ) (g : Dev Cert.DownLnRefIdeal.nD → PrngReg), Pre_DownLnRefIdeal m →
    θ_run (Cert.DownLnRefIdeal.defs (F := Ideal)) (onTc (τ := Cert.DownLnRefIdeal.τ) (Cert.DownLnRefIdeal.main (F := Ideal))) ⟨m, fun _ => 0, g⟩ (fun r => (∀ c : Dev Cert.DownLnRefIdeal.nD,
      r.2.mem ((c.tc : Thread Cert.DownLnRefIdeal.nD Cert.DownLnRefIdeal.τ).loc Cert.DownLnRefIdeal.main_arg0) = m ((c.tc : Thread Cert.DownLnRefIdeal.nD Cert.DownLnRefIdeal.τ).loc Cert.DownLnRefIdeal.main_arg0)
      ∧ r.2.mem ((c.tc : Thread Cert.DownLnRefIdeal.nD Cert.DownLnRefIdeal.τ).loc Cert.DownLnRefIdeal.main_arg1) = m ((c.tc : Thread Cert.DownLnRefIdeal.nD Cert.DownLnRefIdeal.τ).loc Cert.DownLnRefIdeal.main_arg1)
      ∧ r.2.mem ((c.tc : Thread Cert.DownLnRefIdeal.nD Cert.DownLnRefIdeal.τ).loc Cert.DownLnRefIdeal.main_arg2) = m ((c.tc : Thread Cert.DownLnRefIdeal.nD Cert.DownLnRefIdeal.τ).loc Cert.DownLnRefIdeal.main_arg2)
      ∧ r.2.mem ((c.tc : Thread Cert.DownLnRefIdeal.nD Cert.DownLnRefIdeal.τ).loc Cert.DownLnRefIdeal.main_arg3) = m ((c.tc : Thread Cert.DownLnRefIdeal.nD Cert.DownLnRefIdeal.τ).loc Cert.DownLnRefIdeal.main_arg3)
      ∧ r.2.mem ((c.tc : Thread Cert.DownLnRefIdeal.nD Cert.DownLnRefIdeal.τ).loc Cert.DownLnRefIdeal.main_arg4) = m ((c.tc : Thread Cert.DownLnRefIdeal.nD Cert.DownLnRefIdeal.τ).loc Cert.DownLnRefIdeal.main_arg4))
      ∧ r.2.sem = fun _ => 0)

def quiescent_BiasBand [hBiasBand : Cert.BiasBand.Facts] : Prop :=
  ∀ (m : (ℓ : Loc Cert.BiasBand.nD Cert.BiasBand.τ Cert.BiasBand.sig) → Buf (Elt Bits) ℓ) (g : Dev Cert.BiasBand.nD → PrngReg), Pre_BiasBand m →
    θ_run (Cert.BiasBand.defs (F := Bits)) (onTc (τ := Cert.BiasBand.τ) (Cert.BiasBand.main (F := Bits))) ⟨m, fun _ => 0, g⟩ (fun r => (∀ c : Dev Cert.BiasBand.nD,
      r.2.mem ((c.tc : Thread Cert.BiasBand.nD Cert.BiasBand.τ).loc Cert.BiasBand.main_arg0) = m ((c.tc : Thread Cert.BiasBand.nD Cert.BiasBand.τ).loc Cert.BiasBand.main_arg0))
      ∧ r.2.sem = fun _ => 0)

def quiescent_BiasBandIdeal [hBiasBandIdeal : Cert.BiasBandIdeal.Facts] : Prop :=
  ∀ (m : (ℓ : Loc Cert.BiasBandIdeal.nD Cert.BiasBandIdeal.τ Cert.BiasBandIdeal.sig) → Buf (Elt Ideal) ℓ) (g : Dev Cert.BiasBandIdeal.nD → PrngReg), Pre_BiasBandIdeal m →
    θ_run (Cert.BiasBandIdeal.defs (F := Ideal)) (onTc (τ := Cert.BiasBandIdeal.τ) (Cert.BiasBandIdeal.main (F := Ideal))) ⟨m, fun _ => 0, g⟩ (fun r => (∀ c : Dev Cert.BiasBandIdeal.nD,
      r.2.mem ((c.tc : Thread Cert.BiasBandIdeal.nD Cert.BiasBandIdeal.τ).loc Cert.BiasBandIdeal.main_arg0) = m ((c.tc : Thread Cert.BiasBandIdeal.nD Cert.BiasBandIdeal.τ).loc Cert.BiasBandIdeal.main_arg0))
      ∧ r.2.sem = fun _ => 0)

def quiescent_BiasBandIdeal_pre_finite_band [hBiasBandIdeal : Cert.BiasBandIdeal.Facts] [hPre_finite_band : Cert.Pre_finite_band.Facts] : Prop :=
  ∀ (m : (ℓ : Loc Cert.BiasBandIdeal.nD Cert.BiasBandIdeal.τ Cert.BiasBandIdeal.sig) → Buf (Elt Ideal) ℓ) (g : Dev Cert.BiasBandIdeal.nD → PrngReg), Pre_BiasBandIdeal_finite_band m →
    θ_run (Cert.BiasBandIdeal.defs (F := Ideal)) (onTc (τ := Cert.BiasBandIdeal.τ) (Cert.BiasBandIdeal.main (F := Ideal))) ⟨m, fun _ => 0, g⟩ (fun r => (∀ c : Dev Cert.BiasBandIdeal.nD,
      r.2.mem ((c.tc : Thread Cert.BiasBandIdeal.nD Cert.BiasBandIdeal.τ).loc Cert.BiasBandIdeal.main_arg0) = m ((c.tc : Thread Cert.BiasBandIdeal.nD Cert.BiasBandIdeal.τ).loc Cert.BiasBandIdeal.main_arg0))
      ∧ r.2.sem = fun _ => 0)

def quiescent_BiasBandRefIdeal [hBiasBandRefIdeal : Cert.BiasBandRefIdeal.Facts] : Prop :=
  ∀ (m : (ℓ : Loc Cert.BiasBandRefIdeal.nD Cert.BiasBandRefIdeal.τ Cert.BiasBandRefIdeal.sig) → Buf (Elt Ideal) ℓ) (g : Dev Cert.BiasBandRefIdeal.nD → PrngReg), Pre_BiasBandRefIdeal m →
    θ_run (Cert.BiasBandRefIdeal.defs (F := Ideal)) (onTc (τ := Cert.BiasBandRefIdeal.τ) (Cert.BiasBandRefIdeal.main (F := Ideal))) ⟨m, fun _ => 0, g⟩ (fun r => (∀ c : Dev Cert.BiasBandRefIdeal.nD,
      r.2.mem ((c.tc : Thread Cert.BiasBandRefIdeal.nD Cert.BiasBandRefIdeal.τ).loc Cert.BiasBandRefIdeal.main_arg0) = m ((c.tc : Thread Cert.BiasBandRefIdeal.nD Cert.BiasBandRefIdeal.τ).loc Cert.BiasBandRefIdeal.main_arg0))
      ∧ r.2.sem = fun _ => 0)

def quiescent_BiasBandRefIdeal_pre_finite_band [hBiasBandRefIdeal : Cert.BiasBandRefIdeal.Facts] [hPre_finite_band : Cert.Pre_finite_band.Facts] : Prop :=
  ∀ (m : (ℓ : Loc Cert.BiasBandRefIdeal.nD Cert.BiasBandRefIdeal.τ Cert.BiasBandRefIdeal.sig) → Buf (Elt Ideal) ℓ) (g : Dev Cert.BiasBandRefIdeal.nD → PrngReg), Pre_BiasBandRefIdeal_finite_band m →
    θ_run (Cert.BiasBandRefIdeal.defs (F := Ideal)) (onTc (τ := Cert.BiasBandRefIdeal.τ) (Cert.BiasBandRefIdeal.main (F := Ideal))) ⟨m, fun _ => 0, g⟩ (fun r => (∀ c : Dev Cert.BiasBandRefIdeal.nD,
      r.2.mem ((c.tc : Thread Cert.BiasBandRefIdeal.nD Cert.BiasBandRefIdeal.τ).loc Cert.BiasBandRefIdeal.main_arg0) = m ((c.tc : Thread Cert.BiasBandRefIdeal.nD Cert.BiasBandRefIdeal.τ).loc Cert.BiasBandRefIdeal.main_arg0))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1)
      ∧ r.2.mem ((c.tc : Thread Cert.MmNt.nD Cert.MmNt.τ).loc Cert.MmNt.main_arg2) = m ((c.tc : Thread Cert.MmNt.nD Cert.MmNt.τ).loc Cert.MmNt.main_arg2))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1)
      ∧ r.2.mem ((c.tc : Thread Cert.MmNtIdeal.nD Cert.MmNtIdeal.τ).loc Cert.MmNtIdeal.main_arg2) = m ((c.tc : Thread Cert.MmNtIdeal.nD Cert.MmNtIdeal.τ).loc Cert.MmNtIdeal.main_arg2))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1)
      ∧ r.2.mem ((c.tc : Thread Cert.MmNtRefIdeal.nD Cert.MmNtRefIdeal.τ).loc Cert.MmNtRefIdeal.main_arg2) = m ((c.tc : Thread Cert.MmNtRefIdeal.nD Cert.MmNtRefIdeal.τ).loc Cert.MmNtRefIdeal.main_arg2))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def preserves_LossHead_LossHeadIdeal : Prop :=
  True

def algebraic_LossHeadIdeal_LossRefIdeal [hLossHeadIdeal : Cert.LossHeadIdeal.Facts] [hLossRefIdeal : Cert.LossRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AttnB_AttnBIdeal : Prop :=
  True

def algebraic_AttnBIdeal_AttnBRefIdeal_pre_finite_attn_b [hAttnBIdeal : Cert.AttnBIdeal.Facts] [hAttnBRefIdeal : Cert.AttnBRefIdeal.Facts] [hPre_finite_attn_b : Cert.Pre_finite_attn_b.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_attn_b m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)) →
    ∃ (v0 : (c : Dev Cert.AttnBIdeal.nD) → Buf (Elt Ideal) ((c.tc : Thread Cert.AttnBIdeal.nD Cert.AttnBIdeal.τ).loc Cert.AttnBIdeal.main_v0_0)) (v1 : (c : Dev Cert.AttnBIdeal.nD) → Buf (Elt Ideal) ((c.tc : Thread Cert.AttnBIdeal.nD Cert.AttnBIdeal.τ).loc Cert.AttnBIdeal.main_v0_1)) (v2 : (c : Dev Cert.AttnBIdeal.nD) → Buf (Elt Ideal) ((c.tc : Thread Cert.AttnBIdeal.nD Cert.AttnBIdeal.τ).loc Cert.AttnBIdeal.main_v0_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v0_0) = v0 c
          ∧ r.2.mem ((c.tc : Thread Cert.AttnBIdeal.nD Cert.AttnBIdeal.τ).loc Cert.AttnBIdeal.main_v0_1) = v1 c
          ∧ r.2.mem ((c.tc : Thread Cert.AttnBIdeal.nD Cert.AttnBIdeal.τ).loc Cert.AttnBIdeal.main_v0_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v52) = v0 c
          ∧ r.2.mem ((c.tc : Thread Cert.AttnBRefIdeal.nD Cert.AttnBRefIdeal.τ).loc Cert.AttnBRefIdeal.main_v54) = v1 c
          ∧ r.2.mem ((c.tc : Thread Cert.AttnBRefIdeal.nD Cert.AttnBRefIdeal.τ).loc Cert.AttnBRefIdeal.main_v56) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1))

def preserves_BiasBwd_BiasBwdIdeal : Prop :=
  True

def algebraic_BiasBwdIdeal_BiasRefIdeal_pre_finite_bias [hBiasBwdIdeal : Cert.BiasBwdIdeal.Facts] [hBiasRefIdeal : Cert.BiasRefIdeal.Facts] [hPre_finite_bias : Cert.Pre_finite_bias.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasBwdIdeal_finite_bias m →
    (∀ c : Dev Cert.BiasBwdIdeal.nD,
      m' ((c.tc : Thread Cert.BiasRefIdeal.nD Cert.BiasRefIdeal.τ).loc Cert.BiasRefIdeal.main_arg0) = m ((c.tc : Thread Cert.BiasBwdIdeal.nD Cert.BiasBwdIdeal.τ).loc Cert.BiasBwdIdeal.main_arg0)
      ∧ m' ((c.tc : Thread Cert.BiasRefIdeal.nD Cert.BiasRefIdeal.τ).loc Cert.BiasRefIdeal.main_arg1) = m ((c.tc : Thread Cert.BiasBwdIdeal.nD Cert.BiasBwdIdeal.τ).loc Cert.BiasBwdIdeal.main_arg1)) →
    ∃ (v0 : (c : Dev Cert.BiasBwdIdeal.nD) → Buf (Elt Ideal) ((c.tc : Thread Cert.BiasBwdIdeal.nD Cert.BiasBwdIdeal.τ).loc Cert.BiasBwdIdeal.main_v0)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v0) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v22) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def preserves_LnBwd_LnBwdIdeal : Prop :=
  True

def algebraic_LnBwdIdeal_LnRefIdeal_pre_finite_ln [hLnBwdIdeal : Cert.LnBwdIdeal.Facts] [hLnRefIdeal : Cert.LnRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnBwdIdeal_finite_ln m →
    (∀ c : Dev Cert.LnBwdIdeal.nD,
      m' ((c.tc : Thread Cert.LnRefIdeal.nD Cert.LnRefIdeal.τ).loc Cert.LnRefIdeal.main_arg0) = m ((c.tc : Thread Cert.LnBwdIdeal.nD Cert.LnBwdIdeal.τ).loc Cert.LnBwdIdeal.main_arg0)
      ∧ m' ((c.tc : Thread Cert.LnRefIdeal.nD Cert.LnRefIdeal.τ).loc Cert.LnRefIdeal.main_arg1) = m ((c.tc : Thread Cert.LnBwdIdeal.nD Cert.LnBwdIdeal.τ).loc Cert.LnBwdIdeal.main_arg1)
      ∧ m' ((c.tc : Thread Cert.LnRefIdeal.nD Cert.LnRefIdeal.τ).loc Cert.LnRefIdeal.main_arg2) = m ((c.tc : Thread Cert.LnBwdIdeal.nD Cert.LnBwdIdeal.τ).loc Cert.LnBwdIdeal.main_arg2)
      ∧ m' ((c.tc : Thread Cert.LnRefIdeal.nD Cert.LnRefIdeal.τ).loc Cert.LnRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v4_0)) (v1 : (c : Dev Cert.LnBwdIdeal.nD) → Buf (Elt Ideal) ((c.tc : Thread Cert.LnBwdIdeal.nD Cert.LnBwdIdeal.τ).loc Cert.LnBwdIdeal.main_v4_1)) (v2 : (c : Dev Cert.LnBwdIdeal.nD) → Buf (Elt Ideal) ((c.tc : Thread Cert.LnBwdIdeal.nD Cert.LnBwdIdeal.τ).loc Cert.LnBwdIdeal.main_v4_2)) (v3 : (c : Dev Cert.LnBwdIdeal.nD) → Buf (Elt Ideal) ((c.tc : Thread Cert.LnBwdIdeal.nD Cert.LnBwdIdeal.τ).loc Cert.LnBwdIdeal.main_v4_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v4_0) = v0 c
          ∧ r.2.mem ((c.tc : Thread Cert.LnBwdIdeal.nD Cert.LnBwdIdeal.τ).loc Cert.LnBwdIdeal.main_v4_1) = v1 c
          ∧ r.2.mem ((c.tc : Thread Cert.LnBwdIdeal.nD Cert.LnBwdIdeal.τ).loc Cert.LnBwdIdeal.main_v4_2) = v2 c
          ∧ r.2.mem ((c.tc : Thread Cert.LnBwdIdeal.nD Cert.LnBwdIdeal.τ).loc Cert.LnBwdIdeal.main_v4_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v66) = v0 c
          ∧ r.2.mem ((c.tc : Thread Cert.LnRefIdeal.nD Cert.LnRefIdeal.τ).loc Cert.LnRefIdeal.main_v67) = v1 c
          ∧ r.2.mem ((c.tc : Thread Cert.LnRefIdeal.nD Cert.LnRefIdeal.τ).loc Cert.LnRefIdeal.main_v68) = v2 c
          ∧ r.2.mem ((c.tc : Thread Cert.LnRefIdeal.nD Cert.LnRefIdeal.τ).loc Cert.LnRefIdeal.main_v69) = v3 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_DxMix_DxMixIdeal : Prop :=
  True

def algebraic_DxMixIdeal_DxMixRefIdeal_pre_finite_mix [hDxMixIdeal : Cert.DxMixIdeal.Facts] [hDxMixRefIdeal : Cert.DxMixRefIdeal.Facts] [hPre_finite_mix : Cert.Pre_finite_mix.Facts] : Prop :=
  ∀ (m : (ℓ : Loc Cert.DxMixIdeal.nD Cert.DxMixIdeal.τ Cert.DxMixIdeal.sig) → Buf (Elt Ideal) ℓ) (g : Dev Cert.DxMixIdeal.nD → PrngReg)
    (m' : (ℓ : Loc Cert.DxMixRefIdeal.nD Cert.DxMixRefIdeal.τ Cert.DxMixRefIdeal.sig) → Buf (Elt Ideal) ℓ) (g' : Dev Cert.DxMixRefIdeal.nD → PrngReg), Pre_DxMixIdeal_finite_mix m →
    (∀ c : Dev Cert.DxMixIdeal.nD,
      m' ((c.tc : Thread Cert.DxMixRefIdeal.nD Cert.DxMixRefIdeal.τ).loc Cert.DxMixRefIdeal.main_arg0) = m ((c.tc : Thread Cert.DxMixIdeal.nD Cert.DxMixIdeal.τ).loc Cert.DxMixIdeal.main_arg0)
      ∧ m' ((c.tc : Thread Cert.DxMixRefIdeal.nD Cert.DxMixRefIdeal.τ).loc Cert.DxMixRefIdeal.main_arg1) = m ((c.tc : Thread Cert.DxMixIdeal.nD Cert.DxMixIdeal.τ).loc Cert.DxMixIdeal.main_arg1)
      ∧ m' ((c.tc : Thread Cert.DxMixRefIdeal.nD Cert.DxMixRefIdeal.τ).loc Cert.DxMixRefIdeal.main_arg2) = m ((c.tc : Thread Cert.DxMixIdeal.nD Cert.DxMixIdeal.τ).loc Cert.DxMixIdeal.main_arg2)
      ∧ m' ((c.tc : Thread Cert.DxMixRefIdeal.nD Cert.DxMixRefIdeal.τ).loc Cert.DxMixRefIdeal.main_arg3) = m ((c.tc : Thread Cert.DxMixIdeal.nD Cert.DxMixIdeal.τ).loc Cert.DxMixIdeal.main_arg3)
      ∧ m' ((c.tc : Thread Cert.DxMixRefIdeal.nD Cert.DxMixRefIdeal.τ).loc Cert.DxMixRefIdeal.main_arg4) = m ((c.tc : Thread Cert.DxMixIdeal.nD Cert.DxMixIdeal.τ).loc Cert.DxMixIdeal.main_arg4)
      ∧ m' ((c.tc : Thread Cert.DxMixRefIdeal.nD Cert.DxMixRefIdeal.τ).loc Cert.DxMixRefIdeal.main_arg5) = m ((c.tc : Thread Cert.DxMixIdeal.nD Cert.DxMixIdeal.τ).loc Cert.DxMixIdeal.main_arg5)
      ∧ m' ((c.tc : Thread Cert.DxMixRefIdeal.nD Cert.DxMixRefIdeal.τ).loc Cert.DxMixRefIdeal.main_arg6) = m ((c.tc : Thread Cert.DxMixIdeal.nD Cert.DxMixIdeal.τ).loc Cert.DxMixIdeal.main_arg6)
      ∧ m' ((c.tc : Thread Cert.DxMixRefIdeal.nD Cert.DxMixRefIdeal.τ).loc Cert.DxMixRefIdeal.main_arg7) = m ((c.tc : Thread Cert.DxMixIdeal.nD Cert.DxMixIdeal.τ).loc Cert.DxMixIdeal.main_arg7)) →
    ∃ (v0 : (c : Dev Cert.DxMixIdeal.nD) → Buf (Elt Ideal) ((c.tc : Thread Cert.DxMixIdeal.nD Cert.DxMixIdeal.τ).loc Cert.DxMixIdeal.main_v4_0)) (v1 : (c : Dev Cert.DxMixIdeal.nD) → Buf (Elt Ideal) ((c.tc : Thread Cert.DxMixIdeal.nD Cert.DxMixIdeal.τ).loc Cert.DxMixIdeal.main_v4_1)) (v2 : (c : Dev Cert.DxMixIdeal.nD) → Buf (Elt Ideal) ((c.tc : Thread Cert.DxMixIdeal.nD Cert.DxMixIdeal.τ).loc Cert.DxMixIdeal.main_v4_2)) (v3 : (c : Dev Cert.DxMixIdeal.nD) → Buf (Elt Ideal) ((c.tc : Thread Cert.DxMixIdeal.nD Cert.DxMixIdeal.τ).loc Cert.DxMixIdeal.main_v4_3)),
      θ_run (Cert.DxMixIdeal.defs (F := Ideal)) (onTc (τ := Cert.DxMixIdeal.τ) (Cert.DxMixIdeal.main (F := Ideal))) ⟨m, fun _ => 0, g⟩ (fun r => ∀ c : Dev Cert.DxMixIdeal.nD,
          r.2.mem ((c.tc : Thread Cert.DxMixIdeal.nD Cert.DxMixIdeal.τ).loc Cert.DxMixIdeal.main_v4_0) = v0 c
          ∧ r.2.mem ((c.tc : Thread Cert.DxMixIdeal.nD Cert.DxMixIdeal.τ).loc Cert.DxMixIdeal.main_v4_1) = v1 c
          ∧ r.2.mem ((c.tc : Thread Cert.DxMixIdeal.nD Cert.DxMixIdeal.τ).loc Cert.DxMixIdeal.main_v4_2) = v2 c
          ∧ r.2.mem ((c.tc : Thread Cert.DxMixIdeal.nD Cert.DxMixIdeal.τ).loc Cert.DxMixIdeal.main_v4_3) = v3 c
          ∧ r.2.mem ((c.tc : Thread Cert.DxMixIdeal.nD Cert.DxMixIdeal.τ).loc Cert.DxMixIdeal.main_arg0) = m ((c.tc : Thread Cert.DxMixIdeal.nD Cert.DxMixIdeal.τ).loc Cert.DxMixIdeal.main_arg0)
          ∧ r.2.mem ((c.tc : Thread Cert.DxMixIdeal.nD Cert.DxMixIdeal.τ).loc Cert.DxMixIdeal.main_arg1) = m ((c.tc : Thread Cert.DxMixIdeal.nD Cert.DxMixIdeal.τ).loc Cert.DxMixIdeal.main_arg1)
          ∧ r.2.mem ((c.tc : Thread Cert.DxMixIdeal.nD Cert.DxMixIdeal.τ).loc Cert.DxMixIdeal.main_arg2) = m ((c.tc : Thread Cert.DxMixIdeal.nD Cert.DxMixIdeal.τ).loc Cert.DxMixIdeal.main_arg2)
          ∧ r.2.mem ((c.tc : Thread Cert.DxMixIdeal.nD Cert.DxMixIdeal.τ).loc Cert.DxMixIdeal.main_arg3) = m ((c.tc : Thread Cert.DxMixIdeal.nD Cert.DxMixIdeal.τ).loc Cert.DxMixIdeal.main_arg3)
          ∧ r.2.mem ((c.tc : Thread Cert.DxMixIdeal.nD Cert.DxMixIdeal.τ).loc Cert.DxMixIdeal.main_arg4) = m ((c.tc : Thread Cert.DxMixIdeal.nD Cert.DxMixIdeal.τ).loc Cert.DxMixIdeal.main_arg4)
          ∧ r.2.mem ((c.tc : Thread Cert.DxMixIdeal.nD Cert.DxMixIdeal.τ).loc Cert.DxMixIdeal.main_arg5) = m ((c.tc : Thread Cert.DxMixIdeal.nD Cert.DxMixIdeal.τ).loc Cert.DxMixIdeal.main_arg5)
          ∧ r.2.mem ((c.tc : Thread Cert.DxMixIdeal.nD Cert.DxMixIdeal.τ).loc Cert.DxMixIdeal.main_arg6) = m ((c.tc : Thread Cert.DxMixIdeal.nD Cert.DxMixIdeal.τ).loc Cert.DxMixIdeal.main_arg6)
          ∧ r.2.mem ((c.tc : Thread Cert.DxMixIdeal.nD Cert.DxMixIdeal.τ).loc Cert.DxMixIdeal.main_arg7) = m ((c.tc : Thread Cert.DxMixIdeal.nD Cert.DxMixIdeal.τ).loc Cert.DxMixIdeal.main_arg7))
      ∧ θ_run (Cert.DxMixRefIdeal.defs (F := Ideal)) (onTc (τ := Cert.DxMixRefIdeal.τ) (Cert.DxMixRefIdeal.main (F := Ideal))) ⟨m', fun _ => 0, g'⟩ (fun r => ∀ c : Dev Cert.DxMixRefIdeal.nD,
          r.2.mem ((c.tc : Thread Cert.DxMixRefIdeal.nD Cert.DxMixRefIdeal.τ).loc Cert.DxMixRefIdeal.main_v75) = v0 c
          ∧ r.2.mem ((c.tc : Thread Cert.DxMixRefIdeal.nD Cert.DxMixRefIdeal.τ).loc Cert.DxMixRefIdeal.main_v76) = v1 c
          ∧ r.2.mem ((c.tc : Thread Cert.DxMixRefIdeal.nD Cert.DxMixRefIdeal.τ).loc Cert.DxMixRefIdeal.main_v77) = v2 c
          ∧ r.2.mem ((c.tc : Thread Cert.DxMixRefIdeal.nD Cert.DxMixRefIdeal.τ).loc Cert.DxMixRefIdeal.main_v78) = v3 c
          ∧ r.2.mem ((c.tc : Thread Cert.DxMixRefIdeal.nD Cert.DxMixRefIdeal.τ).loc Cert.DxMixRefIdeal.main_arg0) = m' ((c.tc : Thread Cert.DxMixRefIdeal.nD Cert.DxMixRefIdeal.τ).loc Cert.DxMixRefIdeal.main_arg0)
          ∧ r.2.mem ((c.tc : Thread Cert.DxMixRefIdeal.nD Cert.DxMixRefIdeal.τ).loc Cert.DxMixRefIdeal.main_arg1) = m' ((c.tc : Thread Cert.DxMixRefIdeal.nD Cert.DxMixRefIdeal.τ).loc Cert.DxMixRefIdeal.main_arg1)
          ∧ r.2.mem ((c.tc : Thread Cert.DxMixRefIdeal.nD Cert.DxMixRefIdeal.τ).loc Cert.DxMixRefIdeal.main_arg2) = m' ((c.tc : Thread Cert.DxMixRefIdeal.nD Cert.DxMixRefIdeal.τ).loc Cert.DxMixRefIdeal.main_arg2)
          ∧ r.2.mem ((c.tc : Thread Cert.DxMixRefIdeal.nD Cert.DxMixRefIdeal.τ).loc Cert.DxMixRefIdeal.main_arg3) = m' ((c.tc : Thread Cert.DxMixRefIdeal.nD Cert.DxMixRefIdeal.τ).loc Cert.DxMixRefIdeal.main_arg3)
          ∧ r.2.mem ((c.tc : Thread Cert.DxMixRefIdeal.nD Cert.DxMixRefIdeal.τ).loc Cert.DxMixRefIdeal.main_arg4) = m' ((c.tc : Thread Cert.DxMixRefIdeal.nD Cert.DxMixRefIdeal.τ).loc Cert.DxMixRefIdeal.main_arg4)
          ∧ r.2.mem ((c.tc : Thread Cert.DxMixRefIdeal.nD Cert.DxMixRefIdeal.τ).loc Cert.DxMixRefIdeal.main_arg5) = m' ((c.tc : Thread Cert.DxMixRefIdeal.nD Cert.DxMixRefIdeal.τ).loc Cert.DxMixRefIdeal.main_arg5)
          ∧ r.2.mem ((c.tc : Thread Cert.DxMixRefIdeal.nD Cert.DxMixRefIdeal.τ).loc Cert.DxMixRefIdeal.main_arg6) = m' ((c.tc : Thread Cert.DxMixRefIdeal.nD Cert.DxMixRefIdeal.τ).loc Cert.DxMixRefIdeal.main_arg6)
          ∧ r.2.mem ((c.tc : Thread Cert.DxMixRefIdeal.nD Cert.DxMixRefIdeal.τ).loc Cert.DxMixRefIdeal.main_arg7) = m' ((c.tc : Thread Cert.DxMixRefIdeal.nD Cert.DxMixRefIdeal.τ).loc Cert.DxMixRefIdeal.main_arg7))

def preserves_DxFfn_DxFfnIdeal : Prop :=
  True

def algebraic_DxFfnIdeal_DxFfnRefIdeal_pre_finite_ffn [hDxFfnIdeal : Cert.DxFfnIdeal.Facts] [hDxFfnRefIdeal : Cert.DxFfnRefIdeal.Facts] [hPre_finite_ffn : Cert.Pre_finite_ffn.Facts] : Prop :=
  ∀ (m : (ℓ : Loc Cert.DxFfnIdeal.nD Cert.DxFfnIdeal.τ Cert.DxFfnIdeal.sig) → Buf (Elt Ideal) ℓ) (g : Dev Cert.DxFfnIdeal.nD → PrngReg)
    (m' : (ℓ : Loc Cert.DxFfnRefIdeal.nD Cert.DxFfnRefIdeal.τ Cert.DxFfnRefIdeal.sig) → Buf (Elt Ideal) ℓ) (g' : Dev Cert.DxFfnRefIdeal.nD → PrngReg), Pre_DxFfnIdeal_finite_ffn m →
    (∀ c : Dev Cert.DxFfnIdeal.nD,
      m' ((c.tc : Thread Cert.DxFfnRefIdeal.nD Cert.DxFfnRefIdeal.τ).loc Cert.DxFfnRefIdeal.main_arg0) = m ((c.tc : Thread Cert.DxFfnIdeal.nD Cert.DxFfnIdeal.τ).loc Cert.DxFfnIdeal.main_arg0)
      ∧ m' ((c.tc : Thread Cert.DxFfnRefIdeal.nD Cert.DxFfnRefIdeal.τ).loc Cert.DxFfnRefIdeal.main_arg1) = m ((c.tc : Thread Cert.DxFfnIdeal.nD Cert.DxFfnIdeal.τ).loc Cert.DxFfnIdeal.main_arg1)
      ∧ m' ((c.tc : Thread Cert.DxFfnRefIdeal.nD Cert.DxFfnRefIdeal.τ).loc Cert.DxFfnRefIdeal.main_arg2) = m ((c.tc : Thread Cert.DxFfnIdeal.nD Cert.DxFfnIdeal.τ).loc Cert.DxFfnIdeal.main_arg2)
      ∧ m' ((c.tc : Thread Cert.DxFfnRefIdeal.nD Cert.DxFfnRefIdeal.τ).loc Cert.DxFfnRefIdeal.main_arg3) = m ((c.tc : Thread Cert.DxFfnIdeal.nD Cert.DxFfnIdeal.τ).loc Cert.DxFfnIdeal.main_arg3)
      ∧ m' ((c.tc : Thread Cert.DxFfnRefIdeal.nD Cert.DxFfnRefIdeal.τ).loc Cert.DxFfnRefIdeal.main_arg4) = m ((c.tc : Thread Cert.DxFfnIdeal.nD Cert.DxFfnIdeal.τ).loc Cert.DxFfnIdeal.main_arg4)
      ∧ m' ((c.tc : Thread Cert.DxFfnRefIdeal.nD Cert.DxFfnRefIdeal.τ).loc Cert.DxFfnRefIdeal.main_arg5) = m ((c.tc : Thread Cert.DxFfnIdeal.nD Cert.DxFfnIdeal.τ).loc Cert.DxFfnIdeal.main_arg5)
      ∧ m' ((c.tc : Thread Cert.DxFfnRefIdeal.nD Cert.DxFfnRefIdeal.τ).loc Cert.DxFfnRefIdeal.main_arg6) = m ((c.tc : Thread Cert.DxFfnIdeal.nD Cert.DxFfnIdeal.τ).loc Cert.DxFfnIdeal.main_arg6)
      ∧ m' ((c.tc : Thread Cert.DxFfnRefIdeal.nD Cert.DxFfnRefIdeal.τ).loc Cert.DxFfnRefIdeal.main_arg7) = m ((c.tc : Thread Cert.DxFfnIdeal.nD Cert.DxFfnIdeal.τ).loc Cert.DxFfnIdeal.main_arg7)) →
    ∃ (v0 : (c : Dev Cert.DxFfnIdeal.nD) → Buf (Elt Ideal) ((c.tc : Thread Cert.DxFfnIdeal.nD Cert.DxFfnIdeal.τ).loc Cert.DxFfnIdeal.main_v4_0)) (v1 : (c : Dev Cert.DxFfnIdeal.nD) → Buf (Elt Ideal) ((c.tc : Thread Cert.DxFfnIdeal.nD Cert.DxFfnIdeal.τ).loc Cert.DxFfnIdeal.main_v4_1)) (v2 : (c : Dev Cert.DxFfnIdeal.nD) → Buf (Elt Ideal) ((c.tc : Thread Cert.DxFfnIdeal.nD Cert.DxFfnIdeal.τ).loc Cert.DxFfnIdeal.main_v4_2)) (v3 : (c : Dev Cert.DxFfnIdeal.nD) → Buf (Elt Ideal) ((c.tc : Thread Cert.DxFfnIdeal.nD Cert.DxFfnIdeal.τ).loc Cert.DxFfnIdeal.main_v4_3)),
      θ_run (Cert.DxFfnIdeal.defs (F := Ideal)) (onTc (τ := Cert.DxFfnIdeal.τ) (Cert.DxFfnIdeal.main (F := Ideal))) ⟨m, fun _ => 0, g⟩ (fun r => ∀ c : Dev Cert.DxFfnIdeal.nD,
          r.2.mem ((c.tc : Thread Cert.DxFfnIdeal.nD Cert.DxFfnIdeal.τ).loc Cert.DxFfnIdeal.main_v4_0) = v0 c
          ∧ r.2.mem ((c.tc : Thread Cert.DxFfnIdeal.nD Cert.DxFfnIdeal.τ).loc Cert.DxFfnIdeal.main_v4_1) = v1 c
          ∧ r.2.mem ((c.tc : Thread Cert.DxFfnIdeal.nD Cert.DxFfnIdeal.τ).loc Cert.DxFfnIdeal.main_v4_2) = v2 c
          ∧ r.2.mem ((c.tc : Thread Cert.DxFfnIdeal.nD Cert.DxFfnIdeal.τ).loc Cert.DxFfnIdeal.main_v4_3) = v3 c
          ∧ r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
          ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
          ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
          ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3)
          ∧ r.2.mem ((c.tc : Thread Cert.DxFfnIdeal.nD Cert.DxFfnIdeal.τ).loc Cert.DxFfnIdeal.main_arg4) = m ((c.tc : Thread Cert.DxFfnIdeal.nD Cert.DxFfnIdeal.τ).loc Cert.DxFfnIdeal.main_arg4)
          ∧ r.2.mem ((c.tc : Thread Cert.DxFfnIdeal.nD Cert.DxFfnIdeal.τ).loc Cert.DxFfnIdeal.main_arg5) = m ((c.tc : Thread Cert.DxFfnIdeal.nD Cert.DxFfnIdeal.τ).loc Cert.DxFfnIdeal.main_arg5)
          ∧ r.2.mem ((c.tc : Thread Cert.DxFfnIdeal.nD Cert.DxFfnIdeal.τ).loc Cert.DxFfnIdeal.main_arg6) = m ((c.tc : Thread Cert.DxFfnIdeal.nD Cert.DxFfnIdeal.τ).loc Cert.DxFfnIdeal.main_arg6)
          ∧ r.2.mem ((c.tc : Thread Cert.DxFfnIdeal.nD Cert.DxFfnIdeal.τ).loc Cert.DxFfnIdeal.main_arg7) = m ((c.tc : Thread Cert.DxFfnIdeal.nD Cert.DxFfnIdeal.τ).loc Cert.DxFfnIdeal.main_arg7))
      ∧ θ_run (Cert.DxFfnRefIdeal.defs (F := Ideal)) (onTc (τ := Cert.DxFfnRefIdeal.τ) (Cert.DxFfnRefIdeal.main (F := Ideal))) ⟨m', fun _ => 0, g'⟩ (fun r => ∀ c : Dev Cert.DxFfnRefIdeal.nD,
          r.2.mem ((c.tc : Thread Cert.DxFfnRefIdeal.nD Cert.DxFfnRefIdeal.τ).loc Cert.DxFfnRefIdeal.main_v79) = v0 c
          ∧ r.2.mem ((c.tc : Thread Cert.DxFfnRefIdeal.nD Cert.DxFfnRefIdeal.τ).loc Cert.DxFfnRefIdeal.main_v80) = v1 c
          ∧ r.2.mem ((c.tc : Thread Cert.DxFfnRefIdeal.nD Cert.DxFfnRefIdeal.τ).loc Cert.DxFfnRefIdeal.main_v81) = v2 c
          ∧ r.2.mem ((c.tc : Thread Cert.DxFfnRefIdeal.nD Cert.DxFfnRefIdeal.τ).loc Cert.DxFfnRefIdeal.main_v82) = v3 c
          ∧ r.2.mem ((c.tc : Thread Cert.DxFfnRefIdeal.nD Cert.DxFfnRefIdeal.τ).loc Cert.DxFfnRefIdeal.main_arg0) = m' ((c.tc : Thread Cert.DxFfnRefIdeal.nD Cert.DxFfnRefIdeal.τ).loc Cert.DxFfnRefIdeal.main_arg0)
          ∧ r.2.mem ((c.tc : Thread Cert.DxFfnRefIdeal.nD Cert.DxFfnRefIdeal.τ).loc Cert.DxFfnRefIdeal.main_arg1) = m' ((c.tc : Thread Cert.DxFfnRefIdeal.nD Cert.DxFfnRefIdeal.τ).loc Cert.DxFfnRefIdeal.main_arg1)
          ∧ r.2.mem ((c.tc : Thread Cert.DxFfnRefIdeal.nD Cert.DxFfnRefIdeal.τ).loc Cert.DxFfnRefIdeal.main_arg2) = m' ((c.tc : Thread Cert.DxFfnRefIdeal.nD Cert.DxFfnRefIdeal.τ).loc Cert.DxFfnRefIdeal.main_arg2)
          ∧ r.2.mem ((c.tc : Thread Cert.DxFfnRefIdeal.nD Cert.DxFfnRefIdeal.τ).loc Cert.DxFfnRefIdeal.main_arg3) = m' ((c.tc : Thread Cert.DxFfnRefIdeal.nD Cert.DxFfnRefIdeal.τ).loc Cert.DxFfnRefIdeal.main_arg3)
          ∧ r.2.mem ((c.tc : Thread Cert.DxFfnRefIdeal.nD Cert.DxFfnRefIdeal.τ).loc Cert.DxFfnRefIdeal.main_arg4) = m' ((c.tc : Thread Cert.DxFfnRefIdeal.nD Cert.DxFfnRefIdeal.τ).loc Cert.DxFfnRefIdeal.main_arg4)
          ∧ r.2.mem ((c.tc : Thread Cert.DxFfnRefIdeal.nD Cert.DxFfnRefIdeal.τ).loc Cert.DxFfnRefIdeal.main_arg5) = m' ((c.tc : Thread Cert.DxFfnRefIdeal.nD Cert.DxFfnRefIdeal.τ).loc Cert.DxFfnRefIdeal.main_arg5)
          ∧ r.2.mem ((c.tc : Thread Cert.DxFfnRefIdeal.nD Cert.DxFfnRefIdeal.τ).loc Cert.DxFfnRefIdeal.main_arg6) = m' ((c.tc : Thread Cert.DxFfnRefIdeal.nD Cert.DxFfnRefIdeal.τ).loc Cert.DxFfnRefIdeal.main_arg6)
          ∧ r.2.mem ((c.tc : Thread Cert.DxFfnRefIdeal.nD Cert.DxFfnRefIdeal.τ).loc Cert.DxFfnRefIdeal.main_arg7) = m' ((c.tc : Thread Cert.DxFfnRefIdeal.nD Cert.DxFfnRefIdeal.τ).loc Cert.DxFfnRefIdeal.main_arg7))

def preserves_FfnMid_FfnMidIdeal : Prop :=
  True

def algebraic_FfnMidIdeal_FfnMidRefIdeal_pre_finite_mid [hFfnMidIdeal : Cert.FfnMidIdeal.Facts] [hFfnMidRefIdeal : Cert.FfnMidRefIdeal.Facts] [hPre_finite_mid : Cert.Pre_finite_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_mid m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v4_0)) (v1 : (c : Dev Cert.FfnMidIdeal.nD) → Buf (Elt Ideal) ((c.tc : Thread Cert.FfnMidIdeal.nD Cert.FfnMidIdeal.τ).loc Cert.FfnMidIdeal.main_v4_1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v4_0) = v0 c
          ∧ r.2.mem ((c.tc : Thread Cert.FfnMidIdeal.nD Cert.FfnMidIdeal.τ).loc Cert.FfnMidIdeal.main_v4_1) = v1 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v18) = v0 c
          ∧ r.2.mem ((c.tc : Thread Cert.FfnMidRefIdeal.nD Cert.FfnMidRefIdeal.τ).loc Cert.FfnMidRefIdeal.main_v19) = v1 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_DxFirst_DxFirstIdeal : Prop :=
  True

def algebraic_DxFirstIdeal_DxFirstRefIdeal [hDxFirstIdeal : Cert.DxFirstIdeal.Facts] [hDxFirstRefIdeal : Cert.DxFirstRefIdeal.Facts] : Prop :=
  ∀ (m : (ℓ : Loc Cert.DxFirstIdeal.nD Cert.DxFirstIdeal.τ Cert.DxFirstIdeal.sig) → Buf (Elt Ideal) ℓ) (g : Dev Cert.DxFirstIdeal.nD → PrngReg)
    (m' : (ℓ : Loc Cert.DxFirstRefIdeal.nD Cert.DxFirstRefIdeal.τ Cert.DxFirstRefIdeal.sig) → Buf (Elt Ideal) ℓ) (g' : Dev Cert.DxFirstRefIdeal.nD → PrngReg), Pre_DxFirstIdeal m →
    (∀ c : Dev Cert.DxFirstIdeal.nD,
      m' ((c.tc : Thread Cert.DxFirstRefIdeal.nD Cert.DxFirstRefIdeal.τ).loc Cert.DxFirstRefIdeal.main_arg0) = m ((c.tc : Thread Cert.DxFirstIdeal.nD Cert.DxFirstIdeal.τ).loc Cert.DxFirstIdeal.main_arg0)
      ∧ m' ((c.tc : Thread Cert.DxFirstRefIdeal.nD Cert.DxFirstRefIdeal.τ).loc Cert.DxFirstRefIdeal.main_arg1) = m ((c.tc : Thread Cert.DxFirstIdeal.nD Cert.DxFirstIdeal.τ).loc Cert.DxFirstIdeal.main_arg1)
      ∧ m' ((c.tc : Thread Cert.DxFirstRefIdeal.nD Cert.DxFirstRefIdeal.τ).loc Cert.DxFirstRefIdeal.main_arg2) = m ((c.tc : Thread Cert.DxFirstIdeal.nD Cert.DxFirstIdeal.τ).loc Cert.DxFirstIdeal.main_arg2)
      ∧ m' ((c.tc : Thread Cert.DxFirstRefIdeal.nD Cert.DxFirstRefIdeal.τ).loc Cert.DxFirstRefIdeal.main_arg3) = m ((c.tc : Thread Cert.DxFirstIdeal.nD Cert.DxFirstIdeal.τ).loc Cert.DxFirstIdeal.main_arg3)
      ∧ m' ((c.tc : Thread Cert.DxFirstRefIdeal.nD Cert.DxFirstRefIdeal.τ).loc Cert.DxFirstRefIdeal.main_arg4) = m ((c.tc : Thread Cert.DxFirstIdeal.nD Cert.DxFirstIdeal.τ).loc Cert.DxFirstIdeal.main_arg4)) →
    ∃ (v0 : (c : Dev Cert.DxFirstIdeal.nD) → Buf (Elt Ideal) ((c.tc : Thread Cert.DxFirstIdeal.nD Cert.DxFirstIdeal.τ).loc Cert.DxFirstIdeal.main_v0)),
      θ_run (Cert.DxFirstIdeal.defs (F := Ideal)) (onTc (τ := Cert.DxFirstIdeal.τ) (Cert.DxFirstIdeal.main (F := Ideal))) ⟨m, fun _ => 0, g⟩ (fun r => ∀ c : Dev Cert.DxFirstIdeal.nD,
          r.2.mem ((c.tc : Thread Cert.DxFirstIdeal.nD Cert.DxFirstIdeal.τ).loc Cert.DxFirstIdeal.main_v0) = v0 c
          ∧ r.2.mem ((c.tc : Thread Cert.DxFirstIdeal.nD Cert.DxFirstIdeal.τ).loc Cert.DxFirstIdeal.main_arg0) = m ((c.tc : Thread Cert.DxFirstIdeal.nD Cert.DxFirstIdeal.τ).loc Cert.DxFirstIdeal.main_arg0)
          ∧ r.2.mem ((c.tc : Thread Cert.DxFirstIdeal.nD Cert.DxFirstIdeal.τ).loc Cert.DxFirstIdeal.main_arg1) = m ((c.tc : Thread Cert.DxFirstIdeal.nD Cert.DxFirstIdeal.τ).loc Cert.DxFirstIdeal.main_arg1)
          ∧ r.2.mem ((c.tc : Thread Cert.DxFirstIdeal.nD Cert.DxFirstIdeal.τ).loc Cert.DxFirstIdeal.main_arg2) = m ((c.tc : Thread Cert.DxFirstIdeal.nD Cert.DxFirstIdeal.τ).loc Cert.DxFirstIdeal.main_arg2)
          ∧ r.2.mem ((c.tc : Thread Cert.DxFirstIdeal.nD Cert.DxFirstIdeal.τ).loc Cert.DxFirstIdeal.main_arg3) = m ((c.tc : Thread Cert.DxFirstIdeal.nD Cert.DxFirstIdeal.τ).loc Cert.DxFirstIdeal.main_arg3)
          ∧ r.2.mem ((c.tc : Thread Cert.DxFirstIdeal.nD Cert.DxFirstIdeal.τ).loc Cert.DxFirstIdeal.main_arg4) = m ((c.tc : Thread Cert.DxFirstIdeal.nD Cert.DxFirstIdeal.τ).loc Cert.DxFirstIdeal.main_arg4))
      ∧ θ_run (Cert.DxFirstRefIdeal.defs (F := Ideal)) (onTc (τ := Cert.DxFirstRefIdeal.τ) (Cert.DxFirstRefIdeal.main (F := Ideal))) ⟨m', fun _ => 0, g'⟩ (fun r => ∀ c : Dev Cert.DxFirstRefIdeal.nD,
          r.2.mem ((c.tc : Thread Cert.DxFirstRefIdeal.nD Cert.DxFirstRefIdeal.τ).loc Cert.DxFirstRefIdeal.main_v14) = v0 c
          ∧ r.2.mem ((c.tc : Thread Cert.DxFirstRefIdeal.nD Cert.DxFirstRefIdeal.τ).loc Cert.DxFirstRefIdeal.main_arg0) = m' ((c.tc : Thread Cert.DxFirstRefIdeal.nD Cert.DxFirstRefIdeal.τ).loc Cert.DxFirstRefIdeal.main_arg0)
          ∧ r.2.mem ((c.tc : Thread Cert.DxFirstRefIdeal.nD Cert.DxFirstRefIdeal.τ).loc Cert.DxFirstRefIdeal.main_arg1) = m' ((c.tc : Thread Cert.DxFirstRefIdeal.nD Cert.DxFirstRefIdeal.τ).loc Cert.DxFirstRefIdeal.main_arg1)
          ∧ r.2.mem ((c.tc : Thread Cert.DxFirstRefIdeal.nD Cert.DxFirstRefIdeal.τ).loc Cert.DxFirstRefIdeal.main_arg2) = m' ((c.tc : Thread Cert.DxFirstRefIdeal.nD Cert.DxFirstRefIdeal.τ).loc Cert.DxFirstRefIdeal.main_arg2)
          ∧ r.2.mem ((c.tc : Thread Cert.DxFirstRefIdeal.nD Cert.DxFirstRefIdeal.τ).loc Cert.DxFirstRefIdeal.main_arg3) = m' ((c.tc : Thread Cert.DxFirstRefIdeal.nD Cert.DxFirstRefIdeal.τ).loc Cert.DxFirstRefIdeal.main_arg3)
          ∧ r.2.mem ((c.tc : Thread Cert.DxFirstRefIdeal.nD Cert.DxFirstRefIdeal.τ).loc Cert.DxFirstRefIdeal.main_arg4) = m' ((c.tc : Thread Cert.DxFirstRefIdeal.nD Cert.DxFirstRefIdeal.τ).loc Cert.DxFirstRefIdeal.main_arg4))

def preserves_AttnA_AttnAIdeal : Prop :=
  IdealRules.named_const.Statement Cert.AttnAIdeal.κ "mask" .f32 0xF149F2CA#32 ⊥

def algebraic_AttnAIdeal_AttnARefIdeal_pre_finite_attn_a [hAttnAIdeal : Cert.AttnAIdeal.Facts] [hAttnARefIdeal : Cert.AttnARefIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_attn_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)) →
    ∃ (v0 : (c : Dev Cert.AttnAIdeal.nD) → Buf (Elt Ideal) ((c.tc : Thread Cert.AttnAIdeal.nD Cert.AttnAIdeal.τ).loc Cert.AttnAIdeal.main_v16_0)) (v1 : (c : Dev Cert.AttnAIdeal.nD) → Buf (Elt Ideal) ((c.tc : Thread Cert.AttnAIdeal.nD Cert.AttnAIdeal.τ).loc Cert.AttnAIdeal.main_v16_1)) (v2 : (c : Dev Cert.AttnAIdeal.nD) → Buf (Elt Ideal) ((c.tc : Thread Cert.AttnAIdeal.nD Cert.AttnAIdeal.τ).loc Cert.AttnAIdeal.main_v16_2)) (v3 : (c : Dev Cert.AttnAIdeal.nD) → Buf (Elt Ideal) ((c.tc : Thread Cert.AttnAIdeal.nD Cert.AttnAIdeal.τ).loc Cert.AttnAIdeal.main_v16_3)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v16_0) = v0 c
          ∧ r.2.mem ((c.tc : Thread Cert.AttnAIdeal.nD Cert.AttnAIdeal.τ).loc Cert.AttnAIdeal.main_v16_1) = v1 c
          ∧ r.2.mem ((c.tc : Thread Cert.AttnAIdeal.nD Cert.AttnAIdeal.τ).loc Cert.AttnAIdeal.main_v16_2) = v2 c
          ∧ r.2.mem ((c.tc : Thread Cert.AttnAIdeal.nD Cert.AttnAIdeal.τ).loc Cert.AttnAIdeal.main_v16_3) = v3 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v135) = v0 c
          ∧ r.2.mem ((c.tc : Thread Cert.AttnARefIdeal.nD Cert.AttnARefIdeal.τ).loc Cert.AttnARefIdeal.main_v137) = v1 c
          ∧ r.2.mem ((c.tc : Thread Cert.AttnARefIdeal.nD Cert.AttnARefIdeal.τ).loc Cert.AttnARefIdeal.main_v139) = v2 c
          ∧ r.2.mem ((c.tc : Thread Cert.AttnARefIdeal.nD Cert.AttnARefIdeal.τ).loc Cert.AttnARefIdeal.main_v133) = v3 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_AttnBFwd_AttnBFwdIdeal : Prop :=
  True

def algebraic_AttnBFwdIdeal_AttnBFwdRefIdeal_pre_finite_attn_b_fwd [hAttnBFwdIdeal : Cert.AttnBFwdIdeal.Facts] [hAttnBFwdRefIdeal : Cert.AttnBFwdRefIdeal.Facts] [hPre_finite_attn_b_fwd : Cert.Pre_finite_attn_b_fwd.Facts] : Prop :=
  ∀ (m : (ℓ : Loc Cert.AttnBFwdIdeal.nD Cert.AttnBFwdIdeal.τ Cert.AttnBFwdIdeal.sig) → Buf (Elt Ideal) ℓ) (g : Dev Cert.AttnBFwdIdeal.nD → PrngReg)
    (m' : (ℓ : Loc Cert.AttnBFwdRefIdeal.nD Cert.AttnBFwdRefIdeal.τ Cert.AttnBFwdRefIdeal.sig) → Buf (Elt Ideal) ℓ) (g' : Dev Cert.AttnBFwdRefIdeal.nD → PrngReg), Pre_AttnBFwdIdeal_finite_attn_b_fwd m →
    (∀ c : Dev Cert.AttnBFwdIdeal.nD,
      m' ((c.tc : Thread Cert.AttnBFwdRefIdeal.nD Cert.AttnBFwdRefIdeal.τ).loc Cert.AttnBFwdRefIdeal.main_arg0) = m ((c.tc : Thread Cert.AttnBFwdIdeal.nD Cert.AttnBFwdIdeal.τ).loc Cert.AttnBFwdIdeal.main_arg0)) →
    ∃ (v0 : (c : Dev Cert.AttnBFwdIdeal.nD) → Buf (Elt Ideal) ((c.tc : Thread Cert.AttnBFwdIdeal.nD Cert.AttnBFwdIdeal.τ).loc Cert.AttnBFwdIdeal.main_v0)),
      θ_run (Cert.AttnBFwdIdeal.defs (F := Ideal)) (onTc (τ := Cert.AttnBFwdIdeal.τ) (Cert.AttnBFwdIdeal.main (F := Ideal))) ⟨m, fun _ => 0, g⟩ (fun r => ∀ c : Dev Cert.AttnBFwdIdeal.nD,
          r.2.mem ((c.tc : Thread Cert.AttnBFwdIdeal.nD Cert.AttnBFwdIdeal.τ).loc Cert.AttnBFwdIdeal.main_v0) = v0 c
          ∧ r.2.mem ((c.tc : Thread Cert.AttnBFwdIdeal.nD Cert.AttnBFwdIdeal.τ).loc Cert.AttnBFwdIdeal.main_arg0) = m ((c.tc : Thread Cert.AttnBFwdIdeal.nD Cert.AttnBFwdIdeal.τ).loc Cert.AttnBFwdIdeal.main_arg0))
      ∧ θ_run (Cert.AttnBFwdRefIdeal.defs (F := Ideal)) (onTc (τ := Cert.AttnBFwdRefIdeal.τ) (Cert.AttnBFwdRefIdeal.main (F := Ideal))) ⟨m', fun _ => 0, g'⟩ (fun r => ∀ c : Dev Cert.AttnBFwdRefIdeal.nD,
          r.2.mem ((c.tc : Thread Cert.AttnBFwdRefIdeal.nD Cert.AttnBFwdRefIdeal.τ).loc Cert.AttnBFwdRefIdeal.main_v30) = v0 c
          ∧ r.2.mem ((c.tc : Thread Cert.AttnBFwdRefIdeal.nD Cert.AttnBFwdRefIdeal.τ).loc Cert.AttnBFwdRefIdeal.main_arg0) = m' ((c.tc : Thread Cert.AttnBFwdRefIdeal.nD Cert.AttnBFwdRefIdeal.τ).loc Cert.AttnBFwdRefIdeal.main_arg0))

def preserves_AttnAFwd_AttnAFwdIdeal : Prop :=
  IdealRules.named_const.Statement Cert.AttnAFwdIdeal.κ "mask" .f32 0xF149F2CA#32 ⊥

def algebraic_AttnAFwdIdeal_AttnAFwdRefIdeal_pre_finite_attn_a_fwd [hAttnAFwdIdeal : Cert.AttnAFwdIdeal.Facts] [hAttnAFwdRefIdeal : Cert.AttnAFwdRefIdeal.Facts] [hPre_finite_attn_a_fwd : Cert.Pre_finite_attn_a_fwd.Facts] : Prop :=
  ∀ (m : (ℓ : Loc Cert.AttnAFwdIdeal.nD Cert.AttnAFwdIdeal.τ Cert.AttnAFwdIdeal.sig) → Buf (Elt Ideal) ℓ) (g : Dev Cert.AttnAFwdIdeal.nD → PrngReg)
    (m' : (ℓ : Loc Cert.AttnAFwdRefIdeal.nD Cert.AttnAFwdRefIdeal.τ Cert.AttnAFwdRefIdeal.sig) → Buf (Elt Ideal) ℓ) (g' : Dev Cert.AttnAFwdRefIdeal.nD → PrngReg), Pre_AttnAFwdIdeal_finite_attn_a_fwd m →
    (∀ c : Dev Cert.AttnAFwdIdeal.nD,
      m' ((c.tc : Thread Cert.AttnAFwdRefIdeal.nD Cert.AttnAFwdRefIdeal.τ).loc Cert.AttnAFwdRefIdeal.main_arg0) = m ((c.tc : Thread Cert.AttnAFwdIdeal.nD Cert.AttnAFwdIdeal.τ).loc Cert.AttnAFwdIdeal.main_arg0)
      ∧ m' ((c.tc : Thread Cert.AttnAFwdRefIdeal.nD Cert.AttnAFwdRefIdeal.τ).loc Cert.AttnAFwdRefIdeal.main_arg1) = m ((c.tc : Thread Cert.AttnAFwdIdeal.nD Cert.AttnAFwdIdeal.τ).loc Cert.AttnAFwdIdeal.main_arg1)) →
    ∃ (v0 : (c : Dev Cert.AttnAFwdIdeal.nD) → Buf (Elt Ideal) ((c.tc : Thread Cert.AttnAFwdIdeal.nD Cert.AttnAFwdIdeal.τ).loc Cert.AttnAFwdIdeal.main_v16)),
      θ_run (Cert.AttnAFwdIdeal.defs (F := Ideal)) (onTc (τ := Cert.AttnAFwdIdeal.τ) (Cert.AttnAFwdIdeal.main (F := Ideal))) ⟨m, fun _ => 0, g⟩ (fun r => ∀ c : Dev Cert.AttnAFwdIdeal.nD,
          r.2.mem ((c.tc : Thread Cert.AttnAFwdIdeal.nD Cert.AttnAFwdIdeal.τ).loc Cert.AttnAFwdIdeal.main_v16) = v0 c
          ∧ r.2.mem ((c.tc : Thread Cert.AttnAFwdIdeal.nD Cert.AttnAFwdIdeal.τ).loc Cert.AttnAFwdIdeal.main_arg0) = m ((c.tc : Thread Cert.AttnAFwdIdeal.nD Cert.AttnAFwdIdeal.τ).loc Cert.AttnAFwdIdeal.main_arg0)
          ∧ r.2.mem ((c.tc : Thread Cert.AttnAFwdIdeal.nD Cert.AttnAFwdIdeal.τ).loc Cert.AttnAFwdIdeal.main_arg1) = m ((c.tc : Thread Cert.AttnAFwdIdeal.nD Cert.AttnAFwdIdeal.τ).loc Cert.AttnAFwdIdeal.main_arg1))
      ∧ θ_run (Cert.AttnAFwdRefIdeal.defs (F := Ideal)) (onTc (τ := Cert.AttnAFwdRefIdeal.τ) (Cert.AttnAFwdRefIdeal.main (F := Ideal))) ⟨m', fun _ => 0, g'⟩ (fun r => ∀ c : Dev Cert.AttnAFwdRefIdeal.nD,
          r.2.mem ((c.tc : Thread Cert.AttnAFwdRefIdeal.nD Cert.AttnAFwdRefIdeal.τ).loc Cert.AttnAFwdRefIdeal.main_v56) = v0 c
          ∧ r.2.mem ((c.tc : Thread Cert.AttnAFwdRefIdeal.nD Cert.AttnAFwdRefIdeal.τ).loc Cert.AttnAFwdRefIdeal.main_arg0) = m' ((c.tc : Thread Cert.AttnAFwdRefIdeal.nD Cert.AttnAFwdRefIdeal.τ).loc Cert.AttnAFwdRefIdeal.main_arg0)
          ∧ r.2.mem ((c.tc : Thread Cert.AttnAFwdRefIdeal.nD Cert.AttnAFwdRefIdeal.τ).loc Cert.AttnAFwdRefIdeal.main_arg1) = m' ((c.tc : Thread Cert.AttnAFwdRefIdeal.nD Cert.AttnAFwdRefIdeal.τ).loc Cert.AttnAFwdRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_DownLn_DownLnIdeal : Prop :=
  True

def algebraic_DownLnIdeal_DownLnRefIdeal [hDownLnIdeal : Cert.DownLnIdeal.Facts] [hDownLnRefIdeal : Cert.DownLnRefIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.DownLnRefIdeal.nD Cert.DownLnRefIdeal.τ Cert.DownLnRefIdeal.sig) → Buf (Elt Ideal) ℓ) (g' : Dev Cert.DownLnRefIdeal.nD → PrngReg), Pre_DownLnIdeal m →
    (∀ c : Dev Cert.DownLnIdeal.nD,
      m' ((c.tc : Thread Cert.DownLnRefIdeal.nD Cert.DownLnRefIdeal.τ).loc Cert.DownLnRefIdeal.main_arg0) = m ((c.tc : Thread Cert.DownLnIdeal.nD Cert.DownLnIdeal.τ).loc Cert.DownLnIdeal.main_arg0)
      ∧ m' ((c.tc : Thread Cert.DownLnRefIdeal.nD Cert.DownLnRefIdeal.τ).loc Cert.DownLnRefIdeal.main_arg1) = m ((c.tc : Thread Cert.DownLnIdeal.nD Cert.DownLnIdeal.τ).loc Cert.DownLnIdeal.main_arg1)
      ∧ m' ((c.tc : Thread Cert.DownLnRefIdeal.nD Cert.DownLnRefIdeal.τ).loc Cert.DownLnRefIdeal.main_arg2) = m ((c.tc : Thread Cert.DownLnIdeal.nD Cert.DownLnIdeal.τ).loc Cert.DownLnIdeal.main_arg2)
      ∧ m' ((c.tc : Thread Cert.DownLnRefIdeal.nD Cert.DownLnRefIdeal.τ).loc Cert.DownLnRefIdeal.main_arg3) = m ((c.tc : Thread Cert.DownLnIdeal.nD Cert.DownLnIdeal.τ).loc Cert.DownLnIdeal.main_arg3)
      ∧ m' ((c.tc : Thread Cert.DownLnRefIdeal.nD Cert.DownLnRefIdeal.τ).loc Cert.DownLnRefIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v2_0)) (v1 : (c : Dev Cert.DownLnIdeal.nD) → Buf (Elt Ideal) ((c.tc : Thread Cert.DownLnIdeal.nD Cert.DownLnIdeal.τ).loc Cert.DownLnIdeal.main_v2_1)) (v2 : (c : Dev Cert.DownLnIdeal.nD) → Buf (Elt Ideal) ((c.tc : Thread Cert.DownLnIdeal.nD Cert.DownLnIdeal.τ).loc Cert.DownLnIdeal.main_v2_2)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v2_0) = v0 c
          ∧ r.2.mem ((c.tc : Thread Cert.DownLnIdeal.nD Cert.DownLnIdeal.τ).loc Cert.DownLnIdeal.main_v2_1) = v1 c
          ∧ r.2.mem ((c.tc : Thread Cert.DownLnIdeal.nD Cert.DownLnIdeal.τ).loc Cert.DownLnIdeal.main_v2_2) = v2 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.DownLnRefIdeal.defs (F := Ideal)) (onTc (τ := Cert.DownLnRefIdeal.τ) (Cert.DownLnRefIdeal.main (F := Ideal))) ⟨m', fun _ => 0, g'⟩ (fun r => ∀ c : Dev Cert.DownLnRefIdeal.nD,
          r.2.mem ((c.tc : Thread Cert.DownLnRefIdeal.nD Cert.DownLnRefIdeal.τ).loc Cert.DownLnRefIdeal.main_v7) = v0 c
          ∧ r.2.mem ((c.tc : Thread Cert.DownLnRefIdeal.nD Cert.DownLnRefIdeal.τ).loc Cert.DownLnRefIdeal.main_v31) = v1 c
          ∧ r.2.mem ((c.tc : Thread Cert.DownLnRefIdeal.nD Cert.DownLnRefIdeal.τ).loc Cert.DownLnRefIdeal.main_v32) = v2 c
          ∧ r.2.mem ((c.tc : Thread Cert.DownLnRefIdeal.nD Cert.DownLnRefIdeal.τ).loc Cert.DownLnRefIdeal.main_arg0) = m' ((c.tc : Thread Cert.DownLnRefIdeal.nD Cert.DownLnRefIdeal.τ).loc Cert.DownLnRefIdeal.main_arg0)
          ∧ r.2.mem ((c.tc : Thread Cert.DownLnRefIdeal.nD Cert.DownLnRefIdeal.τ).loc Cert.DownLnRefIdeal.main_arg1) = m' ((c.tc : Thread Cert.DownLnRefIdeal.nD Cert.DownLnRefIdeal.τ).loc Cert.DownLnRefIdeal.main_arg1)
          ∧ r.2.mem ((c.tc : Thread Cert.DownLnRefIdeal.nD Cert.DownLnRefIdeal.τ).loc Cert.DownLnRefIdeal.main_arg2) = m' ((c.tc : Thread Cert.DownLnRefIdeal.nD Cert.DownLnRefIdeal.τ).loc Cert.DownLnRefIdeal.main_arg2)
          ∧ r.2.mem ((c.tc : Thread Cert.DownLnRefIdeal.nD Cert.DownLnRefIdeal.τ).loc Cert.DownLnRefIdeal.main_arg3) = m' ((c.tc : Thread Cert.DownLnRefIdeal.nD Cert.DownLnRefIdeal.τ).loc Cert.DownLnRefIdeal.main_arg3)
          ∧ r.2.mem ((c.tc : Thread Cert.DownLnRefIdeal.nD Cert.DownLnRefIdeal.τ).loc Cert.DownLnRefIdeal.main_arg4) = m' ((c.tc : Thread Cert.DownLnRefIdeal.nD Cert.DownLnRefIdeal.τ).loc Cert.DownLnRefIdeal.main_arg4))

def preserves_BiasBand_BiasBandIdeal : Prop :=
  True

def algebraic_BiasBandIdeal_BiasBandRefIdeal_pre_finite_band [hBiasBandIdeal : Cert.BiasBandIdeal.Facts] [hBiasBandRefIdeal : Cert.BiasBandRefIdeal.Facts] [hPre_finite_band : Cert.Pre_finite_band.Facts] : Prop :=
  ∀ (m : (ℓ : Loc Cert.BiasBandIdeal.nD Cert.BiasBandIdeal.τ Cert.BiasBandIdeal.sig) → Buf (Elt Ideal) ℓ) (g : Dev Cert.BiasBandIdeal.nD → PrngReg)
    (m' : (ℓ : Loc Cert.BiasBandRefIdeal.nD Cert.BiasBandRefIdeal.τ Cert.BiasBandRefIdeal.sig) → Buf (Elt Ideal) ℓ) (g' : Dev Cert.BiasBandRefIdeal.nD → PrngReg), Pre_BiasBandIdeal_finite_band m →
    (∀ c : Dev Cert.BiasBandIdeal.nD,
      m' ((c.tc : Thread Cert.BiasBandRefIdeal.nD Cert.BiasBandRefIdeal.τ).loc Cert.BiasBandRefIdeal.main_arg0) = m ((c.tc : Thread Cert.BiasBandIdeal.nD Cert.BiasBandIdeal.τ).loc Cert.BiasBandIdeal.main_arg0)) →
    ∃ (v0 : (c : Dev Cert.BiasBandIdeal.nD) → Buf (Elt Ideal) ((c.tc : Thread Cert.BiasBandIdeal.nD Cert.BiasBandIdeal.τ).loc Cert.BiasBandIdeal.main_v2)),
      θ_run (Cert.BiasBandIdeal.defs (F := Ideal)) (onTc (τ := Cert.BiasBandIdeal.τ) (Cert.BiasBandIdeal.main (F := Ideal))) ⟨m, fun _ => 0, g⟩ (fun r => ∀ c : Dev Cert.BiasBandIdeal.nD,
          r.2.mem ((c.tc : Thread Cert.BiasBandIdeal.nD Cert.BiasBandIdeal.τ).loc Cert.BiasBandIdeal.main_v2) = v0 c
          ∧ r.2.mem ((c.tc : Thread Cert.BiasBandIdeal.nD Cert.BiasBandIdeal.τ).loc Cert.BiasBandIdeal.main_arg0) = m ((c.tc : Thread Cert.BiasBandIdeal.nD Cert.BiasBandIdeal.τ).loc Cert.BiasBandIdeal.main_arg0))
      ∧ θ_run (Cert.BiasBandRefIdeal.defs (F := Ideal)) (onTc (τ := Cert.BiasBandRefIdeal.τ) (Cert.BiasBandRefIdeal.main (F := Ideal))) ⟨m', fun _ => 0, g'⟩ (fun r => ∀ c : Dev Cert.BiasBandRefIdeal.nD,
          r.2.mem ((c.tc : Thread Cert.BiasBandRefIdeal.nD Cert.BiasBandRefIdeal.τ).loc Cert.BiasBandRefIdeal.main_v15) = v0 c
          ∧ r.2.mem ((c.tc : Thread Cert.BiasBandRefIdeal.nD Cert.BiasBandRefIdeal.τ).loc Cert.BiasBandRefIdeal.main_arg0) = m' ((c.tc : Thread Cert.BiasBandRefIdeal.nD Cert.BiasBandRefIdeal.τ).loc Cert.BiasBandRefIdeal.main_arg0))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v0)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v0) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v3) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)
      ∧ m' ((c.tc : Thread Cert.MmNtRefIdeal.nD Cert.MmNtRefIdeal.τ).loc Cert.MmNtRefIdeal.main_arg2) = m ((c.tc : Thread Cert.MmNtIdeal.nD Cert.MmNtIdeal.τ).loc Cert.MmNtIdeal.main_arg2)) →
    ∃ (v0 : (c : Dev Cert.MmNtIdeal.nD) → Buf (Elt Ideal) ((c.tc : Thread Cert.MmNtIdeal.nD Cert.MmNtIdeal.τ).loc Cert.MmNtIdeal.main_v0)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v0) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1)
          ∧ r.2.mem ((c.tc : Thread Cert.MmNtIdeal.nD Cert.MmNtIdeal.τ).loc Cert.MmNtIdeal.main_arg2) = m ((c.tc : Thread Cert.MmNtIdeal.nD Cert.MmNtIdeal.τ).loc Cert.MmNtIdeal.main_arg2))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v5) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1)
          ∧ r.2.mem ((c.tc : Thread Cert.MmNtRefIdeal.nD Cert.MmNtRefIdeal.τ).loc Cert.MmNtRefIdeal.main_arg2) = m' ((c.tc : Thread Cert.MmNtRefIdeal.nD Cert.MmNtRefIdeal.τ).loc Cert.MmNtRefIdeal.main_arg2))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def Claim : Prop :=
  ∃ (hLossHead : Cert.LossHead.Facts) (hLossHeadIdeal : Cert.LossHeadIdeal.Facts) (hLossRefIdeal : Cert.LossRefIdeal.Facts) (hAttnB : Cert.AttnB.Facts) (hAttnBIdeal : Cert.AttnBIdeal.Facts) (hAttnBRefIdeal : Cert.AttnBRefIdeal.Facts) (hBiasBwd : Cert.BiasBwd.Facts) (hBiasBwdIdeal : Cert.BiasBwdIdeal.Facts) (hBiasRefIdeal : Cert.BiasRefIdeal.Facts) (hLnBwd : Cert.LnBwd.Facts) (hLnBwdIdeal : Cert.LnBwdIdeal.Facts) (hLnRefIdeal : Cert.LnRefIdeal.Facts) (hDxMix : Cert.DxMix.Facts) (hDxMixIdeal : Cert.DxMixIdeal.Facts) (hDxMixRefIdeal : Cert.DxMixRefIdeal.Facts) (hDxFfn : Cert.DxFfn.Facts) (hDxFfnIdeal : Cert.DxFfnIdeal.Facts) (hDxFfnRefIdeal : Cert.DxFfnRefIdeal.Facts) (hFfnMid : Cert.FfnMid.Facts) (hFfnMidIdeal : Cert.FfnMidIdeal.Facts) (hFfnMidRefIdeal : Cert.FfnMidRefIdeal.Facts) (hDxFirst : Cert.DxFirst.Facts) (hDxFirstIdeal : Cert.DxFirstIdeal.Facts) (hDxFirstRefIdeal : Cert.DxFirstRefIdeal.Facts) (hAttnA : Cert.AttnA.Facts) (hAttnAIdeal : Cert.AttnAIdeal.Facts) (hAttnARefIdeal : Cert.AttnARefIdeal.Facts) (hAttnBFwd : Cert.AttnBFwd.Facts) (hAttnBFwdIdeal : Cert.AttnBFwdIdeal.Facts) (hAttnBFwdRefIdeal : Cert.AttnBFwdRefIdeal.Facts) (hAttnAFwd : Cert.AttnAFwd.Facts) (hAttnAFwdIdeal : Cert.AttnAFwdIdeal.Facts) (hAttnAFwdRefIdeal : Cert.AttnAFwdRefIdeal.Facts) (hFfnUp : Cert.FfnUp.Facts) (hFfnUpIdeal : Cert.FfnUpIdeal.Facts) (hFfnUpRefIdeal : Cert.FfnUpRefIdeal.Facts) (hDownLn : Cert.DownLn.Facts) (hDownLnIdeal : Cert.DownLnIdeal.Facts) (hDownLnRefIdeal : Cert.DownLnRefIdeal.Facts) (hBiasBand : Cert.BiasBand.Facts) (hBiasBandIdeal : Cert.BiasBandIdeal.Facts) (hBiasBandRefIdeal : Cert.BiasBandRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hSumDev : Cert.SumDev.Facts) (hSumDevIdeal : Cert.SumDevIdeal.Facts) (hSumDevRefIdeal : Cert.SumDevRefIdeal.Facts) (hPre_finite_attn_b : Cert.Pre_finite_attn_b.Facts) (hPre_finite_bias : Cert.Pre_finite_bias.Facts) (hPre_finite_ln : Cert.Pre_finite_ln.Facts) (hPre_finite_mix : Cert.Pre_finite_mix.Facts) (hPre_finite_ffn : Cert.Pre_finite_ffn.Facts) (hPre_finite_mid : Cert.Pre_finite_mid.Facts) (hPre_finite_attn_a : Cert.Pre_finite_attn_a.Facts) (hPre_finite_attn_b_fwd : Cert.Pre_finite_attn_b_fwd.Facts) (hPre_finite_attn_a_fwd : Cert.Pre_finite_attn_a_fwd.Facts) (hPre_finite_band : Cert.Pre_finite_band.Facts),
    quiescent_LossHead (hLossHead := hLossHead)
    ∧ quiescent_LossHeadIdeal (hLossHeadIdeal := hLossHeadIdeal)
    ∧ quiescent_LossRefIdeal (hLossRefIdeal := hLossRefIdeal)
    ∧ quiescent_AttnB (hAttnB := hAttnB)
    ∧ quiescent_AttnBIdeal (hAttnBIdeal := hAttnBIdeal)
    ∧ quiescent_AttnBIdeal_pre_finite_attn_b (hAttnBIdeal := hAttnBIdeal) (hPre_finite_attn_b := hPre_finite_attn_b)
    ∧ quiescent_AttnBRefIdeal (hAttnBRefIdeal := hAttnBRefIdeal)
    ∧ quiescent_AttnBRefIdeal_pre_finite_attn_b (hAttnBRefIdeal := hAttnBRefIdeal) (hPre_finite_attn_b := hPre_finite_attn_b)
    ∧ quiescent_BiasBwd (hBiasBwd := hBiasBwd)
    ∧ quiescent_BiasBwdIdeal (hBiasBwdIdeal := hBiasBwdIdeal)
    ∧ quiescent_BiasBwdIdeal_pre_finite_bias (hBiasBwdIdeal := hBiasBwdIdeal) (hPre_finite_bias := hPre_finite_bias)
    ∧ quiescent_BiasRefIdeal (hBiasRefIdeal := hBiasRefIdeal)
    ∧ quiescent_BiasRefIdeal_pre_finite_bias (hBiasRefIdeal := hBiasRefIdeal) (hPre_finite_bias := hPre_finite_bias)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnRefIdeal (hLnRefIdeal := hLnRefIdeal)
    ∧ quiescent_LnRefIdeal_pre_finite_ln (hLnRefIdeal := hLnRefIdeal) (hPre_finite_ln := hPre_finite_ln)
    ∧ quiescent_DxMix (hDxMix := hDxMix)
    ∧ quiescent_DxMixIdeal (hDxMixIdeal := hDxMixIdeal)
    ∧ quiescent_DxMixIdeal_pre_finite_mix (hDxMixIdeal := hDxMixIdeal) (hPre_finite_mix := hPre_finite_mix)
    ∧ quiescent_DxMixRefIdeal (hDxMixRefIdeal := hDxMixRefIdeal)
    ∧ quiescent_DxMixRefIdeal_pre_finite_mix (hDxMixRefIdeal := hDxMixRefIdeal) (hPre_finite_mix := hPre_finite_mix)
    ∧ quiescent_DxFfn (hDxFfn := hDxFfn)
    ∧ quiescent_DxFfnIdeal (hDxFfnIdeal := hDxFfnIdeal)
    ∧ quiescent_DxFfnIdeal_pre_finite_ffn (hDxFfnIdeal := hDxFfnIdeal) (hPre_finite_ffn := hPre_finite_ffn)
    ∧ quiescent_DxFfnRefIdeal (hDxFfnRefIdeal := hDxFfnRefIdeal)
    ∧ quiescent_DxFfnRefIdeal_pre_finite_ffn (hDxFfnRefIdeal := hDxFfnRefIdeal) (hPre_finite_ffn := hPre_finite_ffn)
    ∧ quiescent_FfnMid (hFfnMid := hFfnMid)
    ∧ quiescent_FfnMidIdeal (hFfnMidIdeal := hFfnMidIdeal)
    ∧ quiescent_FfnMidIdeal_pre_finite_mid (hFfnMidIdeal := hFfnMidIdeal) (hPre_finite_mid := hPre_finite_mid)
    ∧ quiescent_FfnMidRefIdeal (hFfnMidRefIdeal := hFfnMidRefIdeal)
    ∧ quiescent_FfnMidRefIdeal_pre_finite_mid (hFfnMidRefIdeal := hFfnMidRefIdeal) (hPre_finite_mid := hPre_finite_mid)
    ∧ quiescent_DxFirst (hDxFirst := hDxFirst)
    ∧ quiescent_DxFirstIdeal (hDxFirstIdeal := hDxFirstIdeal)
    ∧ quiescent_DxFirstRefIdeal (hDxFirstRefIdeal := hDxFirstRefIdeal)
    ∧ quiescent_AttnA (hAttnA := hAttnA)
    ∧ quiescent_AttnAIdeal (hAttnAIdeal := hAttnAIdeal)
    ∧ quiescent_AttnAIdeal_pre_finite_attn_a (hAttnAIdeal := hAttnAIdeal) (hPre_finite_attn_a := hPre_finite_attn_a)
    ∧ quiescent_AttnARefIdeal (hAttnARefIdeal := hAttnARefIdeal)
    ∧ quiescent_AttnARefIdeal_pre_finite_attn_a (hAttnARefIdeal := hAttnARefIdeal) (hPre_finite_attn_a := hPre_finite_attn_a)
    ∧ quiescent_AttnBFwd (hAttnBFwd := hAttnBFwd)
    ∧ quiescent_AttnBFwdIdeal (hAttnBFwdIdeal := hAttnBFwdIdeal)
    ∧ quiescent_AttnBFwdIdeal_pre_finite_attn_b_fwd (hAttnBFwdIdeal := hAttnBFwdIdeal) (hPre_finite_attn_b_fwd := hPre_finite_attn_b_fwd)
    ∧ quiescent_AttnBFwdRefIdeal (hAttnBFwdRefIdeal := hAttnBFwdRefIdeal)
    ∧ quiescent_AttnBFwdRefIdeal_pre_finite_attn_b_fwd (hAttnBFwdRefIdeal := hAttnBFwdRefIdeal) (hPre_finite_attn_b_fwd := hPre_finite_attn_b_fwd)
    ∧ quiescent_AttnAFwd (hAttnAFwd := hAttnAFwd)
    ∧ quiescent_AttnAFwdIdeal (hAttnAFwdIdeal := hAttnAFwdIdeal)
    ∧ quiescent_AttnAFwdIdeal_pre_finite_attn_a_fwd (hAttnAFwdIdeal := hAttnAFwdIdeal) (hPre_finite_attn_a_fwd := hPre_finite_attn_a_fwd)
    ∧ quiescent_AttnAFwdRefIdeal (hAttnAFwdRefIdeal := hAttnAFwdRefIdeal)
    ∧ quiescent_AttnAFwdRefIdeal_pre_finite_attn_a_fwd (hAttnAFwdRefIdeal := hAttnAFwdRefIdeal) (hPre_finite_attn_a_fwd := hPre_finite_attn_a_fwd)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DownLn (hDownLn := hDownLn)
    ∧ quiescent_DownLnIdeal (hDownLnIdeal := hDownLnIdeal)
    ∧ quiescent_DownLnRefIdeal (hDownLnRefIdeal := hDownLnRefIdeal)
    ∧ quiescent_BiasBand (hBiasBand := hBiasBand)
    ∧ quiescent_BiasBandIdeal (hBiasBandIdeal := hBiasBandIdeal)
    ∧ quiescent_BiasBandIdeal_pre_finite_band (hBiasBandIdeal := hBiasBandIdeal) (hPre_finite_band := hPre_finite_band)
    ∧ quiescent_BiasBandRefIdeal (hBiasBandRefIdeal := hBiasBandRefIdeal)
    ∧ quiescent_BiasBandRefIdeal_pre_finite_band (hBiasBandRefIdeal := hBiasBandRefIdeal) (hPre_finite_band := hPre_finite_band)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ preserves_LossHead_LossHeadIdeal
    ∧ algebraic_LossHeadIdeal_LossRefIdeal (hLossHeadIdeal := hLossHeadIdeal) (hLossRefIdeal := hLossRefIdeal)
    ∧ preserves_AttnB_AttnBIdeal
    ∧ algebraic_AttnBIdeal_AttnBRefIdeal_pre_finite_attn_b (hAttnBIdeal := hAttnBIdeal) (hAttnBRefIdeal := hAttnBRefIdeal) (hPre_finite_attn_b := hPre_finite_attn_b)
    ∧ preserves_BiasBwd_BiasBwdIdeal
    ∧ algebraic_BiasBwdIdeal_BiasRefIdeal_pre_finite_bias (hBiasBwdIdeal := hBiasBwdIdeal) (hBiasRefIdeal := hBiasRefIdeal) (hPre_finite_bias := hPre_finite_bias)
    ∧ preserves_LnBwd_LnBwdIdeal
    ∧ algebraic_LnBwdIdeal_LnRefIdeal_pre_finite_ln (hLnBwdIdeal := hLnBwdIdeal) (hLnRefIdeal := hLnRefIdeal) (hPre_finite_ln := hPre_finite_ln)
    ∧ preserves_DxMix_DxMixIdeal
    ∧ algebraic_DxMixIdeal_DxMixRefIdeal_pre_finite_mix (hDxMixIdeal := hDxMixIdeal) (hDxMixRefIdeal := hDxMixRefIdeal) (hPre_finite_mix := hPre_finite_mix)
    ∧ preserves_DxFfn_DxFfnIdeal
    ∧ algebraic_DxFfnIdeal_DxFfnRefIdeal_pre_finite_ffn (hDxFfnIdeal := hDxFfnIdeal) (hDxFfnRefIdeal := hDxFfnRefIdeal) (hPre_finite_ffn := hPre_finite_ffn)
    ∧ preserves_FfnMid_FfnMidIdeal
    ∧ algebraic_FfnMidIdeal_FfnMidRefIdeal_pre_finite_mid (hFfnMidIdeal := hFfnMidIdeal) (hFfnMidRefIdeal := hFfnMidRefIdeal) (hPre_finite_mid := hPre_finite_mid)
    ∧ preserves_DxFirst_DxFirstIdeal
    ∧ algebraic_DxFirstIdeal_DxFirstRefIdeal (hDxFirstIdeal := hDxFirstIdeal) (hDxFirstRefIdeal := hDxFirstRefIdeal)
    ∧ preserves_AttnA_AttnAIdeal
    ∧ algebraic_AttnAIdeal_AttnARefIdeal_pre_finite_attn_a (hAttnAIdeal := hAttnAIdeal) (hAttnARefIdeal := hAttnARefIdeal) (hPre_finite_attn_a := hPre_finite_attn_a)
    ∧ preserves_AttnBFwd_AttnBFwdIdeal
    ∧ algebraic_AttnBFwdIdeal_AttnBFwdRefIdeal_pre_finite_attn_b_fwd (hAttnBFwdIdeal := hAttnBFwdIdeal) (hAttnBFwdRefIdeal := hAttnBFwdRefIdeal) (hPre_finite_attn_b_fwd := hPre_finite_attn_b_fwd)
    ∧ preserves_AttnAFwd_AttnAFwdIdeal
    ∧ algebraic_AttnAFwdIdeal_AttnAFwdRefIdeal_pre_finite_attn_a_fwd (hAttnAFwdIdeal := hAttnAFwdIdeal) (hAttnAFwdRefIdeal := hAttnAFwdRefIdeal) (hPre_finite_attn_a_fwd := hPre_finite_attn_a_fwd)
    ∧ preserves_FfnUp_FfnUpIdeal
    ∧ algebraic_FfnUpIdeal_FfnUpRefIdeal (hFfnUpIdeal := hFfnUpIdeal) (hFfnUpRefIdeal := hFfnUpRefIdeal)
    ∧ preserves_DownLn_DownLnIdeal
    ∧ algebraic_DownLnIdeal_DownLnRefIdeal (hDownLnIdeal := hDownLnIdeal) (hDownLnRefIdeal := hDownLnRefIdeal)
    ∧ preserves_BiasBand_BiasBandIdeal
    ∧ algebraic_BiasBandIdeal_BiasBandRefIdeal_pre_finite_band (hBiasBandIdeal := hBiasBandIdeal) (hBiasBandRefIdeal := hBiasBandRefIdeal) (hPre_finite_band := hPre_finite_band)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_SumDev_SumDevIdeal
    ∧ algebraic_SumDevIdeal_SumDevRefIdeal (hSumDevIdeal := hSumDevIdeal) (hSumDevRefIdeal := hSumDevRefIdeal)
-- ==== Pre_finite_attn_a.lean ====
abbrev S4096x3072 : Shape := ⟨2, ![4096, 3072]⟩
abbrev S257x16 : Shape := ⟨2, ![257, 16]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S257x16 : S_.BroadcastsInDim S257x16 (![] : Fin 0 → Fin S257x16.rank)
  bcast_S_S4096x1024 : S_.BroadcastsInDim S4096x1024 (![] : Fin 0 → Fin S4096x1024.rank)

variable [Facts]

def fn {F : FTy → Type} [FloatOps F] (main_arg0 : FVec F S4096x3072 .bf16) (main_arg1 : FVec F S257x16 .f32) (main_arg2 : FVec F S4096x1024 .bf16) : IVec S4096x3072 1 × IVec S257x16 1 × IVec S4096x1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S257x16 .f32 := Host.absf main_arg1
  let main_cst_0 : FVec F S_ .f32 := constant S_ .f32 0x7F800000#32
  let main_v5 : FVec F S257x16 .f32 := broadcastInDim S257x16 ![] bcast_S_S257x16 main_cst_0
  let main_v6 : IVec S257x16 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Pre_finite_attn_a_fwd.lean ====
abbrev S4096x3072 : Shape := ⟨2, ![4096, 3072]⟩
abbrev S257x16 : Shape := ⟨2, ![257, 16]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S257x16 : S_.BroadcastsInDim S257x16 (![] : Fin 0 → Fin S257x16.rank)

variable [Facts]

def fn {F : FTy → Type} [FloatOps F] (main_arg0 : FVec F S4096x3072 .bf16) (main_arg1 : FVec F S257x16 .f32) : IVec S4096x3072 1 × IVec S257x16 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S257x16 .f32 := Host.absf main_arg1
  let main_cst_0 : FVec F S_ .f32 := constant S_ .f32 0x7F800000#32
  let main_v5 : FVec F S257x16 .f32 := broadcastInDim S257x16 ![] bcast_S_S257x16 main_cst_0
  let main_v6 : IVec S257x16 1 := cmpf .olt main_v4 main_v5
  (main_v3, main_v6)
-- ==== Pre_finite_attn_b.lean ====
abbrev S4096x3072 : Shape := ⟨2, ![4096, 3072]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .bf16) (main_arg1 : FVec F S4096x1024 .bf16) : IVec S4096x3072 1 × IVec S4096x1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  (main_v3, main_v7)
-- ==== Pre_finite_attn_b_fwd.lean ====
abbrev S4096x3072 : Shape := ⟨2, ![4096, 3072]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)

variable [Facts]

def fn {F : FTy → Type} [FloatOps F] (main_arg0 : FVec F S4096x3072 .bf16) : IVec S4096x3072 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  main_v3
-- ==== Pre_finite_band.lean ====
abbrev S257x16 : Shape := ⟨2, ![257, 16]⟩
abbrev S_ : Shape := ⟨0, ![]⟩

class Facts : Prop where
  bcast_S_S257x16 : S_.BroadcastsInDim S257x16 (![] : Fin 0 → Fin S257x16.rank)

variable [Facts]

def fn {F : FTy → Type} [FloatOps F] (main_arg0 : FVec F S257x16 .f32) : IVec S257x16 1 :=
  let main_v0 : FVec F S257x16 .f32 := Host.absf main_arg0
  let main_cst : FVec F S_ .f32 := constant S_ .f32 0x7F800000#32
  let main_v1 : FVec F S257x16 .f32 := broadcastInDim S257x16 ![] bcast_S_S257x16 main_cst
  let main_v2 : IVec S257x16 1 := cmpf .olt main_v0 main_v1
  main_v2
-- ==== Pre_finite_bias.lean ====
abbrev S128x16x640 : Shape := ⟨3, ![128, 16, 640]⟩
abbrev S_ : Shape := ⟨0, ![]⟩

class Facts : Prop where
  bcast_S_S128x16x640 : S_.BroadcastsInDim S128x16x640 (![] : Fin 0 → Fin S128x16x640.rank)

variable [Facts]

def fn {F : FTy → Type} [FloatOps F] (main_arg0 : FVec F S128x16x640 .f32) (main_arg1 : FVec F S128x16x640 .f32) : IVec S128x16x640 1 × IVec S128x16x640 1 :=
  let main_v0 : FVec F S128x16x640 .f32 := Host.absf main_arg0
  let main_cst : FVec F S_ .f32 := constant S_ .f32 0x7F800000#32
  let main_v1 : FVec F S128x16x640 .f32 := broadcastInDim S128x16x640 ![] bcast_S_S128x16x640 main_cst
  let main_v2 : IVec S128x16x640 1 := cmpf .olt main_v0 main_v1
  let main_v3 : FVec F S128x16x640 .f32 := Host.absf main_arg1
  let main_cst_0 : FVec F S_ .f32 := constant S_ .f32 0x7F800000#32
  let main_v4 : FVec F S128x16x640 .f32 := broadcastInDim S128x16x640 ![] bcast_S_S128x16x640 main_cst_0
  let main_v5 : IVec S128x16x640 1 := cmpf .olt main_v3 main_v4
  (main_v2, main_v5)
-- ==== Pre_finite_ffn.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S1024x3072 : S_.BroadcastsInDim S1024x3072 (![] : Fin 0 → Fin S1024x3072.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg5 : FVec F S4096x1024 .f32) (main_arg6 : FVec F S4096x1024 .f32) (main_arg7 : FVec F S1024 .f32) (main_v3 : IVec S4096x3072 1) (main_v7 : IVec S4096x3072 1) (main_v11 : IVec S1024x3072 1) (main_v15 : IVec S1024x3072 1) (main_v18 : IVec S4096x1024 1) : IVec S4096x3072 1 × IVec S4096x3072 1 × IVec S1024x3072 1 × IVec S1024x3072 1 × IVec S4096x1024 1 × IVec S4096x1024 1 × IVec S4096x1024 1 × IVec S1024 1 :=
  let main_v19 : FVec F S4096x1024 .f32 := Host.absf main_arg5
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S4096x1024 .f32 := Host.absf main_arg6
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  let main_v25 : FVec F S1024 .f32 := Host.absf main_arg7
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  (main_v3, main_v7, main_v11, main_v15, main_v18, main_v21, main_v24, main_v27)

def fn {F : FTy → Type} [FloatOps F] (main_arg0 : FVec F S4096x3072 .bf16) (main_arg1 : FVec F S4096x3072 .bf16) (main_arg2 : FVec F S1024x3072 .bf16) (main_arg3 : FVec F S1024x3072 .bf16) (main_arg4 : FVec F S4096x1024 .f32) (main_arg5 : FVec F S4096x1024 .f32) (main_arg6 : FVec F S4096x1024 .f32) (main_arg7 : FVec F S1024 .f32) : IVec S4096x3072 1 × IVec S4096x3072 1 × IVec S1024x3072 1 × IVec S1024x3072 1 × IVec S4096x1024 1 × IVec S4096x1024 1 × IVec S4096x1024 1 × IVec S1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x3072 .f32 := (extf .f32 · bitsLt_bf16_f32) main_arg1
  let main_v5 : FVec F S4096x3072 .f32 := Host.absf main_v4
  let main_cst_0 : FVec F S_ .f32 := constant S_ .f32 0x7F800000#32
  let main_v6 : FVec F S4096x3072 .f32 := broadcastInDim S4096x3072 ![] bcast_S_S4096x3072 main_cst_0
  let main_v7 : IVec S4096x3072 1 := cmpf .olt main_v5 main_v6
  let main_v8 : FVec F S1024x3072 .f32 := (extf .f32 · bitsLt_bf16_f32) main_arg2
  let main_v9 : FVec F S1024x3072 .f32 := Host.absf main_v8
  let main_cst_1 : FVec F S_ .f32 := constant S_ .f32 0x7F800000#32
  let main_v10 : FVec F S1024x3072 .f32 := broadcastInDim S1024x3072 ![] bcast_S_S1024x3072 main_cst_1
  let main_v11 : IVec S1024x3072 1 := cmpf .olt main_v9 main_v10
  let main_v12 : FVec F S1024x3072 .f32 := (extf .f32 · bitsLt_bf16_f32) main_arg3
  let main_v13 : FVec F S1024x3072 .f32 := Host.absf main_v12
  let main_cst_2 : FVec F S_ .f32 := constant S_ .f32 0x7F800000#32
  let main_v14 : FVec F S1024x3072 .f32 := broadcastInDim S1024x3072 ![] bcast_S_S1024x3072 main_cst_2
  let main_v15 : IVec S1024x3072 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_arg7 main_v3 main_v7 main_v11 main_v15 main_v18
-- ==== Pre_finite_ln.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) (main_arg3 : FVec F S4096x1024 .f32) : IVec S4096x1024 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_mid.lean ====
abbrev S4096x1024 : Shape := ⟨2, ![4096, 1024]⟩
abbrev S1024x3072 : Shape := ⟨2, ![1024, 3072]⟩
abbrev S3072x1024 : Shape := ⟨2, ![3072, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x3072 : S_.BroadcastsInDim S1024x3072 (![] : Fin 0 → Fin S1024x3072.rank)
  bcast_S_S3072x1024 : S_.BroadcastsInDim S3072x1024 (![] : Fin 0 → Fin S3072x1024.rank)

variable [Facts]

def fn_part1 {F : FTy → Type} [FloatOps F] (main_v3 : IVec S4096x1024 1) (main_v7 : IVec S1024x3072 1) (main_v11 : IVec S1024x3072 1) (main_v15 : IVec S3072x1024 1) (main_v17 : FVec F S4096x1024 .f32) (main_v18 : FVec F S4096x1024 .f32) : IVec S4096x1024 1 × IVec S1024x3072 1 × IVec S1024x3072 1 × IVec S3072x1024 1 × IVec S4096x1024 1 :=
  let main_v19 : IVec S4096x1024 1 := cmpf .olt main_v17 main_v18
  (main_v3, main_v7, main_v11, main_v15, main_v19)

def fn {F : FTy → Type} [FloatOps F] (main_arg0 : FVec F S4096x1024 .bf16) (main_arg1 : FVec F S1024x3072 .bf16) (main_arg2 : FVec F S1024x3072 .bf16) (main_arg3 : FVec F S3072x1024 .bf16) (main_arg4 : FVec F S4096x1024 .bf16) : IVec S4096x1024 1 × IVec S1024x3072 1 × IVec S1024x3072 1 × IVec S3072x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x3072 .f32 := (extf .f32 · bitsLt_bf16_f32) main_arg1
  let main_v5 : FVec F S1024x3072 .f32 := Host.absf main_v4
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_v8 : FVec F S1024x3072 .f32 := (extf .f32 · bitsLt_bf16_f32) main_arg2
  let main_v9 : FVec F S1024x3072 .f32 := Host.absf main_v8
  let main_cst_1 : FVec F S_ .f32 := constant S_ .f32 0x7F800000#32
  let main_v10 : FVec F S1024x3072 .f32 := broadcastInDim S1024x3072 ![] bcast_S_S1024x3072 main_cst_1
  let main_v11 : IVec S1024x3072 1 := cmpf .olt main_v9 main_v10
  let main_v12 : FVec F S3072x1024 .f32 := (extf .f32 · bitsLt_bf16_f32) main_arg3
  let main_v13 : FVec F S3072x1024 .f32 := Host.absf main_v12
  let main_cst_2 : FVec F S_ .f32 := constant S_ .f32 0x7F800000#32
  let main_v14 : FVec F S3072x1024 .f32 := broadcastInDim S3072x1024 ![] bcast_S_S3072x1024 main_cst_2
  let main_v15 : IVec S3072x1024 1 := cmpf .olt main_v13 main_v14
  let main_v16 : FVec F S4096x1024 .f32 := (extf .f32 · bitsLt_bf16_f32) main_arg4
  let main_v17 : FVec F S4096x1024 .f32 := Host.absf main_v16
  let main_cst_3 : FVec F S_ .f32 := constant S_ .f32 0x7F800000#32
  let main_v18 : FVec F S4096x1024 .f32 := broadcastInDim S4096x1024 ![] bcast_S_S4096x1024 main_cst_3
  fn_part1 (F := F) main_v3 main_v7 main_v11 main_v15 main_v17 main_v18
-- ==== Pre_finite_mix.lean ====
abbrev S4096x1024 : Shape := ⟨2, ![4096, 1024]⟩
abbrev S1024x3072 : Shape := ⟨2, ![1024, 3072]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x3072 : S_.BroadcastsInDim S1024x3072 (![] : Fin 0 → Fin S1024x3072.rank)
  bcast_S_S1024 : S_.BroadcastsInDim S1024 (![] : Fin 0 → Fin S1024.rank)

variable [Facts]

def fn_part1 {F : FTy → Type} [FloatOps F] (main_arg5 : FVec F S4096x1024 .f32) (main_arg6 : FVec F S4096x1024 .f32) (main_arg7 : FVec F S1024 .f32) (main_v3 : IVec S4096x1024 1) (main_v7 : IVec S4096x1024 1) (main_v11 : IVec S4096x1024 1) (main_v15 : IVec S1024x3072 1) (main_v18 : IVec S4096x1024 1) : IVec S4096x1024 1 × IVec S4096x1024 1 × IVec S4096x1024 1 × IVec S1024x3072 1 × IVec S4096x1024 1 × IVec S4096x1024 1 × IVec S4096x1024 1 × IVec S1024 1 :=
  let main_v19 : FVec F S4096x1024 .f32 := Host.absf main_arg5
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S4096x1024 .f32 := Host.absf main_arg6
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  let main_v25 : FVec F S1024 .f32 := Host.absf main_arg7
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  (main_v3, main_v7, main_v11, main_v15, main_v18, main_v21, main_v24, main_v27)

def fn {F : FTy → Type} [FloatOps F] (main_arg0 : FVec F S4096x1024 .bf16) (main_arg1 : FVec F S4096x1024 .bf16) (main_arg2 : FVec F S4096x1024 .bf16) (main_arg3 : FVec F S1024x3072 .bf16) (main_arg4 : FVec F S4096x1024 .f32) (main_arg5 : FVec F S4096x1024 .f32) (main_arg6 : FVec F S4096x1024 .f32) (main_arg7 : FVec F S1024 .f32) : IVec S4096x1024 1 × IVec S4096x1024 1 × IVec S4096x1024 1 × IVec S1024x3072 1 × IVec S4096x1024 1 × IVec S4096x1024 1 × IVec S4096x1024 1 × IVec S1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S1024x3072 .f32 := (extf .f32 · bitsLt_bf16_f32) main_arg3
  let main_v13 : FVec F S1024x3072 .f32 := Host.absf main_v12
  let main_cst_2 : FVec F S_ .f32 := constant S_ .f32 0x7F800000#32
  let main_v14 : FVec F S1024x3072 .f32 := broadcastInDim S1024x3072 ![] bcast_S_S1024x3072 main_cst_2
  let main_v15 : IVec S1024x3072 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_arg7 main_v3 main_v7 main_v11 main_v15 main_v18
-- ==== LossHead.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AttnB.lean ====
abbrev S4096x3072 : Shape := ⟨2, ![4096, 3072]⟩
abbrev S4096x1024 : Shape := ⟨2, ![4096, 1024]⟩
abbrev S256x128 : Shape := ⟨2, ![256, 128]⟩
abbrev S2048x128 : Shape := ⟨2, ![2048, 128]⟩
abbrev S2x8x256x256 : Shape := ⟨4, ![2, 8, 256, 256]⟩
abbrev S256x256 : Shape := ⟨2, ![256, 256]⟩
abbrev S1x128 : Shape := ⟨2, ![1, 128]⟩
abbrev S256x1 : Shape := ⟨2, ![256, 1]⟩
abbrev S1x1x256x256 : Shape := ⟨4, ![1, 1, 256, 256]⟩
abbrev S256 : Shape := ⟨1, ![256]⟩

abbrev nBuf : Space → Nat
  | .hbm => 5
  | .vmem => 18
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | .local _ .vmem, ⟨16, _⟩ => ⟨S2x8x256x256, .f32⟩
  | .local _ .vmem, ⟨17, _⟩ => ⟨S2x8x256x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c2_i32 : BitVec 32 := 2#32
  let c0_i32_16 : BitVec 32 := 0#32
  let v48 : BitVec 1 := Scalar.cmpi .eq c2_i32 c0_i32_16
  let c1_i32 : BitVec 32 := 1#32
  let v49 : BitVec 32 := Scalar.select v48 c1_i32 c2_i32
  let v50 : BitVec 32 := Scalar.remsi arg2 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c1_i32_20 : BitVec 32 := 1#32
  let v58 : BitVec 1 := Scalar.cmpi .eq v57 c1_i32_20
  let v71 : BitVec 32 := Scalar.extui v58
  let c0_i32_28 : BitVec 32 := 0#32
  let v72 : BitVec 1 := Scalar.cmpi .ne v71 c0_i32_28
  v72

def k0_mult1 (i : grid0.Coords) : BitVec 32 :=
  let arg2 : BitVec 32 := BitVec.ofNat 32 (i 2).val
  let c256_i32 : BitVec 32 := 256#32
  let v137 : BitVec 32 := Scalar.muli arg2 c256_i32
  v137
def k0_mult2 (i : grid0.Coords) : BitVec 32 :=
  let arg2 : BitVec 32 := BitVec.ofNat 32 (i 2).val
  let c1_i32_57 : BitVec 32 := 1#32
  let v136 : BitVec 32 := Scalar.subi arg2 c1_i32_57
  let c256_i32_58 : BitVec 32 := 256#32
  let v139 : BitVec 32 := Scalar.muli v136 c256_i32_58
  v139
def k0_off1 (i : grid0.Coords) : Fin 2 → Nat :=
  let arg2 : BitVec 32 := BitVec.ofNat 32 (i 2).val
  let c256_i32 : BitVec 32 := 256#32
  let v137 : BitVec 32 := Scalar.muli arg2 c256_i32
  let v138 : BitVec 32 := v137
  let v141 : Index := Scalar.indexCast v138
  let c0_59 : Index := 0#32
  ![v141.toNat, 0]
def k0_off2 (i : grid0.Coords) : Fin 2 → Nat :=
  let arg2 : BitVec 32 := BitVec.ofNat 32 (i 2).val
  let c1_i32_57 : BitVec 32 := 1#32
  let v136 : BitVec 32 := Scalar.subi arg2 c1_i32_57
  let c256_i32_58 : BitVec 32 := 256#32
  let v139 : BitVec 32 := Scalar.muli v136 c256_i32_58
  let v140 : BitVec 32 := v139
  let v143 : Index := Scalar.indexCast v140
  let c0_60 : Index := 0#32
  ![v143.toNat, 0]
def k0_off3 (i : grid0.Coords) : Fin 4 → Nat :=
  let c0_95 : Index := 0#32
  let arg2 : BitVec 32 := BitVec.ofNat 32 (i 2).val
  let v272 : Index := Scalar.indexCast arg2
  let c0_96 : Index := 0#32
  let c0_97 : Index := 0#32
  ![0, v272.toNat, 0, 0]
def k0_off4 (i : grid0.Coords) : Fin 4 → Nat :=
  let c1 : Index := 1#32
  let arg2 : BitVec 32 := BitVec.ofNat 32 (i 2).val
  let v281 : Index := Scalar.indexCast arg2
  let c0_101 : Index := 0#32
  let c0_102 : Index := 0#32
  ![1, v281.toNat, 0, 0]
def k0_off5 (i : grid0.Coords) : Fin 4 → Nat :=
  let c0_106 : Index := 0#32
  let arg2 : BitVec 32 := BitVec.ofNat 32 (i 2).val
  let c1_i32_57 : BitVec 32 := 1#32
  let v136 : BitVec 32 := Scalar.subi arg2 c1_i32_57
  let v290 : Index := Scalar.indexCast v136
  let c0_107 : Index := 0#32
  let c0_108 : Index := 0#32
  ![0, v290.toNat, 0, 0]
def k0_off6 (i : grid0.Coords) : Fin 4 → Nat :=
  let c1_112 : Index := 1#32
  let arg2 : BitVec 32 := BitVec.ofNat 32 (i 2).val
  let c1_i32_57 : BitVec 32 := 1#32
  let v136 : BitVec 32 := Scalar.subi arg2 c1_i32_57
  let v299 : Index := Scalar.indexCast v136
  let c0_113 : Index := 0#32
  let c0_114 : Index := 0#32
  ![1, v299.toNat, 0, 0]
def k0_mult3 (i : grid0.Coords) : BitVec 32 :=
  let arg2 : BitVec 32 := BitVec.ofNat 32 (i 2).val
  let c256_i32 : BitVec 32 := 256#32
  let v136 : BitVec 32 := Scalar.muli arg2 c256_i32
  v136
def k0_off7 (i : grid0.Coords) : Fin 2 → Nat :=
  let arg2 : BitVec 32 := BitVec.ofNat 32 (i 2).val
  let c256_i32 : BitVec 32 := 256#32
  let v136 : BitVec 32 := Scalar.muli arg2 c256_i32
  let v137 : BitVec 32 := v136
  let v138 : Index := Scalar.indexCast v137
  let c0_57 : Index := 0#32
  ![v138.toNat, 0]
def k0_off8 (i : grid0.Coords) : Fin 4 → Nat :=
  let c0_77 : Index := 0#32
  let arg2 : BitVec 32 := BitVec.ofNat 32 (i 2).val
  let v209 : Index := Scalar.indexCast arg2
  let c0_78 : Index := 0#32
  let c0_79 : Index := 0#32
  ![0, v209.toNat, 0, 0]
def k0_off9 (i : grid0.Coords) : Fin 4 → Nat :=
  let c1 : Index := 1#32
  let arg2 : BitVec 32 := BitVec.ofNat 32 (i 2).val
  let v218 : Index := Scalar.indexCast arg2
  let c0_83 : Index := 0#32
  let c0_84 : Index := 0#32
  ![1, v218.toNat, 0, 0]
@[reducible] def k0_t1_loop (i : grid0.Coords) : Scf.Loop 32 :=
  let c0_i32_36 : BitVec 32 := 0#32
  let arg2 : BitVec 32 := BitVec.ofNat 32 (i 2).val
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_38 : BitVec 32 := 1#32
  ⟨c0_i32_36, v95, c1_i32_38⟩
def k0_mult4 (i : grid0.Coords) (k0_t1 : Fin (k0_t1_loop i).trips) : BitVec 32 :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c1_i32_38 : BitVec 32 := 1#32
  let arg14 : BitVec 32 := Scf.iv c0_i32_36 c1_i32_38 k0_t1
  let v136 : BitVec 32 := Scalar.muli c2_i32_57 arg14
  let v137 : BitVec 32 := Scalar.subi v70 v136
  let c256_i32 : BitVec 32 := 256#32
  let v141 : BitVec 32 := Scalar.muli v137 c256_i32
  v141
def k0_mult5 (i : grid0.Coords) (k0_t1 : Fin (k0_t1_loop i).trips) : BitVec 32 :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c1_i32_38 : BitVec 32 := 1#32
  let arg14 : BitVec 32 := Scf.iv c0_i32_36 c1_i32_38 k0_t1
  let v139 : BitVec 32 := Scalar.muli c2_i32_59 arg14
  let v140 : BitVec 32 := Scalar.subi v138 v139
  let c256_i32_60 : BitVec 32 := 256#32
  let v143 : BitVec 32 := Scalar.muli v140 c256_i32_60
  v143
def k0_off10 (i : grid0.Coords) (k0_t1 : Fin (k0_t1_loop i).trips) : Fin 2 → Nat :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c1_i32_38 : BitVec 32 := 1#32
  let arg14 : BitVec 32 := Scf.iv c0_i32_36 c1_i32_38 k0_t1
  let v136 : BitVec 32 := Scalar.muli c2_i32_57 arg14
  let v137 : BitVec 32 := Scalar.subi v70 v136
  let c256_i32 : BitVec 32 := 256#32
  let v141 : BitVec 32 := Scalar.muli v137 c256_i32
  let v142 : BitVec 32 := v141
  let v145 : Index := Scalar.indexCast v142
  let c0_61 : Index := 0#32
  ![v145.toNat, 0]
def k0_off11 (i : grid0.Coords) (k0_t1 : Fin (k0_t1_loop i).trips) : Fin 2 → Nat :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c1_i32_38 : BitVec 32 := 1#32
  let arg14 : BitVec 32 := Scf.iv c0_i32_36 c1_i32_38 k0_t1
  let v139 : BitVec 32 := Scalar.muli c2_i32_59 arg14
  let v140 : BitVec 32 := Scalar.subi v138 v139
  let c256_i32_60 : BitVec 32 := 256#32
  let v143 : BitVec 32 := Scalar.muli v140 c256_i32_60
  let v144 : BitVec 32 := v143
  let v147 : Index := Scalar.indexCast v144
  let c0_62 : Index := 0#32
  ![v147.toNat, 0]
def k0_off12 (i : grid0.Coords) (k0_t1 : Fin (k0_t1_loop i).trips) : Fin 4 → Nat :=
  let c0_93 : Index := 0#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c1_i32_38 : BitVec 32 := 1#32
  let arg14 : BitVec 32 := Scf.iv c0_i32_36 c1_i32_38 k0_t1
  let v136 : BitVec 32 := Scalar.muli c2_i32_57 arg14
  let v137 : BitVec 32 := Scalar.subi v70 v136
  let v265 : Index := Scalar.indexCast v137
  let c0_94 : Index := 0#32
  let c0_95 : Index := 0#32
  ![0, v265.toNat, 0, 0]
def k0_off13 (i : grid0.Coords) (k0_t1 : Fin (k0_t1_loop i).trips) : Fin 4 → Nat :=
  let c1 : Index := 1#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c1_i32_38 : BitVec 32 := 1#32
  let arg14 : BitVec 32 := Scf.iv c0_i32_36 c1_i32_38 k0_t1
  let v136 : BitVec 32 := Scalar.muli c2_i32_57 arg14
  let v137 : BitVec 32 := Scalar.subi v70 v136
  let v274 : Index := Scalar.indexCast v137
  let c0_99 : Index := 0#32
  let c0_100 : Index := 0#32
  ![1, v274.toNat, 0, 0]
def k0_off14 (i : grid0.Coords) (k0_t1 : Fin (k0_t1_loop i).trips) : Fin 4 → Nat :=
  let c0_104 : Index := 0#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c1_i32_38 : BitVec 32 := 1#32
  let arg14 : BitVec 32 := Scf.iv c0_i32_36 c1_i32_38 k0_t1
  let v139 : BitVec 32 := Scalar.muli c2_i32_59 arg14
  let v140 : BitVec 32 := Scalar.subi v138 v139
  let v283 : Index := Scalar.indexCast v140
  let c0_105 : Index := 0#32
  let c0_106 : Index := 0#32
  ![0, v283.toNat, 0, 0]
def k0_off15 (i : grid0.Coords) (k0_t1 : Fin (k0_t1_loop i).trips) : Fin 4 → Nat :=
  let c1_110 : Index := 1#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c1_i32_38 : BitVec 32 := 1#32
  let arg14 : BitVec 32 := Scf.iv c0_i32_36 c1_i32_38 k0_t1
  let v139 : BitVec 32 := Scalar.muli c2_i32_59 arg14
  let v140 : BitVec 32 := Scalar.subi v138 v139
  let v292 : Index := Scalar.indexCast v140
  let c0_111 : Index := 0#32
  let c0_112 : Index := 0#32
  ![1, v292.toNat, 0, 0]
@[reducible] def k0_t2_loop (i : grid0.Coords) : Scf.Loop 32 :=
  let c0_i32_36 : BitVec 32 := 0#32
  let arg2 : BitVec 32 := BitVec.ofNat 32 (i 2).val
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let v92 : BitVec 32 := Scalar.addi c0_i32_36 v91
  let c1_i32_39 : BitVec 32 := 1#32
  ⟨v95, v92, c1_i32_39⟩
def k0_mult6 (i : grid0.Coords) (k0_t2 : Fin (k0_t2_loop i).trips) : BitVec 32 :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v136 : BitVec 32 := Scalar.muli c2_i32_57 arg14
  let v137 : BitVec 32 := Scalar.subi v70 v136
  let c256_i32 : BitVec 32 := 256#32
  let v141 : BitVec 32 := Scalar.muli v137 c256_i32
  v141
def k0_mult7 (i : grid0.Coords) (k0_t2 : Fin (k0_t2_loop i).trips) : BitVec 32 :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v139 : BitVec 32 := Scalar.muli c2_i32_59 arg14
  let v140 : BitVec 32 := Scalar.subi v138 v139
  let c256_i32_60 : BitVec 32 := 256#32
  let v143 : BitVec 32 := Scalar.muli v140 c256_i32_60
  v143
def k0_off16 (i : grid0.Coords) (k0_t2 : Fin (k0_t2_loop i).trips) : Fin 2 → Nat :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v136 : BitVec 32 := Scalar.muli c2_i32_57 arg14
  let v137 : BitVec 32 := Scalar.subi v70 v136
  let c256_i32 : BitVec 32 := 256#32
  let v141 : BitVec 32 := Scalar.muli v137 c256_i32
  let v142 : BitVec 32 := v141
  let v145 : Index := Scalar.indexCast v142
  let c0_61 : Index := 0#32
  ![v145.toNat, 0]
def k0_off17 (i : grid0.Coords) (k0_t2 : Fin (k0_t2_loop i).trips) : Fin 2 → Nat :=
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v139 : BitVec 32 := Scalar.muli c2_i32_59 arg14
  let v140 : BitVec 32 := Scalar.subi v138 v139
  let c256_i32_60 : BitVec 32 := 256#32
  let v143 : BitVec 32 := Scalar.muli v140 c256_i32_60
  let v144 : BitVec 32 := v143
  let v147 : Index := Scalar.indexCast v144
  let c0_62 : Index := 0#32
  ![v147.toNat, 0]
def k0_off18 (i : grid0.Coords) (k0_t2 : Fin (k0_t2_loop i).trips) : Fin 4 → Nat :=
  let c0_93 : Index := 0#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v136 : BitVec 32 := Scalar.muli c2_i32_57 arg14
  let v137 : BitVec 32 := Scalar.subi v70 v136
  let v265 : Index := Scalar.indexCast v137
  let c0_94 : Index := 0#32
  let c0_95 : Index := 0#32
  ![0, v265.toNat, 0, 0]
def k0_off19 (i : grid0.Coords) (k0_t2 : Fin (k0_t2_loop i).trips) : Fin 4 → Nat :=
  let c1 : Index := 1#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c2_i32_57 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v136 : BitVec 32 := Scalar.muli c2_i32_57 arg14
  let v137 : BitVec 32 := Scalar.subi v70 v136
  let v274 : Index := Scalar.indexCast v137
  let c0_99 : Index := 0#32
  let c0_100 : Index := 0#32
  ![1, v274.toNat, 0, 0]
def k0_off20 (i : grid0.Coords) (k0_t2 : Fin (k0_t2_loop i).trips) : Fin 4 → Nat :=
  let c0_104 : Index := 0#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v139 : BitVec 32 := Scalar.muli c2_i32_59 arg14
  let v140 : BitVec 32 := Scalar.subi v138 v139
  let v283 : Index := Scalar.indexCast v140
  let c0_105 : Index := 0#32
  let c0_106 : Index := 0#32
  ![0, v283.toNat, 0, 0]
def k0_off21 (i : grid0.Coords) (k0_t2 : Fin (k0_t2_loop i).trips) : Fin 4 → Nat :=
  let c1_110 : Index := 1#32
  let arg2 : BitVec 32 := BitVec.ofNat 32 (i 2).val
  let c1_i32_21 : BitVec 32 := 1#32
  let v59 : BitVec 32 := Scalar.subi arg2 c1_i32_21
  let c2_i32_22 : BitVec 32 := 2#32
  let c0_i32_23 : BitVec 32 := 0#32
  let v60 : BitVec 1 := Scalar.cmpi .eq c2_i32_22 c0_i32_23
  let c1_i32_24 : BitVec 32 := 1#32
  let v61 : BitVec 32 := Scalar.select v60 c1_i32_24 c2_i32_22
  let v62 : BitVec 32 := Scalar.remsi arg2 v61
  let c0_i32_26 : BitVec 32 := 0#32
  let v64 : BitVec 1 := Scalar.cmpi .slt v62 c0_i32_26
  let c0_i32_27 : BitVec 32 := 0#32
  let v65 : BitVec 1 := Scalar.cmpi .slt v61 c0_i32_27
  let v66 : BitVec 1 := Scalar.xori v64 v65
  let c0_i32_25 : BitVec 32 := 0#32
  let v63 : BitVec 1 := Scalar.cmpi .ne v62 c0_i32_25
  let v67 : BitVec 1 := Scalar.andi v66 v63
  let v68 : BitVec 32 := Scalar.addi v62 v61
  let v69 : BitVec 32 := Scalar.select v67 v68 v62
  let v70 : BitVec 32 := Scalar.subi v59 v69
  let c1_i32_58 : BitVec 32 := 1#32
  let v138 : BitVec 32 := Scalar.subi v70 c1_i32_58
  let c2_i32_59 : BitVec 32 := 2#32
  let c0_i32_36 : BitVec 32 := 0#32
  let c0_i32_30 : BitVec 32 := 0#32
  let v75 : BitVec 1 := Scalar.cmpi .sgt arg2 c0_i32_30
  let v76 : BitVec 32 := Scalar.extui v75
  let c0_i32_31 : BitVec 32 := 0#32
  let v77 : BitVec 1 := Scalar.cmpi .slt arg2 c0_i32_31
  let v78 : BitVec 32 := Scalar.extui v77
  let v79 : BitVec 32 := Scalar.subi v76 v78
  let c2_i32_29 : BitVec 32 := 2#32
  let c0_i32_32 : BitVec 32 := 0#32
  let v80 : BitVec 1 := Scalar.cmpi .sgt c2_i32_29 c0_i32_32
  let v81 : BitVec 32 := Scalar.extui v80
  let c0_i32_33 : BitVec 32 := 0#32
  let v82 : BitVec 1 := Scalar.cmpi .slt c2_i32_29 c0_i32_33
  let v83 : BitVec 32 := Scalar.extui v82
  let v84 : BitVec 32 := Scalar.subi v81 v83
  let v85 : BitVec 1 := Scalar.cmpi .ne v79 v84
  let v86 : BitVec 32 := Scalar.remsi arg2 c2_i32_29
  let c0_i32_34 : BitVec 32 := 0#32
  let v87 : BitVec 1 := Scalar.cmpi .ne v86 c0_i32_34
  let v88 : BitVec 1 := Scalar.andi v85 v87
  let v74 : BitVec 32 := Scalar.divsi arg2 c2_i32_29
  let c1_i32_35 : BitVec 32 := 1#32
  let v89 : BitVec 32 := Scalar.subi v74 c1_i32_35
  let v90 : BitVec 32 := Scalar.select v88 v89 v74
  let v91 : BitVec 32 := Scalar.subi v90 c0_i32_36
  let c1_i32_37 : BitVec 32 := 1#32
  let v93 : BitVec 32 := Scalar.divsi v91 c1_i32_37
  let v94 : BitVec 32 := Scalar.muli v93 c1_i32_37
  let v95 : BitVec 32 := Scalar.addi c0_i32_36 v94
  let c1_i32_39 : BitVec 32 := 1#32
  let arg14 : BitVec 32 := Scf.iv v95 c1_i32_39 k0_t2
  let v139 : BitVec 32 := Scalar.muli c2_i32_59 arg14
  let v140 : BitVec 32 := Scalar.subi v138 v139
  let v292 : Index := Scalar.indexCast v140
  let c0_111 : Index := 0#32
  let c0_112 : Index := 0#32
  ![1, v292.toNat, 0, 0]
@[reducible] def k0_t3_loop (i : grid0.Coords) : Scf.Loop 32 :=
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_50 : BitVec 32 := 1#32
  ⟨c0_i32_48, v120, c1_i32_50⟩
def k0_mult8 (i : grid0.Coords) (k0_t3 : Fin (k0_t3_loop i).trips) : BitVec 32 :=
  let c2_i32_57 : BitVec 32 := 2#32
  let c0_i32_48 : BitVec 32 := 0#32
  let c1_i32_50 : BitVec 32 := 1#32
  let arg14 : BitVec 32 := Scf.iv c0_i32_48 c1_i32_50 k0_t3
  let v136 : BitVec 32 := Scalar.muli c2_i32_57 arg14
  let c256_i32 : BitVec 32 := 256#32
  let v139 : BitVec 32 := Scalar.muli v136 c256_i32
  v139
def k0_mult9 (i : grid0.Coords) (k0_t3 : Fin (k0_t3_loop i).trips) : BitVec 32 :=
  let c2_i32_58 : BitVec 32 := 2#32
  let c0_i32_48 : BitVec 32 := 0#32
  let c1_i32_50 : BitVec 32 := 1#32
  let arg14 : BitVec 32 := Scf.iv c0_i32_48 c1_i32_50 k0_t3
  let v137 : BitVec 32 := Scalar.muli c2_i32_58 arg14
  let c1_i32_59 : BitVec 32 := 1#32
  let v138 : BitVec 32 := Scalar.addi v137 c1_i32_59
  let c256_i32_60 : BitVec 32 := 256#32
  let v141 : BitVec 32 := Scalar.muli v138 c256_i32_60
  v141
def k0_off22 (i : grid0.Coords) (k0_t3 : Fin (k0_t3_loop i).trips) : Fin 4 → Nat :=
  let c0_61 : Index := 0#32
  let c2_i32_57 : BitVec 32 := 2#32
  let c0_i32_48 : BitVec 32 := 0#32
  let c1_i32_50 : BitVec 32 := 1#32
  let arg14 : BitVec 32 := Scf.iv c0_i32_48 c1_i32_50 k0_t3
  let v136 : BitVec 32 := Scalar.muli c2_i32_57 arg14
  let v143 : Index := Scalar.indexCast v136
  let c0_62 : Index := 0#32
  let c0_63 : Index := 0#32
  ![0, v143.toNat, 0, 0]
def k0_off23 (i : grid0.Coords) (k0_t3 : Fin (k0_t3_loop i).trips) : Fin 4 → Nat :=
  let c1 : Index := 1#32
  let c2_i32_57 : BitVec 32 := 2#32
  let c0_i32_48 : BitVec 32 := 0#32
  let c1_i32_50 : BitVec 32 := 1#32
  let arg14 : BitVec 32 := Scf.iv c0_i32_48 c1_i32_50 k0_t3
  let v136 : BitVec 32 := Scalar.muli c2_i32_57 arg14
  let v146 : Index := Scalar.indexCast v136
  let c0_64 : Index := 0#32
  let c0_65 : Index := 0#32
  ![1, v146.toNat, 0, 0]
def k0_off24 (i : grid0.Coords) (k0_t3 : Fin (k0_t3_loop i).trips) : Fin 4 → Nat :=
  let c0_66 : Index := 0#32
  let c2_i32_58 : BitVec 32 := 2#32
  let c0_i32_48 : BitVec 32 := 0#32
  let c1_i32_50 : BitVec 32 := 1#32
  let arg14 : BitVec 32 := Scf.iv c0_i32_48 c1_i32_50 k0_t3
  let v137 : BitVec 32 := Scalar.muli c2_i32_58 arg14
  let c1_i32_59 : BitVec 32 := 1#32
  let v138 : BitVec 32 := Scalar.addi v137 c1_i32_59
  let v149 : Index := Scalar.indexCast v138
  let c0_67 : Index := 0#32
  let c0_68 : Index := 0#32
  ![0, v149.toNat, 0, 0]
def k0_off25 (i : grid0.Coords) (k0_t3 : Fin (k0_t3_loop i).trips) : Fin 4 → Nat :=
  let c1_69 : Index := 1#32
  let c2_i32_58 : BitVec 32 := 2#32
  let c0_i32_48 : BitVec 32 := 0#32
  let c1_i32_50 : BitVec 32 := 1#32
  let arg14 : BitVec 32 := Scf.iv c0_i32_48 c1_i32_50 k0_t3
  let v137 : BitVec 32 := Scalar.muli c2_i32_58 arg14
  let c1_i32_59 : BitVec 32 := 1#32
  let v138 : BitVec 32 := Scalar.addi v137 c1_i32_59
  let v152 : Index := Scalar.indexCast v138
  let c0_70 : Index := 0#32
  let c0_71 : Index := 0#32
  ![1, v152.toNat, 0, 0]
def k0_off26 (i : grid0.Coords) (k0_t3 : Fin (k0_t3_loop i).trips) : Fin 2 → Nat :=
  let c2_i32_57 : BitVec 32 := 2#32
  let c0_i32_48 : BitVec 32 := 0#32
  let c1_i32_50 : BitVec 32 := 1#32
  let arg14 : BitVec 32 := Scf.iv c0_i32_48 c1_i32_50 k0_t3
  let v136 : BitVec 32 := Scalar.muli c2_i32_57 arg14
  let c256_i32 : BitVec 32 := 256#32
  let v139 : BitVec 32 := Scalar.muli v136 c256_i32
  let v140 : BitVec 32 := v139
  let v247 : Index := Scalar.indexCast v140
  let c0_104 : Index := 0#32
  ![v247.toNat, 0]
def k0_off27 (i : grid0.Coords) (k0_t3 : Fin (k0_t3_loop i).trips) : Fin 2 → Nat :=
  let c2_i32_58 : BitVec 32 := 2#32
  let c0_i32_48 : BitVec 32 := 0#32
  let c1_i32_50 : BitVec 32 := 1#32
  let arg14 : BitVec 32 := Scf.iv c0_i32_48 c1_i32_50 k0_t3
  let v137 : BitVec 32 := Scalar.muli c2_i32_58 arg14
  let c1_i32_59 : BitVec 32 := 1#32
  let v138 : BitVec 32 := Scalar.addi v137 c1_i32_59
  let c256_i32_60 : BitVec 32 := 256#32
  let v141 : BitVec 32 := Scalar.muli v138 c256_i32_60
  let v142 : BitVec 32 := v141
  let v255 : Index := Scalar.indexCast v142
  let c0_108 : Index := 0#32
  ![v255.toNat, 0]
@[reducible] def k0_t4_loop (i : grid0.Coords) : Scf.Loop 32 :=
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let v117 : BitVec 32 := Scalar.addi c0_i32_48 v116
  let c1_i32_51 : BitVec 32 := 1#32
  ⟨v120, v117, c1_i32_51⟩
def k0_mult10 (i : grid0.Coords) (k0_t4 : Fin (k0_t4_loop i).trips) : BitVec 32 :=
  let c2_i32_57 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v136 : BitVec 32 := Scalar.muli c2_i32_57 arg14
  let c256_i32 : BitVec 32 := 256#32
  let v139 : BitVec 32 := Scalar.muli v136 c256_i32
  v139
def k0_mult11 (i : grid0.Coords) (k0_t4 : Fin (k0_t4_loop i).trips) : BitVec 32 :=
  let c2_i32_58 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v137 : BitVec 32 := Scalar.muli c2_i32_58 arg14
  let c1_i32_59 : BitVec 32 := 1#32
  let v138 : BitVec 32 := Scalar.addi v137 c1_i32_59
  let c256_i32_60 : BitVec 32 := 256#32
  let v141 : BitVec 32 := Scalar.muli v138 c256_i32_60
  v141
def k0_off28 (i : grid0.Coords) (k0_t4 : Fin (k0_t4_loop i).trips) : Fin 4 → Nat :=
  let c0_61 : Index := 0#32
  let c2_i32_57 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v136 : BitVec 32 := Scalar.muli c2_i32_57 arg14
  let v143 : Index := Scalar.indexCast v136
  let c0_62 : Index := 0#32
  let c0_63 : Index := 0#32
  ![0, v143.toNat, 0, 0]
def k0_off29 (i : grid0.Coords) (k0_t4 : Fin (k0_t4_loop i).trips) : Fin 4 → Nat :=
  let c1 : Index := 1#32
  let c2_i32_57 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v136 : BitVec 32 := Scalar.muli c2_i32_57 arg14
  let v146 : Index := Scalar.indexCast v136
  let c0_64 : Index := 0#32
  let c0_65 : Index := 0#32
  ![1, v146.toNat, 0, 0]
def k0_off30 (i : grid0.Coords) (k0_t4 : Fin (k0_t4_loop i).trips) : Fin 4 → Nat :=
  let c0_66 : Index := 0#32
  let c2_i32_58 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v137 : BitVec 32 := Scalar.muli c2_i32_58 arg14
  let c1_i32_59 : BitVec 32 := 1#32
  let v138 : BitVec 32 := Scalar.addi v137 c1_i32_59
  let v149 : Index := Scalar.indexCast v138
  let c0_67 : Index := 0#32
  let c0_68 : Index := 0#32
  ![0, v149.toNat, 0, 0]
def k0_off31 (i : grid0.Coords) (k0_t4 : Fin (k0_t4_loop i).trips) : Fin 4 → Nat :=
  let c1_69 : Index := 1#32
  let c2_i32_58 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v137 : BitVec 32 := Scalar.muli c2_i32_58 arg14
  let c1_i32_59 : BitVec 32 := 1#32
  let v138 : BitVec 32 := Scalar.addi v137 c1_i32_59
  let v152 : Index := Scalar.indexCast v138
  let c0_70 : Index := 0#32
  let c0_71 : Index := 0#32
  ![1, v152.toNat, 0, 0]
def k0_off32 (i : grid0.Coords) (k0_t4 : Fin (k0_t4_loop i).trips) : Fin 2 → Nat :=
  let c2_i32_57 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v136 : BitVec 32 := Scalar.muli c2_i32_57 arg14
  let c256_i32 : BitVec 32 := 256#32
  let v139 : BitVec 32 := Scalar.muli v136 c256_i32
  let v140 : BitVec 32 := v139
  let v247 : Index := Scalar.indexCast v140
  let c0_104 : Index := 0#32
  ![v247.toNat, 0]
def k0_off33 (i : grid0.Coords) (k0_t4 : Fin (k0_t4_loop i).trips) : Fin 2 → Nat :=
  let c2_i32_58 : BitVec 32 := 2#32
  let c0_i32_48 : BitVec 32 := 0#32
  let arg2 : BitVec 32 := BitVec.ofNat 32 (i 2).val
  let c0_i32_42 : BitVec 32 := 0#32
  let v100 : BitVec 1 := Scalar.cmpi .sgt arg2 c0_i32_42
  let v101 : BitVec 32 := Scalar.extui v100
  let c0_i32_43 : BitVec 32 := 0#32
  let v102 : BitVec 1 := Scalar.cmpi .slt arg2 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi arg2 c2_i32_41
  let c0_i32_46 : BitVec 32 := 0#32
  let v112 : BitVec 1 := Scalar.cmpi .ne v111 c0_i32_46
  let v113 : BitVec 1 := Scalar.andi v110 v112
  let v99 : BitVec 32 := Scalar.divsi arg2 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg14 : BitVec 32 := Scf.iv v120 c1_i32_51 k0_t4
  let v137 : BitVec 32 := Scalar.muli c2_i32_58 arg14
  let c1_i32_59 : BitVec 32 := 1#32
  let v138 : BitVec 32 := Scalar.addi v137 c1_i32_59
  let c256_i32_60 : BitVec 32 := 256#32
  let v141 : BitVec 32 := Scalar.muli v138 c256_i32_60
  let v142 : BitVec 32 := v141
  let v255 : Index := Scalar.indexCast v142
  let c0_108 : Index := 0#32
  ![v255.toNat, 0]
def k0_cond3 (i : grid0.Coords) : BitVec 1 :=
  let arg2 : BitVec 32 := BitVec.ofNat 32 (i 2).val
  let c2_i32 : BitVec 32 := 2#32
  let c0_i32_16 : BitVec 32 := 0#32
  let v48 : BitVec 1 := Scalar.cmpi .eq c2_i32 c0_i32_16
  let c1_i32 : BitVec 32 := 1#32
  let v49 : BitVec 32 := Scalar.select v48 c1_i32 c2_i32
  let v50 : BitVec 32 := Scalar.remsi arg2 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c1_i32_20 : BitVec 32 := 1#32
  let v58 : BitVec 1 := Scalar.cmpi .eq v57 c1_i32_20
  let v123 : BitVec 32 := Scalar.extui v58
  let c0_i32_52 : BitVec 32 := 0#32
  let v124 : BitVec 1 := Scalar.cmpi .ne v123 c0_i32_52
  v124

def k0_mult12 (i : grid0.Coords) : BitVec 32 :=
  let arg2 : BitVec 32 := BitVec.ofNat 32 (i 2).val
  let c1_i32_57 : BitVec 32 := 1#32
  let v136 : BitVec 32 := Scalar.subi arg2 c1_i32_57
  let c256_i32 : BitVec 32 := 256#32
  let v137 : BitVec 32 := Scalar.muli v136 c256_i32
  v137
def k0_mult13 (i : grid0.Coords) : BitVec 32 :=
  let arg2 : BitVec 32 := BitVec.ofNat 32 (i 2).val
  let c256_i32_58 : BitVec 32 := 256#32
  let v139 : BitVec 32 := Scalar.muli arg2 c256_i32_58
  v139
def k0_off34 (i : grid0.Coords) : Fin 4 → Nat :=
  let c0_59 : Index := 0#32
  let arg2 : BitVec 32 := BitVec.ofNat 32 (i 2).val
  let c1_i32_57 : BitVec 32 := 1#32
  let v136 : BitVec 32 := Scalar.subi arg2 c1_i32_57
  let v141 : Index := Scalar.indexCast v136
  let c0_60 : Index := 0#32
  let c0_61 : Index := 0#32
  ![0, v141.toNat, 0, 0]
def k0_off35 (i : grid0.Coords) : Fin 4 → Nat :=
  let c1 : Index := 1#32
  let arg2 : BitVec 32 := BitVec.ofNat 32 (i 2).val
  let c1_i32_57 : BitVec 32 := 1#32
  let v136 : BitVec 32 := Scalar.subi arg2 c1_i32_57
  let v144 : Index := Scalar.indexCast v136
  let c0_62 : Index := 0#32
  let c0_63 : Index := 0#32
  ![1, v144.toNat, 0, 0]
def k0_off36 (i : grid0.Coords) : Fin 4 → Nat :=
  let c0_64 : Index := 0#32
  let arg2 : BitVec 32 := BitVec.ofNat 32 (i 2).val
  let v147 : Index := Scalar.indexCast arg2
  let c0_65 : Index := 0#32
  let c0_66 : Index := 0#32
  ![0, v147.toNat, 0, 0]
def k0_off37 (i : grid0.Coords) : Fin 4 → Nat :=
  let c1_67 : Index := 1#32
  let arg2 : BitVec 32 := BitVec.ofNat 32 (i 2).val
  let v150 : Index := Scalar.indexCast arg2
  let c0_68 : Index := 0#32
  let c0_69 : Index := 0#32
  ![1, v150.toNat, 0, 0]
def k0_off38 (i : grid0.Coords) : Fin 2 → Nat :=
  let arg2 : BitVec 32 := BitVec.ofNat 32 (i 2).val
  let c1_i32_57 : BitVec 32 := 1#32
  let v136 : BitVec 32 := Scalar.subi arg2 c1_i32_57
  let c256_i32 : BitVec 32 := 256#32
  let v137 : BitVec 32 := Scalar.muli v136 c256_i32
  let v138 : BitVec 32 := v137
  let v249 : Index := Scalar.indexCast v138
  let c0_102 : Index := 0#32
  ![v249.toNat, 0]
def k0_off39 (i : grid0.Coords) : Fin 2 → Nat :=
  let arg2 : BitVec 32 := BitVec.ofNat 32 (i 2).val
  let c256_i32_58 : BitVec 32 := 256#32
  let v139 : BitVec 32 := Scalar.muli arg2 c256_i32_58
  let v140 : BitVec 32 := v139
  let v257 : Index := Scalar.indexCast v140
  let c0_106 : Index := 0#32
  ![v257.toNat, 0]
def k0_mult14 (i : grid0.Coords) : BitVec 32 :=
  let arg2 : BitVec 32 := BitVec.ofNat 32 (i 2).val
  let c256_i32 : BitVec 32 := 256#32
  let v136 : BitVec 32 := Scalar.muli arg2 c256_i32
  v136
def k0_off40 (i : grid0.Coords) : Fin 4 → Nat :=
  let c0_57 : Index := 0#32
  let arg2 : BitVec 32 := BitVec.ofNat 32 (i 2).val
  let v138 : Index := Scalar.indexCast arg2
  let c0_58 : Index := 0#32
  let c0_59 : Index := 0#32
  ![0, v138.toNat, 0, 0]
def k0_off41 (i : grid0.Coords) : Fin 4 → Nat :=
  let c1 : Index := 1#32
  let arg2 : BitVec 32 := BitVec.ofNat 32 (i 2).val
  let v141 : Index := Scalar.indexCast arg2
  let c0_60 : Index := 0#32
  let c0_61 : Index := 0#32
  ![1, v141.toNat, 0, 0]
def k0_off42 (i : grid0.Coords) : Fin 2 → Nat :=
  let arg2 : BitVec 32 := BitVec.ofNat 32 (i 2).val
  let c256_i32 : BitVec 32 := 256#32
  let v136 : BitVec 32 := Scalar.muli arg2 c256_i32
  let v137 : BitVec 32 := v136
  let v194 : Index := Scalar.indexCast v137
  let c0_78 : Index := 0#32
  ![v194.toNat, 0]
def k0_cond4 (i : grid0.Coords) : BitVec 1 :=
  let arg2 : BitVec 32 := BitVec.ofNat 32 (i 2).val
  let c7_i32 : BitVec 32 := 7#32
  let v133 : BitVec 1 := Scalar.cmpi .eq arg2 c7_i32
  let v134 : BitVec 32 := Scalar.extui v133
  let c0_i32_56 : BitVec 32 := 0#32
  let v135 : BitVec 1 := Scalar.cmpi .ne v134 c0_i32_56
  v135

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnBRefIdeal.lean ====
abbrev S4096x3072 : Shape := ⟨2, ![4096, 3072]⟩
abbrev S4096x1024 : Shape := ⟨2, ![4096, 1024]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩

abbrev nBuf : Space → Nat
  | .hbm => 179
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x3072, .f32⟩
  | 3 => ⟨S2x2048x3x16x64, .f32⟩
  | 4 => ⟨S2x2048x1x16x64, .f32⟩
  | 5 => ⟨S2x2048x16x64, .f32⟩
  | 6 => ⟨S4096x3072, .f32⟩
  | 7 => ⟨S2x2048x3x16x64, .f32⟩
  | 8 => ⟨S2x2048x1x16x64, .f32⟩
  | 9 => ⟨S2x2048x16x64, .f32⟩
  | 10 => ⟨S4096x3072, .f32⟩
  | 11 => ⟨S2x2048x3x16x64, .f32⟩
  | 12 => ⟨S2x2048x1x16x64, .f32⟩
  | 13 => ⟨S2x2048x16x64, .f32⟩
  | 14 => ⟨S2x16x2048x2048, .f32⟩
  | 15 => ⟨S_, .f32⟩
  | 16 => ⟨S2x16x2048x2048, .f32⟩
  | 17 => ⟨S2x16x2048x2048, .f32⟩
  | 18 => ⟨S2048x2048, .i32⟩
  | 19 => ⟨S2048x2048, .i32⟩
  | 20 => ⟨S2048x2048, .i1⟩
  | 21 => ⟨S2x16x2048x2048, .f32⟩
  | 22 => ⟨S_, .f32⟩
  | 23 => ⟨S2x16x2048x2048, .f32⟩
  | 24 => ⟨S2x16x2048x2048, .f32⟩
  | 25 => ⟨S2x16x2048x2048, .f32⟩
  | 26 => ⟨S2x16x2048x2048, .f32⟩
  | 27 => ⟨S2x16x2048x2048, .i1⟩
  | 28 => ⟨S2x16x2048x2048, .f32⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S_, .f32⟩
  | 37 => ⟨S2x16x2048x2048, .f32⟩
  | 38 => ⟨S2x16x2048x2048, .i1⟩
  | 39 => ⟨S_, .f32⟩
  | 40 => ⟨S2x16x2048x2048, .f32⟩
  | 41 => ⟨S2x16x2048x2048, .f32⟩
  | 42 => ⟨S_, .f32⟩
  | 43 => ⟨S2x16x2048x2048, .f32⟩
  | 44 => ⟨S2x16x2048x2048, .i1⟩
  | 45 => ⟨S_, .f32⟩
  | 46 => ⟨S2x16x2048x2048, .f32⟩
  | 47 => ⟨S2x16x2048x2048, .f32⟩
  | 48 => ⟨S2x16x2048x2048, .f32⟩
  | 49 => ⟨S2x16x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S2x16x2048x2048, .f32⟩
  | 58 => ⟨S2x16x2048x2048, .i1⟩
  | 59 => ⟨S_, .f32⟩
  | 60 => ⟨S2x16x2048x2048, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S_, .f32⟩
  | 66 => ⟨S2x16x2048x2048, .f32⟩
  | 67 => ⟨S2x16x2048x2048, .f32⟩
  | 68 => ⟨S2x16x2048x2048, .f32⟩
  | 69 => ⟨S_, .f32⟩
  | 70 => ⟨S_, .f32⟩
  | 71 => ⟨S2x16x2048x2048, .i1⟩
  | 72 => ⟨S2x16x2048x2048, .f32⟩
  | 73 => ⟨S2x16x2048x2048, .f32⟩
  | 74 => ⟨S_, .f32⟩
  | 75 => ⟨S2x16x2048x2048, .f32⟩
  | 76 => ⟨S2x16x2048x2048, .f32⟩
  | 77 => ⟨S2x16x2048x2048, .f32⟩
  | 78 => ⟨S_, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .i1⟩
  | 84 => ⟨S2x16x2048x2048, .f32⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S_, .f32⟩
  | 93 => ⟨S2x16x2048x2048, .f32⟩
  | 94 => ⟨S2x16x2048x2048, .i1⟩
  | 95 => ⟨S_, .f32⟩
  | 96 => ⟨S2x16x2048x2048, .f32⟩
  | 97 => ⟨S2x16x2048x2048, .f32⟩
  | 98 => ⟨S_, .f32⟩
  | 99 => ⟨S2x16x2048x2048, .f32⟩
  | 100 => ⟨S2x16x2048x2048, .i1⟩
  | 101 => ⟨S_, .f32⟩
  | 102 => ⟨S2x16x2048x2048, .f32⟩
  | 103 => ⟨S2x16x2048x2048, .f32⟩
  | 104 => ⟨S2x16x2048x2048, .f32⟩
  | 105 => ⟨S2x16x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S2x16x2048x2048, .f32⟩
  | 114 => ⟨S2x16x2048x2048, .i1⟩
  | 115 => ⟨S_, .f32⟩
  | 116 => ⟨S2x16x2048x2048, .f32⟩
  | 117 => ⟨S2x16x2048x2048, .f32⟩
  | 118 => ⟨S2x16x2048x2048, .f32⟩
  | 119 => ⟨S2x16x2048x2048, .f32⟩
  | 120 => ⟨S2x16x2048x2048, .f32⟩
  | 121 => ⟨S_, .f32⟩
  | 122 => ⟨S2x16x2048x2048, .f32⟩
  | 123 => ⟨S2x16x2048x2048, .f32⟩
  | 124 => ⟨S2x16x2048x2048, .f32⟩
  | 125 => ⟨S_, .f32⟩
  | 126 => ⟨S_, .f32⟩
  | 127 => ⟨S2x16x2048x2048, .i1⟩
  | _ => ⟨S4096x3072, .bf16⟩

abbrev hbmTy0_1 (i : Nat) : BufTy := match i % 128 with
  | 0 => ⟨S2x16x2048x2048, .f32⟩
  | 1 => ⟨S2x16x2048x2048, .f32⟩
  | 2 => ⟨S_, .f32⟩
  | 3 => ⟨S2x16x2048x2048, .f32⟩
  | 4 => ⟨S_, .f32⟩
  | 5 => ⟨S_, .f32⟩
  | 6 => ⟨S2x16x2048x2048, .f32⟩
  | 7 => ⟨S2x16x2048x2048, .f32⟩
  | 8 => ⟨S2x16x2048x2048, .f32⟩
  | 9 => ⟨S2x16x2048x2048, .f32⟩
  | 10 => ⟨S2x16x64x2048, .f32⟩
  | 11 => ⟨S2x2048x16x64, .f32⟩
  | 12 => ⟨S4096x1024, .f32⟩
  | 13 => ⟨S2x2048x16x64, .f32⟩
  | 14 => ⟨S2x16x64x2048, .f32⟩
  | 15 => ⟨S2x16x2048x2048, .f32⟩
  | 16 => ⟨S2x16x64x2048, .f32⟩
  | 17 => ⟨S2x2048x16x64, .f32⟩
  | 18 => ⟨S2x16x2048x2048, .f32⟩
  | 19 => ⟨S2x16x2048x2048, .f32⟩
  | 20 => ⟨S_, .f32⟩
  | 21 => ⟨S_, .f32⟩
  | 22 => ⟨S2x16x2048x2048, .f32⟩
  | 23 => ⟨S2x16x2048x2048, .f32⟩
  | 24 => ⟨S_, .f32⟩
  | 25 => ⟨S2x16x2048x2048, .f32⟩
  | 26 => ⟨S2x16x2048x2048, .f32⟩
  | 27 => ⟨S2x16x2048x2048, .f32⟩
  | 28 => ⟨S2x16x2048x2048, .f32⟩
  | 29 => ⟨S2x16x2048x2048, .f32⟩
  | 30 => ⟨S2x16x2048x2048, .f32⟩
  | 31 => ⟨S_, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S_, .f32⟩
  | 39 => ⟨S2x16x2048x2048, .f32⟩
  | 40 => ⟨S2x16x2048x2048, .f32⟩
  | 41 => ⟨S2x16x2048x64, .f32⟩
  | 42 => ⟨S2x2048x16x64, .f32⟩
  | 43 => ⟨S2x16x2048x64, .f32⟩
  | 44 => ⟨S2x2048x16x64, .f32⟩
  | 45 => ⟨S4096x1024, .f32⟩
  | 46 => ⟨S4096x1024, .bf16⟩
  | 47 => ⟨S4096x1024, .f32⟩
  | 48 => ⟨S4096x1024, .bf16⟩
  | 49 => ⟨S4096x1024, .f32⟩
  | 50 => ⟨S4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_v20 : Ref sig .tc := ⟨.hbm, 76, rfl⟩
abbrev main_call2_v0 : Ref sig .tc := ⟨.hbm, 77, rfl⟩
abbrev main_call2_call0_cst : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_v8 : Ref sig .tc := ⟨.hbm, 87, rfl⟩
abbrev main_call2_call0_v9 : Ref sig .tc := ⟨.hbm, 88, rfl⟩
abbrev main_call2_call0_v10 : Ref sig .tc := ⟨.hbm, 89, rfl⟩
abbrev main_call2_call0_v11 : Ref sig .tc := ⟨.hbm, 90, rfl⟩
abbrev main_call2_v1_0 : Ref sig .tc := ⟨.hbm, 91, rfl⟩
abbrev main_call2_call0_cst_0 : Ref sig .tc := ⟨.hbm, 92, rfl⟩
abbrev main_call2_call0_v13 : Ref sig .tc := ⟨.hbm, 93, rfl⟩
abbrev main_call2_call0_v14 : Ref sig .tc := ⟨.hbm, 94, rfl⟩
abbrev main_call2_call0_cst_1 : Ref sig .tc := ⟨.hbm, 95, rfl⟩
abbrev main_call2_call0_v15 : Ref sig .tc := ⟨.hbm, 96, rfl⟩
abbrev main_call2_call0_v16 : Ref sig .tc := ⟨.hbm, 97, rfl⟩
abbrev main_call2_call0_cst_2 : Ref sig .tc := ⟨.hbm, 98, rfl⟩
abbrev main_call2_call0_v17 : Ref sig .tc := ⟨.hbm, 99, rfl⟩
abbrev main_call2_call0_v18 : Ref sig .tc := ⟨.hbm, 100, rfl⟩
abbrev main_call2_call0_cst_3 : Ref sig .tc := ⟨.hbm, 101, rfl⟩
abbrev main_call2_call0_v19 : Ref sig .tc := ⟨.hbm, 102, rfl⟩
abbrev main_call2_call0_v20 : Ref sig .tc := ⟨.hbm, 103, rfl⟩
abbrev main_call2_call0_v21 : Ref sig .tc := ⟨.hbm, 104, rfl⟩
abbrev main_v21_1 : Ref sig .tc := ⟨.hbm, 105, rfl⟩
abbrev main_call2_call0_cst_4 : Ref sig .tc := ⟨.hbm, 106, rfl⟩
abbrev main_call2_call0_cst_5 : Ref sig .tc := ⟨.hbm, 107, rfl⟩
abbrev main_call2_call0_v23 : Ref sig .tc := ⟨.hbm, 108, rfl⟩
abbrev main_call2_call0_cst_6 : Ref sig .tc := ⟨.hbm, 109, rfl⟩
abbrev main_call2_call0_cst_7 : Ref sig .tc := ⟨.hbm, 110, rfl⟩
abbrev main_call2_call0_v24 : Ref sig .tc := ⟨.hbm, 111, rfl⟩
abbrev main_call2_call0_cst_8 : Ref sig .tc := ⟨.hbm, 112, rfl⟩
abbrev main_call2_call0_v25 : Ref sig .tc := ⟨.hbm, 113, rfl⟩
abbrev main_call2_call0_v26 : Ref sig .tc := ⟨.hbm, 114, rfl⟩
abbrev main_call2_call0_cst_9 : Ref sig .tc := ⟨.hbm, 115, rfl⟩
abbrev main_call2_call0_v27 : Ref sig .tc := ⟨.hbm, 116, rfl⟩
abbrev main_call2_call0_v28 : Ref sig .tc := ⟨.hbm, 117, rfl⟩
abbrev main_call2_call0_v29 : Ref sig .tc := ⟨.hbm, 118, rfl⟩
abbrev main_call2_call0_v30 : Ref sig .tc := ⟨.hbm, 119, rfl⟩
abbrev main_call2_call0_v31 : Ref sig .tc := ⟨.hbm, 120, rfl⟩
abbrev main_call2_call0_cst_10 : Ref sig .tc := ⟨.hbm, 121, rfl⟩
abbrev main_call2_call0_v32 : Ref sig .tc := ⟨.hbm, 122, rfl⟩
abbrev main_v21_2 : Ref sig .tc := ⟨.hbm, 123, rfl⟩
abbrev main_v21_0 : Ref sig .tc := ⟨.hbm, 124, rfl⟩
abbrev main_cst_1 : Ref sig .tc := ⟨.hbm, 125, rfl⟩
abbrev main_call3_v0 : Ref sig .tc := ⟨.hbm, 126, rfl⟩
abbrev main_v22_1 : Ref sig .tc := ⟨.hbm, 127, rfl⟩
abbrev main_call3_v2 : Ref sig .tc := ⟨.hbm, 128, rfl⟩
abbrev main_v22_0 : Ref sig .tc := ⟨.hbm, 129, rfl⟩
abbrev main_call3_cst : Ref sig .tc := ⟨.hbm, 130, rfl⟩
abbrev main_v22_2 : Ref sig .tc := ⟨.hbm, 131, rfl⟩
abbrev main_call4_cst : Ref sig .tc := ⟨.hbm, 132, rfl⟩
abbrev main_call4_v0 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_call7_v0 : Ref sig .tc := ⟨.hbm, 155, rfl⟩
abbrev main_call7_v1 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== BiasBwd.lean ====
abbrev S128x16x640 : Shape := ⟨3, ![128, 16, 640]⟩
abbrev S16x384 : Shape := ⟨2, ![16, 384]⟩
abbrev S8x16x640 : Shape := ⟨3, ![8, 16, 640]⟩
abbrev S640x384 : Shape := ⟨2, ![640, 384]⟩
abbrev S1x16x640 : Shape := ⟨3, ![1, 16, 640]⟩
abbrev S16x640 : Shape := ⟨2, ![16, 640]⟩

abbrev nBuf : Space → Nat
  | .hbm => 3
  | .vmem => 5
  | .smem => 0
  | _ => 0

abbrev bufTy : (tb : Table) → Fin (tcTables nBuf tb) → BufTy
  | .hbm, ⟨0, _⟩ => ⟨S128x16x640, .f32⟩
  | .hbm, ⟨1, _⟩ => ⟨S128x16x640, .f32⟩
  | .hbm, ⟨2, _⟩ => ⟨S16x384, .f32⟩
  | .local _ .vmem, ⟨0, _⟩ => ⟨S8x16x640, .f32⟩
  | .local _ .vmem, ⟨1, _⟩ => ⟨S8x16x640, .f32⟩
  | .local _ .vmem, ⟨2, _⟩ => ⟨S8x16x640, .f32⟩
  | .local _ .vmem, ⟨3, _⟩ => ⟨S8x16x640, .f32⟩
  | .local _ .vmem, ⟨4, _⟩ => ⟨S16x384, .f32⟩
  | _, _ => ⟨S128x16x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasRefIdeal.lean ====
abbrev S128x16x640 : Shape := ⟨3, ![128, 16, 640]⟩
abbrev S_ : Shape := ⟨0, ![]⟩
abbrev S257x16 : Shape := ⟨2, ![257, 16]⟩
abbrev S128x640 : Shape := ⟨2, ![128, 640]⟩
abbrev S128x640x1 : Shape := ⟨3, ![128, 640, 1]⟩
abbrev S128x640x16 : Shape := ⟨3, ![128, 640, 16]⟩
abbrev S16x257 : Shape := ⟨2, ![16, 257]⟩
abbrev S16x384 : Shape := ⟨2, ![16, 384]⟩

abbrev nBuf : Space → Nat
  | .hbm => 40
  | .vmem => 0
  | .smem => 0
  | _ => 0

abbrev bufTy : (tb : Table) → Fin (tcTables nBuf tb) → BufTy
  | .hbm, ⟨0, _⟩ => ⟨S128x16x640, .f32⟩
  | .hbm, ⟨1, _⟩ => ⟨S128x16x640, .f32⟩
  | .hbm, ⟨2, _⟩ => ⟨S_, .f32⟩
  | .hbm, ⟨3, _⟩ => ⟨S257x16, .f32⟩
  | .hbm, ⟨4, _⟩ => ⟨S128x640, .i32⟩
  | .hbm, ⟨5, _⟩ => ⟨S128x640, .i32⟩
  | .hbm, ⟨6, _⟩ => ⟨S128x640, .i32⟩
  | .hbm, ⟨7, _⟩ => ⟨S_, .i32⟩
  | .hbm, ⟨8, _⟩ => ⟨S128x640, .i32⟩
  | .hbm, ⟨9, _⟩ => ⟨S128x640, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S128x640, .i32⟩
  | .hbm, ⟨14, _⟩ => ⟨S128x640, .i32⟩
  | .hbm, ⟨15, _⟩ => ⟨S_, .i32⟩
  | .hbm, ⟨16, _⟩ => ⟨S128x640, .i32⟩
  | .hbm, ⟨17, _⟩ => ⟨S128x640, .i32⟩
  | .hbm, ⟨18, _⟩ => ⟨S_, .i32⟩
  | .hbm, ⟨19, _⟩ => ⟨S128x640, .i32⟩
  | .hbm, ⟨20, _⟩ => ⟨S128x640, .i32⟩
  | .hbm, ⟨21, _⟩ => ⟨S_, .i32⟩
  | .hbm, ⟨22, _⟩ => ⟨S128x640, .i32⟩
  | .hbm, ⟨23, _⟩ => ⟨S128x640, .i1⟩
  | .hbm, ⟨24, _⟩ => ⟨S_, .i32⟩
  | .hbm, ⟨25, _⟩ => ⟨S128x640, .i32⟩
  | .hbm, ⟨26, _⟩ => ⟨S128x640, .i32⟩
  | .hbm, ⟨27, _⟩ => ⟨S128x640, .i32⟩
  | .hbm, ⟨28, _⟩ => ⟨S128x640x1, .i32⟩
  | .hbm, ⟨29, _⟩ => ⟨S128x640x16, .f32⟩
  | .hbm, ⟨30, _⟩ => ⟨S128x16x640, .f32⟩
  | .hbm, ⟨31, _⟩ => ⟨S128x16x640, .f32⟩
  | .hbm, ⟨32, _⟩ => ⟨S128x640x16, .f32⟩
  | .hbm, ⟨33, _⟩ => ⟨S_, .f32⟩
  | .hbm, ⟨34, _⟩ => ⟨S257x16, .f32⟩
  | .hbm, ⟨35, _⟩ => ⟨S257x16, .f32⟩
  | .hbm, ⟨36, _⟩ => ⟨S16x257, .f32⟩
  | .hbm, ⟨37, _⟩ => ⟨S_, .i32⟩
  | .hbm, ⟨38, _⟩ => ⟨S_, .f32⟩
  | .hbm, ⟨39, _⟩ => ⟨S16x384, .f32⟩
  | _, _ => ⟨S128x16x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_call1_v0 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== LnBwd.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S1x1024, .f32⟩
  | .hbm, ⟨93, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== DxMix.lean ====
abbrev S4096x1024 : Shape := ⟨2, ![4096, 1024]⟩
abbrev S1024x3072 : Shape := ⟨2, ![1024, 3072]⟩
abbrev S1024 : Shape := ⟨1, ![1024]⟩
abbrev S_ : Shape := ⟨0, ![]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DxMixRefIdeal.lean ====
abbrev S4096x1024 : Shape := ⟨2, ![4096, 1024]⟩
abbrev S1024x3072 : Shape := ⟨2, ![1024, 3072]⟩
abbrev S1024 : Shape := ⟨1, ![1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S1024x3072, .f32⟩
  | .hbm, ⟨9, _⟩ => ⟨S4096x3072, .bf16⟩
  | .hbm, ⟨10, _⟩ => ⟨S4096x3072, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x3072, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S1x1024, .f32⟩
  | .hbm, ⟨108, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_cst_20 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== DxFfn.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S1024x3072, .bf16⟩
  | .local _ .vmem, ⟨5, _⟩ => ⟨S1024x3072, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DxFfnRefIdeal.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S1024x3072, .f32⟩
  | .hbm, ⟨9, _⟩ => ⟨S1024x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .bf16⟩
  | .hbm, ⟨111, _⟩ => ⟨S1x1024, .f32⟩
  | .hbm, ⟨112, _⟩ => ⟨S1x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== FfnMid.lean ====
abbrev S4096x1024 : Shape := ⟨2, ![4096, 1024]⟩
abbrev S1024x3072 : Shape := ⟨2, ![1024, 3072]⟩
abbrev S3072x1024 : Shape := ⟨2, ![3072, 1024]⟩
abbrev S4096x3072 : Shape := ⟨2, ![4096, 3072]⟩
abbrev S1024x1024 : Shape := ⟨2, ![1024, 1024]⟩
abbrev S768x1024 : Shape := ⟨2, ![768, 1024]⟩
abbrev S1024x768 : Shape := ⟨2, ![1024, 768]⟩
abbrev S256x1024 : Shape := ⟨2, ![256, 1024]⟩
abbrev S1024x256 : Shape := ⟨2, ![1024, 256]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S3072x1024, .bf16⟩
  | .hbm, ⟨4, _⟩ => ⟨S4096x1024, .bf16⟩
  | .hbm, ⟨5, _⟩ => ⟨S4096x3072, .f32⟩
  | .hbm, ⟨6, _⟩ => ⟨S4096x3072, .bf16⟩
  | .hbm, ⟨7, _⟩ => ⟨S4096x3072, .f32⟩
  | .hbm, ⟨8, _⟩ => ⟨S4096x3072, .bf16⟩
  | .hbm, ⟨9, _⟩ => ⟨S4096x3072, .bf16⟩
  | .hbm, ⟨10, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnMidRefIdeal.lean ====
abbrev S4096x1024 : Shape := ⟨2, ![4096, 1024]⟩
abbrev S1024x3072 : Shape := ⟨2, ![1024, 3072]⟩
abbrev S3072x1024 : Shape := ⟨2, ![3072, 1024]⟩
abbrev S4096x3072 : Shape := ⟨2, ![4096, 3072]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S3072x1024, .bf16⟩
  | .hbm, ⟨4, _⟩ => ⟨S4096x1024, .bf16⟩
  | .hbm, ⟨5, _⟩ => ⟨S4096x1024, .f32⟩
  | .hbm, ⟨6, _⟩ => ⟨S1024x3072, .f32⟩
  | .hbm, ⟨7, _⟩ => ⟨S1024x3072, .f32⟩
  | .hbm, ⟨8, _⟩ => ⟨S3072x1024, .f32⟩
  | .hbm, ⟨9, _⟩ => ⟨S4096x1024, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .bf16⟩
  | .hbm, ⟨41, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== DxFirst.lean ====
abbrev S4096x3072 : Shape := ⟨2, ![4096, 3072]⟩
abbrev S1024x3072 : Shape := ⟨2, ![1024, 3072]⟩
abbrev S4096x1024 : Shape := ⟨2, ![4096, 1024]⟩
abbrev S256x3072 : Shape := ⟨2, ![256, 3072]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S4096x1024, .f32⟩
  | .hbm, ⟨5, _⟩ => ⟨S4096x1024, .f32⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S1024x3072, .bf16⟩
  | .local _ .vmem, ⟨5, _⟩ => ⟨S1024x3072, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxFirstRefIdeal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .bf16⟩
  | .hbm, ⟨2, _⟩ => ⟨S1024x3072, .bf16⟩
  | .hbm, ⟨3, _⟩ => ⟨S1024x3072, .bf16⟩
  | .hbm, ⟨4, _⟩ => ⟨S4096x1024, .f32⟩
  | .hbm, ⟨5, _⟩ => ⟨S1024x3072, .f32⟩
  | .hbm, ⟨6, _⟩ => ⟨S1024x3072, .f32⟩
  | .hbm, ⟨7, _⟩ => ⟨S_, .f32⟩
  | .hbm, ⟨8, _⟩ => ⟨S4096x1024, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== AttnA.lean ====
abbrev S4096x3072 : Shape := ⟨2, ![4096, 3072]⟩
abbrev S257x16 : Shape := ⟨2, ![257, 16]⟩
abbrev S4096x1024 : Shape := ⟨2, ![4096, 1024]⟩
abbrev S128x640 : Shape := ⟨2, ![128, 640]⟩
abbrev S_ : Shape := ⟨0, ![]⟩
abbrev S128x640x1 : Shape := ⟨3, ![128, 640, 1]⟩
abbrev S128x640x16 : Shape := ⟨3, ![128, 640, 16]⟩
abbrev S16x128x640 : Shape := ⟨3, ![16, 128, 640]⟩
abbrev S1024x128 : Shape := ⟨2, ![1024, 128]⟩
abbrev S2048x128 : Shape := ⟨2, ![2048, 128]⟩
abbrev S2x128x640 : Shape := ⟨3, ![2, 128, 640]⟩
abbrev S1x128 : Shape := ⟨2, ![1, 128]⟩
abbrev S128x128 : Shape := ⟨2, ![128, 128]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 34
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S257x16, .f32⟩
  | .hbm, ⟨2, _⟩ => ⟨S4096x1024, .bf16⟩
  | .hbm, ⟨3, _⟩ => ⟨S128x640, .i32⟩
  | .hbm, ⟨4, _⟩ => ⟨S128x640, .i32⟩
  | .hbm, ⟨5, _⟩ => ⟨S128x640, .i32⟩
  | .hbm, ⟨6, _⟩ => ⟨S_, .i32⟩
  | .hbm, ⟨7, _⟩ => ⟨S128x640, .i32⟩
  | .hbm, ⟨8, _⟩ => ⟨S128x640, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S128x640, .i32⟩
  | .hbm, ⟨13, _⟩ => ⟨S128x640, .i32⟩
  | .hbm, ⟨14, _⟩ => ⟨S_, .i32⟩
  | .hbm, ⟨15, _⟩ => ⟨S128x640, .i32⟩
  | .hbm, ⟨16, _⟩ => ⟨S128x640, .i32⟩
  | .hbm, ⟨17, _⟩ => ⟨S_, .i32⟩
  | .hbm, ⟨18, _⟩ => ⟨S128x640, .i32⟩
  | .hbm, ⟨19, _⟩ => ⟨S128x640, .i32⟩
  | .hbm, ⟨20, _⟩ => ⟨S_, .i32⟩
  | .hbm, ⟨21, _⟩ => ⟨S128x640, .i32⟩
  | .hbm, ⟨22, _⟩ => ⟨S128x640, .i1⟩
  | .hbm, ⟨23, _⟩ => ⟨S_, .i32⟩
  | .hbm, ⟨24, _⟩ => ⟨S128x640, .i32⟩
  | .hbm, ⟨25, _⟩ => ⟨S128x640, .i32⟩
  | .hbm, ⟨26, _⟩ => ⟨S128x640, .i32⟩
  | .hbm, ⟨27, _⟩ => ⟨S128x640x1, .i32⟩
  | .hbm, ⟨28, _⟩ => ⟨S128x640x16, .f32⟩
  | .hbm, ⟨29, _⟩ => ⟨S16x128x640, .f32⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S16x128x640, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x128x640, .f32⟩
  | .local _ .vmem, ⟨7, _⟩ => ⟨S2x128x640, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2x128x640, .f32⟩
  | .local _ .vmem, ⟨17, _⟩ => ⟨S2x128x640, .f32⟩
  | .local _ .vmem, ⟨18, _⟩ => ⟨S2048x128, .f32⟩
  | .local _ .vmem, ⟨19, _⟩ => ⟨S2048x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 2], ![false, false, false]⟩

def k0_mult1 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_13 : BitVec 32 := 4#32
  let v29 : BitVec 32 := Scalar.subi v9 c4_i32_13
  let c0_i32_14 : BitVec 32 := 0#32
  let v30 : BitVec 32 := Scalar.addi v29 c0_i32_14
  let c0_i32_15 : BitVec 32 := 0#32
  let v31 : BitVec 32 := Scalar.maxsi v30 c0_i32_15
  let c128_i32 : BitVec 32 := 128#32
  let v32 : BitVec 32 := Scalar.muli v31 c128_i32
  v32
def k0_off1 (i : grid0.Coords) (c0_i32_4 : BitVec 32) (c0_i32_14 : BitVec 32) : Fin 2 → Nat :=
  let arg2 : BitVec 32 := BitVec.ofNat 32 (i 2).val
  let c8_i32 : BitVec 32 := 8#32
  let v8 : BitVec 32 := Scalar.muli arg2 c8_i32
  let v9 : BitVec 32 := Scalar.addi v8 c0_i32_4
  let c4_i32_13 : BitVec 32 := 4#32
  let v29 : BitVec 32 := Scalar.subi v9 c4_i32_13
  let v30 : BitVec 32 := Scalar.addi v29 c0_i32_14
  let c0_i32_15 : BitVec 32 := 0#32
  let v31 : BitVec 32 := Scalar.maxsi v30 c0_i32_15
  let c128_i32 : BitVec 32 := 128#32
  let v32 : BitVec 32 := Scalar.muli v31 c128_i32
  let v33 : BitVec 32 := v32
  let v34 : Index := Scalar.indexCast v33
  let c0 : Index := 0#32
  ![v34.toNat, 0]
def k0_mult2 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_16 : BitVec 32 := 4#32
  let v36 : BitVec 32 := Scalar.subi v9 c4_i32_16
  let c1_i32_17 : BitVec 32 := 1#32
  let v37 : BitVec 32 := Scalar.addi v36 c1_i32_17
  let c0_i32_18 : BitVec 32 := 0#32
  let v38 : BitVec 32 := Scalar.maxsi v37 c0_i32_18
  let c128_i32_19 : BitVec 32 := 128#32
  let v39 : BitVec 32 := Scalar.muli v38 c128_i32_19
  v39
def k0_mult3 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_21 : BitVec 32 := 4#32
  let v43 : BitVec 32 := Scalar.subi v9 c4_i32_21
  let c2_i32_22 : BitVec 32 := 2#32
  let v44 : BitVec 32 := Scalar.addi v43 c2_i32_22
  let c0_i32_23 : BitVec 32 := 0#32
  let v45 : BitVec 32 := Scalar.maxsi v44 c0_i32_23
  let c128_i32_24 : BitVec 32 := 128#32
  let v46 : BitVec 32 := Scalar.muli v45 c128_i32_24
  v46
def k0_mult4 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_26 : BitVec 32 := 4#32
  let v50 : BitVec 32 := Scalar.subi v9 c4_i32_26
  let c3_i32_27 : BitVec 32 := 3#32
  let v51 : BitVec 32 := Scalar.addi v50 c3_i32_27
  let c0_i32_28 : BitVec 32 := 0#32
  let v52 : BitVec 32 := Scalar.maxsi v51 c0_i32_28
  let c128_i32_29 : BitVec 32 := 128#32
  let v53 : BitVec 32 := Scalar.muli v52 c128_i32_29
  v53
def k0_mult5 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_31 : BitVec 32 := 4#32
  let v57 : BitVec 32 := Scalar.subi v9 c4_i32_31
  let c4_i32_32 : BitVec 32 := 4#32
  let v58 : BitVec 32 := Scalar.addi v57 c4_i32_32
  let c0_i32_33 : BitVec 32 := 0#32
  let v59 : BitVec 32 := Scalar.maxsi v58 c0_i32_33
  let c128_i32_34 : BitVec 32 := 128#32
  let v60 : BitVec 32 := Scalar.muli v59 c128_i32_34
  v60
def k0_mult6 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_36 : BitVec 32 := 4#32
  let v65 : BitVec 32 := Scalar.subi v11 c4_i32_36
  let c0_i32_37 : BitVec 32 := 0#32
  let v66 : BitVec 32 := Scalar.addi v65 c0_i32_37
  let c0_i32_38 : BitVec 32 := 0#32
  let v67 : BitVec 32 := Scalar.maxsi v66 c0_i32_38
  let c128_i32_39 : BitVec 32 := 128#32
  let v68 : BitVec 32 := Scalar.muli v67 c128_i32_39
  v68
def k0_mult7 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_41 : BitVec 32 := 4#32
  let v72 : BitVec 32 := Scalar.subi v11 c4_i32_41
  let c1_i32_42 : BitVec 32 := 1#32
  let v73 : BitVec 32 := Scalar.addi v72 c1_i32_42
  let c0_i32_43 : BitVec 32 := 0#32
  let v74 : BitVec 32 := Scalar.maxsi v73 c0_i32_43
  let c128_i32_44 : BitVec 32 := 128#32
  let v75 : BitVec 32 := Scalar.muli v74 c128_i32_44
  v75
def k0_mult8 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_46 : BitVec 32 := 4#32
  let v79 : BitVec 32 := Scalar.subi v11 c4_i32_46
  let c2_i32_47 : BitVec 32 := 2#32
  let v80 : BitVec 32 := Scalar.addi v79 c2_i32_47
  let c0_i32_48 : BitVec 32 := 0#32
  let v81 : BitVec 32 := Scalar.maxsi v80 c0_i32_48
  let c128_i32_49 : BitVec 32 := 128#32
  let v82 : BitVec 32 := Scalar.muli v81 c128_i32_49
  v82
def k0_mult9 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_51 : BitVec 32 := 4#32
  let v86 : BitVec 32 := Scalar.subi v11 c4_i32_51
  let c3_i32_52 : BitVec 32 := 3#32
  let v87 : BitVec 32 := Scalar.addi v86 c3_i32_52
  let c0_i32_53 : BitVec 32 := 0#32
  let v88 : BitVec 32 := Scalar.maxsi v87 c0_i32_53
  let c128_i32_54 : BitVec 32 := 128#32
  let v89 : BitVec 32 := Scalar.muli v88 c128_i32_54
  v89
def k0_mult10 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_56 : BitVec 32 := 4#32
  let v93 : BitVec 32 := Scalar.subi v11 c4_i32_56
  let c4_i32_57 : BitVec 32 := 4#32
  let v94 : BitVec 32 := Scalar.addi v93 c4_i32_57
  let c0_i32_58 : BitVec 32 := 0#32
  let v95 : BitVec 32 := Scalar.maxsi v94 c0_i32_58
  let c128_i32_59 : BitVec 32 := 128#32
  let v96 : BitVec 32 := Scalar.muli v95 c128_i32_59
  v96
def k0_mult11 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_61 : BitVec 32 := 4#32
  let v101 : BitVec 32 := Scalar.subi v13 c4_i32_61
  let c0_i32_62 : BitVec 32 := 0#32
  let v102 : BitVec 32 := Scalar.addi v101 c0_i32_62
  let c0_i32_63 : BitVec 32 := 0#32
  let v103 : BitVec 32 := Scalar.maxsi v102 c0_i32_63
  let c128_i32_64 : BitVec 32 := 128#32
  let v104 : BitVec 32 := Scalar.muli v103 c128_i32_64
  v104
def k0_mult12 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_66 : BitVec 32 := 4#32
  let v108 : BitVec 32 := Scalar.subi v13 c4_i32_66
  let c1_i32_67 : BitVec 32 := 1#32
  let v109 : BitVec 32 := Scalar.addi v108 c1_i32_67
  let c0_i32_68 : BitVec 32 := 0#32
  let v110 : BitVec 32 := Scalar.maxsi v109 c0_i32_68
  let c128_i32_69 : BitVec 32 := 128#32
  let v111 : BitVec 32 := Scalar.muli v110 c128_i32_69
  v111
def k0_mult13 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_71 : BitVec 32 := 4#32
  let v115 : BitVec 32 := Scalar.subi v13 c4_i32_71
  let c2_i32_72 : BitVec 32 := 2#32
  let v116 : BitVec 32 := Scalar.addi v115 c2_i32_72
  let c0_i32_73 : BitVec 32 := 0#32
  let v117 : BitVec 32 := Scalar.maxsi v116 c0_i32_73
  let c128_i32_74 : BitVec 32 := 128#32
  let v118 : BitVec 32 := Scalar.muli v117 c128_i32_74
  v118
def k0_mult14 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_76 : BitVec 32 := 4#32
  let v122 : BitVec 32 := Scalar.subi v13 c4_i32_76
  let c3_i32_77 : BitVec 32 := 3#32
  let v123 : BitVec 32 := Scalar.addi v122 c3_i32_77
  let c0_i32_78 : BitVec 32 := 0#32
  let v124 : BitVec 32 := Scalar.maxsi v123 c0_i32_78
  let c128_i32_79 : BitVec 32 := 128#32
  let v125 : BitVec 32 := Scalar.muli v124 c128_i32_79
  v125
def k0_mult15 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_81 : BitVec 32 := 4#32
  let v129 : BitVec 32 := Scalar.subi v13 c4_i32_81
  let c4_i32_82 : BitVec 32 := 4#32
  let v130 : BitVec 32 := Scalar.addi v129 c4_i32_82
  let c0_i32_83 : BitVec 32 := 0#32
  let v131 : BitVec 32 := Scalar.maxsi v130 c0_i32_83
  let c128_i32_84 : BitVec 32 := 128#32
  let v132 : BitVec 32 := Scalar.muli v131 c128_i32_84
  v132
def k0_mult16 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_86 : BitVec 32 := 4#32
  let v137 : BitVec 32 := Scalar.subi v15 c4_i32_86
  let c0_i32_87 : BitVec 32 := 0#32
  let v138 : BitVec 32 := Scalar.addi v137 c0_i32_87
  let c0_i32_88 : BitVec 32 := 0#32
  let v139 : BitVec 32 := Scalar.maxsi v138 c0_i32_88
  let c128_i32_89 : BitVec 32 := 128#32
  let v140 : BitVec 32 := Scalar.muli v139 c128_i32_89
  v140
def k0_mult17 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_91 : BitVec 32 := 4#32
  let v144 : BitVec 32 := Scalar.subi v15 c4_i32_91
  let c1_i32_92 : BitVec 32 := 1#32
  let v145 : BitVec 32 := Scalar.addi v144 c1_i32_92
  let c0_i32_93 : BitVec 32 := 0#32
  let v146 : BitVec 32 := Scalar.maxsi v145 c0_i32_93
  let c128_i32_94 : BitVec 32 := 128#32
  let v147 : BitVec 32 := Scalar.muli v146 c128_i32_94
  v147
def k0_mult18 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_96 : BitVec 32 := 4#32
  let v151 : BitVec 32 := Scalar.subi v15 c4_i32_96
  let c2_i32_97 : BitVec 32 := 2#32
  let v152 : BitVec 32 := Scalar.addi v151 c2_i32_97
  let c0_i32_98 : BitVec 32 := 0#32
  let v153 : BitVec 32 := Scalar.maxsi v152 c0_i32_98
  let c128_i32_99 : BitVec 32 := 128#32
  let v154 : BitVec 32 := Scalar.muli v153 c128_i32_99
  v154
def k0_mult19 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_101 : BitVec 32 := 4#32
  let v158 : BitVec 32 := Scalar.subi v15 c4_i32_101
  let c3_i32_102 : BitVec 32 := 3#32
  let v159 : BitVec 32 := Scalar.addi v158 c3_i32_102
  let c0_i32_103 : BitVec 32 := 0#32
  let v160 : BitVec 32 := Scalar.maxsi v159 c0_i32_103
  let c128_i32_104 : BitVec 32 := 128#32
  let v161 : BitVec 32 := Scalar.muli v160 c128_i32_104
  v161
def k0_mult20 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_106 : BitVec 32 := 4#32
  let v165 : BitVec 32 := Scalar.subi v15 c4_i32_106
  let c4_i32_107 : BitVec 32 := 4#32
  let v166 : BitVec 32 := Scalar.addi v165 c4_i32_107
  let c0_i32_108 : BitVec 32 := 0#32
  let v167 : BitVec 32 := Scalar.maxsi v166 c0_i32_108
  let c128_i32_109 : BitVec 32 := 128#32
  let v168 : BitVec 32 := Scalar.muli v167 c128_i32_109
  v168
def k0_mult21 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_111 : BitVec 32 := 4#32
  let v173 : BitVec 32 := Scalar.subi v17 c4_i32_111
  let c0_i32_112 : BitVec 32 := 0#32
  let v174 : BitVec 32 := Scalar.addi v173 c0_i32_112
  let c0_i32_113 : BitVec 32 := 0#32
  let v175 : BitVec 32 := Scalar.maxsi v174 c0_i32_113
  let c128_i32_114 : BitVec 32 := 128#32
  let v176 : BitVec 32 := Scalar.muli v175 c128_i32_114
  v176
def k0_mult22 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_116 : BitVec 32 := 4#32
  let v180 : BitVec 32 := Scalar.subi v17 c4_i32_116
  let c1_i32_117 : BitVec 32 := 1#32
  let v181 : BitVec 32 := Scalar.addi v180 c1_i32_117
  let c0_i32_118 : BitVec 32 := 0#32
  let v182 : BitVec 32 := Scalar.maxsi v181 c0_i32_118
  let c128_i32_119 : BitVec 32 := 128#32
  let v183 : BitVec 32 := Scalar.muli v182 c128_i32_119
  v183
def k0_mult23 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_121 : BitVec 32 := 4#32
  let v187 : BitVec 32 := Scalar.subi v17 c4_i32_121
  let c2_i32_122 : BitVec 32 := 2#32
  let v188 : BitVec 32 := Scalar.addi v187 c2_i32_122
  let c0_i32_123 : BitVec 32 := 0#32
  let v189 : BitVec 32 := Scalar.maxsi v188 c0_i32_123
  let c128_i32_124 : BitVec 32 := 128#32
  let v190 : BitVec 32 := Scalar.muli v189 c128_i32_124
  v190
def k0_mult24 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_126 : BitVec 32 := 4#32
  let v194 : BitVec 32 := Scalar.subi v17 c4_i32_126
  let c3_i32_127 : BitVec 32 := 3#32
  let v195 : BitVec 32 := Scalar.addi v194 c3_i32_127
  let c0_i32_128 : BitVec 32 := 0#32
  let v196 : BitVec 32 := Scalar.maxsi v195 c0_i32_128
  let c128_i32_129 : BitVec 32 := 128#32
  let v197 : BitVec 32 := Scalar.muli v196 c128_i32_129
  v197
def k0_mult25 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_131 : BitVec 32 := 4#32
  let v201 : BitVec 32 := Scalar.subi v17 c4_i32_131
  let c4_i32_132 : BitVec 32 := 4#32
  let v202 : BitVec 32 := Scalar.addi v201 c4_i32_132
  let c0_i32_133 : BitVec 32 := 0#32
  let v203 : BitVec 32 := Scalar.maxsi v202 c0_i32_133
  let c128_i32_134 : BitVec 32 := 128#32
  let v204 : BitVec 32 := Scalar.muli v203 c128_i32_134
  v204
def k0_mult26 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_136 : BitVec 32 := 4#32
  let v209 : BitVec 32 := Scalar.subi v19 c4_i32_136
  let c0_i32_137 : BitVec 32 := 0#32
  let v210 : BitVec 32 := Scalar.addi v209 c0_i32_137
  let c0_i32_138 : BitVec 32 := 0#32
  let v211 : BitVec 32 := Scalar.maxsi v210 c0_i32_138
  let c128_i32_139 : BitVec 32 := 128#32
  let v212 : BitVec 32 := Scalar.muli v211 c128_i32_139
  v212
def k0_mult27 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_141 : BitVec 32 := 4#32
  let v216 : BitVec 32 := Scalar.subi v19 c4_i32_141
  let c1_i32_142 : BitVec 32 := 1#32
  let v217 : BitVec 32 := Scalar.addi v216 c1_i32_142
  let c0_i32_143 : BitVec 32 := 0#32
  let v218 : BitVec 32 := Scalar.maxsi v217 c0_i32_143
  let c128_i32_144 : BitVec 32 := 128#32
  let v219 : BitVec 32 := Scalar.muli v218 c128_i32_144
  v219
def k0_mult28 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_146 : BitVec 32 := 4#32
  let v223 : BitVec 32 := Scalar.subi v19 c4_i32_146
  let c2_i32_147 : BitVec 32 := 2#32
  let v224 : BitVec 32 := Scalar.addi v223 c2_i32_147
  let c0_i32_148 : BitVec 32 := 0#32
  let v225 : BitVec 32 := Scalar.maxsi v224 c0_i32_148
  let c128_i32_149 : BitVec 32 := 128#32
  let v226 : BitVec 32 := Scalar.muli v225 c128_i32_149
  v226
def k0_mult29 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_151 : BitVec 32 := 4#32
  let v230 : BitVec 32 := Scalar.subi v19 c4_i32_151
  let c3_i32_152 : BitVec 32 := 3#32
  let v231 : BitVec 32 := Scalar.addi v230 c3_i32_152
  let c0_i32_153 : BitVec 32 := 0#32
  let v232 : BitVec 32 := Scalar.maxsi v231 c0_i32_153
  let c128_i32_154 : BitVec 32 := 128#32
  let v233 : BitVec 32 := Scalar.muli v232 c128_i32_154
  v233
def k0_mult30 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_156 : BitVec 32 := 4#32
  let v237 : BitVec 32 := Scalar.subi v19 c4_i32_156
  let c4_i32_157 : BitVec 32 := 4#32
  let v238 : BitVec 32 := Scalar.addi v237 c4_i32_157
  let c0_i32_158 : BitVec 32 := 0#32
  let v239 : BitVec 32 := Scalar.maxsi v238 c0_i32_158
  let c128_i32_159 : BitVec 32 := 128#32
  let v240 : BitVec 32 := Scalar.muli v239 c128_i32_159
  v240
def k0_mult31 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_161 : BitVec 32 := 4#32
  let v245 : BitVec 32 := Scalar.subi v21 c4_i32_161
  let c0_i32_162 : BitVec 32 := 0#32
  let v246 : BitVec 32 := Scalar.addi v245 c0_i32_162
  let c0_i32_163 : BitVec 32 := 0#32
  let v247 : BitVec 32 := Scalar.maxsi v246 c0_i32_163
  let c128_i32_164 : BitVec 32 := 128#32
  let v248 : BitVec 32 := Scalar.muli v247 c128_i32_164
  v248
def k0_mult32 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_166 : BitVec 32 := 4#32
  let v252 : BitVec 32 := Scalar.subi v21 c4_i32_166
  let c1_i32_167 : BitVec 32 := 1#32
  let v253 : BitVec 32 := Scalar.addi v252 c1_i32_167
  let c0_i32_168 : BitVec 32 := 0#32
  let v254 : BitVec 32 := Scalar.maxsi v253 c0_i32_168
  let c128_i32_169 : BitVec 32 := 128#32
  let v255 : BitVec 32 := Scalar.muli v254 c128_i32_169
  v255
def k0_mult33 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_171 : BitVec 32 := 4#32
  let v259 : BitVec 32 := Scalar.subi v21 c4_i32_171
  let c2_i32_172 : BitVec 32 := 2#32
  let v260 : BitVec 32 := Scalar.addi v259 c2_i32_172
  let c0_i32_173 : BitVec 32 := 0#32
  let v261 : BitVec 32 := Scalar.maxsi v260 c0_i32_173
  let c128_i32_174 : BitVec 32 := 128#32
  let v262 : BitVec 32 := Scalar.muli v261 c128_i32_174
  v262
def k0_mult34 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_176 : BitVec 32 := 4#32
  let v266 : BitVec 32 := Scalar.subi v21 c4_i32_176
  let c3_i32_177 : BitVec 32 := 3#32
  let v267 : BitVec 32 := Scalar.addi v266 c3_i32_177
  let c0_i32_178 : BitVec 32 := 0#32
  let v268 : BitVec 32 := Scalar.maxsi v267 c0_i32_178
  let c128_i32_179 : BitVec 32 := 128#32
  let v269 : BitVec 32 := Scalar.muli v268 c128_i32_179
  v269
def k0_mult35 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_181 : BitVec 32 := 4#32
  let v273 : BitVec 32 := Scalar.subi v21 c4_i32_181
  let c4_i32_182 : BitVec 32 := 4#32
  let v274 : BitVec 32 := Scalar.addi v273 c4_i32_182
  let c0_i32_183 : BitVec 32 := 0#32
  let v275 : BitVec 32 := Scalar.maxsi v274 c0_i32_183
  let c128_i32_184 : BitVec 32 := 128#32
  let v276 : BitVec 32 := Scalar.muli v275 c128_i32_184
  v276
def k0_mult36 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_186 : BitVec 32 := 4#32
  let v281 : BitVec 32 := Scalar.subi v23 c4_i32_186
  let c0_i32_187 : BitVec 32 := 0#32
  let v282 : BitVec 32 := Scalar.addi v281 c0_i32_187
  let c0_i32_188 : BitVec 32 := 0#32
  let v283 : BitVec 32 := Scalar.maxsi v282 c0_i32_188
  let c128_i32_189 : BitVec 32 := 128#32
  let v284 : BitVec 32 := Scalar.muli v283 c128_i32_189
  v284
def k0_mult37 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_191 : BitVec 32 := 4#32
  let v288 : BitVec 32 := Scalar.subi v23 c4_i32_191
  let c1_i32_192 : BitVec 32 := 1#32
  let v289 : BitVec 32 := Scalar.addi v288 c1_i32_192
  let c0_i32_193 : BitVec 32 := 0#32
  let v290 : BitVec 32 := Scalar.maxsi v289 c0_i32_193
  let c128_i32_194 : BitVec 32 := 128#32
  let v291 : BitVec 32 := Scalar.muli v290 c128_i32_194
  v291
def k0_mult38 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_196 : BitVec 32 := 4#32
  let v295 : BitVec 32 := Scalar.subi v23 c4_i32_196
  let c2_i32_197 : BitVec 32 := 2#32
  let v296 : BitVec 32 := Scalar.addi v295 c2_i32_197
  let c0_i32_198 : BitVec 32 := 0#32
  let v297 : BitVec 32 := Scalar.maxsi v296 c0_i32_198
  let c128_i32_199 : BitVec 32 := 128#32
  let v298 : BitVec 32 := Scalar.muli v297 c128_i32_199
  v298
def k0_mult39 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_201 : BitVec 32 := 4#32
  let v302 : BitVec 32 := Scalar.subi v23 c4_i32_201
  let c3_i32_202 : BitVec 32 := 3#32
  let v303 : BitVec 32 := Scalar.addi v302 c3_i32_202
  let c0_i32_203 : BitVec 32 := 0#32
  let v304 : BitVec 32 := Scalar.maxsi v303 c0_i32_203
  let c128_i32_204 : BitVec 32 := 128#32
  let v305 : BitVec 32 := Scalar.muli v304 c128_i32_204
  v305
def k0_mult40 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_206 : BitVec 32 := 4#32
  let v309 : BitVec 32 := Scalar.subi v23 c4_i32_206
  let c4_i32_207 : BitVec 32 := 4#32
  let v310 : BitVec 32 := Scalar.addi v309 c4_i32_207
  let c0_i32_208 : BitVec 32 := 0#32
  let v311 : BitVec 32 := Scalar.maxsi v310 c0_i32_208
  let c128_i32_209 : BitVec 32 := 128#32
  let v312 : BitVec 32 := Scalar.muli v311 c128_i32_209
  v312
def k0_mult41 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_211 : BitVec 32 := 4#32
  let v317 : BitVec 32 := Scalar.subi v9 c4_i32_211
  let c0_i32_212 : BitVec 32 := 0#32
  let v318 : BitVec 32 := Scalar.addi v317 c0_i32_212
  let c0_i32_213 : BitVec 32 := 0#32
  let v319 : BitVec 32 := Scalar.maxsi v318 c0_i32_213
  let c128_i32_214 : BitVec 32 := 128#32
  let v320 : BitVec 32 := Scalar.muli v319 c128_i32_214
  v320
def k0_mult42 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_216 : BitVec 32 := 4#32
  let v324 : BitVec 32 := Scalar.subi v9 c4_i32_216
  let c1_i32_217 : BitVec 32 := 1#32
  let v325 : BitVec 32 := Scalar.addi v324 c1_i32_217
  let c0_i32_218 : BitVec 32 := 0#32
  let v326 : BitVec 32 := Scalar.maxsi v325 c0_i32_218
  let c128_i32_219 : BitVec 32 := 128#32
  let v327 : BitVec 32 := Scalar.muli v326 c128_i32_219
  v327
def k0_mult43 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_221 : BitVec 32 := 4#32
  let v331 : BitVec 32 := Scalar.subi v9 c4_i32_221
  let c2_i32_222 : BitVec 32 := 2#32
  let v332 : BitVec 32 := Scalar.addi v331 c2_i32_222
  let c0_i32_223 : BitVec 32 := 0#32
  let v333 : BitVec 32 := Scalar.maxsi v332 c0_i32_223
  let c128_i32_224 : BitVec 32 := 128#32
  let v334 : BitVec 32 := Scalar.muli v333 c128_i32_224
  v334
def k0_mult44 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_226 : BitVec 32 := 4#32
  let v338 : BitVec 32 := Scalar.subi v9 c4_i32_226
  let c3_i32_227 : BitVec 32 := 3#32
  let v339 : BitVec 32 := Scalar.addi v338 c3_i32_227
  let c0_i32_228 : BitVec 32 := 0#32
  let v340 : BitVec 32 := Scalar.maxsi v339 c0_i32_228
  let c128_i32_229 : BitVec 32 := 128#32
  let v341 : BitVec 32 := Scalar.muli v340 c128_i32_229
  v341
def k0_mult45 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_231 : BitVec 32 := 4#32
  let v345 : BitVec 32 := Scalar.subi v9 c4_i32_231
  let c4_i32_232 : BitVec 32 := 4#32
  let v346 : BitVec 32 := Scalar.addi v345 c4_i32_232
  let c0_i32_233 : BitVec 32 := 0#32
  let v347 : BitVec 32 := Scalar.maxsi v346 c0_i32_233
  let c128_i32_234 : BitVec 32 := 128#32
  let v348 : BitVec 32 := Scalar.muli v347 c128_i32_234
  v348
def k0_mult46 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_236 : BitVec 32 := 4#32
  let v353 : BitVec 32 := Scalar.subi v11 c4_i32_236
  let c0_i32_237 : BitVec 32 := 0#32
  let v354 : BitVec 32 := Scalar.addi v353 c0_i32_237
  let c0_i32_238 : BitVec 32 := 0#32
  let v355 : BitVec 32 := Scalar.maxsi v354 c0_i32_238
  let c128_i32_239 : BitVec 32 := 128#32
  let v356 : BitVec 32 := Scalar.muli v355 c128_i32_239
  v356
def k0_mult47 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_241 : BitVec 32 := 4#32
  let v360 : BitVec 32 := Scalar.subi v11 c4_i32_241
  let c1_i32_242 : BitVec 32 := 1#32
  let v361 : BitVec 32 := Scalar.addi v360 c1_i32_242
  let c0_i32_243 : BitVec 32 := 0#32
  let v362 : BitVec 32 := Scalar.maxsi v361 c0_i32_243
  let c128_i32_244 : BitVec 32 := 128#32
  let v363 : BitVec 32 := Scalar.muli v362 c128_i32_244
  v363
def k0_mult48 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_246 : BitVec 32 := 4#32
  let v367 : BitVec 32 := Scalar.subi v11 c4_i32_246
  let c2_i32_247 : BitVec 32 := 2#32
  let v368 : BitVec 32 := Scalar.addi v367 c2_i32_247
  let c0_i32_248 : BitVec 32 := 0#32
  let v369 : BitVec 32 := Scalar.maxsi v368 c0_i32_248
  let c128_i32_249 : BitVec 32 := 128#32
  let v370 : BitVec 32 := Scalar.muli v369 c128_i32_249
  v370
def k0_mult49 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_251 : BitVec 32 := 4#32
  let v374 : BitVec 32 := Scalar.subi v11 c4_i32_251
  let c3_i32_252 : BitVec 32 := 3#32
  let v375 : BitVec 32 := Scalar.addi v374 c3_i32_252
  let c0_i32_253 : BitVec 32 := 0#32
  let v376 : BitVec 32 := Scalar.maxsi v375 c0_i32_253
  let c128_i32_254 : BitVec 32 := 128#32
  let v377 : BitVec 32 := Scalar.muli v376 c128_i32_254
  v377
def k0_mult50 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_256 : BitVec 32 := 4#32
  let v381 : BitVec 32 := Scalar.subi v11 c4_i32_256
  let c4_i32_257 : BitVec 32 := 4#32
  let v382 : BitVec 32 := Scalar.addi v381 c4_i32_257
  let c0_i32_258 : BitVec 32 := 0#32
  let v383 : BitVec 32 := Scalar.maxsi v382 c0_i32_258
  let c128_i32_259 : BitVec 32 := 128#32
  let v384 : BitVec 32 := Scalar.muli v383 c128_i32_259
  v384
def k0_mult51 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_261 : BitVec 32 := 4#32
  let v389 : BitVec 32 := Scalar.subi v13 c4_i32_261
  let c0_i32_262 : BitVec 32 := 0#32
  let v390 : BitVec 32 := Scalar.addi v389 c0_i32_262
  let c0_i32_263 : BitVec 32 := 0#32
  let v391 : BitVec 32 := Scalar.maxsi v390 c0_i32_263
  let c128_i32_264 : BitVec 32 := 128#32
  let v392 : BitVec 32 := Scalar.muli v391 c128_i32_264
  v392
def k0_mult52 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_266 : BitVec 32 := 4#32
  let v396 : BitVec 32 := Scalar.subi v13 c4_i32_266
  let c1_i32_267 : BitVec 32 := 1#32
  let v397 : BitVec 32 := Scalar.addi v396 c1_i32_267
  let c0_i32_268 : BitVec 32 := 0#32
  let v398 : BitVec 32 := Scalar.maxsi v397 c0_i32_268
  let c128_i32_269 : BitVec 32 := 128#32
  let v399 : BitVec 32 := Scalar.muli v398 c128_i32_269
  v399
def k0_mult53 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_271 : BitVec 32 := 4#32
  let v403 : BitVec 32 := Scalar.subi v13 c4_i32_271
  let c2_i32_272 : BitVec 32 := 2#32
  let v404 : BitVec 32 := Scalar.addi v403 c2_i32_272
  let c0_i32_273 : BitVec 32 := 0#32
  let v405 : BitVec 32 := Scalar.maxsi v404 c0_i32_273
  let c128_i32_274 : BitVec 32 := 128#32
  let v406 : BitVec 32 := Scalar.muli v405 c128_i32_274
  v406
def k0_mult54 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_276 : BitVec 32 := 4#32
  let v410 : BitVec 32 := Scalar.subi v13 c4_i32_276
  let c3_i32_277 : BitVec 32 := 3#32
  let v411 : BitVec 32 := Scalar.addi v410 c3_i32_277
  let c0_i32_278 : BitVec 32 := 0#32
  let v412 : BitVec 32 := Scalar.maxsi v411 c0_i32_278
  let c128_i32_279 : BitVec 32 := 128#32
  let v413 : BitVec 32 := Scalar.muli v412 c128_i32_279
  v413
def k0_mult55 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_281 : BitVec 32 := 4#32
  let v417 : BitVec 32 := Scalar.subi v13 c4_i32_281
  let c4_i32_282 : BitVec 32 := 4#32
  let v418 : BitVec 32 := Scalar.addi v417 c4_i32_282
  let c0_i32_283 : BitVec 32 := 0#32
  let v419 : BitVec 32 := Scalar.maxsi v418 c0_i32_283
  let c128_i32_284 : BitVec 32 := 128#32
  let v420 : BitVec 32 := Scalar.muli v419 c128_i32_284
  v420
def k0_mult56 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_286 : BitVec 32 := 4#32
  let v425 : BitVec 32 := Scalar.subi v15 c4_i32_286
  let c0_i32_287 : BitVec 32 := 0#32
  let v426 : BitVec 32 := Scalar.addi v425 c0_i32_287
  let c0_i32_288 : BitVec 32 := 0#32
  let v427 : BitVec 32 := Scalar.maxsi v426 c0_i32_288
  let c128_i32_289 : BitVec 32 := 128#32
  let v428 : BitVec 32 := Scalar.muli v427 c128_i32_289
  v428
def k0_mult57 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_291 : BitVec 32 := 4#32
  let v432 : BitVec 32 := Scalar.subi v15 c4_i32_291
  let c1_i32_292 : BitVec 32 := 1#32
  let v433 : BitVec 32 := Scalar.addi v432 c1_i32_292
  let c0_i32_293 : BitVec 32 := 0#32
  let v434 : BitVec 32 := Scalar.maxsi v433 c0_i32_293
  let c128_i32_294 : BitVec 32 := 128#32
  let v435 : BitVec 32 := Scalar.muli v434 c128_i32_294
  v435
def k0_mult58 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_296 : BitVec 32 := 4#32
  let v439 : BitVec 32 := Scalar.subi v15 c4_i32_296
  let c2_i32_297 : BitVec 32 := 2#32
  let v440 : BitVec 32 := Scalar.addi v439 c2_i32_297
  let c0_i32_298 : BitVec 32 := 0#32
  let v441 : BitVec 32 := Scalar.maxsi v440 c0_i32_298
  let c128_i32_299 : BitVec 32 := 128#32
  let v442 : BitVec 32 := Scalar.muli v441 c128_i32_299
  v442
def k0_mult59 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_301 : BitVec 32 := 4#32
  let v446 : BitVec 32 := Scalar.subi v15 c4_i32_301
  let c3_i32_302 : BitVec 32 := 3#32
  let v447 : BitVec 32 := Scalar.addi v446 c3_i32_302
  let c0_i32_303 : BitVec 32 := 0#32
  let v448 : BitVec 32 := Scalar.maxsi v447 c0_i32_303
  let c128_i32_304 : BitVec 32 := 128#32
  let v449 : BitVec 32 := Scalar.muli v448 c128_i32_304
  v449
def k0_mult60 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_306 : BitVec 32 := 4#32
  let v453 : BitVec 32 := Scalar.subi v15 c4_i32_306
  let c4_i32_307 : BitVec 32 := 4#32
  let v454 : BitVec 32 := Scalar.addi v453 c4_i32_307
  let c0_i32_308 : BitVec 32 := 0#32
  let v455 : BitVec 32 := Scalar.maxsi v454 c0_i32_308
  let c128_i32_309 : BitVec 32 := 128#32
  let v456 : BitVec 32 := Scalar.muli v455 c128_i32_309
  v456
def k0_mult61 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_311 : BitVec 32 := 4#32
  let v461 : BitVec 32 := Scalar.subi v17 c4_i32_311
  let c0_i32_312 : BitVec 32 := 0#32
  let v462 : BitVec 32 := Scalar.addi v461 c0_i32_312
  let c0_i32_313 : BitVec 32 := 0#32
  let v463 : BitVec 32 := Scalar.maxsi v462 c0_i32_313
  let c128_i32_314 : BitVec 32 := 128#32
  let v464 : BitVec 32 := Scalar.muli v463 c128_i32_314
  v464
def k0_mult62 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_316 : BitVec 32 := 4#32
  let v468 : BitVec 32 := Scalar.subi v17 c4_i32_316
  let c1_i32_317 : BitVec 32 := 1#32
  let v469 : BitVec 32 := Scalar.addi v468 c1_i32_317
  let c0_i32_318 : BitVec 32 := 0#32
  let v470 : BitVec 32 := Scalar.maxsi v469 c0_i32_318
  let c128_i32_319 : BitVec 32 := 128#32
  let v471 : BitVec 32 := Scalar.muli v470 c128_i32_319
  v471
def k0_mult63 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_321 : BitVec 32 := 4#32
  let v475 : BitVec 32 := Scalar.subi v17 c4_i32_321
  let c2_i32_322 : BitVec 32 := 2#32
  let v476 : BitVec 32 := Scalar.addi v475 c2_i32_322
  let c0_i32_323 : BitVec 32 := 0#32
  let v477 : BitVec 32 := Scalar.maxsi v476 c0_i32_323
  let c128_i32_324 : BitVec 32 := 128#32
  let v478 : BitVec 32 := Scalar.muli v477 c128_i32_324
  v478
def k0_mult64 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_326 : BitVec 32 := 4#32
  let v482 : BitVec 32 := Scalar.subi v17 c4_i32_326
  let c3_i32_327 : BitVec 32 := 3#32
  let v483 : BitVec 32 := Scalar.addi v482 c3_i32_327
  let c0_i32_328 : BitVec 32 := 0#32
  let v484 : BitVec 32 := Scalar.maxsi v483 c0_i32_328
  let c128_i32_329 : BitVec 32 := 128#32
  let v485 : BitVec 32 := Scalar.muli v484 c128_i32_329
  v485
def k0_mult65 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_331 : BitVec 32 := 4#32
  let v489 : BitVec 32 := Scalar.subi v17 c4_i32_331
  let c4_i32_332 : BitVec 32 := 4#32
  let v490 : BitVec 32 := Scalar.addi v489 c4_i32_332
  let c0_i32_333 : BitVec 32 := 0#32
  let v491 : BitVec 32 := Scalar.maxsi v490 c0_i32_333
  let c128_i32_334 : BitVec 32 := 128#32
  let v492 : BitVec 32 := Scalar.muli v491 c128_i32_334
  v492
def k0_mult66 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_336 : BitVec 32 := 4#32
  let v497 : BitVec 32 := Scalar.subi v19 c4_i32_336
  let c0_i32_337 : BitVec 32 := 0#32
  let v498 : BitVec 32 := Scalar.addi v497 c0_i32_337
  let c0_i32_338 : BitVec 32 := 0#32
  let v499 : BitVec 32 := Scalar.maxsi v498 c0_i32_338
  let c128_i32_339 : BitVec 32 := 128#32
  let v500 : BitVec 32 := Scalar.muli v499 c128_i32_339
  v500
def k0_mult67 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_341 : BitVec 32 := 4#32
  let v504 : BitVec 32 := Scalar.subi v19 c4_i32_341
  let c1_i32_342 : BitVec 32 := 1#32
  let v505 : BitVec 32 := Scalar.addi v504 c1_i32_342
  let c0_i32_343 : BitVec 32 := 0#32
  let v506 : BitVec 32 := Scalar.maxsi v505 c0_i32_343
  let c128_i32_344 : BitVec 32 := 128#32
  let v507 : BitVec 32 := Scalar.muli v506 c128_i32_344
  v507
def k0_mult68 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_346 : BitVec 32 := 4#32
  let v511 : BitVec 32 := Scalar.subi v19 c4_i32_346
  let c2_i32_347 : BitVec 32 := 2#32
  let v512 : BitVec 32 := Scalar.addi v511 c2_i32_347
  let c0_i32_348 : BitVec 32 := 0#32
  let v513 : BitVec 32 := Scalar.maxsi v512 c0_i32_348
  let c128_i32_349 : BitVec 32 := 128#32
  let v514 : BitVec 32 := Scalar.muli v513 c128_i32_349
  v514
def k0_mult69 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_351 : BitVec 32 := 4#32
  let v518 : BitVec 32 := Scalar.subi v19 c4_i32_351
  let c3_i32_352 : BitVec 32 := 3#32
  let v519 : BitVec 32 := Scalar.addi v518 c3_i32_352
  let c0_i32_353 : BitVec 32 := 0#32
  let v520 : BitVec 32 := Scalar.maxsi v519 c0_i32_353
  let c128_i32_354 : BitVec 32 := 128#32
  let v521 : BitVec 32 := Scalar.muli v520 c128_i32_354
  v521
def k0_mult70 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_356 : BitVec 32 := 4#32
  let v525 : BitVec 32 := Scalar.subi v19 c4_i32_356
  let c4_i32_357 : BitVec 32 := 4#32
  let v526 : BitVec 32 := Scalar.addi v525 c4_i32_357
  let c0_i32_358 : BitVec 32 := 0#32
  let v527 : BitVec 32 := Scalar.maxsi v526 c0_i32_358
  let c128_i32_359 : BitVec 32 := 128#32
  let v528 : BitVec 32 := Scalar.muli v527 c128_i32_359
  v528
def k0_mult71 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_361 : BitVec 32 := 4#32
  let v533 : BitVec 32 := Scalar.subi v21 c4_i32_361
  let c0_i32_362 : BitVec 32 := 0#32
  let v534 : BitVec 32 := Scalar.addi v533 c0_i32_362
  let c0_i32_363 : BitVec 32 := 0#32
  let v535 : BitVec 32 := Scalar.maxsi v534 c0_i32_363
  let c128_i32_364 : BitVec 32 := 128#32
  let v536 : BitVec 32 := Scalar.muli v535 c128_i32_364
  v536
def k0_mult72 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_366 : BitVec 32 := 4#32
  let v540 : BitVec 32 := Scalar.subi v21 c4_i32_366
  let c1_i32_367 : BitVec 32 := 1#32
  let v541 : BitVec 32 := Scalar.addi v540 c1_i32_367
  let c0_i32_368 : BitVec 32 := 0#32
  let v542 : BitVec 32 := Scalar.maxsi v541 c0_i32_368
  let c128_i32_369 : BitVec 32 := 128#32
  let v543 : BitVec 32 := Scalar.muli v542 c128_i32_369
  v543
def k0_mult73 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_371 : BitVec 32 := 4#32
  let v547 : BitVec 32 := Scalar.subi v21 c4_i32_371
  let c2_i32_372 : BitVec 32 := 2#32
  let v548 : BitVec 32 := Scalar.addi v547 c2_i32_372
  let c0_i32_373 : BitVec 32 := 0#32
  let v549 : BitVec 32 := Scalar.maxsi v548 c0_i32_373
  let c128_i32_374 : BitVec 32 := 128#32
  let v550 : BitVec 32 := Scalar.muli v549 c128_i32_374
  v550
def k0_mult74 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_376 : BitVec 32 := 4#32
  let v554 : BitVec 32 := Scalar.subi v21 c4_i32_376
  let c3_i32_377 : BitVec 32 := 3#32
  let v555 : BitVec 32 := Scalar.addi v554 c3_i32_377
  let c0_i32_378 : BitVec 32 := 0#32
  let v556 : BitVec 32 := Scalar.maxsi v555 c0_i32_378
  let c128_i32_379 : BitVec 32 := 128#32
  let v557 : BitVec 32 := Scalar.muli v556 c128_i32_379
  v557
def k0_mult75 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_381 : BitVec 32 := 4#32
  let v561 : BitVec 32 := Scalar.subi v21 c4_i32_381
  let c4_i32_382 : BitVec 32 := 4#32
  let v562 : BitVec 32 := Scalar.addi v561 c4_i32_382
  let c0_i32_383 : BitVec 32 := 0#32
  let v563 : BitVec 32 := Scalar.maxsi v562 c0_i32_383
  let c128_i32_384 : BitVec 32 := 128#32
  let v564 : BitVec 32 := Scalar.muli v563 c128_i32_384
  v564
def k0_mult76 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_386 : BitVec 32 := 4#32
  let v569 : BitVec 32 := Scalar.subi v23 c4_i32_386
  let c0_i32_387 : BitVec 32 := 0#32
  let v570 : BitVec 32 := Scalar.addi v569 c0_i32_387
  let c0_i32_388 : BitVec 32 := 0#32
  let v571 : BitVec 32 := Scalar.maxsi v570 c0_i32_388
  let c128_i32_389 : BitVec 32 := 128#32
  let v572 : BitVec 32 := Scalar.muli v571 c128_i32_389
  v572
def k0_mult77 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_391 : BitVec 32 := 4#32
  let v576 : BitVec 32 := Scalar.subi v23 c4_i32_391
  let c1_i32_392 : BitVec 32 := 1#32
  let v577 : BitVec 32 := Scalar.addi v576 c1_i32_392
  let c0_i32_393 : BitVec 32 := 0#32
  let v578 : BitVec 32 := Scalar.maxsi v577 c0_i32_393
  let c128_i32_394 : BitVec 32 := 128#32
  let v579 : BitVec 32 := Scalar.muli v578 c128_i32_394
  v579
def k0_mult78 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_396 : BitVec 32 := 4#32
  let v583 : BitVec 32 := Scalar.subi v23 c4_i32_396
  let c2_i32_397 : BitVec 32 := 2#32
  let v584 : BitVec 32 := Scalar.addi v583 c2_i32_397
  let c0_i32_398 : BitVec 32 := 0#32
  let v585 : BitVec 32 := Scalar.maxsi v584 c0_i32_398
  let c128_i32_399 : BitVec 32 := 128#32
  let v586 : BitVec 32 := Scalar.muli v585 c128_i32_399
  v586
def k0_mult79 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_401 : BitVec 32 := 4#32
  let v590 : BitVec 32 := Scalar.subi v23 c4_i32_401
  let c3_i32_402 : BitVec 32 := 3#32
  let v591 : BitVec 32 := Scalar.addi v590 c3_i32_402
  let c0_i32_403 : BitVec 32 := 0#32
  let v592 : BitVec 32 := Scalar.maxsi v591 c0_i32_403
  let c128_i32_404 : BitVec 32 := 128#32
  let v593 : BitVec 32 := Scalar.muli v592 c128_i32_404
  v593
def k0_mult80 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_406 : BitVec 32 := 4#32
  let v597 : BitVec 32 := Scalar.subi v23 c4_i32_406
  let c4_i32_407 : BitVec 32 := 4#32
  let v598 : BitVec 32 := Scalar.addi v597 c4_i32_407
  let c0_i32_408 : BitVec 32 := 0#32
  let v599 : BitVec 32 := Scalar.maxsi v598 c0_i32_408
  let c128_i32_409 : BitVec 32 := 128#32
  let v600 : BitVec 32 := Scalar.muli v599 c128_i32_409
  v600
def k0_mult81 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_827 : BitVec 32 := 4#32
  let v1734 : BitVec 32 := Scalar.subi v9 c4_i32_827
  let c0_i32_828 : BitVec 32 := 0#32
  let v1735 : BitVec 32 := Scalar.addi v1734 c0_i32_828
  let c0_i32_829 : BitVec 32 := 0#32
  let v1736 : BitVec 32 := Scalar.maxsi v1735 c0_i32_829
  let c128_i32_830 : BitVec 32 := 128#32
  let v1737 : BitVec 32 := Scalar.muli v1736 c128_i32_830
  v1737
def k0_mult82 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_835 : BitVec 32 := 4#32
  let v1755 : BitVec 32 := Scalar.subi v9 c4_i32_835
  let c1_i32_836 : BitVec 32 := 1#32
  let v1756 : BitVec 32 := Scalar.addi v1755 c1_i32_836
  let c0_i32_837 : BitVec 32 := 0#32
  let v1757 : BitVec 32 := Scalar.maxsi v1756 c0_i32_837
  let c128_i32_838 : BitVec 32 := 128#32
  let v1758 : BitVec 32 := Scalar.muli v1757 c128_i32_838
  v1758
def k0_mult83 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_843 : BitVec 32 := 4#32
  let v1776 : BitVec 32 := Scalar.subi v9 c4_i32_843
  let c2_i32_844 : BitVec 32 := 2#32
  let v1777 : BitVec 32 := Scalar.addi v1776 c2_i32_844
  let c0_i32_845 : BitVec 32 := 0#32
  let v1778 : BitVec 32 := Scalar.maxsi v1777 c0_i32_845
  let c128_i32_846 : BitVec 32 := 128#32
  let v1779 : BitVec 32 := Scalar.muli v1778 c128_i32_846
  v1779
def k0_mult84 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_851 : BitVec 32 := 4#32
  let v1797 : BitVec 32 := Scalar.subi v9 c4_i32_851
  let c3_i32_852 : BitVec 32 := 3#32
  let v1798 : BitVec 32 := Scalar.addi v1797 c3_i32_852
  let c0_i32_853 : BitVec 32 := 0#32
  let v1799 : BitVec 32 := Scalar.maxsi v1798 c0_i32_853
  let c128_i32_854 : BitVec 32 := 128#32
  let v1800 : BitVec 32 := Scalar.muli v1799 c128_i32_854
  v1800
def k0_mult85 (i : grid0.Coords) : BitVec 32 :=
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c4_i32_859 : BitVec 32 := 4#32
  let v1818 : BitVec 32 := Scalar.subi v9 c4_i32_859
  let c4_i32_860 : BitVec 32 := 4#32
  let v1819 : BitVec 32 := Scalar.addi v1818 c4_i32_860
  let c0_i32_861 : BitVec 32 := 0#32
  let v1820 : BitVec 32 := Scalar.maxsi v1819 c0_i32_861
  let c128_i32_862 : BitVec 32 := 128#32
  let v1821 : BitVec 32 := Scalar.muli v1820 c128_i32_862
  v1821
def k0_mult86 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_871 : BitVec 32 := 4#32
  let v1850 : BitVec 32 := Scalar.subi v11 c4_i32_871
  let c0_i32_872 : BitVec 32 := 0#32
  let v1851 : BitVec 32 := Scalar.addi v1850 c0_i32_872
  let c0_i32_873 : BitVec 32 := 0#32
  let v1852 : BitVec 32 := Scalar.maxsi v1851 c0_i32_873
  let c128_i32_874 : BitVec 32 := 128#32
  let v1853 : BitVec 32 := Scalar.muli v1852 c128_i32_874
  v1853
def k0_mult87 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_879 : BitVec 32 := 4#32
  let v1871 : BitVec 32 := Scalar.subi v11 c4_i32_879
  let c1_i32_880 : BitVec 32 := 1#32
  let v1872 : BitVec 32 := Scalar.addi v1871 c1_i32_880
  let c0_i32_881 : BitVec 32 := 0#32
  let v1873 : BitVec 32 := Scalar.maxsi v1872 c0_i32_881
  let c128_i32_882 : BitVec 32 := 128#32
  let v1874 : BitVec 32 := Scalar.muli v1873 c128_i32_882
  v1874
def k0_mult88 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_887 : BitVec 32 := 4#32
  let v1892 : BitVec 32 := Scalar.subi v11 c4_i32_887
  let c2_i32_888 : BitVec 32 := 2#32
  let v1893 : BitVec 32 := Scalar.addi v1892 c2_i32_888
  let c0_i32_889 : BitVec 32 := 0#32
  let v1894 : BitVec 32 := Scalar.maxsi v1893 c0_i32_889
  let c128_i32_890 : BitVec 32 := 128#32
  let v1895 : BitVec 32 := Scalar.muli v1894 c128_i32_890
  v1895
def k0_mult89 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_895 : BitVec 32 := 4#32
  let v1913 : BitVec 32 := Scalar.subi v11 c4_i32_895
  let c3_i32_896 : BitVec 32 := 3#32
  let v1914 : BitVec 32 := Scalar.addi v1913 c3_i32_896
  let c0_i32_897 : BitVec 32 := 0#32
  let v1915 : BitVec 32 := Scalar.maxsi v1914 c0_i32_897
  let c128_i32_898 : BitVec 32 := 128#32
  let v1916 : BitVec 32 := Scalar.muli v1915 c128_i32_898
  v1916
def k0_mult90 (i : grid0.Coords) : BitVec 32 :=
  let arg2 : BitVec 32 := BitVec.ofNat 32 (i 2).val
  let c8_i32_5 : BitVec 32 := 8#32
  let v10 : BitVec 32 := Scalar.muli arg2 c8_i32_5
  let c1_i32 : BitVec 32 := 1#32
  let v11 : BitVec 32 := Scalar.addi v10 c1_i32
  let c4_i32_903 : BitVec 32 := 4#32
  let v1934 : BitVec 32 := Scalar.subi v11 c4_i32_903
  let c4_i32_904 : BitVec 32 := 4#32
  let v1935 : BitVec 32 := Scalar.addi v1934 c4_i32_904
  let c0_i32_905 : BitVec 32 := 0#32
  let v1936 : BitVec 32 := Scalar.maxsi v1935 c0_i32_905
  let c128_i32_906 : BitVec 32 := 128#32
  let v1937 : BitVec 32 := Scalar.muli v1936 c128_i32_906
  v1937
def k0_mult91 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_915 : BitVec 32 := 4#32
  let v1966 : BitVec 32 := Scalar.subi v13 c4_i32_915
  let c0_i32_916 : BitVec 32 := 0#32
  let v1967 : BitVec 32 := Scalar.addi v1966 c0_i32_916
  let c0_i32_917 : BitVec 32 := 0#32
  let v1968 : BitVec 32 := Scalar.maxsi v1967 c0_i32_917
  let c128_i32_918 : BitVec 32 := 128#32
  let v1969 : BitVec 32 := Scalar.muli v1968 c128_i32_918
  v1969
def k0_mult92 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_923 : BitVec 32 := 4#32
  let v1987 : BitVec 32 := Scalar.subi v13 c4_i32_923
  let c1_i32_924 : BitVec 32 := 1#32
  let v1988 : BitVec 32 := Scalar.addi v1987 c1_i32_924
  let c0_i32_925 : BitVec 32 := 0#32
  let v1989 : BitVec 32 := Scalar.maxsi v1988 c0_i32_925
  let c128_i32_926 : BitVec 32 := 128#32
  let v1990 : BitVec 32 := Scalar.muli v1989 c128_i32_926
  v1990
def k0_mult93 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_931 : BitVec 32 := 4#32
  let v2008 : BitVec 32 := Scalar.subi v13 c4_i32_931
  let c2_i32_932 : BitVec 32 := 2#32
  let v2009 : BitVec 32 := Scalar.addi v2008 c2_i32_932
  let c0_i32_933 : BitVec 32 := 0#32
  let v2010 : BitVec 32 := Scalar.maxsi v2009 c0_i32_933
  let c128_i32_934 : BitVec 32 := 128#32
  let v2011 : BitVec 32 := Scalar.muli v2010 c128_i32_934
  v2011
def k0_mult94 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_939 : BitVec 32 := 4#32
  let v2029 : BitVec 32 := Scalar.subi v13 c4_i32_939
  let c3_i32_940 : BitVec 32 := 3#32
  let v2030 : BitVec 32 := Scalar.addi v2029 c3_i32_940
  let c0_i32_941 : BitVec 32 := 0#32
  let v2031 : BitVec 32 := Scalar.maxsi v2030 c0_i32_941
  let c128_i32_942 : BitVec 32 := 128#32
  let v2032 : BitVec 32 := Scalar.muli v2031 c128_i32_942
  v2032
def k0_mult95 (i : grid0.Coords) : BitVec 32 :=
  let arg2 : BitVec 32 := BitVec.ofNat 32 (i 2).val
  let c8_i32_6 : BitVec 32 := 8#32
  let v12 : BitVec 32 := Scalar.muli arg2 c8_i32_6
  let c2_i32 : BitVec 32 := 2#32
  let v13 : BitVec 32 := Scalar.addi v12 c2_i32
  let c4_i32_947 : BitVec 32 := 4#32
  let v2050 : BitVec 32 := Scalar.subi v13 c4_i32_947
  let c4_i32_948 : BitVec 32 := 4#32
  let v2051 : BitVec 32 := Scalar.addi v2050 c4_i32_948
  let c0_i32_949 : BitVec 32 := 0#32
  let v2052 : BitVec 32 := Scalar.maxsi v2051 c0_i32_949
  let c128_i32_950 : BitVec 32 := 128#32
  let v2053 : BitVec 32 := Scalar.muli v2052 c128_i32_950
  v2053
def k0_mult96 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_959 : BitVec 32 := 4#32
  let v2082 : BitVec 32 := Scalar.subi v15 c4_i32_959
  let c0_i32_960 : BitVec 32 := 0#32
  let v2083 : BitVec 32 := Scalar.addi v2082 c0_i32_960
  let c0_i32_961 : BitVec 32 := 0#32
  let v2084 : BitVec 32 := Scalar.maxsi v2083 c0_i32_961
  let c128_i32_962 : BitVec 32 := 128#32
  let v2085 : BitVec 32 := Scalar.muli v2084 c128_i32_962
  v2085
def k0_mult97 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_967 : BitVec 32 := 4#32
  let v2103 : BitVec 32 := Scalar.subi v15 c4_i32_967
  let c1_i32_968 : BitVec 32 := 1#32
  let v2104 : BitVec 32 := Scalar.addi v2103 c1_i32_968
  let c0_i32_969 : BitVec 32 := 0#32
  let v2105 : BitVec 32 := Scalar.maxsi v2104 c0_i32_969
  let c128_i32_970 : BitVec 32 := 128#32
  let v2106 : BitVec 32 := Scalar.muli v2105 c128_i32_970
  v2106
def k0_mult98 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_975 : BitVec 32 := 4#32
  let v2124 : BitVec 32 := Scalar.subi v15 c4_i32_975
  let c2_i32_976 : BitVec 32 := 2#32
  let v2125 : BitVec 32 := Scalar.addi v2124 c2_i32_976
  let c0_i32_977 : BitVec 32 := 0#32
  let v2126 : BitVec 32 := Scalar.maxsi v2125 c0_i32_977
  let c128_i32_978 : BitVec 32 := 128#32
  let v2127 : BitVec 32 := Scalar.muli v2126 c128_i32_978
  v2127
def k0_mult99 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_983 : BitVec 32 := 4#32
  let v2145 : BitVec 32 := Scalar.subi v15 c4_i32_983
  let c3_i32_984 : BitVec 32 := 3#32
  let v2146 : BitVec 32 := Scalar.addi v2145 c3_i32_984
  let c0_i32_985 : BitVec 32 := 0#32
  let v2147 : BitVec 32 := Scalar.maxsi v2146 c0_i32_985
  let c128_i32_986 : BitVec 32 := 128#32
  let v2148 : BitVec 32 := Scalar.muli v2147 c128_i32_986
  v2148
def k0_mult100 (i : grid0.Coords) : BitVec 32 :=
  let arg2 : BitVec 32 := BitVec.ofNat 32 (i 2).val
  let c8_i32_7 : BitVec 32 := 8#32
  let v14 : BitVec 32 := Scalar.muli arg2 c8_i32_7
  let c3_i32 : BitVec 32 := 3#32
  let v15 : BitVec 32 := Scalar.addi v14 c3_i32
  let c4_i32_991 : BitVec 32 := 4#32
  let v2166 : BitVec 32 := Scalar.subi v15 c4_i32_991
  let c4_i32_992 : BitVec 32 := 4#32
  let v2167 : BitVec 32 := Scalar.addi v2166 c4_i32_992
  let c0_i32_993 : BitVec 32 := 0#32
  let v2168 : BitVec 32 := Scalar.maxsi v2167 c0_i32_993
  let c128_i32_994 : BitVec 32 := 128#32
  let v2169 : BitVec 32 := Scalar.muli v2168 c128_i32_994
  v2169
def k0_mult101 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_1003 : BitVec 32 := 4#32
  let v2198 : BitVec 32 := Scalar.subi v17 c4_i32_1003
  let c0_i32_1004 : BitVec 32 := 0#32
  let v2199 : BitVec 32 := Scalar.addi v2198 c0_i32_1004
  let c0_i32_1005 : BitVec 32 := 0#32
  let v2200 : BitVec 32 := Scalar.maxsi v2199 c0_i32_1005
  let c128_i32_1006 : BitVec 32 := 128#32
  let v2201 : BitVec 32 := Scalar.muli v2200 c128_i32_1006
  v2201
def k0_mult102 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_1011 : BitVec 32 := 4#32
  let v2219 : BitVec 32 := Scalar.subi v17 c4_i32_1011
  let c1_i32_1012 : BitVec 32 := 1#32
  let v2220 : BitVec 32 := Scalar.addi v2219 c1_i32_1012
  let c0_i32_1013 : BitVec 32 := 0#32
  let v2221 : BitVec 32 := Scalar.maxsi v2220 c0_i32_1013
  let c128_i32_1014 : BitVec 32 := 128#32
  let v2222 : BitVec 32 := Scalar.muli v2221 c128_i32_1014
  v2222
def k0_mult103 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_1019 : BitVec 32 := 4#32
  let v2240 : BitVec 32 := Scalar.subi v17 c4_i32_1019
  let c2_i32_1020 : BitVec 32 := 2#32
  let v2241 : BitVec 32 := Scalar.addi v2240 c2_i32_1020
  let c0_i32_1021 : BitVec 32 := 0#32
  let v2242 : BitVec 32 := Scalar.maxsi v2241 c0_i32_1021
  let c128_i32_1022 : BitVec 32 := 128#32
  let v2243 : BitVec 32 := Scalar.muli v2242 c128_i32_1022
  v2243
def k0_mult104 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_1027 : BitVec 32 := 4#32
  let v2261 : BitVec 32 := Scalar.subi v17 c4_i32_1027
  let c3_i32_1028 : BitVec 32 := 3#32
  let v2262 : BitVec 32 := Scalar.addi v2261 c3_i32_1028
  let c0_i32_1029 : BitVec 32 := 0#32
  let v2263 : BitVec 32 := Scalar.maxsi v2262 c0_i32_1029
  let c128_i32_1030 : BitVec 32 := 128#32
  let v2264 : BitVec 32 := Scalar.muli v2263 c128_i32_1030
  v2264
def k0_mult105 (i : grid0.Coords) : BitVec 32 :=
  let arg2 : BitVec 32 := BitVec.ofNat 32 (i 2).val
  let c8_i32_8 : BitVec 32 := 8#32
  let v16 : BitVec 32 := Scalar.muli arg2 c8_i32_8
  let c4_i32 : BitVec 32 := 4#32
  let v17 : BitVec 32 := Scalar.addi v16 c4_i32
  let c4_i32_1035 : BitVec 32 := 4#32
  let v2282 : BitVec 32 := Scalar.subi v17 c4_i32_1035
  let c4_i32_1036 : BitVec 32 := 4#32
  let v2283 : BitVec 32 := Scalar.addi v2282 c4_i32_1036
  let c0_i32_1037 : BitVec 32 := 0#32
  let v2284 : BitVec 32 := Scalar.maxsi v2283 c0_i32_1037
  let c128_i32_1038 : BitVec 32 := 128#32
  let v2285 : BitVec 32 := Scalar.muli v2284 c128_i32_1038
  v2285
def k0_mult106 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_1047 : BitVec 32 := 4#32
  let v2314 : BitVec 32 := Scalar.subi v19 c4_i32_1047
  let c0_i32_1048 : BitVec 32 := 0#32
  let v2315 : BitVec 32 := Scalar.addi v2314 c0_i32_1048
  let c0_i32_1049 : BitVec 32 := 0#32
  let v2316 : BitVec 32 := Scalar.maxsi v2315 c0_i32_1049
  let c128_i32_1050 : BitVec 32 := 128#32
  let v2317 : BitVec 32 := Scalar.muli v2316 c128_i32_1050
  v2317
def k0_mult107 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_1055 : BitVec 32 := 4#32
  let v2335 : BitVec 32 := Scalar.subi v19 c4_i32_1055
  let c1_i32_1056 : BitVec 32 := 1#32
  let v2336 : BitVec 32 := Scalar.addi v2335 c1_i32_1056
  let c0_i32_1057 : BitVec 32 := 0#32
  let v2337 : BitVec 32 := Scalar.maxsi v2336 c0_i32_1057
  let c128_i32_1058 : BitVec 32 := 128#32
  let v2338 : BitVec 32 := Scalar.muli v2337 c128_i32_1058
  v2338
def k0_mult108 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_1063 : BitVec 32 := 4#32
  let v2356 : BitVec 32 := Scalar.subi v19 c4_i32_1063
  let c2_i32_1064 : BitVec 32 := 2#32
  let v2357 : BitVec 32 := Scalar.addi v2356 c2_i32_1064
  let c0_i32_1065 : BitVec 32 := 0#32
  let v2358 : BitVec 32 := Scalar.maxsi v2357 c0_i32_1065
  let c128_i32_1066 : BitVec 32 := 128#32
  let v2359 : BitVec 32 := Scalar.muli v2358 c128_i32_1066
  v2359
def k0_mult109 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_1071 : BitVec 32 := 4#32
  let v2377 : BitVec 32 := Scalar.subi v19 c4_i32_1071
  let c3_i32_1072 : BitVec 32 := 3#32
  let v2378 : BitVec 32 := Scalar.addi v2377 c3_i32_1072
  let c0_i32_1073 : BitVec 32 := 0#32
  let v2379 : BitVec 32 := Scalar.maxsi v2378 c0_i32_1073
  let c128_i32_1074 : BitVec 32 := 128#32
  let v2380 : BitVec 32 := Scalar.muli v2379 c128_i32_1074
  v2380
def k0_mult110 (i : grid0.Coords) : BitVec 32 :=
  let arg2 : BitVec 32 := BitVec.ofNat 32 (i 2).val
  let c8_i32_9 : BitVec 32 := 8#32
  let v18 : BitVec 32 := Scalar.muli arg2 c8_i32_9
  let c5_i32 : BitVec 32 := 5#32
  let v19 : BitVec 32 := Scalar.addi v18 c5_i32
  let c4_i32_1079 : BitVec 32 := 4#32
  let v2398 : BitVec 32 := Scalar.subi v19 c4_i32_1079
  let c4_i32_1080 : BitVec 32 := 4#32
  let v2399 : BitVec 32 := Scalar.addi v2398 c4_i32_1080
  let c0_i32_1081 : BitVec 32 := 0#32
  let v2400 : BitVec 32 := Scalar.maxsi v2399 c0_i32_1081
  let c128_i32_1082 : BitVec 32 := 128#32
  let v2401 : BitVec 32 := Scalar.muli v2400 c128_i32_1082
  v2401
def k0_mult111 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_1091 : BitVec 32 := 4#32
  let v2430 : BitVec 32 := Scalar.subi v21 c4_i32_1091
  let c0_i32_1092 : BitVec 32 := 0#32
  let v2431 : BitVec 32 := Scalar.addi v2430 c0_i32_1092
  let c0_i32_1093 : BitVec 32 := 0#32
  let v2432 : BitVec 32 := Scalar.maxsi v2431 c0_i32_1093
  let c128_i32_1094 : BitVec 32 := 128#32
  let v2433 : BitVec 32 := Scalar.muli v2432 c128_i32_1094
  v2433
def k0_mult112 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_1099 : BitVec 32 := 4#32
  let v2451 : BitVec 32 := Scalar.subi v21 c4_i32_1099
  let c1_i32_1100 : BitVec 32 := 1#32
  let v2452 : BitVec 32 := Scalar.addi v2451 c1_i32_1100
  let c0_i32_1101 : BitVec 32 := 0#32
  let v2453 : BitVec 32 := Scalar.maxsi v2452 c0_i32_1101
  let c128_i32_1102 : BitVec 32 := 128#32
  let v2454 : BitVec 32 := Scalar.muli v2453 c128_i32_1102
  v2454
def k0_mult113 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_1107 : BitVec 32 := 4#32
  let v2472 : BitVec 32 := Scalar.subi v21 c4_i32_1107
  let c2_i32_1108 : BitVec 32 := 2#32
  let v2473 : BitVec 32 := Scalar.addi v2472 c2_i32_1108
  let c0_i32_1109 : BitVec 32 := 0#32
  let v2474 : BitVec 32 := Scalar.maxsi v2473 c0_i32_1109
  let c128_i32_1110 : BitVec 32 := 128#32
  let v2475 : BitVec 32 := Scalar.muli v2474 c128_i32_1110
  v2475
def k0_mult114 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_1115 : BitVec 32 := 4#32
  let v2493 : BitVec 32 := Scalar.subi v21 c4_i32_1115
  let c3_i32_1116 : BitVec 32 := 3#32
  let v2494 : BitVec 32 := Scalar.addi v2493 c3_i32_1116
  let c0_i32_1117 : BitVec 32 := 0#32
  let v2495 : BitVec 32 := Scalar.maxsi v2494 c0_i32_1117
  let c128_i32_1118 : BitVec 32 := 128#32
  let v2496 : BitVec 32 := Scalar.muli v2495 c128_i32_1118
  v2496
def k0_mult115 (i : grid0.Coords) : BitVec 32 :=
  let arg2 : BitVec 32 := BitVec.ofNat 32 (i 2).val
  let c8_i32_10 : BitVec 32 := 8#32
  let v20 : BitVec 32 := Scalar.muli arg2 c8_i32_10
  let c6_i32 : BitVec 32 := 6#32
  let v21 : BitVec 32 := Scalar.addi v20 c6_i32
  let c4_i32_1123 : BitVec 32 := 4#32
  let v2514 : BitVec 32 := Scalar.subi v21 c4_i32_1123
  let c4_i32_1124 : BitVec 32 := 4#32
  let v2515 : BitVec 32 := Scalar.addi v2514 c4_i32_1124
  let c0_i32_1125 : BitVec 32 := 0#32
  let v2516 : BitVec 32 := Scalar.maxsi v2515 c0_i32_1125
  let c128_i32_1126 : BitVec 32 := 128#32
  let v2517 : BitVec 32 := Scalar.muli v2516 c128_i32_1126
  v2517
def k0_mult116 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_1135 : BitVec 32 := 4#32
  let v2546 : BitVec 32 := Scalar.subi v23 c4_i32_1135
  let c0_i32_1136 : BitVec 32 := 0#32
  let v2547 : BitVec 32 := Scalar.addi v2546 c0_i32_1136
  let c0_i32_1137 : BitVec 32 := 0#32
  let v2548 : BitVec 32 := Scalar.maxsi v2547 c0_i32_1137
  let c128_i32_1138 : BitVec 32 := 128#32
  let v2549 : BitVec 32 := Scalar.muli v2548 c128_i32_1138
  v2549
def k0_mult117 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_1143 : BitVec 32 := 4#32
  let v2567 : BitVec 32 := Scalar.subi v23 c4_i32_1143
  let c1_i32_1144 : BitVec 32 := 1#32
  let v2568 : BitVec 32 := Scalar.addi v2567 c1_i32_1144
  let c0_i32_1145 : BitVec 32 := 0#32
  let v2569 : BitVec 32 := Scalar.maxsi v2568 c0_i32_1145
  let c128_i32_1146 : BitVec 32 := 128#32
  let v2570 : BitVec 32 := Scalar.muli v2569 c128_i32_1146
  v2570
def k0_mult118 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_1151 : BitVec 32 := 4#32
  let v2588 : BitVec 32 := Scalar.subi v23 c4_i32_1151
  let c2_i32_1152 : BitVec 32 := 2#32
  let v2589 : BitVec 32 := Scalar.addi v2588 c2_i32_1152
  let c0_i32_1153 : BitVec 32 := 0#32
  let v2590 : BitVec 32 := Scalar.maxsi v2589 c0_i32_1153
  let c128_i32_1154 : BitVec 32 := 128#32
  let v2591 : BitVec 32 := Scalar.muli v2590 c128_i32_1154
  v2591
def k0_mult119 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_1159 : BitVec 32 := 4#32
  let v2609 : BitVec 32 := Scalar.subi v23 c4_i32_1159
  let c3_i32_1160 : BitVec 32 := 3#32
  let v2610 : BitVec 32 := Scalar.addi v2609 c3_i32_1160
  let c0_i32_1161 : BitVec 32 := 0#32
  let v2611 : BitVec 32 := Scalar.maxsi v2610 c0_i32_1161
  let c128_i32_1162 : BitVec 32 := 128#32
  let v2612 : BitVec 32 := Scalar.muli v2611 c128_i32_1162
  v2612
def k0_mult120 (i : grid0.Coords) : BitVec 32 :=
  let arg2 : BitVec 32 := BitVec.ofNat 32 (i 2).val
  let c8_i32_11 : BitVec 32 := 8#32
  let v22 : BitVec 32 := Scalar.muli arg2 c8_i32_11
  let c7_i32 : BitVec 32 := 7#32
  let v23 : BitVec 32 := Scalar.addi v22 c7_i32
  let c4_i32_1167 : BitVec 32 := 4#32
  let v2630 : BitVec 32 := Scalar.subi v23 c4_i32_1167
  let c4_i32_1168 : BitVec 32 := 4#32
  let v2631 : BitVec 32 := Scalar.addi v2630 c4_i32_1168
  let c0_i32_1169 : BitVec 32 := 0#32
  let v2632 : BitVec 32 := Scalar.maxsi v2631 c0_i32_1169
  let c128_i32_1170 : BitVec 32 := 128#32
  let v2633 : BitVec 32 := Scalar.muli v2632 c128_i32_1170
  v2633
def k0_cond3 (i : grid0.Coords) : BitVec 1 :=
  let arg2 : BitVec 32 := BitVec.ofNat 32 (i 2).val
  let c1_i32_1175 : BitVec 32 := 1#32
  let v2651 : BitVec 1 := Scalar.cmpi .eq arg2 c1_i32_1175
  let v2652 : BitVec 32 := Scalar.extui v2651
  let c0_i32_1176 : BitVec 32 := 0#32
  let v2653 : BitVec 1 := Scalar.cmpi .ne v2652 c0_i32_1176
  v2653

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== AttnAIdeal.lean ====
variable {F : FTy → Type} [FloatOps F] [Named F]
def κ : String → Option EReal := fun
  | "mask" => some ⊥
  | _ => none
-- ==== AttnARefIdeal.lean ====
abbrev S4096x3072 : Shape := ⟨2, ![4096, 3072]⟩
abbrev S257x16 : Shape := ⟨2, ![257, 16]⟩
abbrev S4096x1024 : Shape := ⟨2, ![4096, 1024]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2048x2048 : Shape := ⟨2, ![2048, 2048]⟩
abbrev S_ : Shape := ⟨0, ![]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x64 : Shape := ⟨4, ![2, 16, 2048, 64]⟩
abbrev S16x2048x2560 : Shape := ⟨3, ![16, 2048, 2560]⟩
abbrev S16x128x640 : Shape := ⟨3, ![16, 128, 640]⟩

abbrev nBuf : Space → Nat
  | .hbm => 215
  | .vmem => 0
  | .smem => 0
  | _ => 0

abbrev hbmTy0_0 (i : Nat) : BufTy := match i % 128 with
  | 0 => ⟨S4096x3072, .bf16⟩
  | 1 => ⟨S257x16, .f32⟩
  | 2 => ⟨S4096x1024, .bf16⟩
  | 3 => ⟨S4096x3072, .f32⟩
  | 4 => ⟨S2x2048x3x16x64, .f32⟩
  | 5 => ⟨S2x2048x1x16x64, .f32⟩
  | 6 => ⟨S2x2048x16x64, .f32⟩
  | 7 => ⟨S4096x3072, .f32⟩
  | 8 => ⟨S2x2048x3x16x64, .f32⟩
  | 9 => ⟨S2x2048x1x16x64, .f32⟩
  | 10 => ⟨S2x2048x16x64, .f32⟩
  | 11 => ⟨S4096x3072, .f32⟩
  | 12 => ⟨S2x2048x3x16x64, .f32⟩
  | 13 => ⟨S2x2048x1x16x64, .f32⟩
  | 14 => ⟨S2x2048x16x64, .f32⟩
  | 15 => ⟨S2048x2048, .i32⟩
  | 16 => ⟨S2048x2048, .i32⟩
  | 17 => ⟨S2048x2048, .i32⟩
  | 18 => ⟨S_, .i32⟩
  | 19 => ⟨S_, .i32⟩
  | 20 => ⟨S_, .i32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i32⟩
  | 29 => ⟨S_, .i32⟩
  | 30 => ⟨S2048x2048, .i32⟩
  | 31 => ⟨S2048x2048, .i1⟩
  | 32 => ⟨S_, .i32⟩
  | 33 => ⟨S2048x2048, .i32⟩
  | 34 => ⟨S2048x2048, .i32⟩
  | 35 => ⟨S2048x2048, .i32⟩
  | 36 => ⟨S2048x2048x1, .i32⟩
  | 37 => ⟨S2048x2048x16, .f32⟩
  | 38 => ⟨S16x2048x2048, .f32⟩
  | 39 => ⟨S2x16x2048x2048, .f32⟩
  | 40 => ⟨S_, .f32⟩
  | 41 => ⟨S2x16x2048x2048, .f32⟩
  | 42 => ⟨S2x16x2048x2048, .f32⟩
  | 43 => ⟨S1x16x2048x2048, .f32⟩
  | 44 => ⟨S2x16x2048x2048, .f32⟩
  | 45 => ⟨S2x16x2048x2048, .f32⟩
  | 46 => ⟨S2048x2048, .i32⟩
  | 47 => ⟨S_, .i32⟩
  | 48 => ⟨S_, .i32⟩
  | 49 => ⟨S2048x2048, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i1⟩
  | 61 => ⟨S_, .i32⟩
  | 62 => ⟨S2048x2048, .i32⟩
  | 63 => ⟨S2048x2048, .i32⟩
  | 64 => ⟨S2048x2048, .i32⟩
  | 65 => ⟨S2048x2048, .i32⟩
  | 66 => ⟨S_, .i32⟩
  | 67 => ⟨S_, .i32⟩
  | 68 => ⟨S2048x2048, .i32⟩
  | 69 => ⟨S2048x2048, .i32⟩
  | 70 => ⟨S2048x2048, .i32⟩
  | 71 => ⟨S_, .i32⟩
  | 72 => ⟨S2048x2048, .i32⟩
  | 73 => ⟨S2048x2048, .i1⟩
  | 74 => ⟨S2048x2048, .i32⟩
  | 75 => ⟨S2048x2048, .i32⟩
  | 76 => ⟨S_, .i32⟩
  | 77 => ⟨S2048x2048, .i32⟩
  | 78 => ⟨S2048x2048, .i1⟩
  | 79 => ⟨S2048x2048, .i1⟩
  | 80 => ⟨S_, .i32⟩
  | 81 => ⟨S2048x2048, .i32⟩
  | 82 => ⟨S2048x2048, .i32⟩
  | 83 => ⟨S2048x2048, .i32⟩
  | 84 => ⟨S2048x2048, .i1⟩
  | 85 => ⟨S_, .i32⟩
  | 86 => ⟨S2048x2048, .i32⟩
  | 87 => ⟨S2048x2048, .i32⟩
  | 88 => ⟨S2048x2048, .i1⟩
  | 89 => ⟨S2048x2048, .i1⟩
  | 90 => ⟨S_, .f32⟩
  | 91 => ⟨S_, .f32⟩
  | 92 => ⟨S2x16x2048x2048, .i1⟩
  | 93 => ⟨S2x16x2048x2048, .f32⟩
  | 94 => ⟨S2x16x2048x2048, .f32⟩
  | 95 => ⟨S_, .f32⟩
  | 96 => ⟨S2x16x2048x2048, .f32⟩
  | 97 => ⟨S_, .f32⟩
  | 98 => ⟨S2x16x2048, .f32⟩
  | 99 => ⟨S2x16x2048x1, .f32⟩
  | 100 => ⟨S2x16x2048x2048, .f32⟩
  | 101 => ⟨S2x16x2048x2048, .i1⟩
  | 102 => ⟨S2x16x2048x2048, .f32⟩
  | 103 => ⟨S_, .f32⟩
  | 104 => ⟨S2x16x2048, .f32⟩
  | 105 => ⟨S_, .f32⟩
  | 106 => ⟨S2x16x2048, .f32⟩
  | 107 => ⟨S2x16x2048, .f32⟩
  | 108 => ⟨S_, .f32⟩
  | 109 => ⟨S2x16x2048, .f32⟩
  | 110 => ⟨S2x16x2048, .i1⟩
  | 111 => ⟨S_, .f32⟩
  | 112 => ⟨S2x16x2048, .f32⟩
  | 113 => ⟨S2x16x2048, .i1⟩
  | 114 => ⟨S_, .f32⟩
  | 115 => ⟨S2x16x2048, .f32⟩
  | 116 => ⟨S_, .f32⟩
  | 117 => ⟨S2x16x2048, .f32⟩
  | 118 => ⟨S_, .f32⟩
  | 119 => ⟨S2x16x2048, .f32⟩
  | 120 => ⟨S2x16x2048, .f32⟩
  | 121 => ⟨S2x16x2048, .f32⟩
  | 122 => ⟨S2x16x2048x1, .f32⟩
  | 123 => ⟨S2x16x2048x2048, .f32⟩
  | 124 => ⟨S2x16x2048x2048, .f32⟩
  | 125 => ⟨S2x16x2048x2048, .f32⟩
  | 126 => ⟨S_, .f32⟩
  | 127 => ⟨S2x16x2048, .f32⟩
  | _ => ⟨S4096x3072, .bf16⟩

abbrev hbmTy0_1 (i : Nat) : BufTy := match i % 128 with
  | 0 => ⟨S2x16x2048x1, .f32⟩
  | 1 => ⟨S2x16x2048x2048, .f32⟩
  | 2 => ⟨S2x16x2048x2048, .f32⟩
  | 3 => ⟨S2x16x2048x1, .f32⟩
  | 4 => ⟨S_, .f32⟩
  | 5 => ⟨S2x16x2048x1, .f32⟩
  | 6 => ⟨S2x16x2048x1, .f32⟩
  | 7 => ⟨S2x16x64x2048, .f32⟩
  | 8 => ⟨S2x2048x16x64, .f32⟩
  | 9 => ⟨S4096x1024, .f32⟩
  | 10 => ⟨S2x2048x16x64, .f32⟩
  | 11 => ⟨S2x16x64x2048, .f32⟩
  | 12 => ⟨S2x16x2048x2048, .f32⟩
  | 13 => ⟨S2x16x64x2048, .f32⟩
  | 14 => ⟨S2x2048x16x64, .f32⟩
  | 15 => ⟨S2x16x2048x2048, .f32⟩
  | 16 => ⟨S2x16x2048x2048, .f32⟩
  | 17 => ⟨S2x16x2048x2048, .f32⟩
  | 18 => ⟨S_, .f32⟩
  | 19 => ⟨S2x16x2048, .f32⟩
  | 20 => ⟨S2x16x2048x1, .f32⟩
  | 21 => ⟨S2x16x2048x1, .f32⟩
  | 22 => ⟨S2x16x2048x2048, .f32⟩
  | 23 => ⟨S2x16x2048x2048, .f32⟩
  | 24 => ⟨S_, .f32⟩
  | 25 => ⟨S2x16x2048, .f32⟩
  | 26 => ⟨S2x16x2048x2048, .f32⟩
  | 27 => ⟨S2x16x2048x2048, .f32⟩
  | 28 => ⟨S2x16x2048x2048, .f32⟩
  | 29 => ⟨S_, .f32⟩
  | 30 => ⟨S2x16x2048x2048, .f32⟩
  | 31 => ⟨S2x16x2048x2048, .f32⟩
  | 32 => ⟨S_, .f32⟩
  | 33 => ⟨S16x2048x2048, .f32⟩
  | 34 => ⟨S1x16x2048x2048, .f32⟩
  | 35 => ⟨S_, .f32⟩
  | 36 => ⟨S16x2048x2048, .f32⟩
  | 37 => ⟨S_, .f32⟩
  | 38 => ⟨S2x16x2048x2048, .f32⟩
  | 39 => ⟨S2x16x2048x2048, .f32⟩
  | 40 => ⟨S2x16x2048x64, .f32⟩
  | 41 => ⟨S2x2048x16x64, .f32⟩
  | 42 => ⟨S2x16x2048x64, .f32⟩
  | 43 => ⟨S2x2048x16x64, .f32⟩
  | 44 => ⟨S_, .i32⟩
  | 45 => ⟨S_, .f32⟩
  | 46 => ⟨S16x2048x2560, .f32⟩
  | 47 => ⟨S16x128x640, .f32⟩
  | 48 => ⟨S_, .f32⟩
  | 49 => ⟨S16x128x640, .f32⟩
  | 50 => ⟨S16x128x640, .f32⟩
  | 51 => ⟨S16x128x640, .f32⟩
  | 52 => ⟨S16x128x640, .f32⟩
  | 53 => ⟨S16x128x640, .f32⟩
  | 54 => ⟨S16x128x640, .f32⟩
  | 55 => ⟨S16x128x640, .f32⟩
  | 56 => ⟨S16x128x640, .f32⟩
  | 57 => ⟨S16x128x640, .f32⟩
  | 58 => ⟨S16x128x640, .f32⟩
  | 59 => ⟨S16x128x640, .f32⟩
  | 60 => ⟨S16x128x640, .f32⟩
  | 61 => ⟨S16x128x640, .f32⟩
  | 62 => ⟨S16x128x640, .f32⟩
  | 63 => ⟨S16x128x640, .f32⟩
  | 64 => ⟨S16x128x640, .f32⟩
  | 65 => ⟨S16x128x640, .f32⟩
  | 66 => ⟨S16x128x640, .f32⟩
  | 67 => ⟨S16x128x640, .f32⟩
  | 68 => ⟨S16x128x640, .f32⟩
  | 69 => ⟨S16x128x640, .f32⟩
  | 70 => ⟨S16x128x640, .f32⟩
  | 71 => ⟨S16x128x640, .f32⟩
  | 72 => ⟨S16x128x640, .f32⟩
  | 73 => ⟨S16x128x640, .f32⟩
  | 74 => ⟨S16x128x640, .f32⟩
  | 75 => ⟨S16x128x640, .f32⟩
  | 76 => ⟨S16x128x640, .f32⟩
  | 77 => ⟨S16x128x640, .f32⟩
  | 78 => ⟨S16x128x640, .f32⟩
  | 79 => ⟨S16x128x640, .f32⟩
  | 80 => ⟨S16x128x640, .f32⟩
  | 81 => ⟨S4096x1024, .f32⟩
  | 82 => ⟨S4096x1024, .bf16⟩
  | 83 => ⟨S4096x1024, .f32⟩
  | 84 => ⟨S4096x1024, .bf16⟩
  | 85 => ⟨S4096x1024, .f32⟩
  | 86 => ⟨S4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v35 : Ref sig .tc := ⟨.hbm, 83, rfl⟩
abbrev main_v36 : Ref sig .tc := ⟨.hbm, 84, rfl⟩
abbrev main_c_6 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_7 : Ref sig .tc := ⟨.hbm, 90, rfl⟩
abbrev main_call3_v0 : Ref sig .tc := ⟨.hbm, 91, rfl⟩
abbrev main_v41_1 : Ref sig .tc := ⟨.hbm, 92, rfl⟩
abbrev main_call3_v2 : Ref sig .tc := ⟨.hbm, 93, rfl⟩
abbrev main_v41_0 : Ref sig .tc := ⟨.hbm, 94, rfl⟩
abbrev main_call3_cst : Ref sig .tc := ⟨.hbm, 95, rfl⟩
abbrev main_v41_2 : Ref sig .tc := ⟨.hbm, 96, rfl⟩
abbrev main_cst_8 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_9 : Ref sig .tc := ⟨.hbm, 103, rfl⟩
abbrev main_v47 : Ref sig .tc := ⟨.hbm, 104, rfl⟩
abbrev main_cst_10 : Ref sig .tc := ⟨.hbm, 105, rfl⟩
abbrev main_v48 : Ref sig .tc := ⟨.hbm, 106, rfl⟩
abbrev main_v49 : Ref sig .tc := ⟨.hbm, 107, rfl⟩
abbrev main_cst_11 : Ref sig .tc := ⟨.hbm, 108, rfl⟩
abbrev main_v50 : Ref sig .tc := ⟨.hbm, 109, rfl⟩
abbrev main_v51 : Ref sig .tc := ⟨.hbm, 110, rfl⟩
abbrev main_cst_12 : Ref sig .tc := ⟨.hbm, 111, rfl⟩
abbrev main_v52 : Ref sig .tc := ⟨.hbm, 112, rfl⟩
abbrev main_v53 : Ref sig .tc := ⟨.hbm, 113, rfl⟩
abbrev main_cst_13 : Ref sig .tc := ⟨.hbm, 114, rfl⟩
abbrev main_v54 : Ref sig .tc := ⟨.hbm, 115, rfl⟩
abbrev main_cst_14 : Ref sig .tc := ⟨.hbm, 116, rfl⟩
abbrev main_v55 : Ref sig .tc := ⟨.hbm, 117, rfl⟩
abbrev main_cst_15 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_16 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_17 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_18 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_cst_19 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_call4_cst : Ref sig .tc := ⟨.hbm, 157, rfl⟩
abbrev main_call4_v0 : Ref sig .tc := ⟨.hbm, 158, rfl⟩
abbrev main_v90 : Ref sig .tc := ⟨.hbm, 159, rfl⟩
abbrev main_cst_20 : Ref sig .tc := ⟨.hbm, 160, rfl⟩
abbrev main_v91 : Ref sig .tc := ⟨.hbm, 161, rfl⟩
abbrev main_v92 : Ref sig .tc := ⟨.hbm, 162, rfl⟩
abbrev main_cst_21 : Ref sig .tc := ⟨.hbm, 163, rfl⟩
abbrev main_v93 : Ref sig .tc := ⟨.hbm, 164, rfl⟩
abbrev main_cst_22 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_c_23 : Ref sig .tc := ⟨.hbm, 172, rfl⟩
abbrev main_call5_v0 : Ref sig .tc := ⟨.hbm, 173, rfl⟩
abbrev main_v100 : Ref sig .tc := ⟨.hbm, 174, rfl⟩
abbrev main_v101 : Ref sig .tc := ⟨.hbm, 175, rfl⟩
abbrev main_cst_24 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩

abbrev nD : Nat := 1
abbrev τ : Topo := Topo.v7x

variable {F : FTy → Type} [FloatOps F]
-- ==== AttnBFwd.lean ====
abbrev S4096x3072 : Shape := ⟨2, ![4096, 3072]⟩
abbrev S4096x1024 : Shape := ⟨2, ![4096, 1024]⟩
abbrev S256x128 : Shape := ⟨2, ![256, 128]⟩
abbrev S2048x128 : Shape := ⟨2, ![2048, 128]⟩
abbrev S256x256 : Shape := ⟨2, ![256, 256]⟩
abbrev S1x128 : Shape := ⟨2, ![1, 128]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let arg2 : BitVec 32 := BitVec.ofNat 32 (i 2).val
  let c2_i32 : BitVec 32 := 2#32
  let c0_i32 : BitVec 32 := 0#32
  let v25 : BitVec 1 := Scalar.cmpi .eq c2_i32 c0_i32
  let c1_i32 : BitVec 32 := 1#32
  let v26 : BitVec 32 := Scalar.select v25 c1_i32 c2_i32
  let v27 : BitVec 32 := Scalar.remsi arg2 v26
  let c0_i32_9 : BitVec 32 := 0#32
  let v29 : BitVec 1 := Scalar.cmpi .slt v27 c0_i32_9
  let c0_i32_10 : BitVec 32 := 0#32
  let v30 : BitVec 1 := Scalar.cmpi .slt v26 c0_i32_10
  let v31 : BitVec 1 := Scalar.xori v29 v30
  let c0_i32_8 : BitVec 32 := 0#32
  let v28 : BitVec 1 := Scalar.cmpi .ne v27 c0_i32_8
  let v32 : BitVec 1 := Scalar.andi v31 v28
  let v33 : BitVec 32 := Scalar.addi v27 v26
  let v34 : BitVec 32 := Scalar.select v32 v33 v27
  let c1_i32_11 : BitVec 32 := 1#32
  let v35 : BitVec 1 := Scalar.cmpi .eq v34 c1_i32_11
  let v36 : BitVec 32 := Scalar.extui v35
  let c0_i32_12 : BitVec 32 := 0#32
  let v37 : BitVec 1 := Scalar.cmpi .ne v36 c0_i32_12
  v37

def k0_mult1 (i : grid0.Coords) : BitVec 32 :=
  let arg2 : BitVec 32 := BitVec.ofNat 32 (i 2).val
  let c256_i32 : BitVec 32 := 256#32
  let v84 : BitVec 32 := Scalar.muli arg2 c256_i32
  v84
def k0_mult2 (i : grid0.Coords) : BitVec 32 :=
  let arg2 : BitVec 32 := BitVec.ofNat 32 (i 2).val
  let c1_i32_34 : BitVec 32 := 1#32
  let v83 : BitVec 32 := Scalar.subi arg2 c1_i32_34
  let c256_i32_35 : BitVec 32 := 256#32
  let v86 : BitVec 32 := Scalar.muli v83 c256_i32_35
  v86
def k0_off1 (i : grid0.Coords) : Fin 2 → Nat :=
  let arg2 : BitVec 32 := BitVec.ofNat 32 (i 2).val
  let c256_i32 : BitVec 32 := 256#32
  let v84 : BitVec 32 := Scalar.muli arg2 c256_i32
  let v85 : BitVec 32 := v84
  let v88 : Index := Scalar.indexCast v85
  let c0_36 : Index := 0#32
  ![v88.toNat, 0]
def k0_off2 (i : grid0.Coords) : Fin 2 → Nat :=
  let arg2 : BitVec 32 := BitVec.ofNat 32 (i 2).val
  let c1_i32_34 : BitVec 32 := 1#32
  let v83 : BitVec 32 := Scalar.subi arg2 c1_i32_34
  let c256_i32_35 : BitVec 32 := 256#32
  let v86 : BitVec 32 := Scalar.muli v83 c256_i32_35
  let v87 : BitVec 32 := v86
  let v90 : Index := Scalar.indexCast v87
  let c0_37 : Index := 0#32
  ![v90.toNat, 0]
def k0_mult3 (i : grid0.Coords) : BitVec 32 :=
  let arg2 : BitVec 32 := BitVec.ofNat 32 (i 2).val
  let c256_i32 : BitVec 32 := 256#32
  let v83 : BitVec 32 := Scalar.muli arg2 c256_i32
  v83
def k0_off3 (i : grid0.Coords) : Fin 2 → Nat :=
  let arg2 : BitVec 32 := BitVec.ofNat 32 (i 2).val
  let c256_i32 : BitVec 32 := 256#32
  let v83 : BitVec 32 := Scalar.muli arg2 c256_i32
  let v84 : BitVec 32 := v83
  let v85 : Index := Scalar.indexCast v84
  let c0_34 : Index := 0#32
  ![v85.toNat, 0]
@[reducible] def k0_t1_loop (i : grid0.Coords) : Scf.Loop 32 :=
  let c0_i32_27 : BitVec 32 := 0#32
  let arg2 : BitVec 32 := BitVec.ofNat 32 (i 2).val
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_29 : BitVec 32 := 1#32
  ⟨c0_i32_27, v72, c1_i32_29⟩
def k0_mult4 (i : grid0.Coords) (k0_t1 : Fin (k0_t1_loop i).trips) : BitVec 32 :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c2_i32_34 : BitVec 32 := 2#32
  let c0_i32_27 : BitVec 32 := 0#32
  let c1_i32_29 : BitVec 32 := 1#32
  let arg7 : BitVec 32 := Scf.iv c0_i32_27 c1_i32_29 k0_t1
  let v83 : BitVec 32 := Scalar.muli c2_i32_34 arg7
  let v84 : BitVec 32 := Scalar.subi v50 v83
  let c256_i32 : BitVec 32 := 256#32
  let v88 : BitVec 32 := Scalar.muli v84 c256_i32
  v88
def k0_mult5 (i : grid0.Coords) (k0_t1 : Fin (k0_t1_loop i).trips) : BitVec 32 :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c1_i32_35 : BitVec 32 := 1#32
  let v85 : BitVec 32 := Scalar.subi v50 c1_i32_35
  let c2_i32_36 : BitVec 32 := 2#32
  let c0_i32_27 : BitVec 32 := 0#32
  let c1_i32_29 : BitVec 32 := 1#32
  let arg7 : BitVec 32 := Scf.iv c0_i32_27 c1_i32_29 k0_t1
  let v86 : BitVec 32 := Scalar.muli c2_i32_36 arg7
  let v87 : BitVec 32 := Scalar.subi v85 v86
  let c256_i32_37 : BitVec 32 := 256#32
  let v90 : BitVec 32 := Scalar.muli v87 c256_i32_37
  v90
def k0_off4 (i : grid0.Coords) (k0_t1 : Fin (k0_t1_loop i).trips) : Fin 2 → Nat :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c2_i32_34 : BitVec 32 := 2#32
  let c0_i32_27 : BitVec 32 := 0#32
  let c1_i32_29 : BitVec 32 := 1#32
  let arg7 : BitVec 32 := Scf.iv c0_i32_27 c1_i32_29 k0_t1
  let v83 : BitVec 32 := Scalar.muli c2_i32_34 arg7
  let v84 : BitVec 32 := Scalar.subi v50 v83
  let c256_i32 : BitVec 32 := 256#32
  let v88 : BitVec 32 := Scalar.muli v84 c256_i32
  let v89 : BitVec 32 := v88
  let v92 : Index := Scalar.indexCast v89
  let c0_38 : Index := 0#32
  ![v92.toNat, 0]
def k0_off5 (i : grid0.Coords) (k0_t1 : Fin (k0_t1_loop i).trips) : Fin 2 → Nat :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c1_i32_35 : BitVec 32 := 1#32
  let v85 : BitVec 32 := Scalar.subi v50 c1_i32_35
  let c2_i32_36 : BitVec 32 := 2#32
  let c0_i32_27 : BitVec 32 := 0#32
  let c1_i32_29 : BitVec 32 := 1#32
  let arg7 : BitVec 32 := Scf.iv c0_i32_27 c1_i32_29 k0_t1
  let v86 : BitVec 32 := Scalar.muli c2_i32_36 arg7
  let v87 : BitVec 32 := Scalar.subi v85 v86
  let c256_i32_37 : BitVec 32 := 256#32
  let v90 : BitVec 32 := Scalar.muli v87 c256_i32_37
  let v91 : BitVec 32 := v90
  let v94 : Index := Scalar.indexCast v91
  let c0_39 : Index := 0#32
  ![v94.toNat, 0]
@[reducible] def k0_t2_loop (i : grid0.Coords) : Scf.Loop 32 :=
  let c0_i32_27 : BitVec 32 := 0#32
  let arg2 : BitVec 32 := BitVec.ofNat 32 (i 2).val
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let v69 : BitVec 32 := Scalar.addi c0_i32_27 v68
  let c1_i32_30 : BitVec 32 := 1#32
  ⟨v72, v69, c1_i32_30⟩
def k0_mult6 (i : grid0.Coords) (k0_t2 : Fin (k0_t2_loop i).trips) : BitVec 32 :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c2_i32_34 : BitVec 32 := 2#32
  let c0_i32_27 : BitVec 32 := 0#32
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_30 : BitVec 32 := 1#32
  let arg7 : BitVec 32 := Scf.iv v72 c1_i32_30 k0_t2
  let v83 : BitVec 32 := Scalar.muli c2_i32_34 arg7
  let v84 : BitVec 32 := Scalar.subi v50 v83
  let c256_i32 : BitVec 32 := 256#32
  let v88 : BitVec 32 := Scalar.muli v84 c256_i32
  v88
def k0_mult7 (i : grid0.Coords) (k0_t2 : Fin (k0_t2_loop i).trips) : BitVec 32 :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c1_i32_35 : BitVec 32 := 1#32
  let v85 : BitVec 32 := Scalar.subi v50 c1_i32_35
  let c2_i32_36 : BitVec 32 := 2#32
  let c0_i32_27 : BitVec 32 := 0#32
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_30 : BitVec 32 := 1#32
  let arg7 : BitVec 32 := Scf.iv v72 c1_i32_30 k0_t2
  let v86 : BitVec 32 := Scalar.muli c2_i32_36 arg7
  let v87 : BitVec 32 := Scalar.subi v85 v86
  let c256_i32_37 : BitVec 32 := 256#32
  let v90 : BitVec 32 := Scalar.muli v87 c256_i32_37
  v90
def k0_off6 (i : grid0.Coords) (k0_t2 : Fin (k0_t2_loop i).trips) : Fin 2 → Nat :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c2_i32_34 : BitVec 32 := 2#32
  let c0_i32_27 : BitVec 32 := 0#32
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_30 : BitVec 32 := 1#32
  let arg7 : BitVec 32 := Scf.iv v72 c1_i32_30 k0_t2
  let v83 : BitVec 32 := Scalar.muli c2_i32_34 arg7
  let v84 : BitVec 32 := Scalar.subi v50 v83
  let c256_i32 : BitVec 32 := 256#32
  let v88 : BitVec 32 := Scalar.muli v84 c256_i32
  let v89 : BitVec 32 := v88
  let v92 : Index := Scalar.indexCast v89
  let c0_38 : Index := 0#32
  ![v92.toNat, 0]
def k0_off7 (i : grid0.Coords) (k0_t2 : Fin (k0_t2_loop i).trips) : Fin 2 → Nat :=
  let arg2 : BitVec 32 := BitVec.ofNat 32 (i 2).val
  let c1_i32_13 : BitVec 32 := 1#32
  let v39 : BitVec 32 := Scalar.subi arg2 c1_i32_13
  let c2_i32_14 : BitVec 32 := 2#32
  let c0_i32_15 : BitVec 32 := 0#32
  let v40 : BitVec 1 := Scalar.cmpi .eq c2_i32_14 c0_i32_15
  let c1_i32_16 : BitVec 32 := 1#32
  let v41 : BitVec 32 := Scalar.select v40 c1_i32_16 c2_i32_14
  let v42 : BitVec 32 := Scalar.remsi arg2 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let v50 : BitVec 32 := Scalar.subi v39 v49
  let c1_i32_35 : BitVec 32 := 1#32
  let v85 : BitVec 32 := Scalar.subi v50 c1_i32_35
  let c2_i32_36 : BitVec 32 := 2#32
  let c0_i32_27 : BitVec 32 := 0#32
  let c0_i32_21 : BitVec 32 := 0#32
  let v52 : BitVec 1 := Scalar.cmpi .sgt arg2 c0_i32_21
  let v53 : BitVec 32 := Scalar.extui v52
  let c0_i32_22 : BitVec 32 := 0#32
  let v54 : BitVec 1 := Scalar.cmpi .slt arg2 c0_i32_22
  let v55 : BitVec 32 := Scalar.extui v54
  let v56 : BitVec 32 := Scalar.subi v53 v55
  let c2_i32_20 : BitVec 32 := 2#32
  let c0_i32_23 : BitVec 32 := 0#32
  let v57 : BitVec 1 := Scalar.cmpi .sgt c2_i32_20 c0_i32_23
  let v58 : BitVec 32 := Scalar.extui v57
  let c0_i32_24 : BitVec 32 := 0#32
  let v59 : BitVec 1 := Scalar.cmpi .slt c2_i32_20 c0_i32_24
  let v60 : BitVec 32 := Scalar.extui v59
  let v61 : BitVec 32 := Scalar.subi v58 v60
  let v62 : BitVec 1 := Scalar.cmpi .ne v56 v61
  let v63 : BitVec 32 := Scalar.remsi arg2 c2_i32_20
  let c0_i32_25 : BitVec 32 := 0#32
  let v64 : BitVec 1 := Scalar.cmpi .ne v63 c0_i32_25
  let v65 : BitVec 1 := Scalar.andi v62 v64
  let v51 : BitVec 32 := Scalar.divsi arg2 c2_i32_20
  let c1_i32_26 : BitVec 32 := 1#32
  let v66 : BitVec 32 := Scalar.subi v51 c1_i32_26
  let v67 : BitVec 32 := Scalar.select v65 v66 v51
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_30 : BitVec 32 := 1#32
  let arg7 : BitVec 32 := Scf.iv v72 c1_i32_30 k0_t2
  let v86 : BitVec 32 := Scalar.muli c2_i32_36 arg7
  let v87 : BitVec 32 := Scalar.subi v85 v86
  let c256_i32_37 : BitVec 32 := 256#32
  let v90 : BitVec 32 := Scalar.muli v87 c256_i32_37
  let v91 : BitVec 32 := v90
  let v94 : Index := Scalar.indexCast v91
  let c0_39 : Index := 0#32
  ![v94.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnBFwdRefIdeal.lean ====
abbrev S4096x3072 : Shape := ⟨2, ![4096, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048x2048 : Shape := ⟨2, ![2048, 2048]⟩
abbrev S2x16x64x2048 : Shape := ⟨4, ![2, 16, 64, 2048]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .f32⟩
  | .hbm, ⟨2, _⟩ => ⟨S2x2048x3x16x64, .f32⟩
  | .hbm, ⟨3, _⟩ => ⟨S2x2048x1x16x64, .f32⟩
  | .hbm, ⟨4, _⟩ => ⟨S2x2048x16x64, .f32⟩
  | .hbm, ⟨5, _⟩ => ⟨S4096x3072, .f32⟩
  | .hbm, ⟨6, _⟩ => ⟨S2x2048x3x16x64, .f32⟩
  | .hbm, ⟨7, _⟩ => ⟨S2x2048x1x16x64, .f32⟩
  | .hbm, ⟨8, _⟩ => ⟨S2x2048x16x64, .f32⟩
  | .hbm, ⟨9, _⟩ => ⟨S4096x3072, .f32⟩
  | .hbm, ⟨10, _⟩ => ⟨S2x2048x3x16x64, .f32⟩
  | .hbm, ⟨11, _⟩ => ⟨S2x2048x1x16x64, .f32⟩
  | .hbm, ⟨12, _⟩ => ⟨S2x2048x16x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2x16x2048x2048, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .i1⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S_, .f32⟩
  | .hbm, ⟨38, _⟩ => ⟨S2x16x2048x2048, .i1⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .i1⟩
  | .hbm, ⟨49, _⟩ => ⟨S2x16x2048x2048, .f32⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S_, .f32⟩
  | .hbm, ⟨60, _⟩ => ⟨S2x16x2048x2048, .i1⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S_, .f32⟩
  | .hbm, ⟨65, _⟩ => ⟨S2x16x2048x2048, .f32⟩
  | .hbm, ⟨66, _⟩ => ⟨S2x16x2048x2048, .f32⟩
  | .hbm, ⟨67, _⟩ => ⟨S2x16x2048x2048, .f32⟩
  | .hbm, ⟨68, _⟩ => ⟨S2x16x2048x2048, .f32⟩
  | .hbm, ⟨69, _⟩ => ⟨S2x16x64x2048, .f32⟩
  | .hbm, ⟨70, _⟩ => ⟨S2x2048x16x64, .f32⟩
  | .hbm, ⟨71, _⟩ => ⟨S4096x1024, .f32⟩
  | .hbm, ⟨72, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_call2_v0 : Ref sig .tc := ⟨.hbm, 42, rfl⟩
abbrev main_call2_call0_cst : Ref sig .tc := ⟨.hbm, 43, rfl⟩
abbrev main_call2_call0_v0 : Ref sig .tc := ⟨.hbm, 44, rfl⟩
abbrev main_call2_call0_v1 : Ref sig .tc := ⟨.hbm, 45, rfl⟩
abbrev main_call2_call0_v2 : Ref sig .tc := ⟨.hbm, 46, rfl⟩
abbrev main_call2_call0_v3 : Ref sig .tc := ⟨.hbm, 47, rfl⟩
abbrev main_call2_call0_v4 : Ref sig .tc := ⟨.hbm, 48, rfl⟩
abbrev main_call2_call0_v5 : Ref sig .tc := ⟨.hbm, 49, rfl⟩
abbrev main_call2_call0_v6 : Ref sig .tc := ⟨.hbm, 50, rfl⟩
abbrev main_call2_call0_v7 : Ref sig .tc := ⟨.hbm, 51, rfl⟩
abbrev main_call2_call0_v8 : Ref sig .tc := ⟨.hbm, 52, rfl⟩
abbrev main_call2_call0_v9 : Ref sig .tc := ⟨.hbm, 53, rfl⟩
abbrev main_call2_call0_v10 : Ref sig .tc := ⟨.hbm, 54, rfl⟩
abbrev main_call2_call0_v11 : Ref sig .tc := ⟨.hbm, 55, rfl⟩
abbrev main_call2_v1 : Ref sig .tc := ⟨.hbm, 56, rfl⟩
abbrev main_v21 : Ref sig .tc := ⟨.hbm, 57, rfl⟩
abbrev main_cst_1 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v22 : Ref sig .tc := ⟨.hbm, 62, rfl⟩
abbrev main_call4_cst : Ref sig .tc := ⟨.hbm, 63, rfl⟩
abbrev main_call4_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== AttnAFwd.lean ====
abbrev S4096x3072 : Shape := ⟨2, ![4096, 3072]⟩
abbrev S257x16 : Shape := ⟨2, ![257, 16]⟩
abbrev S128x640 : Shape := ⟨2, ![128, 640]⟩
abbrev S_ : Shape := ⟨0, ![]⟩
abbrev S128x640x1 : Shape := ⟨3, ![128, 640, 1]⟩
abbrev S128x640x16 : Shape := ⟨3, ![128, 640, 16]⟩
abbrev S16x128x640 : Shape := ⟨3, ![16, 128, 640]⟩
abbrev S4096x1024 : Shape := ⟨2, ![4096, 1024]⟩
abbrev S1024x128 : Shape := ⟨2, ![1024, 128]⟩
abbrev S2048x128 : Shape := ⟨2, ![2048, 128]⟩
abbrev S2x128x640 : Shape := ⟨3, ![2, 128, 640]⟩
abbrev S1x128 : Shape := ⟨2, ![1, 128]⟩
abbrev S128x128 : Shape := ⟨2, ![128, 128]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 30
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S257x16, .f32⟩
  | .hbm, ⟨2, _⟩ => ⟨S128x640, .i32⟩
  | .hbm, ⟨3, _⟩ => ⟨S128x640, .i32⟩
  | .hbm, ⟨4, _⟩ => ⟨S128x640, .i32⟩
  | .hbm, ⟨5, _⟩ => ⟨S_, .i32⟩
  | .hbm, ⟨6, _⟩ => ⟨S128x640, .i32⟩
  | .hbm, ⟨7, _⟩ => ⟨S128x640, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S128x640, .i32⟩
  | .hbm, ⟨12, _⟩ => ⟨S128x640, .i32⟩
  | .hbm, ⟨13, _⟩ => ⟨S_, .i32⟩
  | .hbm, ⟨14, _⟩ => ⟨S128x640, .i32⟩
  | .hbm, ⟨15, _⟩ => ⟨S128x640, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S_, .i32⟩
  | .hbm, ⟨20, _⟩ => ⟨S128x640, .i32⟩
  | .hbm, ⟨21, _⟩ => ⟨S128x640, .i1⟩
  | .hbm, ⟨22, _⟩ => ⟨S_, .i32⟩
  | .hbm, ⟨23, _⟩ => ⟨S128x640, .i32⟩
  | .hbm, ⟨24, _⟩ => ⟨S128x640, .i32⟩
  | .hbm, ⟨25, _⟩ => ⟨S128x640, .i32⟩
  | .hbm, ⟨26, _⟩ => ⟨S128x640x1, .i32⟩
  | .hbm, ⟨27, _⟩ => ⟨S128x640x16, .f32⟩
  | .hbm, ⟨28, _⟩ => ⟨S16x128x640, .f32⟩
  | .hbm, ⟨29, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x128x640, .f32⟩
  | .local _ .vmem, ⟨7, _⟩ => ⟨S2x128x640, .f32⟩
  | .local _ .vmem, ⟨8, _⟩ => ⟨S1024x128, .bf16⟩
  | .local _ .vmem, ⟨9, _⟩ => ⟨S1024x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_mult1 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_8 : BitVec 32 := 4#32
  let v21 : BitVec 32 := Scalar.subi v1 c4_i32_8
  let c0_i32_9 : BitVec 32 := 0#32
  let v22 : BitVec 32 := Scalar.addi v21 c0_i32_9
  let c0_i32_10 : BitVec 32 := 0#32
  let v23 : BitVec 32 := Scalar.maxsi v22 c0_i32_10
  let c128_i32 : BitVec 32 := 128#32
  let v24 : BitVec 32 := Scalar.muli v23 c128_i32
  v24
def k0_off1 (i : grid0.Coords) (c0_i32 : BitVec 32) (c0_i32_9 : BitVec 32) : Fin 2 → Nat :=
  let arg2 : BitVec 32 := BitVec.ofNat 32 (i 2).val
  let c8_i32 : BitVec 32 := 8#32
  let v0 : BitVec 32 := Scalar.muli arg2 c8_i32
  let v1 : BitVec 32 := Scalar.addi v0 c0_i32
  let c4_i32_8 : BitVec 32 := 4#32
  let v21 : BitVec 32 := Scalar.subi v1 c4_i32_8
  let v22 : BitVec 32 := Scalar.addi v21 c0_i32_9
  let c0_i32_10 : BitVec 32 := 0#32
  let v23 : BitVec 32 := Scalar.maxsi v22 c0_i32_10
  let c128_i32 : BitVec 32 := 128#32
  let v24 : BitVec 32 := Scalar.muli v23 c128_i32
  let v25 : BitVec 32 := v24
  let v26 : Index := Scalar.indexCast v25
  let c0 : Index := 0#32
  ![v26.toNat, 0]
def k0_mult2 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_11 : BitVec 32 := 4#32
  let v28 : BitVec 32 := Scalar.subi v1 c4_i32_11
  let c1_i32_12 : BitVec 32 := 1#32
  let v29 : BitVec 32 := Scalar.addi v28 c1_i32_12
  let c0_i32_13 : BitVec 32 := 0#32
  let v30 : BitVec 32 := Scalar.maxsi v29 c0_i32_13
  let c128_i32_14 : BitVec 32 := 128#32
  let v31 : BitVec 32 := Scalar.muli v30 c128_i32_14
  v31
def k0_mult3 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_16 : BitVec 32 := 4#32
  let v35 : BitVec 32 := Scalar.subi v1 c4_i32_16
  let c2_i32_17 : BitVec 32 := 2#32
  let v36 : BitVec 32 := Scalar.addi v35 c2_i32_17
  let c0_i32_18 : BitVec 32 := 0#32
  let v37 : BitVec 32 := Scalar.maxsi v36 c0_i32_18
  let c128_i32_19 : BitVec 32 := 128#32
  let v38 : BitVec 32 := Scalar.muli v37 c128_i32_19
  v38
def k0_mult4 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_21 : BitVec 32 := 4#32
  let v42 : BitVec 32 := Scalar.subi v1 c4_i32_21
  let c3_i32_22 : BitVec 32 := 3#32
  let v43 : BitVec 32 := Scalar.addi v42 c3_i32_22
  let c0_i32_23 : BitVec 32 := 0#32
  let v44 : BitVec 32 := Scalar.maxsi v43 c0_i32_23
  let c128_i32_24 : BitVec 32 := 128#32
  let v45 : BitVec 32 := Scalar.muli v44 c128_i32_24
  v45
def k0_mult5 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_26 : BitVec 32 := 4#32
  let v49 : BitVec 32 := Scalar.subi v1 c4_i32_26
  let c4_i32_27 : BitVec 32 := 4#32
  let v50 : BitVec 32 := Scalar.addi v49 c4_i32_27
  let c0_i32_28 : BitVec 32 := 0#32
  let v51 : BitVec 32 := Scalar.maxsi v50 c0_i32_28
  let c128_i32_29 : BitVec 32 := 128#32
  let v52 : BitVec 32 := Scalar.muli v51 c128_i32_29
  v52
def k0_mult6 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_31 : BitVec 32 := 4#32
  let v57 : BitVec 32 := Scalar.subi v3 c4_i32_31
  let c0_i32_32 : BitVec 32 := 0#32
  let v58 : BitVec 32 := Scalar.addi v57 c0_i32_32
  let c0_i32_33 : BitVec 32 := 0#32
  let v59 : BitVec 32 := Scalar.maxsi v58 c0_i32_33
  let c128_i32_34 : BitVec 32 := 128#32
  let v60 : BitVec 32 := Scalar.muli v59 c128_i32_34
  v60
def k0_mult7 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_36 : BitVec 32 := 4#32
  let v64 : BitVec 32 := Scalar.subi v3 c4_i32_36
  let c1_i32_37 : BitVec 32 := 1#32
  let v65 : BitVec 32 := Scalar.addi v64 c1_i32_37
  let c0_i32_38 : BitVec 32 := 0#32
  let v66 : BitVec 32 := Scalar.maxsi v65 c0_i32_38
  let c128_i32_39 : BitVec 32 := 128#32
  let v67 : BitVec 32 := Scalar.muli v66 c128_i32_39
  v67
def k0_mult8 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_41 : BitVec 32 := 4#32
  let v71 : BitVec 32 := Scalar.subi v3 c4_i32_41
  let c2_i32_42 : BitVec 32 := 2#32
  let v72 : BitVec 32 := Scalar.addi v71 c2_i32_42
  let c0_i32_43 : BitVec 32 := 0#32
  let v73 : BitVec 32 := Scalar.maxsi v72 c0_i32_43
  let c128_i32_44 : BitVec 32 := 128#32
  let v74 : BitVec 32 := Scalar.muli v73 c128_i32_44
  v74
def k0_mult9 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_46 : BitVec 32 := 4#32
  let v78 : BitVec 32 := Scalar.subi v3 c4_i32_46
  let c3_i32_47 : BitVec 32 := 3#32
  let v79 : BitVec 32 := Scalar.addi v78 c3_i32_47
  let c0_i32_48 : BitVec 32 := 0#32
  let v80 : BitVec 32 := Scalar.maxsi v79 c0_i32_48
  let c128_i32_49 : BitVec 32 := 128#32
  let v81 : BitVec 32 := Scalar.muli v80 c128_i32_49
  v81
def k0_mult10 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_51 : BitVec 32 := 4#32
  let v85 : BitVec 32 := Scalar.subi v3 c4_i32_51
  let c4_i32_52 : BitVec 32 := 4#32
  let v86 : BitVec 32 := Scalar.addi v85 c4_i32_52
  let c0_i32_53 : BitVec 32 := 0#32
  let v87 : BitVec 32 := Scalar.maxsi v86 c0_i32_53
  let c128_i32_54 : BitVec 32 := 128#32
  let v88 : BitVec 32 := Scalar.muli v87 c128_i32_54
  v88
def k0_mult11 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_56 : BitVec 32 := 4#32
  let v93 : BitVec 32 := Scalar.subi v5 c4_i32_56
  let c0_i32_57 : BitVec 32 := 0#32
  let v94 : BitVec 32 := Scalar.addi v93 c0_i32_57
  let c0_i32_58 : BitVec 32 := 0#32
  let v95 : BitVec 32 := Scalar.maxsi v94 c0_i32_58
  let c128_i32_59 : BitVec 32 := 128#32
  let v96 : BitVec 32 := Scalar.muli v95 c128_i32_59
  v96
def k0_mult12 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_61 : BitVec 32 := 4#32
  let v100 : BitVec 32 := Scalar.subi v5 c4_i32_61
  let c1_i32_62 : BitVec 32 := 1#32
  let v101 : BitVec 32 := Scalar.addi v100 c1_i32_62
  let c0_i32_63 : BitVec 32 := 0#32
  let v102 : BitVec 32 := Scalar.maxsi v101 c0_i32_63
  let c128_i32_64 : BitVec 32 := 128#32
  let v103 : BitVec 32 := Scalar.muli v102 c128_i32_64
  v103
def k0_mult13 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_66 : BitVec 32 := 4#32
  let v107 : BitVec 32 := Scalar.subi v5 c4_i32_66
  let c2_i32_67 : BitVec 32 := 2#32
  let v108 : BitVec 32 := Scalar.addi v107 c2_i32_67
  let c0_i32_68 : BitVec 32 := 0#32
  let v109 : BitVec 32 := Scalar.maxsi v108 c0_i32_68
  let c128_i32_69 : BitVec 32 := 128#32
  let v110 : BitVec 32 := Scalar.muli v109 c128_i32_69
  v110
def k0_mult14 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_71 : BitVec 32 := 4#32
  let v114 : BitVec 32 := Scalar.subi v5 c4_i32_71
  let c3_i32_72 : BitVec 32 := 3#32
  let v115 : BitVec 32 := Scalar.addi v114 c3_i32_72
  let c0_i32_73 : BitVec 32 := 0#32
  let v116 : BitVec 32 := Scalar.maxsi v115 c0_i32_73
  let c128_i32_74 : BitVec 32 := 128#32
  let v117 : BitVec 32 := Scalar.muli v116 c128_i32_74
  v117
def k0_mult15 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_76 : BitVec 32 := 4#32
  let v121 : BitVec 32 := Scalar.subi v5 c4_i32_76
  let c4_i32_77 : BitVec 32 := 4#32
  let v122 : BitVec 32 := Scalar.addi v121 c4_i32_77
  let c0_i32_78 : BitVec 32 := 0#32
  let v123 : BitVec 32 := Scalar.maxsi v122 c0_i32_78
  let c128_i32_79 : BitVec 32 := 128#32
  let v124 : BitVec 32 := Scalar.muli v123 c128_i32_79
  v124
def k0_mult16 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_81 : BitVec 32 := 4#32
  let v129 : BitVec 32 := Scalar.subi v7 c4_i32_81
  let c0_i32_82 : BitVec 32 := 0#32
  let v130 : BitVec 32 := Scalar.addi v129 c0_i32_82
  let c0_i32_83 : BitVec 32 := 0#32
  let v131 : BitVec 32 := Scalar.maxsi v130 c0_i32_83
  let c128_i32_84 : BitVec 32 := 128#32
  let v132 : BitVec 32 := Scalar.muli v131 c128_i32_84
  v132
def k0_mult17 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_86 : BitVec 32 := 4#32
  let v136 : BitVec 32 := Scalar.subi v7 c4_i32_86
  let c1_i32_87 : BitVec 32 := 1#32
  let v137 : BitVec 32 := Scalar.addi v136 c1_i32_87
  let c0_i32_88 : BitVec 32 := 0#32
  let v138 : BitVec 32 := Scalar.maxsi v137 c0_i32_88
  let c128_i32_89 : BitVec 32 := 128#32
  let v139 : BitVec 32 := Scalar.muli v138 c128_i32_89
  v139
def k0_mult18 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_91 : BitVec 32 := 4#32
  let v143 : BitVec 32 := Scalar.subi v7 c4_i32_91
  let c2_i32_92 : BitVec 32 := 2#32
  let v144 : BitVec 32 := Scalar.addi v143 c2_i32_92
  let c0_i32_93 : BitVec 32 := 0#32
  let v145 : BitVec 32 := Scalar.maxsi v144 c0_i32_93
  let c128_i32_94 : BitVec 32 := 128#32
  let v146 : BitVec 32 := Scalar.muli v145 c128_i32_94
  v146
def k0_mult19 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_96 : BitVec 32 := 4#32
  let v150 : BitVec 32 := Scalar.subi v7 c4_i32_96
  let c3_i32_97 : BitVec 32 := 3#32
  let v151 : BitVec 32 := Scalar.addi v150 c3_i32_97
  let c0_i32_98 : BitVec 32 := 0#32
  let v152 : BitVec 32 := Scalar.maxsi v151 c0_i32_98
  let c128_i32_99 : BitVec 32 := 128#32
  let v153 : BitVec 32 := Scalar.muli v152 c128_i32_99
  v153
def k0_mult20 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_101 : BitVec 32 := 4#32
  let v157 : BitVec 32 := Scalar.subi v7 c4_i32_101
  let c4_i32_102 : BitVec 32 := 4#32
  let v158 : BitVec 32 := Scalar.addi v157 c4_i32_102
  let c0_i32_103 : BitVec 32 := 0#32
  let v159 : BitVec 32 := Scalar.maxsi v158 c0_i32_103
  let c128_i32_104 : BitVec 32 := 128#32
  let v160 : BitVec 32 := Scalar.muli v159 c128_i32_104
  v160
def k0_mult21 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_106 : BitVec 32 := 4#32
  let v165 : BitVec 32 := Scalar.subi v9 c4_i32_106
  let c0_i32_107 : BitVec 32 := 0#32
  let v166 : BitVec 32 := Scalar.addi v165 c0_i32_107
  let c0_i32_108 : BitVec 32 := 0#32
  let v167 : BitVec 32 := Scalar.maxsi v166 c0_i32_108
  let c128_i32_109 : BitVec 32 := 128#32
  let v168 : BitVec 32 := Scalar.muli v167 c128_i32_109
  v168
def k0_mult22 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_111 : BitVec 32 := 4#32
  let v172 : BitVec 32 := Scalar.subi v9 c4_i32_111
  let c1_i32_112 : BitVec 32 := 1#32
  let v173 : BitVec 32 := Scalar.addi v172 c1_i32_112
  let c0_i32_113 : BitVec 32 := 0#32
  let v174 : BitVec 32 := Scalar.maxsi v173 c0_i32_113
  let c128_i32_114 : BitVec 32 := 128#32
  let v175 : BitVec 32 := Scalar.muli v174 c128_i32_114
  v175
def k0_mult23 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_116 : BitVec 32 := 4#32
  let v179 : BitVec 32 := Scalar.subi v9 c4_i32_116
  let c2_i32_117 : BitVec 32 := 2#32
  let v180 : BitVec 32 := Scalar.addi v179 c2_i32_117
  let c0_i32_118 : BitVec 32 := 0#32
  let v181 : BitVec 32 := Scalar.maxsi v180 c0_i32_118
  let c128_i32_119 : BitVec 32 := 128#32
  let v182 : BitVec 32 := Scalar.muli v181 c128_i32_119
  v182
def k0_mult24 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_121 : BitVec 32 := 4#32
  let v186 : BitVec 32 := Scalar.subi v9 c4_i32_121
  let c3_i32_122 : BitVec 32 := 3#32
  let v187 : BitVec 32 := Scalar.addi v186 c3_i32_122
  let c0_i32_123 : BitVec 32 := 0#32
  let v188 : BitVec 32 := Scalar.maxsi v187 c0_i32_123
  let c128_i32_124 : BitVec 32 := 128#32
  let v189 : BitVec 32 := Scalar.muli v188 c128_i32_124
  v189
def k0_mult25 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_126 : BitVec 32 := 4#32
  let v193 : BitVec 32 := Scalar.subi v9 c4_i32_126
  let c4_i32_127 : BitVec 32 := 4#32
  let v194 : BitVec 32 := Scalar.addi v193 c4_i32_127
  let c0_i32_128 : BitVec 32 := 0#32
  let v195 : BitVec 32 := Scalar.maxsi v194 c0_i32_128
  let c128_i32_129 : BitVec 32 := 128#32
  let v196 : BitVec 32 := Scalar.muli v195 c128_i32_129
  v196
def k0_mult26 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_131 : BitVec 32 := 4#32
  let v201 : BitVec 32 := Scalar.subi v11 c4_i32_131
  let c0_i32_132 : BitVec 32 := 0#32
  let v202 : BitVec 32 := Scalar.addi v201 c0_i32_132
  let c0_i32_133 : BitVec 32 := 0#32
  let v203 : BitVec 32 := Scalar.maxsi v202 c0_i32_133
  let c128_i32_134 : BitVec 32 := 128#32
  let v204 : BitVec 32 := Scalar.muli v203 c128_i32_134
  v204
def k0_mult27 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_136 : BitVec 32 := 4#32
  let v208 : BitVec 32 := Scalar.subi v11 c4_i32_136
  let c1_i32_137 : BitVec 32 := 1#32
  let v209 : BitVec 32 := Scalar.addi v208 c1_i32_137
  let c0_i32_138 : BitVec 32 := 0#32
  let v210 : BitVec 32 := Scalar.maxsi v209 c0_i32_138
  let c128_i32_139 : BitVec 32 := 128#32
  let v211 : BitVec 32 := Scalar.muli v210 c128_i32_139
  v211
def k0_mult28 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_141 : BitVec 32 := 4#32
  let v215 : BitVec 32 := Scalar.subi v11 c4_i32_141
  let c2_i32_142 : BitVec 32 := 2#32
  let v216 : BitVec 32 := Scalar.addi v215 c2_i32_142
  let c0_i32_143 : BitVec 32 := 0#32
  let v217 : BitVec 32 := Scalar.maxsi v216 c0_i32_143
  let c128_i32_144 : BitVec 32 := 128#32
  let v218 : BitVec 32 := Scalar.muli v217 c128_i32_144
  v218
def k0_mult29 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_146 : BitVec 32 := 4#32
  let v222 : BitVec 32 := Scalar.subi v11 c4_i32_146
  let c3_i32_147 : BitVec 32 := 3#32
  let v223 : BitVec 32 := Scalar.addi v222 c3_i32_147
  let c0_i32_148 : BitVec 32 := 0#32
  let v224 : BitVec 32 := Scalar.maxsi v223 c0_i32_148
  let c128_i32_149 : BitVec 32 := 128#32
  let v225 : BitVec 32 := Scalar.muli v224 c128_i32_149
  v225
def k0_mult30 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_151 : BitVec 32 := 4#32
  let v229 : BitVec 32 := Scalar.subi v11 c4_i32_151
  let c4_i32_152 : BitVec 32 := 4#32
  let v230 : BitVec 32 := Scalar.addi v229 c4_i32_152
  let c0_i32_153 : BitVec 32 := 0#32
  let v231 : BitVec 32 := Scalar.maxsi v230 c0_i32_153
  let c128_i32_154 : BitVec 32 := 128#32
  let v232 : BitVec 32 := Scalar.muli v231 c128_i32_154
  v232
def k0_mult31 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_156 : BitVec 32 := 4#32
  let v237 : BitVec 32 := Scalar.subi v13 c4_i32_156
  let c0_i32_157 : BitVec 32 := 0#32
  let v238 : BitVec 32 := Scalar.addi v237 c0_i32_157
  let c0_i32_158 : BitVec 32 := 0#32
  let v239 : BitVec 32 := Scalar.maxsi v238 c0_i32_158
  let c128_i32_159 : BitVec 32 := 128#32
  let v240 : BitVec 32 := Scalar.muli v239 c128_i32_159
  v240
def k0_mult32 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_161 : BitVec 32 := 4#32
  let v244 : BitVec 32 := Scalar.subi v13 c4_i32_161
  let c1_i32_162 : BitVec 32 := 1#32
  let v245 : BitVec 32 := Scalar.addi v244 c1_i32_162
  let c0_i32_163 : BitVec 32 := 0#32
  let v246 : BitVec 32 := Scalar.maxsi v245 c0_i32_163
  let c128_i32_164 : BitVec 32 := 128#32
  let v247 : BitVec 32 := Scalar.muli v246 c128_i32_164
  v247
def k0_mult33 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_166 : BitVec 32 := 4#32
  let v251 : BitVec 32 := Scalar.subi v13 c4_i32_166
  let c2_i32_167 : BitVec 32 := 2#32
  let v252 : BitVec 32 := Scalar.addi v251 c2_i32_167
  let c0_i32_168 : BitVec 32 := 0#32
  let v253 : BitVec 32 := Scalar.maxsi v252 c0_i32_168
  let c128_i32_169 : BitVec 32 := 128#32
  let v254 : BitVec 32 := Scalar.muli v253 c128_i32_169
  v254
def k0_mult34 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_171 : BitVec 32 := 4#32
  let v258 : BitVec 32 := Scalar.subi v13 c4_i32_171
  let c3_i32_172 : BitVec 32 := 3#32
  let v259 : BitVec 32 := Scalar.addi v258 c3_i32_172
  let c0_i32_173 : BitVec 32 := 0#32
  let v260 : BitVec 32 := Scalar.maxsi v259 c0_i32_173
  let c128_i32_174 : BitVec 32 := 128#32
  let v261 : BitVec 32 := Scalar.muli v260 c128_i32_174
  v261
def k0_mult35 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_176 : BitVec 32 := 4#32
  let v265 : BitVec 32 := Scalar.subi v13 c4_i32_176
  let c4_i32_177 : BitVec 32 := 4#32
  let v266 : BitVec 32 := Scalar.addi v265 c4_i32_177
  let c0_i32_178 : BitVec 32 := 0#32
  let v267 : BitVec 32 := Scalar.maxsi v266 c0_i32_178
  let c128_i32_179 : BitVec 32 := 128#32
  let v268 : BitVec 32 := Scalar.muli v267 c128_i32_179
  v268
def k0_mult36 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_181 : BitVec 32 := 4#32
  let v273 : BitVec 32 := Scalar.subi v15 c4_i32_181
  let c0_i32_182 : BitVec 32 := 0#32
  let v274 : BitVec 32 := Scalar.addi v273 c0_i32_182
  let c0_i32_183 : BitVec 32 := 0#32
  let v275 : BitVec 32 := Scalar.maxsi v274 c0_i32_183
  let c128_i32_184 : BitVec 32 := 128#32
  let v276 : BitVec 32 := Scalar.muli v275 c128_i32_184
  v276
def k0_mult37 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_186 : BitVec 32 := 4#32
  let v280 : BitVec 32 := Scalar.subi v15 c4_i32_186
  let c1_i32_187 : BitVec 32 := 1#32
  let v281 : BitVec 32 := Scalar.addi v280 c1_i32_187
  let c0_i32_188 : BitVec 32 := 0#32
  let v282 : BitVec 32 := Scalar.maxsi v281 c0_i32_188
  let c128_i32_189 : BitVec 32 := 128#32
  let v283 : BitVec 32 := Scalar.muli v282 c128_i32_189
  v283
def k0_mult38 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_191 : BitVec 32 := 4#32
  let v287 : BitVec 32 := Scalar.subi v15 c4_i32_191
  let c2_i32_192 : BitVec 32 := 2#32
  let v288 : BitVec 32 := Scalar.addi v287 c2_i32_192
  let c0_i32_193 : BitVec 32 := 0#32
  let v289 : BitVec 32 := Scalar.maxsi v288 c0_i32_193
  let c128_i32_194 : BitVec 32 := 128#32
  let v290 : BitVec 32 := Scalar.muli v289 c128_i32_194
  v290
def k0_mult39 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_196 : BitVec 32 := 4#32
  let v294 : BitVec 32 := Scalar.subi v15 c4_i32_196
  let c3_i32_197 : BitVec 32 := 3#32
  let v295 : BitVec 32 := Scalar.addi v294 c3_i32_197
  let c0_i32_198 : BitVec 32 := 0#32
  let v296 : BitVec 32 := Scalar.maxsi v295 c0_i32_198
  let c128_i32_199 : BitVec 32 := 128#32
  let v297 : BitVec 32 := Scalar.muli v296 c128_i32_199
  v297
def k0_mult40 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_201 : BitVec 32 := 4#32
  let v301 : BitVec 32 := Scalar.subi v15 c4_i32_201
  let c4_i32_202 : BitVec 32 := 4#32
  let v302 : BitVec 32 := Scalar.addi v301 c4_i32_202
  let c0_i32_203 : BitVec 32 := 0#32
  let v303 : BitVec 32 := Scalar.maxsi v302 c0_i32_203
  let c128_i32_204 : BitVec 32 := 128#32
  let v304 : BitVec 32 := Scalar.muli v303 c128_i32_204
  v304
def k0_mult41 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_206 : BitVec 32 := 4#32
  let v309 : BitVec 32 := Scalar.subi v1 c4_i32_206
  let c0_i32_207 : BitVec 32 := 0#32
  let v310 : BitVec 32 := Scalar.addi v309 c0_i32_207
  let c0_i32_208 : BitVec 32 := 0#32
  let v311 : BitVec 32 := Scalar.maxsi v310 c0_i32_208
  let c128_i32_209 : BitVec 32 := 128#32
  let v312 : BitVec 32 := Scalar.muli v311 c128_i32_209
  v312
def k0_mult42 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_211 : BitVec 32 := 4#32
  let v316 : BitVec 32 := Scalar.subi v1 c4_i32_211
  let c1_i32_212 : BitVec 32 := 1#32
  let v317 : BitVec 32 := Scalar.addi v316 c1_i32_212
  let c0_i32_213 : BitVec 32 := 0#32
  let v318 : BitVec 32 := Scalar.maxsi v317 c0_i32_213
  let c128_i32_214 : BitVec 32 := 128#32
  let v319 : BitVec 32 := Scalar.muli v318 c128_i32_214
  v319
def k0_mult43 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_216 : BitVec 32 := 4#32
  let v323 : BitVec 32 := Scalar.subi v1 c4_i32_216
  let c2_i32_217 : BitVec 32 := 2#32
  let v324 : BitVec 32 := Scalar.addi v323 c2_i32_217
  let c0_i32_218 : BitVec 32 := 0#32
  let v325 : BitVec 32 := Scalar.maxsi v324 c0_i32_218
  let c128_i32_219 : BitVec 32 := 128#32
  let v326 : BitVec 32 := Scalar.muli v325 c128_i32_219
  v326
def k0_mult44 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_221 : BitVec 32 := 4#32
  let v330 : BitVec 32 := Scalar.subi v1 c4_i32_221
  let c3_i32_222 : BitVec 32 := 3#32
  let v331 : BitVec 32 := Scalar.addi v330 c3_i32_222
  let c0_i32_223 : BitVec 32 := 0#32
  let v332 : BitVec 32 := Scalar.maxsi v331 c0_i32_223
  let c128_i32_224 : BitVec 32 := 128#32
  let v333 : BitVec 32 := Scalar.muli v332 c128_i32_224
  v333
def k0_mult45 (i : grid0.Coords) : BitVec 32 :=
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let c4_i32_226 : BitVec 32 := 4#32
  let v337 : BitVec 32 := Scalar.subi v1 c4_i32_226
  let c4_i32_227 : BitVec 32 := 4#32
  let v338 : BitVec 32 := Scalar.addi v337 c4_i32_227
  let c0_i32_228 : BitVec 32 := 0#32
  let v339 : BitVec 32 := Scalar.maxsi v338 c0_i32_228
  let c128_i32_229 : BitVec 32 := 128#32
  let v340 : BitVec 32 := Scalar.muli v339 c128_i32_229
  v340
def k0_mult46 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_231 : BitVec 32 := 4#32
  let v345 : BitVec 32 := Scalar.subi v3 c4_i32_231
  let c0_i32_232 : BitVec 32 := 0#32
  let v346 : BitVec 32 := Scalar.addi v345 c0_i32_232
  let c0_i32_233 : BitVec 32 := 0#32
  let v347 : BitVec 32 := Scalar.maxsi v346 c0_i32_233
  let c128_i32_234 : BitVec 32 := 128#32
  let v348 : BitVec 32 := Scalar.muli v347 c128_i32_234
  v348
def k0_mult47 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_236 : BitVec 32 := 4#32
  let v352 : BitVec 32 := Scalar.subi v3 c4_i32_236
  let c1_i32_237 : BitVec 32 := 1#32
  let v353 : BitVec 32 := Scalar.addi v352 c1_i32_237
  let c0_i32_238 : BitVec 32 := 0#32
  let v354 : BitVec 32 := Scalar.maxsi v353 c0_i32_238
  let c128_i32_239 : BitVec 32 := 128#32
  let v355 : BitVec 32 := Scalar.muli v354 c128_i32_239
  v355
def k0_mult48 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_241 : BitVec 32 := 4#32
  let v359 : BitVec 32 := Scalar.subi v3 c4_i32_241
  let c2_i32_242 : BitVec 32 := 2#32
  let v360 : BitVec 32 := Scalar.addi v359 c2_i32_242
  let c0_i32_243 : BitVec 32 := 0#32
  let v361 : BitVec 32 := Scalar.maxsi v360 c0_i32_243
  let c128_i32_244 : BitVec 32 := 128#32
  let v362 : BitVec 32 := Scalar.muli v361 c128_i32_244
  v362
def k0_mult49 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_246 : BitVec 32 := 4#32
  let v366 : BitVec 32 := Scalar.subi v3 c4_i32_246
  let c3_i32_247 : BitVec 32 := 3#32
  let v367 : BitVec 32 := Scalar.addi v366 c3_i32_247
  let c0_i32_248 : BitVec 32 := 0#32
  let v368 : BitVec 32 := Scalar.maxsi v367 c0_i32_248
  let c128_i32_249 : BitVec 32 := 128#32
  let v369 : BitVec 32 := Scalar.muli v368 c128_i32_249
  v369
def k0_mult50 (i : grid0.Coords) : BitVec 32 :=
  let arg2 : BitVec 32 := BitVec.ofNat 32 (i 2).val
  let c8_i32_0 : BitVec 32 := 8#32
  let v2 : BitVec 32 := Scalar.muli arg2 c8_i32_0
  let c1_i32 : BitVec 32 := 1#32
  let v3 : BitVec 32 := Scalar.addi v2 c1_i32
  let c4_i32_251 : BitVec 32 := 4#32
  let v373 : BitVec 32 := Scalar.subi v3 c4_i32_251
  let c4_i32_252 : BitVec 32 := 4#32
  let v374 : BitVec 32 := Scalar.addi v373 c4_i32_252
  let c0_i32_253 : BitVec 32 := 0#32
  let v375 : BitVec 32 := Scalar.maxsi v374 c0_i32_253
  let c128_i32_254 : BitVec 32 := 128#32
  let v376 : BitVec 32 := Scalar.muli v375 c128_i32_254
  v376
def k0_mult51 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_256 : BitVec 32 := 4#32
  let v381 : BitVec 32 := Scalar.subi v5 c4_i32_256
  let c0_i32_257 : BitVec 32 := 0#32
  let v382 : BitVec 32 := Scalar.addi v381 c0_i32_257
  let c0_i32_258 : BitVec 32 := 0#32
  let v383 : BitVec 32 := Scalar.maxsi v382 c0_i32_258
  let c128_i32_259 : BitVec 32 := 128#32
  let v384 : BitVec 32 := Scalar.muli v383 c128_i32_259
  v384
def k0_mult52 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_261 : BitVec 32 := 4#32
  let v388 : BitVec 32 := Scalar.subi v5 c4_i32_261
  let c1_i32_262 : BitVec 32 := 1#32
  let v389 : BitVec 32 := Scalar.addi v388 c1_i32_262
  let c0_i32_263 : BitVec 32 := 0#32
  let v390 : BitVec 32 := Scalar.maxsi v389 c0_i32_263
  let c128_i32_264 : BitVec 32 := 128#32
  let v391 : BitVec 32 := Scalar.muli v390 c128_i32_264
  v391
def k0_mult53 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_266 : BitVec 32 := 4#32
  let v395 : BitVec 32 := Scalar.subi v5 c4_i32_266
  let c2_i32_267 : BitVec 32 := 2#32
  let v396 : BitVec 32 := Scalar.addi v395 c2_i32_267
  let c0_i32_268 : BitVec 32 := 0#32
  let v397 : BitVec 32 := Scalar.maxsi v396 c0_i32_268
  let c128_i32_269 : BitVec 32 := 128#32
  let v398 : BitVec 32 := Scalar.muli v397 c128_i32_269
  v398
def k0_mult54 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_271 : BitVec 32 := 4#32
  let v402 : BitVec 32 := Scalar.subi v5 c4_i32_271
  let c3_i32_272 : BitVec 32 := 3#32
  let v403 : BitVec 32 := Scalar.addi v402 c3_i32_272
  let c0_i32_273 : BitVec 32 := 0#32
  let v404 : BitVec 32 := Scalar.maxsi v403 c0_i32_273
  let c128_i32_274 : BitVec 32 := 128#32
  let v405 : BitVec 32 := Scalar.muli v404 c128_i32_274
  v405
def k0_mult55 (i : grid0.Coords) : BitVec 32 :=
  let arg2 : BitVec 32 := BitVec.ofNat 32 (i 2).val
  let c8_i32_1 : BitVec 32 := 8#32
  let v4 : BitVec 32 := Scalar.muli arg2 c8_i32_1
  let c2_i32 : BitVec 32 := 2#32
  let v5 : BitVec 32 := Scalar.addi v4 c2_i32
  let c4_i32_276 : BitVec 32 := 4#32
  let v409 : BitVec 32 := Scalar.subi v5 c4_i32_276
  let c4_i32_277 : BitVec 32 := 4#32
  let v410 : BitVec 32 := Scalar.addi v409 c4_i32_277
  let c0_i32_278 : BitVec 32 := 0#32
  let v411 : BitVec 32 := Scalar.maxsi v410 c0_i32_278
  let c128_i32_279 : BitVec 32 := 128#32
  let v412 : BitVec 32 := Scalar.muli v411 c128_i32_279
  v412
def k0_mult56 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_281 : BitVec 32 := 4#32
  let v417 : BitVec 32 := Scalar.subi v7 c4_i32_281
  let c0_i32_282 : BitVec 32 := 0#32
  let v418 : BitVec 32 := Scalar.addi v417 c0_i32_282
  let c0_i32_283 : BitVec 32 := 0#32
  let v419 : BitVec 32 := Scalar.maxsi v418 c0_i32_283
  let c128_i32_284 : BitVec 32 := 128#32
  let v420 : BitVec 32 := Scalar.muli v419 c128_i32_284
  v420
def k0_mult57 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_286 : BitVec 32 := 4#32
  let v424 : BitVec 32 := Scalar.subi v7 c4_i32_286
  let c1_i32_287 : BitVec 32 := 1#32
  let v425 : BitVec 32 := Scalar.addi v424 c1_i32_287
  let c0_i32_288 : BitVec 32 := 0#32
  let v426 : BitVec 32 := Scalar.maxsi v425 c0_i32_288
  let c128_i32_289 : BitVec 32 := 128#32
  let v427 : BitVec 32 := Scalar.muli v426 c128_i32_289
  v427
def k0_mult58 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_291 : BitVec 32 := 4#32
  let v431 : BitVec 32 := Scalar.subi v7 c4_i32_291
  let c2_i32_292 : BitVec 32 := 2#32
  let v432 : BitVec 32 := Scalar.addi v431 c2_i32_292
  let c0_i32_293 : BitVec 32 := 0#32
  let v433 : BitVec 32 := Scalar.maxsi v432 c0_i32_293
  let c128_i32_294 : BitVec 32 := 128#32
  let v434 : BitVec 32 := Scalar.muli v433 c128_i32_294
  v434
def k0_mult59 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_296 : BitVec 32 := 4#32
  let v438 : BitVec 32 := Scalar.subi v7 c4_i32_296
  let c3_i32_297 : BitVec 32 := 3#32
  let v439 : BitVec 32 := Scalar.addi v438 c3_i32_297
  let c0_i32_298 : BitVec 32 := 0#32
  let v440 : BitVec 32 := Scalar.maxsi v439 c0_i32_298
  let c128_i32_299 : BitVec 32 := 128#32
  let v441 : BitVec 32 := Scalar.muli v440 c128_i32_299
  v441
def k0_mult60 (i : grid0.Coords) : BitVec 32 :=
  let arg2 : BitVec 32 := BitVec.ofNat 32 (i 2).val
  let c8_i32_2 : BitVec 32 := 8#32
  let v6 : BitVec 32 := Scalar.muli arg2 c8_i32_2
  let c3_i32 : BitVec 32 := 3#32
  let v7 : BitVec 32 := Scalar.addi v6 c3_i32
  let c4_i32_301 : BitVec 32 := 4#32
  let v445 : BitVec 32 := Scalar.subi v7 c4_i32_301
  let c4_i32_302 : BitVec 32 := 4#32
  let v446 : BitVec 32 := Scalar.addi v445 c4_i32_302
  let c0_i32_303 : BitVec 32 := 0#32
  let v447 : BitVec 32 := Scalar.maxsi v446 c0_i32_303
  let c128_i32_304 : BitVec 32 := 128#32
  let v448 : BitVec 32 := Scalar.muli v447 c128_i32_304
  v448
def k0_mult61 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_306 : BitVec 32 := 4#32
  let v453 : BitVec 32 := Scalar.subi v9 c4_i32_306
  let c0_i32_307 : BitVec 32 := 0#32
  let v454 : BitVec 32 := Scalar.addi v453 c0_i32_307
  let c0_i32_308 : BitVec 32 := 0#32
  let v455 : BitVec 32 := Scalar.maxsi v454 c0_i32_308
  let c128_i32_309 : BitVec 32 := 128#32
  let v456 : BitVec 32 := Scalar.muli v455 c128_i32_309
  v456
def k0_mult62 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_311 : BitVec 32 := 4#32
  let v460 : BitVec 32 := Scalar.subi v9 c4_i32_311
  let c1_i32_312 : BitVec 32 := 1#32
  let v461 : BitVec 32 := Scalar.addi v460 c1_i32_312
  let c0_i32_313 : BitVec 32 := 0#32
  let v462 : BitVec 32 := Scalar.maxsi v461 c0_i32_313
  let c128_i32_314 : BitVec 32 := 128#32
  let v463 : BitVec 32 := Scalar.muli v462 c128_i32_314
  v463
def k0_mult63 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_316 : BitVec 32 := 4#32
  let v467 : BitVec 32 := Scalar.subi v9 c4_i32_316
  let c2_i32_317 : BitVec 32 := 2#32
  let v468 : BitVec 32 := Scalar.addi v467 c2_i32_317
  let c0_i32_318 : BitVec 32 := 0#32
  let v469 : BitVec 32 := Scalar.maxsi v468 c0_i32_318
  let c128_i32_319 : BitVec 32 := 128#32
  let v470 : BitVec 32 := Scalar.muli v469 c128_i32_319
  v470
def k0_mult64 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_321 : BitVec 32 := 4#32
  let v474 : BitVec 32 := Scalar.subi v9 c4_i32_321
  let c3_i32_322 : BitVec 32 := 3#32
  let v475 : BitVec 32 := Scalar.addi v474 c3_i32_322
  let c0_i32_323 : BitVec 32 := 0#32
  let v476 : BitVec 32 := Scalar.maxsi v475 c0_i32_323
  let c128_i32_324 : BitVec 32 := 128#32
  let v477 : BitVec 32 := Scalar.muli v476 c128_i32_324
  v477
def k0_mult65 (i : grid0.Coords) : BitVec 32 :=
  let arg2 : BitVec 32 := BitVec.ofNat 32 (i 2).val
  let c8_i32_3 : BitVec 32 := 8#32
  let v8 : BitVec 32 := Scalar.muli arg2 c8_i32_3
  let c4_i32 : BitVec 32 := 4#32
  let v9 : BitVec 32 := Scalar.addi v8 c4_i32
  let c4_i32_326 : BitVec 32 := 4#32
  let v481 : BitVec 32 := Scalar.subi v9 c4_i32_326
  let c4_i32_327 : BitVec 32 := 4#32
  let v482 : BitVec 32 := Scalar.addi v481 c4_i32_327
  let c0_i32_328 : BitVec 32 := 0#32
  let v483 : BitVec 32 := Scalar.maxsi v482 c0_i32_328
  let c128_i32_329 : BitVec 32 := 128#32
  let v484 : BitVec 32 := Scalar.muli v483 c128_i32_329
  v484
def k0_mult66 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_331 : BitVec 32 := 4#32
  let v489 : BitVec 32 := Scalar.subi v11 c4_i32_331
  let c0_i32_332 : BitVec 32 := 0#32
  let v490 : BitVec 32 := Scalar.addi v489 c0_i32_332
  let c0_i32_333 : BitVec 32 := 0#32
  let v491 : BitVec 32 := Scalar.maxsi v490 c0_i32_333
  let c128_i32_334 : BitVec 32 := 128#32
  let v492 : BitVec 32 := Scalar.muli v491 c128_i32_334
  v492
def k0_mult67 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_336 : BitVec 32 := 4#32
  let v496 : BitVec 32 := Scalar.subi v11 c4_i32_336
  let c1_i32_337 : BitVec 32 := 1#32
  let v497 : BitVec 32 := Scalar.addi v496 c1_i32_337
  let c0_i32_338 : BitVec 32 := 0#32
  let v498 : BitVec 32 := Scalar.maxsi v497 c0_i32_338
  let c128_i32_339 : BitVec 32 := 128#32
  let v499 : BitVec 32 := Scalar.muli v498 c128_i32_339
  v499
def k0_mult68 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_341 : BitVec 32 := 4#32
  let v503 : BitVec 32 := Scalar.subi v11 c4_i32_341
  let c2_i32_342 : BitVec 32 := 2#32
  let v504 : BitVec 32 := Scalar.addi v503 c2_i32_342
  let c0_i32_343 : BitVec 32 := 0#32
  let v505 : BitVec 32 := Scalar.maxsi v504 c0_i32_343
  let c128_i32_344 : BitVec 32 := 128#32
  let v506 : BitVec 32 := Scalar.muli v505 c128_i32_344
  v506
def k0_mult69 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_346 : BitVec 32 := 4#32
  let v510 : BitVec 32 := Scalar.subi v11 c4_i32_346
  let c3_i32_347 : BitVec 32 := 3#32
  let v511 : BitVec 32 := Scalar.addi v510 c3_i32_347
  let c0_i32_348 : BitVec 32 := 0#32
  let v512 : BitVec 32 := Scalar.maxsi v511 c0_i32_348
  let c128_i32_349 : BitVec 32 := 128#32
  let v513 : BitVec 32 := Scalar.muli v512 c128_i32_349
  v513
def k0_mult70 (i : grid0.Coords) : BitVec 32 :=
  let arg2 : BitVec 32 := BitVec.ofNat 32 (i 2).val
  let c8_i32_4 : BitVec 32 := 8#32
  let v10 : BitVec 32 := Scalar.muli arg2 c8_i32_4
  let c5_i32 : BitVec 32 := 5#32
  let v11 : BitVec 32 := Scalar.addi v10 c5_i32
  let c4_i32_351 : BitVec 32 := 4#32
  let v517 : BitVec 32 := Scalar.subi v11 c4_i32_351
  let c4_i32_352 : BitVec 32 := 4#32
  let v518 : BitVec 32 := Scalar.addi v517 c4_i32_352
  let c0_i32_353 : BitVec 32 := 0#32
  let v519 : BitVec 32 := Scalar.maxsi v518 c0_i32_353
  let c128_i32_354 : BitVec 32 := 128#32
  let v520 : BitVec 32 := Scalar.muli v519 c128_i32_354
  v520
def k0_mult71 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_356 : BitVec 32 := 4#32
  let v525 : BitVec 32 := Scalar.subi v13 c4_i32_356
  let c0_i32_357 : BitVec 32 := 0#32
  let v526 : BitVec 32 := Scalar.addi v525 c0_i32_357
  let c0_i32_358 : BitVec 32 := 0#32
  let v527 : BitVec 32 := Scalar.maxsi v526 c0_i32_358
  let c128_i32_359 : BitVec 32 := 128#32
  let v528 : BitVec 32 := Scalar.muli v527 c128_i32_359
  v528
def k0_mult72 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_361 : BitVec 32 := 4#32
  let v532 : BitVec 32 := Scalar.subi v13 c4_i32_361
  let c1_i32_362 : BitVec 32 := 1#32
  let v533 : BitVec 32 := Scalar.addi v532 c1_i32_362
  let c0_i32_363 : BitVec 32 := 0#32
  let v534 : BitVec 32 := Scalar.maxsi v533 c0_i32_363
  let c128_i32_364 : BitVec 32 := 128#32
  let v535 : BitVec 32 := Scalar.muli v534 c128_i32_364
  v535
def k0_mult73 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_366 : BitVec 32 := 4#32
  let v539 : BitVec 32 := Scalar.subi v13 c4_i32_366
  let c2_i32_367 : BitVec 32 := 2#32
  let v540 : BitVec 32 := Scalar.addi v539 c2_i32_367
  let c0_i32_368 : BitVec 32 := 0#32
  let v541 : BitVec 32 := Scalar.maxsi v540 c0_i32_368
  let c128_i32_369 : BitVec 32 := 128#32
  let v542 : BitVec 32 := Scalar.muli v541 c128_i32_369
  v542
def k0_mult74 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_371 : BitVec 32 := 4#32
  let v546 : BitVec 32 := Scalar.subi v13 c4_i32_371
  let c3_i32_372 : BitVec 32 := 3#32
  let v547 : BitVec 32 := Scalar.addi v546 c3_i32_372
  let c0_i32_373 : BitVec 32 := 0#32
  let v548 : BitVec 32 := Scalar.maxsi v547 c0_i32_373
  let c128_i32_374 : BitVec 32 := 128#32
  let v549 : BitVec 32 := Scalar.muli v548 c128_i32_374
  v549
def k0_mult75 (i : grid0.Coords) : BitVec 32 :=
  let arg2 : BitVec 32 := BitVec.ofNat 32 (i 2).val
  let c8_i32_5 : BitVec 32 := 8#32
  let v12 : BitVec 32 := Scalar.muli arg2 c8_i32_5
  let c6_i32 : BitVec 32 := 6#32
  let v13 : BitVec 32 := Scalar.addi v12 c6_i32
  let c4_i32_376 : BitVec 32 := 4#32
  let v553 : BitVec 32 := Scalar.subi v13 c4_i32_376
  let c4_i32_377 : BitVec 32 := 4#32
  let v554 : BitVec 32 := Scalar.addi v553 c4_i32_377
  let c0_i32_378 : BitVec 32 := 0#32
  let v555 : BitVec 32 := Scalar.maxsi v554 c0_i32_378
  let c128_i32_379 : BitVec 32 := 128#32
  let v556 : BitVec 32 := Scalar.muli v555 c128_i32_379
  v556
def k0_mult76 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_381 : BitVec 32 := 4#32
  let v561 : BitVec 32 := Scalar.subi v15 c4_i32_381
  let c0_i32_382 : BitVec 32 := 0#32
  let v562 : BitVec 32 := Scalar.addi v561 c0_i32_382
  let c0_i32_383 : BitVec 32 := 0#32
  let v563 : BitVec 32 := Scalar.maxsi v562 c0_i32_383
  let c128_i32_384 : BitVec 32 := 128#32
  let v564 : BitVec 32 := Scalar.muli v563 c128_i32_384
  v564
def k0_mult77 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_386 : BitVec 32 := 4#32
  let v568 : BitVec 32 := Scalar.subi v15 c4_i32_386
  let c1_i32_387 : BitVec 32 := 1#32
  let v569 : BitVec 32 := Scalar.addi v568 c1_i32_387
  let c0_i32_388 : BitVec 32 := 0#32
  let v570 : BitVec 32 := Scalar.maxsi v569 c0_i32_388
  let c128_i32_389 : BitVec 32 := 128#32
  let v571 : BitVec 32 := Scalar.muli v570 c128_i32_389
  v571
def k0_mult78 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_391 : BitVec 32 := 4#32
  let v575 : BitVec 32 := Scalar.subi v15 c4_i32_391
  let c2_i32_392 : BitVec 32 := 2#32
  let v576 : BitVec 32 := Scalar.addi v575 c2_i32_392
  let c0_i32_393 : BitVec 32 := 0#32
  let v577 : BitVec 32 := Scalar.maxsi v576 c0_i32_393
  let c128_i32_394 : BitVec 32 := 128#32
  let v578 : BitVec 32 := Scalar.muli v577 c128_i32_394
  v578
def k0_mult79 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_396 : BitVec 32 := 4#32
  let v582 : BitVec 32 := Scalar.subi v15 c4_i32_396
  let c3_i32_397 : BitVec 32 := 3#32
  let v583 : BitVec 32 := Scalar.addi v582 c3_i32_397
  let c0_i32_398 : BitVec 32 := 0#32
  let v584 : BitVec 32 := Scalar.maxsi v583 c0_i32_398
  let c128_i32_399 : BitVec 32 := 128#32
  let v585 : BitVec 32 := Scalar.muli v584 c128_i32_399
  v585
def k0_mult80 (i : grid0.Coords) : BitVec 32 :=
  let arg2 : BitVec 32 := BitVec.ofNat 32 (i 2).val
  let c8_i32_6 : BitVec 32 := 8#32
  let v14 : BitVec 32 := Scalar.muli arg2 c8_i32_6
  let c7_i32 : BitVec 32 := 7#32
  let v15 : BitVec 32 := Scalar.addi v14 c7_i32
  let c4_i32_401 : BitVec 32 := 4#32
  let v589 : BitVec 32 := Scalar.subi v15 c4_i32_401
  let c4_i32_402 : BitVec 32 := 4#32
  let v590 : BitVec 32 := Scalar.addi v589 c4_i32_402
  let c0_i32_403 : BitVec 32 := 0#32
  let v591 : BitVec 32 := Scalar.maxsi v590 c0_i32_403
  let c128_i32_404 : BitVec 32 := 128#32
  let v592 : BitVec 32 := Scalar.muli v591 c128_i32_404
  v592
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnAFwdIdeal.lean ====
variable {F : FTy → Type} [FloatOps F] [Named F]
def κ : String → Option EReal := fun
  | "mask" => some ⊥
  | _ => none
-- ==== AttnAFwdRefIdeal.lean ====
abbrev S4096x3072 : Shape := ⟨2, ![4096, 3072]⟩
abbrev S257x16 : Shape := ⟨2, ![257, 16]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2048x2048 : Shape := ⟨2, ![2048, 2048]⟩
abbrev S_ : Shape := ⟨0, ![]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S4096x1024 : Shape := ⟨2, ![4096, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S257x16, .f32⟩
  | .hbm, ⟨2, _⟩ => ⟨S4096x3072, .f32⟩
  | .hbm, ⟨3, _⟩ => ⟨S2x2048x3x16x64, .f32⟩
  | .hbm, ⟨4, _⟩ => ⟨S2x2048x1x16x64, .f32⟩
  | .hbm, ⟨5, _⟩ => ⟨S2x2048x16x64, .f32⟩
  | .hbm, ⟨6, _⟩ => ⟨S4096x3072, .f32⟩
  | .hbm, ⟨7, _⟩ => ⟨S2x2048x3x16x64, .f32⟩
  | .hbm, ⟨8, _⟩ => ⟨S2x2048x1x16x64, .f32⟩
  | .hbm, ⟨9, _⟩ => ⟨S2x2048x16x64, .f32⟩
  | .hbm, ⟨10, _⟩ => ⟨S4096x3072, .f32⟩
  | .hbm, ⟨11, _⟩ => ⟨S2x2048x3x16x64, .f32⟩
  | .hbm, ⟨12, _⟩ => ⟨S2x2048x1x16x64, .f32⟩
  | .hbm, ⟨13, _⟩ => ⟨S2x2048x16x64, .f32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i1⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S2048x2048x1, .i32⟩
  | .hbm, ⟨36, _⟩ => ⟨S2048x2048x16, .f32⟩
  | .hbm, ⟨37, _⟩ => ⟨S16x2048x2048, .f32⟩
  | .hbm, ⟨38, _⟩ => ⟨S2x16x2048x2048, .f32⟩
  | .hbm, ⟨39, _⟩ => ⟨S_, .f32⟩
  | .hbm, ⟨40, _⟩ => ⟨S2x16x2048x2048, .f32⟩
  | .hbm, ⟨41, _⟩ => ⟨S2x16x2048x2048, .f32⟩
  | .hbm, ⟨42, _⟩ => ⟨S1x16x2048x2048, .f32⟩
  | .hbm, ⟨43, _⟩ => ⟨S2x16x2048x2048, .f32⟩
  | .hbm, ⟨44, _⟩ => ⟨S2x16x2048x2048, .f32⟩
  | .hbm, ⟨45, _⟩ => ⟨S2048x2048, .i32⟩
  | .hbm, ⟨46, _⟩ => ⟨S_, .i32⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i1⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S2048x2048, .i1⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S2048x2048, .i32⟩
  | .hbm, ⟨65, _⟩ => ⟨S_, .i32⟩
  | .hbm, ⟨66, _⟩ => ⟨S_, .i32⟩
  | .hbm, ⟨67, _⟩ => ⟨S2048x2048, .i32⟩
  | .hbm, ⟨68, _⟩ => ⟨S2048x2048, .i32⟩
  | .hbm, ⟨69, _⟩ => ⟨S2048x2048, .i32⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S2048x2048, .i32⟩
  | .hbm, ⟨74, _⟩ => ⟨S2048x2048, .i32⟩
  | .hbm, ⟨75, _⟩ => ⟨S_, .i32⟩
  | .hbm, ⟨76, _⟩ => ⟨S2048x2048, .i32⟩
  | .hbm, ⟨77, _⟩ => ⟨S2048x2048, .i1⟩
  | .hbm, ⟨78, _⟩ => ⟨S2048x2048, .i1⟩
  | .hbm, ⟨79, _⟩ => ⟨S_, .i32⟩
  | .hbm, ⟨80, _⟩ => ⟨S2048x2048, .i32⟩
  | .hbm, ⟨81, _⟩ => ⟨S2048x2048, .i32⟩
  | .hbm, ⟨82, _⟩ => ⟨S2048x2048, .i32⟩
  | .hbm, ⟨83, _⟩ => ⟨S2048x2048, .i1⟩
  | .hbm, ⟨84, _⟩ => ⟨S_, .i32⟩
  | .hbm, ⟨85, _⟩ => ⟨S2048x2048, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S_, .f32⟩
  | .hbm, ⟨90, _⟩ => ⟨S_, .f32⟩
  | .hbm, ⟨91, _⟩ => ⟨S2x16x2048x2048, .i1⟩
  | .hbm, ⟨92, _⟩ => ⟨S2x16x2048x2048, .f32⟩
  | .hbm, ⟨93, _⟩ => ⟨S2x16x2048x2048, .f32⟩
  | .hbm, ⟨94, _⟩ => ⟨S_, .f32⟩
  | .hbm, ⟨95, _⟩ => ⟨S2x16x2048, .f32⟩
  | .hbm, ⟨96, _⟩ => ⟨S_, .f32⟩
  | .hbm, ⟨97, _⟩ => ⟨S2x16x2048, .f32⟩
  | .hbm, ⟨98, _⟩ => ⟨S2x16x2048, .f32⟩
  | .hbm, ⟨99, _⟩ => ⟨S2x16x2048x1, .f32⟩
  | .hbm, ⟨100, _⟩ => ⟨S2x16x2048x2048, .f32⟩
  | .hbm, ⟨101, _⟩ => ⟨S2x16x2048x2048, .f32⟩
  | .hbm, ⟨102, _⟩ => ⟨S2x16x2048x2048, .f32⟩
  | .hbm, ⟨103, _⟩ => ⟨S_, .f32⟩
  | .hbm, ⟨104, _⟩ => ⟨S2x16x2048, .f32⟩
  | .hbm, ⟨105, _⟩ => ⟨S2x16x2048x1, .f32⟩
  | .hbm, ⟨106, _⟩ => ⟨S2x16x2048x2048, .f32⟩
  | .hbm, ⟨107, _⟩ => ⟨S2x16x2048x2048, .f32⟩
  | .hbm, ⟨108, _⟩ => ⟨S2x16x64x2048, .f32⟩
  | .hbm, ⟨109, _⟩ => ⟨S2x2048x16x64, .f32⟩
  | .hbm, ⟨110, _⟩ => ⟨S4096x1024, .f32⟩
  | .hbm, ⟨111, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v35 : Ref sig .tc := ⟨.hbm, 82, rfl⟩
abbrev main_v36 : Ref sig .tc := ⟨.hbm, 83, rfl⟩
abbrev main_c_6 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_7 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v41 : Ref sig .tc := ⟨.hbm, 93, rfl⟩
abbrev main_cst_8 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_10 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩

abbrev nD : Nat := 1
abbrev τ : Topo := Topo.v7x

variable {F : FTy → Type} [FloatOps F]
-- ==== FfnUp.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x768 : Shape := ⟨2, ![1024, 768]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S4096x3072, .bf16⟩
  | .hbm, ⟨4, _⟩ => ⟨S4096x3072, .bf16⟩
  | .hbm, ⟨5, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x3072, .bf16⟩
  | .hbm, ⟨3, _⟩ => ⟨S4096x1024, .f32⟩
  | .hbm, ⟨4, _⟩ => ⟨S1024x3072, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S4096x3072, .bf16⟩
  | .hbm, ⟨9, _⟩ => ⟨S4096x3072, .bf16⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DownLn.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownLnRefIdeal.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x3072, .f32⟩
  | .hbm, ⟨6, _⟩ => ⟨S3072x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== BiasBand.lean ====
abbrev S257x16 : Shape := ⟨2, ![257, 16]⟩
abbrev S16x257 : Shape := ⟨2, ![16, 257]⟩
abbrev S_ : Shape := ⟨0, ![]⟩
abbrev S16x384 : Shape := ⟨2, ![16, 384]⟩
abbrev S128x16x640 : Shape := ⟨3, ![128, 16, 640]⟩
abbrev S8x16x640 : Shape := ⟨3, ![8, 16, 640]⟩
abbrev S384x640 : Shape := ⟨2, ![384, 640]⟩
abbrev S16x640 : Shape := ⟨2, ![16, 640]⟩
abbrev S1x16x640 : Shape := ⟨3, ![1, 16, 640]⟩

abbrev nBuf : Space → Nat
  | .hbm => 6
  | .vmem => 3
  | .smem => 0
  | _ => 0

abbrev bufTy : (tb : Table) → Fin (tcTables nBuf tb) → BufTy
  | .hbm, ⟨0, _⟩ => ⟨S257x16, .f32⟩
  | .hbm, ⟨1, _⟩ => ⟨S16x257, .f32⟩
  | .hbm, ⟨2, _⟩ => ⟨S_, .i32⟩
  | .hbm, ⟨3, _⟩ => ⟨S_, .f32⟩
  | .hbm, ⟨4, _⟩ => ⟨S16x384, .f32⟩
  | .hbm, ⟨5, _⟩ => ⟨S128x16x640, .f32⟩
  | .local _ .vmem, ⟨0, _⟩ => ⟨S16x384, .f32⟩
  | .local _ .vmem, ⟨1, _⟩ => ⟨S8x16x640, .f32⟩
  | .local _ .vmem, ⟨2, _⟩ => ⟨S8x16x640, .f32⟩
  | _, _ => ⟨S257x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x16x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasBandRefIdeal.lean ====
abbrev S257x16 : Shape := ⟨2, ![257, 16]⟩
abbrev S128x640 : Shape := ⟨2, ![128, 640]⟩
abbrev S_ : Shape := ⟨0, ![]⟩
abbrev S128x640x1 : Shape := ⟨3, ![128, 640, 1]⟩
abbrev S128x640x16 : Shape := ⟨3, ![128, 640, 16]⟩
abbrev S128x16x640 : Shape := ⟨3, ![128, 16, 640]⟩

abbrev nBuf : Space → Nat
  | .hbm => 28
  | .vmem => 0
  | .smem => 0
  | _ => 0

abbrev bufTy : (tb : Table) → Fin (tcTables nBuf tb) → BufTy
  | .hbm, ⟨0, _⟩ => ⟨S257x16, .f32⟩
  | .hbm, ⟨1, _⟩ => ⟨S128x640, .i32⟩
  | .hbm, ⟨2, _⟩ => ⟨S128x640, .i32⟩
  | .hbm, ⟨3, _⟩ => ⟨S128x640, .i32⟩
  | .hbm, ⟨4, _⟩ => ⟨S_, .i32⟩
  | .hbm, ⟨5, _⟩ => ⟨S128x640, .i32⟩
  | .hbm, ⟨6, _⟩ => ⟨S128x640, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S128x640, .i32⟩
  | .hbm, ⟨11, _⟩ => ⟨S128x640, .i32⟩
  | .hbm, ⟨12, _⟩ => ⟨S_, .i32⟩
  | .hbm, ⟨13, _⟩ => ⟨S128x640, .i32⟩
  | .hbm, ⟨14, _⟩ => ⟨S128x640, .i32⟩
  | .hbm, ⟨15, _⟩ => ⟨S_, .i32⟩
  | .hbm, ⟨16, _⟩ => ⟨S128x640, .i32⟩
  | .hbm, ⟨17, _⟩ => ⟨S128x640, .i32⟩
  | .hbm, ⟨18, _⟩ => ⟨S_, .i32⟩
  | .hbm, ⟨19, _⟩ => ⟨S128x640, .i32⟩
  | .hbm, ⟨20, _⟩ => ⟨S128x640, .i1⟩
  | .hbm, ⟨21, _⟩ => ⟨S_, .i32⟩
  | .hbm, ⟨22, _⟩ => ⟨S128x640, .i32⟩
  | .hbm, ⟨23, _⟩ => ⟨S128x640, .i32⟩
  | .hbm, ⟨24, _⟩ => ⟨S128x640, .i32⟩
  | .hbm, ⟨25, _⟩ => ⟨S128x640x1, .i32⟩
  | .hbm, ⟨26, _⟩ => ⟨S128x640x16, .f32⟩
  | .hbm, ⟨27, _⟩ => ⟨S128x16x640, .f32⟩
  | _, _ => ⟨S257x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== MmNn.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNnRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmNt.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNtRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SumDev.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevRefIdeal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- Real numbers among the extended reals: sums of them, and an array below infinity read as numbers. -/
module

public import Idealize.ShloMosaic.Lib.Pointwise
public import Idealize.ShloMosaic.Lib.ValueIdxCore
public import Idealize.ShloMosaic.Lib.KernelVsHost
public import Idealize.ShloMosaic.Lib.WritesUnit
public import Idealize.ShloMosaic.Lib.Pipeline.ValueKit.Tiles
public import Idealize.ShloMosaic.Lib.StableHlo.ReadAt
public import Idealize.ShloMosaic.Adequacy
public import Idealize.ShloMosaic.Init

@[expose] public section

noncomputable section

namespace Cert.Reals

open Idealize.ShloMosaic

/-- The embedding of the reals as a homomorphism of addition. -/
def emb : ℝ →+ EReal := ⟨⟨Real.toEReal, EReal.coe_zero⟩, EReal.coe_add⟩

/-- A finite sum of numbers, read as an extended real. -/
theorem coe_sum {ι : Type} (s : Finset ι) (f : ι → ℝ) : ((∑ i ∈ s, f i : ℝ) : EReal) = ∑ i ∈ s, (f i : EReal) := map_sum emb f s

/-- The word of infinity is infinity. -/
theorem top_word : Ideal.ofBits .f32 0x7F800000#32 = ⊤ := by simp [Ideal.ofBits, Ideal.ieee]

/-- An entry whose magnitude compares below infinity is a number. -/
theorem number_of_lt {v : EReal} (h : Ideal.cmp .olt (max v (-v)) (Ideal.ofBits .f32 0x7F800000#32) = 1#1) : v = ((v.toReal : ℝ) : EReal) := by
  have hlt : max v (-v) < ⊤ := by
    by_contra hn
    rw [top_word] at h
    exact absurd h (by simp [Ideal.cmp, hn])
  refine (EReal.coe_toReal ?_ ?_).symm
  · rintro rfl; simp at hlt
  · rintro rfl; simp at hlt

/-- The origin of a matrix. -/
theorem zero_off : (![0, 0] : Fin 2 → Nat) = fun _ => 0 := funext fun a => by fin_cases a <;> rfl

/-- An index of a matrix is a row and a column. -/
theorem exists_ix2 {m n : ℕ} (j : (⟨2, ![m, n]⟩ : Shape).Idx) : ∃ (r : Fin m) (k : Fin n), j = ix2 r k := ⟨j 0, j 1, eq_ix2 j⟩

/-- An entry of a rectangle of a whole buffer is one of that part of the buffer. -/
theorem in_slice {sig : RefSig} {κ : Kind} {b : Ref sig κ} {r : Rect b.ty.shape} {i : b.ty.shape.Idx} (h : i ∈ r.set) :
    i ∈ ((View.whole b).slice r).set := by
  rwa [View.set_slice_whole]

/-- Two indices of a matrix with the same row and the same column are the same. -/
theorem idx2 {m n : ℕ} {i j : (⟨2, ![m, n]⟩ : Shape).Idx} (h0 : (i 0).val = (j 0).val) (h1 : (i 1).val = (j 1).val) : i = j :=
  funext fun a => Fin.ext (match a with | ⟨0, _⟩ => h0 | ⟨1, _⟩ => h1)

/-- An entry of a matrix of real numbers. -/
theorem at_ix {m n : ℕ} {f : (⟨2, ![m, n]⟩ : Shape).Idx → EReal} {g : ℕ → ℕ → ℝ} (hf : ∀ (r : Fin m) (k : Fin n), f (ix2 r k) = ((g r k : ℝ) : EReal))
    {i} {a b : ℕ} (h0 : (i 0).val = a) (h1 : (i 1).val = b) : f i = ((g a b : ℝ) : EReal) := by
  subst h0 h1
  exact (congrArg f (eq_ix2 i)).trans (hf _ _)

/-- Where an entry of tile `t` stands, and an entry of a block as wide as its array. -/
theorem tile_at {o t : ℕ} (ho : o = t) (h r : ℕ) : o * h + 1 * r = h * t + r := by rw [ho, Nat.mul_comm, Nat.one_mul]
theorem whole_at {o : ℕ} (ho : o = 0) (w k : ℕ) : o * w + 1 * k = k := by rw [ho, Nat.zero_mul, Nat.zero_add, Nat.one_mul]

/-- Blocks of `h` rows and `w` columns cover a matrix of `p * h` rows and `q * w` columns, if there is one (that is `ok`) at every place. -/
theorem ok_cover {P Q N p q : ℕ} (h w : ℕ) (hP : P = p * h) (hQ : Q = q * w) {R : Fin N → Rect ⟨2, ![P, Q]⟩} (o : Fin N → Fin 2 → ℕ)
    {ok : Fin N → Prop}
    (ho : ∀ (a : Fin p) (b : Fin q), ∃ t, ok t ∧ o t 0 = a.val ∧ o t 1 = b.val)
    (hR : ∀ t, ∃ inb, R t = Rect.unit (fun a => o t a * ![h, w] a) ![h, w] inb) (i : (⟨2, ![P, Q]⟩ : Shape).Idx) :
    ∃ t, ok t ∧ i ∈ (R t).set := by
  have block : ∀ {n d x : ℕ}, x < n * d → x / d < n ∧ x / d * d ≤ x ∧ x < x / d * d + d := fun {n d x} hx =>
    ⟨Nat.div_lt_of_lt_mul (Nat.mul_comm n d ▸ hx), Nat.div_mul_le_self _ _, Nat.lt_div_mul_add (Nat.pos_of_ne_zero (by rintro rfl; omega))⟩
  obtain ⟨hp, h0⟩ := block (hP ▸ (i 0).isLt : (i 0).val < p * h)
  obtain ⟨hq, h1⟩ := block (hQ ▸ (i 1).isLt : (i 1).val < q * w)
  obtain ⟨t, k, e0, e1⟩ := ho ⟨_, hp⟩ ⟨_, hq⟩
  obtain ⟨inb, e⟩ := hR t
  refine ⟨t, k, ?_⟩
  rw [e, Rect.mem_set_unit]
  exact fun a => match a with | ⟨0, _⟩ => e0.symm ▸ h0 | ⟨1, _⟩ => e1.symm ▸ h1

theorem blocks_cover {P Q N p q : ℕ} (h w : ℕ) (hP : P = p * h) (hQ : Q = q * w) {R : Fin N → Rect ⟨2, ![P, Q]⟩} (o : Fin N → Fin 2 → ℕ)
    (ho : ∀ (a : Fin p) (b : Fin q), ∃ t, o t 0 = a.val ∧ o t 1 = b.val)
    (hR : ∀ t, ∃ inb, R t = Rect.unit (fun a => o t a * ![h, w] a) ![h, w] inb) (i : (⟨2, ![P, Q]⟩ : Shape).Idx) : ∃ t, i ∈ (R t).set :=
  (ok_cover (ok := fun _ => True) h w hP hQ o (fun a b => (ho a b).imp fun _ => .intro trivial) hR i).imp fun _ => And.right

/-- The tiles of `h` rows of a matrix of `N * h` rows cover it. -/
theorem tiles_cover {P w N : ℕ} (h : ℕ) (hP : P = N * h) {R : Fin N → Rect ⟨2, ![P, w]⟩} (o : Fin N → Fin 2 → ℕ)
    (ho : ∀ t, o t 0 = t.val ∧ o t 1 = 0) (hR : ∀ t, ∃ inb, R t = Rect.unit (fun a => o t a * ![h, w] a) ![h, w] inb)
    (i : (⟨2, ![P, w]⟩ : Shape).Idx) : ∃ t, i ∈ (R t).set :=
  blocks_cover (q := 1) h w hP (Nat.one_mul w).symm o (fun a b => ⟨a, (ho a).1, (ho a).2.trans (Fin.val_eq_zero b).symm⟩) hR i

/-- A block as large as its matrix holds every entry. -/
theorem whole_cover {P w : ℕ} {R : Rect ⟨2, ![P, w]⟩} (o : Fin 2 → ℕ) (h0 : o 0 = 0) (h1 : o 1 = 0)
    (hR : ∃ inb, R = Rect.unit (fun a => o a * ![P, w] a) ![P, w] inb) (i : (⟨2, ![P, w]⟩ : Shape).Idx) : i ∈ R.set := by
  obtain ⟨inb, rfl⟩ := hR
  rw [Rect.mem_set_unit]
  intro a
  match a with
  | ⟨0, _⟩ => have := (i 0).isLt; show o 0 * P ≤ (i 0).val ∧ (i 0).val < o 0 * P + P; rw [h0]; simpa using this
  | ⟨1, _⟩ => have := (i 1).isLt; show o 1 * w ≤ (i 1).val ∧ (i 1).val < o 1 * w + w; rw [h1]; simpa using this

end Cert.Reals

end
-- ==== Proof.LossValue.lean ====
/- The value of the loss head: the loss `0.5 · ∑_r mean_k (y − t)²` accumulated over eight tiles of rows, and its
   gradient `(y − t) / 1024`, against the derivative of the plainly written loss. -/
module

public import proofs.«01_k».proof.Defs
public import proofs.«01_k».proof.Proof.Reals
public import proofs.«01_k».proof.Proof.Gen.LossHeadIdeal.Value
public import proofs.«01_k».proof.Proof.Gen.LossRefIdeal.Read

@[expose] public section

set_option maxRecDepth 16384

noncomputable section

namespace Cert.LossValue

open Cert.Reals Cert.LossHeadIdeal Cert.LossHeadIdeal.Gen Idealize.ShloMosaic Idealize.ShloMosaic.TcCoe Idealize.SL.Sem
open Idealize.ShloMosaic.Pipeline (Dat)

section Body

variable {F : FTy → Type} [FloatOps F]

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1 .f32) (h3 : a3.IsWhole)
  (a4 : Memref sig .tc .vmem S512x1024 .f32) (h4 : a4.IsWhole) (y t : Vec F S512x1024 .f32) (l : Vec F S1x1 .f32)

/-- At the first tile the loss cell is left at zero plus the tile's term. -/
theorem loss_first (hc : cond0_0 i) :
    out0_A_2 c i a1 h1 a2 h2 a3 h3 a4 h4 hc y t = k0_pay4 y t k0_pay1 := by
  unfold out0_A_2
  rw [View.read_writes_eq_canon _ _ _ (cover0_A_2 c i a1 h1 a2 h2 a3 h3 a4 h4 hc y t)]
  unfold kernelRun0_A
  dsimp only
  sl_unfold_words
  rw [View.canon_cons_unit_zero (S := S1x1) zero_off, View.readCov_unit_zero (S := S1x1) _ zero_off]
  simp only [View.readAt_eq_ld, h1.read_unread, h2.read_unread, View.ld_unit_zero (S := S512x1024) zero_off]

/-- At a later tile the loss cell is left at what it held plus the tile's term. -/
theorem loss_later (hc : ¬cond0_0 i) :
    out0_B_2 c i a1 h1 a2 h2 a3 h3 a4 h4 hc y t l = k0_pay4 y t l := by
  unfold out0_B_2
  rw [View.read_writes_eq_canon _ _ _ (cover0_B_2 c i a1 h1 a2 h2 a3 h3 a4 h4 hc y t l)]
  unfold kernelRun0_B
  dsimp only
  sl_unfold_words
  rw [View.canon_unit_zero (S := S1x1) zero_off]
  simp only [View.readAt_eq_ld, h1.read_unread, h2.read_unread, h3.read_unread, View.ld_unit_zero (S := S512x1024) zero_off,
    View.ld_unit_zero (S := S1x1) zero_off]

/-- The gradient's tile, at the first point. -/
theorem grad_first (hc : cond0_0 i) :
    out0_A_3 c i a1 h1 a2 h2 a3 h3 a4 h4 hc y t = k0_pay3 y t := by
  unfold out0_A_3
  rw [View.read_writes_eq_canon _ _ _ (cover0_A_3 c i a1 h1 a2 h2 a3 h3 a4 h4 hc y t)]
  unfold kernelRun0_A
  dsimp only
  sl_unfold_words
  rw [View.canon_unit_zero (S := S512x1024) zero_off]
  simp only [View.readAt_eq_ld, h1.read_unread, h2.read_unread, View.ld_unit_zero (S := S512x1024) zero_off]

/-- The gradient's tile, at the later points. -/
theorem grad_later (hc : ¬cond0_0 i) :
    out0_B_3 c i a1 h1 a2 h2 a3 h3 a4 h4 hc y t l = k0_pay3 y t := by
  unfold out0_B_3
  rw [View.read_writes_eq_canon _ _ _ (cover0_B_3 c i a1 h1 a2 h2 a3 h3 a4 h4 hc y t l)]
  unfold kernelRun0_B
  dsimp only
  sl_unfold_words
  rw [View.canon_unit_zero (S := S512x1024) zero_off]
  simp only [View.readAt_eq_ld, h1.read_unread, h2.read_unread, View.ld_unit_zero (S := S512x1024) zero_off]

end Body

variable (m : (ℓ : Loc nD τ sig) → Buf (Elt Ideal) ℓ) (ρ : Dev nD → PrngReg)

/-- The two arguments as launched. -/
abbrev argY (c : Dev nD) : S4096x1024.Idx → EReal := m ((c : Thread nD τ).loc main_arg0)
abbrev argT (c : Dev nD) : S4096x1024.Idx → EReal := m ((c : Thread nD τ).loc main_arg1)

/-- The row of the whole array that row `r` of tile `n` is. -/
abbrev rowOf (n : Fin 8) (r : Fin 512) : Fin 4096 := ⟨n.val * 512 + r.val, by omega⟩

/-- Grid point `t` as a number below eight. -/
abbrev pt (t : Fin cfg0.N) : Fin 8 := ⟨t.val, t.isLt.trans_eq N_0⟩

theorem index_0 : ∀ t : Fin grid0.N, win0_0.index t 0 = t.val ∧ win0_0.index t 1 = 0 := by decide +kernel

/-- Where an entry of tile `t` stands. -/
theorem row_at {o t : ℕ} (ho : o = t) (h r : ℕ) : o * h + 1 * r = t * h + r := by rw [ho, Nat.one_mul]

/-- Tile `t` of `y`. -/
theorem block_y (c : Dev nD) (t : Fin cfg0.N) (r : Fin 512) (k : Fin 1024) :
    (iblk m c 0 t : S512x1024.Idx → EReal) (ix2 r k) = argY m c (ix2 (rowOf (pt t) r) k) :=
  (congrFun (V_main_arg0 m c) _).trans (congrArg (argY m c) (idx2 (row_at (index_0 t).1 512 r) (whole_at (index_0 t).2 1024 k)))

/-- Tile `t` of the target. -/
theorem block_t (c : Dev nD) (t : Fin cfg0.N) (r : Fin 512) (k : Fin 1024) :
    (iblk m c 1 t : S512x1024.Idx → EReal) (ix2 r k) = argT m c (ix2 (rowOf (pt t) r) k) :=
  (congrFun (V_main_arg1 m c) _).trans (congrArg (argT m c) (idx2 (row_at (index_0 t).1 512 r) (whole_at (index_0 t).2 1024 k)))

/-- The squared error of one row, summed. -/
def rowSq (y t : S4096x1024.Idx → EReal) (r : Fin 4096) : EReal :=
  ∑ k : Fin 1024, (y (ix2 r k) - t (ix2 r k)) * (y (ix2 r k) - t (ix2 r k))

/-- The literal `0.5 / 1024`. -/
theorem ofBits_half_over : Ideal.ofBits .f32 0x3A000000#32 = ((1 / 2048 : ℝ) : EReal) := by
  simp [Ideal.ofBits, Ideal.ieee, -EReal.coe_mul]; norm_num
theorem ofBits_over : Ideal.ofBits .f32 0x3A800000#32 = ((1 / 1024 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- What one tile adds to the loss cell. -/
theorem pay4_apply (y t : Vec Ideal S512x1024 .f32) (l : Vec Ideal S1x1 .f32) :
    k0_pay4 y t l (ix2 0 0) = l (ix2 0 0)
      + ∑ r : Fin 512, (∑ k : Fin 1024, (y (ix2 r k) - t (ix2 r k)) * (y (ix2 r k) - t (ix2 r k))) * ((1 / 2048 : ℝ) : EReal) := by
  pointwise [k0_pay4, k0_pay2]
  simp only [ofBits_half_over]

theorem pay1_apply (i : S1x1.Idx) : (k0_pay1 : FVec Ideal S1x1 .f32) i = 0 := by
  pointwise [k0_pay1]

theorem pay3_apply (y t : Vec Ideal S512x1024 .f32) (i : S512x1024.Idx) :
    k0_pay3 y t i = (y i - t i) * ((1 / 1024 : ℝ) : EReal) := by
  pointwise [k0_pay3, k0_pay2]
  simp only [ofBits_over]

/-- What tile `n` adds, read off the launched arguments. -/
def tileTerm (y t : S4096x1024.Idx → EReal) (n : Fin 8) : EReal :=
  ∑ r : Fin 512, rowSq y t (rowOf n r) * ((1 / 2048 : ℝ) : EReal)

theorem tile_add (c : Dev nD) (t : Fin cfg0.N) (l : Vec Ideal S1x1 .f32) :
    k0_pay4 (iblk m c 0 t) (iblk m c 1 t) l (ix2 0 0) = l (ix2 0 0) + tileTerm (argY m c) (argT m c) (pt t) := by
  rw [pay4_apply]
  unfold tileTerm rowSq
  simp only [block_y, block_t]

/-- The loss cell after point `n`: the terms of the tiles up to it. -/
theorem cell_after (c : Dev nD) : ∀ (n : ℕ) (h : n < cfg0.N),
    ((outsAt0 m c n h).1 : S1x1.Idx → EReal) (ix2 0 0)
      = ∑ j : Fin (n + 1), tileTerm (argY m c) (argT m c) ⟨j.val, by have := h.trans_eq N_0; omega⟩
  | 0, h => by
    rw [outsAt0_A m c ⟨0, h⟩ rfl, loss_first]
    dsimp only
    rw [tile_add, pay1_apply, zero_add, Fin.sum_univ_one]
    rfl
  | n + 1, h => by
    have hN : n + 1 < 8 := h.trans_eq N_0
    have hB : ¬(⟨n + 1, h⟩ : Fin cfg0.N).val % 8 = 0 := by dsimp only; omega
    rw [outsAt0_B m c ⟨n + 1, h⟩ hB, loss_later]
    dsimp only
    rw [tile_add]
    show ((outsAt0 m c n _).1 : S1x1.Idx → EReal) (ix2 0 0) + _ = _
    rw [cell_after c n, Fin.sum_univ_castSucc (n := n + 1)]
    rfl

/-- The loss over all 4096 rows. -/
def lossOf (y t : S4096x1024.Idx → EReal) : EReal := ∑ r : Fin 4096, rowSq y t r * ((1 / 2048 : ℝ) : EReal)

theorem lossOf_tiles (y t : S4096x1024.Idx → EReal) : lossOf y t = ∑ j : Fin 8, tileTerm y t j := by
  unfold lossOf tileTerm
  exact Fin.sum_univ_tiles 8 512 (by norm_num) _

/-- The two result arrays. -/
def lossArr (y t : S4096x1024.Idx → EReal) : S1x1.Idx → EReal := fun _ => lossOf y t
def gradArr (y t : S4096x1024.Idx → EReal) : S4096x1024.Idx → EReal := fun i => (y i - t i) * ((1 / 1024 : ℝ) : EReal)

/-- The last point writes the whole loss back. -/
theorem flushed_loss (c : Dev nD) (t : Fin cfg0.N) (hf : (cfg0.win 2).flush t = true) :
    (dats m 0 c).flushed 2 t = ((cfg0.win 2).blk t).view.read (Elt Ideal) (lossArr (argY m c) (argT m c)) := by
  have h7 : t.val = 7 := by have := (flush0_2 t).mp hf; have := t.isLt.trans_eq N_0; omega
  rw [Value.flushed2]
  funext j
  rw [View.read_apply]
  show ((outsAt0 m c t.val t.isLt).1 : S1x1.Idx → EReal) _ = lossOf (argY m c) (argT m c)
  rw [lossOf_tiles]
  obtain ⟨n, hn⟩ := t
  obtain rfl : n = 7 := h7
  rw [← cell_after m c 7 hn]
  refine congrArg _ (funext fun a => ?_)
  match a with
  | ⟨0, _⟩ => exact Subsingleton.elim (α := Fin 1) _ _
  | ⟨1, _⟩ => exact Subsingleton.elim (α := Fin 1) _ _

theorem final_loss (c : Dev nD) : (dats m 0 c).arrAt 2 cfg0.N = lossArr (argY m c) (argT m c) :=
  (dats m 0 c).arrAt_eq_of_cover 2 (lossArr (argY m c) (argT m c)) (flushed_loss m c) fun i =>
    ⟨t0_7, (flush0_2 _).mpr rfl, in_slice (whole_cover (win0_2.index t0_7) rfl rfl ⟨_, rfl⟩ i)⟩

/-- Every point writes its tile of the gradient back. -/
theorem flushed_grad (c : Dev nD) (t : Fin cfg0.N) (_ : (cfg0.win 3).flush t = true) :
    (dats m 0 c).flushed 3 t = ((cfg0.win 3).blk t).view.read (Elt Ideal) (gradArr (argY m c) (argT m c)) := by
  have key : (dats m 0 c).flushed 3 t = (cfg0.win 3).cut (grid0.coords t) (k0_pay3 (iblk m c 0 t) (iblk m c 1 t)) := by
    by_cases h0 : t.val % 8 = 0
    · rw [Value.flushed3_A m c t h0, grad_first]
    · rw [Value.flushed3_B m c t h0, grad_later]
  rw [key]
  funext j
  rw [View.read_apply]
  show k0_pay3 (iblk m c 0 t) (iblk m c 1 t) j = gradArr (argY m c) (argT m c) _
  obtain ⟨r, k, rfl⟩ := exists_ix2 j
  rw [pay3_apply, block_y, block_t]
  unfold gradArr
  have e : ((cfg0.win 3).blk t).view.emb (ix2 r k) = (ix2 (rowOf (pt t) r) k : S4096x1024.Idx) :=
  idx2 (row_at (index_0 t).1 512 r) (whole_at (index_0 t).2 1024 k)
  rw [e]

theorem final_grad (c : Dev nD) : (dats m 0 c).arrAt 3 cfg0.N = gradArr (argY m c) (argT m c) :=
  (dats m 0 c).arrAt_eq_of_cover 3 (gradArr (argY m c) (argT m c)) (flushed_grad m c) fun i =>
    (tiles_cover 512 rfl win0_3.index index_0 (fun _ => ⟨_, rfl⟩) i).imp fun t ht => ⟨flush0_3 t, in_slice ht⟩

/-! ## The reference -/

/-- A nonnegative real scales a sum of extended reals term by term. -/
theorem scale_sum {ι : Type*} [Fintype ι] {x : ℝ} (hx : 0 ≤ x) (f : ι → EReal) :
    (x : EReal) * ∑ i, f i = ∑ i, (x : EReal) * f i :=
  map_sum (⟨⟨fun a => (x : EReal) * a, mul_zero _⟩,
    EReal.left_distrib_of_nonneg_of_ne_top (EReal.coe_nonneg.mpr hx) (EReal.coe_ne_top x)⟩ : EReal →+ EReal) f Finset.univ

open Cert.LossRefIdeal.Read in
/-- The plainly written loss is the same sum: scaling by a nonnegative real distributes over the sum of the rows. -/
theorem ref_loss (y t : S4096x1024.Idx → EReal) : val_main_v9 (F := Ideal) y t = lossArr y t := by
  funext i
  pointwise [val_main_v9, val_main_v8, val_main_v7, val_main_v6, val_main_v5, val_main_v4, val_main_v1, val_main_v0,
    val_main_cst_0, val_main_cst_1, val_main_cst_2, val_main_cst_3]
  simp only [ofBits_half, ofBits_1024]
  show _ = lossOf y t
  unfold lossOf rowSq
  rw [scale_sum (by norm_num)]
  refine Finset.sum_congr rfl fun r _ => ?_
  rw [Ideal.div_coe (by norm_num), mul_left_comm, ← EReal.coe_mul]
  norm_num

open Cert.LossRefIdeal.Read in
/-- The derivative of the loss is the error over 1024. -/
theorem ref_grad (y t : S4096x1024.Idx → EReal) : val_main_v15 (F := Ideal) y t = gradArr y t := by
  funext i
  pointwise [val_main_v15, val_main_v14, val_main_v13, val_main_v12, val_main_v11,
    val_main_v10, val_main_v3, val_main_v2, val_main_v0, val_main_cst, val_main_cst_4, val_main_cst_5, val_main_cst_6]
  simp only [ofBits_two, ofBits_half, ofBits_one, ofBits_1024]
  rw [Ideal.div_coe (by norm_num), ← EReal.coe_mul, ← mul_assoc, ← EReal.coe_mul, mul_comm]
  show _ = (y i - t i) * ((1 / 1024 : ℝ) : EReal)
  norm_num

/-! ## The claims -/

/-- The kernel's run, read: the loss and its gradient at their closed forms, the arguments unchanged. -/
theorem run_kernel : θ_run defs (onTc (τ := τ) (main (F := Ideal))) ⟨m, fun _ => 0, ρ⟩ fun r => ∀ c : Dev nD,
      r.2.mem ((c : Thread nD τ).loc main_v0_0) = lossArr (argY m c) (argT m c)
      ∧ r.2.mem ((c : Thread nD τ).loc main_v0_1) = gradArr (argY m c) (argT m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_loss m c), (h c).2.1.trans (final_grad m c), (h c).2.2⟩)
    (Value.run_blocks m ρ)

/-- The reference runs, its arguments unchanged; it declares no semaphore. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The loss head's kernel and the derivative of the plainly written loss end with equal results. -/
theorem algebraic : Cert.algebraic_LossHeadIdeal_LossRefIdeal := fun m ρ m' ρ' _ hag =>
  ⟨fun c => lossArr (argY m c) (argT m c), fun c => gradArr (argY m c) (argT m c), run_kernel m ρ,
    (θ_run Cert.LossRefIdeal.defs _ _).mono
      (fun _ h c => ⟨(h c).1.trans (by rw [(hag c).1, (hag c).2]; exact ref_loss _ _),
        (h c).2.1.trans (by rw [(hag c).1, (hag c).2]; exact ref_grad _ _), (h c).2.2⟩)
      (Cert.LossRefIdeal.Value.run (F := Ideal) m' ρ')⟩

end Cert.LossValue

end
-- ==== Proof.Frames.lean ====
/- The frames of the references of the calls whose frames the runs give. -/
module

public import proofs.«01_k».proof.Defs
public import proofs.«01_k».proof.Proof.Gen.BiasRefIdeal.Run
public import proofs.«01_k».proof.Proof.Gen.LnRefIdeal.Run
public import proofs.«01_k».proof.Proof.Gen.DxMixRefIdeal.Run
public import proofs.«01_k».proof.Proof.Gen.DxFfnRefIdeal.Run
public import proofs.«01_k».proof.Proof.Gen.FfnMidRefIdeal.Run
public import proofs.«01_k».proof.Proof.Gen.DxFirstRefIdeal.Run
public import proofs.«01_k».proof.Proof.Gen.AttnARefIdeal.Run
public import proofs.«01_k».proof.Proof.Gen.AttnAFwdRefIdeal.Run
public import proofs.«01_k».proof.Proof.Gen.AttnBFwdRefIdeal.Run
public import proofs.«01_k».proof.Proof.Gen.FfnUpRefIdeal.Run
public import proofs.«01_k».proof.Proof.Gen.DownLnRefIdeal.Run
public import proofs.«01_k».proof.Proof.Gen.BiasBandRefIdeal.Run
public import proofs.«01_k».proof.Proof.Gen.MmNnRefIdeal.Run
public import proofs.«01_k».proof.Proof.Gen.MmNtRefIdeal.Run
public import proofs.«01_k».proof.Proof.Gen.SumDevRefIdeal.Run
public import Idealize.ShloMosaic.Lib.Quiescent
public import Idealize.ShloMosaic.Adequacy
public import Idealize.ShloMosaic.Init

@[expose] public section

noncomputable section

namespace Cert.RefFrames

open Idealize.ShloMosaic Idealize.SL.Sem

/-- The reference of the bias table's gradient leaves its arguments. -/
theorem bias : Cert.quiescent_BiasRefIdeal := fun m ρ _ =>
  (θ_run Cert.BiasRefIdeal.defs _ _).mono (fun r h => ⟨fun c => (h c).2, sem_eq_zero_of_no_sems (by decide) r.2⟩)
    (Cert.BiasRefIdeal.Value.run (F := Ideal) m ρ)

/-- The reference of the layer norm's gradient leaves its arguments. -/
theorem ln : Cert.quiescent_LnRefIdeal := fun m ρ _ =>
  (θ_run Cert.LnRefIdeal.defs _ _).mono (fun r h => ⟨fun c => (h c).2.2.2.2, sem_eq_zero_of_no_sems (by decide) r.2⟩)
    (Cert.LnRefIdeal.Value.run (F := Ideal) m ρ)

/-- The reference of the mixer input's gradient leaves its arguments. -/
theorem mix : Cert.quiescent_DxMixRefIdeal := fun m ρ _ =>
  (θ_run Cert.DxMixRefIdeal.defs _ _).mono (fun r h => ⟨fun c => (h c).2.2.2.2, sem_eq_zero_of_no_sems (by decide) r.2⟩)
    (Cert.DxMixRefIdeal.Value.run (F := Ideal) m ρ)

/-- The reference of the feed-forward input's gradient leaves its arguments. -/
theorem ffn : Cert.quiescent_DxFfnRefIdeal := fun m ρ _ =>
  (θ_run Cert.DxFfnRefIdeal.defs _ _).mono (fun r h => ⟨fun c => (h c).2.2.2.2, sem_eq_zero_of_no_sems (by decide) r.2⟩)
    (Cert.DxFfnRefIdeal.Value.run (F := Ideal) m ρ)

/-- The reference of the gated unit's gradient leaves its arguments. -/
theorem mid : Cert.quiescent_FfnMidRefIdeal := fun m ρ _ =>
  (θ_run Cert.FfnMidRefIdeal.defs _ _).mono (fun r h => ⟨fun c => (h c).2.2, sem_eq_zero_of_no_sems (by decide) r.2⟩)
    (Cert.FfnMidRefIdeal.Value.run (F := Ideal) m ρ)

/-- The reference of the first layer's input gradient leaves its arguments. -/
theorem first : Cert.quiescent_DxFirstRefIdeal := fun m ρ _ =>
  (θ_run Cert.DxFirstRefIdeal.defs _ _).mono (fun r h => ⟨fun c => (h c).2, sem_eq_zero_of_no_sems (by decide) r.2⟩)
    (Cert.DxFirstRefIdeal.Value.run (F := Ideal) m ρ)

/-- The reference of the chunked attention's gradients leaves its arguments. -/
theorem attn_a : Cert.quiescent_AttnARefIdeal := fun m ρ _ =>
  (θ_run Cert.AttnARefIdeal.defs _ _).mono (fun r h => ⟨fun c => (h c).2.2.2.2, sem_eq_zero_of_no_sems (by decide) r.2⟩)
    (Cert.AttnARefIdeal.Value.run (F := Ideal) m ρ)

/-- The reference of the chunked attention leaves its arguments. -/
theorem attn_a_fwd : Cert.quiescent_AttnAFwdRefIdeal := fun m ρ _ =>
  (θ_run Cert.AttnAFwdRefIdeal.defs _ _).mono (fun r h => ⟨fun c => (h c).2, sem_eq_zero_of_no_sems (by decide) r.2⟩)
    (Cert.AttnAFwdRefIdeal.Value.run (F := Ideal) m ρ)

/-- The reference of the stick-breaking attention leaves its arguments. -/
theorem attn_b_fwd : Cert.quiescent_AttnBFwdRefIdeal := fun m ρ _ =>
  (θ_run Cert.AttnBFwdRefIdeal.defs _ _).mono (fun r h => ⟨fun c => (h c).2, sem_eq_zero_of_no_sems (by decide) r.2⟩)
    (Cert.AttnBFwdRefIdeal.Value.run (F := Ideal) m ρ)

/-- The reference of the gated unit leaves its arguments. -/
theorem up : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The reference of the residual norm leaves its arguments. -/
theorem down : Cert.quiescent_DownLnRefIdeal := fun m ρ _ =>
  (θ_run Cert.DownLnRefIdeal.defs _ _).mono (fun r h => ⟨fun c => (h c).2.2.2, sem_eq_zero_of_no_sems (by decide) r.2⟩)
    (Cert.DownLnRefIdeal.Value.run (F := Ideal) m ρ)

/-- The reference of the bias band leaves its arguments. -/
theorem band : Cert.quiescent_BiasBandRefIdeal := fun m ρ _ =>
  (θ_run Cert.BiasBandRefIdeal.defs _ _).mono (fun r h => ⟨fun c => (h c).2, sem_eq_zero_of_no_sems (by decide) r.2⟩)
    (Cert.BiasBandRefIdeal.Value.run (F := Ideal) m ρ)

/-- The reference of the plain product leaves its arguments. -/
theorem nn : Cert.quiescent_MmNnRefIdeal := fun m ρ _ =>
  (θ_run Cert.MmNnRefIdeal.defs _ _).mono (fun r h => ⟨fun c => (h c).2, sem_eq_zero_of_no_sems (by decide) r.2⟩)
    (Cert.MmNnRefIdeal.Value.run (F := Ideal) m ρ)

/-- The reference of the product with a transposed weight leaves its arguments. -/
theorem nt : Cert.quiescent_MmNtRefIdeal := fun m ρ _ =>
  (θ_run Cert.MmNtRefIdeal.defs _ _).mono (fun r h => ⟨fun c => (h c).2, sem_eq_zero_of_no_sems (by decide) r.2⟩)
    (Cert.MmNtRefIdeal.Value.run (F := Ideal) m ρ)

/-- The reference of the sum over devices leaves its arguments. -/
theorem sum : Cert.quiescent_SumDevRefIdeal := fun m ρ _ =>
  (θ_run Cert.SumDevRefIdeal.defs _ _).mono (fun r h => ⟨fun c => (h c).2, sem_eq_zero_of_no_sems (by decide) r.2⟩)
    (Cert.SumDevRefIdeal.Value.run (F := Ideal) m ρ)

end Cert.RefFrames

end
-- ==== Proof.BiasBody.lean ====
/- The bias table's gradient, one grid point: eight rows of the band, each multiplied by the indicator of its clipped distances. -/
module

public import proofs.«01_k».proof.Defs
public import proofs.«01_k».proof.Proof.Gen.BiasBwdIdeal.Value
public import proofs.«01_k».proof.Proof.Reals
public import Idealize.ShloMosaic.Lib.WordCmp
public import Idealize.ShloMosaic.Lib.SortNet.Extract

@[expose] public section

set_option maxRecDepth 16384

noncomputable section

namespace Cert.BiasValue

open Cert.Reals Cert.BiasBwdIdeal Cert.BiasBwdIdeal.Gen Idealize.ShloMosaic Idealize.ShloMosaic.TcCoe Idealize.SL.Sem
open Idealize.ShloMosaic.Pipeline (Dat)

section Body

variable {F : FTy → Type} [FloatOps F]

/-- The indicator of "the clipped distance of band row `b` from key `j` is `r`". -/
def hot (b : BitVec 32) : FVec F S640x384 .bf16 :=
  truncf .bf16 (select
    (cmpi .eq (iota .tc S640x384 32 [1] iota_S640x384_d1_w32)
      (addi (minsi (broadcast S640x384 128#32) (maxsi (broadcast S640x384 4294967168#32)
        (addi (subi (broadcast S640x384 b) (iota .tc S640x384 32 [0] iota_S640x384_d0_w32)) (broadcast S640x384 512#32))))
        (broadcast S640x384 128#32)))
    (broadcast S640x384 (Scalar.ofBits .f32 0x3F800000#32 : F .f32)) (broadcast S640x384 (Scalar.ofBits .f32 0x00000000#32 : F .f32)))
    bitsLt_bf16_f32

/-- A product with the indicator, onto zero. -/
def prod (v : FVec F S16x640 .bf16) (w : FVec F S640x384 .bf16) : FVec F S16x384 .f32 :=
  matmul dot_S16x640_S640x384_S16x384_1_0_0_1_n_n none v w (constant S16x384 .f32 0x00000000#32)

/-- The sum of the two layers' rows. -/
def both (x y : Vec F S1x16x640 .f32) : FVec F S16x640 .f32 :=
  addf (shapeCast S16x640 x shapeCasts_S1x16x640_S16x640) (shapeCast S16x640 y shapeCasts_S1x16x640_S16x640)

/-- What the upper half leaves. -/
def rest (g : FVec F S16x640 .f32) : FVec F S16x640 .f32 := subf g (extf .f32 (truncf .bf16 g bitsLt_bf16_f32) bitsLt_bf16_f32)

/-- One row's contribution: the sum of the two layers' rows in three parts, each times the indicator. -/
def rowTerm (b : BitVec 32) (x y : Vec F S1x16x640 .f32) : FVec F S16x384 .f32 :=
  addf (addf (prod (truncf .bf16 (both x y) bitsLt_bf16_f32) (hot b)) (prod (truncf .bf16 (rest (both x y)) bitsLt_bf16_f32) (hot b)))
    (prod (truncf .bf16 (rest (rest (both x y))) bitsLt_bf16_f32) (hot b))

/-- Row `k` of a block. -/
def row (k : ℕ) (h : k < 8) (x : Vec F S8x16x640 .f32) : Vec F S1x16x640 .f32 :=
  View.ld x (Rect.unit (s := S8x16x640) ![k, 0, 0] ![1, 16, 640] (fun a => by match a with | ⟨0, _⟩ => exact h | ⟨1, _⟩ => exact le_refl 16 | ⟨2, _⟩ => exact le_refl 640))

/-- One point's contribution: its eight rows, added from zero. -/
def eight (v : BitVec 32) (x y : Vec F S8x16x640 .f32) : FVec F S16x384 .f32 :=
  addf (addf (addf (addf (addf (addf (addf (addf (broadcast S16x384 (Scalar.ofBits .f32 0x00000000#32 : F .f32))
    (rowTerm (Scalar.addi v 0#32) (row 0 (by omega) x) (row 0 (by omega) y)))
    (rowTerm (Scalar.addi v 1#32) (row 1 (by omega) x) (row 1 (by omega) y)))
    (rowTerm (Scalar.addi v 2#32) (row 2 (by omega) x) (row 2 (by omega) y)))
    (rowTerm (Scalar.addi v 3#32) (row 3 (by omega) x) (row 3 (by omega) y)))
    (rowTerm (Scalar.addi v 4#32) (row 4 (by omega) x) (row 4 (by omega) y)))
    (rowTerm (Scalar.addi v 5#32) (row 5 (by omega) x) (row 5 (by omega) y)))
    (rowTerm (Scalar.addi v 6#32) (row 6 (by omega) x) (row 6 (by omega) y)))
    (rowTerm (Scalar.addi v 7#32) (row 7 (by omega) x) (row 7 (by omega) y))

/-- The first band row of a point, as a word. -/
def base (i : grid0.Coords) : BitVec 32 := Scalar.muli (BitVec.ofNat 32 (i 0).val) 8#32

variable (c : Dev nD) (i : grid0.Coords) (a1 : Memref sig .tc .vmem S8x16x640 .f32) (h1 : a1.IsWhole)
  (a2 : Memref sig .tc .vmem S8x16x640 .f32) (h2 : a2.IsWhole) (a3 : Memref sig .tc .vmem S16x384 .f32) (h3 : a3.IsWhole)
  (x y : Vec F S8x16x640 .f32) (o : Vec F S16x384 .f32)

/-- At the first point the table is left at zero plus the point's contribution. -/
theorem out_first (hc : cond0_0 i) :
    out0_A_2 c i a1 h1 a2 h2 a3 h3 hc x y = addf k0_pay1 (eight (base i) x y) := by
  unfold out0_A_2
  rw [View.read_writes_eq_canon _ _ _ (cover0_A_2 c i a1 h1 a2 h2 a3 h3 hc x y)]
  unfold kernelRun0_A
  dsimp only
  sl_unfold_words
  rw [View.canon_cons_unit_zero (S := S16x384) zero_off, View.readCov_unit_zero (S := S16x384) _ zero_off]
  simp only [View.readAt_eq_ld, h1.read_unread, h2.read_unread]
  exact Eq.trans (b := addf (shapeCast S16x384 k0_pay1 shapeCasts_S16x384_S16x384) (eight (base i) x y)) rfl (by rw [shapeCast_self])

/-- At a later point it is left at what it held plus the point's contribution. -/
theorem out_later (hc : ¬cond0_0 i) :
    out0_B_2 c i a1 h1 a2 h2 a3 h3 hc x y o = addf o (eight (base i) x y) := by
  unfold out0_B_2
  rw [View.read_writes_eq_canon _ _ _ (cover0_B_2 c i a1 h1 a2 h2 a3 h3 hc x y o)]
  unfold kernelRun0_B
  dsimp only
  sl_unfold_words
  rw [View.canon_unit_zero (S := S16x384) zero_off]
  simp only [View.readAt_eq_ld, h1.read_unread, h2.read_unread, h3.read_unread, View.ld_unit_zero (S := S16x384) zero_off]
  exact Eq.trans (b := addf (shapeCast S16x384 o shapeCasts_S16x384_S16x384) (eight (base i) x y)) rfl (by rw [shapeCast_self])

end Body

/-- The clipped distance of band row `p` from key `j`, as the table's row. -/
def rel (p j : ℕ) : ℕ := min 256 (p + 640 - j)

/-- The words compute the clipped distance. -/
theorem rel_word {p j : ℕ} (hp : p < 128) (hj : j < 640) :
    IntOp.addi (IntOp.minsi 128#32 (IntOp.maxsi 4294967168#32 (IntOp.addi (IntOp.subi (BitVec.ofNat 32 p) (BitVec.ofNat 32 j)) 512#32))) 128#32
      = BitVec.ofNat 32 (rel p j) := by
  have hd : (IntOp.addi (IntOp.subi (BitVec.ofNat 32 p) (BitVec.ofNat 32 j)) 512#32).toInt = (p : Int) - j + 512 := by
    show ((BitVec.ofNat 32 p - BitVec.ofNat 32 j) + 512#32).toInt = _
    rw [BitVec.toInt_add, BitVec.toInt_sub, WordCmp.toInt_ofNat_of_lt (a := p) (by norm_num; omega), WordCmp.toInt_ofNat_of_lt (a := j) (by norm_num; omega)]
    rw [show (512#32 : BitVec 32).toInt = 512 from by decide]
    simp only [Int.bmod_def]
    norm_num
    omega
  have hm : (IntOp.minsi 128#32 (IntOp.maxsi 4294967168#32 (IntOp.addi (IntOp.subi (BitVec.ofNat 32 p) (BitVec.ofNat 32 j)) 512#32))).toInt
      = min 128 ((p : Int) - j + 512) := by
    rw [SortNet.toInt_minsi, SortNet.toInt_maxsi, hd, show (128#32 : BitVec 32).toInt = 128 from by decide,
      show (4294967168#32 : BitVec 32).toInt = -128 from by decide]
    omega
  apply BitVec.eq_of_toInt_eq
  show (IntOp.minsi 128#32 _ + 128#32).toInt = _
  rw [BitVec.toInt_add, hm, show (128#32 : BitVec 32).toInt = 128 from by decide,
    WordCmp.toInt_ofNat_of_lt (a := rel p j) (by unfold rel; norm_num)]
  unfold rel
  simp only [Int.bmod_def]
  norm_num
  omega

theorem prod_apply (v : FVec Ideal S16x640 .bf16) (w : FVec Ideal S640x384 .bf16) (i : S16x384.Idx) :
    prod v w i = ∑ k, v (ix2 (i 0) k) * w (ix2 k (i 1)) := by
  pointwise [prod]

/-- The indicator's entries. -/
theorem hot_apply {p : ℕ} (hp : p < 128) (j : Fin 640) (r : Fin 384) :
    hot (F := Ideal) (BitVec.ofNat 32 p) (ix2 j r) = (((if rel p j.val = r.val then 1 else 0 : ℝ)) : EReal) := by
  have e : hot (F := Ideal) (BitVec.ofNat 32 p) (ix2 j r) = Scalar.select (IntOp.cmpi CmpIPredicate.eq (BitVec.ofNat 32 r.val)
        (IntOp.addi (IntOp.minsi (128#32) (IntOp.maxsi (4294967168#32) (IntOp.addi (IntOp.subi (BitVec.ofNat 32 p) (BitVec.ofNat 32 j.val)) 512#32)))
          128#32)) (1 : EReal) 0 := by
    pointwise [hot]
  rw [e, rel_word hp j.isLt, WordCmp.cmpi_eq_eq, WordCmp.select_decide]
  have hr : rel p j.val < 2 ^ 32 := by unfold rel; norm_num
  have h2 : r.val < 2 ^ 32 := by norm_num; omega
  by_cases q : rel p j.val = r.val
  · rw [if_pos (by rw [q]), if_pos q]; rfl
  · rw [if_neg (by rw [WordCmp.ofNat_eq_ofNat_iff h2 hr]; omega), if_neg q]; rfl

theorem both_apply (x y : Vec Ideal S1x16x640 .f32) (i : S16x640.Idx) :
    both (F := Ideal) x y i = x (ix3 0 (i 0) (i 1)) + y (ix3 0 (i 0) (i 1)) := by
  pointwise [both]

theorem row_apply (k : ℕ) (h : k < 8) (x : Vec Ideal S8x16x640 .f32) (i : S1x16x640.Idx) :
    row (F := Ideal) k h x i = x (ix3 ⟨k, h⟩ (i 1) (i 2)) := by
  pointwise [row]

/-- The product of numbers with the indicator. -/
theorem prod_coe {p : ℕ} (hp : p < 128) (v : FVec Ideal S16x640 .bf16) (g : Fin 16 → Fin 640 → ℝ) (hv : ∀ i, v i = ((g (i 0) (i 1) : ℝ) : EReal))
    (h : Fin 16) (r : Fin 384) :
    prod v (hot (BitVec.ofNat 32 p)) (ix2 h r) = ((∑ j : Fin 640, if rel p j.val = r.val then g h j else 0 : ℝ) : EReal) := by
  rw [prod_apply, coe_sum]
  refine Finset.sum_congr rfl fun j _ => ?_
  show v (ix2 h j) * hot _ (ix2 j r) = _
  rw [hot_apply hp, hv]
  show ((g h j : ℝ) : EReal) * _ = _
  rw [← EReal.coe_mul, mul_ite, mul_one, mul_zero]

/-- The first remainder of a number is zero. -/
theorem rest_coe (v : FVec Ideal S16x640 .f32) (g : Fin 16 → Fin 640 → ℝ) (hv : ∀ i, v i = ((g (i 0) (i 1) : ℝ) : EReal)) (i : S16x640.Idx) :
    rest v i = ((0 : ℝ) : EReal) := by
  show v i - v i = _
  rw [hv, ← EReal.coe_sub, sub_self]

/-- One row's contribution. -/
theorem rowTerm_coe {p : ℕ} (hp : p < 128) (x y : Vec Ideal S1x16x640 .f32) (g : Fin 16 → Fin 640 → ℝ)
    (hg : ∀ h j, x (ix3 0 h j) + y (ix3 0 h j) = ((g h j : ℝ) : EReal)) (h : Fin 16) (r : Fin 384) :
    rowTerm (F := Ideal) (BitVec.ofNat 32 p) x y (ix2 h r) = ((∑ j : Fin 640, if rel p j.val = r.val then g h j else 0 : ℝ) : EReal) := by
  have hb : ∀ i, both (F := Ideal) x y i = ((g (i 0) (i 1) : ℝ) : EReal) := fun i => by rw [both_apply]; exact hg _ _
  have h0 := rest_coe _ g hb
  have h00 := rest_coe _ (fun _ _ => 0) h0
  show (prod (F := Ideal) (fun i => both x y i) _ (ix2 h r) + prod (fun i => rest (both x y) i) _ (ix2 h r)) + prod (fun i => rest (rest (both x y)) i) _ (ix2 h r) = _
  rw [prod_coe hp _ g hb, prod_coe hp _ (fun _ _ => 0) h0, prod_coe hp _ (fun _ _ => 0) h00, ← EReal.coe_add, ← EReal.coe_add]
  simp

end Cert.BiasValue

end
-- ==== Proof.BiasValue.lean ====
/- The bias table's gradient: the sixteen points' contributions, and the scatter of the plainly written derivative. -/
module

public import proofs.«01_k».proof.Proof.BiasBody
public import proofs.«01_k».proof.Proof.Reals
public import proofs.«01_k».proof.Proof.Gen.BiasRefIdeal.Read
public import Idealize.ShloMosaic.Lib.Routing.OpsOne

@[expose] public section

set_option maxRecDepth 16384

noncomputable section

namespace Cert.BiasValue

open Cert.Reals Cert.BiasBwdIdeal Cert.BiasBwdIdeal.Gen Idealize.ShloMosaic Idealize.ShloMosaic.TcCoe Idealize.SL.Sem
open Idealize.ShloMosaic.Pipeline (Dat)

/-- What band row `p` adds to row `r` of head `h`: the keys at clipped distance `r`. -/
def band (D : ℕ → ℕ → ℕ → ℝ) (h r p : ℕ) : ℝ := ∑ j : Fin 640, if rel p j.val = r then D p h j.val else 0

/-- One row of a block, read off the numbers of the two bands. -/
theorem rowTerm_band {D : ℕ → ℕ → ℕ → ℝ} {t : ℕ} (ht : t < 16) (x y : Vec Ideal S8x16x640 .f32)
    (hD : ∀ (k : Fin 8) (h : Fin 16) (j : Fin 640), x (ix3 k h j) + y (ix3 k h j) = ((D (8 * t + k.val) h.val j.val : ℝ) : EReal))
    (k : ℕ) (hk : k < 8) (h : Fin 16) (r : Fin 384) :
    rowTerm (F := Ideal) (Scalar.addi (BitVec.ofNat 32 (8 * t)) (BitVec.ofNat 32 k)) (row k hk x) (row k hk y) (ix2 h r)
      = ((band D h.val r.val (8 * t + k) : ℝ) : EReal) := by
  have e : Scalar.addi (BitVec.ofNat 32 (8 * t)) (BitVec.ofNat 32 k) = BitVec.ofNat 32 (8 * t + k) := by
    show BitVec.ofNat 32 (8 * t) + BitVec.ofNat 32 k = _
    rw [BitVec.ofNat_add]
  rw [e, rowTerm_coe (by omega) _ _ (fun h j => D (8 * t + k) h.val j.val)]
  · rfl
  · intro h' j
    rw [row_apply, row_apply]
    exact hD ⟨k, hk⟩ h' j

/-- One point's contribution: the eight rows of its block. -/
theorem eight_coe {D : ℕ → ℕ → ℕ → ℝ} {t : ℕ} (ht : t < 16) (x y : Vec Ideal S8x16x640 .f32)
    (hD : ∀ (k : Fin 8) (h : Fin 16) (j : Fin 640), x (ix3 k h j) + y (ix3 k h j) = ((D (8 * t + k.val) h.val j.val : ℝ) : EReal))
    (h : Fin 16) (r : Fin 384) :
    eight (F := Ideal) (BitVec.ofNat 32 (8 * t)) x y (ix2 h r) = ((∑ k ∈ Finset.range 8, band D h.val r.val (8 * t + k) : ℝ) : EReal) := by
  have T := fun k hk => rowTerm_band ht x y hD k hk h r
  show (((((((Ideal.ofBits .f32 0x00000000#32 + rowTerm (F := Ideal) _ (row 0 _ x) _ (ix2 h r)) + rowTerm (F := Ideal) _ (row 1 _ x) _ (ix2 h r))
    + rowTerm (F := Ideal) _ (row 2 _ x) _ (ix2 h r)) + rowTerm (F := Ideal) _ (row 3 _ x) _ (ix2 h r)) + rowTerm (F := Ideal) _ (row 4 _ x) _ (ix2 h r))
    + rowTerm (F := Ideal) _ (row 5 _ x) _ (ix2 h r)) + rowTerm (F := Ideal) _ (row 6 _ x) _ (ix2 h r)) + rowTerm (F := Ideal) _ (row 7 _ x) _ (ix2 h r) = _
  rw [T 0 (by omega), T 1 (by omega), T 2 (by omega), T 3 (by omega), T 4 (by omega), T 5 (by omega), T 6 (by omega), T 7 (by omega)]
  simp only [Finset.sum_range_succ, Finset.sum_range_zero, EReal.coe_add, EReal.coe_zero]
  rw [show Ideal.ofBits .f32 0x00000000#32 = 0 from by simp [Ideal.ofBits, Ideal.ieee]]

variable (m : (ℓ : Loc nD τ sig) → Buf (Elt Ideal) ℓ) (ρ : Dev nD → PrngReg)

/-- The two launched bands. -/
abbrev argX (c : Dev nD) : S128x16x640.Idx → EReal := m ((c.tc : Thread nD τ).loc main_arg0)
abbrev argY (c : Dev nD) : S128x16x640.Idx → EReal := m ((c.tc : Thread nD τ).loc main_arg1)

theorem index_0 : ∀ t : Fin grid0.N, win0_0.index t 0 = t.val ∧ win0_0.index t 1 = 0 ∧ win0_0.index t 2 = 0 := by decide +kernel
theorem base_at : ∀ t : Fin grid0.N, base (grid0.coords t) = BitVec.ofNat 32 (8 * t.val) := by decide +kernel

/-- Row `k` of tile `t`. -/
def rowOf (t : Fin cfg0.N) (k : Fin 8) : Fin 128 := ⟨t.val * 8 + k.val, by have := t.isLt.trans_eq N_0; omega⟩

/-- The place of entry `(k, h, j)` of tile `t`, for each of the two bands. -/
theorem place (t : Fin cfg0.N) (k : Fin 8) (h : Fin 16) (j : Fin 640) :
    ((cfg0.win 0).blk t).view.emb (ix3 k h j) = (ix3 (rowOf t k) h j : S128x16x640.Idx) := by
  funext a; apply Fin.ext
  match a with
  | ⟨0, _⟩ => show win0_0.index t 0 * 8 + 1 * k.val = t.val * 8 + k.val; rw [(index_0 t).1]; omega
  | ⟨1, _⟩ => exact whole_at (index_0 t).2.1 16 h
  | ⟨2, _⟩ => exact whole_at (index_0 t).2.2 640 j

theorem block_x (c : Dev nD) (t : Fin cfg0.N) (k : Fin 8) (h : Fin 16) (j : Fin 640) :
    (iblk m c 0 t : S8x16x640.Idx → EReal) (ix3 k h j) = argX m c (ix3 (rowOf t k) h j) :=
  (congrFun (V_main_arg0 m c) _).trans (congrArg (argX m c) (place t k h j))
theorem block_y (c : Dev nD) (t : Fin cfg0.N) (k : Fin 8) (h : Fin 16) (j : Fin 640) :
    (iblk m c 1 t : S8x16x640.Idx → EReal) (ix3 k h j) = argY m c (ix3 (rowOf t k) h j) :=
  (congrFun (V_main_arg1 m c) _).trans (congrArg (argY m c) (place t k h j))

/-- The bands' sum is the numbers `D`. -/
def Sums (x y : S128x16x640.Idx → EReal) (D : ℕ → ℕ → ℕ → ℝ) : Prop :=
  ∀ (p : Fin 128) (h : Fin 16) (j : Fin 640), x (ix3 p h j) + y (ix3 p h j) = ((D p.val h.val j.val : ℝ) : EReal)

/-- The table after `n` points. -/
def table (D : ℕ → ℕ → ℕ → ℝ) (n h r : ℕ) : ℝ := ∑ p ∈ Finset.range (8 * n), band D h r p

theorem table_succ (D : ℕ → ℕ → ℕ → ℝ) (n h r : ℕ) :
    table D (n + 1) h r = table D n h r + ∑ k ∈ Finset.range 8, band D h r (8 * n + k) := by
  unfold table
  rw [show 8 * (n + 1) = 8 * n + 8 from by ring, Finset.sum_range_add]

/-- What point `t` adds. -/
theorem eight_at (c : Dev nD) {D : ℕ → ℕ → ℕ → ℝ} (hD : Sums (argX m c) (argY m c) D) (t : Fin cfg0.N) (h : Fin 16) (r : Fin 384) :
    eight (F := Ideal) (base (grid0.coords t)) (iblk m c 0 t) (iblk m c 1 t) (ix2 h r)
      = ((∑ k ∈ Finset.range 8, band D h.val r.val (8 * t.val + k) : ℝ) : EReal) := by
  rw [base_at t]
  refine eight_coe (t.isLt.trans_eq N_0) _ _ (fun k h j => ?_) h r
  rw [block_x, block_y, hD]
  show ((D (t.val * 8 + k.val) h.val j.val : ℝ) : EReal) = _
  rw [mul_comm]

/-- The table after point `n`. -/
theorem table_after (c : Dev nD) {D : ℕ → ℕ → ℕ → ℝ} (hD : Sums (argX m c) (argY m c) D) (h : Fin 16) (r : Fin 384) : ∀ (n : ℕ) (hn : n < cfg0.N),
    (outsAt0 m c n hn : S16x384.Idx → EReal) (ix2 h r) = ((table D (n + 1) h.val r.val : ℝ) : EReal)
  | 0, hn => by
    rw [outsAt0_A m c ⟨0, hn⟩ rfl, out_first]
    show (k0_pay1 (F := Ideal)) (ix2 h r) + eight (F := Ideal) _ _ _ (ix2 h r) = _
    rw [eight_at m c hD, table_succ]
    have z : (k0_pay1 (F := Ideal)) (ix2 h r) = 0 := by pointwise [k0_pay1]
    rw [z, zero_add]
    unfold table
    rw [Nat.mul_zero, Finset.sum_range_zero, zero_add]
  | n + 1, hn => by
    have hN : n + 1 < 16 := hn.trans_eq N_0
    have hB : ¬(⟨n + 1, hn⟩ : Fin cfg0.N).val % 16 = 0 := by dsimp only; omega
    rw [outsAt0_B m c ⟨n + 1, hn⟩ hB, out_later]
    show (outsAt0 m c n _ : S16x384.Idx → EReal) (ix2 h r) + eight (F := Ideal) _ _ _ (ix2 h r) = _
    rw [eight_at m c hD, table_after c hD h r n, table_succ D (n + 1), EReal.coe_add]

/-- The result: the table transposed, zero beyond row 256. -/
def result (D : ℕ → ℕ → ℕ → ℝ) : S16x384.Idx → EReal := fun i => ((table D 16 (i 0).val (i 1).val : ℝ) : EReal)

theorem flushed (c : Dev nD) {D : ℕ → ℕ → ℕ → ℝ} (hD : Sums (argX m c) (argY m c) D) (t : Fin cfg0.N) (hf : (cfg0.win 2).flush t = true) :
    (dats m 0 c).flushed 2 t = ((cfg0.win 2).blk t).view.read (Elt Ideal) (result D) := by
  have h15 : t.val = 15 := by have := (flush0_2 t).mp hf; have := t.isLt.trans_eq N_0; omega
  rw [Value.flushed2]
  funext j
  rw [View.read_apply]
  show (outsAt0 m c t.val t.isLt : S16x384.Idx → EReal) j = result D _
  obtain ⟨h, r, rfl⟩ := exists_ix2 j
  obtain ⟨n, hn⟩ := t
  obtain rfl : n = 15 := h15
  rw [table_after m c hD h r 15 hn]
  unfold result
  have e : ((cfg0.win 2).blk ⟨15, hn⟩).view.emb (ix2 h r) = (ix2 h r : S16x384.Idx) :=
      idx2 (whole_at rfl 16 h) (whole_at rfl 384 r)
  rw [e]
  rfl

theorem final (c : Dev nD) {D : ℕ → ℕ → ℕ → ℝ} (hD : Sums (argX m c) (argY m c) D) : (dats m 0 c).arrAt 2 cfg0.N = result D :=
  (dats m 0 c).arrAt_eq_of_cover 2 (result D) (flushed m c hD) fun i =>
    ⟨t0_15, (flush0_2 _).mpr rfl, in_slice (whole_cover (win0_2.index t0_15) rfl rfl ⟨_, rfl⟩ i)⟩

/-! ## The reference -/

open Cert.BiasRefIdeal.Read

/-- The index words: the clipped distances. -/
theorem word_at (p : Fin 128) (j : Fin 640) :
    val_main_v14 (F := Ideal) (ix3 p j 0) = BitVec.ofNat 32 (rel p.val j.val) := by
  have hw : val_main_v8 (F := Ideal) (ix2 p j) = BitVec.ofNat 32 (rel p.val j.val) := rel_word p.isLt j.isLt
  have hr : rel p.val j.val ≤ 256 := by unfold rel; exact min_le_left _ _
  rw [val_main_v14_apply]
  have e : idx_main_v14 (ix3 p j 0) = ix2 p j := eq_ix2 _
  rw [e, val_main_v13_apply, hw, val_main_v10_apply, hw]
  refine Routing.wrap_of_lt _ _ ?_
  rw [BitVec.toNat_ofNat]
  norm_num
  omega

/-- Where an update of a scatter of rows lands: at the row its index word names, in its own column. -/
theorem lands {A B R C : ℕ} (d : ScatterDims (⟨2, ![R, C]⟩ : Shape) ⟨3, ![A, B, 1]⟩ ⟨3, ![A, B, C]⟩) (hu : d.updateWindowDims = [2])
    (hi : d.insertedWindowDims = [0]) (hs : d.scatterDimsToOperandDims = [0]) (hv : d.indexVectorDim = 2)
    (idx : IVec ⟨3, ![A, B, 1]⟩ 32) (a : Fin A) (b : Fin B) (c : Fin C) (k : ℕ) (hidx : (idx (ix3 a b 0)).toInt = (k : Int)) (r : Fin R) (e : Fin C) :
    d.resultIdx? (ix3 a b c) idx = some (ix2 r e) ↔ k = r.val ∧ c = e := by
  obtain ⟨uw, iw, sd, iv, wf⟩ := d
  obtain rfl : uw = [2] := hu
  obtain rfl : iw = [0] := hi
  obtain rfl : sd = [0] := hs
  obtain rfl : iv = 2 := hv
  have h0 : ScatterDims.start ⟨[2], [0], [0], 2, wf⟩ (ix3 a b c) idx 0 = (k : Int) := by
    rw [← hidx]
    unfold ScatterDims.start
    rw [dif_pos (List.mem_singleton.2 rfl)]
    refine congrArg (fun i => (idx i).toInt) (funext fun x => Fin.ext ?_)
    match x with
    | ⟨0, _⟩ => rfl
    | ⟨1, _⟩ => rfl
    | ⟨2, _⟩ => rfl
  have h1 : ScatterDims.start ⟨[2], [0], [0], 2, wf⟩ (ix3 a b c) idx 1 = 0 := by
    unfold ScatterDims.start
    rw [dif_neg (by simp)]
  have w0 : ScatterDims.window ⟨[2], [0], [0], 2, wf⟩ (ix3 a b c) 0 = 0 := by
    unfold ScatterDims.window
    exact dif_neg fun h => by simp [ScatterDims.sKept, Shape.kept] at h
  have w1 : ScatterDims.window ⟨[2], [0], [0], 2, wf⟩ (ix3 a b c) 1 = c.val := by
    unfold ScatterDims.window
    exact dif_pos (List.mem_filter.2 ⟨List.mem_finRange _, by simp⟩)
  refine (Routing.resultIdx?_ix2 _ _ _ r e).trans ?_
  rw [h0, h1, w0, w1, Fin.ext_iff]
  omega

/-- A scatter of rows, added onto zero. -/
theorem scatter_rows {A B R C : ℕ} (d : ScatterDims (⟨2, ![R, C]⟩ : Shape) ⟨3, ![A, B, 1]⟩ ⟨3, ![A, B, C]⟩) (hu : d.updateWindowDims = [2])
    (hi : d.insertedWindowDims = [0]) (hs : d.scatterDimsToOperandDims = [0]) (hv : d.indexVectorDim = 2)
    (x : FVec Ideal ⟨2, ![R, C]⟩ .f32) (idx : IVec ⟨3, ![A, B, 1]⟩ 32) (upd : FVec Ideal ⟨3, ![A, B, C]⟩ .f32) (k : ℕ → ℕ → ℕ)
    (hidx : ∀ a b, (idx (ix3 a b 0)).toInt = (k a.val b.val : Int)) (r : Fin R) (e : Fin C) :
    Host.scatterAdd d x idx upd (ix2 r e) = x (ix2 r e) + ∑ a : Fin A, ∑ b : Fin B, if k a.val b.val = r.val then upd (ix3 a b e) else 0 := by
  have s : Host.scatterAdd d x idx upd (ix2 r e)
      = x (ix2 r e) + ∑ j ∈ Finset.univ.filter (fun j => d.resultIdx? j idx = some (ix2 r e)), upd j := rfl
  rw [s, Finset.sum_filter, sum_idx3]
  refine congrArg (x (ix2 r e) + ·) (Finset.sum_congr rfl fun a _ => Finset.sum_congr rfl fun b _ => ?_)
  simp only [lands d hu hi hs hv idx a b _ _ (hidx a b) r e]
  by_cases q : k a.val b.val = r.val
  · simp [q]
  · simp [q]

/-- The scattered gradient, row by row. -/
theorem scattered {x y : S128x16x640.Idx → EReal} {D : ℕ → ℕ → ℕ → ℝ} (hD : Sums x y D) (r : Fin 257) (h : Fin 16) :
    val_main_v20 (F := Ideal) x y (ix2 r h) = ((table D 16 h.val r.val : ℝ) : EReal) := by
  unfold val_main_v20
  refine (scatter_rows _ rfl rfl rfl rfl _ _ _ rel (fun a b => ?_) r h).trans ?_
  · rw [word_at]
    exact WordCmp.toInt_ofNat_of_lt (by unfold rel; norm_num)
  · have z : val_main_v19 (F := Ideal) (ix2 r h) = 0 := by
      rw [val_main_v19_apply, val_main_cst_5_apply]
      show Ideal.ofBits .f32 0x00000000#32 = 0
      simp [Ideal.ofBits, Ideal.ieee]
    rw [z, zero_add]
    unfold table
    rw [Finset.sum_range, coe_sum]
    refine Finset.sum_congr rfl fun a _ => ?_
    unfold band
    rw [coe_sum]
    refine Finset.sum_congr rfl fun b _ => ?_
    have u : val_main_v18 (F := Ideal) x y (ix3 a b h) = ((D a.val h.val b.val : ℝ) : EReal) := by
      rw [val_main_v18_apply, ← hD]
      have e : idx_main_v18 (ix3 a b h) = ix3 a h b := eq_ix3 _
      rw [e]
      rfl
    rw [u]
    split
    · rfl
    · rfl

/-- No distance is clipped beyond row 256. -/
theorem table_beyond (D : ℕ → ℕ → ℕ → ℝ) (h r : ℕ) (hr : 257 ≤ r) : table D 16 h r = 0 := by
  unfold table band
  refine Finset.sum_eq_zero fun p _ => Finset.sum_eq_zero fun j _ => if_neg ?_
  unfold rel
  omega

/-- The reference's result. -/
theorem ref_result {x y : S128x16x640.Idx → EReal} {D : ℕ → ℕ → ℕ → ℝ} (hD : Sums x y D) : val_main_v22 (F := Ideal) x y = result D := by
  funext i
  obtain ⟨h, r, rfl⟩ := exists_ix2 i
  unfold val_main_v22 result
  by_cases hr : r.val < 257
  · refine (pad_apply_of_inside ![0, 0] ![0, 127] ![0, 0] _ _ _ _ (ix2 h r) (ix2 h ⟨r.val, hr⟩) fun a => ?_).trans ?_
    · match a with
      | ⟨0, _⟩ => show h.val = 0 + h.val * (0 + 1); omega
      | ⟨1, _⟩ => show r.val = 0 + r.val * (0 + 1); omega
    · rw [val_main_v21_apply]
      have e : idx_main_v21 (ix2 h ⟨r.val, hr⟩) = ix2 ⟨r.val, hr⟩ h := eq_ix2 _
      rw [e, scattered hD]
      rfl
  · refine (pad_apply_of_not_inside (s := Cert.BiasRefIdeal.S16x257) ![0, 0] ![0, 127] ![0, 0] _ _ _ _ (ix2 h r) 1 fun q => ?_).trans ?_
    · have q2 : (r.val - 0) / (0 + 1) < 257 := q.2.2
      omega
    · show _ = ((table D 16 h.val r.val : ℝ) : EReal)
      rw [table_beyond D _ _ (by omega)]
      show val_main_call1_v0 (F := Ideal) _ = _
      rw [val_main_call1_v0_apply]
      show (((val_main_c_6 (F := Ideal) _ : BitVec 32).toInt : ℝ) : EReal) = _
      rw [val_main_c_6_apply]
      simp

/-! ## The claim -/

/-- The shapes' facts of the predicate. -/
theorem pre_facts : Cert.Pre_finite_bias.Facts where
  bcast_S_S128x16x640 := by decide

/-- The numbers of the two bands' sum. -/
def sums (x y : S128x16x640.Idx → EReal) (p h j : ℕ) : ℝ :=
  if q : p < 128 ∧ h < 16 ∧ j < 640 then (x (ix3 ⟨p, q.1⟩ ⟨h, q.2.1⟩ ⟨j, q.2.2⟩)).toReal + (y (ix3 ⟨p, q.1⟩ ⟨h, q.2.1⟩ ⟨j, q.2.2⟩)).toReal else 0

/-- Finite bands have a sum of numbers. -/
theorem sums_of_pre (c : Dev nD) (hP : Cert.Pre_BiasBwdIdeal_finite_bias (hPre_finite_bias := pre_facts) m) :
    Sums (argX m c) (argY m c) (sums (argX m c) (argY m c)) := by
  obtain ⟨h0, h1⟩ := hP c
  intro p h j
  unfold sums
  rw [dif_pos ⟨p.isLt, h.isLt, j.isLt⟩, EReal.coe_add]
  exact congrArg₂ (· + ·) (number_of_lt (congrFun h0 (ix3 p h j))) (number_of_lt (congrFun h1 (ix3 p h j)))

/-- The bias table's backward kernel and the derivative of the plain lookup end with equal results. -/
theorem algebraic : Cert.algebraic_BiasBwdIdeal_BiasRefIdeal_pre_finite_bias (hPre_finite_bias := pre_facts) := fun m ρ m' ρ' hP hag =>
  ⟨fun c => result (sums (argX m c) (argY m c)),
    (θ_run defs _ _).mono (fun _ h c => ⟨(h c).1.trans (final m c (sums_of_pre m c hP)), (h c).2⟩) (Value.run_blocks m ρ),
    (θ_run Cert.BiasRefIdeal.defs _ _).mono
      (fun _ h c => ⟨(h c).1.trans (by rw [(hag c).1, (hag c).2]; exact ref_result (sums_of_pre m c hP)), (h c).2⟩)
      (Cert.BiasRefIdeal.Value.run (F := Ideal) m' ρ')⟩

end Cert.BiasValue

end
-- ==== Proof.LnMath.lean ====
/- The layer norm's derivative in one row of 1024 numbers: the kernel's closed form and the plainly written one are equal. -/
module

public import proofs.«01_k».proof.Proof.Reals

@[expose] public section

set_option maxRecDepth 16384

noncomputable section

namespace Cert.LnMath

open Cert.Reals Idealize.ShloMosaic

/-- The literals of the layer norm. -/
theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num

/-- The residual's scale and the norm's small number, as the words spell them. -/
def scale : ℝ := 14107901 / 8388608
def eps : ℝ := 2748779 / 274877906944

theorem word_scale : Ideal.ofBits .f32 0x3FD744FD#32 = ((scale : ℝ) : EReal) := by
  unfold scale
  simp [Ideal.ofBits, Ideal.ieee, -EReal.coe_mul]; norm_num
theorem word_eps : Ideal.ofBits .f32 0x3727C5AC#32 = ((eps : ℝ) : EReal) := by
  unfold eps
  simp [Ideal.ofBits, Ideal.ieee, -EReal.coe_mul]; norm_num

/-- A number over 1024. -/
theorem over_1024 (x : ℝ) : Ideal.div (x : EReal) ((1024 : ℝ) : EReal) = ((x * (1 / 1024) : ℝ) : EReal) := by
  rw [Ideal.div_coe (by norm_num), ← EReal.coe_mul]

/-- The row's mean, its deviations, their mean square, the inverse deviation and the normalised row. -/
def avg (f : Fin 1024 → ℝ) : ℝ := (∑ k, f k) * (1 / 1024)
def dev (z : Fin 1024 → ℝ) (k : Fin 1024) : ℝ := z k - avg z
def var (z : Fin 1024 → ℝ) : ℝ := avg fun k => dev z k * dev z k
def inv (z : Fin 1024 → ℝ) : ℝ := (√(var z + eps))⁻¹
def xhat (z : Fin 1024 → ℝ) (k : Fin 1024) : ℝ := dev z k * inv z

/-- The derivative, closed: what reaches the normalised row less its mean and less its part along the row. -/
def core (e x : Fin 1024 → ℝ) (k : Fin 1024) : ℝ := e k - avg e - x k * avg fun l => e l * x l
def dz (z e : Fin 1024 → ℝ) (k : Fin 1024) : ℝ := inv z * core e (xhat z) k

theorem sum_dev (z : Fin 1024 → ℝ) : ∑ k, dev z k = 0 := by
  unfold dev avg
  rw [Finset.sum_sub_distrib, Finset.sum_const, Finset.card_univ, Fintype.card_fin, nsmul_eq_mul]
  push_cast
  ring

theorem var_pos (z : Fin 1024 → ℝ) : 0 < var z + eps := by
  have h : 0 ≤ var z := mul_nonneg (Finset.sum_nonneg fun k _ => mul_self_nonneg _) (by norm_num)
  have e : 0 < eps := by unfold eps; norm_num
  linarith

theorem inv_sq (z : Fin 1024 → ℝ) : inv z * inv z * (var z + eps) = 1 := by
  unfold inv
  have h := var_pos z
  rw [← mul_inv, Real.mul_self_sqrt h.le, inv_mul_cancel₀ h.ne']

/-! ## The kernel's expressions at numbers -/

theorem dev_coe (z : Fin 1024 → ℝ) (k : Fin 1024) :
    (z k : EReal) - Ideal.div (∑ x, (z x : EReal)) (Ideal.ofBits .f32 0x44800000#32) = ((dev z k : ℝ) : EReal) := by
  rw [word_1024, ← coe_sum, over_1024, ← EReal.coe_sub]
  rfl

theorem var_coe (z : Fin 1024 → ℝ) :
    Ideal.div (∑ x, (dev z x : EReal) * (dev z x : EReal)) (Ideal.ofBits .f32 0x44800000#32) + Ideal.ofBits .f32 0x3727C5AC#32
      = ((var z + eps : ℝ) : EReal) := by
  simp only [← EReal.coe_mul]
  rw [word_1024, word_eps, ← coe_sum, over_1024, ← EReal.coe_add]
  rfl

theorem inv_coe (z : Fin 1024 → ℝ) : Ideal.rsqrt ((var z + eps : ℝ) : EReal) = ((inv z : ℝ) : EReal) := by
  rw [Ideal.rsqrt_coe, if_neg (var_pos z).le.not_gt, if_neg (var_pos z).ne']
  rfl

theorem core_coe (d g x : Fin 1024 → ℝ) (k : Fin 1024) :
    (d k : EReal) * (g k : EReal) - Ideal.div (∑ l, (d l : EReal) * (g l : EReal)) (Ideal.ofBits .f32 0x44800000#32)
        - (x k : EReal) * Ideal.div (∑ l, (d l : EReal) * (g l : EReal) * (x l : EReal)) (Ideal.ofBits .f32 0x44800000#32)
      = ((core (fun l => d l * g l) x k : ℝ) : EReal) := by
  simp only [← EReal.coe_mul]
  rw [word_1024, ← coe_sum, ← coe_sum, over_1024, over_1024, ← EReal.coe_mul, ← EReal.coe_sub, ← EReal.coe_sub]
  rfl

/-! ## The plainly written derivative's expressions at numbers -/

/-- The derivative of the inverse deviation in the variance. -/
def slope (z : Fin 1024 → ℝ) : ℝ := -(1 / 2) * (inv z * (1 / (var z + eps)))

theorem slope_coe (z : Fin 1024 → ℝ) :
    Ideal.ofBits .f32 0xBF000000#32 * Ideal.div ((inv z : ℝ) : EReal) ((var z + eps : ℝ) : EReal) = ((slope z : ℝ) : EReal) := by
  rw [word_neg_half, Ideal.div_coe (var_pos z).ne', ← EReal.coe_mul, ← EReal.coe_mul]
  rfl

/-- What reaches a deviation through the variance. -/
def through (z e : Fin 1024 → ℝ) : ℝ := ((∑ l, dev z l * e l) * slope z) * (1 / 1024)

/-- The three parts of the plainly written derivative add up to the closed form. -/
theorem parts (z e : Fin 1024 → ℝ) (k : Fin 1024) :
    e k * inv z + through z e * (2 * dev z k)
      + ((∑ l, -(e l * inv z)) + ∑ l, -(through z e * (2 * dev z l))) * (1 / 1024) = dz z e k := by
  have h2 : ∑ l, -(through z e * (2 * dev z l)) = 0 := by
    rw [Finset.sum_neg_distrib, ← Finset.mul_sum, ← Finset.mul_sum, sum_dev, mul_zero, mul_zero, neg_zero]
  have h1 : ∑ l, -(e l * inv z) = -((∑ l, e l) * inv z) := by rw [Finset.sum_neg_distrib, Finset.sum_mul]
  have h3 : ∑ l, e l * xhat z l = (∑ l, dev z l * e l) * inv z := by
    rw [Finset.sum_mul]
    refine Finset.sum_congr rfl fun l _ => ?_
    unfold xhat
    ring
  have h4 : 1 / (var z + eps) = inv z * inv z := by
    rw [one_div]
    exact (eq_inv_of_mul_eq_one_left (inv_sq z)).symm
  rw [h1, h2]
  unfold dz core avg through slope
  rw [h3, h4]
  unfold xhat
  ring

theorem plain_coe (z d g : Fin 1024 → ℝ) (k : Fin 1024) :
    (d k : EReal) * (g k : EReal) * (inv z : EReal)
      + Ideal.div ((∑ l, (dev z l : EReal) * ((d l : EReal) * (g l : EReal))) * (slope z : EReal)) (Ideal.ofBits .f32 0x44800000#32)
          * (Ideal.ofBits .f32 0x40000000#32 * (dev z k : EReal))
      + Ideal.div ((∑ l, -((d l : EReal) * (g l : EReal) * (inv z : EReal)))
          + ∑ l, -(Ideal.div ((∑ l, (dev z l : EReal) * ((d l : EReal) * (g l : EReal))) * (slope z : EReal)) (Ideal.ofBits .f32 0x44800000#32)
          * (Ideal.ofBits .f32 0x40000000#32 * (dev z l : EReal)))) (Ideal.ofBits .f32 0x44800000#32)
      = ((dz z (fun l => d l * g l) k : ℝ) : EReal) := by
  rw [← parts, word_1024, word_two]
  simp only [← EReal.coe_mul, ← coe_sum, over_1024, ← EReal.coe_neg, ← EReal.coe_add]
  rfl

/-! ## Arrays of numbers -/

/-- An array of rows is the numbers `A`. -/
def Rows {N W : ℕ} (a : (⟨2, ![N, W]⟩ : Shape).Idx → EReal) (A : ℕ → Fin W → ℝ) : Prop :=
  ∀ (p : Fin N) (k : Fin W), a (ix2 p k) = ((A p.val k : ℝ) : EReal)

/-- The numbers of an array of rows. -/
def rows {N W : ℕ} (a : (⟨2, ![N, W]⟩ : Shape).Idx → EReal) (p : ℕ) (k : Fin W) : ℝ :=
  if h : p < N then (a (ix2 ⟨p, h⟩ k)).toReal else 0

theorem rows_of {N W : ℕ} (a : (⟨2, ![N, W]⟩ : Shape).Idx → EReal) (h : ∀ i, a i = ((a i).toReal : EReal)) : Rows a (rows a) := by
  intro p k
  unfold rows
  rw [dif_pos p.isLt]
  exact h _

/-- One entry of a product with a transposed matrix, at numbers. -/
theorem dot_coe {W : ℕ} (a b : Fin W → ℝ) : ∑ j, (a j : EReal) * (b j : EReal) = ((∑ j, a j * b j : ℝ) : EReal) := by
  simp only [← EReal.coe_mul]
  rw [coe_sum]

/-- The gradients of gain and shift, over the first `n` rows. -/
def gainSum (Z D : ℕ → Fin 1024 → ℝ) (n : ℕ) (k : Fin 1024) : ℝ := ∑ p ∈ Finset.range n, D p k * xhat (Z p) k
def shiftSum (D : ℕ → Fin 1024 → ℝ) (n : ℕ) (k : Fin 1024) : ℝ := ∑ p ∈ Finset.range n, D p k

theorem gainSum_add (Z D : ℕ → Fin 1024 → ℝ) (n T : ℕ) (k : Fin 1024) :
    gainSum Z D (n + T) k = gainSum Z D n k + ∑ r : Fin T, D (n + r.val) k * xhat (Z (n + r.val)) k := by
  unfold gainSum
  rw [Finset.sum_range_add]
  exact congrArg (_ + ·) (Finset.sum_range fun r => D (n + r) k * xhat (Z (n + r)) k)

theorem shiftSum_add (D : ℕ → Fin 1024 → ℝ) (n T : ℕ) (k : Fin 1024) :
    shiftSum D (n + T) k = shiftSum D n k + ∑ r : Fin T, D (n + r.val) k := by
  unfold shiftSum
  rw [Finset.sum_range_add]
  exact congrArg (_ + ·) (Finset.sum_range fun r => D (n + r) k)

end Cert.LnMath

end
-- ==== Proof.LnValue.lean ====
/- The layer norm's backward kernel: rows in eight tiles, the gradients of gain and shift accumulated over them, against
   the derivative of the plainly written norm. -/
module

public import proofs.«01_k».proof.Defs
public import proofs.«01_k».proof.Proof.LnMath
public import proofs.«01_k».proof.Proof.Gen.LnBwdIdeal.Value
public import proofs.«01_k».proof.Proof.Gen.LnRefIdeal.Read

@[expose] public section

set_option maxRecDepth 16384

noncomputable section

namespace Cert.LnValue

open Cert.Reals Cert.LnMath Cert.LnBwdIdeal Cert.LnBwdIdeal.Gen Idealize.ShloMosaic Idealize.ShloMosaic.TcCoe Idealize.SL.Sem
open Idealize.ShloMosaic.Pipeline (Dat)

/-! ## One tile at numbers -/

section Tile

variable {z d : Vec Ideal S512x1024 .f32} {g : Vec Ideal S1x1024 .f32} {Z D : ℕ → Fin 1024 → ℝ} {G : Fin 1024 → ℝ}

theorem pay7_coe (hz : Rows z Z) (r : Fin 512) (k : Fin 1024) : k0_pay7 z (ix2 r k) = ((dev (Z r.val) k : ℝ) : EReal) := by
  pointwise [k0_pay7]
  simp only [hz r]
  exact dev_coe _ _

theorem pay8_coe (hz : Rows z Z) (r : Fin 512) : k0_pay8 z (ix2 r 0) = ((inv (Z r.val) : ℝ) : EReal) := by
  pointwise [k0_pay8]
  simp only [pay7_coe hz r]
  rw [var_coe, inv_coe]

theorem pay9_coe (hz : Rows z Z) (r : Fin 512) (k : Fin 1024) : k0_pay9 z (ix2 r k) = ((xhat (Z r.val) k : ℝ) : EReal) := by
  pointwise [k0_pay9]
  rw [pay7_coe hz, pay8_coe hz, ← EReal.coe_mul]
  rfl

theorem pay10_coe (hz : Rows z Z) (hd : Rows d D) (hg : ∀ k, g (ix2 0 k) = ((G k : ℝ) : EReal)) (r : Fin 512) (k : Fin 1024) :
    k0_pay10 z g d (ix2 r k) = ((core (fun l => D r.val l * G l) (xhat (Z r.val)) k : ℝ) : EReal) := by
  pointwise [k0_pay10]
  simp only [pay9_coe hz r, hd r, hg]
  exact core_coe _ _ _ _

/-- A tile's rows. -/
theorem pay1_coe (hz : Rows z Z) (hd : Rows d D) (hg : ∀ k, g (ix2 0 k) = ((G k : ℝ) : EReal)) (r : Fin 512) (k : Fin 1024) :
    k0_pay1 (k0_pay10 z g d) (k0_pay11 z) (ix2 r k) = ((dz (Z r.val) (fun l => D r.val l * G l) k : ℝ) : EReal) := by
  pointwise [k0_pay1, k0_pay11]
  rw [pay10_coe hz hd hg, pay8_coe hz, ← EReal.coe_mul]
  rfl

/-- A tile's part of the gain's gradient. -/
theorem pay3_coe (hz : Rows z Z) (hd : Rows d D) (p : Vec Ideal S1x1024 .f32) (k : Fin 1024) :
    k0_pay3 d (k0_pay9 z) p (ix2 0 k) = p (ix2 0 k) + ((∑ r : Fin 512, D r.val k * xhat (Z r.val) k : ℝ) : EReal) := by
  pointwise [k0_pay3]
  simp only [pay9_coe hz, hd _ k, ← EReal.coe_mul]
  rw [coe_sum]

/-- A tile's part of the shift's gradient. -/
theorem pay4_coe (hd : Rows d D) (q : Vec Ideal S1x1024 .f32) (k : Fin 1024) :
    k0_pay4 d q (ix2 0 k) = q (ix2 0 k) + ((∑ r : Fin 512, D r.val k : ℝ) : EReal) := by
  pointwise [k0_pay4]
  simp only [hd _ k]
  rw [coe_sum]

end Tile

variable (m : (ℓ : Loc nD τ sig) → Buf (Elt Ideal) ℓ) (ρ : Dev nD → PrngReg)

/-- What the first point leaves. -/
theorem first (c : Dev nD) (t : Fin cfg0.N) (h0 : t.val % 8 = 0) : outsAt0 m c t.val t.isLt =
    (k0_pay1 (k0_pay10 (iblk m c 0 t) (iblk m c 1 t) (iblk m c 2 t)) (k0_pay11 (iblk m c 0 t)),
      k0_pay2 (k0_pay10 (iblk m c 0 t) (iblk m c 1 t) (iblk m c 2 t)) (k0_pay11 (iblk m c 0 t)),
      k0_pay3 (iblk m c 2 t) (k0_pay9 (iblk m c 0 t)) (k0_pay5 (F := Ideal)), k0_pay4 (iblk m c 2 t) (k0_pay6 (F := Ideal))) := by
  rw [outsAt0_A m c t h0]
  unfold out0_A_3 out0_A_4 out0_A_5 out0_A_6
  rw [View.read_writes_eq_canon _ _ _ (fun _ => cover0_A_3 ..), View.read_writes_eq_canon _ _ _ (fun _ => cover0_A_4 ..),
    View.read_writes_eq_canon _ _ _ (fun _ => cover0_A_5 ..), View.read_writes_eq_canon _ _ _ (fun _ => cover0_A_6 ..)]
  unfold kernelRun0_A
  dsimp only
  sl_unfold_words
  simp only [View.canon_unit_zero (S := S512x1024) zero_off, View.canon_cons_unit_zero (S := S1x1024) zero_off, View.readCov_unit_zero (S := S1x1024) _ zero_off,
   View.readAt_eq_ld, (hs0_0 t).read_unread, (hs0_1 t).read_unread, (hs0_2 t).read_unread, View.ld_unit_zero (S := S512x1024) zero_off,
    View.ld_unit_zero (S := S1x1024) zero_off]

/-- What a later point leaves, over what was held. -/
theorem later (c : Dev nD) (t : Fin cfg0.N) (h0 : ¬t.val % 8 = 0) : outsAt0 m c t.val t.isLt =
    (k0_pay1 (k0_pay10 (iblk m c 0 t) (iblk m c 1 t) (iblk m c 2 t)) (k0_pay11 (iblk m c 0 t)),
      k0_pay2 (k0_pay10 (iblk m c 0 t) (iblk m c 1 t) (iblk m c 2 t)) (k0_pay11 (iblk m c 0 t)),
      k0_pay3 (iblk m c 2 t) (k0_pay9 (iblk m c 0 t)) (outsAt0 m c (t.val - 1) (Nat.lt_of_le_of_lt (Nat.sub_le _ _) t.isLt)).2.2.1,
      k0_pay4 (iblk m c 2 t) (outsAt0 m c (t.val - 1) (Nat.lt_of_le_of_lt (Nat.sub_le _ _) t.isLt)).2.2.2) := by
  rw [outsAt0_B m c t h0]
  unfold out0_B_3 out0_B_4 out0_B_5 out0_B_6
  rw [View.read_writes_eq_canon _ _ _ (fun _ => cover0_B_3 ..), View.read_writes_eq_canon _ _ _ (fun _ => cover0_B_4 ..),
    View.read_writes_eq_canon _ _ _ (fun _ => cover0_B_5 ..), View.read_writes_eq_canon _ _ _ (fun _ => cover0_B_6 ..)]
  unfold kernelRun0_B
  dsimp only
  sl_unfold_words
  simp only [View.canon_unit_zero (S := S512x1024) zero_off, View.canon_unit_zero (S := S1x1024) zero_off,
    View.readAt_eq_ld, (hs0_0 t).read_unread, (hs0_1 t).read_unread, (hs0_2 t).read_unread, (hs0_5 t).read_unread, (hs0_6 t).read_unread,
    View.ld_unit_zero (S := S512x1024) zero_off, View.ld_unit_zero (S := S1x1024) zero_off]

/-- The launched arguments, and the two arrays the host prepares of them. -/
abbrev argX (c : Dev nD) : S4096x1024.Idx → EReal := m ((c : Thread nD τ).loc main_arg0)
abbrev argH (c : Dev nD) : S4096x1024.Idx → EReal := m ((c : Thread nD τ).loc main_arg1)
abbrev argG (c : Dev nD) : S1024.Idx → EReal := m ((c : Thread nD τ).loc main_arg2)
abbrev argD (c : Dev nD) : S4096x1024.Idx → EReal := m ((c : Thread nD τ).loc main_arg3)
abbrev zArr (c : Dev nD) : S4096x1024.Idx → EReal := V m c main_v2
abbrev gArr (c : Dev nD) : S1x1024.Idx → EReal := V m c main_v3

theorem zArr_apply (c : Dev nD) (i : S4096x1024.Idx) : zArr m c i = Ideal.ofBits .f32 0x3FD744FD#32 * argX m c i + argH m c i := by
  after_reads_at

theorem gArr_apply (c : Dev nD) (k : Fin 1024) : gArr m c (ix2 0 k) = argG m c (ix1 k) := by
  after_reads_at

/-- The arguments are numbers: the residual stream `Z`, the gain `G`, the incoming gradient `D`. -/
structure Numbers (x h : S4096x1024.Idx → EReal) (g : S1024.Idx → EReal) (d : S4096x1024.Idx → EReal)
    (X H : ℕ → Fin 1024 → ℝ) (G : Fin 1024 → ℝ) (D : ℕ → Fin 1024 → ℝ) : Prop where
  x : Rows x X
  h : Rows h H
  g : ∀ k, g (ix1 k) = ((G k : ℝ) : EReal)
  d : Rows d D

/-- The rows that are normed. -/
def stream (X H : ℕ → Fin 1024 → ℝ) (p : ℕ) (k : Fin 1024) : ℝ := scale * X p k + H p k

variable {X H : ℕ → Fin 1024 → ℝ} {G : Fin 1024 → ℝ} {D : ℕ → Fin 1024 → ℝ}

/-- The index of a window of rows, at each point. -/
theorem index_rows : ∀ t : Fin grid0.N, win0_3.index t 0 = t.val ∧ win0_3.index t 1 = 0 := by decide +kernel

/-- Row `r` of tile `t`. -/
def rowOf (t : Fin cfg0.N) (r : Fin 512) : Fin 4096 := ⟨512 * t.val + r.val, by have := t.isLt.trans_eq N_0; omega⟩

/-- The place of entry `(r, k)` of tile `t`, for every window of rows. -/
theorem place (t : Fin cfg0.N) (r : Fin 512) (k : Fin 1024) :
    ((cfg0.win 3).blk t).view.emb (ix2 r k) = (ix2 (rowOf t r) k : S4096x1024.Idx) :=
  idx2 (tile_at (index_rows t).1 512 r) (whole_at (index_rows t).2 1024 k)

/-- The tiles of a window of rows cover its array. -/
theorem covered (i : S4096x1024.Idx) : ∃ t : Fin cfg0.N, i ∈ (win0_3.rect t).set :=
  tiles_cover 512 rfl win0_3.index index_rows (fun _ => ⟨_, rfl⟩) i

/-- A window of one row is the row, at every point. -/
theorem place_row (t : Fin cfg0.N) (k : Fin 1024) : ((cfg0.win 5).blk t).view.emb (ix2 0 k) = (ix2 0 k : S1x1024.Idx) :=
  idx2 rfl (whole_at rfl 1024 k)

theorem covered_row (i : S1x1024.Idx) : i ∈ (win0_5.rect t0_7).set :=
  whole_cover (win0_5.index t0_7) rfl rfl ⟨_, rfl⟩ i

/-- The results: the rows' derivative, and the two accumulated gradients. -/
def dzArr (X H : ℕ → Fin 1024 → ℝ) (G : Fin 1024 → ℝ) (D : ℕ → Fin 1024 → ℝ) : S4096x1024.Idx → EReal :=
  fun i => ((dz (stream X H (i 0).val) (fun l => D (i 0).val l * G l) (i 1) : ℝ) : EReal)
def dgArr (X H D : ℕ → Fin 1024 → ℝ) : S1x1024.Idx → EReal := fun i => ((gainSum (stream X H) D 4096 (i 1) : ℝ) : EReal)
def dbArr (D : ℕ → Fin 1024 → ℝ) : S1x1024.Idx → EReal := fun i => ((shiftSum D 4096 (i 1) : ℝ) : EReal)

/-- The tile of rows that point `t` leaves. -/
def tile (c : Dev nD) (t : Fin cfg0.N) : S512x1024.Idx → EReal :=
  k0_pay1 (k0_pay10 (iblk m c 0 t) (iblk m c 1 t) (iblk m c 2 t)) (k0_pay11 (iblk m c 0 t))

theorem outs_tile (c : Dev nD) (t : Fin cfg0.N) : (outsAt0 m c t.val t.isLt).1 = tile m c t ∧ (outsAt0 m c t.val t.isLt).2.1 = tile m c t := by
  by_cases h0 : t.val % 8 = 0
  · rw [first m c t h0]; exact ⟨rfl, rfl⟩
  · rw [later m c t h0]; exact ⟨rfl, rfl⟩

section Arrays

variable {c : Dev nD} (hN : Numbers (argX m c) (argH m c) (argG m c) (argD m c) X H G D)
include hN

theorem block_z (t : Fin cfg0.N) : Rows (iblk m c 0 t : S512x1024.Idx → EReal) fun r => stream X H (512 * t.val + r) := by
  intro r k
  refine (congrArg (zArr m c) (place t r k)).trans ?_
  rw [zArr_apply, hN.x, hN.h, word_scale, ← EReal.coe_mul, ← EReal.coe_add]
  rfl

theorem block_g (t : Fin cfg0.N) (k : Fin 1024) : (iblk m c 1 t : S1x1024.Idx → EReal) (ix2 0 k) = ((G k : ℝ) : EReal) := by
  exact (congrArg (gArr m c) (place_row t k)).trans ((gArr_apply m c k).trans (hN.g k))

theorem block_d (t : Fin cfg0.N) : Rows (iblk m c 2 t : S512x1024.Idx → EReal) fun r => D (512 * t.val + r) := fun r k =>
  (congrArg (V m c main_arg3) (place t r k)).trans ((congrFun (V_main_arg3 m c) _).trans (hN.d _ _))

/-- The gain's gradient after point `n`. -/
theorem dg_after (k : Fin 1024) : ∀ (n : ℕ) (hn : n < cfg0.N),
    ((outsAt0 m c n hn).2.2.1 : S1x1024.Idx → EReal) (ix2 0 k) = ((gainSum (stream X H) D (512 * n + 512) k : ℝ) : EReal)
  | 0, hn => by
    rw [first m c ⟨0, hn⟩ rfl]
    dsimp only
    rw [pay3_coe (block_z m hN _) (block_d m hN _), gainSum_add, EReal.coe_add]
    have z : (k0_pay5 (F := Ideal)) (ix2 0 k) = 0 := by pointwise [k0_pay5]
    rw [z]
    refine congrArg (· + _) ?_
    simp [gainSum]
  | n + 1, hn => by
    have hB : ¬(⟨n + 1, hn⟩ : Fin cfg0.N).val % 8 = 0 := by have := hn.trans_eq N_0; dsimp only; omega
    rw [later m c ⟨n + 1, hn⟩ hB]
    dsimp only
    rw [pay3_coe (block_z m hN _) (block_d m hN _), gainSum_add, EReal.coe_add]
    exact congrArg (· + _) (dg_after k n (Nat.lt_of_succ_lt hn))

/-- The shift's gradient after point `n`. -/
theorem db_after (k : Fin 1024) : ∀ (n : ℕ) (hn : n < cfg0.N),
    ((outsAt0 m c n hn).2.2.2 : S1x1024.Idx → EReal) (ix2 0 k) = ((shiftSum D (512 * n + 512) k : ℝ) : EReal)
  | 0, hn => by
    rw [first m c ⟨0, hn⟩ rfl]
    dsimp only
    rw [pay4_coe (block_d m hN _), shiftSum_add, EReal.coe_add]
    have z : (k0_pay6 (F := Ideal)) (ix2 0 k) = 0 := by pointwise [k0_pay6]
    rw [z]
    refine congrArg (· + _) ?_
    simp [shiftSum]
  | n + 1, hn => by
    have hB : ¬(⟨n + 1, hn⟩ : Fin cfg0.N).val % 8 = 0 := by have := hn.trans_eq N_0; dsimp only; omega
    rw [later m c ⟨n + 1, hn⟩ hB]
    dsimp only
    rw [pay4_coe (block_d m hN _), shiftSum_add, EReal.coe_add]
    exact congrArg (· + _) (db_after k n (Nat.lt_of_succ_lt hn))

/-- Every point's tile of rows, and so the array of rows, twice. -/
theorem tile_eq (t : Fin cfg0.N) : (tile m c t : S512x1024.Idx → EReal) = fun j => dzArr X H G D (((cfg0.win 3).blk t).view.emb j) := by
  funext j
  obtain ⟨r, k, rfl⟩ := exists_ix2 j
  rw [place]
  exact pay1_coe (block_z m hN t) (block_d m hN t) (block_g m hN t) r k

theorem final_dz : (dats m 0 c).arrAt 3 cfg0.N = dzArr X H G D :=
  (dats m 0 c).arrAt_eq_of_cover 3 _
    (fun t _ => by
      rw [Value.flushed3, (outs_tile m c t).1]
      exact tile_eq m hN t)
    fun i => (covered i).imp fun t ht => ⟨flush0_3 t, in_slice ht⟩

theorem final_dzb : (dats m 0 c).arrAt 4 cfg0.N = dzArr X H G D :=
  (dats m 0 c).arrAt_eq_of_cover 4 _
    (fun t _ => by
      rw [Value.flushed4, (outs_tile m c t).2]
      exact tile_eq m hN t)
    fun i => (covered i).imp fun t ht => ⟨flush0_4 t, in_slice ht⟩

/-- The last point writes the two accumulated gradients back. -/
theorem final_dg : (dats m 0 c).arrAt 5 cfg0.N = dgArr X H D :=
  (dats m 0 c).arrAt_eq_of_cover 5 _
    (fun t hf => by
      have h7 : t.val = 7 := by have := (flush0_5 t).mp hf; have := t.isLt.trans_eq N_0; omega
      rw [Value.flushed5]
      funext j
      rw [View.read_apply]
      obtain ⟨r, k, rfl⟩ := exists_ix2 j
      obtain rfl : r = 0 := Subsingleton.elim _ _
      obtain ⟨n, hn⟩ := t
      obtain rfl : n = 7 := h7
      rw [show ((cfg0.win 5).blk ⟨7, hn⟩).view.emb (ix2 0 k) = (ix2 0 k : S1x1024.Idx) from place_row ⟨7, hn⟩ k]
      exact dg_after m hN k 7 hn)
    fun i => ⟨t0_7, (flush0_5 _).mpr rfl, in_slice (covered_row i)⟩

theorem final_db : (dats m 0 c).arrAt 6 cfg0.N = dbArr D :=
  (dats m 0 c).arrAt_eq_of_cover 6 _
    (fun t hf => by
      have h7 : t.val = 7 := by have := (flush0_6 t).mp hf; have := t.isLt.trans_eq N_0; omega
      rw [Value.flushed6]
      funext j
      rw [View.read_apply]
      obtain ⟨r, k, rfl⟩ := exists_ix2 j
      obtain rfl : r = 0 := Subsingleton.elim _ _
      obtain ⟨n, hn⟩ := t
      obtain rfl : n = 7 := h7
      rw [show ((cfg0.win 6).blk ⟨7, hn⟩).view.emb (ix2 0 k) = (ix2 0 k : S1x1024.Idx) from place_row ⟨7, hn⟩ k]
      exact db_after m hN k 7 hn)
    fun i => ⟨t0_7, (flush0_6 _).mpr rfl, in_slice (covered_row i)⟩

end Arrays

/-! ## The reference -/

section Reference

open Cert.LnRefIdeal.Read

variable {x h d : S4096x1024.Idx → EReal} {g : S1024.Idx → EReal} (hN : Numbers x h g d X H G D)
include hN

theorem ref_z : Rows (val_main_v3 (F := Ideal) x h) (stream X H) := by
  intro p k
  pointwise [val_main_v3, val_main_v2, val_main_v1, val_main_cst_0]
  rw [hN.x, hN.h, word_scale, ← EReal.coe_mul, ← EReal.coe_add]
  rfl

theorem ref_dev (p : Fin 4096) (k : Fin 1024) :
    val_main_v18 (F := Ideal) x h (ix2 p k) = ((dev (stream X H p.val) k : ℝ) : EReal) := by
  pointwise [val_main_v18, val_main_v17, val_main_v7, val_main_v6, val_main_v5, val_main_v4, val_main_cst_1, val_main_cst_2]
  simp only [ref_z hN p]
  exact dev_coe _ _

theorem ref_dev' (p : Fin 4096) (k : Fin 1024) :
    val_main_v9 (F := Ideal) x h (ix2 p k) = ((dev (stream X H p.val) k : ℝ) : EReal) := ref_dev hN p k

theorem ref_var (p : Fin 4096) (j : Fin 1) :
    val_main_v20 (F := Ideal) x h (ix2 p j) = ((var (stream X H p.val) + eps : ℝ) : EReal) := by
  pointwise [val_main_v20, val_main_v19, val_main_v16, val_main_v15, val_main_v14, val_main_v13, val_main_v10, val_main_cst_4,
    val_main_cst_5, val_main_cst_6]
  simp only [ref_dev' hN p]
  exact var_coe _

theorem ref_inv (p : Fin 4096) (j : Fin 1) :
    val_main_v21 (F := Ideal) x h (ix2 p j) = ((inv (stream X H p.val) : ℝ) : EReal) := by
  pointwise [val_main_v21]
  rw [ref_var hN, inv_coe]

theorem ref_slope (p : Fin 4096) (j : Fin 1) :
    val_main_v24 (F := Ideal) x h (ix2 p j) = ((slope (stream X H p.val) : ℝ) : EReal) := by
  pointwise [val_main_v24, val_main_v23, val_main_v22, val_main_cst_7]
  rw [ref_var hN, ref_inv hN, slope_coe]

theorem ref_xhat (p : Fin 4096) (k : Fin 1024) :
    val_main_v26 (F := Ideal) x h (ix2 p k) = ((xhat (stream X H p.val) k : ℝ) : EReal) := by
  pointwise [val_main_v26, val_main_v25]
  rw [ref_dev hN, ref_inv hN, ← EReal.coe_mul]
  rfl

theorem ref_gain (k : Fin 1024) : val_main_v27 (F := Ideal) g (ix2 0 k) = ((G k : ℝ) : EReal) := by
  pointwise [val_main_v27]
  exact hN.g k

/-- The derivative of the rows. -/
theorem ref_dz : val_main_v66 (F := Ideal) x h g d = dzArr X H G D := by
  funext i
  obtain ⟨p, k, rfl⟩ := exists_ix2 i
  pointwise [val_main_v12, val_main_v11, val_main_v33, val_main_v41, val_main_v40, val_main_v43, val_main_v44, val_main_v45, val_main_v46,
    val_main_v47, val_main_v48, val_main_v49, val_main_v50, val_main_v51, val_main_v52, val_main_v53, val_main_v54, val_main_v55, val_main_v56,
    val_main_v57, val_main_v58, val_main_v59, val_main_v60, val_main_v61, val_main_v62, val_main_v63, val_main_v64, val_main_v65, val_main_v66,
    val_main_cst_3, val_main_cst_12, val_main_cst_13, val_main_cst_14, val_main_cst_15, val_main_cst_16, val_main_cst_17, val_main_cst_18]
  simp only [ref_dev hN, ref_dev' hN, ref_inv hN, ref_slope hN, ref_gain hN, hN.d p]
  simp only [Fin.sum_univ_one]
  exact plain_coe _ _ _ _

/-- The gradients of gain and shift. -/
theorem ref_dg : val_main_v68 (F := Ideal) x h d = dgArr X H D := by
  funext i
  obtain ⟨p, k, rfl⟩ := exists_ix2 i
  pointwise [val_main_v68, val_main_v42, val_main_v37, val_main_v38, val_main_v39, val_main_v33, val_main_cst_10, val_main_cst_11]
  simp only [ref_xhat hN, hN.d _ k, Fin.sum_univ_one, ← EReal.coe_mul]
  rw [← coe_sum]
  show _ = ((gainSum (stream X H) D 4096 k : ℝ) : EReal)
  unfold gainSum
  rw [Finset.sum_range]
  exact congrArg _ (Finset.sum_congr rfl fun _ _ => mul_comm _ _)

theorem ref_db : val_main_v69 (F := Ideal) d = dbArr D := by
  funext i
  obtain ⟨p, k, rfl⟩ := exists_ix2 i
  pointwise [val_main_v69, val_main_v36, val_main_v35, val_main_v34, val_main_cst_8, val_main_cst_9]
  simp only [hN.d _ k, Fin.sum_univ_one]
  rw [← coe_sum]
  show _ = ((shiftSum D 4096 k : ℝ) : EReal)
  unfold shiftSum
  rw [Finset.sum_range]

end Reference

/-! ## The claim -/

/-- The shapes' facts of the predicate. -/
theorem pre_facts : Cert.Pre_finite_ln.Facts where
  bcast_S_S4096x1024 := by decide
  bcast_S_S1024 := by decide

/-- Finite arguments are numbers. -/
theorem numbers_of_pre (c : Dev nD) (hP : Cert.Pre_LnBwdIdeal_finite_ln (hPre_finite_ln := pre_facts) m) :
    Numbers (argX m c) (argH m c) (argG m c) (argD m c) (rows (argX m c)) (rows (argH m c)) (fun k => (argG m c (ix1 k)).toReal)
      (rows (argD m c)) := by
  obtain ⟨h0, h1, h2, h3⟩ := hP c
  exact ⟨rows_of _ fun i => number_of_lt (congrFun h0 i), rows_of _ fun i => number_of_lt (congrFun h1 i),
    fun k => number_of_lt (congrFun h2 (ix1 k)), rows_of _ fun i => number_of_lt (congrFun h3 i)⟩

/-- The layer norm's backward kernel and the derivative of the plainly written norm end with equal results. -/
theorem algebraic : Cert.algebraic_LnBwdIdeal_LnRefIdeal_pre_finite_ln (hPre_finite_ln := pre_facts) := fun m ρ m' ρ' hP hag =>
  ⟨fun c => dzArr (rows (argX m c)) (rows (argH m c)) (fun k => (argG m c (ix1 k)).toReal) (rows (argD m c)),
    fun c => dzArr (rows (argX m c)) (rows (argH m c)) (fun k => (argG m c (ix1 k)).toReal) (rows (argD m c)),
    fun c => dgArr (rows (argX m c)) (rows (argH m c)) (rows (argD m c)), fun c => dbArr (rows (argD m c)),
    (θ_run defs _ _).mono (fun _ h c => ⟨(h c).1.trans (final_dz m (numbers_of_pre m c hP)), (h c).2.1.trans (final_dzb m (numbers_of_pre m c hP)),
      (h c).2.2.1.trans (final_dg m (numbers_of_pre m c hP)), (h c).2.2.2.1.trans (final_db m (numbers_of_pre m c hP)), (h c).2.2.2.2⟩)
      (Value.run_blocks m ρ),
    (θ_run Cert.LnRefIdeal.defs _ _).mono
      (fun _ h c => ⟨(h c).1.trans ((Cert.LnRefIdeal.Read.val_main_v66_eq m' c).trans (by rw [(hag c).1, (hag c).2.1, (hag c).2.2.1, (hag c).2.2.2]; exact ref_dz (numbers_of_pre m c hP))),
        (h c).2.1.trans ((Cert.LnRefIdeal.Read.val_main_v67_eq m' c).trans (by rw [(hag c).1, (hag c).2.1, (hag c).2.2.1, (hag c).2.2.2]; exact ref_dz (numbers_of_pre m c hP))),
        (h c).2.2.1.trans (by rw [(hag c).1, (hag c).2.1, (hag c).2.2.2]; exact ref_dg (numbers_of_pre m c hP)),
        (h c).2.2.2.1.trans (by rw [(hag c).2.2.2]; exact ref_db (numbers_of_pre m c hP)), (h c).2.2.2.2⟩)
      (Cert.LnRefIdeal.Value.run (F := Ideal) m' ρ')⟩

end Cert.LnValue

end
-- ==== Proof.DxMixValue.lean ====
/- The gradient through the mixer's first products and the norm before it: three products with transposed parts of one
   weight, the scaled residual gradient, and the norm's backward, in sixteen tiles of rows; against the derivative of the
   plainly written lines, where the three gradients stand side by side in one product. -/
module

public import proofs.«01_k».proof.Defs
public import proofs.«01_k».proof.Proof.LnMath
public import proofs.«01_k».proof.Proof.Gen.DxMixIdeal.Value
public import proofs.«01_k».proof.Proof.Gen.DxMixRefIdeal.Read

@[expose] public section

set_option maxRecDepth 16384

noncomputable section

namespace Cert.DxMixValue

open Cert.Reals Cert.LnMath Cert.DxMixIdeal Cert.DxMixIdeal.Gen Idealize.ShloMosaic Idealize.ShloMosaic.TcCoe Idealize.SL.Sem
open Idealize.ShloMosaic.Pipeline (Dat)

/-- The gradient that reaches the norm, one tile of it. -/
abbrev fedTile (x0 x1 x2 : Vec Ideal S256x1024 .bf16) (x3 x4 x5 : Vec Ideal S1024x1024 .bf16) (x6 : Vec Ideal S256x1024 .f32) : Vec Ideal S256x1024 .f32 :=
  k0_pay2 x0 x3 x1 x4 x2 x5 x6

/-! ## One tile at numbers -/

/-- Column `1024 * n + j` of a weight that holds three side by side. -/
def part (n : Fin 3) (w : Fin 3072 → ℝ) (j : Fin 1024) : ℝ := w ⟨1024 * n.val + j.val, by omega⟩

/-- One entry of the gradient that reaches the norm: three products with parts of a transposed weight, and the scaled
    residual gradient. -/
def fed (a b e : Fin 1024 → ℝ) (w : Fin 3072 → ℝ) (y : ℝ) : ℝ :=
  ∑ j, a j * part 0 w j + ∑ j, b j * part 1 w j + ∑ j, e j * part 2 w j + scale * y

/-- A sum over three parts side by side. -/
theorem sum_three {M : Type} [AddCommMonoid M] (f : Fin 3072 → M) : ∑ j, f j =
    ∑ j : Fin 1024, f ⟨j.val, by omega⟩ + ∑ j : Fin 1024, f ⟨1024 + j.val, by omega⟩ + ∑ j : Fin 1024, f ⟨2048 + j.val, by omega⟩ := by
  refine (Fin.sum_univ_add (a := 2048) (b := 1024) f).trans ?_
  refine congrArg₂ (· + ·) ?_ rfl
  exact Fin.sum_univ_add (a := 1024) (b := 1024) fun j => f (Fin.castAdd 1024 j)

theorem part_zero (w : Fin 3072 → ℝ) (j : Fin 1024) : w ⟨j.val, by omega⟩ = part 0 w j :=
  congrArg w (Fin.ext (by show j.val = 1024 * 0 + j.val; omega))

section Tile

variable {a b e : Vec Ideal S256x1024 .bf16} {u v w : Vec Ideal S1024x1024 .bf16} {y z d : Vec Ideal S256x1024 .f32} {g : Vec Ideal S1x1024 .f32}
  {A B E : ℕ → Fin 1024 → ℝ} {W : ℕ → Fin 3072 → ℝ} {Y Z D : ℕ → Fin 1024 → ℝ} {G : Fin 1024 → ℝ}

theorem fed_coe (ha : Rows a A) (hb : Rows b B) (he : Rows e E) (hu : Rows u fun k => part 0 (W k)) (hv : Rows v fun k => part 1 (W k))
    (hw : Rows w fun k => part 2 (W k)) (hy : Rows y Y) :
    Rows (fedTile a b e u v w y : S256x1024.Idx → EReal) fun r k => fed (A r) (B r) (E r) (W k.val) (Y r k) := by
  intro r k
  show k0_pay2 a u b v e w y (ix2 r k) = _
  pointwise [k0_pay2]
  simp only [ha r, hb r, he r, hu k, hv k, hw k, hy r]
  rw [dot_coe, dot_coe, dot_coe, word_scale, ← EReal.coe_mul, ← EReal.coe_add, ← EReal.coe_add, ← EReal.coe_add]
  rfl

theorem pay6_coe (hz : Rows z Z) (r : Fin 256) (k : Fin 1024) : k0_pay6 z (ix2 r k) = ((dev (Z r.val) k : ℝ) : EReal) := by
  pointwise [k0_pay6]
  simp only [hz r]
  exact dev_coe _ _

theorem pay8_coe (hz : Rows z Z) (r : Fin 256) : k0_pay8 (k0_pay7 z) (ix2 r 0) = ((inv (Z r.val) : ℝ) : EReal) := by
  pointwise [k0_pay8, k0_pay7]
  simp only [pay6_coe hz r]
  rw [var_coe, inv_coe]

theorem pay9_coe (hz : Rows z Z) (r : Fin 256) (k : Fin 1024) : k0_pay9 (k0_pay6 z) (k0_pay7 z) (ix2 r k) = ((xhat (Z r.val) k : ℝ) : EReal) := by
  pointwise [k0_pay9]
  rw [pay6_coe hz, pay8_coe hz, ← EReal.coe_mul]
  rfl

/-- A tile's rows. -/
theorem pay10_coe (hz : Rows z Z) (hd : Rows d D) (hg : ∀ k, g (ix2 0 k) = ((G k : ℝ) : EReal)) (r : Fin 256) (k : Fin 1024) :
    k0_pay10 d (k0_pay3 g) (k0_pay6 z) (k0_pay7 z) (ix2 r k) = ((dz (Z r.val) (fun l => D r.val l * G l) k : ℝ) : EReal) := by
  pointwise [k0_pay10, k0_pay3]
  simp only [pay8_coe hz r, pay9_coe hz r, hd r, hg]
  rw [core_coe, ← EReal.coe_mul]
  rfl

/-- A tile's part of the gain's gradient. -/
theorem pay12_coe (hz : Rows z Z) (hd : Rows d D) (p : Vec Ideal S1x1024 .f32) (k : Fin 1024) :
    k0_pay12 d (k0_pay6 z) (k0_pay7 z) p (ix2 0 k) = p (ix2 0 k) + ((∑ r : Fin 256, D r.val k * xhat (Z r.val) k : ℝ) : EReal) := by
  pointwise [k0_pay12]
  simp only [pay9_coe hz, hd _ k, ← EReal.coe_mul]
  rw [coe_sum]

/-- A tile's part of the shift's gradient. -/
theorem pay14_coe (hd : Rows d D) (q : Vec Ideal S1x1024 .f32) (k : Fin 1024) :
    k0_pay1 (k0_pay13 q) (k0_pay14 d) (ix2 0 k) = q (ix2 0 k) + ((∑ r : Fin 256, D r.val k : ℝ) : EReal) := by
  pointwise [k0_pay1, k0_pay13, k0_pay14]
  simp only [hd _ k]
  rw [coe_sum]

end Tile

variable (m : (ℓ : Loc nD τ sig) → Buf (Elt Ideal) ℓ) (ρ : Dev nD → PrngReg)

/-- The launched arguments, and the two arrays the host prepares of them. -/
abbrev argA (c : Dev nD) : S4096x1024.Idx → EReal := m ((c : Thread nD τ).loc main_arg0)
abbrev argB (c : Dev nD) : S4096x1024.Idx → EReal := m ((c : Thread nD τ).loc main_arg1)
abbrev argE (c : Dev nD) : S4096x1024.Idx → EReal := m ((c : Thread nD τ).loc main_arg2)
abbrev argW (c : Dev nD) : S1024x3072.Idx → EReal := m ((c : Thread nD τ).loc main_arg3)
abbrev argY (c : Dev nD) : S4096x1024.Idx → EReal := m ((c : Thread nD τ).loc main_arg4)
abbrev argX (c : Dev nD) : S4096x1024.Idx → EReal := m ((c : Thread nD τ).loc main_arg5)
abbrev argH (c : Dev nD) : S4096x1024.Idx → EReal := m ((c : Thread nD τ).loc main_arg6)
abbrev argG (c : Dev nD) : S1024.Idx → EReal := m ((c : Thread nD τ).loc main_arg7)
abbrev zArr (c : Dev nD) : S4096x1024.Idx → EReal := V m c main_v2
abbrev gArr (c : Dev nD) : S1x1024.Idx → EReal := V m c main_v3

theorem zArr_apply (c : Dev nD) (i : S4096x1024.Idx) : zArr m c i = Ideal.ofBits .f32 0x3FD744FD#32 * argX m c i + argH m c i := by
  after_reads_at

theorem gArr_apply (c : Dev nD) (k : Fin 1024) : gArr m c (ix2 0 k) = argG m c (ix1 k) := by
  after_reads_at

/-- The numbers of the arguments: the three incoming gradients, the weight, the residual gradient, the two summands of the
    normed rows, and the gain. -/
structure Nums where
  A : ℕ → Fin 1024 → ℝ
  B : ℕ → Fin 1024 → ℝ
  E : ℕ → Fin 1024 → ℝ
  W : ℕ → Fin 3072 → ℝ
  Y : ℕ → Fin 1024 → ℝ
  X : ℕ → Fin 1024 → ℝ
  H : ℕ → Fin 1024 → ℝ
  G : Fin 1024 → ℝ

/-- The rows that are normed. -/
def Nums.z (N : Nums) (p : ℕ) (k : Fin 1024) : ℝ := scale * N.X p k + N.H p k

/-- The gradient that reaches the norm. -/
def Nums.d (N : Nums) (p : ℕ) (k : Fin 1024) : ℝ := fed (N.A p) (N.B p) (N.E p) (N.W k.val) (N.Y p k)

/-- The arguments are the numbers `N`. -/
structure Are (a b e : S4096x1024.Idx → EReal) (w : S1024x3072.Idx → EReal) (y x h : S4096x1024.Idx → EReal) (g : S1024.Idx → EReal)
    (N : Nums) : Prop where
  a : Rows a N.A
  b : Rows b N.B
  e : Rows e N.E
  w : Rows w N.W
  y : Rows y N.Y
  x : Rows x N.X
  h : Rows h N.H
  g : ∀ k, g (ix1 k) = ((N.G k : ℝ) : EReal)

/-- Core `c`'s arguments are the numbers `N`. -/
abbrev Holds (c : Dev nD) (N : Nums) : Prop :=
  Are (argA m c) (argB m c) (argE m c) (argW m c) (argY m c) (argX m c) (argH m c) (argG m c) N

variable {N : Nums}

/-- At point `t`: the gradient that reaches the norm, and the tile of rows. -/
abbrev fedAt (c : Dev nD) (t : Fin cfg0.N) : Vec Ideal S256x1024 .f32 :=
  fedTile (iblk m c 0 t) (iblk m c 1 t) (iblk m c 2 t) (iblk m c 3 t) (iblk m c 4 t) (iblk m c 5 t) (iblk m c 6 t)
def tile (c : Dev nD) (t : Fin cfg0.N) : Vec Ideal S256x1024 .f32 := k0_pay10 (fedAt m c t) (k0_pay3 (iblk m c 8 t)) (k0_pay6 (iblk m c 7 t)) (k0_pay7 (iblk m c 7 t))

/-- What the first point leaves. -/
theorem first (c : Dev nD) (t : Fin cfg0.N) (h0 : t.val % 16 = 0) : outsAt0 m c t.val t.isLt =
    (tile m c t, tile m c t, k0_pay12 (fedAt m c t) (k0_pay6 (iblk m c 7 t)) (k0_pay7 (iblk m c 7 t)) (k0_pay4 (F := Ideal)),
      k0_pay1 (F := Ideal) (k0_pay13 (k0_pay5 (F := Ideal))) (k0_pay14 (fedAt m c t))) := by
  rw [outsAt0_A m c t h0]
  refine congrArg₂ Prod.mk ?_ (congrArg₂ Prod.mk ?_ (congrArg₂ Prod.mk ?_ ?_))
  all_goals first
  | unfold out0_A_9; rw [View.read_writes_eq_canon _ _ _ (fun _ => cover0_A_9 ..)]
  | unfold out0_A_10; rw [View.read_writes_eq_canon _ _ _ (fun _ => cover0_A_10 ..)]
  | unfold out0_A_11; rw [View.read_writes_eq_canon _ _ _ (fun _ => cover0_A_11 ..)]
  | unfold out0_A_12; rw [View.read_writes_eq_canon _ _ _ (fun _ => cover0_A_12 ..)]
  all_goals
    unfold kernelRun0_A
    dsimp only
    sl_unfold_words
    first
    | rw [View.canon_unit_zero (S := S256x1024) zero_off]
    | rw [View.canon_cons_unit_zero (S := S1x1024) zero_off,
    View.readCov_unit_zero (S := S1x1024) _ zero_off]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
      View.ld_unit_zero (S := S1024x1024) zero_off, View.ld_unit_zero (S := S256x1024) zero_off, View.ld_unit_zero (S := S1x1024) zero_off]
  all_goals rfl

/-- What a later point leaves, over what was held. -/
theorem later (c : Dev nD) (t : Fin cfg0.N) (h0 : ¬t.val % 16 = 0) : outsAt0 m c t.val t.isLt =
    (tile m c t, tile m c t, k0_pay12 (fedAt m c t) (k0_pay6 (iblk m c 7 t)) (k0_pay7 (iblk m c 7 t)) (outsAt0 m c (t.val - 1) (Nat.lt_of_le_of_lt (Nat.sub_le _ _) t.isLt)).2.2.1,
      k0_pay1 (F := Ideal) (k0_pay13 (outsAt0 m c (t.val - 1) (Nat.lt_of_le_of_lt (Nat.sub_le _ _) t.isLt)).2.2.2) (k0_pay14 (fedAt m c t))) := by
  rw [outsAt0_B m c t h0]
  refine congrArg₂ Prod.mk ?_ (congrArg₂ Prod.mk ?_ (congrArg₂ Prod.mk ?_ ?_))
  all_goals first
  | unfold out0_B_9; rw [View.read_writes_eq_canon _ _ _ (fun _ => cover0_B_9 ..)]
  | unfold out0_B_10; rw [View.read_writes_eq_canon _ _ _ (fun _ => cover0_B_10 ..)]
  | unfold out0_B_11; rw [View.read_writes_eq_canon _ _ _ (fun _ => cover0_B_11 ..)]
  | unfold out0_B_12; rw [View.read_writes_eq_canon _ _ _ (fun _ => cover0_B_12 ..)]
  all_goals
    unfold kernelRun0_B
    dsimp only
    sl_unfold_words
    first
    | rw [View.canon_unit_zero (S := S256x1024) zero_off]
    | rw [View.canon_unit_zero (S := S1x1024) zero_off]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_11 t).read_unread, (hs0_12 t).read_unread,
      View.ld_unit_zero (S := S1024x1024) zero_off, View.ld_unit_zero (S := S256x1024) zero_off, View.ld_unit_zero (S := S1x1024) zero_off]
  all_goals rfl

/-- The index of a window of rows, at each point. -/
theorem index_rows : ∀ t : Fin grid0.N, win0_9.index t 0 = t.val ∧ win0_9.index t 1 = 0 := by decide +kernel

/-- Row `r` of tile `t`. -/
def rowOf (t : Fin cfg0.N) (r : Fin 256) : Fin 4096 := ⟨256 * t.val + r.val, by have := t.isLt.trans_eq N_0; omega⟩

/-- The place of entry `(r, k)` of tile `t`, for every window of rows. -/
theorem place (t : Fin cfg0.N) (r : Fin 256) (k : Fin 1024) :
    ((cfg0.win 9).blk t).view.emb (ix2 r k) = (ix2 (rowOf t r) k : S4096x1024.Idx) :=
  idx2 (tile_at (index_rows t).1 256 r) (whole_at (index_rows t).2 1024 k)

/-- The tiles of a window of rows cover its array. -/
theorem covered (i : S4096x1024.Idx) : ∃ t : Fin cfg0.N, i ∈ (win0_9.rect t).set :=
  tiles_cover 256 rfl win0_9.index index_rows (fun _ => ⟨_, rfl⟩) i

/-- A window of one row is the row, at every point. -/
theorem place_row (t : Fin cfg0.N) (k : Fin 1024) : ((cfg0.win 11).blk t).view.emb (ix2 0 k) = (ix2 0 k : S1x1024.Idx) :=
  idx2 rfl (whole_at rfl 1024 k)

theorem covered_row (i : S1x1024.Idx) : i ∈ (win0_11.rect t0_15).set :=
  whole_cover (win0_11.index t0_15) rfl rfl ⟨_, rfl⟩ i

/-- The results: the rows' derivative, and the two accumulated gradients. -/
def dzArr (N : Nums) : S4096x1024.Idx → EReal := fun i => ((dz (N.z (i 0).val) (fun l => N.d (i 0).val l * N.G l) (i 1) : ℝ) : EReal)
def dgArr (N : Nums) : S1x1024.Idx → EReal := fun i => ((gainSum N.z N.d 4096 (i 1) : ℝ) : EReal)
def dbArr (N : Nums) : S1x1024.Idx → EReal := fun i => ((shiftSum N.d 4096 (i 1) : ℝ) : EReal)

section Arrays

variable {c : Dev nD} (hN : Holds m c N)
include hN

theorem block_a (t : Fin cfg0.N) : Rows (iblk m c 0 t : S256x1024.Idx → EReal) fun r => N.A (256 * t.val + r) := fun r k =>
  (congrArg (V m c main_arg0) (place t r k)).trans ((congrFun (V_main_arg0 m c) _).trans (hN.a _ _))

theorem block_b (t : Fin cfg0.N) : Rows (iblk m c 1 t : S256x1024.Idx → EReal) fun r => N.B (256 * t.val + r) := fun r k =>
  (congrArg (V m c main_arg1) (place t r k)).trans ((congrFun (V_main_arg1 m c) _).trans (hN.b _ _))

theorem block_e (t : Fin cfg0.N) : Rows (iblk m c 2 t : S256x1024.Idx → EReal) fun r => N.E (256 * t.val + r) := fun r k =>
  (congrArg (V m c main_arg2) (place t r k)).trans ((congrFun (V_main_arg2 m c) _).trans (hN.e _ _))

theorem block_y (t : Fin cfg0.N) : Rows (iblk m c 6 t : S256x1024.Idx → EReal) fun r => N.Y (256 * t.val + r) := fun r k =>
  (congrArg (V m c main_arg4) (place t r k)).trans ((congrFun (V_main_arg4 m c) _).trans (hN.y _ _))

/-- The three parts of the weight. -/
theorem block_w0 (t : Fin cfg0.N) : Rows (iblk m c 3 t : S1024x1024.Idx → EReal) fun k => part 0 (N.W k) := by
  intro r k
  refine (congrArg (V m c main_arg3) (a₂ := ix2 r ⟨1024 * 0 + k.val, by omega⟩) (funext fun a => Fin.ext ?_)).trans
    ((congrFun (V_main_arg3 m c) _).trans (hN.w _ _))
  match a with
  | ⟨0, _⟩ => show 0 * 1024 + 1 * r.val = r.val; omega
  | ⟨1, _⟩ => show 0 * 1024 + 1 * k.val = 1024 * 0 + k.val; omega

theorem block_w1 (t : Fin cfg0.N) : Rows (iblk m c 4 t : S1024x1024.Idx → EReal) fun k => part 1 (N.W k) := by
  intro r k
  refine (congrArg (V m c main_arg3) (a₂ := ix2 r ⟨1024 * 1 + k.val, by omega⟩) (funext fun a => Fin.ext ?_)).trans
    ((congrFun (V_main_arg3 m c) _).trans (hN.w _ _))
  match a with
  | ⟨0, _⟩ => show 0 * 1024 + 1 * r.val = r.val; omega
  | ⟨1, _⟩ => show 1 * 1024 + 1 * k.val = 1024 * 1 + k.val; omega

theorem block_w2 (t : Fin cfg0.N) : Rows (iblk m c 5 t : S1024x1024.Idx → EReal) fun k => part 2 (N.W k) := by
  intro r k
  refine (congrArg (V m c main_arg3) (a₂ := ix2 r ⟨1024 * 2 + k.val, by omega⟩) (funext fun a => Fin.ext ?_)).trans
    ((congrFun (V_main_arg3 m c) _).trans (hN.w _ _))
  match a with
  | ⟨0, _⟩ => show 0 * 1024 + 1 * r.val = r.val; omega
  | ⟨1, _⟩ => show 2 * 1024 + 1 * k.val = 1024 * 2 + k.val; omega

theorem block_z (t : Fin cfg0.N) : Rows (iblk m c 7 t : S256x1024.Idx → EReal) fun r => N.z (256 * t.val + r) := by
  intro r k
  refine (congrArg (zArr m c) (place t r k)).trans ?_
  rw [zArr_apply, hN.x, hN.h, word_scale, ← EReal.coe_mul, ← EReal.coe_add]
  rfl

theorem block_g (t : Fin cfg0.N) (k : Fin 1024) : (iblk m c 8 t : S1x1024.Idx → EReal) (ix2 0 k) = ((N.G k : ℝ) : EReal) := by
  exact (congrArg (gArr m c) (place_row t k)).trans ((gArr_apply m c k).trans (hN.g k))

/-- The gradient that reaches the norm, at a point. -/
theorem block_d (t : Fin cfg0.N) : Rows (fedAt m c t) fun r => N.d (256 * t.val + r) :=
  fed_coe (block_a m hN t) (block_b m hN t) (block_e m hN t) (block_w0 m hN t) (block_w1 m hN t) (block_w2 m hN t) (block_y m hN t)

/-- The gain's gradient after point `n`. -/
theorem dg_after (k : Fin 1024) : ∀ (n : ℕ) (hn : n < cfg0.N),
    ((outsAt0 m c n hn).2.2.1 : S1x1024.Idx → EReal) (ix2 0 k) = ((gainSum N.z N.d (256 * n + 256) k : ℝ) : EReal)
  | 0, hn => by
    rw [first m c ⟨0, hn⟩ rfl]
    dsimp only
    rw [pay12_coe (block_z m hN _) (block_d m hN _), gainSum_add, EReal.coe_add]
    have z : (k0_pay4 (F := Ideal)) (ix2 0 k) = 0 := by pointwise [k0_pay4]
    rw [z]
    refine congrArg (· + _) ?_
    simp [gainSum]
  | n + 1, hn => by
    have hB : ¬(⟨n + 1, hn⟩ : Fin cfg0.N).val % 16 = 0 := by have := hn.trans_eq N_0; dsimp only; omega
    rw [later m c ⟨n + 1, hn⟩ hB]
    dsimp only
    rw [pay12_coe (block_z m hN _) (block_d m hN _), gainSum_add, EReal.coe_add]
    exact congrArg (· + _) (dg_after k n (Nat.lt_of_succ_lt hn))

/-- The shift's gradient after point `n`. -/
theorem db_after (k : Fin 1024) : ∀ (n : ℕ) (hn : n < cfg0.N),
    ((outsAt0 m c n hn).2.2.2 : S1x1024.Idx → EReal) (ix2 0 k) = ((shiftSum N.d (256 * n + 256) k : ℝ) : EReal)
  | 0, hn => by
    rw [first m c ⟨0, hn⟩ rfl]
    dsimp only
    rw [pay14_coe (block_d m hN _), shiftSum_add, EReal.coe_add]
    have z : (k0_pay5 (F := Ideal)) (ix2 0 k) = 0 := by pointwise [k0_pay5]
    rw [z]
    refine congrArg (· + _) ?_
    simp [shiftSum]
  | n + 1, hn => by
    have hB : ¬(⟨n + 1, hn⟩ : Fin cfg0.N).val % 16 = 0 := by have := hn.trans_eq N_0; dsimp only; omega
    rw [later m c ⟨n + 1, hn⟩ hB]
    dsimp only
    rw [pay14_coe (block_d m hN _), shiftSum_add, EReal.coe_add]
    exact congrArg (· + _) (db_after k n (Nat.lt_of_succ_lt hn))

/-- Every point's tile of rows, and so the array of rows, twice. -/
theorem tile_eq (t : Fin cfg0.N) : tile m c t = fun j => dzArr N (((cfg0.win 9).blk t).view.emb j) := by
  funext j
  obtain ⟨r, k, rfl⟩ := exists_ix2 j
  rw [place]
  exact pay10_coe (block_z m hN t) (block_d m hN t) (block_g m hN t) r k

omit hN in
theorem outs_tile (t : Fin cfg0.N) : (outsAt0 m c t.val t.isLt).1 = tile m c t ∧ (outsAt0 m c t.val t.isLt).2.1 = tile m c t := by
  by_cases h0 : t.val % 16 = 0
  · rw [first m c t h0]; exact ⟨rfl, rfl⟩
  · rw [later m c t h0]; exact ⟨rfl, rfl⟩

theorem final_dz : (dats m 0 c).arrAt 9 cfg0.N = dzArr N :=
  (dats m 0 c).arrAt_eq_of_cover 9 _
    (fun t _ => by
      rw [Value.flushed9, (outs_tile m t).1]
      exact tile_eq m hN t)
    fun i => (covered i).imp fun t ht => ⟨flush0_9 t, in_slice ht⟩

theorem final_dzb : (dats m 0 c).arrAt 10 cfg0.N = dzArr N :=
  (dats m 0 c).arrAt_eq_of_cover 10 _
    (fun t _ => by
      rw [Value.flushed10, (outs_tile m t).2]
      exact tile_eq m hN t)
    fun i => (covered i).imp fun t ht => ⟨flush0_10 t, in_slice ht⟩

/-- The last point writes the two accumulated gradients back. -/
theorem final_dg : (dats m 0 c).arrAt 11 cfg0.N = dgArr N :=
  (dats m 0 c).arrAt_eq_of_cover 11 _
    (fun t hf => by
      have h15 : t.val = 15 := by have := (flush0_11 t).mp hf; have := t.isLt.trans_eq N_0; omega
      rw [Value.flushed11]
      funext j
      rw [View.read_apply]
      show ((outsAt0 m c t.val t.isLt).2.2.1 : S1x1024.Idx → EReal) j = dgArr N _
      obtain ⟨r, k, rfl⟩ := exists_ix2 j
      obtain rfl : r = 0 := Subsingleton.elim _ _
      obtain ⟨n, hn⟩ := t
      obtain rfl : n = 15 := h15
      rw [show ((cfg0.win 11).blk ⟨15, hn⟩).view.emb (ix2 0 k) = (ix2 0 k : S1x1024.Idx) from place_row ⟨15, hn⟩ k, dg_after m hN k 15 hn]
      rfl)
    fun i => ⟨t0_15, (flush0_11 _).mpr rfl, in_slice (covered_row i)⟩

theorem final_db : (dats m 0 c).arrAt 12 cfg0.N = dbArr N :=
  (dats m 0 c).arrAt_eq_of_cover 12 _
    (fun t hf => by
      have h15 : t.val = 15 := by have := (flush0_12 t).mp hf; have := t.isLt.trans_eq N_0; omega
      rw [Value.flushed12]
      funext j
      rw [View.read_apply]
      show ((outsAt0 m c t.val t.isLt).2.2.2 : S1x1024.Idx → EReal) j = dbArr N _
      obtain ⟨r, k, rfl⟩ := exists_ix2 j
      obtain rfl : r = 0 := Subsingleton.elim _ _
      obtain ⟨n, hn⟩ := t
      obtain rfl : n = 15 := h15
      rw [show ((cfg0.win 12).blk ⟨15, hn⟩).view.emb (ix2 0 k) = (ix2 0 k : S1x1024.Idx) from place_row ⟨15, hn⟩ k, db_after m hN k 15 hn]
      rfl)
    fun i => ⟨t0_15, (flush0_12 _).mpr rfl, in_slice (covered_row i)⟩

end Arrays

/-! ## The reference -/

section Reference

open Cert.DxMixRefIdeal.Read

variable {a b e : S4096x1024.Idx → EReal} {w : S1024x3072.Idx → EReal} {y x h : S4096x1024.Idx → EReal} {g : S1024.Idx → EReal} (hN : Are a b e w y x h g N)
include hN

theorem ref_z : Rows (val_main_v6 (F := Ideal) x h) N.z := by
  intro p k
  pointwise [val_main_v6, val_main_v5, val_main_v4, val_main_cst_0]
  rw [hN.x, hN.h, word_scale, ← EReal.coe_mul, ← EReal.coe_add]
  rfl

theorem ref_dev (p : Fin 4096) (k : Fin 1024) :
    val_main_v21 (F := Ideal) x h (ix2 p k) = ((dev (N.z p.val) k : ℝ) : EReal) := by
  pointwise [val_main_v21, val_main_v20, val_main_v10, val_main_v9, val_main_v8, val_main_v7, val_main_cst_1, val_main_cst_2]
  simp only [ref_z hN p]
  exact dev_coe _ _

theorem ref_dev' (p : Fin 4096) (k : Fin 1024) :
    val_main_v12 (F := Ideal) x h (ix2 p k) = ((dev (N.z p.val) k : ℝ) : EReal) := ref_dev hN p k

theorem ref_var (p : Fin 4096) (j : Fin 1) :
    val_main_v23 (F := Ideal) x h (ix2 p j) = ((var (N.z p.val) + eps : ℝ) : EReal) := by
  pointwise [val_main_v23, val_main_v22, val_main_v19, val_main_v18, val_main_v17, val_main_v16, val_main_v13, val_main_cst_4,
    val_main_cst_5, val_main_cst_6]
  simp only [ref_dev' hN p]
  exact var_coe _

theorem ref_inv (p : Fin 4096) (j : Fin 1) :
    val_main_v24 (F := Ideal) x h (ix2 p j) = ((inv (N.z p.val) : ℝ) : EReal) := by
  pointwise [val_main_v24]
  rw [ref_var hN, inv_coe]

theorem ref_slope (p : Fin 4096) (j : Fin 1) :
    val_main_v27 (F := Ideal) x h (ix2 p j) = ((slope (N.z p.val) : ℝ) : EReal) := by
  pointwise [val_main_v27, val_main_v26, val_main_v25, val_main_cst_7]
  rw [ref_var hN, ref_inv hN, slope_coe]

theorem ref_xhat (p : Fin 4096) (k : Fin 1024) :
    val_main_v29 (F := Ideal) x h (ix2 p k) = ((xhat (N.z p.val) k : ℝ) : EReal) := by
  pointwise [val_main_v29, val_main_v28]
  rw [ref_dev hN, ref_inv hN, ← EReal.coe_mul]
  rfl

theorem ref_gain (k : Fin 1024) : val_main_v30 (F := Ideal) g (ix2 0 k) = ((N.G k : ℝ) : EReal) := by
  pointwise [val_main_v30]
  exact hN.g k

omit hN in
/-- The three incoming gradients side by side. -/
theorem ref_side (a b e : S4096x1024.Idx → EReal) (p : Fin 4096) (j : Fin 1024) :
    val_main_v1 (F := Ideal) a b e (ix2 p ⟨j.val, by omega⟩) = a (ix2 p j) ∧
      val_main_v1 (F := Ideal) a b e (ix2 p ⟨1024 + j.val, by omega⟩) = b (ix2 p j) ∧
      val_main_v1 (F := Ideal) a b e (ix2 p ⟨2048 + j.val, by omega⟩) = e (ix2 p j) := by
  refine ⟨?_, ?_, ?_⟩
  · pointwise [val_main_v1]
  · pointwise [val_main_v1]
  · pointwise [val_main_v1]
    rw [dif_neg (by omega), dif_neg (by omega)]
    exact congrArg (fun l => e (ix2 p l)) (Fin.ext (by show 2048 + j.val - 1024 - 1024 = j.val; omega))

/-- The gradient that reaches the norm. -/
theorem ref_fed : Rows (val_main_v42 (F := Ideal) a b e w y) N.d := by
  intro p k
  pointwise [val_main_v42, val_main_v41, val_main_v40, val_main_v39, val_main_v0, val_main_v2, val_main_cst_9]
  rw [sum_three]
  simp only [(ref_side a b e p _).1, (ref_side a b e p _).2.1, (ref_side a b e p _).2.2, hN.a p, hN.b p, hN.e p, hN.w k, hN.y p]
  rw [dot_coe, dot_coe, dot_coe, word_scale, ← EReal.coe_mul, ← EReal.coe_add, ← EReal.coe_add, ← EReal.coe_add]
  refine congrArg _ ?_
  show scale * N.Y p k + (∑ j, N.A p j * N.W k ⟨j.val, by omega⟩ + ∑ j, N.B p j * part 1 (N.W k) j + ∑ j, N.E p j * part 2 (N.W k) j) =
    ∑ j, N.A p j * part 0 (N.W k) j + ∑ j, N.B p j * part 1 (N.W k) j + ∑ j, N.E p j * part 2 (N.W k) j + scale * N.Y p k
  simp only [part_zero]
  ring

/-- The derivative of the rows. -/
theorem ref_dz : val_main_v75 (F := Ideal) a b e w y x h g = dzArr N := by
  funext i
  obtain ⟨p, k, rfl⟩ := exists_ix2 i
  pointwise [val_main_v15, val_main_v14, val_main_v49, val_main_v50, val_main_v52, val_main_v53, val_main_v54, val_main_v55, val_main_v56,
    val_main_v57, val_main_v58, val_main_v59, val_main_v60, val_main_v61, val_main_v62, val_main_v63, val_main_v64, val_main_v65, val_main_v66,
    val_main_v67, val_main_v68, val_main_v69, val_main_v70, val_main_v71, val_main_v72, val_main_v73, val_main_v74, val_main_v75,
    val_main_cst_3, val_main_cst_14, val_main_cst_15, val_main_cst_16, val_main_cst_17, val_main_cst_18, val_main_cst_19, val_main_cst_20]
  simp only [ref_dev hN, ref_dev' hN, ref_inv hN, ref_slope hN, ref_gain hN, ref_fed hN p]
  simp only [Fin.sum_univ_one]
  exact plain_coe _ _ _ _

/-- The gradients of gain and shift. -/
theorem ref_dg : val_main_v77 (F := Ideal) a b e w y x h = dgArr N := by
  funext i
  obtain ⟨p, k, rfl⟩ := exists_ix2 i
  pointwise [val_main_v77, val_main_v51, val_main_v46, val_main_v47, val_main_v48, val_main_cst_12, val_main_cst_13]
  simp only [ref_xhat hN, ref_fed hN _ k, Fin.sum_univ_one, ← EReal.coe_mul]
  rw [← coe_sum]
  show _ = ((gainSum N.z N.d 4096 k : ℝ) : EReal)
  unfold gainSum
  rw [Finset.sum_range]
  exact congrArg _ (Finset.sum_congr rfl fun _ _ => mul_comm _ _)

theorem ref_db : val_main_v78 (F := Ideal) a b e w y = dbArr N := by
  funext i
  obtain ⟨p, k, rfl⟩ := exists_ix2 i
  pointwise [val_main_v78, val_main_v45, val_main_v44, val_main_v43, val_main_cst_10, val_main_cst_11]
  simp only [ref_fed hN _ k, Fin.sum_univ_one]
  rw [← coe_sum]
  show _ = ((shiftSum N.d 4096 k : ℝ) : EReal)
  unfold shiftSum
  rw [Finset.sum_range]

end Reference

/-! ## The claim -/

/-- The shapes' facts of the predicate. -/
theorem pre_facts : Cert.Pre_finite_mix.Facts where
  bitsLt_bf16_f32 := by decide
  bcast_S_S4096x1024 := by decide
  bcast_S_S1024x3072 := by decide
  bcast_S_S1024 := by decide

/-- The numbers of core `c`'s arguments. -/
def nums (c : Dev nD) : Nums :=
  ⟨rows (argA m c), rows (argB m c), rows (argE m c), rows (argW m c), rows (argY m c), rows (argX m c), rows (argH m c),
    fun k => (argG m c (ix1 k)).toReal⟩

/-- Finite arguments are numbers. -/
theorem holds_of_pre (c : Dev nD) (hP : Cert.Pre_DxMixIdeal_finite_mix (hPre_finite_mix := pre_facts) m) : Holds m c (nums m c) := by
  obtain ⟨h0, h1, h2, h3, h4, h5, h6, h7⟩ := hP c
  exact ⟨rows_of _ fun i => number_of_lt (congrFun h0 i), rows_of _ fun i => number_of_lt (congrFun h1 i),
    rows_of _ fun i => number_of_lt (congrFun h2 i), rows_of _ fun i => number_of_lt (congrFun h3 i),
    rows_of _ fun i => number_of_lt (congrFun h4 i), rows_of _ fun i => number_of_lt (congrFun h5 i),
    rows_of _ fun i => number_of_lt (congrFun h6 i), fun k => number_of_lt (congrFun h7 (ix1 k))⟩

/-- The kernel and the derivative of the plainly written lines end with equal results. -/
theorem algebraic : Cert.algebraic_DxMixIdeal_DxMixRefIdeal_pre_finite_mix (hPre_finite_mix := pre_facts) := fun m ρ m' ρ' hP hag =>
  ⟨fun c => dzArr (nums m c), fun c => dzArr (nums m c), fun c => dgArr (nums m c), fun c => dbArr (nums m c),
    (θ_run defs _ _).mono (fun _ h c => ⟨(h c).1.trans (final_dz m (holds_of_pre m c hP)), (h c).2.1.trans (final_dzb m (holds_of_pre m c hP)),
      (h c).2.2.1.trans (final_dg m (holds_of_pre m c hP)), (h c).2.2.2.1.trans (final_db m (holds_of_pre m c hP)), (h c).2.2.2.2⟩)
      (Value.run_blocks m ρ),
    (θ_run Cert.DxMixRefIdeal.defs _ _).mono
      (fun _ h c => by
        obtain ⟨g0, g1, g2, g3, g4, g5, g6, g7⟩ := hag c
        exact ⟨(h c).1.trans ((Cert.DxMixRefIdeal.Read.val_main_v75_eq m' c).trans
            (by rw [g0, g1, g2, g3, g4, g5, g6, g7]; exact ref_dz (holds_of_pre m c hP))),
          (h c).2.1.trans ((Cert.DxMixRefIdeal.Read.val_main_v76_eq m' c).trans
            (by rw [g0, g1, g2, g3, g4, g5, g6, g7]; exact ref_dz (holds_of_pre m c hP))),
          (h c).2.2.1.trans (by rw [g0, g1, g2, g3, g4, g5, g6]; exact ref_dg (holds_of_pre m c hP)),
          (h c).2.2.2.1.trans (by rw [g0, g1, g2, g3, g4]; exact ref_db (holds_of_pre m c hP)), (h c).2.2.2.2⟩)
      (Cert.DxMixRefIdeal.Value.run (F := Ideal) m' ρ')⟩

end Cert.DxMixValue

end
-- ==== Proof.DxFfnValue.lean ====
/- The gradient through the feed-forward layer's first products and the norm before it: two products with transposed
   weights, the scaled residual gradient, and the norm's backward, in sixteen tiles of rows; against the derivative of the
   plainly written lines. -/
module

public import proofs.«01_k».proof.Defs
public import proofs.«01_k».proof.Proof.LnMath
public import proofs.«01_k».proof.Proof.Gen.DxFfnIdeal.Value
public import proofs.«01_k».proof.Proof.Gen.DxFfnRefIdeal.Read

@[expose] public section

set_option maxRecDepth 16384

noncomputable section

namespace Cert.DxFfnValue

open Cert.Reals Cert.LnMath Cert.DxFfnIdeal Cert.DxFfnIdeal.Gen Idealize.ShloMosaic Idealize.ShloMosaic.TcCoe Idealize.SL.Sem
open Idealize.ShloMosaic.Pipeline (Dat)

/-- The gradient that reaches the norm, one tile of it. -/
abbrev fedTile (x0 x1 : Vec Ideal S256x3072 .bf16) (x2 x3 : Vec Ideal S1024x3072 .bf16) (x4 : Vec Ideal S256x1024 .f32) : Vec Ideal S256x1024 .f32 :=
  k0_pay5 x0 x2 x1 x3 x4

/-! ## One tile at numbers -/

/-- One entry of the gradient that reaches the norm: two products with transposed weights, and the scaled residual gradient. -/
def fed (a b : Fin 3072 → ℝ) (u v : Fin 3072 → ℝ) (y : ℝ) : ℝ := ∑ j, a j * u j + ∑ j, b j * v j + scale * y

section Tile

variable {a b : Vec Ideal S256x3072 .bf16} {u v : Vec Ideal S1024x3072 .bf16} {y z d : Vec Ideal S256x1024 .f32} {g : Vec Ideal S1x1024 .f32}
  {A B U V : ℕ → Fin 3072 → ℝ} {Y Z D : ℕ → Fin 1024 → ℝ} {G : Fin 1024 → ℝ}

theorem fed_coe (ha : Rows a A) (hb : Rows b B) (hu : Rows u U) (hv : Rows v V) (hy : Rows y Y) :
    Rows (fedTile a b u v y : S256x1024.Idx → EReal) fun r k => fed (A r) (B r) (U k.val) (V k.val) (Y r k) := by
  intro r k
  show k0_pay5 a u b v y (ix2 r k) = _
  pointwise [k0_pay5]
  simp only [ha r, hb r, hu k, hv k, hy r]
  rw [dot_coe, dot_coe, word_scale, ← EReal.coe_mul, ← EReal.coe_add, ← EReal.coe_add]
  rfl

theorem pay9_coe (hz : Rows z Z) (r : Fin 256) (k : Fin 1024) : k0_pay9 z (ix2 r k) = ((dev (Z r.val) k : ℝ) : EReal) := by
  pointwise [k0_pay9]
  simp only [hz r]
  exact dev_coe _ _

theorem pay10_coe (hz : Rows z Z) (r : Fin 256) : k0_pay10 z (ix2 r 0) = ((inv (Z r.val) : ℝ) : EReal) := by
  pointwise [k0_pay10]
  simp only [pay9_coe hz r]
  rw [var_coe, inv_coe]

theorem pay11_coe (hz : Rows z Z) (r : Fin 256) (k : Fin 1024) : k0_pay11 z (ix2 r k) = ((xhat (Z r.val) k : ℝ) : EReal) := by
  pointwise [k0_pay11]
  rw [pay9_coe hz, pay10_coe hz, ← EReal.coe_mul]
  rfl

/-- A tile's rows. -/
theorem pay1_coe (hz : Rows z Z) (hd : Rows d D) (hg : ∀ k, g (ix2 0 k) = ((G k : ℝ) : EReal)) (r : Fin 256) (k : Fin 1024) :
    k0_pay1 d (k0_pay6 g) (k0_pay10 z) (k0_pay11 z) (ix2 r k) = ((dz (Z r.val) (fun l => D r.val l * G l) k : ℝ) : EReal) := by
  pointwise [k0_pay1, k0_pay6]
  simp only [pay10_coe hz r, pay11_coe hz r, hd r, hg]
  rw [core_coe, ← EReal.coe_mul]
  rfl

/-- A tile's part of the gain's gradient. -/
theorem pay3_coe (hz : Rows z Z) (hd : Rows d D) (p : Vec Ideal S1x1024 .f32) (k : Fin 1024) :
    k0_pay3 d (k0_pay11 z) p (ix2 0 k) = p (ix2 0 k) + ((∑ r : Fin 256, D r.val k * xhat (Z r.val) k : ℝ) : EReal) := by
  pointwise [k0_pay3]
  simp only [pay11_coe hz, hd _ k, ← EReal.coe_mul]
  rw [coe_sum]

/-- A tile's part of the shift's gradient. -/
theorem pay4_coe (hd : Rows d D) (q : Vec Ideal S1x1024 .f32) (k : Fin 1024) :
    k0_pay4 d q (ix2 0 k) = q (ix2 0 k) + ((∑ r : Fin 256, D r.val k : ℝ) : EReal) := by
  pointwise [k0_pay4]
  simp only [hd _ k]
  rw [coe_sum]

end Tile

variable (m : (ℓ : Loc nD τ sig) → Buf (Elt Ideal) ℓ) (ρ : Dev nD → PrngReg)

/-- The launched arguments, and the two arrays the host prepares of them. -/
abbrev argA (c : Dev nD) : S4096x3072.Idx → EReal := m ((c : Thread nD τ).loc main_arg0)
abbrev argB (c : Dev nD) : S4096x3072.Idx → EReal := m ((c : Thread nD τ).loc main_arg1)
abbrev argU (c : Dev nD) : S1024x3072.Idx → EReal := m ((c : Thread nD τ).loc main_arg2)
abbrev argV (c : Dev nD) : S1024x3072.Idx → EReal := m ((c : Thread nD τ).loc main_arg3)
abbrev argY (c : Dev nD) : S4096x1024.Idx → EReal := m ((c : Thread nD τ).loc main_arg4)
abbrev argX (c : Dev nD) : S4096x1024.Idx → EReal := m ((c : Thread nD τ).loc main_arg5)
abbrev argH (c : Dev nD) : S4096x1024.Idx → EReal := m ((c : Thread nD τ).loc main_arg6)
abbrev argG (c : Dev nD) : S1024.Idx → EReal := m ((c : Thread nD τ).loc main_arg7)
abbrev zArr (c : Dev nD) : S4096x1024.Idx → EReal := V m c main_v2
abbrev gArr (c : Dev nD) : S1x1024.Idx → EReal := V m c main_v3

theorem zArr_apply (c : Dev nD) (i : S4096x1024.Idx) : zArr m c i = Ideal.ofBits .f32 0x3FD744FD#32 * argX m c i + argH m c i := by
  after_reads_at

theorem gArr_apply (c : Dev nD) (k : Fin 1024) : gArr m c (ix2 0 k) = argG m c (ix1 k) := by
  after_reads_at

/-- The numbers of the arguments: the two incoming gradients, the two weights, the residual gradient, the two summands of the
    normed rows, and the gain. -/
structure Nums where
  A : ℕ → Fin 3072 → ℝ
  B : ℕ → Fin 3072 → ℝ
  U : ℕ → Fin 3072 → ℝ
  V : ℕ → Fin 3072 → ℝ
  Y : ℕ → Fin 1024 → ℝ
  X : ℕ → Fin 1024 → ℝ
  H : ℕ → Fin 1024 → ℝ
  G : Fin 1024 → ℝ

/-- The rows that are normed. -/
def Nums.z (N : Nums) (p : ℕ) (k : Fin 1024) : ℝ := scale * N.X p k + N.H p k

/-- The gradient that reaches the norm. -/
def Nums.d (N : Nums) (p : ℕ) (k : Fin 1024) : ℝ := fed (N.A p) (N.B p) (N.U k.val) (N.V k.val) (N.Y p k)

/-- The arguments are the numbers `N`. -/
structure Are (a b : S4096x3072.Idx → EReal) (u v : S1024x3072.Idx → EReal) (y x h : S4096x1024.Idx → EReal) (g : S1024.Idx → EReal)
    (N : Nums) : Prop where
  a : Rows a N.A
  b : Rows b N.B
  u : Rows u N.U
  v : Rows v N.V
  y : Rows y N.Y
  x : Rows x N.X
  h : Rows h N.H
  g : ∀ k, g (ix1 k) = ((N.G k : ℝ) : EReal)

/-- Core `c`'s arguments are the numbers `N`. -/
abbrev Holds (c : Dev nD) (N : Nums) : Prop :=
  Are (argA m c) (argB m c) (argU m c) (argV m c) (argY m c) (argX m c) (argH m c) (argG m c) N

variable {N : Nums}

/-- At point `t`: the gradient that reaches the norm, and the tile of rows. -/
abbrev fedAt (c : Dev nD) (t : Fin cfg0.N) : Vec Ideal S256x1024 .f32 :=
  fedTile (iblk m c 0 t) (iblk m c 1 t) (iblk m c 2 t) (iblk m c 3 t) (iblk m c 4 t)
def tile (c : Dev nD) (t : Fin cfg0.N) : Vec Ideal S256x1024 .f32 := k0_pay1 (fedAt m c t) (k0_pay6 (iblk m c 6 t)) (k0_pay10 (iblk m c 5 t)) (k0_pay11 (iblk m c 5 t))

/-- What the first point leaves. -/
theorem first (c : Dev nD) (t : Fin cfg0.N) (h0 : t.val % 16 = 0) : outsAt0 m c t.val t.isLt =
    (tile m c t, tile m c t, k0_pay3 (fedAt m c t) (k0_pay11 (iblk m c 5 t)) (k0_pay7 (F := Ideal)),
      k0_pay4 (F := Ideal) (fedAt m c t) (k0_pay8 (F := Ideal))) := by
  rw [outsAt0_A m c t h0]
  refine congrArg₂ Prod.mk ?_ (congrArg₂ Prod.mk ?_ (congrArg₂ Prod.mk ?_ ?_))
  all_goals first
  | unfold out0_A_7; rw [View.read_writes_eq_canon _ _ _ (fun _ => cover0_A_7 ..)]
  | unfold out0_A_8; rw [View.read_writes_eq_canon _ _ _ (fun _ => cover0_A_8 ..)]
  | unfold out0_A_9; rw [View.read_writes_eq_canon _ _ _ (fun _ => cover0_A_9 ..)]
  | unfold out0_A_10; rw [View.read_writes_eq_canon _ _ _ (fun _ => cover0_A_10 ..)]
  all_goals
    unfold kernelRun0_A
    dsimp only
    sl_unfold_words
    first
    | rw [View.canon_unit_zero (S := S256x1024) zero_off]
    | rw [View.canon_cons_unit_zero (S := S1x1024) zero_off,
    View.readCov_unit_zero (S := S1x1024) _ zero_off]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x3072) zero_off, View.ld_unit_zero (S := S1024x3072) zero_off, View.ld_unit_zero (S := S256x1024) zero_off, View.ld_unit_zero (S := S1x1024) zero_off]
  all_goals rfl

/-- What a later point leaves, over what was held. -/
theorem later (c : Dev nD) (t : Fin cfg0.N) (h0 : ¬t.val % 16 = 0) : outsAt0 m c t.val t.isLt =
    (tile m c t, tile m c t, k0_pay3 (fedAt m c t) (k0_pay11 (iblk m c 5 t)) (outsAt0 m c (t.val - 1) (Nat.lt_of_le_of_lt (Nat.sub_le _ _) t.isLt)).2.2.1,
      k0_pay4 (F := Ideal) (fedAt m c t) (outsAt0 m c (t.val - 1) (Nat.lt_of_le_of_lt (Nat.sub_le _ _) t.isLt)).2.2.2) := by
  rw [outsAt0_B m c t h0]
  refine congrArg₂ Prod.mk ?_ (congrArg₂ Prod.mk ?_ (congrArg₂ Prod.mk ?_ ?_))
  all_goals first
  | unfold out0_B_7; rw [View.read_writes_eq_canon _ _ _ (fun _ => cover0_B_7 ..)]
  | unfold out0_B_8; rw [View.read_writes_eq_canon _ _ _ (fun _ => cover0_B_8 ..)]
  | unfold out0_B_9; rw [View.read_writes_eq_canon _ _ _ (fun _ => cover0_B_9 ..)]
  | unfold out0_B_10; rw [View.read_writes_eq_canon _ _ _ (fun _ => cover0_B_10 ..)]
  all_goals
    unfold kernelRun0_B
    dsimp only
    sl_unfold_words
    first
    | rw [View.canon_unit_zero (S := S256x1024) zero_off]
    | rw [View.canon_unit_zero (S := S1x1024) zero_off]
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, (hs0_10 t).read_unread,
      View.ld_unit_zero (S := S256x3072) zero_off, View.ld_unit_zero (S := S1024x3072) zero_off, View.ld_unit_zero (S := S256x1024) zero_off, View.ld_unit_zero (S := S1x1024) zero_off]
  all_goals rfl

/-- The index of a window of rows, at each point. -/
theorem index_rows : ∀ t : Fin grid0.N, win0_7.index t 0 = t.val ∧ win0_7.index t 1 = 0 := by decide +kernel

/-- Row `r` of tile `t`. -/
def rowOf (t : Fin cfg0.N) (r : Fin 256) : Fin 4096 := ⟨256 * t.val + r.val, by have := t.isLt.trans_eq N_0; omega⟩

/-- The place of entry `(r, k)` of tile `t`, for every window of rows. -/
theorem place (t : Fin cfg0.N) (r : Fin 256) (k : Fin 1024) :
    ((cfg0.win 7).blk t).view.emb (ix2 r k) = (ix2 (rowOf t r) k : S4096x1024.Idx) :=
  idx2 (tile_at (index_rows t).1 256 r) (whole_at (index_rows t).2 1024 k)

/-- The tiles of a window of rows cover its array. -/
theorem covered (i : S4096x1024.Idx) : ∃ t : Fin cfg0.N, i ∈ (win0_7.rect t).set :=
  tiles_cover 256 rfl win0_7.index index_rows (fun _ => ⟨_, rfl⟩) i

/-- A window of one row is the row, at every point. -/
theorem place_row (t : Fin cfg0.N) (k : Fin 1024) : ((cfg0.win 9).blk t).view.emb (ix2 0 k) = (ix2 0 k : S1x1024.Idx) :=
  idx2 rfl (whole_at rfl 1024 k)

theorem covered_row (i : S1x1024.Idx) : i ∈ (win0_9.rect t0_15).set :=
  whole_cover (win0_9.index t0_15) rfl rfl ⟨_, rfl⟩ i

/-- The results: the rows' derivative, and the two accumulated gradients. -/
def dzArr (N : Nums) : S4096x1024.Idx → EReal := fun i => ((dz (N.z (i 0).val) (fun l => N.d (i 0).val l * N.G l) (i 1) : ℝ) : EReal)
def dgArr (N : Nums) : S1x1024.Idx → EReal := fun i => ((gainSum N.z N.d 4096 (i 1) : ℝ) : EReal)
def dbArr (N : Nums) : S1x1024.Idx → EReal := fun i => ((shiftSum N.d 4096 (i 1) : ℝ) : EReal)

section Arrays

variable {c : Dev nD} (hN : Holds m c N)
include hN

omit hN in
/-- The place of an entry of a tile of wide rows. -/
theorem place_wide (t : Fin cfg0.N) (r : Fin 256) (k : Fin 3072) :
    ((cfg0.win 0).blk t).view.emb (ix2 r k) = (ix2 (rowOf t r) k : S4096x3072.Idx) :=
  idx2 (tile_at (index_rows t).1 256 r) (whole_at (index_rows t).2 3072 k)

theorem block_a (t : Fin cfg0.N) : Rows (iblk m c 0 t : S256x3072.Idx → EReal) fun r => N.A (256 * t.val + r) := fun r k =>
  (congrArg (V m c main_arg0) (place_wide t r k)).trans ((congrFun (V_main_arg0 m c) _).trans (hN.a _ _))

theorem block_b (t : Fin cfg0.N) : Rows (iblk m c 1 t : S256x3072.Idx → EReal) fun r => N.B (256 * t.val + r) := fun r k =>
  (congrArg (V m c main_arg1) (place_wide t r k)).trans ((congrFun (V_main_arg1 m c) _).trans (hN.b _ _))

theorem block_y (t : Fin cfg0.N) : Rows (iblk m c 4 t : S256x1024.Idx → EReal) fun r => N.Y (256 * t.val + r) := fun r k =>
  (congrArg (V m c main_arg4) (place t r k)).trans ((congrFun (V_main_arg4 m c) _).trans (hN.y _ _))

/-- The weights are held whole. -/
theorem block_u (t : Fin cfg0.N) : Rows (iblk m c 2 t : S1024x3072.Idx → EReal) N.U := by
  intro r k
  refine (congrArg (V m c main_arg2) (a₂ := ix2 r k) (funext fun a => Fin.ext ?_)).trans ((congrFun (V_main_arg2 m c) _).trans (hN.u _ _))
  match a with
  | ⟨0, _⟩ => show 0 * 1024 + 1 * r.val = r.val; omega
  | ⟨1, _⟩ => show 0 * 3072 + 1 * k.val = k.val; omega

theorem block_v (t : Fin cfg0.N) : Rows (iblk m c 3 t : S1024x3072.Idx → EReal) N.V := by
  intro r k
  refine (congrArg (V m c main_arg3) (a₂ := ix2 r k) (funext fun a => Fin.ext ?_)).trans ((congrFun (V_main_arg3 m c) _).trans (hN.v _ _))
  match a with
  | ⟨0, _⟩ => show 0 * 1024 + 1 * r.val = r.val; omega
  | ⟨1, _⟩ => show 0 * 3072 + 1 * k.val = k.val; omega

theorem block_z (t : Fin cfg0.N) : Rows (iblk m c 5 t : S256x1024.Idx → EReal) fun r => N.z (256 * t.val + r) := by
  intro r k
  refine (congrArg (zArr m c) (place t r k)).trans ?_
  rw [zArr_apply, hN.x, hN.h, word_scale, ← EReal.coe_mul, ← EReal.coe_add]
  rfl

theorem block_g (t : Fin cfg0.N) (k : Fin 1024) : (iblk m c 6 t : S1x1024.Idx → EReal) (ix2 0 k) = ((N.G k : ℝ) : EReal) := by
  exact (congrArg (gArr m c) (place_row t k)).trans ((gArr_apply m c k).trans (hN.g k))

/-- The gradient that reaches the norm, at a point. -/
theorem block_d (t : Fin cfg0.N) : Rows (fedAt m c t) fun r => N.d (256 * t.val + r) :=
  fed_coe (block_a m hN t) (block_b m hN t) (block_u m hN t) (block_v m hN t) (block_y m hN t)

/-- The gain's gradient after point `n`. -/
theorem dg_after (k : Fin 1024) : ∀ (n : ℕ) (hn : n < cfg0.N),
    ((outsAt0 m c n hn).2.2.1 : S1x1024.Idx → EReal) (ix2 0 k) = ((gainSum N.z N.d (256 * n + 256) k : ℝ) : EReal)
  | 0, hn => by
    rw [first m c ⟨0, hn⟩ rfl]
    dsimp only
    rw [pay3_coe (block_z m hN _) (block_d m hN _), gainSum_add, EReal.coe_add]
    have z : (k0_pay7 (F := Ideal)) (ix2 0 k) = 0 := by pointwise [k0_pay7]
    rw [z]
    refine congrArg (· + _) ?_
    simp [gainSum]
  | n + 1, hn => by
    have hB : ¬(⟨n + 1, hn⟩ : Fin cfg0.N).val % 16 = 0 := by have := hn.trans_eq N_0; dsimp only; omega
    rw [later m c ⟨n + 1, hn⟩ hB]
    dsimp only
    rw [pay3_coe (block_z m hN _) (block_d m hN _), gainSum_add, EReal.coe_add]
    exact congrArg (· + _) (dg_after k n (Nat.lt_of_succ_lt hn))

/-- The shift's gradient after point `n`. -/
theorem db_after (k : Fin 1024) : ∀ (n : ℕ) (hn : n < cfg0.N),
    ((outsAt0 m c n hn).2.2.2 : S1x1024.Idx → EReal) (ix2 0 k) = ((shiftSum N.d (256 * n + 256) k : ℝ) : EReal)
  | 0, hn => by
    rw [first m c ⟨0, hn⟩ rfl]
    dsimp only
    rw [pay4_coe (block_d m hN _), shiftSum_add, EReal.coe_add]
    have z : (k0_pay8 (F := Ideal)) (ix2 0 k) = 0 := by pointwise [k0_pay8]
    rw [z]
    refine congrArg (· + _) ?_
    simp [shiftSum]
  | n + 1, hn => by
    have hB : ¬(⟨n + 1, hn⟩ : Fin cfg0.N).val % 16 = 0 := by have := hn.trans_eq N_0; dsimp only; omega
    rw [later m c ⟨n + 1, hn⟩ hB]
    dsimp only
    rw [pay4_coe (block_d m hN _), shiftSum_add, EReal.coe_add]
    exact congrArg (· + _) (db_after k n (Nat.lt_of_succ_lt hn))

/-- Every point's tile of rows, and so the array of rows, twice. -/
theorem tile_eq (t : Fin cfg0.N) : tile m c t = fun j => dzArr N (((cfg0.win 7).blk t).view.emb j) := by
  funext j
  obtain ⟨r, k, rfl⟩ := exists_ix2 j
  rw [place]
  exact pay1_coe (block_z m hN t) (block_d m hN t) (block_g m hN t) r k

omit hN in
theorem outs_tile (t : Fin cfg0.N) : (outsAt0 m c t.val t.isLt).1 = tile m c t ∧ (outsAt0 m c t.val t.isLt).2.1 = tile m c t := by
  by_cases h0 : t.val % 16 = 0
  · rw [first m c t h0]; exact ⟨rfl, rfl⟩
  · rw [later m c t h0]; exact ⟨rfl, rfl⟩

theorem final_dz : (dats m 0 c).arrAt 7 cfg0.N = dzArr N :=
  (dats m 0 c).arrAt_eq_of_cover 7 _
    (fun t _ => by
      rw [Value.flushed7, (outs_tile m t).1]
      exact tile_eq m hN t)
    fun i => (covered i).imp fun t ht => ⟨flush0_7 t, in_slice ht⟩

theorem final_dzb : (dats m 0 c).arrAt 8 cfg0.N = dzArr N :=
  (dats m 0 c).arrAt_eq_of_cover 8 _
    (fun t _ => by
      rw [Value.flushed8, (outs_tile m t).2]
      exact tile_eq m hN t)
    fun i => (covered i).imp fun t ht => ⟨flush0_8 t, in_slice ht⟩

/-- The last point writes the two accumulated gradients back. -/
theorem final_dg : (dats m 0 c).arrAt 9 cfg0.N = dgArr N :=
  (dats m 0 c).arrAt_eq_of_cover 9 _
    (fun t hf => by
      have h15 : t.val = 15 := by have := (flush0_9 t).mp hf; have := t.isLt.trans_eq N_0; omega
      rw [Value.flushed9]
      funext j
      rw [View.read_apply]
      show ((outsAt0 m c t.val t.isLt).2.2.1 : S1x1024.Idx → EReal) j = dgArr N _
      obtain ⟨r, k, rfl⟩ := exists_ix2 j
      obtain rfl : r = 0 := Subsingleton.elim _ _
      obtain ⟨n, hn⟩ := t
      obtain rfl : n = 15 := h15
      rw [show ((cfg0.win 9).blk ⟨15, hn⟩).view.emb (ix2 0 k) = (ix2 0 k : S1x1024.Idx) from place_row ⟨15, hn⟩ k, dg_after m hN k 15 hn]
      rfl)
    fun i => ⟨t0_15, (flush0_9 _).mpr rfl, in_slice (covered_row i)⟩

theorem final_db : (dats m 0 c).arrAt 10 cfg0.N = dbArr N :=
  (dats m 0 c).arrAt_eq_of_cover 10 _
    (fun t hf => by
      have h15 : t.val = 15 := by have := (flush0_10 t).mp hf; have := t.isLt.trans_eq N_0; omega
      rw [Value.flushed10]
      funext j
      rw [View.read_apply]
      show ((outsAt0 m c t.val t.isLt).2.2.2 : S1x1024.Idx → EReal) j = dbArr N _
      obtain ⟨r, k, rfl⟩ := exists_ix2 j
      obtain rfl : r = 0 := Subsingleton.elim _ _
      obtain ⟨n, hn⟩ := t
      obtain rfl : n = 15 := h15
      rw [show ((cfg0.win 10).blk ⟨15, hn⟩).view.emb (ix2 0 k) = (ix2 0 k : S1x1024.Idx) from place_row ⟨15, hn⟩ k, db_after m hN k 15 hn]
      rfl)
    fun i => ⟨t0_15, (flush0_10 _).mpr rfl, in_slice (covered_row i)⟩

end Arrays

/-! ## The reference -/

section Reference

open Cert.DxFfnRefIdeal.Read

variable {a b : S4096x3072.Idx → EReal} {u v : S1024x3072.Idx → EReal} {y x h : S4096x1024.Idx → EReal} {g : S1024.Idx → EReal} (hN : Are a b u v y x h g N)
include hN

theorem ref_z : Rows (val_main_v7 (F := Ideal) x h) N.z := by
  intro p k
  pointwise [val_main_v7, val_main_v6, val_main_v5, val_main_cst_0]
  rw [hN.x, hN.h, word_scale, ← EReal.coe_mul, ← EReal.coe_add]
  rfl

theorem ref_dev (p : Fin 4096) (k : Fin 1024) :
    val_main_v22 (F := Ideal) x h (ix2 p k) = ((dev (N.z p.val) k : ℝ) : EReal) := by
  pointwise [val_main_v22, val_main_v21, val_main_v11, val_main_v10, val_main_v9, val_main_v8, val_main_cst_1, val_main_cst_2]
  simp only [ref_z hN p]
  exact dev_coe _ _

theorem ref_dev' (p : Fin 4096) (k : Fin 1024) :
    val_main_v13 (F := Ideal) x h (ix2 p k) = ((dev (N.z p.val) k : ℝ) : EReal) := ref_dev hN p k

theorem ref_var (p : Fin 4096) (j : Fin 1) :
    val_main_v24 (F := Ideal) x h (ix2 p j) = ((var (N.z p.val) + eps : ℝ) : EReal) := by
  pointwise [val_main_v24, val_main_v23, val_main_v20, val_main_v19, val_main_v18, val_main_v17, val_main_v14, val_main_cst_4,
    val_main_cst_5, val_main_cst_6]
  simp only [ref_dev' hN p]
  exact var_coe _

theorem ref_inv (p : Fin 4096) (j : Fin 1) :
    val_main_v25 (F := Ideal) x h (ix2 p j) = ((inv (N.z p.val) : ℝ) : EReal) := by
  pointwise [val_main_v25]
  rw [ref_var hN, inv_coe]

theorem ref_slope (p : Fin 4096) (j : Fin 1) :
    val_main_v28 (F := Ideal) x h (ix2 p j) = ((slope (N.z p.val) : ℝ) : EReal) := by
  pointwise [val_main_v28, val_main_v27, val_main_v26, val_main_cst_7]
  rw [ref_var hN, ref_inv hN, slope_coe]

theorem ref_xhat (p : Fin 4096) (k : Fin 1024) :
    val_main_v30 (F := Ideal) x h (ix2 p k) = ((xhat (N.z p.val) k : ℝ) : EReal) := by
  pointwise [val_main_v30, val_main_v29]
  rw [ref_dev hN, ref_inv hN, ← EReal.coe_mul]
  rfl

theorem ref_gain (k : Fin 1024) : val_main_v31 (F := Ideal) g (ix2 0 k) = ((N.G k : ℝ) : EReal) := by
  pointwise [val_main_v31]
  exact hN.g k

/-- The gradient that reaches the norm. -/
theorem ref_fed : Rows (val_main_v46 (F := Ideal) a b u v y) N.d := by
  intro p k
  pointwise [val_main_v46, val_main_v45, val_main_v44, val_main_v43, val_main_v42, val_main_v41, val_main_v0, val_main_v1, val_main_v2,
    val_main_v3, val_main_cst_9]
  simp only [hN.a p, hN.b p, hN.u k, hN.v k, hN.y p]
  rw [dot_coe, dot_coe, word_scale, ← EReal.coe_mul, ← EReal.coe_add, ← EReal.coe_add]
  refine congrArg _ ?_
  show _ = _ + _ + _
  ring

/-- The derivative of the rows. -/
theorem ref_dz : val_main_v79 (F := Ideal) a b u v y x h g = dzArr N := by
  funext i
  obtain ⟨p, k, rfl⟩ := exists_ix2 i
  pointwise [val_main_v16, val_main_v15, val_main_v53, val_main_v54, val_main_v56, val_main_v57, val_main_v58, val_main_v59, val_main_v60,
    val_main_v61, val_main_v62, val_main_v63, val_main_v64, val_main_v65, val_main_v66, val_main_v67, val_main_v68, val_main_v69, val_main_v70,
    val_main_v71, val_main_v72, val_main_v73, val_main_v74, val_main_v75, val_main_v76, val_main_v77, val_main_v78, val_main_v79,
    val_main_cst_3, val_main_cst_14, val_main_cst_15, val_main_cst_16, val_main_cst_17, val_main_cst_18, val_main_cst_19, val_main_cst_20]
  simp only [ref_dev hN, ref_dev' hN, ref_inv hN, ref_slope hN, ref_gain hN, ref_fed hN p]
  simp only [Fin.sum_univ_one]
  exact plain_coe _ _ _ _

/-- The gradients of gain and shift. -/
theorem ref_dg : val_main_v81 (F := Ideal) a b u v y x h = dgArr N := by
  funext i
  obtain ⟨p, k, rfl⟩ := exists_ix2 i
  pointwise [val_main_v81, val_main_v55, val_main_v50, val_main_v51, val_main_v52, val_main_cst_12, val_main_cst_13]
  simp only [ref_xhat hN, ref_fed hN _ k, Fin.sum_univ_one, ← EReal.coe_mul]
  rw [← coe_sum]
  show _ = ((gainSum N.z N.d 4096 k : ℝ) : EReal)
  unfold gainSum
  rw [Finset.sum_range]
  exact congrArg _ (Finset.sum_congr rfl fun _ _ => mul_comm _ _)

theorem ref_db : val_main_v82 (F := Ideal) a b u v y = dbArr N := by
  funext i
  obtain ⟨p, k, rfl⟩ := exists_ix2 i
  pointwise [val_main_v82, val_main_v49, val_main_v48, val_main_v47, val_main_cst_10, val_main_cst_11]
  simp only [ref_fed hN _ k, Fin.sum_univ_one]
  rw [← coe_sum]
  show _ = ((shiftSum N.d 4096 k : ℝ) : EReal)
  unfold shiftSum
  rw [Finset.sum_range]

end Reference

/-! ## The claim -/

/-- The shapes' facts of the predicate. -/
theorem pre_facts : Cert.Pre_finite_ffn.Facts where
  bitsLt_bf16_f32 := by decide
  bcast_S_S4096x3072 := by decide
  bcast_S_S1024x3072 := by decide
  bcast_S_S4096x1024 := by decide
  bcast_S_S1024 := by decide

/-- The numbers of core `c`'s arguments. -/
def nums (c : Dev nD) : Nums :=
  ⟨rows (argA m c), rows (argB m c), rows (argU m c), rows (argV m c), rows (argY m c), rows (argX m c), rows (argH m c),
    fun k => (argG m c (ix1 k)).toReal⟩

/-- Finite arguments are numbers. -/
theorem holds_of_pre (c : Dev nD) (hP : Cert.Pre_DxFfnIdeal_finite_ffn (hPre_finite_ffn := pre_facts) m) : Holds m c (nums m c) := by
  obtain ⟨h0, h1, h2, h3, h4, h5, h6, h7⟩ := hP c
  exact ⟨rows_of _ fun i => number_of_lt (congrFun h0 i), rows_of _ fun i => number_of_lt (congrFun h1 i),
    rows_of _ fun i => number_of_lt (congrFun h2 i), rows_of _ fun i => number_of_lt (congrFun h3 i),
    rows_of _ fun i => number_of_lt (congrFun h4 i), rows_of _ fun i => number_of_lt (congrFun h5 i),
    rows_of _ fun i => number_of_lt (congrFun h6 i), fun k => number_of_lt (congrFun h7 (ix1 k))⟩

/-- The kernel and the derivative of the plainly written lines end with equal results. -/
theorem algebraic : Cert.algebraic_DxFfnIdeal_DxFfnRefIdeal_pre_finite_ffn (hPre_finite_ffn := pre_facts) := fun m ρ m' ρ' hP hag =>
  ⟨fun c => dzArr (nums m c), fun c => dzArr (nums m c), fun c => dgArr (nums m c), fun c => dbArr (nums m c),
    (θ_run defs _ _).mono (fun _ h c => ⟨(h c).1.trans (final_dz m (holds_of_pre m c hP)), (h c).2.1.trans (final_dzb m (holds_of_pre m c hP)),
      (h c).2.2.1.trans (final_dg m (holds_of_pre m c hP)), (h c).2.2.2.1.trans (final_db m (holds_of_pre m c hP)), (h c).2.2.2.2⟩)
      (Value.run_blocks m ρ),
    (θ_run Cert.DxFfnRefIdeal.defs _ _).mono
      (fun _ h c => by
        obtain ⟨g0, g1, g2, g3, g4, g5, g6, g7⟩ := hag c
        exact ⟨(h c).1.trans ((Cert.DxFfnRefIdeal.Read.val_main_v79_eq m' c).trans
            (by rw [g0, g1, g2, g3, g4, g5, g6, g7]; exact ref_dz (holds_of_pre m c hP))),
          (h c).2.1.trans ((Cert.DxFfnRefIdeal.Read.val_main_v80_eq m' c).trans
            (by rw [g0, g1, g2, g3, g4, g5, g6, g7]; exact ref_dz (holds_of_pre m c hP))),
          (h c).2.2.1.trans (by rw [g0, g1, g2, g3, g4, g5, g6]; exact ref_dg (holds_of_pre m c hP)),
          (h c).2.2.2.1.trans (by rw [g0, g1, g2, g3, g4]; exact ref_db (holds_of_pre m c hP)), (h c).2.2.2.2⟩)
      (Cert.DxFfnRefIdeal.Value.run (F := Ideal) m' ρ')⟩

end Cert.DxFfnValue

end
-- ==== Proof.FfnMidValue.lean ====
/- The gradient through the gate of a feed-forward layer: the product with the transposed second weight, halved, and the
   gate's derivative, in sixteen blocks of three column pieces each; against the derivative of the plainly written lines. -/
module

public import proofs.«01_k».proof.Defs
public import proofs.«01_k».proof.Proof.LnMath
public import proofs.«01_k».proof.Proof.Gen.FfnMidIdeal.Value
public import proofs.«01_k».proof.Proof.Gen.FfnMidRefIdeal.Read

@[expose] public section

set_option maxRecDepth 16384

noncomputable section

namespace Cert.FfnMidValue

open Cert.Reals Cert.LnMath Cert.FfnMidIdeal Cert.FfnMidIdeal.Gen Idealize.ShloMosaic Idealize.ShloMosaic.TcCoe Idealize.SL.Sem
open Idealize.ShloMosaic.Pipeline (Dat)

/-! ## The gate at numbers -/

/-- The logistic function. -/
def lgs (h : ℝ) : ℝ := (1 + Real.exp (-h))⁻¹

/-- The halved gradient that reaches the gate: a row of the incoming gradient with a row of the weight. -/
def back (z w : Fin 1024 → ℝ) : ℝ := 1 / 2 * ∑ k, z k * w k

/-- The gradient of the gate's argument, and of the factor it scales. -/
def dgate (d h u : ℝ) : ℝ := d * u * (lgs h + h * lgs h * (1 - lgs h))
def dscaled (d h : ℝ) : ℝ := d * (h * lgs h)

theorem word_half : Ideal.ofBits .f32 0x3F000000#32 = ((1 / 2 : ℝ) : EReal) := by
  simp [Ideal.ofBits, Ideal.ieee, -EReal.coe_mul]; norm_num

/-! ## One column piece -/

section Piece

variable {z : Vec Ideal S1024x1024 .bf16} {w : Vec Ideal S256x1024 .bf16} {h u : Vec Ideal S1024x256 .bf16}

theorem pay2_coe {r : Fin 1024} {k : Fin 256} {zr wk : Fin 1024 → ℝ} (hz : ∀ l, z (ix2 r l) = ((zr l : ℝ) : EReal))
    (hw : ∀ l, w (ix2 k l) = ((wk l : ℝ) : EReal)) : k0_pay2 z w (ix2 r k) = ((back zr wk : ℝ) : EReal) := by
  pointwise [k0_pay2]
  simp only [hz, hw]
  rw [dot_coe, word_half, ← EReal.coe_mul]
  rfl

theorem pay4_coe {r : Fin 1024} {k : Fin 256} {y : ℝ} (hh : h (ix2 r k) = ((y : ℝ) : EReal)) :
    k0_pay4 h (ix2 r k) = ((lgs y : ℝ) : EReal) := by
  pointwise [k0_pay4, k0_pay3]
  rw [hh, Ideal.logistic_coe]
  rfl

theorem pay5_coe {r : Fin 1024} {k : Fin 256} {y : ℝ} (hh : h (ix2 r k) = ((y : ℝ) : EReal)) :
    k0_pay5 h (ix2 r k) = ((y * lgs y : ℝ) : EReal) := by
  pointwise [k0_pay5, k0_pay3]
  rw [pay4_coe hh, hh, ← EReal.coe_mul]

theorem pay6_coe {r : Fin 1024} {k : Fin 256} {zr wk : Fin 1024 → ℝ} {y x : ℝ} (hz : ∀ l, z (ix2 r l) = ((zr l : ℝ) : EReal))
    (hw : ∀ l, w (ix2 k l) = ((wk l : ℝ) : EReal)) (hh : h (ix2 r k) = ((y : ℝ) : EReal)) (hu : u (ix2 r k) = ((x : ℝ) : EReal)) :
    k0_pay6 z w h u (ix2 r k) = ((dgate (back zr wk) y x : ℝ) : EReal) := by
  pointwise [k0_pay6]
  rw [pay2_coe hz hw, pay4_coe hh, pay5_coe hh, hu, ← EReal.coe_one, ← EReal.coe_mul, ← EReal.coe_sub, ← EReal.coe_mul, ← EReal.coe_add,
    ← EReal.coe_mul]
  rfl

theorem pay7_coe {r : Fin 1024} {k : Fin 256} {zr wk : Fin 1024 → ℝ} {y : ℝ} (hz : ∀ l, z (ix2 r l) = ((zr l : ℝ) : EReal))
    (hw : ∀ l, w (ix2 k l) = ((wk l : ℝ) : EReal)) (hh : h (ix2 r k) = ((y : ℝ) : EReal)) :
    k0_pay7 z w h (ix2 r k) = ((dscaled (back zr wk) y : ℝ) : EReal) := by
  pointwise [k0_pay7]
  rw [pay2_coe hz hw, pay5_coe hh, ← EReal.coe_mul]
  rfl

end Piece

/-! ## One block -/

section Body

variable (c : Dev nD) (i : grid0.Coords) (a2 : Memref sig .tc .vmem S1024x1024 .bf16) (h2 : a2.IsWhole)
  (a3 : Memref sig .tc .vmem S768x1024 .bf16) (h3 : a3.IsWhole) (a4 : Memref sig .tc .vmem S1024x768 .bf16) (h4 : a4.IsWhole)
  (a5 : Memref sig .tc .vmem S1024x768 .bf16) (h5 : a5.IsWhole) (a7 : Memref sig .tc .vmem S1024x768 .bf16) (h7 : a7.IsWhole)
  (a8 : Memref sig .tc .vmem S1024x768 .bf16) (h8 : a8.IsWhole)
  {x0 : Vec Ideal S1024x1024 .bf16} {x1 : Vec Ideal S768x1024 .bf16} {x2 x3 : Vec Ideal S1024x768 .bf16}
  {Z W : ℕ → Fin 1024 → ℝ} {H U : ℕ → Fin 768 → ℝ}

/-- Piece `q` of a block's rows, and of its columns. -/
theorem piece_rows (hx : Rows x1 W) (q : ℕ) (hq : q + 256 ≤ 768) (inb : ∀ a, ![q, 0] a + S256x1024.size a ≤ S768x1024.size a) (k : Fin 256)
    (l : Fin 1024) : View.ld (Val := Elt Ideal) (e' := .bf16) x1 (Rect.unit (s := S768x1024) ![q, 0] S256x1024.size inb) (ix2 k l) = ((W (q + k.val) l : ℝ) : EReal) := by
  rw [View.ld_unit_apply_of (S := S768x1024) (e := .bf16) x1 _ _ inb (ix2 k l) (ix2 ⟨q + k.val, by omega⟩ l) fun a => by
    match a with
    | ⟨0, _⟩ => rfl
    | ⟨1, _⟩ => show l.val = 0 + l.val; omega]
  exact hx _ _

theorem piece_cols {x : Vec Ideal S1024x768 .bf16} (hx : Rows x H) (q : ℕ) (hq : q + 256 ≤ 768)
    (inb : ∀ a, ![0, q] a + S1024x256.size a ≤ S1024x768.size a) (r : Fin 1024)
    (k : Fin 256) : View.ld (Val := Elt Ideal) (e' := .bf16) x (Rect.unit (s := S1024x768) ![0, q] S1024x256.size inb) (ix2 r k) = ((H r.val ⟨q + k.val, by omega⟩ : ℝ) : EReal) := by
  rw [View.ld_unit_apply_of (S := S1024x768) (e := .bf16) x _ _ inb (ix2 r k) (ix2 r ⟨q + k.val, by omega⟩) fun a => by
    match a with
    | ⟨0, _⟩ => show r.val = 0 + r.val; omega
    | ⟨1, _⟩ => rfl]
  exact hx _ _

/-- The entry of a block that an entry of column piece `q` stands for. -/
theorem at_piece {r : Fin 1024} {j : Fin 768} {q : ℕ} {x : S1024x256.Idx}
    (hx : ∀ a : Fin 2, ((ix2 r j : S1024x768.Idx) a).val = ![0, q] a + (x a).val) :
    ∃ (k : Fin 256) (h : q + k.val < 768), x = ix2 r k ∧ j = ⟨q + k.val, h⟩ := by
  obtain ⟨r', k, rfl⟩ := exists_ix2 x
  obtain rfl : r = r' := Fin.ext ((hx 0).trans (Nat.zero_add _))
  have h : j.val = q + k.val := hx 1
  exact ⟨k, h ▸ j.isLt, rfl, Fin.ext h⟩

/-- The gradient of the gate's argument, over a block: its three column pieces. -/
theorem dh_block (hz : Rows x0 Z) (hw : Rows x1 W) (hh : Rows x2 H) (hu : Rows x3 U) :
    Rows (out0_A_4 c i a2 h2 a3 h3 a4 h4 a5 h5 a7 h7 a8 h8 x0 x1 x2 x3 : S1024x768.Idx → EReal)
      fun r j => dgate (back (Z r) (W j.val)) (H r j) (U r j) := by
  intro r j
  unfold out0_A_4
  rw [View.read_writes_eq_canon _ _ _ (fun _ => cover0_A_4 ..)]
  refine View.canon_eq_of_allAt _ _ _ (cover0_A_4 c i a2 h2 a3 h3 a4 h4 a5 h5 a7 h7 a8 h8 x0 x1 x2 x3 _) ?_
  unfold kernelRun0_A
  dsimp only
  sl_unfold_words
  simp only [View.readAt_eq_ld, h2.read_unread, h3.read_unread, h4.read_unread, h5.read_unread, View.ld_unit_zero (S := S1024x1024) zero_off]
  refine View.allAt_cons_unit _ _ _ _ _ ?_ (View.allAt_cons_unit _ _ _ _ _ ?_ (View.allAt_cons_unit _ _ _ _ _ ?_ (View.allAt_nil _ _)))
  all_goals
    intro x hx
    obtain ⟨k, _, rfl, rfl⟩ := at_piece hx
    exact pay6_coe (hz r) (piece_rows hw _ (by omega) _ k) (piece_cols hh _ (by omega) _ r k) (piece_cols hu _ (by omega) _ r k)

/-- The gradient of the scaled factor, over a block. -/
theorem du_block (hz : Rows x0 Z) (hw : Rows x1 W) (hh : Rows x2 H) :
    Rows (out0_A_5 c i a2 h2 a3 h3 a4 h4 a5 h5 a7 h7 a8 h8 x0 x1 x2 x3 : S1024x768.Idx → EReal)
      fun r j => dscaled (back (Z r) (W j.val)) (H r j) := by
  intro r j
  unfold out0_A_5
  rw [View.read_writes_eq_canon _ _ _ (fun _ => cover0_A_5 ..)]
  refine View.canon_eq_of_allAt _ _ _ (cover0_A_5 c i a2 h2 a3 h3 a4 h4 a5 h5 a7 h7 a8 h8 x0 x1 x2 x3 _) ?_
  unfold kernelRun0_A
  dsimp only
  sl_unfold_words
  simp only [View.readAt_eq_ld, h2.read_unread, h3.read_unread, h4.read_unread, h5.read_unread, View.ld_unit_zero (S := S1024x1024) zero_off]
  refine View.allAt_cons_unit _ _ _ _ _ ?_ (View.allAt_cons_unit _ _ _ _ _ ?_ (View.allAt_cons_unit _ _ _ _ _ ?_ (View.allAt_nil _ _)))
  all_goals
    intro x hx
    obtain ⟨k, _, rfl, rfl⟩ := at_piece hx
    exact pay7_coe (hz r) (piece_rows hw _ (by omega) _ k) (piece_cols hh _ (by omega) _ r k)

end Body

variable (m : (ℓ : Loc nD τ sig) → Buf (Elt Ideal) ℓ) (ρ : Dev nD → PrngReg)

/-- The launched arguments, and the two products the host prepares of them. -/
abbrev argX (c : Dev nD) : S4096x1024.Idx → EReal := m ((c : Thread nD τ).loc main_arg0)
abbrev argG (c : Dev nD) : S1024x3072.Idx → EReal := m ((c : Thread nD τ).loc main_arg1)
abbrev argU (c : Dev nD) : S1024x3072.Idx → EReal := m ((c : Thread nD τ).loc main_arg2)
abbrev argD (c : Dev nD) : S3072x1024.Idx → EReal := m ((c : Thread nD τ).loc main_arg3)
abbrev argZ (c : Dev nD) : S4096x1024.Idx → EReal := m ((c : Thread nD τ).loc main_arg4)
abbrev hArr (c : Dev nD) : S4096x3072.Idx → EReal := V m c main_v1
abbrev uArr (c : Dev nD) : S4096x3072.Idx → EReal := V m c main_v3

theorem hArr_apply (c : Dev nD) (p : Fin 4096) (j : Fin 3072) : hArr m c (ix2 p j) = ∑ k : Fin 1024, argX m c (ix2 p k) * argG m c (ix2 k j) := by
  after_reads_at

theorem uArr_apply (c : Dev nD) (p : Fin 4096) (j : Fin 3072) : uArr m c (ix2 p j) = ∑ k : Fin 1024, argX m c (ix2 p k) * argU m c (ix2 k j) := by
  after_reads_at

/-- The numbers of the arguments: the layer's input, its three weights, and the incoming gradient. -/
structure Nums where
  X : ℕ → Fin 1024 → ℝ
  G : ℕ → Fin 3072 → ℝ
  U : ℕ → Fin 3072 → ℝ
  D : ℕ → Fin 1024 → ℝ
  Z : ℕ → Fin 1024 → ℝ

/-- The gate's argument, and the factor it scales. -/
def Nums.h (N : Nums) (p : ℕ) (j : Fin 3072) : ℝ := ∑ k, N.X p k * N.G k.val j
def Nums.u (N : Nums) (p : ℕ) (j : Fin 3072) : ℝ := ∑ k, N.X p k * N.U k.val j

/-- The arguments are the numbers `N`. -/
structure Are (x : S4096x1024.Idx → EReal) (g u : S1024x3072.Idx → EReal) (d : S3072x1024.Idx → EReal) (z : S4096x1024.Idx → EReal)
    (N : Nums) : Prop where
  x : Rows x N.X
  g : Rows g N.G
  u : Rows u N.U
  d : Rows d N.D
  z : Rows z N.Z

/-- Core `c`'s arguments are the numbers `N`. -/
abbrev Holds (c : Dev nD) (N : Nums) : Prop := Are (argX m c) (argG m c) (argU m c) (argD m c) (argZ m c) N

variable {N : Nums}

theorem h_rows {c : Dev nD} (hN : Holds m c N) : Rows (hArr m c) N.h := by
  intro p j
  rw [hArr_apply]
  simp only [hN.x p, hN.g _ j]
  exact dot_coe _ _

theorem u_rows {c : Dev nD} (hN : Holds m c N) : Rows (uArr m c) N.u := by
  intro p j
  rw [uArr_apply]
  simp only [hN.x p, hN.u _ j]
  exact dot_coe _ _

/-- Where the windows stand: rows by the inner coordinate, columns by the outer. -/
theorem index_in : ∀ t : Fin grid0.N, (win0_0.index t 0 = t.val % 4 ∧ win0_0.index t 1 = 0) ∧ win0_1.index t 0 = t.val / 4 ∧ win0_1.index t 1 = 0 := by decide +kernel
theorem index_out : ∀ t : Fin grid0.N, win0_4.index t 0 = t.val % 4 ∧ win0_4.index t 1 = t.val / 4 := by decide +kernel

/-- Row `r` and column `k` of block `t`. -/
def rowOf (t : Fin cfg0.N) (r : Fin 1024) : Fin 4096 := ⟨1024 * (t.val % 4) + r.val, by omega⟩
def colOf (t : Fin cfg0.N) (k : Fin 768) : Fin 3072 := ⟨768 * (t.val / 4) + k.val, by have := t.isLt.trans_eq N_0; omega⟩

/-- The place of entry `(r, k)` of block `t`, for the gate's windows and the results'. -/
theorem place (t : Fin cfg0.N) (r : Fin 1024) (k : Fin 768) :
    ((cfg0.win 4).blk t).view.emb (ix2 r k) = (ix2 (rowOf t r) (colOf t k) : S4096x3072.Idx) :=
  idx2 (tile_at (index_out t).1 1024 r) (tile_at (index_out t).2 768 k)

/-- The blocks cover the array. -/
theorem places : ∀ a b : Fin 4, ∃ t : Fin grid0.N, win0_4.index t 0 = a.val ∧ win0_4.index t 1 = b.val := by decide +kernel
theorem covered : ∀ i : S4096x3072.Idx, ∃ t : Fin cfg0.N, i ∈ (win0_4.rect t).set :=
  blocks_cover 1024 768 rfl rfl win0_4.index places fun _ => ⟨_, rfl⟩

/-- The halved gradient at an entry of the gate, and the two results. -/
def Nums.d (N : Nums) (p : ℕ) (j : ℕ) : ℝ := back (N.Z p) (N.D j)
def dhArr (N : Nums) : S4096x3072.Idx → EReal := fun i => ((dgate (N.d (i 0).val (i 1).val) (N.h (i 0).val (i 1)) (N.u (i 0).val (i 1)) : ℝ) : EReal)
def duArr (N : Nums) : S4096x3072.Idx → EReal := fun i => ((dscaled (N.d (i 0).val (i 1).val) (N.h (i 0).val (i 1)) : ℝ) : EReal)

section Arrays

variable {c : Dev nD} (hN : Holds m c N)
include hN

theorem block_z (t : Fin cfg0.N) : Rows (iblk m c 0 t : S1024x1024.Idx → EReal) fun r => N.Z (1024 * (t.val % 4) + r) := fun r k =>
  (congrArg (V m c main_arg4) (a₂ := ix2 (rowOf t r) k) (idx2 (tile_at (index_in t).1.1 1024 r) (whole_at (index_in t).1.2 1024 k))).trans
    ((congrFun (V_main_arg4 m c) _).trans (hN.z _ _))

theorem block_d (t : Fin cfg0.N) : Rows (iblk m c 1 t : S768x1024.Idx → EReal) fun r => N.D (768 * (t.val / 4) + r) := fun r k =>
  (congrArg (V m c main_arg3) (a₂ := ix2 (colOf t r) k) (idx2 (tile_at (index_in t).2.1 768 r) (whole_at (index_in t).2.2 1024 k))).trans
    ((congrFun (V_main_arg3 m c) _).trans (hN.d _ _))

theorem block_h (t : Fin cfg0.N) : Rows (iblk m c 2 t : S1024x768.Idx → EReal) fun r k => N.h (1024 * (t.val % 4) + r) (colOf t k) := fun r k =>
  (congrArg (hArr m c) (place t r k)).trans (h_rows m hN _ _)

theorem block_u (t : Fin cfg0.N) : Rows (iblk m c 3 t : S1024x768.Idx → EReal) fun r k => N.u (1024 * (t.val % 4) + r) (colOf t k) := fun r k =>
  (congrArg (uArr m c) (place t r k)).trans (u_rows m hN _ _)

theorem final_dh : (dats m 0 c).arrAt 4 cfg0.N = dhArr N :=
  (dats m 0 c).arrAt_eq_of_cover 4 _
    (fun t _ => by
      rw [Value.flushed4_A]
      funext j
      obtain ⟨r, k, rfl⟩ := exists_ix2 j
      rw [View.read_apply, show ((cfg0.win 4).blk t).view.emb (ix2 r k) = (ix2 (rowOf t r) (colOf t k) : S4096x3072.Idx) from place t r k]
      exact dh_block c (grid0.coords t) _ _ _ _ _ _ _ _ _ _ _ _ (block_z m hN t) (block_d m hN t) (block_h m hN t) (block_u m hN t) r k)
    fun i => (covered i).imp fun t ht => ⟨flush0_4 t, in_slice ht⟩

theorem final_du : (dats m 0 c).arrAt 5 cfg0.N = duArr N :=
  (dats m 0 c).arrAt_eq_of_cover 5 _
    (fun t _ => by
      rw [Value.flushed5_A]
      funext j
      obtain ⟨r, k, rfl⟩ := exists_ix2 j
      rw [View.read_apply, show ((cfg0.win 5).blk t).view.emb (ix2 r k) = (ix2 (rowOf t r) (colOf t k) : S4096x3072.Idx) from place t r k]
      exact du_block c (grid0.coords t) _ _ _ _ _ _ _ _ _ _ _ _ (block_z m hN t) (block_d m hN t) (block_h m hN t) r k)
    fun i => (covered i).imp fun t ht => ⟨flush0_5 t, in_slice ht⟩

end Arrays

/-! ## The reference -/

section Reference

open Cert.FfnMidRefIdeal.Read

variable {x z : S4096x1024.Idx → EReal} {g u : S1024x3072.Idx → EReal} {d : S3072x1024.Idx → EReal} (hN : Are x g u d z N)
include hN

theorem ref_h : Rows (val_main_v5 (F := Ideal) x g) N.h := by
  intro p j
  pointwise [val_main_v5, val_main_v0, val_main_v1]
  simp only [hN.x p, hN.g _ j]
  exact dot_coe _ _

theorem ref_u : Rows (val_main_v6 (F := Ideal) x u) N.u := by
  intro p j
  pointwise [val_main_v6, val_main_v0, val_main_v2]
  simp only [hN.x p, hN.u _ j]
  exact dot_coe _ _

theorem ref_sig : Rows (val_main_v7_2 (F := Ideal) x g) fun p j => lgs (N.h p j) := by
  intro p j
  pointwise [val_main_v7_2, val_main_call0_v4, val_main_call0_cst_0, val_main_call0_v3, val_main_call0_v2, val_main_call0_cst, val_main_call0_v1,
    val_main_call0_v0]
  rw [ref_h hN, ← EReal.coe_one, ← EReal.coe_neg, Ideal.exp_coe, ← EReal.coe_add,
    Ideal.div_coe (by have := Real.exp_pos (-(N.h p.val j)); positivity), ← EReal.coe_mul]
  refine congrArg _ ?_
  unfold lgs
  rw [one_div, one_mul]

theorem ref_scaled : Rows (val_main_v7_0 (F := Ideal) x g) fun p j => N.h p j * lgs (N.h p j) := by
  intro p j
  pointwise [val_main_v7_0]
  rw [ref_h hN, ref_sig hN, ← EReal.coe_mul]

theorem ref_slope : Rows (val_main_v7_1 (F := Ideal) x g) fun p j => lgs (N.h p j) * (1 - lgs (N.h p j)) := by
  intro p j
  pointwise [val_main_v7_1, val_main_call0_v7, val_main_call0_v6, val_main_call0_cst_1]
  rw [ref_sig hN, ← EReal.coe_one, ← EReal.coe_sub, ← EReal.coe_mul]

theorem ref_back : Rows (val_main_v14 (F := Ideal) d z) fun p j => N.d p j.val := by
  intro p j
  pointwise [val_main_v14, val_main_v13, val_main_v12, val_main_cst_0, val_main_v4, val_main_v3]
  simp only [hN.z p, hN.d j, word_half, ← EReal.coe_mul]
  rw [← coe_sum]
  refine congrArg _ ?_
  show _ = 1 / 2 * _
  rw [Finset.mul_sum]
  exact Finset.sum_congr rfl fun _ _ => by ring

/-- The gradient of the gate's argument. -/
theorem ref_dh : val_main_v18 (F := Ideal) x g u d z = dhArr N := by
  funext i
  obtain ⟨p, j, rfl⟩ := exists_ix2 i
  pointwise [val_main_v18, val_main_v17, val_main_v16, val_main_call1_v0, val_main_call1_v1, val_main_call1_v2]
  rw [ref_h hN, ref_u hN, ref_sig hN, ref_slope hN, ref_back hN]
  simp only [← EReal.coe_mul, ← EReal.coe_add]
  refine congrArg _ ?_
  show _ = dgate (N.d p.val j.val) (N.h p.val j) (N.u p.val j)
  unfold dgate
  ring

/-- The gradient of the scaled factor. -/
theorem ref_du : val_main_v19 (F := Ideal) x g d z = duArr N := by
  funext i
  obtain ⟨p, j, rfl⟩ := exists_ix2 i
  pointwise [val_main_v19, val_main_v15]
  rw [ref_scaled hN, ref_back hN, ← EReal.coe_mul]
  refine congrArg _ ?_
  show _ = dscaled (N.d p.val j.val) (N.h p.val j)
  unfold dscaled
  ring

end Reference

/-! ## The claim -/

/-- The shapes' facts of the predicate. -/
theorem pre_facts : Cert.Pre_finite_mid.Facts where
  bitsLt_bf16_f32 := by decide
  bcast_S_S4096x1024 := by decide
  bcast_S_S1024x3072 := by decide
  bcast_S_S3072x1024 := by decide

/-- The numbers of core `c`'s arguments. -/
def nums (c : Dev nD) : Nums := ⟨rows (argX m c), rows (argG m c), rows (argU m c), rows (argD m c), rows (argZ m c)⟩

/-- Finite arguments are numbers. -/
theorem holds_of_pre (c : Dev nD) (hP : Cert.Pre_FfnMidIdeal_finite_mid (hPre_finite_mid := pre_facts) m) : Holds m c (nums m c) := by
  obtain ⟨h0, h1, h2, h3, h4⟩ := hP c
  exact ⟨rows_of _ fun i => number_of_lt (congrFun h0 i), rows_of _ fun i => number_of_lt (congrFun h1 i),
    rows_of _ fun i => number_of_lt (congrFun h2 i), rows_of _ fun i => number_of_lt (congrFun h3 i),
    rows_of _ fun i => number_of_lt (congrFun h4 i)⟩

/-- The kernel and the derivative of the plainly written lines end with equal results. -/
theorem algebraic : Cert.algebraic_FfnMidIdeal_FfnMidRefIdeal_pre_finite_mid (hPre_finite_mid := pre_facts) := fun m ρ m' ρ' hP hag =>
  ⟨fun c => dhArr (nums m c), fun c => duArr (nums m c),
    (θ_run defs _ _).mono (fun _ h c => ⟨(h c).1.trans (final_dh m (holds_of_pre m c hP)), (h c).2.1.trans (final_du m (holds_of_pre m c hP)),
      (h c).2.2⟩) (Value.run_blocks m ρ),
    (θ_run Cert.FfnMidRefIdeal.defs _ _).mono
      (fun _ h c => by
        obtain ⟨g0, g1, g2, g3, g4⟩ := hag c
        exact ⟨(h c).1.trans ((Cert.FfnMidRefIdeal.Read.val_main_v18_eq _ _ _ _ _).trans
            (by rw [g0, g1, g2, g3, g4]; exact ref_dh (holds_of_pre m c hP))),
          (h c).2.1.trans ((Cert.FfnMidRefIdeal.Read.val_main_v19_eq _ _ _ _).trans
            (by rw [g0, g1, g3, g4]; exact ref_du (holds_of_pre m c hP))), (h c).2.2⟩)
      (Cert.FfnMidRefIdeal.Value.run (F := Ideal) m' ρ')⟩

end Cert.FfnMidValue

end
-- ==== Proof.DxFirstValue.lean ====
/- The gradient through the first feed-forward layer's products, with no norm before it: two products with transposed weights and
   the scaled residual gradient, in sixteen tiles of rows; against the derivative of the plainly written lines. Both sides
   are the same three summands, so that no argument need be finite. -/
module

public import proofs.«01_k».proof.Defs
public import proofs.«01_k».proof.Proof.Reals
public import proofs.«01_k».proof.Proof.Gen.DxFirstIdeal.Value
public import proofs.«01_k».proof.Proof.Gen.DxFirstRefIdeal.Read

@[expose] public section

set_option maxRecDepth 16384

noncomputable section

namespace Cert.DxFirstValue

open Cert.Reals Cert.DxFirstIdeal Cert.DxFirstIdeal.Gen Idealize.ShloMosaic Idealize.ShloMosaic.TcCoe Idealize.SL.Sem
open Idealize.ShloMosaic.Pipeline (Dat)

/-- One entry of the result: two products with transposed weights, and the scaled residual gradient. -/
def entry (a b u v : Fin 3072 → EReal) (y : EReal) : EReal :=
  ∑ j, a j * u j + ∑ j, b j * v j + Ideal.ofBits .f32 0x3FD744FD#32 * y

/-- A tile's store, at an entry. -/
theorem tile_apply (x0 x1 : Vec Ideal S256x3072 .bf16) (x2 x3 : Vec Ideal S1024x3072 .bf16) (x4 : Vec Ideal S256x1024 .f32) (r : Fin 256)
    (k : Fin 1024) : out0_5 x0 x1 x2 x3 x4 (ix2 r k) =
      entry (fun j => x0 (ix2 r j)) (fun j => x1 (ix2 r j)) (fun j => x2 (ix2 k j)) (fun j => x3 (ix2 k j)) (x4 (ix2 r k)) := by
  unfold out0_5
  rw [View.canon_unit_zero (S := S256x1024) zero_off]
  simp only [View.ld_unit_zero (S := S256x3072) zero_off, View.ld_unit_zero (S := S1024x3072) zero_off, View.ld_unit_zero (S := S256x1024) zero_off]
  pointwise [k0_pay1]
  rfl

variable (m : (ℓ : Loc nD τ sig) → Buf (Elt Ideal) ℓ) (ρ : Dev nD → PrngReg)

/-- The launched arguments. -/
abbrev argA (c : Dev nD) : S4096x3072.Idx → EReal := m ((c : Thread nD τ).loc main_arg0)
abbrev argB (c : Dev nD) : S4096x3072.Idx → EReal := m ((c : Thread nD τ).loc main_arg1)
abbrev argU (c : Dev nD) : S1024x3072.Idx → EReal := m ((c : Thread nD τ).loc main_arg2)
abbrev argV (c : Dev nD) : S1024x3072.Idx → EReal := m ((c : Thread nD τ).loc main_arg3)
abbrev argY (c : Dev nD) : S4096x1024.Idx → EReal := m ((c : Thread nD τ).loc main_arg4)

/-- The result of five arrays. -/
def result (a b : S4096x3072.Idx → EReal) (u v : S1024x3072.Idx → EReal) (y : S4096x1024.Idx → EReal) : S4096x1024.Idx → EReal := fun i =>
  entry (fun j => a (ix2 (i 0) j)) (fun j => b (ix2 (i 0) j)) (fun j => u (ix2 (i 1) j)) (fun j => v (ix2 (i 1) j)) (y (ix2 (i 0) (i 1)))

/-- Where the windows of rows and the windows of weights stand. -/
theorem index_0 : ∀ t : Fin grid0.N, win0_0.index t 0 = t.val ∧ win0_0.index t 1 = 0 := by decide +kernel
theorem index_2 : ∀ t : Fin grid0.N, win0_2.index t 0 = 0 ∧ win0_2.index t 1 = 0 := by decide +kernel

/-- Row `r` of tile `t`. -/
def rowOf (t : Fin cfg0.N) (r : Fin 256) : Fin 4096 := ⟨256 * t.val + r.val, by have := t.isLt.trans_eq N_0; omega⟩

theorem block_a (c : Dev nD) (t : Fin cfg0.N) (r : Fin 256) (k : Fin 3072) :
    (iblk m c 0 t : S256x3072.Idx → EReal) (ix2 r k) = argA m c (ix2 (rowOf t r) k) :=
  congrArg (argA m c) (idx2 (tile_at (index_0 t).1 256 r) (whole_at (index_0 t).2 3072 k))

theorem block_b (c : Dev nD) (t : Fin cfg0.N) (r : Fin 256) (k : Fin 3072) :
    (iblk m c 1 t : S256x3072.Idx → EReal) (ix2 r k) = argB m c (ix2 (rowOf t r) k) :=
  congrArg (argB m c) (idx2 (tile_at (index_0 t).1 256 r) (whole_at (index_0 t).2 3072 k))

/-- The weights are held whole. -/
theorem block_u (c : Dev nD) (t : Fin cfg0.N) (r : Fin 1024) (k : Fin 3072) :
    (iblk m c 2 t : S1024x3072.Idx → EReal) (ix2 r k) = argU m c (ix2 r k) :=
  congrArg (argU m c) (idx2 (whole_at (index_2 t).1 1024 r) (whole_at (index_2 t).2 3072 k))

theorem block_v (c : Dev nD) (t : Fin cfg0.N) (r : Fin 1024) (k : Fin 3072) :
    (iblk m c 3 t : S1024x3072.Idx → EReal) (ix2 r k) = argV m c (ix2 r k) :=
  congrArg (argV m c) (idx2 (whole_at (index_2 t).1 1024 r) (whole_at (index_2 t).2 3072 k))

theorem block_y (c : Dev nD) (t : Fin cfg0.N) (r : Fin 256) (k : Fin 1024) :
    (iblk m c 4 t : S256x1024.Idx → EReal) (ix2 r k) = argY m c (ix2 (rowOf t r) k) :=
  congrArg (argY m c) (idx2 (tile_at (index_0 t).1 256 r) (whole_at (index_0 t).2 1024 k))

/-- Core `c`'s result. -/
abbrev resultAt (c : Dev nD) : S4096x1024.Idx → EReal := result (argA m c) (argB m c) (argU m c) (argV m c) (argY m c)

/-- What a point writes back is its tile of the result. -/
theorem flushed_dz (c : Dev nD) (t : Fin cfg0.N) (_ : (cfg0.win 5).flush t = true) :
    (dats m 0 c).flushed 5 t = ((cfg0.win 5).blk t).view.read (Elt Ideal) (resultAt m c) := by
  rw [Value.flushed5]
  funext j
  obtain ⟨r, k, rfl⟩ := exists_ix2 j
  refine (tile_apply (iblk m c 0 t) (iblk m c 1 t) (iblk m c 2 t) (iblk m c 3 t) (iblk m c 4 t) r k).trans ?_
  simp only [block_a, block_b, block_u, block_v, block_y]
  exact (congrArg (resultAt m c) (idx2 (tile_at (index_0 t).1 256 r) (whole_at (index_0 t).2 1024 k) :
    ((cfg0.win 5).blk t).view.emb (ix2 r k) = (ix2 (rowOf t r) k : S4096x1024.Idx))).symm

/-- The tiles cover the array. -/
theorem final_dz (c : Dev nD) : (dats m 0 c).arrAt 5 cfg0.N = resultAt m c :=
  (dats m 0 c).arrAt_eq_of_cover 5 (resultAt m c) (flushed_dz m c) fun i =>
    (tiles_cover 256 rfl win0_5.index index_0 (fun _ => ⟨_, rfl⟩) i).imp fun t ht => ⟨flush0_5 t, in_slice ht⟩

section Reference

open Cert.DxFirstRefIdeal.Read

/-- The derivative of the plainly written lines has the same three summands. -/
theorem ref_dz (a b : S4096x3072.Idx → EReal) (u v : S1024x3072.Idx → EReal) (y : S4096x1024.Idx → EReal) :
    val_main_v14 (F := Ideal) a b u v y = result a b u v y := by
  funext i
  obtain ⟨p, k, rfl⟩ := exists_ix2 i
  pointwise [val_main_v14, val_main_v13, val_main_v12, val_main_v11, val_main_v10, val_main_v9, val_main_v8, val_main_v7, val_main_v0,
    val_main_v1, val_main_cst_1]
  show _ = _ + _ + _
  rw [add_assoc, add_comm, add_comm (∑ j : Fin 3072, b (ix2 p j) * v (ix2 k j))]
  rfl

end Reference

/-- The kernel and the derivative of the plainly written lines end with equal results. -/
theorem algebraic : Cert.algebraic_DxFirstIdeal_DxFirstRefIdeal := fun m ρ m' ρ' _ hag =>
  ⟨fun c => resultAt m c,
    (θ_run defs _ _).mono (fun _ h c => ⟨(h c).1.trans (final_dz m c), (h c).2⟩) (Value.run_blocks m ρ),
    (θ_run Cert.DxFirstRefIdeal.defs _ _).mono
      (fun _ h c => by
        obtain ⟨g0, g1, g2, g3, g4⟩ := hag c
        exact ⟨(h c).1.trans ((Cert.DxFirstRefIdeal.Read.val_main_v14_eq _ _ _ _ _).trans
            (by rw [g0, g1, g2, g3, g4]; exact ref_dz _ _ _ _ _)), (h c).2⟩)
      (Cert.DxFirstRefIdeal.Value.run (F := Ideal) m' ρ')⟩

end Cert.DxFirstValue

end
-- ==== Proof.AttnBOffsets.lean ====
module

public import proofs.«01_k».proof.Proof.Gen.AttnBIdeal.Skeleton
public import Idealize.ShloMosaic.Lib.Exec

/-! The offsets, the trip counts and the conditions of the stick-breaking backward kernel, as numbers of the query
block `i 2` and of the trip. -/

@[expose] public section

namespace Cert.AttnBRun

open Idealize.ShloMosaic Cert.AttnBIdeal Cert.AttnBIdeal.Gen

theorem trips1 : ∀ i : grid0.Coords, (k0_t1_loop i).trips = (i 2).val / 2 := by decide +kernel
theorem trips2 : ∀ i : grid0.Coords, (k0_t2_loop i).trips = 0 := by decide +kernel
theorem trips3 : ∀ i : grid0.Coords, (k0_t3_loop i).trips = (i 2).val / 2 := by decide +kernel
theorem trips4 : ∀ i : grid0.Coords, (k0_t4_loop i).trips = 0 := by decide +kernel

/-- The query block is the first: the sums are cleared. -/
abbrev first (i : grid0.Coords) : BitVec 1 :=
  Scalar.cmpi .ne (Scalar.extui (Scalar.cmpi .eq (BitVec.ofNat 32 (i 2).val) 0#32) : BitVec 32) 0#32

theorem first_iff : ∀ i : grid0.Coords, first i = 1#1 ↔ (i 2).val = 0 := by decide +kernel
theorem cond2_iff : ∀ i : grid0.Coords, k0_cond2 i = 1#1 ↔ (i 2).val % 2 = 1 := by decide +kernel
theorem cond3_iff : ∀ i : grid0.Coords, k0_cond3 i = 1#1 ↔ (i 2).val % 2 = 1 := by decide +kernel
theorem cond4_iff : ∀ i : grid0.Coords, k0_cond4 i = 1#1 ↔ (i 2).val = 7 := by decide +kernel

theorem off1_eq : ∀ i : grid0.Coords, k0_off1 i = ![256 * (i 2).val, 0] := by decide +kernel
instance (i : grid0.Coords) : ClosedOff (k0_off1 i) := ⟨_, off1_eq i⟩
theorem off2_eq : ∀ i : grid0.Coords, k0_off2 i = ![256 * (((i 2).val + 16777215) % 16777216), 0] := by decide +kernel
instance (i : grid0.Coords) : ClosedOff (k0_off2 i) := ⟨_, off2_eq i⟩
theorem off3_eq : ∀ i : grid0.Coords, k0_off3 i = ![0, (i 2).val, 0, 0] := by decide +kernel
instance (i : grid0.Coords) : ClosedOff (k0_off3 i) := ⟨_, off3_eq i⟩
theorem off5_eq : ∀ i : grid0.Coords, k0_off5 i = ![0, ((i 2).val + 4294967295) % 4294967296, 0, 0] := by decide +kernel
instance (i : grid0.Coords) : ClosedOff (k0_off5 i) := ⟨_, off5_eq i⟩
theorem off4_eq : ∀ i : grid0.Coords, k0_off4 i = ![1, (i 2).val, 0, 0] := by decide +kernel
instance (i : grid0.Coords) : ClosedOff (k0_off4 i) := ⟨_, off4_eq i⟩
theorem off6_eq : ∀ i : grid0.Coords, k0_off6 i = ![1, ((i 2).val + 4294967295) % 4294967296, 0, 0] := by decide +kernel
instance (i : grid0.Coords) : ClosedOff (k0_off6 i) := ⟨_, off6_eq i⟩
theorem off7_eq : ∀ i : grid0.Coords, k0_off7 i = ![256 * (i 2).val, 0] := by decide +kernel
instance (i : grid0.Coords) : ClosedOff (k0_off7 i) := ⟨_, off7_eq i⟩
theorem off8_eq : ∀ i : grid0.Coords, k0_off8 i = ![0, (i 2).val, 0, 0] := by decide +kernel
instance (i : grid0.Coords) : ClosedOff (k0_off8 i) := ⟨_, off8_eq i⟩
theorem off9_eq : ∀ i : grid0.Coords, k0_off9 i = ![1, (i 2).val, 0, 0] := by decide +kernel
instance (i : grid0.Coords) : ClosedOff (k0_off9 i) := ⟨_, off9_eq i⟩
theorem off10_eq : ∀ (i : grid0.Coords) (k : Fin (k0_t1_loop i).trips), k0_off10 i k = ![256 * (2 * ((i 2).val / 2) - 1 - 2 * k.val), 0] := by decide +kernel
instance (i : grid0.Coords) (k : Fin (k0_t1_loop i).trips) : ClosedOff (k0_off10 i k) := ⟨_, off10_eq i k⟩
theorem off11_eq : ∀ (i : grid0.Coords) (k : Fin (k0_t1_loop i).trips), k0_off11 i k = ![256 * (2 * ((i 2).val / 2) - 2 - 2 * k.val), 0] := by decide +kernel
instance (i : grid0.Coords) (k : Fin (k0_t1_loop i).trips) : ClosedOff (k0_off11 i k) := ⟨_, off11_eq i k⟩
theorem off12_eq : ∀ (i : grid0.Coords) (k : Fin (k0_t1_loop i).trips), k0_off12 i k = ![0, 2 * ((i 2).val / 2) - 1 - 2 * k.val, 0, 0] := by decide +kernel
instance (i : grid0.Coords) (k : Fin (k0_t1_loop i).trips) : ClosedOff (k0_off12 i k) := ⟨_, off12_eq i k⟩
theorem off14_eq : ∀ (i : grid0.Coords) (k : Fin (k0_t1_loop i).trips), k0_off14 i k = ![0, 2 * ((i 2).val / 2) - 2 - 2 * k.val, 0, 0] := by decide +kernel
instance (i : grid0.Coords) (k : Fin (k0_t1_loop i).trips) : ClosedOff (k0_off14 i k) := ⟨_, off14_eq i k⟩
theorem off13_eq : ∀ (i : grid0.Coords) (k : Fin (k0_t1_loop i).trips), k0_off13 i k = ![1, 2 * ((i 2).val / 2) - 1 - 2 * k.val, 0, 0] := by decide +kernel
instance (i : grid0.Coords) (k : Fin (k0_t1_loop i).trips) : ClosedOff (k0_off13 i k) := ⟨_, off13_eq i k⟩
theorem off15_eq : ∀ (i : grid0.Coords) (k : Fin (k0_t1_loop i).trips), k0_off15 i k = ![1, 2 * ((i 2).val / 2) - 2 - 2 * k.val, 0, 0] := by decide +kernel
instance (i : grid0.Coords) (k : Fin (k0_t1_loop i).trips) : ClosedOff (k0_off15 i k) := ⟨_, off15_eq i k⟩
theorem off22_eq : ∀ (i : grid0.Coords) (k : Fin (k0_t3_loop i).trips), k0_off22 i k = ![0, 2 * k.val, 0, 0] := by decide +kernel
instance (i : grid0.Coords) (k : Fin (k0_t3_loop i).trips) : ClosedOff (k0_off22 i k) := ⟨_, off22_eq i k⟩
theorem off24_eq : ∀ (i : grid0.Coords) (k : Fin (k0_t3_loop i).trips), k0_off24 i k = ![0, 2 * k.val + 1, 0, 0] := by decide +kernel
instance (i : grid0.Coords) (k : Fin (k0_t3_loop i).trips) : ClosedOff (k0_off24 i k) := ⟨_, off24_eq i k⟩
theorem off23_eq : ∀ (i : grid0.Coords) (k : Fin (k0_t3_loop i).trips), k0_off23 i k = ![1, 2 * k.val, 0, 0] := by decide +kernel
instance (i : grid0.Coords) (k : Fin (k0_t3_loop i).trips) : ClosedOff (k0_off23 i k) := ⟨_, off23_eq i k⟩
theorem off25_eq : ∀ (i : grid0.Coords) (k : Fin (k0_t3_loop i).trips), k0_off25 i k = ![1, 2 * k.val + 1, 0, 0] := by decide +kernel
instance (i : grid0.Coords) (k : Fin (k0_t3_loop i).trips) : ClosedOff (k0_off25 i k) := ⟨_, off25_eq i k⟩
theorem off26_eq : ∀ (i : grid0.Coords) (k : Fin (k0_t3_loop i).trips), k0_off26 i k = ![256 * (2 * k.val), 0] := by decide +kernel
instance (i : grid0.Coords) (k : Fin (k0_t3_loop i).trips) : ClosedOff (k0_off26 i k) := ⟨_, off26_eq i k⟩
theorem off27_eq : ∀ (i : grid0.Coords) (k : Fin (k0_t3_loop i).trips), k0_off27 i k = ![256 * (2 * k.val + 1), 0] := by decide +kernel
instance (i : grid0.Coords) (k : Fin (k0_t3_loop i).trips) : ClosedOff (k0_off27 i k) := ⟨_, off27_eq i k⟩
theorem off34_eq : ∀ i : grid0.Coords, k0_off34 i = ![0, ((i 2).val + 4294967295) % 4294967296, 0, 0] := by decide +kernel
instance (i : grid0.Coords) : ClosedOff (k0_off34 i) := ⟨_, off34_eq i⟩
theorem off35_eq : ∀ i : grid0.Coords, k0_off35 i = ![1, ((i 2).val + 4294967295) % 4294967296, 0, 0] := by decide +kernel
instance (i : grid0.Coords) : ClosedOff (k0_off35 i) := ⟨_, off35_eq i⟩
theorem off36_eq : ∀ i : grid0.Coords, k0_off36 i = ![0, (i 2).val, 0, 0] := by decide +kernel
instance (i : grid0.Coords) : ClosedOff (k0_off36 i) := ⟨_, off36_eq i⟩
theorem off37_eq : ∀ i : grid0.Coords, k0_off37 i = ![1, (i 2).val, 0, 0] := by decide +kernel
instance (i : grid0.Coords) : ClosedOff (k0_off37 i) := ⟨_, off37_eq i⟩
theorem off38_eq : ∀ i : grid0.Coords, k0_off38 i = ![256 * (((i 2).val + 16777215) % 16777216), 0] := by decide +kernel
instance (i : grid0.Coords) : ClosedOff (k0_off38 i) := ⟨_, off38_eq i⟩
theorem off39_eq : ∀ i : grid0.Coords, k0_off39 i = ![256 * (i 2).val, 0] := by decide +kernel
instance (i : grid0.Coords) : ClosedOff (k0_off39 i) := ⟨_, off39_eq i⟩
theorem off40_eq : ∀ i : grid0.Coords, k0_off40 i = ![0, (i 2).val, 0, 0] := by decide +kernel
instance (i : grid0.Coords) : ClosedOff (k0_off40 i) := ⟨_, off40_eq i⟩
theorem off41_eq : ∀ i : grid0.Coords, k0_off41 i = ![1, (i 2).val, 0, 0] := by decide +kernel
instance (i : grid0.Coords) : ClosedOff (k0_off41 i) := ⟨_, off41_eq i⟩
theorem off42_eq : ∀ i : grid0.Coords, k0_off42 i = ![256 * (i 2).val, 0] := by decide +kernel
instance (i : grid0.Coords) : ClosedOff (k0_off42 i) := ⟨_, off42_eq i⟩

end Cert.AttnBRun
-- ==== Proof.AttnBLoops.lean ====
module

public import proofs.«01_k».proof.Proof.Gen.AttnBIdeal.Loops
public import proofs.«01_k».proof.Proof.AttnBOffsets

/-! The two counted loops of the stick-breaking backward kernel: what one trip yields and leaves in the buffers it
writes, and the loops run by their invariants. -/

@[expose] public section

set_option maxRecDepth 16384
set_option maxHeartbeats 4000000

noncomputable section

namespace Cert.AttnBRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBIdeal Cert.AttnBIdeal.Gen

variable {F : FTy → Type} [FloatOps F]

local notation "𝕄" => MT nD τ sig Unit (Elt F) ℕ (UR sig nD τ) ℕ

/-- The kernel's operands: the windows' staging buffers and the four scratch buffers. -/
structure Ops where
  /-- A block of queries. -/
  q : Memref sig .tc .vmem S256x128 .bf16
  /-- The keys. -/
  k : Memref sig .tc .vmem S2048x128 .bf16
  /-- The values. -/
  v : Memref sig .tc .vmem S2048x128 .bf16
  /-- A block of the output's cotangent. -/
  g : Memref sig .tc .vmem S256x128 .bf16
  /-- The block's gradient of the queries. -/
  dq : Memref sig .tc .vmem S256x128 .bf16
  /-- The gradient of the keys. -/
  dk : Memref sig .tc .vmem S2048x128 .bf16
  /-- The gradient of the values. -/
  dv : Memref sig .tc .vmem S2048x128 .bf16
  /-- The sums of the keys' gradient. -/
  ak : Memref sig .tc .vmem S2048x128 .f32
  /-- The sums of the values' gradient. -/
  av : Memref sig .tc .vmem S2048x128 .f32
  /-- The scores, a tile per head and key block. -/
  z : Memref sig .tc .vmem S2x8x256x256 .f32
  /-- The weights' cotangents, a tile per head and key block. -/
  c : Memref sig .tc .vmem S2x8x256x256 .f32
  hq : q.IsWhole
  hk : k.IsWhole
  hv : v.IsWhole
  hg : g.IsWhole
  hdq : dq.IsWhole
  hdk : dk.IsWhole
  hdv : dv.IsWhole
  hak : ak.IsWhole
  hav : av.IsWhole
  hz : z.IsWhole
  hc : c.IsWhole

/-- A buffer of core `c` with all its elements held at the contents `f`. -/
abbrev held {s : Shape} {e : EltTy} (c : Dev nD) (a : Memref sig .tc .vmem s e) (f : BufTy.Contents (Elt F) a.view.ty) : sProp 𝕄 :=
  iprop(a.view.loc (c : Thread nD τ) ↦[a.view.set]{fullShare} f)

/-- What the left sweep's region reads of the body besides the trip and what is carried: the words and the vectors bound
before the loop, and the contents of the keys and the values. -/
structure Env1 (F : FTy → Type) (M : Ops) where
  w2 : BitVec 32
  v10 : FVec F S256x256 .bf16
  v34 : FVec F S256x128 .bf16
  v38 : FVec F S256x128 .bf16
  v42 : Vec F S256x128 .bf16
  v46 : Vec F S256x128 .bf16
  w70 : BitVec 32
  r0 : FVec F S256x1 .f32
  r1 : FVec F S256x1 .f32
  w29 : BitVec 32
  w74 : BitVec 32
  w76 : BitVec 32
  w77 : BitVec 1
  K : BufTy.Contents (Elt F) M.k.view.ty
  V : BufTy.Contents (Elt F) M.v.view.ty

/-- What the left sweep carries: the sums to the right of the tile for the two heads. -/
abbrev Acc1 (F : FTy → Type) := FVec F S256x1 .f32 × FVec F S256x1 .f32

/-- The left sweep's state: what is carried, and what was written so far into the values' sums, the scores and the
weights' cotangents. -/
structure State1 (F : FTy → Type) where
  acc : Acc1 F
  av : List (View.Piece (Elt F) S2048x128 .f32)
  z : List (View.Piece (Elt F) S2x8x256x256 .f32)
  c : List (View.Piece (Elt F) S2x8x256x256 .f32)

section Left

variable (𝒱 : Variants) (c : Dev nD) (bd : Option 𝒱.V) (i : grid0.Coords) (M : Ops) (e : Env1 F M)

/-- The left sweep's region at the operands. -/
abbrev body1 := k0_t1_body (F := F) i M.q M.hq M.k M.hk M.v M.hv M.g M.hg M.dq M.hdq M.dk M.hdk M.dv M.hdv M.ak M.hak
  M.av M.hav M.z M.hz M.c M.hc e.w2 e.v10 e.v34 e.v38 e.v42 e.v46 e.w70 e.r0 e.r1 e.w29 e.w74 e.w76 e.w77

/-- One trip of the left sweep: what it yields, and what it writes into the values' sums, the scores and the
cotangents, as functions of what it finds. -/
@[irreducible] def trip1 (t : Fin (k0_t1_loop i).trips) :
    Σ' (R : Acc1 F → BufTy.Contents (Elt F) M.av.view.ty → Acc1 F)
      (La : Acc1 F → BufTy.Contents (Elt F) M.av.view.ty → List (View.Piece (Elt F) S2048x128 .f32))
      (Lz : Acc1 F → BufTy.Contents (Elt F) M.av.view.ty → List (View.Piece (Elt F) S2x8x256x256 .f32)),
      { Lc : Acc1 F → BufTy.Contents (Elt F) M.av.view.ty → List (View.Piece (Elt F) S2x8x256x256 .f32) //
        ∀ (E : Set ℕ) (acc : Acc1 F) (fa : BufTy.Contents (Elt F) M.av.view.ty) (fz : BufTy.Contents (Elt F) M.z.view.ty)
          (fc : BufTy.Contents (Elt F) M.c.view.ty),
          iprop(held c M.k e.K ∗ held c M.v e.V ∗ held c M.av fa ∗ held c M.z fz ∗ held c M.c fc)
          ⊢ wp frame (wpE (defs₀ (F := F)) 𝒱 (c : Thread nD τ) bd) E (body1 (F := F) i M e t acc)
              (fun y => iprop(⌜y = R acc fa⌝ ∗ held c M.k e.K ∗ held c M.v e.V
                ∗ held c M.av (M.av.view.writes (Elt F) fa (La acc fa)) ∗ held c M.z (M.z.view.writes (Elt F) fz (Lz acc fa))
                ∗ held c M.c (M.c.view.writes (Elt F) fc (Lc acc fa)))) } := by
  have ht : t.val < (i 2).val / 2 := trips1 i ▸ t.isLt
  have hi : (i 2).val < 8 := (i 2).isLt
  refine ⟨?_, ?_, ?_, ?_, fun E acc fa fz fc => ?run⟩
  case run =>
    unfold body1 k0_t1_body
    iintro ⟨HK, HV, Ha, Hz, Hc⟩
    sl_exec
    sl_step
    sl_close

/-- The state after trip `n` of the left sweep, from the state `p` before it, the values' sums `fa` at entry. -/
def next1 (fa : BufTy.Contents (Elt F) M.av.view.ty) (n : Fin (k0_t1_loop i).trips) (p : State1 F) : State1 F :=
  let T := trip1 (F := F) 𝒱 c bd i M e n
  let f := M.av.view.writes (Elt F) fa p.av
  ⟨T.1 p.acc f, T.2.1 p.acc f ++ p.av, T.2.2.1 p.acc f ++ p.z, T.2.2.2.1 p.acc f ++ p.c⟩

/-- The state of the left sweep before trip `n`. -/
def st1 (fa : BufTy.Contents (Elt F) M.av.view.ty) (init : Acc1 F) : ℕ → State1 F
  | 0 => ⟨init, [], [], []⟩
  | n + 1 => if h : n < (k0_t1_loop i).trips then next1 𝒱 c bd i M e fa ⟨n, h⟩ (st1 fa init n) else st1 fa init n

theorem st1_succ (fa : BufTy.Contents (Elt F) M.av.view.ty) (init : Acc1 F) (n : Fin (k0_t1_loop i).trips) :
    st1 𝒱 c bd i M e fa init (n.val + 1) = next1 𝒱 c bd i M e fa n (st1 𝒱 c bd i M e fa init n.val) := dif_pos n.isLt

/-- The left sweep's invariant: the keys and the values as read, the three written buffers and what is carried at the
state before trip `n`. -/
abbrev inv1 (fa : BufTy.Contents (Elt F) M.av.view.ty) (fz : BufTy.Contents (Elt F) M.z.view.ty)
    (fc : BufTy.Contents (Elt F) M.c.view.ty) (init : Acc1 F) (n : ℕ) (acc : Acc1 F) : sProp 𝕄 :=
  iprop(held c M.k e.K ∗ held c M.v e.V
    ∗ (∃ f, held c M.av f ∗ ⌜f = M.av.view.writes (Elt F) fa (st1 𝒱 c bd i M e fa init n).av⌝)
    ∗ (∃ f, held c M.z f ∗ ⌜f = M.z.view.writes (Elt F) fz (st1 𝒱 c bd i M e fa init n).z⌝)
    ∗ (∃ f, held c M.c f ∗ ⌜f = M.c.view.writes (Elt F) fc (st1 𝒱 c bd i M e fa init n).c⌝)
    ∗ ⌜acc = (st1 𝒱 c bd i M e fa init n).acc⌝)

theorem inv1_step (E : Set ℕ) (fa : BufTy.Contents (Elt F) M.av.view.ty) (fz : BufTy.Contents (Elt F) M.z.view.ty)
    (fc : BufTy.Contents (Elt F) M.c.view.ty) (init : Acc1 F) (n : Fin (k0_t1_loop i).trips) (acc : Acc1 F) :
    inv1 𝒱 c bd i M e fa fz fc init n.val acc ⊢ wp frame (wpE (defs₀ (F := F)) 𝒱 (c : Thread nD τ) bd) E
      (body1 (F := F) i M e n acc) (inv1 𝒱 c bd i M e fa fz fc init (n.val + 1)) := by
  iintro ⟨HK, HV, ⟨%f1, Ha, %e1⟩, ⟨%f2, Hz, %e2⟩, ⟨%f3, Hc, %e3⟩, %e4⟩
  subst e1 e2 e3 e4
  iapply (wp_wand_r Idealize.ShloMosaic.frame (wpE (defs₀ (F := F)) 𝒱 (c : Thread nD τ) bd) E)
  isplitl [HK HV Ha Hz Hc]
  · iapply ((trip1 (F := F) 𝒱 c bd i M e n).2.2.2.2 E)
    isplitl [HK]; · iexact HK
    isplitl [HV]; · iexact HV
    isplitl [Ha]; · iexact Ha
    isplitl [Hz]; · iexact Hz
    iexact Hc
  · iintro %y ⟨%ey, HK, HV, Ha, Hz, Hc⟩
    unfold inv1
    rw [st1_succ]
    isplitl [HK]; · iexact HK
    isplitl [HV]; · iexact HV
    isplitl [Ha]
    · iexists _; isplitl [Ha]; · iexact Ha
      ipureintro; exact (View.writes_append _ _ _ _).symm
    isplitl [Hz]
    · iexists _; isplitl [Hz]; · iexact Hz
      ipureintro; exact (View.writes_append _ _ _ _).symm
    isplitl [Hc]
    · iexists _; isplitl [Hc]; · iexact Hc
      ipureintro; exact (View.writes_append _ _ _ _).symm
    ipureintro; exact ey

end Left

section Right

/-- What the right sweep's region reads of the body besides the trip and what is carried. -/
structure Env3 (F : FTy → Type) (M : Ops) where
  v17 : FVec F S256x256 .bf16
  v34 : FVec F S256x128 .bf16
  v38 : FVec F S256x128 .bf16
  w48 : BitVec 32
  K : BufTy.Contents (Elt F) M.k.view.ty
  Z : BufTy.Contents (Elt F) M.z.view.ty
  C : BufTy.Contents (Elt F) M.c.view.ty

/-- What the right sweep carries: for each head the sums to the left of the tile and the gradient of the queries. -/
abbrev Acc3 (F : FTy → Type) := FVec F S256x1 .f32 × FVec F S256x128 .f32 × FVec F S256x1 .f32 × FVec F S256x128 .f32

/-- The right sweep's state: what is carried and what was written so far into the keys' sums. -/
structure State3 (F : FTy → Type) where
  acc : Acc3 F
  ak : List (View.Piece (Elt F) S2048x128 .f32)

variable (𝒱 : Variants) (c : Dev nD) (bd : Option 𝒱.V) (i : grid0.Coords) (M : Ops) (e : Env3 F M)

/-- The right sweep's region at the operands. -/
abbrev body3 := k0_t3_body (F := F) i M.q M.hq M.k M.hk M.v M.hv M.g M.hg M.dq M.hdq M.dk M.hdk M.dv M.hdv M.ak M.hak
  M.av M.hav M.z M.hz M.c M.hc e.v17 e.v34 e.v38 e.w48

/-- One trip of the right sweep: what it yields and what it writes into the keys' sums, as functions of what it finds. -/
@[irreducible] def trip3 (t : Fin (k0_t3_loop i).trips) :
    Σ' (R : Acc3 F → BufTy.Contents (Elt F) M.ak.view.ty → Acc3 F),
      { La : Acc3 F → BufTy.Contents (Elt F) M.ak.view.ty → List (View.Piece (Elt F) S2048x128 .f32) //
        ∀ (E : Set ℕ) (acc : Acc3 F) (fa : BufTy.Contents (Elt F) M.ak.view.ty),
          iprop(held c M.k e.K ∗ held c M.z e.Z ∗ held c M.c e.C ∗ held c M.ak fa)
          ⊢ wp frame (wpE (defs₀ (F := F)) 𝒱 (c : Thread nD τ) bd) E (body3 (F := F) i M e t acc)
              (fun y => iprop(⌜y = R acc fa⌝ ∗ held c M.k e.K ∗ held c M.z e.Z ∗ held c M.c e.C
                ∗ held c M.ak (M.ak.view.writes (Elt F) fa (La acc fa)))) } := by
  have ht : t.val < (i 2).val / 2 := trips3 i ▸ t.isLt
  have hi : (i 2).val < 8 := (i 2).isLt
  refine ⟨?_, ?_, fun E acc fa => ?run⟩
  case run =>
    unfold body3 k0_t3_body
    iintro ⟨HK, Hz, Hc, Ha⟩
    sl_exec
    sl_step
    sl_close

/-- The state after trip `n` of the right sweep, from the state `p` before it, the keys' sums `fa` at entry. -/
def next3 (fa : BufTy.Contents (Elt F) M.ak.view.ty) (n : Fin (k0_t3_loop i).trips) (p : State3 F) : State3 F :=
  let T := trip3 (F := F) 𝒱 c bd i M e n
  let f := M.ak.view.writes (Elt F) fa p.ak
  ⟨T.1 p.acc f, T.2.1 p.acc f ++ p.ak⟩

/-- The state of the right sweep before trip `n`. -/
def st3 (fa : BufTy.Contents (Elt F) M.ak.view.ty) (init : Acc3 F) : ℕ → State3 F
  | 0 => ⟨init, []⟩
  | n + 1 => if h : n < (k0_t3_loop i).trips then next3 𝒱 c bd i M e fa ⟨n, h⟩ (st3 fa init n) else st3 fa init n

theorem st3_succ (fa : BufTy.Contents (Elt F) M.ak.view.ty) (init : Acc3 F) (n : Fin (k0_t3_loop i).trips) :
    st3 𝒱 c bd i M e fa init (n.val + 1) = next3 𝒱 c bd i M e fa n (st3 𝒱 c bd i M e fa init n.val) := dif_pos n.isLt

/-- The right sweep's invariant. -/
abbrev inv3 (fa : BufTy.Contents (Elt F) M.ak.view.ty) (init : Acc3 F) (n : ℕ) (acc : Acc3 F) : sProp 𝕄 :=
  iprop(held c M.k e.K ∗ held c M.z e.Z ∗ held c M.c e.C
    ∗ (∃ f, held c M.ak f ∗ ⌜f = M.ak.view.writes (Elt F) fa (st3 𝒱 c bd i M e fa init n).ak⌝)
    ∗ ⌜acc = (st3 𝒱 c bd i M e fa init n).acc⌝)

theorem inv3_step (E : Set ℕ) (fa : BufTy.Contents (Elt F) M.ak.view.ty) (init : Acc3 F) (n : Fin (k0_t3_loop i).trips)
    (acc : Acc3 F) :
    inv3 𝒱 c bd i M e fa init n.val acc ⊢ wp frame (wpE (defs₀ (F := F)) 𝒱 (c : Thread nD τ) bd) E
      (body3 (F := F) i M e n acc) (inv3 𝒱 c bd i M e fa init (n.val + 1)) := by
  iintro ⟨HK, Hz, Hc, ⟨%f1, Ha, %e1⟩, %e4⟩
  subst e1 e4
  iapply (wp_wand_r Idealize.ShloMosaic.frame (wpE (defs₀ (F := F)) 𝒱 (c : Thread nD τ) bd) E)
  isplitl [HK Ha Hz Hc]
  · iapply ((trip3 (F := F) 𝒱 c bd i M e n).2.2 E)
    isplitl [HK]; · iexact HK
    isplitl [Hz]; · iexact Hz
    isplitl [Hc]; · iexact Hc
    iexact Ha
  · iintro %y ⟨%ey, HK, Hz, Hc, Ha⟩
    unfold inv3
    rw [st3_succ]
    isplitl [HK]; · iexact HK
    isplitl [Hz]; · iexact Hz
    isplitl [Hc]; · iexact Hc
    isplitl [Ha]
    · iexists _; isplitl [Ha]; · iexact Ha
      ipureintro; exact (View.writes_append _ _ _ _).symm
    ipureintro; exact ey

end Right

section Loops

variable (𝒱 : Variants) (c : Dev nD) (bd : Option 𝒱.V) (i : grid0.Coords) (M : Ops) (E : Set ℕ)
  (w2 : BitVec 32) (v10 v17 : FVec F S256x256 .bf16) (v34 v38 : FVec F S256x128 .bf16) (v42 v46 : Vec F S256x128 .bf16)
  (w70 : BitVec 32) (r0 r1 : FVec F S256x1 .f32) (w29 w48 w74 w76 w95 w120 : BitVec 32) (w77 : BitVec 1)

set_option warn.classDefReducibility false in
/-- The left sweep by its invariant. -/
@[sl_loop] def loopInv1 (K : BufTy.Contents (Elt F) M.k.view.ty) (V : BufTy.Contents (Elt F) M.v.view.ty)
    (fa : BufTy.Contents (Elt F) M.av.view.ty) (fz : BufTy.Contents (Elt F) M.z.view.ty)
    (fc : BufTy.Contents (Elt F) M.c.view.ty) (init : Acc1 F) :
    LoopInvTy_k0_t1 (F := F) Unit ℕ (UR sig nD τ) ℕ 𝒱 c bd E i M.q M.hq M.k M.hk M.v M.hv M.g M.hg M.dq M.hdq M.dk M.hdk
      M.dv M.hdv M.ak M.hak M.av M.hav M.z M.hz M.c M.hc w2 v10 v34 v38 v42 v46 w70 r0 r1 w29 w74 w76 w77 init where
  inv := inv1 𝒱 c bd i M ⟨w2, v10, v34, v38, v42, v46, w70, r0, r1, w29, w74, w76, w77, K, V⟩ fa fz fc init
  step n acc := inv1_step 𝒱 c bd i M _ E _ _ _ _ n acc

set_option warn.classDefReducibility false in
/-- The left sweep's remainder makes no trip. -/
@[sl_loop] def loopInv2 (init : Acc1 F) :
    LoopInvTy_k0_t2 (F := F) Unit ℕ (UR sig nD τ) ℕ 𝒱 c bd E i M.q M.hq M.k M.hk M.v M.hv M.g M.hg M.dq M.hdq M.dk M.hdk
      M.dv M.hdv M.ak M.hak M.av M.hav M.z M.hz M.c M.hc w2 v10 v34 v38 v42 v46 w70 r0 r1 w29 w74 w76 w77 w95 init where
  inv _ acc := iprop(⌜acc = init⌝)
  step n acc := absurd (trips2 i ▸ n.isLt : n.val < 0) (Nat.not_lt_zero _)

set_option warn.classDefReducibility false in
/-- The right sweep by its invariant. -/
@[sl_loop] def loopInv3 (K : BufTy.Contents (Elt F) M.k.view.ty) (fa : BufTy.Contents (Elt F) M.ak.view.ty)
    (fz : BufTy.Contents (Elt F) M.z.view.ty) (fc : BufTy.Contents (Elt F) M.c.view.ty) (init : Acc3 F) :
    LoopInvTy_k0_t3 (F := F) Unit ℕ (UR sig nD τ) ℕ 𝒱 c bd E i M.q M.hq M.k M.hk M.v M.hv M.g M.hg M.dq M.hdq M.dk M.hdk
      M.dv M.hdv M.ak M.hak M.av M.hav M.z M.hz M.c M.hc v17 v34 v38 w48 init where
  inv := inv3 𝒱 c bd i M ⟨v17, v34, v38, w48, K, fz, fc⟩ fa init
  step n acc := inv3_step 𝒱 c bd i M _ E _ _ n acc

set_option warn.classDefReducibility false in
/-- The right sweep's remainder makes no trip. -/
@[sl_loop] def loopInv4 (init : Acc3 F) :
    LoopInvTy_k0_t4 (F := F) Unit ℕ (UR sig nD τ) ℕ 𝒱 c bd E i M.q M.hq M.k M.hk M.v M.hv M.g M.hg M.dq M.hdq M.dk M.hdk
      M.dv M.hdv M.ak M.hak M.av M.hav M.z M.hz M.c M.hc v17 v34 v38 w120 init where
  inv _ acc := iprop(⌜acc = init⌝)
  step n acc := absurd (trips4 i ▸ n.isLt : n.val < 0) (Nat.not_lt_zero _)

end Loops

end Cert.AttnBRun

end
-- ==== Proof.AttnBBody.lean ====
module

public import proofs.«01_k».proof.Proof.AttnBLoops

/-! One run of the stick-breaking backward kernel's body, in each of its cases: the first query block, an even or an
odd one, the last one. -/

@[expose] public section

set_option maxRecDepth 16384
set_option maxHeartbeats 4000000

noncomputable section

namespace Cert.AttnBRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBIdeal Cert.AttnBIdeal.Gen

variable {F : FTy → Type} [FloatOps F]

local notation "𝕄" => MT nD τ sig Unit (Elt F) ℕ (UR sig nD τ) ℕ

/-- The contents of the buffers the body reads. -/
structure Ins (F : FTy → Type) (M : Ops) where
  q : BufTy.Contents (Elt F) M.q.view.ty
  k : BufTy.Contents (Elt F) M.k.view.ty
  v : BufTy.Contents (Elt F) M.v.view.ty
  g : BufTy.Contents (Elt F) M.g.view.ty

/-- The contents of the buffers the body writes. -/
structure Outs (F : FTy → Type) (M : Ops) where
  dq : BufTy.Contents (Elt F) M.dq.view.ty
  dk : BufTy.Contents (Elt F) M.dk.view.ty
  dv : BufTy.Contents (Elt F) M.dv.view.ty
  ak : BufTy.Contents (Elt F) M.ak.view.ty
  av : BufTy.Contents (Elt F) M.av.view.ty
  z : BufTy.Contents (Elt F) M.z.view.ty
  c : BufTy.Contents (Elt F) M.c.view.ty

/-- The body's buffers at core `c`. -/
abbrev bufs (c : Dev nD) (M : Ops) (x : Ins F M) (y : Outs F M) : sProp 𝕄 :=
  iprop(held c M.q x.q ∗ held c M.k x.k ∗ held c M.v x.v ∗ held c M.g x.g ∗ held c M.dq y.dq ∗ held c M.dk y.dk
    ∗ held c M.dv y.dv ∗ held c M.ak y.ak ∗ held c M.av y.av ∗ held c M.z y.z ∗ held c M.c y.c)

/-- The body at the operands. -/
abbrev body (i : grid0.Coords) (M : Ops) : Prog (TpuEff nD τ sig (Elt F) Λ₀ .tc) PUnit :=
  cc0_attn_b_bwd i M.q M.hq M.k M.hk M.v M.hv M.g M.hg M.dq M.hdq M.dk M.hdk M.dv M.hdv M.ak M.hak M.av M.hav M.z M.hz
    M.c M.hc

/-- What the body leaves in each buffer it writes, as functions of what it finds, with its triple: found by running it.
The cases: `b0` the first query block, `b2` an odd one, `b4` the last one. -/
@[irreducible] def bodyRun (c : Dev nD) (i : grid0.Coords) (M : Ops) (x : Ins F M) (b0 b2 b4 : Bool)
    (h0 : b0 = true ↔ (i 2).val = 0) (h2 : b2 = true ↔ (i 2).val % 2 = 1) (h4 : b4 = true ↔ (i 2).val = 7) :
    Σ' (dq : Outs F M → BufTy.Contents (Elt F) M.dq.view.ty) (dk : Outs F M → BufTy.Contents (Elt F) M.dk.view.ty)
      (dv : Outs F M → BufTy.Contents (Elt F) M.dv.view.ty) (ak : Outs F M → BufTy.Contents (Elt F) M.ak.view.ty)
      (av : Outs F M → BufTy.Contents (Elt F) M.av.view.ty) (z : Outs F M → BufTy.Contents (Elt F) M.z.view.ty),
      { cc : Outs F M → BufTy.Contents (Elt F) M.c.view.ty //
        ∀ (E : Set ℕ) (y : Outs F M),
          bufs c M x y ⊢ wp frame (wpE (defs₀ (F := F)) Variants.none (c : Thread nD τ) none) E (body (F := F) i M)
            (fun _ => bufs c M x ⟨dq y, dk y, dv y, ak y, av y, z y, cc y⟩) } := by
  have hi : (i 2).val < 8 := (i 2).isLt
  have e0 := h0.trans (first_iff i).symm
  have e2 := h2.trans (cond2_iff i).symm
  have e3 := h2.trans (cond3_iff i).symm
  have e4 := h4.trans (cond4_iff i).symm
  cases b0 <;> cases b2 <;> cases b4 <;>
    first
    | exact False.elim (by simp at h0 h2 h4; omega)
    | skip
  all_goals
    simp only [true_iff, false_iff, Bool.false_eq_true] at e0 e2 e3 e4 h0 h2 h4
    exact (by
      refine ⟨?_, ?_, ?_, ?_, ?_, ?_, ?_, fun E y => ?run⟩
      case run =>
        unfold body
        simp only [cc0_attn_b_bwd_eq_skeleton]; unfold cc0_attn_b_bwd_skel
        iintro ⟨HQ, HK, HV, HG, Hdq, Hdk, Hdv, Hak, Hav, Hz, Hc⟩
        sl_exec (disch := first | sl_exact e0 | sl_exact e2 | sl_exact e3 | sl_exact e4)
        sl_step
        sl_close)

end Cert.AttnBRun

end
-- ==== Proof.AttnBSteps.lean ====
module

public import proofs.«01_k».proof.Proof.AttnBBody

/-! The tile steps of the stick-breaking backward kernel as functions of vectors, and what the loops' trips and the
body's cases compute in their terms. -/

@[expose] public section

set_option maxRecDepth 16384

noncomputable section

namespace Cert.AttnBRun

open Idealize.ShloMosaic Idealize.ShloMosaic.TcCoe
open Cert.AttnBIdeal Cert.AttnBIdeal.Gen

variable {F : FTy → Type} [FloatOps F]

/-- Rows against rows: a block of queries (or cotangents) with a block of keys (or values). -/
def nt (a b : FVec F S256x128 .bf16) : FVec F S256x256 .f32 :=
  matmul dot_S256x128_S256x128_S256x256_1_1_0_0_n_n none a b (constant S256x256 .f32 0x00000000#32)

/-- A tile's columns against the query rows. -/
def tn (w : FVec F S256x256 .f32) (a : FVec F S256x128 .bf16) : FVec F S256x128 .f32 :=
  matmul dot_S256x256_S256x128_S256x128_0_0_1_1_n_n none (truncf .bf16 w bitsLt_bf16_f32) a (constant S256x128 .f32 0x00000000#32)

/-- A tile's rows against the key rows. -/
def nn (w : FVec F S256x256 .f32) (a : FVec F S256x128 .bf16) : FVec F S256x128 .f32 :=
  matmul dot_S256x256_S256x128_S256x128_1_0_0_1_n_n none (truncf .bf16 w bitsLt_bf16_f32) a (constant S256x128 .f32 0x00000000#32)

/-- A tile times a matrix of zeros and ones, the tile in a high and a low half. -/
def two (tri : FVec F S256x256 .bf16) (x : FVec F S256x256 .f32) : FVec F S256x256 .f32 :=
  addf (matmul dot_S256x256_S256x256_S256x256_1_0_0_1_n_n none (truncf .bf16 x bitsLt_bf16_f32) tri
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

/-- The logarithm of the weight a key takes of what is left. -/
def lbV (z : FVec F S256x256 .f32) : FVec F S256x256 .f32 :=
  subf (minimumf z (broadcast S256x256 (Scalar.ofBits .f32 0x00000000#32)))
    (log (addf (broadcast S256x256 (Scalar.ofBits .f32 0x3F800000#32))
      (exp (minimumf z (subf (broadcast S256x256 (Scalar.ofBits .f32 0x00000000#32)) z)))))

/-- The tile's entries strictly left of the diagonal kept, the others zero. -/
def kept (x : FVec F S256x256 .f32) : FVec F S256x256 .f32 :=
  select (cmpi .slt (iota .tc S256x256 32 [1] iota_S256x256_d1_w32) (iota .tc S256x256 32 [0] iota_S256x256_d0_w32)) x
    (broadcast S256x256 (Scalar.ofBits .f32 0x00000000#32))

/-- The logarithm of what a key leaves. -/
def lmV (d : Bool) (z : FVec F S256x256 .f32) : FVec F S256x256 .f32 :=
  match d with
  | true => kept (subf (lbV z) z)
  | false => subf (lbV z) z

/-- The weights of a tile. -/
def wV (d : Bool) (tri : FVec F S256x256 .bf16) (z : FVec F S256x256 .f32) (right : FVec F S256x1 .f32) : FVec F S256x256 .f32 :=
  let a := exp (addf (lbV z) (addf (broadcastTo S256x256 right broadcasts_S256x1_S256x256) (two tri (lmV d z))))
  match d with
  | true => kept a
  | false => a

/-- The sums to the right of the next tile. -/
def rV (d : Bool) (tri : FVec F S256x256 .bf16) (z : FVec F S256x256 .f32) (right : FVec F S256x1 .f32) : FVec F S256x1 .f32 :=
  addf right (addf (extractStridedSlice S256x1 ![0, 0] (two tri (lmV d z)) slices_S256x256_o0_0_S256x1)
    (extractStridedSlice S256x1 ![0, 0] (lmV d z) slices_S256x256_o0_0_S256x1))

/-- The rows of a sum after a tile's columns of both heads were added. -/
def accV (old : FVec F S256x128 .f32) (a0 a1 : FVec F S256x256 .f32) (d0 d1 : FVec F S256x128 .bf16) : FVec F S256x128 .f32 :=
  shapeCast S256x128 (addf old (addf (tn a0 d0) (tn a1 d1))) shapeCasts_S256x128_S256x128

/-- A tile as stored. -/
def put (x : FVec F S256x256 .f32) : FVec F S1x1x256x256 .f32 := shapeCast S1x1x256x256 x shapeCasts_S256x256_S1x1x256x256

/-- A tile as loaded. -/
def got (x : Vec F S1x1x256x256 .f32) : FVec F S256x256 .f32 := shapeCast S256x256 x shapeCasts_S1x1x256x256_S256x256

/-- The scores' cotangent on a tile. -/
def dzV (d : Bool) (tri : FVec F S256x256 .bf16) (z g : FVec F S256x256 .f32) (left : FVec F S256x1 .f32) : FVec F S256x256 .f32 :=
  let x := subf (mulf g (subf (broadcast S256x256 (Scalar.ofBits .f32 0x3F800000#32)) (logistic z)))
    (mulf (logistic z) (addf (broadcastTo S256x256 left broadcasts_S256x1_S256x256) (two tri g)))
  match d with
  | true => kept x
  | false => x

/-- The sums to the left of the next tile. -/
def lV (g : FVec F S256x256 .f32) (left : FVec F S256x1 .f32) : FVec F S256x1 .f32 :=
  addf left (shapeCast S256x1 (multiReduction .add [1] S256 g 0x00000000#32 reduces_S256x256_S256 (.inl rfl) rfl) shapeCasts_S256_S256x1)

section Trips

variable (c : Dev nD) (i : grid0.Coords) (M : Ops)

/-- Rows of a 2048×128 buffer, read at offsets. -/
abbrev rows {e : EltTy} {a : Memref sig .tc .vmem S2048x128 e} (f : BufTy.Contents (Elt F) a.view.ty) (off : Fin 2 → ℕ)
    (h : ∀ b, off b + S256x128.size b ≤ S2048x128.size b) : S256x128.Idx → Elt F e :=
  View.readAt (Elt F) a.view (Rect.unit (s := S2048x128) off S256x128.size h).toLoadRect f

/-- A tile of a buffer of tiles, read at offsets. -/
abbrev tile {a : Memref sig .tc .vmem S2x8x256x256 .f32} (f : BufTy.Contents (Elt F) a.view.ty) (off : Fin 4 → ℕ)
    (h : ∀ b, off b + S1x1x256x256.size b ≤ S2x8x256x256.size b) : S1x1x256x256.Idx → Elt F .f32 :=
  View.readAt (Elt F) a.view (Rect.unit (s := S2x8x256x256) off S1x1x256x256.size h).toLoadRect f

/-- Rows to write. -/
abbrev rowsP (off : Fin 2 → ℕ) (h : ∀ b, off b + S256x128.size b ≤ S2048x128.size b) (x : FVec F S256x128 .f32) :
    View.Piece (Elt F) S2048x128 .f32 := ⟨Rect.unit (s := S2048x128) off S256x128.size h, x⟩

/-- A tile to write. -/
abbrev tileP (off : Fin 4 → ℕ) (h : ∀ b, off b + S1x1x256x256.size b ≤ S2x8x256x256.size b) (x : FVec F S1x1x256x256 .f32) :
    View.Piece (Elt F) S2x8x256x256 .f32 := ⟨Rect.unit (s := S2x8x256x256) off S1x1x256x256.size h, x⟩

/-- One trip of the left sweep in the tile steps. -/
theorem trip1_eq (e : Env1 F M) (t : Fin (k0_t1_loop i).trips) :
    ∃ h10 h11 h12 h13 h14 h15, ∀ (acc : Acc1 F) (fa : BufTy.Contents (Elt F) M.av.view.ty),
      let z00 := nt e.v34 (rows e.K (k0_off10 i t) h10)
      let z01 := nt e.v38 (rows e.K (k0_off10 i t) h10)
      let z10 := nt e.v34 (rows e.K (k0_off11 i t) h11)
      let z11 := nt e.v38 (rows e.K (k0_off11 i t) h11)
      let a00 := wV false e.v10 z00 acc.1
      let a01 := wV false e.v10 z01 acc.2
      let a10 := wV false e.v10 z10 (rV false e.v10 z00 acc.1)
      let a11 := wV false e.v10 z11 (rV false e.v10 z01 acc.2)
      let p0 := rowsP (k0_off10 i t) h10 (accV (rows fa (k0_off10 i t) h10) a00 a01 e.v42 e.v46)
      (trip1 (F := F) Variants.none c none i M e t).1 acc fa
          = (rV false e.v10 z10 (rV false e.v10 z00 acc.1), rV false e.v10 z11 (rV false e.v10 z01 acc.2))
        ∧ (trip1 (F := F) Variants.none c none i M e t).2.1 acc fa
          = [rowsP (k0_off11 i t) h11 (accV (rows (M.av.view.writes (Elt F) fa [p0]) (k0_off11 i t) h11) a10 a11 e.v42 e.v46), p0]
        ∧ (trip1 (F := F) Variants.none c none i M e t).2.2.1 acc fa
          = [tileP (k0_off15 i t) h15 (put z11), tileP (k0_off14 i t) h14 (put z10), tileP (k0_off13 i t) h13 (put z01),
              tileP (k0_off12 i t) h12 (put z00)]
        ∧ (trip1 (F := F) Variants.none c none i M e t).2.2.2.1 acc fa
          = [tileP (k0_off15 i t) h15 (put (mulf (nt e.v46 (rows e.V (k0_off11 i t) h11)) a11)),
              tileP (k0_off14 i t) h14 (put (mulf (nt e.v42 (rows e.V (k0_off11 i t) h11)) a10)),
              tileP (k0_off13 i t) h13 (put (mulf (nt e.v46 (rows e.V (k0_off10 i t) h10)) a01)),
              tileP (k0_off12 i t) h12 (put (mulf (nt e.v42 (rows e.V (k0_off10 i t) h10)) a00))] := by
  unfold trip1
  exact ⟨_, _, _, _, _, _, fun acc fa => ⟨rfl, rfl, rfl, rfl⟩⟩

/-- One trip of the right sweep in the tile steps. -/
theorem trip3_eq (e : Env3 F M) (t : Fin (k0_t3_loop i).trips) :
    ∃ h22 h23 h24 h25 h26 h27, ∀ (acc : Acc3 F) (fa : BufTy.Contents (Elt F) M.ak.view.ty),
      let g00 := got (tile e.C (k0_off22 i t) h22)
      let g01 := got (tile e.C (k0_off23 i t) h23)
      let g10 := got (tile e.C (k0_off24 i t) h24)
      let g11 := got (tile e.C (k0_off25 i t) h25)
      let d00 := dzV false e.v17 (got (tile e.Z (k0_off22 i t) h22)) g00 acc.1
      let d01 := dzV false e.v17 (got (tile e.Z (k0_off23 i t) h23)) g01 acc.2.2.1
      let d10 := dzV false e.v17 (got (tile e.Z (k0_off24 i t) h24)) g10 (lV g00 acc.1)
      let d11 := dzV false e.v17 (got (tile e.Z (k0_off25 i t) h25)) g11 (lV g01 acc.2.2.1)
      let k0 := rows e.K (k0_off26 i t) h26
      let k1 := rows e.K (k0_off27 i t) h27
      let p0 := rowsP (k0_off26 i t) h26 (accV (rows fa (k0_off26 i t) h26) d00 d01 e.v34 e.v38)
      (trip3 (F := F) Variants.none c none i M e t).1 acc fa
          = (lV g10 (lV g00 acc.1), addf (addf acc.2.1 (nn d00 k0)) (nn d10 k1),
              lV g11 (lV g01 acc.2.2.1), addf (addf acc.2.2.2 (nn d01 k0)) (nn d11 k1))
        ∧ (trip3 (F := F) Variants.none c none i M e t).2.1 acc fa
          = [rowsP (k0_off27 i t) h27 (accV (rows fa (k0_off27 i t) h27) d10 d11 e.v34 e.v38), p0] := by
  unfold trip3
  exact ⟨_, _, _, _, _, _, fun acc fa => ⟨rfl, rfl⟩⟩

end Trips

section Body

variable (c : Dev nD) (i : grid0.Coords) (M : Ops) (x : Ins F M)

/-- A whole block, read. -/
abbrev full {e : EltTy} {a : Memref sig .tc .vmem S256x128 e} (f : BufTy.Contents (Elt F) a.view.ty) : S256x128.Idx → Elt F e :=
  View.readAt (Elt F) a.view (Rect.unit (s := S256x128) ![0, 0] S256x128.size inb_S256x128_S256x128_0_0).toLoadRect f

/-- The block's scaled queries, the lanes of one head each. -/
abbrev qm0 : FVec F S256x128 .bf16 := k0_pay263 (full (F := F) (a := M.q) x.q)
abbrev qm1 : FVec F S256x128 .bf16 := k0_pay264 (full (F := F) (a := M.q) x.q)
/-- The block's cotangents, the lanes of one head each. -/
abbrev gm0 : FVec F S256x128 .bf16 := k0_pay265 (full (F := F) (a := M.g) x.g) k0_pay260
abbrev gm1 : FVec F S256x128 .bf16 := k0_pay266 (full (F := F) (a := M.g) x.g) k0_pay261

/-- What the right sweep's loop reads at the body. -/
abbrev env3 (w : BitVec 32) (Z : BufTy.Contents (Elt F) M.z.view.ty) (C : BufTy.Contents (Elt F) M.c.view.ty) : Env3 F M :=
  ⟨k0_pay259, qm0 M x, qm1 M x, w, x.k, Z, C⟩

/-- What the left sweep's loop reads at the body. -/
structure Env1At (e : Env1 F M) : Prop where
  v10 : e.v10 = k0_pay258
  v34 : e.v34 = qm0 M x
  v38 : e.v38 = qm1 M x
  v42 : e.v42 = gm0 M x
  v46 : e.v46 = gm1 M x
  K : e.K = x.k
  V : e.V = x.v

/-- The body at an even query block, in the tile steps, from the sums' contents `fA` (`fA1` after one write)
and `fK` (`fK1` after a list of writes). -/
def EvenForm (y : Outs F M) (fA : BufTy.Contents (Elt F) M.av.view.ty)
    (fA1 : View.Piece (Elt F) S2048x128 .f32 → BufTy.Contents (Elt F) M.av.view.ty) (fK : BufTy.Contents (Elt F) M.ak.view.ty)
    (fK1 : List (View.Piece (Elt F) S2048x128 .f32) → BufTy.Contents (Elt F) M.ak.view.ty)
    (dq : BufTy.Contents (Elt F) M.dq.view.ty) (ak : BufTy.Contents (Elt F) M.ak.view.ty)
    (av : BufTy.Contents (Elt F) M.av.view.ty) : Prop :=
  ∃ (e1 : Env1 F M) (w : BitVec 32) (h7 : _) (h8 : _) (h9 : _) (h40 : _) (h41 : _) (h42 : _), Env1At M x e1 ∧
    let kt := rows (F := F) (a := M.k) x.k (k0_off7 i) h7
    let vt := rows (F := F) (a := M.v) x.v (k0_off7 i) h7
    let z0 := nt (qm0 M x) kt
    let z1 := nt (qm1 M x) kt
    let a0 := wV true k0_pay258 z0 k0_pay267
    let a1 := wV true k0_pay258 z1 k0_pay267
    let p := rowsP (k0_off7 i) h7 (accV (rows (F := F) (a := M.av) fA (k0_off7 i) h7) a0 a1 (gm0 M x) (gm1 M x))
    let s := st1 Variants.none c none i M e1 (fA1 p)
      (rV true k0_pay258 z0 k0_pay267, rV true k0_pay258 z1 k0_pay267) (k0_t1_loop i).trips
    let Z := M.z.view.writes (Elt F) y.z (s.z ++ [tileP (k0_off9 i) h9 (put z1), tileP (k0_off8 i) h8 (put z0)])
    let C := M.c.view.writes (Elt F) y.c (s.c ++ [tileP (k0_off9 i) h9 (put (mulf (nt (gm1 M x) vt) a1)),
      tileP (k0_off8 i) h8 (put (mulf (nt (gm0 M x) vt) a0))])
    let u := st3 Variants.none c none i M (env3 M x w Z C) fK (k0_pay267, k0_pay277, k0_pay267, k0_pay277) (k0_t3_loop i).trips
    let d0 := dzV true k0_pay259 (got (tile (F := F) (a := M.z) Z (k0_off40 i) h40)) (got (tile (F := F) (a := M.c) C (k0_off40 i) h40)) u.acc.1
    let d1 := dzV true k0_pay259 (got (tile (F := F) (a := M.z) Z (k0_off41 i) h41)) (got (tile (F := F) (a := M.c) C (k0_off41 i) h41)) u.acc.2.2.1
    let k' := rows (F := F) (a := M.k) x.k (k0_off42 i) h42
    av = M.av.view.writes (Elt F) (fA1 p) s.av
      ∧ dq = M.dq.view.writes (Elt F) y.dq [⟨Rect.unit (s := S256x128) ![0, 0] S256x128.size inb_S256x128_S256x128_0_0,
            k0_pay14 k0_pay260 (addf u.acc.2.1 (nn d0 k')) (addf u.acc.2.2.2 (nn d1 k'))⟩]
      ∧ ak = fK1 (rowsP (k0_off42 i) h42
              (accV (rows (F := F) (a := M.ak) (fK1 u.ak) (k0_off42 i) h42) d0 d1 (qm0 M x) (qm1 M x)) :: u.ak)

theorem pay13_eq (q0 q1 : FVec F S256x128 .bf16) (tri : FVec F S256x256 .bf16) (l0 l1 : FVec F S256x1 .f32)
    (c0 c1 z0 z1 : Vec F S1x1x256x256 .f32) (old : FVec F S256x128 .f32) :
    k0_pay13 q0 q1 l1 (k0_pay253 c1) (k0_pay254 tri c1) (k0_pay255 tri l0 c0 z0) z1 old
      = accV old (dzV true tri (got z0) (got c0) l0) (dzV true tri (got z1) (got c1) l1) q0 q1 := rfl
theorem pay11_eq (dq : FVec F S256x128 .f32) (tri : FVec F S256x256 .bf16) (l : FVec F S256x1 .f32)
    (c z : Vec F S1x1x256x256 .f32) (k : FVec F S256x128 .bf16) :
    k0_pay11 dq (k0_pay255 tri l c z) k = addf dq (nn (dzV true tri (got z) (got c) l) k) := rfl
theorem pay12_eq (dq : FVec F S256x128 .f32) (tri : FVec F S256x256 .bf16) (l : FVec F S256x1 .f32)
    (c z : Vec F S1x1x256x256 .f32) (k : FVec F S256x128 .bf16) :
    k0_pay12 l dq (k0_pay253 c) (k0_pay254 tri c) z k = addf dq (nn (dzV true tri (got z) (got c) l) k) := rfl

attribute [local irreducible] st1 st3

/-- The body at an even query block that is not the first. -/
theorem even_eq (y : Outs F M) (h0 : false = true ↔ (i 2).val = 0) (h2 : false = true ↔ (i 2).val % 2 = 1)
    (h4 : false = true ↔ (i 2).val = 7) :
    let R := bodyRun (F := F) c i M x false false false h0 h2 h4
    EvenForm c i M x y y.av (fun p => M.av.view.writes (Elt F) y.av [p]) y.ak (fun L => M.ak.view.writes (Elt F) y.ak L) (R.1 y) (R.2.2.2.1 y) (R.2.2.2.2.1 y) := by
  have e2 : ¬k0_cond2 i = 1#1 := fun h => Bool.false_ne_true (h2.mpr ((cond2_iff i).mp h))
  have e3 : ¬k0_cond3 i = 1#1 := fun h => Bool.false_ne_true (h2.mpr ((cond3_iff i).mp h))
  dsimp only
  unfold bodyRun EvenForm
  dsimp only
  refine ⟨?e1, 0#32, k0_off7_inb i e2, k0_off8_inb i e2, k0_off9_inb i e2, k0_off40_inb i e3, k0_off41_inb i e3, k0_off42_inb i e3, ?a1, ?av, ?dq, ?ak⟩
  case av => rw [View.writes_append]; exact rfl
  case a1 => exact ⟨rfl, rfl, rfl, rfl, rfl, rfl, rfl⟩
  case ak =>
    refine congrArg (fun p => M.ak.view.writes (Elt F) y.ak (rowsP (F := F) (k0_off42 i) (k0_off42_inb i e3) p :: _)) ?_
    exact pay13_eq _ _ _ _ _ _ _ _ _ _
  case dq =>
    refine congrArg (fun q => M.dq.view.writes (Elt F) y.dq [⟨Rect.unit (s := S256x128) ![0, 0] S256x128.size inb_S256x128_S256x128_0_0, q⟩]) ?_
    refine congrArg₂ (k0_pay14 k0_pay260) ?_ ?_
    · exact pay11_eq _ _ _ _ _ _
    · exact pay12_eq _ _ _ _ _ _

/-- A whole buffer to write. -/
abbrev zeroP (x : FVec F S2048x128 .f32) : View.Piece (Elt F) S2048x128 .f32 :=
  ⟨Rect.unit (s := S2048x128) ![0, 0] S2048x128.size inb_S2048x128_S2048x128_0_0, x⟩

/-- The body at the first query block. -/
theorem first_eq (y : Outs F M) (h0 : true = true ↔ (i 2).val = 0) (h2 : false = true ↔ (i 2).val % 2 = 1)
    (h4 : false = true ↔ (i 2).val = 7) :
    let R := bodyRun (F := F) c i M x true false false h0 h2 h4
    EvenForm c i M x y (M.av.view.writes (Elt F) M.av.view.junk [zeroP k0_pay257])
      (fun p => M.av.view.writes (Elt F) M.av.view.junk [p, zeroP k0_pay257])
      (M.ak.view.writes (Elt F) M.ak.view.junk [zeroP k0_pay256])
      (fun L => M.ak.view.writes (Elt F) M.ak.view.junk (L ++ [zeroP k0_pay256]))
      (R.1 y) (R.2.2.2.1 y) (R.2.2.2.2.1 y) := by
  have e2 : ¬k0_cond2 i = 1#1 := fun h => Bool.false_ne_true (h2.mpr ((cond2_iff i).mp h))
  have e3 : ¬k0_cond3 i = 1#1 := fun h => Bool.false_ne_true (h2.mpr ((cond3_iff i).mp h))
  dsimp only
  unfold bodyRun EvenForm
  dsimp only
  refine ⟨?e1, 0#32, k0_off7_inb i e2, k0_off8_inb i e2, k0_off9_inb i e2, k0_off40_inb i e3, k0_off41_inb i e3, k0_off42_inb i e3, ?a1, ?av, ?dq, ?ak⟩
  case av => rw [View.writes_append]; exact rfl
  case a1 => exact ⟨rfl, rfl, rfl, rfl, rfl, rfl, rfl⟩
  case ak =>
    refine congrArg (fun p => M.ak.view.writes (Elt F) M.ak.view.junk (rowsP (F := F) (k0_off42 i) (k0_off42_inb i e3) p :: (_ ++ [zeroP k0_pay256]))) ?_
    exact pay13_eq _ _ _ _ _ _ _ _ _ _
  case dq =>
    refine congrArg (fun q => M.dq.view.writes (Elt F) y.dq [⟨Rect.unit (s := S256x128) ![0, 0] S256x128.size inb_S256x128_S256x128_0_0, q⟩]) ?_
    refine congrArg₂ (k0_pay14 k0_pay260) ?_ ?_
    · exact pay11_eq _ _ _ _ _ _
    · exact pay12_eq _ _ _ _ _ _

/-- The body at an odd query block, in the tile steps. -/
def OddForm (y : Outs F M) (dq : BufTy.Contents (Elt F) M.dq.view.ty) (ak : BufTy.Contents (Elt F) M.ak.view.ty)
    (av : BufTy.Contents (Elt F) M.av.view.ty) : Prop :=
  ∃ (e1 : Env1 F M) (w : BitVec 32) (h1 : _) (h2 : _) (h3 : _) (h4 : _) (h5 : _) (h6 : _) (h34 : _) (h35 : _) (h36 : _)
    (h37 : _) (h38 : _) (h39 : _), Env1At M x e1 ∧
    let kt := rows (F := F) (a := M.k) x.k (k0_off1 i) h1
    let vt := rows (F := F) (a := M.v) x.v (k0_off1 i) h1
    let z0 := nt (qm0 M x) kt
    let z1 := nt (qm1 M x) kt
    let a0 := wV true k0_pay258 z0 k0_pay267
    let a1 := wV true k0_pay258 z1 k0_pay267
    let p := rowsP (k0_off1 i) h1 (accV (rows (F := F) (a := M.av) y.av (k0_off1 i) h1) a0 a1 (gm0 M x) (gm1 M x))
    let r0 := rV true k0_pay258 z0 k0_pay267
    let r1 := rV true k0_pay258 z1 k0_pay267
    let kt' := rows (F := F) (a := M.k) x.k (k0_off2 i) h2
    let vt' := rows (F := F) (a := M.v) x.v (k0_off2 i) h2
    let z0' := nt (qm0 M x) kt'
    let z1' := nt (qm1 M x) kt'
    let a0' := wV false k0_pay258 z0' r0
    let a1' := wV false k0_pay258 z1' r1
    let p' := rowsP (k0_off2 i) h2
      (accV (rows (F := F) (a := M.av) (M.av.view.writes (Elt F) y.av [p]) (k0_off2 i) h2) a0' a1' (gm0 M x) (gm1 M x))
    let s := st1 Variants.none c none i M e1 (M.av.view.writes (Elt F) y.av [p', p])
      (rV false k0_pay258 z0' r0, rV false k0_pay258 z1' r1) (k0_t1_loop i).trips
    let Z := M.z.view.writes (Elt F) y.z (s.z ++ [tileP (k0_off6 i) h6 (put z1'), tileP (k0_off5 i) h5 (put z0'),
      tileP (k0_off4 i) h4 (put z1), tileP (k0_off3 i) h3 (put z0)])
    let C := M.c.view.writes (Elt F) y.c (s.c ++ [tileP (k0_off6 i) h6 (put (mulf (nt (gm1 M x) vt') a1')),
      tileP (k0_off5 i) h5 (put (mulf (nt (gm0 M x) vt') a0')), tileP (k0_off4 i) h4 (put (mulf (nt (gm1 M x) vt) a1)),
      tileP (k0_off3 i) h3 (put (mulf (nt (gm0 M x) vt) a0))])
    let u := st3 Variants.none c none i M (env3 M x w Z C) y.ak (k0_pay267, k0_pay277, k0_pay267, k0_pay277) (k0_t3_loop i).trips
    let g0 := got (tile (F := F) (a := M.c) C (k0_off34 i) h34)
    let g1 := got (tile (F := F) (a := M.c) C (k0_off35 i) h35)
    let d0 := dzV false k0_pay259 (got (tile (F := F) (a := M.z) Z (k0_off34 i) h34)) g0 u.acc.1
    let d1 := dzV false k0_pay259 (got (tile (F := F) (a := M.z) Z (k0_off35 i) h35)) g1 u.acc.2.2.1
    let d0' := dzV true k0_pay259 (got (tile (F := F) (a := M.z) Z (k0_off36 i) h36))
      (got (tile (F := F) (a := M.c) C (k0_off36 i) h36)) (lV g0 u.acc.1)
    let d1' := dzV true k0_pay259 (got (tile (F := F) (a := M.z) Z (k0_off37 i) h37))
      (got (tile (F := F) (a := M.c) C (k0_off37 i) h37)) (lV g1 u.acc.2.2.1)
    let k0 := rows (F := F) (a := M.k) x.k (k0_off38 i) h38
    let k1 := rows (F := F) (a := M.k) x.k (k0_off39 i) h39
    let b := rowsP (k0_off38 i) h38
      (accV (rows (F := F) (a := M.ak) (M.ak.view.writes (Elt F) y.ak u.ak) (k0_off38 i) h38) d0 d1 (qm0 M x) (qm1 M x))
    av = M.av.view.writes (Elt F) (M.av.view.writes (Elt F) y.av [p', p]) s.av
      ∧ dq = M.dq.view.writes (Elt F) y.dq [⟨Rect.unit (s := S256x128) ![0, 0] S256x128.size inb_S256x128_S256x128_0_0,
            k0_pay14 k0_pay260 (addf (addf u.acc.2.1 (nn d0 k0)) (nn d0' k1)) (addf (addf u.acc.2.2.2 (nn d1 k0)) (nn d1' k1))⟩]
      ∧ ak = M.ak.view.writes (Elt F) y.ak (rowsP (k0_off39 i) h39
              (accV (rows (F := F) (a := M.ak) (M.ak.view.writes (Elt F) y.ak (b :: u.ak)) (k0_off39 i) h39) d0' d1' (qm0 M x) (qm1 M x))
            :: b :: u.ak)

section Pay

variable (q0 q1 k k' : FVec F S256x128 .bf16) (tri : FVec F S256x256 .bf16) (l0 l1 : FVec F S256x1 .f32)
  (c0 c1 c0' c1' z0 z1 z0' z1' : Vec F S1x1x256x256 .f32) (old dq : FVec F S256x128 .f32)

theorem pay8_eq :
    k0_pay8 (k0_pay247 q0 (k0_pay239 l0 (k0_pay230 c0) (k0_pay234 tri c0) z0))
        (k0_pay248 q1 (k0_pay240 l1 (k0_pay231 c1) (k0_pay235 tri c1) z1)) old
      = accV old (dzV false tri (got z0) (got c0) l0) (dzV false tri (got z1) (got c1) l1) q0 q1 := rfl
theorem pay9_eq :
    k0_pay9 (k0_pay249 q0 (k0_pay236 tri c0') (k0_pay242 z0') (k0_pay243 (k0_pay232 c0') z0') (k0_pay244 l0 (k0_pay230 c0)))
        (k0_pay250 q1 (k0_pay233 c1') (k0_pay238 tri (k0_pay233 c1') (k0_pay237 c1')) (k0_pay241 l1 (k0_pay231 c1)) z1') old
      = accV old (dzV true tri (got z0') (got c0') (lV (got c0) l0)) (dzV true tri (got z1') (got c1') (lV (got c1) l1)) q0 q1 := rfl
theorem pay252_eq :
    k0_pay252 dq (k0_pay236 tri c0') (k0_pay239 l0 (k0_pay230 c0) (k0_pay234 tri c0) z0) (k0_pay242 z0')
        (k0_pay243 (k0_pay232 c0') z0') (k0_pay244 l0 (k0_pay230 c0)) k k'
      = addf (addf dq (nn (dzV false tri (got z0) (got c0) l0) k)) (nn (dzV true tri (got z0') (got c0') (lV (got c0) l0)) k') := rfl
theorem pay7_eq :
    k0_pay7 (k0_pay246 (k0_pay233 c1') (k0_pay238 tri (k0_pay233 c1') (k0_pay237 c1')) (k0_pay241 l1 (k0_pay231 c1)) z1')
        (k0_pay251 dq (k0_pay240 l1 (k0_pay231 c1) (k0_pay235 tri c1) z1) k) k'
      = addf (addf dq (nn (dzV false tri (got z1) (got c1) l1) k)) (nn (dzV true tri (got z1') (got c1') (lV (got c1) l1)) k') := rfl

end Pay

/-- The body at an odd query block that is not the last. -/
theorem odd_eq (y : Outs F M) (h0 : false = true ↔ (i 2).val = 0) (h2 : true = true ↔ (i 2).val % 2 = 1)
    (h4 : false = true ↔ (i 2).val = 7) :
    let R := bodyRun (F := F) c i M x false true false h0 h2 h4
    OddForm c i M x y (R.1 y) (R.2.2.2.1 y) (R.2.2.2.2.1 y) := by
  have e2 : k0_cond2 i = 1#1 := (cond2_iff i).mpr (h2.mp rfl)
  have e3 : k0_cond3 i = 1#1 := (cond3_iff i).mpr (h2.mp rfl)
  dsimp only
  unfold bodyRun OddForm
  dsimp only
  refine ⟨?e1, ?w, k0_off1_inb i e2, k0_off2_inb i e2, k0_off3_inb i e2, k0_off4_inb i e2, k0_off5_inb i e2, k0_off6_inb i e2,
    k0_off34_inb i e3, k0_off35_inb i e3, k0_off36_inb i e3, k0_off37_inb i e3, k0_off38_inb i e3, k0_off39_inb i e3, ?a1, ?av, ?dq, ?ak⟩
  case av => rw [View.writes_append]; exact rfl
  case a1 => exact ⟨rfl, rfl, rfl, rfl, rfl, rfl, rfl⟩
  case dq =>
    refine congrArg (fun q => M.dq.view.writes (Elt F) y.dq [⟨Rect.unit (s := S256x128) ![0, 0] S256x128.size inb_S256x128_S256x128_0_0, q⟩]) ?_
    refine congrArg₂ (k0_pay14 k0_pay260) ?_ ?_
    · exact pay252_eq (F := F) _ _ _ _ _ _ _ _ _
    · exact pay7_eq (F := F) _ _ _ _ _ _ _ _ _
  case ak =>
    refine Eq.trans (congrArg (fun p => M.ak.view.writes (Elt F) y.ak (rowsP (F := F) (k0_off39 i) (k0_off39_inb i e3) p
      :: bodyRun.sl.Hak_1 c i M x e2 e3 y)) (pay9_eq (F := F) _ _ _ _ _ _ _ _ _ _ _ _)) ?_
    exact congrArg (fun L => M.ak.view.writes (Elt F) y.ak (rowsP (F := F) (k0_off39 i) (k0_off39_inb i e3)
      (accV (rows (F := F) (a := M.ak) (M.ak.view.writes (Elt F) y.ak L) (k0_off39 i) (k0_off39_inb i e3)) _ _ _ _) :: L))
      (congrArg (fun p => rowsP (F := F) (k0_off38 i) (k0_off38_inb i e3) p :: _) (pay8_eq (F := F) _ _ _ _ _ _ _ _ _ _))

/-- A whole buffer, read. -/
abbrev whole {a : Memref sig .tc .vmem S2048x128 .f32} (f : BufTy.Contents (Elt F) a.view.ty) : S2048x128.Idx → Elt F .f32 :=
  View.readAt (Elt F) a.view (Rect.unit (s := S2048x128) ![0, 0] S2048x128.size inb_S2048x128_S2048x128_0_0).toLoadRect f

/-- The body at an odd query block that is the last. -/
theorem last_eq (y : Outs F M) (h0 : false = true ↔ (i 2).val = 0) (h2 : true = true ↔ (i 2).val % 2 = 1)
    (h4 : true = true ↔ (i 2).val = 7) :
    let R := bodyRun (F := F) c i M x false true true h0 h2 h4
    OddForm c i M x y (R.1 y) (R.2.2.2.1 y) (R.2.2.2.2.1 y)
      ∧ R.2.1 y = M.dk.view.writes (Elt F) y.dk [⟨Rect.unit (s := S2048x128) ![0, 0] S2048x128.size inb_S2048x128_S2048x128_0_0, k0_pay15 (whole (a := M.ak) (R.2.2.2.1 y))⟩]
      ∧ R.2.2.1 y = M.dv.view.writes (Elt F) y.dv [⟨Rect.unit (s := S2048x128) ![0, 0] S2048x128.size inb_S2048x128_S2048x128_0_0, k0_pay16 (whole (a := M.av) (R.2.2.2.2.1 y))⟩] := by
  have e2 : k0_cond2 i = 1#1 := (cond2_iff i).mpr (h2.mp rfl)
  have e3 : k0_cond3 i = 1#1 := (cond3_iff i).mpr (h2.mp rfl)
  dsimp only
  unfold bodyRun OddForm
  dsimp only
  refine ⟨?_, rfl, rfl⟩
  refine ⟨?e1, ?w, k0_off1_inb i e2, k0_off2_inb i e2, k0_off3_inb i e2, k0_off4_inb i e2, k0_off5_inb i e2, k0_off6_inb i e2,
    k0_off34_inb i e3, k0_off35_inb i e3, k0_off36_inb i e3, k0_off37_inb i e3, k0_off38_inb i e3, k0_off39_inb i e3, ?a1, ?av, ?dq, ?ak⟩
  case av => rw [View.writes_append]; exact rfl
  case a1 => exact ⟨rfl, rfl, rfl, rfl, rfl, rfl, rfl⟩
  case dq =>
    refine congrArg (fun q => M.dq.view.writes (Elt F) y.dq [⟨Rect.unit (s := S256x128) ![0, 0] S256x128.size inb_S256x128_S256x128_0_0, q⟩]) ?_
    refine congrArg₂ (k0_pay14 k0_pay260) ?_ ?_
    · exact pay252_eq (F := F) _ _ _ _ _ _ _ _ _
    · exact pay7_eq (F := F) _ _ _ _ _ _ _ _ _
  case ak =>
    refine Eq.trans (congrArg (fun p => M.ak.view.writes (Elt F) y.ak (rowsP (F := F) (k0_off39 i) (k0_off39_inb i e3) p
      :: bodyRun.sl.Hak_1_1 c i M x e2 e3 y)) (pay9_eq (F := F) _ _ _ _ _ _ _ _ _ _ _ _)) ?_
    exact congrArg (fun L => M.ak.view.writes (Elt F) y.ak (rowsP (F := F) (k0_off39 i) (k0_off39_inb i e3)
      (accV (rows (F := F) (a := M.ak) (M.ak.view.writes (Elt F) y.ak L) (k0_off39 i) (k0_off39_inb i e3)) _ _ _ _) :: L))
      (congrArg (fun p => rowsP (F := F) (k0_off38 i) (k0_off38_inb i e3) p :: _) (pay8_eq (F := F) _ _ _ _ _ _ _ _ _ _))

end Body

end Cert.AttnBRun

end
-- ==== Proof.AttnBTiles.lean ====
module

public import proofs.«01_k».proof.Proof.AttnBSteps
public import Idealize.ShloMosaic.Lib.Pointwise
public import Idealize.ShloMosaic.Lib.WordCmp
public import Idealize.ShloMosaic.Lib.ValueIdxCore
public import Idealize.ShloMosaic.Init

/-! The tile steps of the stick-breaking backward kernel over the reals: what each does with a tile of real numbers. -/

@[expose] public section

set_option maxRecDepth 16384

noncomputable section

namespace Cert.AttnBRun

open Idealize.ShloMosaic Idealize.ShloMosaic.TcCoe
open Cert.AttnBIdeal Cert.AttnBIdeal.Gen

/-- A sum of reals, as an extended real. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_min (a b : ℝ) : ((min a b : ℝ) : EReal) = min (a : EReal) (b : EReal) := EReal.coe_strictMono.monotone.map_min

theorem coe_ite (p : Prop) [Decidable p] (a b : ℝ) : ((if p then a else b : ℝ) : EReal) = if p then (a : EReal) else (b : EReal) := by
  split <;> rfl

/-- A sum over the first `n` numbers from one over `Fin n`. -/
theorem sum_fin (n : ℕ) (f : ℕ → ℝ) : (∑ x : Fin n, (f x : EReal)) = ((∑ x ∈ Finset.range n, f x : ℝ) : EReal) := by
  rw [← coe_sum, Fin.sum_univ_eq_sum_range]

/-- A choice by a signed comparison of two small numbers. -/
theorem sel_slt {α : Type} {a b : ℕ} (ha : a < 256) (hb : b < 256) (x y : α) :
    Scalar.select (IntOp.cmpi CmpIPredicate.slt (BitVec.ofNat 32 a) (BitVec.ofNat 32 b)) x y = if a < b then x else y := by
  rw [WordCmp.cmpi_slt_ofNat (by norm_num; omega) (by norm_num; omega)]
  by_cases h : a < b <;> simp [h, Scalar.select]
theorem sel_sgt {α : Type} {a b : ℕ} (ha : a < 256) (hb : b < 256) (x y : α) :
    Scalar.select (IntOp.cmpi CmpIPredicate.sgt (BitVec.ofNat 32 a) (BitVec.ofNat 32 b)) x y = if b < a then x else y := by
  rw [WordCmp.cmpi_sgt_ofNat (by norm_num; omega) (by norm_num; omega)]
  by_cases h : b < a <;> simp [h, Scalar.select]

/-- The logarithm of the logistic function, as the kernel computes it. -/
def lb (z : ℝ) : ℝ := min z 0 - Real.log (1 + Real.exp (min z (-z)))

/-- The logistic function. -/
def sg (z : ℝ) : ℝ := (1 + Real.exp (-z))⁻¹

/-- A tile of real numbers. -/
def Re (X : S256x256.Idx → EReal) (f : ℕ → ℕ → ℝ) : Prop := ∀ r c : Fin 256, X (ix2 r c) = ((f r c : ℝ) : EReal)
/-- Rows of real numbers. -/
def ReR (X : S256x128.Idx → EReal) (f : ℕ → ℕ → ℝ) : Prop := ∀ (r : Fin 256) (c : Fin 128), X (ix2 r c) = ((f r c : ℝ) : EReal)
/-- A column of real numbers. -/
def ReC (X : S256x1.Idx → EReal) (f : ℕ → ℝ) : Prop := ∀ r : Fin 256, X (ix2 r 0) = ((f r : ℝ) : EReal)

variable {x z g : FVec Ideal S256x256 .f32} {a b : FVec Ideal S256x128 .bf16} {l : FVec Ideal S256x1 .f32}
  {old : FVec Ideal S256x128 .f32} {fx fz fg fa fb fo : ℕ → ℕ → ℝ} {fl : ℕ → ℝ}

theorem Re.nt (ha : ReR a fa) (hb : ReR b fb) :
    Re (nt a b) fun r c => ∑ l ∈ Finset.range 128, fa r l * fb c l := fun r c => by
  pointwise [Cert.AttnBRun.nt]
  rw [← sum_fin 128 fun l => fa r l * fb c l]
  exact Finset.sum_congr rfl fun l _ => by rw [ha, hb, EReal.coe_mul]

theorem ReR.nn (hx : Re x fx) (ha : ReR a fa) : ReR (nn x a) fun r c => ∑ s ∈ Finset.range 256, fx r s * fa s c := fun r c => by
  pointwise [Cert.AttnBRun.nn]
  rw [← sum_fin 256 fun l => fx r l * fa l c]
  exact Finset.sum_congr rfl fun l _ => by rw [ha, hx, EReal.coe_mul]

theorem ReR.tn (hx : Re x fx) (ha : ReR a fa) : ReR (tn x a) fun r c => ∑ s ∈ Finset.range 256, fx s r * fa s c := fun r c => by
  pointwise [Cert.AttnBRun.tn]
  rw [← sum_fin 256 fun l => fx l r * fa l c]
  exact Finset.sum_congr rfl fun l _ => by rw [ha, hx, EReal.coe_mul]

theorem Re.after (hx : Re x fx) : Re (two k0_pay258 x) fun r c => ∑ s ∈ Finset.Ico (c + 1) 256, fx r s := fun r c => by
  pointwise [two, k0_pay258]
  have h : ∀ s : Fin 256, Scalar.select (IntOp.cmpi CmpIPredicate.sgt (BitVec.ofNat 32 s.val) (BitVec.ofNat 32 c.val)) (x (ix2 r s)) 0
      + Scalar.select (IntOp.cmpi CmpIPredicate.sgt (BitVec.ofNat 32 s.val) (BitVec.ofNat 32 c.val)) (x (ix2 r s) - x (ix2 r s)) 0
      = (((if c.val < s.val then fx r s else 0 : ℝ)) : EReal) := fun s => by
    rw [sel_sgt s.isLt c.isLt, sel_sgt s.isLt c.isLt, hx]
    split
    · rw [← EReal.coe_sub, sub_self, EReal.coe_zero, add_zero]
    · simp
  rw [← Finset.sum_add_distrib, Finset.sum_congr rfl fun s _ => h s, sum_fin 256 fun s => if c.val < s then fx r s else 0,
    ← Finset.sum_filter]
  refine congrArg Real.toEReal (Finset.sum_congr (Finset.ext fun s => ?_) fun _ _ => rfl)
  simp only [Finset.mem_filter, Finset.mem_range, Finset.mem_Ico]; omega

theorem Re.before (hx : Re x fx) : Re (two k0_pay259 x) fun r c => ∑ s ∈ Finset.range c, fx r s := fun r c => by
  pointwise [two, k0_pay259]
  have h : ∀ s : Fin 256, Scalar.select (IntOp.cmpi CmpIPredicate.slt (BitVec.ofNat 32 s.val) (BitVec.ofNat 32 c.val)) (x (ix2 r s)) 0
      + Scalar.select (IntOp.cmpi CmpIPredicate.slt (BitVec.ofNat 32 s.val) (BitVec.ofNat 32 c.val)) (x (ix2 r s) - x (ix2 r s)) 0
      = (((if s.val < c.val then fx r s else 0 : ℝ)) : EReal) := fun s => by
    rw [sel_slt s.isLt c.isLt, sel_slt s.isLt c.isLt, hx]
    split
    · rw [← EReal.coe_sub, sub_self, EReal.coe_zero, add_zero]
    · simp
  rw [← Finset.sum_add_distrib, Finset.sum_congr rfl fun s _ => h s, sum_fin 256 fun s => if s < c.val then fx r s else 0,
    ← Finset.sum_filter]
  refine congrArg Real.toEReal (Finset.sum_congr (Finset.ext fun s => ?_) fun _ _ => rfl)
  simp only [Finset.mem_filter, Finset.mem_range]; omega

theorem Re.lb (hz : Re z fz) : Re (lbV z) fun r c => lb (fz r c) := fun r c => by
  pointwise [lbV]
  have h1 : ¬(1 + Real.exp (min (fz r c) (-fz r c)) ≤ 0) := not_le.mpr (by positivity)
  rw [hz, zero_sub, ← EReal.coe_neg, ← coe_min, Ideal.exp_coe, ← EReal.coe_one, ← EReal.coe_add, Ideal.log_coe, if_neg h1,
    ← EReal.coe_zero, ← coe_min, ← EReal.coe_sub]
  rfl

theorem Re.kept (hx : Re x fx) : Re (kept x) fun r c => if c < r then fx r c else 0 := fun r c => by
  pointwise [Cert.AttnBRun.kept]
  rw [sel_slt c.isLt r.isLt, hx]; split <;> simp

/-- What of a tile's entries is kept: all, or those strictly left of the diagonal. -/
def cut (d : Bool) (f : ℕ → ℕ → ℝ) (r c : ℕ) : ℝ := match d with
  | true => if c < r then f r c else 0
  | false => f r c

theorem Re.sub {y : FVec Ideal S256x256 .f32} {fy : ℕ → ℕ → ℝ} (hx : Re x fx) (hy : Re y fy) :
    Re (subf x y) fun r c => fx r c - fy r c := fun r c => by
  pointwise
  rw [hx, hy, EReal.coe_sub]

theorem Re.lm (d : Bool) (hz : Re z fz) : Re (lmV d z) (cut d fun r c => Cert.AttnBRun.lb (fz r c) - fz r c) := by
  cases d
  · exact hz.lb.sub hz
  · exact (hz.lb.sub hz).kept

theorem Re.weights (d : Bool) (hz : Re z fz) (hl : ReC l fl) :
    Re (wV d k0_pay258 z l) (cut d fun r c => Real.exp (Cert.AttnBRun.lb (fz r c) + (fl r
      + ∑ s ∈ Finset.Ico (c + 1) 256, cut d (fun r c => Cert.AttnBRun.lb (fz r c) - fz r c) r s))) := by
  have h : Re (exp (addf (lbV z) (addf (broadcastTo S256x256 l broadcasts_S256x1_S256x256) (two k0_pay258 (lmV d z))))) fun r c =>
      Real.exp (Cert.AttnBRun.lb (fz r c) + (fl r
        + ∑ s ∈ Finset.Ico (c + 1) 256, cut d (fun r c => Cert.AttnBRun.lb (fz r c) - fz r c) r s)) := fun r c => by
    pointwise
    rw [hz.lb, hl, (hz.lm d).after, ← EReal.coe_add, ← EReal.coe_add, Ideal.exp_coe]
  cases d
  · exact h
  · exact h.kept

theorem ReC.right (d : Bool) (hz : Re z fz) (hl : ReC l fl) :
    ReC (rV d k0_pay258 z l) fun r => fl r + ∑ s ∈ Finset.range 256, cut d (fun r c => Cert.AttnBRun.lb (fz r c) - fz r c) r s := fun r => by
  pointwise [rV]
  rw [hl, (hz.lm d).after r 0, hz.lm d r 0, ← EReal.coe_add, ← EReal.coe_add, Finset.range_eq_Ico]
  exact congrArg (fun q : ℝ => ((fl r + q : ℝ) : EReal)) ((add_comm _ _).trans (Finset.sum_eq_sum_Ico_succ_bot (by norm_num) _).symm)

theorem ReR.acc {d0 d1 : FVec Ideal S256x128 .bf16} {f0 f1 : ℕ → ℕ → ℝ} (ho : ReR old fo) (hx : Re x fx) (hz : Re z fz)
    (h0 : ReR d0 f0) (h1 : ReR d1 f1) :
    ReR (accV old x z d0 d1) fun r c => fo r c + (∑ s ∈ Finset.range 256, fx s r * f0 s c + ∑ s ∈ Finset.range 256, fz s r * f1 s c) :=
  fun r c => by
    pointwise [accV]
    rw [ho, ReR.tn hx h0, ReR.tn hz h1, ← EReal.coe_add, ← EReal.coe_add]

theorem Re.dz (d : Bool) (hz : Re z fz) (hg : Re g fg) (hl : ReC l fl) :
    Re (dzV d k0_pay259 z g l) (cut d fun r c => fg r c * (1 - sg (fz r c)) - sg (fz r c) * (fl r + ∑ s ∈ Finset.range c, fg r s)) := by
  have h : Re (subf (mulf g (subf (broadcast S256x256 (Scalar.ofBits .f32 0x3F800000#32)) (logistic z)))
      (mulf (logistic z) (addf (broadcastTo S256x256 l broadcasts_S256x1_S256x256) (two k0_pay259 g)))) fun r c =>
      fg r c * (1 - sg (fz r c)) - sg (fz r c) * (fl r + ∑ s ∈ Finset.range c, fg r s) := fun r c => by
    pointwise
    rw [hz, hg, hl, hg.before, Ideal.logistic_coe, ← EReal.coe_one, ← EReal.coe_sub, ← EReal.coe_mul, ← EReal.coe_add,
      ← EReal.coe_mul, ← EReal.coe_sub]
    rfl
  cases d
  · exact h
  · exact h.kept

theorem ReC.left (hg : Re g fg) (hl : ReC l fl) : ReC (lV g l) fun r => fl r + ∑ s ∈ Finset.range 256, fg r s := fun r => by
  pointwise [lV]
  rw [hl, Finset.sum_congr rfl fun s _ => hg r s, sum_fin 256 fun s => fg r s, ← EReal.coe_add]

theorem Re.mul (hx : Re x fx) (hz : Re z fz) : Re (mulf x z) fun r c => fx r c * fz r c := fun r c => by
  pointwise
  rw [hx, hz, EReal.coe_mul]

theorem ReR.add {y : FVec Ideal S256x128 .f32} {fy : ℕ → ℕ → ℝ} (ho : ReR old fo) (hy : ReR y fy) :
    ReR (addf old y) fun r c => fo r c + fy r c := fun r c => by
  pointwise
  rw [ho, hy, EReal.coe_add]

theorem ReC.zero : ReC (k0_pay267 (F := Ideal)) fun _ => 0 := fun r => by
  pointwise [k0_pay267]
  exact EReal.coe_zero.symm

theorem ReR.zero : ReR (k0_pay277 (F := Ideal)) fun _ _ => 0 := fun r c => by
  pointwise [k0_pay277]
  exact EReal.coe_zero.symm

end Cert.AttnBRun
end
-- ==== Proof.AttnBMath.lean ====
module

public import proofs.«01_k».proof.Proof.AttnBTiles

/-! Stick-breaking attention's weights and cotangents over the reals, for the two heads of a block of columns, and the
kernel's tile steps as steps on their tiles. -/

@[expose] public section

set_option maxRecDepth 16384

noncomputable section

namespace Cert.AttnBRun

open Idealize.ShloMosaic Idealize.ShloMosaic.TcCoe
open Cert.AttnBIdeal Cert.AttnBIdeal.Gen

theorem ofBits_eighth_bf16 : Ideal.ofBits FTy.bf16 15872#16 = ((1 / 8 : ℝ) : EReal) := by
  simp [Ideal.ofBits, Ideal.ieee, -EReal.coe_mul]; norm_num
theorem ofBits_eighth_f32 : Ideal.ofBits FTy.f32 1040187392#32 = ((1 / 8 : ℝ) : EReal) := by
  simp [Ideal.ofBits, Ideal.ieee, -EReal.coe_mul]; norm_num

/-- The lanes of the first and of the second head. -/
theorem sel_first {α : Type} {a : ℕ} (ha : a < 128) (x y : α) :
    Scalar.select (IntOp.cmpi CmpIPredicate.slt (BitVec.ofNat 32 a) 64#32) x y = if a / 64 = 0 then x else y := by
  rw [show (64#32 : BitVec 32) = BitVec.ofNat 32 64 from rfl, WordCmp.cmpi_slt_ofNat (by norm_num; omega) (by norm_num)]
  by_cases h : a < 64
  · simp [h, Scalar.select]
  · rw [if_neg (by omega)]; simp [h, Scalar.select]
theorem sel_second {α : Type} {a : ℕ} (ha : a < 128) (x y : α) :
    Scalar.select (IntOp.cmpi CmpIPredicate.sge (BitVec.ofNat 32 a) 64#32) x y = if a / 64 = 1 then x else y := by
  rw [show (64#32 : BitVec 32) = BitVec.ofNat 32 64 from rfl, WordCmp.cmpi_sge_ofNat (by norm_num; omega) (by norm_num)]
  by_cases h : 64 ≤ a
  · rw [if_pos (by omega)]; simp [h, Scalar.select]
  · rw [if_neg (by omega)]; simp [h, Scalar.select]

section Masks

variable {a : FVec Ideal S256x128 .bf16} {fa : ℕ → ℕ → ℝ}

theorem ReR.q0 (ha : ReR a fa) : ReR (k0_pay263 (F := Ideal) a) fun r l => if l / 64 = 0 then fa r l * (1 / 8) else 0 := fun r c => by
  pointwise [k0_pay263, k0_pay262]
  rw [sel_first c.isLt, ha, ofBits_eighth_bf16]; split <;> simp
theorem ReR.q1 (ha : ReR a fa) : ReR (k0_pay264 (F := Ideal) a) fun r l => if l / 64 = 1 then fa r l * (1 / 8) else 0 := fun r c => by
  pointwise [k0_pay264, k0_pay262]
  rw [sel_second c.isLt, ha, ofBits_eighth_bf16]; split <;> simp
theorem ReR.g0 (ha : ReR a fa) : ReR (k0_pay265 (F := Ideal) a k0_pay260) fun r l => if l / 64 = 0 then fa r l else 0 := fun r c => by
  pointwise [k0_pay265, k0_pay260]
  rw [sel_first c.isLt, ha]; split <;> simp
theorem ReR.g1 (ha : ReR a fa) : ReR (k0_pay266 (F := Ideal) a k0_pay261) fun r l => if l / 64 = 1 then fa r l else 0 := fun r c => by
  pointwise [k0_pay266, k0_pay261]
  rw [sel_second c.isLt, ha]; split <;> simp

theorem ReR.heads {x y : FVec Ideal S256x128 .f32} {f0 f1 : ℕ → ℕ → ℝ} (h0 : ReR x f0) (h1 : ReR y f1) :
    ReR (k0_pay14 k0_pay260 x y) fun r l => (if l / 64 = 0 then f0 r l else f1 r l) * (1 / 8) := fun r c => by
  pointwise [k0_pay14, k0_pay260]
  rw [sel_first c.isLt, h0, h1, ofBits_eighth_f32]; split <;> simp

end Masks

/-- A tile stored, read at one of its indices. -/
theorem put_apply (x : FVec Ideal S256x256 .f32) (y : S1x1x256x256.Idx) : put x y = x (ix2 (y 2) (y 3)) := by
  rw [show y = ix4 (y 0) (y 1) (y 2) (y 3) from (ix4_eta y).symm]
  pointwise [put]
theorem got_apply (x : Vec Ideal S1x1x256x256 .f32) (r c : Fin 256) : got x (ix2 r c) = x (ix4 0 0 r c) := by
  pointwise [got]
theorem pay256_apply (y : S2048x128.Idx) : k0_pay256 (F := Ideal) y = 0 := by pointwise [k0_pay256]
theorem pay257_apply (y : S2048x128.Idx) : k0_pay257 (F := Ideal) y = 0 := by pointwise [k0_pay257]

theorem Re.congr {X : S256x256.Idx → EReal} {f g : ℕ → ℕ → ℝ} (h : Re X f) (e : ∀ r < 256, ∀ c < 256, f r c = g r c) : Re X g :=
  fun r c => (h r c).trans (congrArg Real.toEReal (e r r.isLt c c.isLt))
theorem ReR.congr {X : S256x128.Idx → EReal} {f g : ℕ → ℕ → ℝ} (h : ReR X f) (e : ∀ r < 256, ∀ c < 128, f r c = g r c) : ReR X g :=
  fun r c => (h r c).trans (congrArg Real.toEReal (e r r.isLt c c.isLt))
theorem ReC.congr {X : S256x1.Idx → EReal} {f g : ℕ → ℝ} (h : ReC X f) (e : ∀ r < 256, f r = g r) : ReC X g :=
  fun r => (h r).trans (congrArg Real.toEReal (e r r.isLt))

/-- The queries, keys, values and output cotangents of one sequence and two heads. -/
structure Seq where
  q : ℕ → ℕ → ℝ
  k : ℕ → ℕ → ℝ
  v : ℕ → ℕ → ℝ
  g : ℕ → ℕ → ℝ

namespace Seq

variable (D : Seq) (h : ℕ)

/-- One head's queries, scaled, and zero on the other's lanes. -/
def qm (t l : ℕ) : ℝ := if l / 64 = h then D.q t l * (1 / 8) else 0
/-- One head's output cotangents, and zero on the other's lanes. -/
def gm (t l : ℕ) : ℝ := if l / 64 = h then D.g t l else 0
/-- The scores. -/
def Z (t s : ℕ) : ℝ := ∑ l ∈ Finset.range 128, D.qm h t l * D.k s l
/-- The weights' cotangents. -/
def dA (t s : ℕ) : ℝ := ∑ l ∈ Finset.range 128, D.gm h t l * D.v s l
/-- What a key before the query leaves, in logarithms. -/
def m1 (t s : ℕ) : ℝ := if s < t then lb (D.Z h t s) - D.Z h t s else 0
/-- What the keys from `s` on leave. -/
def R (t s : ℕ) : ℝ := ∑ u ∈ Finset.Ico s 2048, D.m1 h t u
/-- The weights. -/
def A (t s : ℕ) : ℝ := if s < t then Real.exp (lb (D.Z h t s) + D.R h t (s + 1)) else 0
/-- The cotangents of the weights' logarithms. -/
def G (t s : ℕ) : ℝ := D.dA h t s * D.A h t s
/-- Their sums over the keys before `s`. -/
def L (t s : ℕ) : ℝ := ∑ u ∈ Finset.range s, D.G h t u
/-- The scores' cotangents. -/
def W (t s : ℕ) : ℝ := if s < t then D.G h t s * (1 - sg (D.Z h t s)) - sg (D.Z h t s) * D.L h t s else 0

end Seq

/-- The tile of query block `qi` and key block `kb`. -/
def tl (f : ℕ → ℕ → ℝ) (qi kb r c : ℕ) : ℝ := f (256 * qi + r) (256 * kb + c)

theorem cut_tl {d : Bool} {qi kb : ℕ} (hd : d = true ↔ kb = qi) (hk : kb ≤ qi) (f : ℕ → ℕ → ℝ) {r c : ℕ}
    (hr : r < 256) (hc : c < 256) :
    cut d (tl f qi kb) r c = if 256 * kb + c < 256 * qi + r then tl f qi kb r c else 0 := by
  cases d
  · have : kb ≠ qi := fun e => Bool.false_ne_true (hd.2 e)
    rw [if_pos (by omega)]; rfl
  · have : kb = qi := hd.1 rfl
    subst this
    unfold cut
    simp only [Nat.add_lt_add_iff_left]

/-- A sum over a stretch of keys of one block. -/
theorem sum_block (f : ℕ → ℝ) (kb c : ℕ) :
    ∑ s ∈ Finset.Ico c 256, f (256 * kb + s) = ∑ s ∈ Finset.Ico (256 * kb + c) (256 * (kb + 1)), f s := by
  rw [Finset.sum_Ico_add f c 256 (256 * kb), Nat.add_comm c, Nat.add_comm 256, Nat.mul_succ]

theorem sum_range_block (f : ℕ → ℝ) (kb c : ℕ) :
    ∑ s ∈ Finset.range (256 * kb), f s + ∑ s ∈ Finset.range c, f (256 * kb + s) = ∑ s ∈ Finset.range (256 * kb + c), f s := by
  rw [Finset.sum_range_add f]

section Steps

variable (D : Seq) (h : ℕ) {d : Bool} {qi kb : ℕ}
variable {qv kt gv vt : FVec Ideal S256x128 .bf16} {z g : FVec Ideal S256x256 .f32} {l : FVec Ideal S256x1 .f32}

theorem tile_scores (hq : ReR qv fun r l => D.qm h (256 * qi + r) l) (hk : ReR kt fun r l => D.k (256 * kb + r) l) :
    Re (nt qv kt) (tl (D.Z h) qi kb) := Re.nt hq hk

theorem m1_tl (hd : d = true ↔ kb = qi) (hk : kb ≤ qi) {r c : ℕ} (hr : r < 256) (hc : c < 256) :
    cut d (fun r c => lb (tl (D.Z h) qi kb r c) - tl (D.Z h) qi kb r c) r c = D.m1 h (256 * qi + r) (256 * kb + c) :=
  cut_tl hd hk (fun t s => lb (D.Z h t s) - D.Z h t s) hr hc

theorem tile_weights (hd : d = true ↔ kb = qi) (hk : kb ≤ qi) (hq : qi < 8) (hz : Re z (tl (D.Z h) qi kb))
    (hl : ReC l fun r => D.R h (256 * qi + r) (256 * (kb + 1))) :
    Re (wV d k0_pay258 z l) (tl (D.A h) qi kb) := by
  refine (hz.weights d hl).congr fun r hr c hc => ?_
  have e : ∀ r c, r < 256 → c < 256 → (D.R h (256 * qi + r) (256 * (kb + 1))
      + ∑ s ∈ Finset.Ico (c + 1) 256, cut d (fun r c => lb (tl (D.Z h) qi kb r c) - tl (D.Z h) qi kb r c) r s)
      = D.R h (256 * qi + r) (256 * kb + c + 1) := fun r c hr hc => by
    rw [Finset.sum_congr rfl fun s hs => m1_tl D h hd hk hr (Finset.mem_Ico.1 hs).2, sum_block (D.m1 h (256 * qi + r)), add_comm]
    exact Finset.sum_Ico_consecutive _ (by omega) (by omega)
  refine Eq.trans ?_ (cut_tl hd hk (D.A h) hr hc |>.trans ?_)
  · cases d
    · show Real.exp _ = _
      rw [e r c hr hc]
      exact (if_pos (by have : kb ≠ qi := fun e => Bool.false_ne_true (hd.2 e); omega)).symm
    · show (if c < r then Real.exp _ else 0) = if c < r then _ else 0
      rw [e r c hr hc]
      have : kb = qi := hd.1 rfl
      split
      · exact (if_pos (by omega)).symm
      · rfl
  · split
    · rfl
    · exact (if_neg ‹_›).symm

theorem tile_right (hd : d = true ↔ kb = qi) (hk : kb ≤ qi) (hq : qi < 8) (hz : Re z (tl (D.Z h) qi kb))
    (hl : ReC l fun r => D.R h (256 * qi + r) (256 * (kb + 1))) :
    ReC (rV d k0_pay258 z l) fun r => D.R h (256 * qi + r) (256 * kb) := by
  refine (ReC.right d hz hl).congr fun r hr => ?_
  rw [Finset.sum_congr rfl fun s hs => m1_tl D h hd hk hr (Finset.mem_range.1 hs), Finset.range_eq_Ico,
    sum_block (D.m1 h (256 * qi + r)), add_comm]
  exact Finset.sum_Ico_consecutive _ (by omega) (by omega)

theorem tile_cots (hg : ReR gv fun r l => D.gm h (256 * qi + r) l) (hv : ReR vt fun r l => D.v (256 * kb + r) l)
    (hz : Re z (tl (D.A h) qi kb)) : Re (mulf (nt gv vt) z) (tl (D.G h) qi kb) := (Re.nt hg hv).mul hz

theorem tile_dz (hd : d = true ↔ kb = qi) (hk : kb ≤ qi) (hz : Re z (tl (D.Z h) qi kb)) (hg : Re g (tl (D.G h) qi kb))
    (hl : ReC l fun r => D.L h (256 * qi + r) (256 * kb)) :
    Re (dzV d k0_pay259 z g l) (tl (D.W h) qi kb) := by
  refine (hz.dz d hg hl).congr fun r hr c hc => ?_
  have e : ∀ r c, (D.L h (256 * qi + r) (256 * kb) + ∑ s ∈ Finset.range c, tl (D.G h) qi kb r s)
      = D.L h (256 * qi + r) (256 * kb + c) := fun r c => sum_range_block (D.G h (256 * qi + r)) kb c
  simp only [e]
  refine (cut_tl hd hk (fun t s => D.G h t s * (1 - sg (D.Z h t s)) - sg (D.Z h t s) * D.L h t s) hr hc).trans ?_
  rfl

theorem tile_left (hg : Re g (tl (D.G h) qi kb)) (hl : ReC l fun r => D.L h (256 * qi + r) (256 * kb)) :
    ReC (lV g l) fun r => D.L h (256 * qi + r) (256 * (kb + 1)) :=
  (ReC.left hg hl).congr fun r _ => by
    rw [Nat.mul_succ]
    exact sum_range_block (D.G h (256 * qi + r)) kb 256

theorem tile_dq {old : FVec Ideal S256x128 .f32} (hk : ReR kt fun r l => D.k (256 * kb + r) l) (hz : Re z (tl (D.W h) qi kb))
    (ho : ReR old fun r l => ∑ s ∈ Finset.range (256 * kb), D.W h (256 * qi + r) s * D.k s l) :
    ReR (addf old (nn z kt)) fun r l => ∑ s ∈ Finset.range (256 * (kb + 1)), D.W h (256 * qi + r) s * D.k s l :=
  (ho.add (ReR.nn hz hk)).congr fun r _ l _ => by
    rw [Nat.mul_succ]
    exact sum_range_block (fun s => D.W h (256 * qi + r) s * D.k s l) kb 256

/-- Beyond the query block nothing is left to a key, and no key weighs anything. -/
theorem R_beyond {r : ℕ} (hr : r < 256) : D.R h (256 * qi + r) (256 * (qi + 1)) = 0 :=
  Finset.sum_eq_zero fun s hs => if_neg (by have := (Finset.mem_Ico.1 hs).1; omega)
theorem A_beyond {t s : ℕ} (hs : t ≤ s) : D.A h t s = 0 := if_neg (by omega)
theorem W_beyond {t s : ℕ} (hs : t ≤ s) : D.W h t s = 0 := if_neg (by omega)

end Steps

end Cert.AttnBRun
end
-- ==== Proof.AttnBSweep.lean ====
module

public import proofs.«01_k».proof.Proof.AttnBMath
public import proofs.«01_k».proof.Proof.AttnBOffsets
public import Idealize.ShloMosaic.Lib.WritesUnit
public import Idealize.ShloMosaic.Lib.Pipeline.ValueKit.Tiles

/-! What the two sweeps of the stick-breaking backward kernel leave in the sums' buffers and in the buffers of tiles. -/

@[expose] public section

set_option maxRecDepth 16384

noncomputable section

namespace Cert.AttnBRun

open Idealize.ShloMosaic Idealize.ShloMosaic.TcCoe
open Cert.AttnBIdeal Cert.AttnBIdeal.Gen

/-- A buffer of 2048 rows of real numbers. -/
def Rows (X : S2048x128.Idx → EReal) (f : ℕ → ℕ → ℝ) : Prop := ∀ (s : Fin 2048) (l : Fin 128), X (ix2 s l) = ((f s l : ℝ) : EReal)

/-- A tile of real numbers in a buffer of tiles. -/
def Tile (X : S2x8x256x256.Idx → EReal) (h : Fin 2) (kb : Fin 8) (f : ℕ → ℕ → ℝ) : Prop :=
  ∀ r c : Fin 256, X (ix4 h kb r c) = ((f r c : ℝ) : EReal)

theorem writes_two {s : Shape} {e : EltTy} {a : Memref sig .tc .vmem s e} (f : BufTy.Contents (Elt Ideal) a.view.ty)
    (p q : View.Piece (Elt Ideal) s e) :
    a.view.writes (Elt Ideal) f [p, q] = a.view.writes (Elt Ideal) (a.view.writes (Elt Ideal) f [q]) [p] := rfl
theorem writes_four {s : Shape} {e : EltTy} {a : Memref sig .tc .vmem s e} (f : BufTy.Contents (Elt Ideal) a.view.ty)
    (p q r t : View.Piece (Elt Ideal) s e) :
    a.view.writes (Elt Ideal) f [p, q, r, t] = a.view.writes (Elt Ideal) (a.view.writes (Elt Ideal) f [r, t]) [p, q] := rfl

section Memory

variable {a : Memref sig .tc .vmem S2048x128 .f32} {b : Memref sig .tc .vmem S2048x128 .bf16}
  {z : Memref sig .tc .vmem S2x8x256x256 .f32}

theorem rows_apply {e : EltTy} {a : Memref sig .tc .vmem S2048x128 e} (f : BufTy.Contents (Elt Ideal) a.view.ty)
    {off : Fin 2 → ℕ} (h : ∀ b, off b + S256x128.size b ≤ S2048x128.size b) {j : ℕ} (ho : off = ![256 * j, 0])
    (r : Fin 256) (l : Fin 128) (hs : 256 * j + r.val < 2048) :
    rows (F := Ideal) f off h (ix2 r l) = a.view.read (Elt Ideal) f (ix2 ⟨256 * j + r.val, hs⟩ l) := by
  subst ho
  refine View.ld_unit_apply_of (a.view.read (Elt Ideal) f) _ _ _ _ _ fun b => ?_
  match b with
  | ⟨0, _⟩ => rfl
  | ⟨1, _⟩ => exact (Nat.zero_add _).symm

theorem rows_re {f : BufTy.Contents (Elt Ideal) a.view.ty} {G : ℕ → ℕ → ℝ} (hf : Rows (a.view.read (Elt Ideal) f) G)
    {off : Fin 2 → ℕ} (h : ∀ b, off b + S256x128.size b ≤ S2048x128.size b) {j : ℕ} (hj : j < 8) (ho : off = ![256 * j, 0]) :
    ReR (rows (F := Ideal) f off h) fun r l => G (256 * j + r) l :=
  fun r l => (rows_apply f h ho r l (by omega)).trans (hf _ l)

theorem rows_re' {f : BufTy.Contents (Elt Ideal) b.view.ty} {G : ℕ → ℕ → ℝ} (hf : Rows (b.view.read (Elt Ideal) f) G)
    {off : Fin 2 → ℕ} (h : ∀ b, off b + S256x128.size b ≤ S2048x128.size b) {j : ℕ} (hj : j < 8) (ho : off = ![256 * j, 0]) :
    ReR (rows (F := Ideal) f off h) fun r l => G (256 * j + r) l :=
  fun r l => (rows_apply f h ho r l (by omega)).trans (hf _ l)

theorem got_re {f : BufTy.Contents (Elt Ideal) z.view.ty} {G : ℕ → ℕ → ℝ} {off : Fin 4 → ℕ}
    (h : ∀ b, off b + S1x1x256x256.size b ≤ S2x8x256x256.size b) (hh : Fin 2) (kb : Fin 8) (ho : off = ![hh.val, kb.val, 0, 0])
    (hf : Tile (z.view.read (Elt Ideal) f) hh kb G) : Re (got (tile (F := Ideal) f off h)) G := fun r c => by
  subst ho
  rw [got_apply]
  refine Eq.trans (View.ld_unit_apply_of (z.view.read (Elt Ideal) f) _ _ _ _ (ix4 hh kb r c) fun b => ?_) (hf r c)
  match b with
  | ⟨0, _⟩ => rfl
  | ⟨1, _⟩ => rfl
  | ⟨2, _⟩ => exact (Nat.zero_add _).symm
  | ⟨3, _⟩ => exact (Nat.zero_add _).symm

theorem rows_write {f : BufTy.Contents (Elt Ideal) a.view.ty} {L : List (View.Piece (Elt Ideal) S2048x128 .f32)} {G G' : ℕ → ℕ → ℝ}
    (hf : Rows (a.view.read (Elt Ideal) (a.view.writes (Elt Ideal) f L)) G) {off : Fin 2 → ℕ}
    (h : ∀ b, off b + S256x128.size b ≤ S2048x128.size b) {j : ℕ} (ho : off = ![256 * j, 0])
    {x : FVec Ideal S256x128 .f32} {X : ℕ → ℕ → ℝ} (hx : ReR x X)
    (hin : ∀ r < 256, ∀ l < 128, X r l = G' (256 * j + r) l)
    (hout : ∀ s < 2048, ∀ l < 128, (s < 256 * j ∨ 256 * (j + 1) ≤ s) → G s l = G' s l) :
    Rows (a.view.read (Elt Ideal) (a.view.writes (Elt Ideal) f (rowsP (F := Ideal) off h x :: L))) G' := fun s l => by
  by_cases hs : 256 * j ≤ s.val ∧ s.val < 256 * j + 256
  · refine (View.read_writes_cons_rows_of_mem a.view f h x L (ix2 s l) (ix2 (⟨s.val - 256 * j, by omega⟩ : Fin 256) l) ho
      (by show s.val = 256 * j + (s.val - 256 * j); omega) rfl).trans ((hx _ l).trans (congrArg Real.toEReal ?_))
    rw [hin _ (by show s.val - 256 * j < 256; omega) _ l.isLt]
    exact congrArg (fun t => G' t l) (by show 256 * j + (s.val - 256 * j) = s.val; omega)
  · refine (View.read_writes_cons_rows_of_not_mem a.view f h x L (ix2 s l) ho rfl
      (by show s.val < 256 * j ∨ 256 * j + 256 ≤ s.val; omega)).trans ((hf s l).trans (congrArg Real.toEReal ?_))
    exact hout _ s.isLt _ l.isLt (by omega)

theorem tile_write {f : BufTy.Contents (Elt Ideal) z.view.ty} {L : List (View.Piece (Elt Ideal) S2x8x256x256 .f32)}
    {off : Fin 4 → ℕ} (h : ∀ b, off b + S1x1x256x256.size b ≤ S2x8x256x256.size b) (hh : Fin 2) (kb : Fin 8)
    (ho : off = ![hh.val, kb.val, 0, 0]) {x : FVec Ideal S256x256 .f32} {G : ℕ → ℕ → ℝ} (hx : Re x G) :
    Tile (z.view.read (Elt Ideal) (z.view.writes (Elt Ideal) f (tileP (F := Ideal) off h (put x) :: L))) hh kb G := fun r c => by
  refine (View.read_writes_cons_unit_of_mem z.view f h (put x) L (ix4 hh kb r c) (ix4 (0 : Fin 1) (0 : Fin 1) r c) ho fun b => ?_).trans
    ((put_apply x _).trans (hx r c))
  match b with
  | ⟨0, _⟩ => rfl
  | ⟨1, _⟩ => rfl
  | ⟨2, _⟩ => exact (Nat.zero_add _).symm
  | ⟨3, _⟩ => exact (Nat.zero_add _).symm

theorem tile_keep {f : BufTy.Contents (Elt Ideal) z.view.ty} {L : List (View.Piece (Elt Ideal) S2x8x256x256 .f32)}
    {off : Fin 4 → ℕ} (h : ∀ b, off b + S1x1x256x256.size b ≤ S2x8x256x256.size b) (hh h' : Fin 2) (kb k' : Fin 8)
    (ho : off = ![hh.val, kb.val, 0, 0]) {x : FVec Ideal S1x1x256x256 .f32} {G : ℕ → ℕ → ℝ} (hne : h' ≠ hh ∨ k' ≠ kb)
    (hf : Tile (z.view.read (Elt Ideal) (z.view.writes (Elt Ideal) f L)) h' k' G) :
    Tile (z.view.read (Elt Ideal) (z.view.writes (Elt Ideal) f (tileP (F := Ideal) off h x :: L))) h' k' G := fun r c => by
  rcases hne with hne | hne
  · exact (View.read_writes_cons_unit_of_not_mem z.view f h x L (ix4 h' k' r c) ho (0 : Fin 4)
      (by have := Fin.val_ne_of_ne hne; show h'.val < hh.val ∨ hh.val + 1 ≤ h'.val; omega)).trans (hf r c)
  · exact (View.read_writes_cons_unit_of_not_mem z.view f h x L (ix4 h' k' r c) ho (1 : Fin 4)
      (by have := Fin.val_ne_of_ne hne; show k'.val < kb.val ∨ kb.val + 1 ≤ k'.val; omega)).trans (hf r c)

end Memory

namespace Seq

variable (D : Seq) (qi : ℕ)

/-- What a query block adds to the values' gradient. -/
def addV (s l : ℕ) : ℝ := ∑ r ∈ Finset.range 256, D.A 0 (256 * qi + r) s * D.gm 0 (256 * qi + r) l
  + ∑ r ∈ Finset.range 256, D.A 1 (256 * qi + r) s * D.gm 1 (256 * qi + r) l
/-- What a query block adds to the keys' gradient. -/
def addK (s l : ℕ) : ℝ := ∑ r ∈ Finset.range 256, D.W 0 (256 * qi + r) s * D.qm 0 (256 * qi + r) l
  + ∑ r ∈ Finset.range 256, D.W 1 (256 * qi + r) s * D.qm 1 (256 * qi + r) l
/-- A head's gradient of the queries, from the keys before `n`. -/
def dqTo (h n r l : ℕ) : ℝ := ∑ s ∈ Finset.range n, D.W h (256 * qi + r) s * D.k s l

end Seq

/-- The left sweep down to key block `lo`: the sums to the right, the values' sums, the tiles stored. -/
structure LeftAt (D : Seq) (qi : ℕ) (old : ℕ → ℕ → ℝ) (lo : ℕ) (M : Ops) (r0 r1 : FVec Ideal S256x1 .f32)
    (fa : BufTy.Contents (Elt Ideal) M.av.view.ty) (fz : BufTy.Contents (Elt Ideal) M.z.view.ty)
    (fc : BufTy.Contents (Elt Ideal) M.c.view.ty) : Prop where
  r0 : ReC r0 fun r => D.R 0 (256 * qi + r) (256 * lo)
  r1 : ReC r1 fun r => D.R 1 (256 * qi + r) (256 * lo)
  av : Rows (M.av.view.read (Elt Ideal) fa) fun s l => old s l + if 256 * lo ≤ s then D.addV qi s l else 0
  z : ∀ (h : Fin 2) (kb : Fin 8), lo ≤ kb.val → kb.val ≤ qi → Tile (M.z.view.read (Elt Ideal) fz) h kb (tl (D.Z h) qi kb)
  c : ∀ (h : Fin 2) (kb : Fin 8), lo ≤ kb.val → kb.val ≤ qi → Tile (M.c.view.read (Elt Ideal) fc) h kb (tl (D.G h) qi kb)

section Tiles

variable {D : Seq} {qi : ℕ} {old : ℕ → ℕ → ℝ} {M : Ops}

theorem tiles_write {z : Memref sig .tc .vmem S2x8x256x256 .f32} {f : BufTy.Contents (Elt Ideal) z.view.ty} {lo kb : ℕ}
    {T : ℕ → ℕ → ℕ → ℝ} (hlo : lo = kb + 1) (hk8 : kb < 8)
    (hf : ∀ (h : Fin 2) (k : Fin 8), lo ≤ k.val → k.val ≤ qi → Tile (z.view.read (Elt Ideal) f) h k (tl (T h) qi k))
    {o0 o1 : Fin 4 → ℕ} (h0 : ∀ b, o0 b + S1x1x256x256.size b ≤ S2x8x256x256.size b)
    (h1 : ∀ b, o1 b + S1x1x256x256.size b ≤ S2x8x256x256.size b) (e0 : o0 = ![0, kb, 0, 0]) (e1 : o1 = ![1, kb, 0, 0])
    {x0 x1 : FVec Ideal S256x256 .f32} (hx0 : Re x0 (tl (T 0) qi kb)) (hx1 : Re x1 (tl (T 1) qi kb)) :
    ∀ (h : Fin 2) (k : Fin 8), kb ≤ k.val → k.val ≤ qi →
      Tile (z.view.read (Elt Ideal) (z.view.writes (Elt Ideal) f [tileP (F := Ideal) o1 h1 (put x1), tileP (F := Ideal) o0 h0 (put x0)]))
        h k (tl (T h) qi k) := fun h k hl hq => by
  by_cases hk : k.val = kb
  · have ek : k = ⟨kb, hk8⟩ := Fin.ext hk
    subst ek
    match h with
    | ⟨0, _⟩ => exact tile_keep h1 1 0 ⟨kb, hk8⟩ ⟨kb, hk8⟩ e1 (.inl (by decide)) (tile_write h0 0 ⟨kb, hk8⟩ e0 hx0)
    | ⟨1, _⟩ => exact tile_write h1 1 ⟨kb, hk8⟩ e1 hx1
  · have ne : k ≠ ⟨kb, hk8⟩ := fun e => hk (congrArg Fin.val e)
    exact tile_keep h1 1 h ⟨kb, hk8⟩ k e1 (.inr ne) (tile_keep h0 0 h ⟨kb, hk8⟩ k e0 (.inr ne) (hf h k (by omega) hq))

/-- One tile of the left sweep. -/
theorem left_tile {lo kb : ℕ} (hlo : lo = kb + 1) (hq : qi < 8) (hk : kb ≤ qi) {d : Bool} (hd : d = true ↔ kb = qi)
    {r0 r1 : FVec Ideal S256x1 .f32} {fa : BufTy.Contents (Elt Ideal) M.av.view.ty} {fz : BufTy.Contents (Elt Ideal) M.z.view.ty}
    {fc : BufTy.Contents (Elt Ideal) M.c.view.ty} (hL : LeftAt D qi old lo M r0 r1 fa fz fc)
    {q0 q1 g0 g1 kt vt : FVec Ideal S256x128 .bf16} {o : FVec Ideal S256x128 .f32}
    (hq0 : ReR q0 fun r l => D.qm 0 (256 * qi + r) l) (hq1 : ReR q1 fun r l => D.qm 1 (256 * qi + r) l)
    (hg0 : ReR g0 fun r l => D.gm 0 (256 * qi + r) l) (hg1 : ReR g1 fun r l => D.gm 1 (256 * qi + r) l)
    (hkt : ReR kt fun r l => D.k (256 * kb + r) l) (hvt : ReR vt fun r l => D.v (256 * kb + r) l)
    {oa : Fin 2 → ℕ} (ha : ∀ b, oa b + S256x128.size b ≤ S2048x128.size b) (ea : oa = ![256 * kb, 0])
    {o0 o1 : Fin 4 → ℕ} (h0 : ∀ b, o0 b + S1x1x256x256.size b ≤ S2x8x256x256.size b)
    (h1 : ∀ b, o1 b + S1x1x256x256.size b ≤ S2x8x256x256.size b) (e0 : o0 = ![0, kb, 0, 0]) (e1 : o1 = ![1, kb, 0, 0])
    (ho : ReR o fun r l => old (256 * kb + r) l) :
    LeftAt D qi old kb M (rV d k0_pay258 (nt q0 kt) r0) (rV d k0_pay258 (nt q1 kt) r1)
      (M.av.view.writes (Elt Ideal) fa
        [rowsP (F := Ideal) oa ha (accV o (wV d k0_pay258 (nt q0 kt) r0) (wV d k0_pay258 (nt q1 kt) r1) g0 g1)])
      (M.z.view.writes (Elt Ideal) fz [tileP (F := Ideal) o1 h1 (put (nt q1 kt)), tileP (F := Ideal) o0 h0 (put (nt q0 kt))])
      (M.c.view.writes (Elt Ideal) fc [tileP (F := Ideal) o1 h1 (put (mulf (nt g1 vt) (wV d k0_pay258 (nt q1 kt) r1))),
        tileP (F := Ideal) o0 h0 (put (mulf (nt g0 vt) (wV d k0_pay258 (nt q0 kt) r0)))]) := by
  subst hlo
  have z0 := tile_scores D 0 hq0 hkt
  have z1 := tile_scores D 1 hq1 hkt
  have a0 := tile_weights D 0 hd hk hq z0 hL.r0
  have a1 := tile_weights D 1 hd hk hq z1 hL.r1
  refine ⟨tile_right D 0 hd hk hq z0 hL.r0, tile_right D 1 hd hk hq z1 hL.r1, ?_, ?_, ?_⟩
  · refine rows_write (L := []) hL.av ha ea (ho.acc a0 a1 hg0 hg1) (fun r hr l hl => ?_) (fun s hs l hl hsj => ?_)
    · rw [if_pos (by omega)]; rfl
    · by_cases hsk : 256 * (kb + 1) ≤ s
      · rw [if_pos hsk, if_pos (by omega)]
      · rw [if_neg hsk, if_neg (by omega)]
  · exact tiles_write (T := D.Z) rfl (by omega) hL.z h0 h1 e0 e1 z0 z1
  · exact tiles_write (T := D.G) rfl (by omega) hL.c h0 h1 e0 e1 (tile_cots D 0 hg0 hvt a0) (tile_cots D 1 hg1 hvt a1)

/-- The rows of a sum that the left sweep has not reached. -/
theorem LeftAt.rows_old {lo kb : ℕ} {r0 r1 : FVec Ideal S256x1 .f32} {fa : BufTy.Contents (Elt Ideal) M.av.view.ty}
    {fz : BufTy.Contents (Elt Ideal) M.z.view.ty} {fc : BufTy.Contents (Elt Ideal) M.c.view.ty}
    (hL : LeftAt D qi old lo M r0 r1 fa fz fc) (hlo : lo = kb + 1) (hk : kb < 8) {oa : Fin 2 → ℕ}
    (ha : ∀ b, oa b + S256x128.size b ≤ S2048x128.size b) (ea : oa = ![256 * kb, 0]) :
    ReR (rows (F := Ideal) fa oa ha) fun r l => old (256 * kb + r) l :=
  (rows_re hL.av ha hk ea).congr fun r hr l _ => by rw [if_neg (by omega), add_zero]

/-- The right sweep up to key block `hi`: the sums to the left, the queries' gradients, the keys' sums. -/
structure RightAt (D : Seq) (qi : ℕ) (old : ℕ → ℕ → ℝ) (hi : ℕ) (M : Ops) (acc : Acc3 Ideal)
    (fk : BufTy.Contents (Elt Ideal) M.ak.view.ty) : Prop where
  l0 : ReC acc.1 fun r => D.L 0 (256 * qi + r) (256 * hi)
  q0 : ReR acc.2.1 (D.dqTo qi 0 (256 * hi))
  l1 : ReC acc.2.2.1 fun r => D.L 1 (256 * qi + r) (256 * hi)
  q1 : ReR acc.2.2.2 (D.dqTo qi 1 (256 * hi))
  ak : Rows (M.ak.view.read (Elt Ideal) fk) fun s l => old s l + if s < 256 * hi then D.addK qi s l else 0

theorem RightAt.rows_old {hi kb : ℕ} {acc : Acc3 Ideal} {fk : BufTy.Contents (Elt Ideal) M.ak.view.ty}
    (hR : RightAt D qi old hi M acc fk) (hhi : hi ≤ kb) (hk : kb < 8) {oa : Fin 2 → ℕ}
    (ha : ∀ b, oa b + S256x128.size b ≤ S2048x128.size b) (ea : oa = ![256 * kb, 0]) :
    ReR (rows (F := Ideal) fk oa ha) fun r l => old (256 * kb + r) l :=
  (rows_re hR.ak ha hk ea).congr fun r hr l _ => by rw [if_neg (by omega), add_zero]

/-- One tile of the right sweep. -/
theorem right_tile {kb hi' : ℕ} (hhi : hi' = kb + 1) (hk : kb ≤ qi) {d : Bool} (hd : d = true ↔ kb = qi)
    {l0 l1 : FVec Ideal S256x1 .f32} {dq0 dq1 : FVec Ideal S256x128 .f32} {fk : BufTy.Contents (Elt Ideal) M.ak.view.ty}
    (hR : RightAt D qi old kb M (l0, dq0, l1, dq1) fk)
    {q0 q1 kt : FVec Ideal S256x128 .bf16} {o : FVec Ideal S256x128 .f32} {z0 z1 g0 g1 : FVec Ideal S256x256 .f32}
    (hq0 : ReR q0 fun r l => D.qm 0 (256 * qi + r) l) (hq1 : ReR q1 fun r l => D.qm 1 (256 * qi + r) l)
    (hz0 : Re z0 (tl (D.Z 0) qi kb)) (hz1 : Re z1 (tl (D.Z 1) qi kb)) (hg0 : Re g0 (tl (D.G 0) qi kb))
    (hg1 : Re g1 (tl (D.G 1) qi kb)) (hkt : ReR kt fun r l => D.k (256 * kb + r) l)
    {oa : Fin 2 → ℕ} (ha : ∀ b, oa b + S256x128.size b ≤ S2048x128.size b) (ea : oa = ![256 * kb, 0])
    (ho : ReR o fun r l => old (256 * kb + r) l) :
    RightAt D qi old hi' M (lV g0 l0, addf dq0 (nn (dzV d k0_pay259 z0 g0 l0) kt), lV g1 l1, addf dq1 (nn (dzV d k0_pay259 z1 g1 l1) kt))
      (M.ak.view.writes (Elt Ideal) fk
        [rowsP (F := Ideal) oa ha (accV o (dzV d k0_pay259 z0 g0 l0) (dzV d k0_pay259 z1 g1 l1) q0 q1)]) := by
  subst hhi
  have w0 := tile_dz D 0 hd hk hz0 hg0 hR.l0
  have w1 := tile_dz D 1 hd hk hz1 hg1 hR.l1
  refine ⟨tile_left D 0 hg0 hR.l0, tile_dq D 0 hkt w0 hR.q0, tile_left D 1 hg1 hR.l1, tile_dq D 1 hkt w1 hR.q1, ?_⟩
  refine rows_write (L := []) hR.ak ha ea (ho.acc w0 w1 hq0 hq1) (fun r hr l hl => ?_) (fun s hs l hl hsj => ?_)
  · rw [if_pos (by omega)]; rfl
  · by_cases hsk : s < 256 * kb
    · rw [if_pos hsk, if_pos (by omega)]
    · rw [if_neg hsk, if_neg (by omega)]

end Tiles

/-- The operands' contents at a query block: real numbers. -/
structure Given (D : Seq) (qi : ℕ) (M : Ops) (x : Ins Ideal M) : Prop where
  q0 : ReR (qm0 M x) fun r l => D.qm 0 (256 * qi + r) l
  q1 : ReR (qm1 M x) fun r l => D.qm 1 (256 * qi + r) l
  g0 : ReR (gm0 M x) fun r l => D.gm 0 (256 * qi + r) l
  g1 : ReR (gm1 M x) fun r l => D.gm 1 (256 * qi + r) l
  k : Rows (M.k.view.read (Elt Ideal) x.k) D.k
  v : Rows (M.v.view.read (Elt Ideal) x.v) D.v

section Sweeps

attribute [local irreducible] rV wV nt accV dzV lV nn put got

variable {D : Seq} {old : ℕ → ℕ → ℝ} (c : Dev nD) (i : grid0.Coords) (M : Ops) (x : Ins Ideal M)

/-- The left sweep's loop, from the even key block down to the first. -/
theorem left_loop (hG : Given D (i 2).val M x) (e : Env1 Ideal M) (he : Env1At M x e)
    (fa : BufTy.Contents (Elt Ideal) M.av.view.ty) (fz : BufTy.Contents (Elt Ideal) M.z.view.ty)
    (fc : BufTy.Contents (Elt Ideal) M.c.view.ty) (init : Acc1 Ideal)
    (h0 : LeftAt D (i 2).val old (2 * ((i 2).val / 2)) M init.1 init.2 fa fz fc) (n : ℕ) (hn : n ≤ (k0_t1_loop i).trips) :
    let s := st1 Variants.none c none i M e fa init n
    LeftAt D (i 2).val old (2 * ((i 2).val / 2) - 2 * n) M s.acc.1 s.acc.2 (M.av.view.writes (Elt Ideal) fa s.av)
      (M.z.view.writes (Elt Ideal) fz s.z) (M.c.view.writes (Elt Ideal) fc s.c) := by
  have hq : (i 2).val < 8 := (i 2).isLt
  have ht := trips1 i
  induction n with
  | zero => exact h0
  | succ n ih =>
    have hL := ih (by omega)
    rw [st1_succ Variants.none c none i M e fa init ⟨n, hn⟩]
    obtain ⟨h10, h11, h12, h13, h14, h15, hT⟩ := trip1_eq (F := Ideal) c i M e ⟨n, hn⟩
    generalize st1 Variants.none c none i M e fa init n = s at hL ⊢
    dsimp only at hL ⊢
    obtain ⟨t1, t2, t3, t4⟩ := hT s.acc (M.av.view.writes (Elt Ideal) fa s.av)
    unfold next1
    dsimp only
    rw [t1, t2, t3, t4, he.v10, he.v34, he.v38, he.v42, he.v46, he.K, he.V, View.writes_append, View.writes_append, View.writes_append]
    have o10 := off10_eq i ⟨n, hn⟩
    have o11 := off11_eq i ⟨n, hn⟩
    have A := left_tile (kb := 2 * ((i 2).val / 2) - 1 - 2 * n) (d := false) (by omega) hq (by omega)
      ⟨fun h => absurd h Bool.false_ne_true, fun h => by omega⟩ hL
      hG.q0 hG.q1 hG.g0 hG.g1 (rows_re' hG.k h10 (by omega) o10) (rows_re' hG.v h10 (by omega) o10) h10 o10 h12 h13
      (off12_eq i ⟨n, hn⟩) (off13_eq i ⟨n, hn⟩) (hL.rows_old (by omega) (by omega) h10 o10)
    have B := left_tile (kb := 2 * ((i 2).val / 2) - 2 - 2 * n) (d := false) (by omega) hq (by omega)
      ⟨fun h => absurd h Bool.false_ne_true, fun h => by omega⟩ A
      hG.q0 hG.q1 hG.g0 hG.g1 (rows_re' hG.k h11 (by omega) o11) (rows_re' hG.v h11 (by omega) o11) h11 o11 h14 h15
      (off14_eq i ⟨n, hn⟩) (off15_eq i ⟨n, hn⟩) (A.rows_old (by omega) (by omega) h11 o11)
    rw [show 2 * ((i 2).val / 2) - 2 * (n + 1) = 2 * ((i 2).val / 2) - 2 - 2 * n by omega]
    rw [writes_two, writes_four, writes_four]
    exact B

/-- The right sweep's loop, from the first key block up to the even one. -/
theorem right_loop (hG : Given D (i 2).val M x) (w : BitVec 32) (Z : BufTy.Contents (Elt Ideal) M.z.view.ty)
    (C : BufTy.Contents (Elt Ideal) M.c.view.ty) (fk : BufTy.Contents (Elt Ideal) M.ak.view.ty) (init : Acc3 Ideal)
    (hZ : ∀ (h : Fin 2) (kb : Fin 8), kb.val ≤ (i 2).val → Tile (M.z.view.read (Elt Ideal) Z) h kb (tl (D.Z h) (i 2).val kb))
    (hC : ∀ (h : Fin 2) (kb : Fin 8), kb.val ≤ (i 2).val → Tile (M.c.view.read (Elt Ideal) C) h kb (tl (D.G h) (i 2).val kb))
    (h0 : RightAt D (i 2).val old 0 M init fk) (n : ℕ) (hn : n ≤ (k0_t3_loop i).trips) :
    let s := st3 Variants.none c none i M (env3 M x w Z C) fk init n
    RightAt D (i 2).val old (2 * n) M s.acc (M.ak.view.writes (Elt Ideal) fk s.ak) := by
  have hq : (i 2).val < 8 := (i 2).isLt
  have ht := trips3 i
  induction n with
  | zero => exact h0
  | succ n ih =>
    have hR := ih (by omega)
    rw [st3_succ Variants.none c none i M (env3 M x w Z C) fk init ⟨n, hn⟩]
    obtain ⟨h22, h23, h24, h25, h26, h27, hT⟩ := trip3_eq (F := Ideal) c i M (env3 M x w Z C) ⟨n, hn⟩
    generalize st3 Variants.none c none i M (env3 M x w Z C) fk init n = s at hR ⊢
    dsimp only at hR ⊢
    obtain ⟨t1, t2⟩ := hT s.acc (M.ak.view.writes (Elt Ideal) fk s.ak)
    unfold next3
    dsimp only
    rw [t1, t2, View.writes_append]
    have o26 := off26_eq i ⟨n, hn⟩
    have o27 := off27_eq i ⟨n, hn⟩
    have k0 : 2 * n < 8 := by omega
    have k1 : 2 * n + 1 < 8 := by omega
    have z := fun h => hZ h ⟨2 * n, k0⟩ (by show 2 * n ≤ _; omega)
    have z' := fun h => hZ h ⟨2 * n + 1, k1⟩ (by show 2 * n + 1 ≤ _; omega)
    have g := fun h => hC h ⟨2 * n, k0⟩ (by show 2 * n ≤ _; omega)
    have g' := fun h => hC h ⟨2 * n + 1, k1⟩ (by show 2 * n + 1 ≤ _; omega)
    have A := right_tile (kb := 2 * n) (d := false) rfl (by omega)
      ⟨fun h => absurd h Bool.false_ne_true, fun h => by omega⟩ hR hG.q0 hG.q1
      (got_re h22 0 ⟨2 * n, k0⟩ (off22_eq i ⟨n, hn⟩) (z 0)) (got_re h23 1 ⟨2 * n, k0⟩ (off23_eq i ⟨n, hn⟩) (z 1))
      (got_re h22 0 ⟨2 * n, k0⟩ (off22_eq i ⟨n, hn⟩) (g 0)) (got_re h23 1 ⟨2 * n, k0⟩ (off23_eq i ⟨n, hn⟩) (g 1))
      (rows_re' hG.k h26 k0 o26) h26 o26 (hR.rows_old le_rfl k0 h26 o26)
    exact right_tile (kb := 2 * n + 1) (d := false) (by omega) (by omega)
      ⟨fun h => absurd h Bool.false_ne_true, fun h => by omega⟩ A hG.q0 hG.q1
      (got_re h24 0 ⟨2 * n + 1, k1⟩ (off24_eq i ⟨n, hn⟩) (z' 0)) (got_re h25 1 ⟨2 * n + 1, k1⟩ (off25_eq i ⟨n, hn⟩) (z' 1))
      (got_re h24 0 ⟨2 * n + 1, k1⟩ (off24_eq i ⟨n, hn⟩) (g' 0)) (got_re h25 1 ⟨2 * n + 1, k1⟩ (off25_eq i ⟨n, hn⟩) (g' 1))
      (rows_re' hG.k h27 k1 o27) h27 o27 (hR.rows_old (by omega) k1 h27 o27)

end Sweeps

end Cert.AttnBRun
end
-- ==== Proof.AttnBPoint.lean ====
module

public import proofs.«01_k».proof.Proof.AttnBSweep

/-! What a query block's body leaves: the block's gradient of the queries, and the keys' and values' sums with the block
added. -/

@[expose] public section

set_option maxRecDepth 16384

noncomputable section

namespace Cert.AttnBRun

open Idealize.ShloMosaic Idealize.ShloMosaic.TcCoe
open Cert.AttnBIdeal Cert.AttnBIdeal.Gen

namespace Seq

variable (D : Seq) (qi : ℕ)

theorem dqTo_full (h : ℕ) (hq : qi < 8) {r : ℕ} (hr : r < 256) (l : ℕ) :
    D.dqTo qi h (256 * (qi + 1)) r l = ∑ s ∈ Finset.range 2048, D.W h (256 * qi + r) s * D.k s l := by
  refine Finset.sum_subset (fun s hs => Finset.mem_range.2 (by have := Finset.mem_range.1 hs; omega)) fun s _ hs => ?_
  rw [W_beyond D h (by have := Finset.mem_range.not.1 hs; omega), zero_mul]

theorem addV_beyond {s : ℕ} (hs : 256 * (qi + 1) ≤ s) (l : ℕ) : D.addV qi s l = 0 := by
  unfold addV
  rw [Finset.sum_eq_zero, Finset.sum_eq_zero, add_zero] <;> intro r hr <;>
    rw [A_beyond D _ (by have := Finset.mem_range.1 hr; omega), zero_mul]

theorem addK_beyond {s : ℕ} (hs : 256 * (qi + 1) ≤ s) (l : ℕ) : D.addK qi s l = 0 := by
  unfold addK
  rw [Finset.sum_eq_zero, Finset.sum_eq_zero, add_zero] <;> intro r hr <;>
    rw [W_beyond D _ (by have := Finset.mem_range.1 hr; omega), zero_mul]

/-- The gradient of the queries. -/
def dq (t l : ℕ) : ℝ := (if l / 64 = 0 then ∑ s ∈ Finset.range 2048, D.W 0 t s * D.k s l
  else ∑ s ∈ Finset.range 2048, D.W 1 t s * D.k s l) * (1 / 8)

end Seq

/-- The sums and the gradient of the queries after a query block. -/
structure After (D : Seq) (qi : ℕ) (M : Ops) (oldK oldV : ℕ → ℕ → ℝ) (dq : BufTy.Contents (Elt Ideal) M.dq.view.ty)
    (ak : BufTy.Contents (Elt Ideal) M.ak.view.ty) (av : BufTy.Contents (Elt Ideal) M.av.view.ty) : Prop where
  dq : ReR (M.dq.view.read (Elt Ideal) dq) fun r l => D.dq (256 * qi + r) l
  ak : Rows (M.ak.view.read (Elt Ideal) ak) fun s l => oldK s l + D.addK qi s l
  av : Rows (M.av.view.read (Elt Ideal) av) fun s l => oldV s l + D.addV qi s l

section Point

theorem LeftAt.cast {D : Seq} {qi : ℕ} {old : ℕ → ℕ → ℝ} {M : Ops} {lo lo' : ℕ} {r0 r1 : FVec Ideal S256x1 .f32}
    {fa : BufTy.Contents (Elt Ideal) M.av.view.ty} {fz : BufTy.Contents (Elt Ideal) M.z.view.ty}
    {fc : BufTy.Contents (Elt Ideal) M.c.view.ty} (hL : LeftAt D qi old lo M r0 r1 fa fz fc) (h : lo = lo') :
    LeftAt D qi old lo' M r0 r1 fa fz fc := h ▸ hL
theorem RightAt.cast {D : Seq} {qi : ℕ} {old : ℕ → ℕ → ℝ} {M : Ops} {hi hi' : ℕ} {acc : Acc3 Ideal}
    {fk : BufTy.Contents (Elt Ideal) M.ak.view.ty} (hR : RightAt D qi old hi M acc fk) (h : hi = hi') :
    RightAt D qi old hi' M acc fk := h ▸ hR

/-- The values' sums at the left sweep's end. -/
theorem LeftAt.done {D : Seq} {qi : ℕ} {old : ℕ → ℕ → ℝ} {M : Ops} {r0 r1 : FVec Ideal S256x1 .f32}
    {fa : BufTy.Contents (Elt Ideal) M.av.view.ty} {fz : BufTy.Contents (Elt Ideal) M.z.view.ty}
    {fc : BufTy.Contents (Elt Ideal) M.c.view.ty} (hL : LeftAt D qi old 0 M r0 r1 fa fz fc) :
    Rows (M.av.view.read (Elt Ideal) fa) fun s l => old s l + D.addV qi s l :=
  fun s l => (hL.av s l).trans (congrArg Real.toEReal (by
    show old s l + _ = old s l + _
    rw [if_pos (by omega)]))

/-- The keys' sums at the right sweep's end. -/
theorem RightAt.done {D : Seq} {qi : ℕ} {old : ℕ → ℕ → ℝ} {M : Ops} {acc : Acc3 Ideal}
    {fk : BufTy.Contents (Elt Ideal) M.ak.view.ty} (hR : RightAt D qi old (qi + 1) M acc fk) :
    Rows (M.ak.view.read (Elt Ideal) fk) fun s l => old s l + D.addK qi s l :=
  fun s l => (hR.ak s l).trans (congrArg Real.toEReal (by
    show old s l + _ = old s l + _
    split
    · rfl
    · rw [D.addK_beyond qi (by omega)]))

variable {D : Seq} {qi : ℕ} {oldK oldV : ℕ → ℕ → ℝ} (c : Dev nD) (i : grid0.Coords) (M : Ops) (x : Ins Ideal M) (y : Outs Ideal M)

/-- The left sweep at its start. -/
theorem left_start {fa : BufTy.Contents (Elt Ideal) M.av.view.ty} (hA : Rows (M.av.view.read (Elt Ideal) fa) oldV)
    (fz : BufTy.Contents (Elt Ideal) M.z.view.ty) (fc : BufTy.Contents (Elt Ideal) M.c.view.ty) :
    LeftAt D qi oldV (qi + 1) M k0_pay267 k0_pay267 fa fz fc where
  r0 := ReC.zero.congr fun r hr => (R_beyond D 0 hr).symm
  r1 := ReC.zero.congr fun r hr => (R_beyond D 1 hr).symm
  av s l := (hA s l).trans (congrArg Real.toEReal (by
    show oldV s l = oldV s l + _
    split
    · rw [D.addV_beyond qi ‹_›, add_zero]
    · rw [add_zero]))
  z h kb h1 h2 := by omega
  c h kb h1 h2 := by omega

/-- The right sweep at its start. -/
theorem right_start {fk : BufTy.Contents (Elt Ideal) M.ak.view.ty} (hK : Rows (M.ak.view.read (Elt Ideal) fk) oldK) :
    RightAt D qi oldK 0 M (k0_pay267, k0_pay277, k0_pay267, k0_pay277) fk where
  l0 := ReC.zero.congr fun r hr => (Finset.sum_range_zero _).symm
  q0 := ReR.zero.congr fun r hr l hl => (Finset.sum_range_zero _).symm
  l1 := ReC.zero.congr fun r hr => (Finset.sum_range_zero _).symm
  q1 := ReR.zero.congr fun r hr l hl => (Finset.sum_range_zero _).symm
  ak s l := (hK s l).trans (congrArg Real.toEReal (by
    show oldK s l = oldK s l + _
    rw [if_neg (by omega), add_zero]))

/-- The block's gradient of the queries as stored. -/
theorem dq_stored (hq : qi < 8) {f0 f1 : FVec Ideal S256x128 .f32} (h0 : ReR f0 (D.dqTo qi 0 (256 * (qi + 1))))
    (h1 : ReR f1 (D.dqTo qi 1 (256 * (qi + 1)))) (dq : BufTy.Contents (Elt Ideal) M.dq.view.ty) :
    ReR (M.dq.view.read (Elt Ideal) (M.dq.view.writes (Elt Ideal) dq
      [⟨Rect.unit (s := S256x128) ![0, 0] S256x128.size inb_S256x128_S256x128_0_0, k0_pay14 k0_pay260 f0 f1⟩]))
      fun r l => D.dq (256 * qi + r) l := fun r l => by
  refine (View.read_writes_cons_rows_of_mem M.dq.view dq (o := 0) inb_S256x128_S256x128_0_0 (k0_pay14 k0_pay260 f0 f1) []
    (ix2 r l) (ix2 r l) rfl (Nat.zero_add _).symm rfl).trans ((h0.heads h1 r l).trans (congrArg Real.toEReal ?_))
  show _ = D.dq (256 * qi + r.val) l.val
  unfold Seq.dq
  dsimp only
  rw [D.dqTo_full qi 0 hq r.isLt, D.dqTo_full qi 1 hq r.isLt]

theorem even_point (hG : Given D (i 2).val M x) (he : (i 2).val % 2 = 0)
    {fA : BufTy.Contents (Elt Ideal) M.av.view.ty} {fA1 : View.Piece (Elt Ideal) S2048x128 .f32 → BufTy.Contents (Elt Ideal) M.av.view.ty}
    {fK : BufTy.Contents (Elt Ideal) M.ak.view.ty} {fK1 : List (View.Piece (Elt Ideal) S2048x128 .f32) → BufTy.Contents (Elt Ideal) M.ak.view.ty}
    (hA1 : ∀ p, fA1 p = M.av.view.writes (Elt Ideal) fA [p]) (hK1 : ∀ L, fK1 L = M.ak.view.writes (Elt Ideal) fK L)
    (hA : Rows (M.av.view.read (Elt Ideal) fA) oldV) (hK : Rows (M.ak.view.read (Elt Ideal) fK) oldK)
    {dq : BufTy.Contents (Elt Ideal) M.dq.view.ty} {ak : BufTy.Contents (Elt Ideal) M.ak.view.ty}
    {av : BufTy.Contents (Elt Ideal) M.av.view.ty} (hF : EvenForm c i M x y fA fA1 fK fK1 dq ak av) :
    After D (i 2).val M oldK oldV dq ak av := by
  have hq : (i 2).val < 8 := (i 2).isLt
  have ht1 := trips1 i
  have ht3 := trips3 i
  obtain ⟨e1, w, h7, h8, h9, h40, h41, h42, he1, hF⟩ := hF
  extract_lets kt vt z0 z1 a0 a1 p s Z C u d0 d1 k' at hF
  obtain ⟨hav, hdq, hak⟩ := hF
  have o7 := off7_eq i
  have o42 := off42_eq i
  have A := left_tile (kb := (i 2).val) (d := true) rfl hq le_rfl ⟨fun _ => rfl, fun _ => rfl⟩
    (left_start (D := D) (qi := (i 2).val) M hA y.z y.c) hG.q0 hG.q1 hG.g0 hG.g1 (rows_re' hG.k h7 hq o7) (rows_re' hG.v h7 hq o7)
    h7 o7 h8 h9 (off8_eq i) (off9_eq i) (rows_re hA h7 hq o7)
  rw [← hA1] at A
  have B := (left_loop c i M x hG e1 he1 _ _ _ (rV true k0_pay258 z0 k0_pay267, rV true k0_pay258 z1 k0_pay267) (A.cast (by omega)) _ le_rfl).cast (lo' := 0) (by omega)
  rw [← View.writes_append M.z.view, ← View.writes_append M.c.view] at B
  have E := (right_loop c i M x hG w Z C fK _ (fun h kb hk => B.z h kb (Nat.zero_le _) hk) (fun h kb hk => B.c h kb (Nat.zero_le _) hk)
    (right_start M hK) _ le_rfl).cast (hi' := (i 2).val) (by omega)
  have z := fun h => B.z h ⟨(i 2).val, hq⟩ (Nat.zero_le _) le_rfl
  have g := fun h => B.c h ⟨(i 2).val, hq⟩ (Nat.zero_le _) le_rfl
  have T := right_tile (kb := (i 2).val) (d := true) rfl le_rfl ⟨fun _ => rfl, fun _ => rfl⟩ (l0 := u.acc.1) (dq0 := u.acc.2.1)
    (l1 := u.acc.2.2.1) (dq1 := u.acc.2.2.2) E hG.q0 hG.q1
    (got_re h40 0 ⟨(i 2).val, hq⟩ (off40_eq i) (z 0)) (got_re h41 1 ⟨(i 2).val, hq⟩ (off41_eq i) (z 1))
    (got_re h40 0 ⟨(i 2).val, hq⟩ (off40_eq i) (g 0)) (got_re h41 1 ⟨(i 2).val, hq⟩ (off41_eq i) (g 1))
    (rows_re' hG.k h42 hq o42) h42 o42 (E.rows_old le_rfl hq h42 o42)
  refine ⟨?_, ?_, ?_⟩
  · rw [hdq]
    exact dq_stored M hq T.q0 T.q1 y.dq
  · rw [hak, hK1]
    have R := T.done
    rw [← View.writes_append, List.singleton_append, ← hK1 u.ak] at R
    exact R
  · rw [hav]
    exact B.done

theorem odd_point (hG : Given D (i 2).val M x) (he : (i 2).val % 2 = 1)
    (hA : Rows (M.av.view.read (Elt Ideal) y.av) oldV) (hK : Rows (M.ak.view.read (Elt Ideal) y.ak) oldK)
    {dq : BufTy.Contents (Elt Ideal) M.dq.view.ty} {ak : BufTy.Contents (Elt Ideal) M.ak.view.ty}
    {av : BufTy.Contents (Elt Ideal) M.av.view.ty} (hF : OddForm c i M x y dq ak av) :
    After D (i 2).val M oldK oldV dq ak av := by
  have hq : (i 2).val < 8 := (i 2).isLt
  have hq' : (i 2).val - 1 < 8 := by omega
  have ht1 := trips1 i
  have ht3 := trips3 i
  have m1 : ((i 2).val + 16777215) % 16777216 = (i 2).val - 1 := by omega
  have m2 : ((i 2).val + 4294967295) % 4294967296 = (i 2).val - 1 := by omega
  obtain ⟨e1, w, h1, h2, h3, h4, h5, h6, h34, h35, h36, h37, h38, h39, he1, hF⟩ := hF
  extract_lets kt vt z0 z1 a0 a1 p r0 r1 kt' vt' z0' z1' a0' a1' p' s Z C u g0 g1 d0 d1 d0' d1' k0 k1 b at hF
  obtain ⟨hav, hdq, hak⟩ := hF
  have o1 := off1_eq i
  have o2 := off2_eq i
  have o5 := off5_eq i
  have o6 := off6_eq i
  have o34 := off34_eq i
  have o35 := off35_eq i
  have o38 := off38_eq i
  have o39 := off39_eq i
  rw [m1] at o2 o38
  rw [m2] at o5 o6 o34 o35
  have ne : false = true ↔ (i 2).val - 1 = (i 2).val := ⟨fun h => absurd h Bool.false_ne_true, fun h => by omega⟩
  have A := left_tile (kb := (i 2).val) (d := true) rfl hq le_rfl ⟨fun _ => rfl, fun _ => rfl⟩
    (left_start (D := D) (qi := (i 2).val) M hA y.z y.c) hG.q0 hG.q1 hG.g0 hG.g1 (rows_re' hG.k h1 hq o1) (rows_re' hG.v h1 hq o1)
    h1 o1 h3 h4 (off3_eq i) (off4_eq i) (rows_re hA h1 hq o1)
  have A' := left_tile (kb := (i 2).val - 1) (d := false) (by omega) hq (by omega) ne A hG.q0 hG.q1 hG.g0 hG.g1
    (rows_re' hG.k h2 hq' o2) (rows_re' hG.v h2 hq' o2) h2 o2 h5 h6 o5 o6 (A.rows_old (by omega) hq' h2 o2)
  rw [← writes_two, ← writes_four, ← writes_four] at A'
  have B := (left_loop c i M x hG e1 he1 _ _ _ (rV false k0_pay258 z0' r0, rV false k0_pay258 z1' r1) (A'.cast (by omega)) _ le_rfl).cast
    (lo' := 0) (by omega)
  rw [← View.writes_append M.z.view, ← View.writes_append M.c.view] at B
  have E := (right_loop c i M x hG w Z C y.ak _ (fun h kb hk => B.z h kb (Nat.zero_le _) hk) (fun h kb hk => B.c h kb (Nat.zero_le _) hk)
    (right_start M hK) _ le_rfl).cast (hi' := (i 2).val - 1) (by omega)
  have z := fun h => B.z h ⟨(i 2).val - 1, hq'⟩ (Nat.zero_le _) (Nat.sub_le _ _)
  have g := fun h => B.c h ⟨(i 2).val - 1, hq'⟩ (Nat.zero_le _) (Nat.sub_le _ _)
  have z' := fun h => B.z h ⟨(i 2).val, hq⟩ (Nat.zero_le _) le_rfl
  have g' := fun h => B.c h ⟨(i 2).val, hq⟩ (Nat.zero_le _) le_rfl
  have T := right_tile (kb := (i 2).val - 1) (hi' := (i 2).val) (d := false) (by omega) (by omega) ne (l0 := u.acc.1) (dq0 := u.acc.2.1)
    (l1 := u.acc.2.2.1) (dq1 := u.acc.2.2.2) E hG.q0 hG.q1
    (got_re h34 0 ⟨(i 2).val - 1, hq'⟩ o34 (z 0)) (got_re h35 1 ⟨(i 2).val - 1, hq'⟩ o35 (z 1))
    (got_re h34 0 ⟨(i 2).val - 1, hq'⟩ o34 (g 0)) (got_re h35 1 ⟨(i 2).val - 1, hq'⟩ o35 (g 1))
    (rows_re' hG.k h38 hq' o38) h38 o38 (E.rows_old le_rfl hq' h38 o38)
  rw [← View.writes_append, List.singleton_append] at T
  have T' := right_tile (kb := (i 2).val) (d := true) rfl le_rfl ⟨fun _ => rfl, fun _ => rfl⟩ T hG.q0 hG.q1
    (got_re h36 0 ⟨(i 2).val, hq⟩ (off36_eq i) (z' 0)) (got_re h37 1 ⟨(i 2).val, hq⟩ (off37_eq i) (z' 1))
    (got_re h36 0 ⟨(i 2).val, hq⟩ (off36_eq i) (g' 0)) (got_re h37 1 ⟨(i 2).val, hq⟩ (off37_eq i) (g' 1))
    (rows_re' hG.k h39 hq o39) h39 o39 (T.rows_old le_rfl hq h39 o39)
  rw [← View.writes_append, List.singleton_append] at T'
  refine ⟨?_, ?_, ?_⟩
  · rw [hdq]
    exact dq_stored M hq T'.q0 T'.q1 y.dq
  · rw [hak]
    exact T'.done
  · rw [hav]
    exact B.done

end Point

end Cert.AttnBRun
end
-- ==== Proof.AttnBFrame.lean ====
module

public import proofs.«01_k».proof.Proof.AttnBBody
public import proofs.«01_k».proof.Proof.Gen.AttnBIdeal.Frame
public import Idealize.ShloMosaic.Lib.Pipeline.DatRel
public import Idealize.ShloMosaic.Lib.Pipeline.ArrRel
public import Idealize.ShloMosaic.Lib.Claim

/-! The stick-breaking backward kernel's run over its grid: from any property of the two scratch sums that every point
keeps and any property of the three result blocks that every point ensures. -/

@[expose] public section

set_option maxRecDepth 16384

noncomputable section

namespace Cert.AttnBRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnBIdeal Cert.AttnBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands at grid point `t`. -/
abbrev opsAt (t : Fin cfg0.N) : Ops where
  q := win0_0.stage (cfg0.slots t 0)
  k := win0_1.stage (cfg0.slots t 1)
  v := win0_2.stage (cfg0.slots t 2)
  g := win0_3.stage (cfg0.slots t 3)
  dq := win0_4.stage (cfg0.slots t 4)
  dk := win0_5.stage (cfg0.slots t 5)
  dv := win0_6.stage (cfg0.slots t 6)
  ak := Memref.whole cc0_scratch0
  av := Memref.whole cc0_scratch1
  z := Memref.whole cc0_scratch2
  c := Memref.whole cc0_scratch3
  hq := hstage0_0 ((cfg0.slots t 0).cast nbuf0_0)
  hk := hstage0_1 ((cfg0.slots t 1).cast nbuf0_1)
  hv := hstage0_2 ((cfg0.slots t 2).cast nbuf0_2)
  hg := hstage0_3 ((cfg0.slots t 3).cast nbuf0_3)
  hdq := hstage0_4 ((cfg0.slots t 4).cast nbuf0_4)
  hdk := hstage0_5 ((cfg0.slots t 5).cast nbuf0_5)
  hdv := hstage0_6 ((cfg0.slots t 6).cast nbuf0_6)
  hak := Memref.isWhole_whole _
  hav := Memref.isWhole_whole _
  hz := Memref.isWhole_whole _
  hc := Memref.isWhole_whole _

/-- What the body reads at grid point `t`: the input windows' blocks. -/
def insAt (c : Dev nD) (t : Fin cfg0.N) : Ins F (opsAt t) where
  q := (opsAt t).hq.unread (iblk m c 0 t)
  k := (opsAt t).hk.unread (iblk m c 1 t)
  v := (opsAt t).hv.unread (iblk m c 2 t)
  g := (opsAt t).hg.unread (iblk m c 3 t)

/-- The body's run at grid point `t`. -/
abbrev runAt (c : Dev nD) (t : Fin cfg0.N) :=
  bodyRun (F := F) c (grid0.coords t) (opsAt t) (insAt m c t) (decide ((grid0.coords t 2).val = 0))
    (decide ((grid0.coords t 2).val % 2 = 1)) (decide ((grid0.coords t 2).val = 7)) decide_eq_true_iff decide_eq_true_iff
    decide_eq_true_iff

/-- What the body leaves at grid point `t`, of what it finds. -/
def outAt (c : Dev nD) (t : Fin cfg0.N) (y : Outs F (opsAt t)) : Outs F (opsAt t) :=
  let R := runAt m c t
  ⟨R.1 y, R.2.1 y, R.2.2.1 y, R.2.2.2.1 y, R.2.2.2.2.1 y, R.2.2.2.2.2.1 y, R.2.2.2.2.2.2.1 y⟩

/-- A property of the two scratch sums before each point, and of what each point leaves in the three result blocks. -/
structure Spec (F : FTy → Type) where
  sums : ℕ → (S2048x128.Idx → Elt F .f32) → (S2048x128.Idx → Elt F .f32) → Prop
  dq : Fin cfg0.N → (S256x128.Idx → Elt F .bf16) → Prop
  dk : Fin cfg0.N → (S2048x128.Idx → Elt F .bf16) → Prop
  dv : Fin cfg0.N → (S2048x128.Idx → Elt F .bf16) → Prop

/-- Every point keeps the sums' property and ensures the blocks'. -/
structure Spec.Kept (S : Spec F) (c : Dev nD) : Prop where
  start : ∀ a b, S.sums 0 a b
  sums : ∀ t (y : Outs F (opsAt t)), S.sums t.val y.ak y.av → S.sums (t.val + 1) (outAt m c t y).ak (outAt m c t y).av
  dq : ∀ t (y : Outs F (opsAt t)), S.sums t.val y.ak y.av → S.dq t ((opsAt t).dq.view.read (Elt F) (outAt m c t y).dq)
  dk : ∀ t (y : Outs F (opsAt t)), S.sums t.val y.ak y.av → S.dk t ((opsAt t).dk.view.read (Elt F) (outAt m c t y).dk)
  dv : ∀ t (y : Outs F (opsAt t)), S.sums t.val y.ak y.av → S.dv t ((opsAt t).dv.view.read (Elt F) (outAt m c t y).dv)

variable (S : Dev nD → Spec F)

/-- The windows whose contents are held to a property: the results. -/
def outs0 : Fin 7 → Bool := fun w => decide (4 ≤ w.val)

/-- The property of what point `t` leaves in the window `w`. -/
def leaves0 (c : Dev nD) : (w : Fin cfg0.W) → Fin cfg0.N → ((cfg0.win w).block.Idx → Elt F (cfg0.win w).elt) → Prop
  | ⟨4, _⟩, t, X => (S c).dq t X
  | ⟨5, _⟩, t, X => (S c).dk t X
  | ⟨6, _⟩, t, X => (S c).dv t X
  | _, _, _ => True

/-- The scratch buffers before point `n`: the sums at contents with the property, the rest at anything. -/
def scratch (c : Dev nD) (n : ℕ) : sProp 𝕄 :=
  iprop(∃ a b z w, held c (Memref.whole cc0_scratch0) a ∗ held c (Memref.whole cc0_scratch1) b
    ∗ held c (Memref.whole cc0_scratch2) z ∗ held c (Memref.whole cc0_scratch3) w ∗ ⌜(S c).sums n a b⌝ ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := scratch S c t.val
  q := Pipeline.shareOf spec0
  owed _ := 0

theorem A_eq (c : Dev nD) (w : Fin cfg0.W) : (dats m S 0 c).A w = V m c (Pipeline.arrRef spec0 w) := by
  dsimp only [dats]

/-- The relational proof data: the inputs exact, the results held to their properties. -/
abbrev rdats (c : Dev nD) := (dats m S 0 c).toRRel outs0 (leaves0 S c)

/-- What the body is called with at point `t`, the windows one by one. -/
def bodyPre (c : Dev nD) (t : Fin cfg0.N) : sProp 𝕄 :=
  iprop((dats m S 0 c).Φ t.castSucc ∗ (dats m S 0 c).owesAt () t.castSucc
    ∗ (∃ d, owns (c : Thread nD τ) (opsAt t).q fullShare ((dats m S 0 c).before 0 t d))
    ∗ (∃ d, owns (c : Thread nD τ) (opsAt t).k fullShare ((dats m S 0 c).before 1 t d))
    ∗ (∃ d, owns (c : Thread nD τ) (opsAt t).v fullShare ((dats m S 0 c).before 2 t d))
    ∗ (∃ d, owns (c : Thread nD τ) (opsAt t).g fullShare ((dats m S 0 c).before 3 t d))
    ∗ (∃ Y, ⌜(rdats m S c).Finds 4 t Y⌝ ∗ owns (c : Thread nD τ) (opsAt t).dq fullShare Y)
    ∗ (∃ Y, ⌜(rdats m S c).Finds 5 t Y⌝ ∗ owns (c : Thread nD τ) (opsAt t).dk fullShare Y)
    ∗ (∃ Y, ⌜(rdats m S c).Finds 6 t Y⌝ ∗ owns (c : Thread nD τ) (opsAt t).dv fullShare Y))

/-- What the body returns at point `t`. -/
def bodyPost (c : Dev nD) (t : Fin cfg0.N) : sProp 𝕄 :=
  iprop((dats m S 0 c).Φ t.succ ∗ (dats m S 0 c).owesAt () t.succ
    ∗ owns (c : Thread nD τ) (opsAt t).q fullShare ((dats m S 0 c).after 0 t)
    ∗ owns (c : Thread nD τ) (opsAt t).k fullShare ((dats m S 0 c).after 1 t)
    ∗ owns (c : Thread nD τ) (opsAt t).v fullShare ((dats m S 0 c).after 2 t)
    ∗ owns (c : Thread nD τ) (opsAt t).g fullShare ((dats m S 0 c).after 3 t)
    ∗ (∃ X, ⌜(S c).dq t X⌝ ∗ owns (c : Thread nD τ) (opsAt t).dq fullShare X)
    ∗ (∃ X, ⌜(S c).dk t X⌝ ∗ owns (c : Thread nD τ) (opsAt t).dk fullShare X)
    ∗ (∃ X, ⌜(S c).dv t X⌝ ∗ owns (c : Thread nD τ) (opsAt t).dv fullShare X))

theorem before0 (c : Dev nD) (t : Fin cfg0.N) (d) : (dats m S 0 c).before 0 t d = iblk m c 0 t :=
  before0_0_of m _ (A_eq m S c 0) (fun _ => by dsimp only [dats]) t d
theorem before1 (c : Dev nD) (t : Fin cfg0.N) (d) : (dats m S 0 c).before 1 t d = iblk m c 1 t :=
  before0_1_of m _ (A_eq m S c 1) (fun _ => by dsimp only [dats]) t d
theorem before2 (c : Dev nD) (t : Fin cfg0.N) (d) : (dats m S 0 c).before 2 t d = iblk m c 2 t :=
  before0_2_of m _ (A_eq m S c 2) (fun _ => by dsimp only [dats]) t d
theorem before3 (c : Dev nD) (t : Fin cfg0.N) (d) : (dats m S 0 c).before 3 t d = iblk m c 3 t :=
  before0_3_of m _ (A_eq m S c 3) (fun _ => by dsimp only [dats]) t d

/-- A buffer that a memref is the whole of, owned at `X`, is held at the contents that read as `X`. -/
theorem owns_iff {s : Shape} {e : EltTy} (c : Dev nD) {a : Memref sig .tc .vmem s e} (h : a.IsWhole) (X : s.Idx → Elt F e) :
    (owns (c : Thread nD τ) a fullShare X : sProp 𝕄) ⊢ held c a (h.unread X) := by
  unfold owns
  iintro ⟨%f, %hf, H⟩
  obtain rfl := h.eq_unread hf
  iexact H

theorem owns_of {s : Shape} {e : EltTy} (c : Dev nD) {a : Memref sig .tc .vmem s e} (f : BufTy.Contents (Elt F) a.view.ty) :
    (held c a f : sProp 𝕄) ⊢ owns (c : Thread nD τ) a fullShare (a.view.read (Elt F) f) := by
  unfold owns
  iintro H
  iexists f; isplitr; · ipureintro; rfl
  iexact H

theorem owns_unread {s : Shape} {e : EltTy} (c : Dev nD) {a : Memref sig .tc .vmem s e} (h : a.IsWhole) (X : s.Idx → Elt F e)
    (f : BufTy.Contents (Elt F) a.view.ty) (hf : f = h.unread X) :
    (held c a f : sProp 𝕄) ⊢ owns (c : Thread nD τ) a fullShare X := by
  subst hf
  have := owns_of (F := F) c (a := a) (h.unread X)
  rwa [h.read_unread] at this

variable {m S}

/-- The body at any point, where every point keeps the properties. -/
theorem sound_body (c : Dev nD) (hS : (S c).Kept m c) (t : Fin cfg0.N) :
    bodyPre m S c t ⊢ wp frame (wpE (defs₀ (F := F)) Variants.none c none) Set.univ (bodyAt0 t) (fun _ => bodyPost m S c t) := by
  unfold bodyPre bodyPost
  simp only [before0, before1, before2, before3]
  rw [show (dats m S 0 c).owesAt () t.succ = (dats m S 0 c).owesAt () t.castSucc from rfl]
  rw [show (dats m S 0 c).Φ t.castSucc = scratch S c t.val from rfl, show (dats m S 0 c).Φ t.succ = scratch S c (t.val + 1) from rfl,
    show (dats m S 0 c).after 0 t = iblk m c 0 t from rfl, show (dats m S 0 c).after 1 t = iblk m c 1 t from rfl,
    show (dats m S 0 c).after 2 t = iblk m c 2 t from rfl, show (dats m S 0 c).after 3 t = iblk m c 3 t from rfl]
  unfold scratch
  iintro ⟨⟨%a, %b, %z, %w, Ha, Hb, Hz, Hw, %hs, Hg⟩, Ho, ⟨%d0, H0⟩, ⟨%d1, H1⟩, ⟨%d2, H2⟩, ⟨%d3, H3⟩, ⟨%Y4, -, H4⟩, ⟨%Y5, -, H5⟩, ⟨%Y6, -, H6⟩⟩
  ihave H0 := (owns_iff c (opsAt t).hq _) $$ H0
  ihave H1 := (owns_iff c (opsAt t).hk _) $$ H1
  ihave H2 := (owns_iff c (opsAt t).hv _) $$ H2
  ihave H3 := (owns_iff c (opsAt t).hg _) $$ H3
  ihave H4 := (owns_iff c (opsAt t).hdq _) $$ H4
  ihave H5 := (owns_iff c (opsAt t).hdk _) $$ H5
  ihave H6 := (owns_iff c (opsAt t).hdv _) $$ H6
  let y : Outs F (opsAt t) := ⟨(opsAt t).hdq.unread Y4, (opsAt t).hdk.unread Y5, (opsAt t).hdv.unread Y6, a, b, z, w⟩
  have hy : (S c).sums t.val y.ak y.av := hs
  iapply (wp_wand_r Idealize.ShloMosaic.frame (wpE (defs₀ (F := F)) Variants.none (c : Thread nD τ) none) Set.univ)
  isplitl [H0 H1 H2 H3 H4 H5 H6 Ha Hb Hz Hw]
  · iapply ((runAt m c t).2.2.2.2.2.2.2 Set.univ y)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ha]; · iexact Ha
    isplitl [Hb]; · iexact Hb
    isplitl [Hz]; · iexact Hz
    iexact Hw
  · iintro %_ ⟨H0, H1, H2, H3, H4, H5, H6, Ha, Hb, Hz, Hw⟩
    isplitl [Ha Hb Hz Hw Hg]
    · iexists _, _, _, _
      isplitl [Ha]; · iexact Ha
      isplitl [Hb]; · iexact Hb
      isplitl [Hz]; · iexact Hz
      isplitl [Hw]; · iexact Hw
      isplitr; · ipureintro; exact hS.sums t y hy
      iexact Hg
    isplitl [Ho]; · iexact Ho
    isplitl [H0]; · iapply (owns_unread c (opsAt t).hq (iblk m c 0 t) (insAt m c t).q rfl) $$ H0
    isplitl [H1]; · iapply (owns_unread c (opsAt t).hk (iblk m c 1 t) (insAt m c t).k rfl) $$ H1
    isplitl [H2]; · iapply (owns_unread c (opsAt t).hv (iblk m c 2 t) (insAt m c t).v rfl) $$ H2
    isplitl [H3]; · iapply (owns_unread c (opsAt t).hg (iblk m c 3 t) (insAt m c t).g rfl) $$ H3
    isplitl [H4]
    · iexists _; isplitr; swap; · iapply (owns_of c _) $$ H4
      ipureintro; exact hS.dq t y hy
    isplitl [H5]
    · iexists _; isplitr; swap; · iapply (owns_of c _) $$ H5
      ipureintro; exact hS.dk t y hy
    iexists _; isplitr; swap; · iapply (owns_of c _) $$ H6
    ipureintro; exact hS.dv t y hy

theorem defs₀_row (t : Fin cfg0.N) :
    defs₀ (F := F) .tc cfg0.body (cfg0.bodyArgs t (cfg0.slots t)) = bodyAt0 t := by
  unfold defs₀; rw [Defs.onTc_tc]

theorem body_obligation (c : Dev nD) (hS : (S c).Kept m c) :
    Pipeline.BodyObligationRel (dats (F := F) m S 0 c) (defs₀ (F := F)) Variants.none () Set.univ outs0 (leaves0 S c) := fun t => by
  rw [bigSep_W0, bigSep_W0, defs₀_row]
  exact triple_restated (sound_body c hS t) rfl .rfl fun _ => .rfl

/-- What the launch hands the body beside the windows, the scratch buffers as memrefs. -/
theorem PhiA_eq (c : Dev nD) :
    (Pipeline.ΦA spec0 c : sProp 𝕄)
      = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)) ∗ (∃ r, prngReg c r)) := by
  unfold Pipeline.ΦA; rw [scopedRest0_eq]; simp only [owns_whole]; try rfl

theorem scratch_in (c : Dev nD) (hS : ∀ a b, (S c).sums 0 a b) : Pipeline.ΦA spec0 c ⊢ scratch S c 0 := by
  rw [PhiA_eq]; unfold scratch owns
  iintro ⟨⟨⟨%da, %a, -, Ha⟩, ⟨%db, %b, -, Hb⟩, ⟨%dz, %z, -, Hz⟩, ⟨%dw, %w, -, Hw⟩⟩, Hg⟩
  iexists a, b, z, w
  isplitl [Ha]; · iexact Ha
  isplitl [Hb]; · iexact Hb
  isplitl [Hz]; · iexact Hz
  isplitl [Hw]; · iexact Hw
  isplitr; · ipureintro; exact hS a b
  iexact Hg

theorem scratch_out (c : Dev nD) (n : ℕ) : scratch S c n ⊢ Pipeline.ΦA spec0 c := by
  rw [PhiA_eq]; unfold scratch
  iintro ⟨%a, %b, %z, %w, Ha, Hb, Hz, Hw, -, Hg⟩
  isplitl [Ha Hb Hz Hw]
  · isplitl [Ha]; · iexists _; iapply (owns_of c a) $$ Ha
    isplitl [Hb]; · iexists _; iapply (owns_of c b) $$ Hb
    isplitl [Hz]; · iexists _; iapply (owns_of c z) $$ Hz
    iexists _; iapply (owns_of c w) $$ Hw
  iexact Hg

set_option backward.isDefEq.respectTransparency.types false in
/-- The run of the program: every array at the end at contents that the properties allow. -/
theorem run_main (hS : ∀ c, (S c).Kept m c) :
    θ_run defs (onTc (τ := τ) (main (F := F))) (s₀ m ρ)
      (fun r => Pipeline.RDat.FramePost (cfgs 0) (fun c => rdats m S c) (V m) r ∧ r.2.sem = fun _ => 0) :=
  Pipeline.RDat.θ_run_frame_track_shared (Q' := _) cfgs (0 : Fin 1) launch₀0 defs₀ Variants.none (fun c => rdats m S c) m ρ main
    (hbody := fun c => (body_obligation c (hS c)).toRRel) (hq := fun _ _ _ => rfl) (howed := fun _ _ => rfl) (V := V m)
    (hmain := hmain m Variants.none) (hA := A_eq m S)
    (hin := fun c => scratch_in c (hS c).start) (hout := fun c => scratch_out c _)

/-- The property that says nothing. -/
def trivialSpec : Spec F := ⟨fun _ _ _ => True, fun _ _ => True, fun _ _ => True, fun _ _ => True⟩

theorem trivialSpec_kept (c : Dev nD) : (trivialSpec (F := F)).Kept m c :=
  ⟨fun _ _ => trivial, fun _ _ _ => trivial, fun _ _ _ => trivial, fun _ _ _ => trivial, fun _ _ _ => trivial⟩

variable (m)

/-- The run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 2 rfl).trans (V_main_arg0 m c),
      (Pipeline.RDat.FramePost.arr_in h.1 c 3 rfl).trans (V_main_arg1 m c)⟩, h.2⟩)
    (run_main (S := fun _ => trivialSpec) ρ fun c => trivialSpec_kept c)

end Cert.AttnBRun

end
-- ==== Proof.AttnBKept.lean ====
module

public import proofs.«01_k».proof.Proof.AttnBPoint
public import proofs.«01_k».proof.Proof.AttnBFrame
public import proofs.«01_k».proof.Proof.Reals

/-! What every grid point of the stick-breaking backward kernel keeps and ensures, for real arguments. -/

@[expose] public section

set_option maxRecDepth 16384

noncomputable section

namespace Cert.AttnBRun

open Idealize.ShloMosaic Idealize.ShloMosaic.TcCoe
open Cert.Reals Cert.AttnBIdeal Cert.AttnBIdeal.Gen

/-- The sequence `b` and the heads `2 hp` and `2 hp + 1` of real arguments. -/
def seqAt (Q C : ℕ → ℕ → ℝ) (hp b : ℕ) : Seq where
  q t l := Q (2048 * b + t) (128 * hp + l)
  k t l := Q (2048 * b + t) (1024 + (128 * hp + l))
  v t l := Q (2048 * b + t) (2048 + (128 * hp + l))
  g t l := C (2048 * b + t) (128 * hp + l)

/-- The arguments are real. -/
structure Real (m : (ℓ : Loc nD τ sig) → Buf (Elt Ideal) ℓ) (c : Dev nD) (Q C : ℕ → ℕ → ℝ) : Prop where
  qkv : ∀ (t : Fin 4096) (l : Fin 3072),
    (m ((c.tc : Thread nD τ).loc main_arg0) : S4096x3072.Idx → EReal) (ix2 t l) = ((Q t l : ℝ) : EReal)
  g : ∀ (t : Fin 4096) (l : Fin 1024),
    (m ((c.tc : Thread nD τ).loc main_arg1) : S4096x1024.Idx → EReal) (ix2 t l) = ((C t l : ℝ) : EReal)

theorem coords_eq : ∀ t : Fin grid0.N, (grid0.coords t 0).val = t.val / 16 ∧ (grid0.coords t 1).val = t.val / 8 % 2
    ∧ (grid0.coords t 2).val = t.val % 8 := by decide +kernel
theorem index_q : ∀ t : Fin grid0.N, win0_0.index t 0 = 8 * (t.val / 8 % 2) + t.val % 8 ∧ win0_0.index t 1 = t.val / 16 := by
  decide +kernel
theorem index_k : ∀ t : Fin grid0.N, win0_1.index t 0 = t.val / 8 % 2 ∧ win0_1.index t 1 = 8 + t.val / 16 := by decide +kernel
theorem index_v : ∀ t : Fin grid0.N, win0_2.index t 0 = t.val / 8 % 2 ∧ win0_2.index t 1 = 16 + t.val / 16 := by decide +kernel
theorem index_g : ∀ t : Fin grid0.N, win0_3.index t 0 = 8 * (t.val / 8 % 2) + t.val % 8 ∧ win0_3.index t 1 = t.val / 16 := by
  decide +kernel

section

variable (m : (ℓ : Loc nD τ sig) → Buf (Elt Ideal) ℓ) (c : Dev nD) {Q C : ℕ → ℕ → ℝ} (hR : Real m c Q C)

/-- The data of grid point `n`. -/
abbrev dat (Q C : ℕ → ℕ → ℝ) (n : ℕ) : Seq := seqAt Q C (n / 16) (n / 8 % 2)

include hR

theorem blk_q (t : Fin grid0.N) (r : Fin 256) (l : Fin 128) :
    (iblk m c 0 t : S256x128.Idx → EReal) (ix2 r l) = (((dat Q C t.val).q (256 * (t.val % 8) + r) l : ℝ) : EReal) :=
  (congrFun (V_main_arg0 m c) _).trans (at_ix (g := Q) hR.qkv ((tile_at (index_q t).1 256 r).trans (by omega)) (tile_at (index_q t).2 128 l))

theorem blk_g (t : Fin grid0.N) (r : Fin 256) (l : Fin 128) :
    (iblk m c 3 t : S256x128.Idx → EReal) (ix2 r l) = (((dat Q C t.val).g (256 * (t.val % 8) + r) l : ℝ) : EReal) :=
  (congrFun (V_main_arg1 m c) _).trans (at_ix (g := C) hR.g ((tile_at (index_g t).1 256 r).trans (by omega)) (tile_at (index_g t).2 128 l))

theorem blk_k (t : Fin grid0.N) : Rows (iblk m c 1 t : S2048x128.Idx → EReal) (dat Q C t.val).k := fun s l =>
  (congrFun (V_main_arg0 m c) _).trans (at_ix (g := Q) hR.qkv (tile_at (index_k t).1 2048 s) ((tile_at (index_k t).2 128 l).trans (by omega)))

theorem blk_v (t : Fin grid0.N) : Rows (iblk m c 2 t : S2048x128.Idx → EReal) (dat Q C t.val).v := fun s l =>
  (congrFun (V_main_arg0 m c) _).trans (at_ix (g := Q) hR.qkv (tile_at (index_v t).1 2048 s) ((tile_at (index_v t).2 128 l).trans (by omega)))

omit hR in
theorem full_apply {a : Memref sig .tc .vmem S256x128 .bf16} (f : BufTy.Contents (Elt Ideal) a.view.ty) (y : S256x128.Idx) :
    full (F := Ideal) f y = a.view.read (Elt Ideal) f y :=
  View.ld_unit_apply_of (a.view.read (Elt Ideal) f) _ _ _ _ _ fun b => match b with
    | ⟨0, _⟩ => (Nat.zero_add _).symm
    | ⟨1, _⟩ => (Nat.zero_add _).symm

/-- The operands at a grid point are real. -/
theorem given (t : Fin grid0.N) : Given (dat Q C t.val) (grid0.coords t 2).val (opsAt t) (insAt m c t) := by
  have e := (coords_eq t).2.2
  have hq : ReR (full (F := Ideal) (a := (opsAt t).q) (insAt m c t).q) fun r l => (dat Q C t.val).q (256 * (grid0.coords t 2).val + r) l :=
    fun r l => (full_apply _ _).trans ((congrFun ((opsAt t).hq.read_unread _) _).trans ((blk_q m c hR t r l).trans (by rw [e])))
  have hg : ReR (full (F := Ideal) (a := (opsAt t).g) (insAt m c t).g) fun r l => (dat Q C t.val).g (256 * (grid0.coords t 2).val + r) l :=
    fun r l => (full_apply _ _).trans ((congrFun ((opsAt t).hg.read_unread _) _).trans ((blk_g m c hR t r l).trans (by rw [e])))
  exact ⟨hq.q0, hq.q1, hg.g0, hg.g1, fun s l => (congrFun ((opsAt t).hk.read_unread _) _).trans (blk_k m c hR t s l),
    fun s l => (congrFun ((opsAt t).hv.read_unread _) _).trans (blk_v m c hR t s l)⟩

end

/-- What the first `n` query blocks add to the keys' and the values' gradients. -/
def Seq.sumK (D : Seq) (n s l : ℕ) : ℝ := ∑ j ∈ Finset.range n, D.addK j s l
def Seq.sumV (D : Seq) (n s l : ℕ) : ℝ := ∑ j ∈ Finset.range n, D.addV j s l

/-- The sums before each point are those of the query blocks before it; each point leaves its block's gradient of the
queries, the last of a sequence and a pair of heads the gradients of the keys and the values. -/
def realSpec (Q C : ℕ → ℕ → ℝ) : Spec Ideal where
  sums n a b := n % 8 ≠ 0 → Rows a ((dat Q C n).sumK (n % 8)) ∧ Rows b ((dat Q C n).sumV (n % 8))
  dq t X := ReR X fun r l => (dat Q C t.val).dq (256 * (t.val % 8) + r) l
  dk t X := t.val % 8 = 7 → ∀ (s : Fin 2048) (l : Fin 128), X (ix2 s l) = (((dat Q C t.val).sumK 8 s l : ℝ) : EReal)
  dv t X := t.val % 8 = 7 → ∀ (s : Fin 2048) (l : Fin 128), X (ix2 s l) = (((dat Q C t.val).sumV 8 s l : ℝ) : EReal)

section Points

variable (m : (ℓ : Loc nD τ sig) → Buf (Elt Ideal) ℓ) (c : Dev nD) {Q C : ℕ → ℕ → ℝ} (hR : Real m c Q C)

omit m in
theorem whole_apply {a : Memref sig .tc .vmem S2048x128 .f32} (f : BufTy.Contents (Elt Ideal) a.view.ty) (y : S2048x128.Idx) :
    whole (F := Ideal) f y = a.view.read (Elt Ideal) f y :=
  View.ld_unit_apply_of (a.view.read (Elt Ideal) f) _ _ _ _ _ fun b => match b with
    | ⟨0, _⟩ => (Nat.zero_add _).symm
    | ⟨1, _⟩ => (Nat.zero_add _).symm

/-- A buffer cleared. -/
theorem zero_rows {a : Memref sig .tc .vmem S2048x128 .f32} (f : BufTy.Contents (Elt Ideal) a.view.ty) {x : FVec Ideal S2048x128 .f32}
    (hx : ∀ y, x y = 0) : Rows (a.view.read (Elt Ideal) (a.view.writes (Elt Ideal) f [zeroP (F := Ideal) x])) fun _ _ => 0 := fun s l =>
  (View.read_writes_cons_rows_of_mem a.view f (o := 0) inb_S2048x128_S2048x128_0_0 x [] (ix2 s l) (ix2 s l) rfl
    (Nat.zero_add _).symm rfl).trans ((hx _).trans EReal.coe_zero.symm)

omit m in
/-- The body at any query block. -/
theorem after_run {D : Seq} {oldK oldV : ℕ → ℕ → ℝ} (i : grid0.Coords) (M : Ops) (x : Ins Ideal M) (b0 b2 b4 : Bool)
    (h0 : b0 = true ↔ (i 2).val = 0) (h2 : b2 = true ↔ (i 2).val % 2 = 1) (h4 : b4 = true ↔ (i 2).val = 7) (y : Outs Ideal M)
    (hG : Given D (i 2).val M x)
    (hs : (i 2).val ≠ 0 → Rows (M.ak.view.read (Elt Ideal) y.ak) oldK ∧ Rows (M.av.view.read (Elt Ideal) y.av) oldV)
    (hz : (i 2).val = 0 → oldK = (fun _ _ => 0) ∧ oldV = fun _ _ => 0) :
    let R := bodyRun (F := Ideal) c i M x b0 b2 b4 h0 h2 h4
    After D (i 2).val M oldK oldV (R.1 y) (R.2.2.2.1 y) (R.2.2.2.2.1 y) := by
  cases b0
  · have n0 : (i 2).val ≠ 0 := fun h => Bool.false_ne_true (h0.2 h)
    cases b2
    · have n2 : (i 2).val % 2 = 0 := by have : ¬(i 2).val % 2 = 1 := fun h => Bool.false_ne_true (h2.2 h); omega
      cases b4
      · exact even_point c i M x y hG n2 (fun _ => rfl) (fun _ => rfl) (hs n0).2 (hs n0).1 (even_eq c i M x y h0 h2 h4)
      · exact absurd (h4.1 rfl) (by omega)
    · cases b4
      · exact odd_point c i M x y hG (h2.1 rfl) (hs n0).2 (hs n0).1 (odd_eq c i M x y h0 h2 h4)
      · exact odd_point c i M x y hG (h2.1 rfl) (hs n0).2 (hs n0).1 (last_eq c i M x y h0 h2 h4).1
  · have n0 := h0.1 rfl
    cases b2
    · cases b4
      · obtain ⟨rfl, rfl⟩ := hz n0
        exact even_point c i M x y hG (by omega) (fun _ => rfl) (fun _ => View.writes_append _ _ _ _)
          (zero_rows _ pay257_apply) (zero_rows _ pay256_apply) (first_eq c i M x y h0 h2 h4)
      · exact absurd (h4.1 rfl) (by omega)
    · exact absurd (h2.1 rfl) (by omega)

omit m in
/-- What the last query block stores of the sums. -/
theorem last_run (i : grid0.Coords) (M : Ops) (x : Ins Ideal M) (b0 b2 b4 : Bool)
    (h0 : b0 = true ↔ (i 2).val = 0) (h2 : b2 = true ↔ (i 2).val % 2 = 1) (h4 : b4 = true ↔ (i 2).val = 7) (y : Outs Ideal M)
    (h7 : (i 2).val = 7) :
    let R := bodyRun (F := Ideal) c i M x b0 b2 b4 h0 h2 h4
    (∀ s l, M.dk.view.read (Elt Ideal) (R.2.1 y) (ix2 s l) = M.ak.view.read (Elt Ideal) (R.2.2.2.1 y) (ix2 s l))
      ∧ (∀ s l, M.dv.view.read (Elt Ideal) (R.2.2.1 y) (ix2 s l) = M.av.view.read (Elt Ideal) (R.2.2.2.2.1 y) (ix2 s l)) := by
  cases b0
  · cases b2
    · exact absurd (h2.2 (by omega)) Bool.false_ne_true
    · cases b4
      · exact absurd (h4.2 h7) Bool.false_ne_true
      · obtain ⟨-, ek, ev⟩ := last_eq (F := Ideal) c i M x y h0 h2 h4
        dsimp only
        refine ⟨fun s l => ?_, fun s l => ?_⟩
        · rw [ek]
          exact (View.read_writes_cons_rows_of_mem M.dk.view y.dk (o := 0) inb_S2048x128_S2048x128_0_0 _ [] (ix2 s l) (ix2 s l) rfl
            (Nat.zero_add _).symm rfl).trans (whole_apply (a := M.ak) _ _)
        · rw [ev]
          exact (View.read_writes_cons_rows_of_mem M.dv.view y.dv (o := 0) inb_S2048x128_S2048x128_0_0 _ [] (ix2 s l) (ix2 s l) rfl
            (Nat.zero_add _).symm rfl).trans (whole_apply (a := M.av) _ _)
  · exact absurd (h0.1 rfl) (by omega)

include hR

/-- After a point: the sums with its block, and its block's gradient of the queries. -/
theorem after_point (t : Fin grid0.N) (y : Outs Ideal (opsAt t)) (hs : (realSpec Q C).sums t.val y.ak y.av) :
    After (dat Q C t.val) (grid0.coords t 2).val (opsAt t) ((dat Q C t.val).sumK (t.val % 8)) ((dat Q C t.val).sumV (t.val % 8))
      (outAt m c t y).dq (outAt m c t y).ak (outAt m c t y).av := by
  have e := (coords_eq t).2.2
  refine after_run c (grid0.coords t) (opsAt t) (insAt m c t) _ _ _ decide_eq_true_iff decide_eq_true_iff decide_eq_true_iff y
    (given m c hR t) (fun h => ?_) (fun h => ?_)
  · rw [e] at h
    exact hs h
  · rw [e] at h
    rw [h]
    exact ⟨funext fun s => funext fun l => Finset.sum_range_zero _, funext fun s => funext fun l => Finset.sum_range_zero _⟩

/-- Every point keeps the sums and ensures the gradients. -/
theorem realSpec_kept : (realSpec Q C).Kept m c where
  start a b h := absurd rfl h
  sums t y hs h := by
    have A := after_point m c hR t y hs
    have e := (coords_eq t).2.2
    have e8 : (t.val + 1) % 8 = t.val % 8 + 1 := by omega
    have d8 : (t.val + 1) / 8 = t.val / 8 := by omega
    have d16 : (t.val + 1) / 16 = t.val / 16 := by omega
    show Rows _ ((seqAt Q C ((t.val + 1) / 16) ((t.val + 1) / 8 % 2)).sumK ((t.val + 1) % 8))
      ∧ Rows _ ((seqAt Q C ((t.val + 1) / 16) ((t.val + 1) / 8 % 2)).sumV ((t.val + 1) % 8))
    rw [e8, d8, d16]
    refine ⟨fun s l => (A.ak s l).trans (congrArg Real.toEReal ?_), fun s l => (A.av s l).trans (congrArg Real.toEReal ?_)⟩
    · rw [e]; exact (Finset.sum_range_succ _ _).symm
    · rw [e]; exact (Finset.sum_range_succ _ _).symm
  dq t y hs := by
    have A := (after_point m c hR t y hs).dq
    rw [(coords_eq t).2.2] at A
    exact A
  dk t y hs h7 s l := by
    have A := after_point m c hR t y hs
    have e := (coords_eq t).2.2
    refine ((last_run c (grid0.coords t) (opsAt t) (insAt m c t) _ _ _ decide_eq_true_iff decide_eq_true_iff decide_eq_true_iff y
      (e.trans h7)).1 s l).trans ((A.ak s l).trans (congrArg Real.toEReal ?_))
    rw [e, h7]; exact (Finset.sum_range_succ _ _).symm
  dv t y hs h7 s l := by
    have A := after_point m c hR t y hs
    have e := (coords_eq t).2.2
    refine ((last_run c (grid0.coords t) (opsAt t) (insAt m c t) _ _ _ decide_eq_true_iff decide_eq_true_iff decide_eq_true_iff y
      (e.trans h7)).2 s l).trans ((A.av s l).trans (congrArg Real.toEReal ?_))
    rw [e, h7]; exact (Finset.sum_range_succ _ _).symm

end Points

end Cert.AttnBRun
end
-- ==== Proof.AttnBRefMath.lean ====
module

public import proofs.«01_k».proof.Proof.AttnBKept
public import proofs.«01_k».proof.Proof.Gen.AttnBRefIdeal.Read

/-! What the stick-breaking reference computes with, read at real numbers: the softplus and its derivative, the running sums,
    the sums over a head's lanes. -/

@[expose] public section

set_option maxRecDepth 16384

noncomputable section

namespace Cert.AttnBRun

open Idealize.ShloMosaic Idealize.ShloMosaic.TcCoe Idealize.SL.Sem

/-- The softplus as the reference computes it. -/
def softplusV {F : FTy → Type} [FloatOps F] {s : Shape} (o : FVec F s .f32) (x : FVec F s .f32) : FVec F s .f32 :=
  select (cmpf .une (subf x o) (subf x o)) (addf x o) (addf (maximumf x o) (Host.log1p (Host.exp (Host.negf (Host.absf (subf x o))))))

/-- Its derivative as the reference computes it. -/
def slopeV {F : FTy → Type} [FloatOps F] {s : Shape} (o p : FVec F s .f32) (x : FVec F s .f32) : FVec F s .f32 :=
  Host.exp (subf (select (cmpf .oeq x p) o x) (select (cmpf .oeq (softplusV o x) p) o (softplusV o x)))

theorem lb_neg (r : ℝ) : lb (-r) = lb r - r := by
  unfold lb
  rw [neg_neg, min_comm (-r) r]
  have : min (-r) 0 = min r 0 - r := by
    rcases le_total r 0 with h | h
    · rw [min_eq_right (by linarith), min_eq_left h, sub_self]
    · rw [min_eq_left (by linarith), min_eq_right h, zero_sub]
  rw [this]; ring

theorem exp_lb (r : ℝ) : Real.exp (lb r) = sg r := by
  unfold lb sg
  have hp : ∀ y : ℝ, 0 < 1 + Real.exp y := fun y => by positivity
  rw [Real.exp_sub, Real.exp_log (hp _)]
  rcases le_total r 0 with h | h
  · rw [min_eq_left h, min_eq_left (by linarith), Real.exp_neg, div_eq_iff (hp r).ne']
    have := Real.exp_pos r
    field_simp
    ring
  · rw [min_eq_right h, min_eq_right (by linarith), Real.exp_zero, one_div]

theorem sg_neg (r : ℝ) : sg (-r) = 1 - sg r := by
  unfold sg
  rw [neg_neg, Real.exp_neg]
  have := Real.exp_pos r
  field_simp
  ring

theorem softplus_real {s : Shape} {o x : FVec Ideal s .f32} {i : s.Idx} {r : ℝ} (ho : o i = 0) (hx : x i = (r : EReal)) :
    softplusV o x i = ((-lb (-r) : ℝ) : EReal) := by
  pointwise [softplusV]
  rw [ho, hx, if_neg (fun h => h rfl)]
  show max (r : EReal) 0 + Ideal.log (1 + Ideal.exp (-max ((r : EReal) - 0) (-((r : EReal) - 0)))) = _
  have hm : ∀ a b : ℝ, ((max a b : ℝ) : EReal) = max (a : EReal) (b : EReal) := fun a b => EReal.coe_strictMono.monotone.map_max
  rw [sub_zero, ← EReal.coe_neg, ← hm, ← EReal.coe_neg, Ideal.exp_coe, ← EReal.coe_one, ← EReal.coe_add, Ideal.log_coe,
    if_neg (not_le.mpr (by positivity)), ← EReal.coe_zero, ← hm, ← EReal.coe_add]
  refine congrArg Real.toEReal ?_
  unfold lb
  rw [neg_neg, max_comm r (-r), ← min_neg_neg, neg_neg, min_comm (-r) r, min_comm r (-r)]
  have : min (-r) 0 = - max r 0 := by rw [← neg_zero, min_neg_neg, neg_zero]
  rw [this]; ring

theorem slope_real {s : Shape} {o p x : FVec Ideal s .f32} {i : s.Idx} {r : ℝ} (ho : o i = 0) (hp : p i = ⊤) (hx : x i = (r : EReal)) :
    slopeV o p x i = ((sg r : ℝ) : EReal) := by
  pointwise [slopeV]
  rw [ho, hx, hp, softplus_real ho hx, if_neg (EReal.coe_ne_top _), if_neg (EReal.coe_ne_top _), ← EReal.coe_sub, Ideal.exp_coe, ← exp_lb,
    lb_neg]
  refine congrArg Real.toEReal (congrArg Real.exp ?_)
  ring

section Window

variable {A B T N lo hi : ℕ}

/-- Adding up real numbers one by one. -/
theorem foldl_real {α : Type} (l : List α) (F : α → EReal) (e : α → ℝ) (h : ∀ n ∈ l, F n = (e n : EReal)) (v : ℝ) :
    l.foldl (fun r n => r + F n) (v : EReal) = ((v + (l.map e).sum : ℝ) : EReal) := by
  induction l generalizing v with
  | nil => simp
  | cons a l ih =>
    rw [List.foldl_cons, h a (List.mem_cons_self ..), ← EReal.coe_add, ih fun n hn => h n (List.mem_cons_of_mem _ hn), List.map_cons,
      List.sum_cons, add_assoc]

theorem numel_row (N : ℕ) : (⟨4, ![1, 1, 1, N]⟩ : Shape).numel = N := by
  simp [Shape.numel, Fin.prod_univ_succ]

/-- A sum over windows of the last axis. -/
theorem window_row (x : (⟨4, ![A, B, T, N]⟩ : Shape).Idx → EReal) (f : ℕ → ℝ) (j : (⟨4, ![A, B, T, N]⟩ : Shape).Idx)
    (hx : ∀ s : Fin N, x (ix4 (j 0) (j 1) (j 2) s) = ((f s.val : ℝ) : EReal)) (h) :
    Ideal.hostReduceWindowAdd ![1, 1, 1, N] ![1, 1, 1, 1] ![0, 0, 0, lo] ![0, 0, 0, hi] (t := ⟨4, ![A, B, T, N]⟩) h x 0 j
      = ((∑ w ∈ Finset.range N, if lo ≤ (j 3).val + w ∧ (j 3).val + w - lo < N then f ((j 3).val + w - lo) else 0 : ℝ) : EReal) := by
  have hj0 : (j 0).val < A := (j 0).isLt
  have hj1 : (j 1).val < B := (j 1).isLt
  have hj2 : (j 2).val < T := (j 2).isLt
  unfold Ideal.hostReduceWindowAdd Host.reduceWindow
  refine (foldl_real _ _ (fun n => if lo ≤ (j 3).val + n.val ∧ (j 3).val + n.val - lo < N then f ((j 3).val + n.val - lo) else 0)
    (fun n _ => ?_) 0).trans ?_
  · set W := (⟨4, ![1, 1, 1, N]⟩ : Shape).rowMajor.symm n with hW
    have e : n.val = ((((W 0).val * 1 + (W 1).val) * 1 + (W 2).val) * N + (W 3).val) := by
      have := Shape.rowMajor_val_four W
      rw [hW, Equiv.apply_symm_apply] at this
      exact this
    have w0 : (W 0).val = 0 := Nat.lt_one_iff.1 (W 0).isLt
    have w1 : (W 1).val = 0 := Nat.lt_one_iff.1 (W 1).isLt
    have w2 : (W 2).val = 0 := Nat.lt_one_iff.1 (W 2).isLt
    rw [w0, w1, w2] at e
    have w3 : (W 3).val = n.val := by omega
    dsimp only
    split
    · next hin =>
      have h3 := hin 3
      change lo ≤ (j 3).val * 1 + (W 3).val ∧ (j 3).val * 1 + (W 3).val - lo < N at h3
      rw [w3, Nat.mul_one] at h3
      rw [if_pos h3]
      refine (congrArg x (funext fun a => Fin.ext ?_)).trans (hx ⟨(j 3).val + n.val - lo, h3.2⟩)
      match a with
      | ⟨0, _⟩ => show (j 0).val * 1 + (W 0).val - 0 = (j 0).val; rw [w0]; omega
      | ⟨1, _⟩ => show (j 1).val * 1 + (W 1).val - 0 = (j 1).val; rw [w1]; omega
      | ⟨2, _⟩ => show (j 2).val * 1 + (W 2).val - 0 = (j 2).val; rw [w2]; omega
      | ⟨3, _⟩ => show (j 3).val * 1 + (W 3).val - lo = (j 3).val + n.val - lo; rw [w3, Nat.mul_one]
    · next hin =>
      rw [if_neg fun hle => hin fun a => by
        match a with
        | ⟨0, _⟩ => show 0 ≤ (j 0).val * 1 + (W 0).val ∧ (j 0).val * 1 + (W 0).val - 0 < A; rw [w0]; omega
        | ⟨1, _⟩ => show 0 ≤ (j 1).val * 1 + (W 1).val ∧ (j 1).val * 1 + (W 1).val - 0 < B; rw [w1]; omega
        | ⟨2, _⟩ => show 0 ≤ (j 2).val * 1 + (W 2).val ∧ (j 2).val * 1 + (W 2).val - 0 < T; rw [w2]; omega
        | ⟨3, _⟩ => show lo ≤ (j 3).val * 1 + (W 3).val ∧ (j 3).val * 1 + (W 3).val - lo < N; rw [w3, Nat.mul_one]; exact hle]
      exact EReal.coe_zero.symm
  · rw [zero_add]
    refine congrArg Real.toEReal ?_
    have := Fin.sum_univ_eq_sum_range (fun w => if lo ≤ (j 3).val + w ∧ (j 3).val + w - lo < N then f ((j 3).val + w - lo) else 0)
      (⟨4, ![1, 1, 1, N]⟩ : Shape).numel
    rw [← List.sum_ofFn, List.ofFn_eq_map] at this
    exact this.trans (by rw [numel_row])

/-- The running sum from the right. -/
theorem sum_from (f : ℕ → ℝ) {s : ℕ} (hs : s < N) :
    (∑ w ∈ Finset.range N, if 0 ≤ s + w ∧ s + w - 0 < N then f (s + w - 0) else 0) = ∑ u ∈ Finset.Ico s N, f u := by
  rw [Finset.sum_Ico_eq_sum_range, ← Finset.sum_filter]
  refine Finset.sum_congr (Finset.ext fun w => ?_) fun w _ => rfl
  simp only [Finset.mem_filter, Finset.mem_range]; omega

/-- The running sum from the left. -/
theorem sum_upto (f : ℕ → ℝ) {s : ℕ} (hs : s < N) :
    (∑ w ∈ Finset.range N, if N - 1 ≤ s + w ∧ s + w - (N - 1) < N then f (s + w - (N - 1)) else 0) = ∑ u ∈ Finset.range (s + 1), f u := by
  rw [← Finset.sum_filter]
  refine Finset.sum_bij' (fun w _ => s + w - (N - 1)) (fun u _ => u + (N - 1) - s) ?_ ?_ ?_ ?_ fun _ _ => rfl
  all_goals simp only [Finset.mem_filter, Finset.mem_range]; intros; omega

/-- The running sum along the last axis, the window reaching forward: entry `j` is the sum from `j` on. -/
theorem running_from {u : Shape} (x : FVec Ideal (⟨4, ![A, B, T, N]⟩ : Shape) .f32) (z : u.Idx → EReal) (h) (hu : 0 < u.numel)
    (hz : z (Shape.Idx.first hu) = 0) (f : ℕ → ℝ) (j : (⟨4, ![A, B, T, N]⟩ : Shape).Idx)
    (hx : ∀ s : Fin N, x (ix4 (j 0) (j 1) (j 2) s) = ((f s.val : ℝ) : EReal)) :
    Host.reduceWindowAdd (F := Ideal) ![1, 1, 1, N] ![1, 1, 1, 1] ![0, 0, 0, 0] ![0, 0, 0, hi] x z (t := ⟨4, ![A, B, T, N]⟩) h hu j
      = ((∑ w ∈ Finset.Ico (j 3).val N, f w : ℝ) : EReal) := by
  have hj : (j 3).val < N := (j 3).isLt
  unfold Host.reduceWindowAdd
  rw [Ideal.hostReduceWindowAdd_def, hz]
  refine (window_row x f j hx h).trans ?_
  rw [sum_from _ hj]

/-- The running sum along the last axis, the window reaching backward: entry `j` is the sum up to and with `j`. -/
theorem running_upto {u : Shape} (x : FVec Ideal (⟨4, ![A, B, T, N]⟩ : Shape) .f32) (z : u.Idx → EReal) (h) (hu : 0 < u.numel)
    (hz : z (Shape.Idx.first hu) = 0) (hlo : lo = N - 1) (f : ℕ → ℝ) (j : (⟨4, ![A, B, T, N]⟩ : Shape).Idx)
    (hx : ∀ s : Fin N, x (ix4 (j 0) (j 1) (j 2) s) = ((f s.val : ℝ) : EReal)) :
    Host.reduceWindowAdd (F := Ideal) ![1, 1, 1, N] ![1, 1, 1, 1] ![0, 0, 0, lo] ![0, 0, 0, hi] x z (t := ⟨4, ![A, B, T, N]⟩) h hu j
      = ((∑ w ∈ Finset.range ((j 3).val + 1), f w : ℝ) : EReal) := by
  have hj : (j 3).val < N := (j 3).isLt
  unfold Host.reduceWindowAdd
  rw [Ideal.hostReduceWindowAdd_def, hz]
  refine (window_row x f j hx h).trans ?_
  rw [hlo, sum_upto _ hj]

end Window

/-- A sum over the lanes of one of two heads. -/
theorem sum_lanes (f : ℕ → ℝ) {p : ℕ} (hp : p < 2) :
    (∑ l ∈ Finset.range 128, if l / 64 = p then f l else 0) = ∑ d ∈ Finset.range 64, f (64 * p + d) := by
  rw [← Finset.sum_filter]
  refine Finset.sum_bij' (fun l _ => l - 64 * p) (fun d _ => 64 * p + d) ?_ ?_ ?_ ?_ ?_
  all_goals simp only [Finset.mem_filter, Finset.mem_range]; intros
  all_goals first | omega | (congr 1; omega)

end Cert.AttnBRun
end
-- ==== Proof.AttnBArr.lean ====
module

public import proofs.«01_k».proof.Proof.AttnBKept

/-! The three gradients the stick-breaking backward kernel's run leaves, for real arguments. -/

@[expose] public section

set_option maxRecDepth 16384

noncomputable section

namespace Cert.AttnBRun

open Idealize.ShloMosaic Idealize.ShloMosaic.TcCoe Idealize.SL.Sem
open Idealize.ShloMosaic.Pipeline (Dat)
open Cert.Reals Cert.AttnBIdeal Cert.AttnBIdeal.Gen

/-- A gradient's array, from each sequence's and pair of heads' gradient. -/
def arr (f : Seq → ℕ → ℕ → ℝ) (Q C : ℕ → ℕ → ℝ) : S4096x1024.Idx → EReal := fun i =>
  ((f (seqAt Q C ((i 1).val / 128) ((i 0).val / 2048)) ((i 0).val % 2048) ((i 1).val % 128) : ℝ) : EReal)

theorem index_dq : ∀ t : Fin grid0.N, win0_4.index t 0 = 8 * (t.val / 8 % 2) + t.val % 8 ∧ win0_4.index t 1 = t.val / 16 := by
  decide +kernel
theorem index_dk : ∀ t : Fin grid0.N, win0_5.index t 0 = t.val / 8 % 2 ∧ win0_5.index t 1 = t.val / 16 := by decide +kernel
theorem places_dq : ∀ (a : Fin 16) (b : Fin 8), ∃ t : Fin grid0.N, win0_4.index t 0 = a.val ∧ win0_4.index t 1 = b.val := by decide +kernel
theorem places_dk : ∀ (a : Fin 2) (b : Fin 8), ∃ t : Fin grid0.N, t.val % 8 = 7 ∧ win0_5.index t 0 = a.val ∧ win0_5.index t 1 = b.val := by
  decide +kernel

section Arrays

variable {c : Dev nD} {Q C : ℕ → ℕ → ℝ} (d : Dat τ (Elt Ideal) Unit ℕ (UR sig nD τ) ℕ cfg0 c)

/-- A gradient's entry at a row of a sequence and a lane of a pair of heads. -/
theorem arr_block (f : Seq → ℕ → ℕ → ℝ) {t s l : ℕ} {i : S4096x1024.Idx} (hs : s < 2048) (hl : l < 128)
    (h0 : (i 0).val = 2048 * (t / 8 % 2) + s) (h1 : (i 1).val = 128 * (t / 16) + l) : ((f (dat Q C t) s l : ℝ) : EReal) = arr f Q C i := by
  unfold arr
  rw [h0, h1, show (128 * (t / 16) + l) / 128 = t / 16 by omega, show (128 * (t / 16) + l) % 128 = l by omega,
    show (2048 * (t / 8 % 2) + s) / 2048 = t / 8 % 2 by omega, show (2048 * (t / 8 % 2) + s) % 2048 = s by omega]

theorem arr_dq (h : ∀ t, (realSpec Q C).dq t (d.after 4 t)) : d.arrAt 4 cfg0.N = arr Seq.dq Q C :=
  d.arrAt_eq_of_emb 4 _ (fun t _ y => by
    obtain ⟨r, l, rfl⟩ := exists_ix2 y
    exact (h t r l).trans (arr_block Seq.dq (by omega) l.isLt ((tile_at (index_dq t).1 256 r).trans (by omega)) (tile_at (index_dq t).2 128 l)))
    fun i => (blocks_cover 256 128 rfl rfl win0_4.index places_dq (fun _ => ⟨_, rfl⟩) i).imp fun t ht => ⟨flush0_4 t, in_slice ht⟩

/-- An entry of a block of a whole sequence, read off the array. -/
theorem place_k (f : Seq → ℕ → ℕ → ℝ) (t : Fin cfg0.N) (s : Fin 2048) (l : Fin 128) :
    ((f (dat Q C t.val) s.val l.val : ℝ) : EReal) = arr f Q C (((cfg0.win 5).blk t).view.emb (ix2 s l)) :=
  arr_block f s.isLt l.isLt (tile_at (index_dk t).1 2048 s) (tile_at (index_dk t).2 128 l)

/-- The blocks of whole sequences written back cover the array. -/
theorem covered_k (i : S4096x1024.Idx) : ∃ t : Fin cfg0.N, t.val % 8 = 7 ∧ i ∈ (win0_5.rect t).set :=
  ok_cover (ok := fun t => t.val % 8 = 7) 2048 128 rfl rfl win0_5.index places_dk (fun _ => ⟨_, rfl⟩) i

theorem arr_dk (h : ∀ t, (cfg0.win 5).flush t = true → (realSpec Q C).dk t (d.after 5 t)) :
    d.arrAt 5 cfg0.N = arr (fun D => D.sumK 8) Q C :=
  d.arrAt_eq_of_emb 5 (arr (fun D => D.sumK 8) Q C) (fun t hf y => by
    obtain ⟨s, l, rfl⟩ := exists_ix2 y
    exact (h t hf ((flush0_5 t).mp hf) s l).trans (place_k (fun D => D.sumK 8) t s l)) fun i =>
    (covered_k i).imp fun t ht => ⟨(flush0_5 t).mpr ht.1, in_slice ht.2⟩

theorem arr_dv (h : ∀ t, (cfg0.win 6).flush t = true → (realSpec Q C).dv t (d.after 6 t)) :
    d.arrAt 6 cfg0.N = arr (fun D => D.sumV 8) Q C :=
  d.arrAt_eq_of_emb 6 (arr (fun D => D.sumV 8) Q C) (fun t hf y => by
    obtain ⟨s, l, rfl⟩ := exists_ix2 y
    exact (h t hf ((flush0_6 t).mp hf) s l).trans (place_k (fun D => D.sumV 8) t s l)) fun i =>
    (covered_k i).imp fun t ht => ⟨(flush0_6 t).mpr ht.1, in_slice ht.2⟩

end Arrays

/-- The kernel's run for real arguments: the three gradients, the arguments unchanged. -/
theorem run_real (m : (ℓ : Loc nD τ sig) → Buf (Elt Ideal) ℓ) (ρ : Dev nD → PrngReg) (Q C : Dev nD → ℕ → ℕ → ℝ)
    (hR : ∀ c, Real m c (Q c) (C c)) :
    θ_run defs (onTc (τ := τ) (main (F := Ideal))) ⟨m, fun _ => 0, ρ⟩ fun r => ∀ c : Dev nD,
      r.2.mem ((c.tc : Thread nD τ).loc main_v0_0) = arr Seq.dq (Q c) (C c)
      ∧ r.2.mem ((c.tc : Thread nD τ).loc main_v0_1) = arr (fun D => D.sumK 8) (Q c) (C c)
      ∧ r.2.mem ((c.tc : Thread nD τ).loc main_v0_2) = arr (fun D => D.sumV 8) (Q c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      obtain ⟨after, hL, hA⟩ := h.1.exists_exact c
      refine ⟨(hA 4).trans (arr_dq _ fun t => ?_), (hA 5).trans (arr_dk _ fun t hf => ?_), (hA 6).trans (arr_dv _ fun t hf => ?_),
        (Pipeline.RDat.FramePost.arr_in h.1 c 2 rfl).trans (V_main_arg0 m c),
        (Pipeline.RDat.FramePost.arr_in h.1 c 3 rfl).trans (V_main_arg1 m c)⟩
      · exact Pipeline.Dat.toRRel_leaves _ (by decide) (hL 4 t (flush0_4 t))
      · exact Pipeline.Dat.toRRel_leaves _ (by decide) (hL 5 t hf)
      · exact Pipeline.Dat.toRRel_leaves _ (by decide) (hL 6 t hf))
    (run_main (S := fun c => realSpec (Q c) (C c)) ρ fun c => realSpec_kept m c (hR c))

end Cert.AttnBRun
end
-- ==== Proof.AttnBRefValue.lean ====
module

public import proofs.«01_k».proof.Proof.AttnBRefMath
public import proofs.«01_k».proof.Proof.AttnBArr

/-! The stick-breaking reference's three gradients, for real arguments. -/

@[expose] public section

set_option maxRecDepth 16384

noncomputable section

namespace Cert.AttnBRun

open Idealize.ShloMosaic Idealize.ShloMosaic.TcCoe Idealize.SL.Sem
open Cert.AttnBRefIdeal Cert.AttnBRefIdeal.Gen Cert.AttnBRefIdeal.Read

/-- An array of four axes of real numbers. -/
def Is4 {A B T N : ℕ} (X : (⟨4, ![A, B, T, N]⟩ : Shape).Idx → EReal) (f : ℕ → ℕ → ℕ → ℕ → ℝ) : Prop :=
  ∀ i, X i = ((f (i 0).val (i 1).val (i 2).val (i 3).val : ℝ) : EReal)

/-- The numbers of a sequence's head: those of its pair of heads. -/
abbrev sq (Q C : ℕ → ℕ → ℝ) (b h : ℕ) : Seq := seqAt Q C (h / 2) b
/-- A head's lane among its pair's. -/
abbrev ln (h d : ℕ) : ℕ := 64 * (h % 2) + d

/-- A sum of products of real numbers. -/
theorem sum_mul {n : ℕ} {f g : Fin n → EReal} (a b : ℕ → ℝ) (hf : ∀ k, f k = ((a k.val : ℝ) : EReal)) (hg : ∀ k, g k = ((b k.val : ℝ) : EReal)) :
    ∑ k : Fin n, f k * g k = ((∑ k ∈ Finset.range n, a k * b k : ℝ) : EReal) := by
  rw [← sum_fin n fun k => a k * b k]
  exact Finset.sum_congr rfl fun k _ => by rw [hf, hg, EReal.coe_mul]

theorem zero_bits : (FloatOps.ofBits .f32 0x00000000#32 : Ideal .f32) = (0 : EReal) := by
  show Ideal.ofBits FTy.f32 0#32 = 0
  simp [Ideal.ofBits, Ideal.ieee]
theorem top_bits : (FloatOps.ofBits .f32 0x7F800000#32 : Ideal .f32) = (⊤ : EReal) := by
  show Ideal.ofBits FTy.f32 0x7F800000#32 = ⊤
  simp [Ideal.ofBits, Ideal.ieee]
theorem bot_bits : (FloatOps.ofBits .f32 0xFF800000#32 : Ideal .f32) = (⊥ : EReal) := by
  show Ideal.ofBits FTy.f32 0xFF800000#32 = ⊥
  simp [Ideal.ofBits, Ideal.ieee]

variable {x0 : (⟨S4096x3072, .bf16⟩ : BufTy).Contents (Elt Ideal)} {x1 : (⟨S4096x1024, .bf16⟩ : BufTy).Contents (Elt Ideal)}
  {Q C : ℕ → ℕ → ℝ}

/-- The row of the packed queries, keys and values an entry comes from, and its column. -/
theorem split_row {b t h d o : ℕ} (hb : b < 2) (ht : t < 2048) (hh : h < 16) (hd : d < 64) (ho : o < 3) :
    ((((((((b * 2048 + t) * 16 + h) * 64 + d) / 2097152 * 2048 + (((b * 2048 + t) * 16 + h) * 64 + d) / 1024 % 2048) * 3 + o) * 16
      + (((b * 2048 + t) * 16 + h) * 64 + d) / 64 % 16) * 64 + (((b * 2048 + t) * 16 + h) * 64 + d) % 64) / 3072 = 2048 * b + t)
    ∧ ((((((((b * 2048 + t) * 16 + h) * 64 + d) / 2097152 * 2048 + (((b * 2048 + t) * 16 + h) * 64 + d) / 1024 % 2048) * 3 + o) * 16
      + (((b * 2048 + t) * 16 + h) * 64 + d) / 64 % 16) * 64 + (((b * 2048 + t) * 16 + h) * 64 + d) % 64) % 3072 = 1024 * o + (64 * h + d)) := by
  rw [show (((b * 2048 + t) * 16 + h) * 64 + d) / 2097152 = b by omega, show (((b * 2048 + t) * 16 + h) * 64 + d) / 1024 % 2048 = t by omega,
    show (((b * 2048 + t) * 16 + h) * 64 + d) / 64 % 16 = h by omega, show (((b * 2048 + t) * 16 + h) * 64 + d) % 64 = d by omega]
  constructor <;> omega

theorem lane_eq (h d : ℕ) : 128 * (h / 2) + ln h d = 64 * h + d := by unfold ln; omega

/-- A sum over a head's lanes is one over its pair's lanes with the other head's zero. -/
theorem head_sum (f g : ℕ → ℝ) (h : ℕ) :
    ∑ d ∈ Finset.range 64, f (ln h d) * g (ln h d) = ∑ l ∈ Finset.range 128, (if l / 64 = h % 2 then f l else 0) * g l := by
  rw [← sum_lanes (fun l => f l * g l) (Nat.mod_lt h (by omega))]
  refine Finset.sum_congr rfl fun l _ => ?_
  split <;> simp

/-- Whether a key lies before a query. -/
theorem causal (i : S2x16x2048x2048.Idx) {α : Type} (x y : α) :
    Scalar.select (val_main_v17 (F := Ideal) (idx_main_v19_1 i)) x y = if (i 3).val < (i 2).val then x else y := by
  have h2 : (i 2).val < 2048 := (i 2).isLt
  have h3 : (i 3).val < 2048 := (i 3).isLt
  rw [val_main_v17_apply, val_main_v16_apply, val_main_v15_apply]
  show Scalar.select (IntOp.cmpi CmpIPredicate.slt (BitVec.ofNat 32 (i 3).val) (BitVec.ofNat 32 (i 2).val)) x y = _
  rw [WordCmp.cmpi_slt_ofNat (by norm_num; omega) (by norm_num; omega)]
  by_cases h : (i 3).val < (i 2).val <;> simp [h, Scalar.select]

theorem zero0 (i) : val_main_call0_call0_v0 (F := Ideal) i = (0 : EReal) := by
  rw [val_main_call0_call0_v0_apply, val_main_call0_call0_cst_apply, zero_bits]
theorem zero2 (i) : val_main_call2_call0_v0 (F := Ideal) i = (0 : EReal) := by
  rw [val_main_call2_call0_v0_apply, val_main_call2_call0_cst_apply, zero_bits]
theorem top0 (i) : val_main_call0_call0_v13 (F := Ideal) i = (⊤ : EReal) := by
  rw [val_main_call0_call0_v13_apply, val_main_call0_call0_cst_0_apply, top_bits]
theorem top2 (i) : val_main_call2_call0_v13 (F := Ideal) i = (⊤ : EReal) := by
  rw [val_main_call2_call0_v13_apply, val_main_call2_call0_cst_0_apply, top_bits]

/-- The sum of two heads' terms at a lane of one of them. -/
theorem at_lane (F : ℕ → ℕ → ℕ → ℝ) (h d t s : ℕ) (hd : d < 64) (f : ℕ → ℝ) :
    F 0 t s * (if ln h d / 64 = 0 then f (ln h d) else 0) + F 1 t s * (if ln h d / 64 = 1 then f (ln h d) else 0) = F (h % 2) t s * f (ln h d) := by
  have e : ln h d / 64 = h % 2 := by unfold ln; omega
  rw [e]
  rcases Nat.mod_two_eq_zero_or_one h with h | h <;> simp [h]

/-- A sum over eight blocks of 256 rows is one over the rows. -/
theorem sum_blocks (f : ℕ → ℝ) (n : ℕ) :
    ∑ j ∈ Finset.range n, ∑ r ∈ Finset.range 256, f (256 * j + r) = ∑ t ∈ Finset.range (256 * n), f t := by
  induction n with
  | zero => simp
  | succ n ih => rw [Finset.sum_range_succ, ih, Nat.mul_succ, Finset.sum_range_add]

/-- A gradient of the reference, laid out by rows and lanes. -/
theorem flat {X : S2x2048x16x64.Idx → EReal} {f : Seq → ℕ → ℕ → ℝ} (hX : Is4 X fun b t h d => f (sq Q C b h) t (ln h d)) (i : S4096x1024.Idx) :
    X (idx_main_v51 i) = arr f Q C i := by
  have h0 : (i 0).val < 4096 := (i 0).isLt
  have h1 : (i 1).val < 1024 := (i 1).isLt
  refine (hX _).trans ?_
  show ((f (seqAt Q C (((i 0).val * 1024 + (i 1).val) / 64 % 16 / 2) (((i 0).val * 1024 + (i 1).val) / 2097152)) (((i 0).val * 1024 + (i 1).val) / 1024 % 2048)
    (64 * (((i 0).val * 1024 + (i 1).val) / 64 % 16 % 2) + ((i 0).val * 1024 + (i 1).val) % 64) : ℝ) : EReal) = _
  rw [show ((i 0).val * 1024 + (i 1).val) / 64 % 16 / 2 = (i 1).val / 128 by omega, show ((i 0).val * 1024 + (i 1).val) / 2097152 = (i 0).val / 2048 by omega,
    show ((i 0).val * 1024 + (i 1).val) / 1024 % 2048 = (i 0).val % 2048 by omega,
    show 64 * (((i 0).val * 1024 + (i 1).val) / 64 % 16 % 2) + ((i 0).val * 1024 + (i 1).val) % 64 = (i 1).val % 128 by omega]
  rfl

section Inputs

variable (hQ : ∀ (t : Fin 4096) (l : Fin 3072), x0 (ix2 t l) = ((Q t l : ℝ) : EReal))
include hQ

/-- An entry of the packed queries, keys and values. -/
theorem entry {b t h d o : ℕ} (hb : b < 2) (ht : t < 2048) (hh : h < 16) (hd : d < 64) (ho : o < 3) (i : S4096x3072.Idx)
    (h0 : (i 0).val = 2048 * b + t) (h1 : (i 1).val = 1024 * o + (64 * h + d)) :
    x0 i = ((Q (2048 * b + t) (1024 * o + (128 * (h / 2) + ln h d)) : ℝ) : EReal) := by
  rw [lane_eq]
  refine Eq.trans (congrArg x0 (?_ : _ = ix2 (⟨2048 * b + t, by omega⟩ : Fin 4096) (⟨1024 * o + (64 * h + d), by omega⟩ : Fin 3072))) (hQ _ _)
  funext a
  apply Fin.ext
  match a with
  | ⟨0, _⟩ => exact h0
  | ⟨1, _⟩ => exact h1

theorem q_real : Is4 (val_main_v3 (F := Ideal) x0) fun b t h d => (sq Q C b h).q t (ln h d) := fun i => by
  rw [val_main_v3_apply, val_main_v2_apply, val_main_v1_apply, val_main_v0_apply]
  have := split_row (o := 0) (i 0).isLt (i 1).isLt (i 2).isLt (i 3).isLt (by omega)
  refine (entry hQ (o := 0) (i 0).isLt (i 1).isLt (i 2).isLt (i 3).isLt (by omega) _ this.1 this.2).trans ?_
  rw [Nat.mul_zero, Nat.zero_add]
  rfl

theorem k_real : Is4 (val_main_v7 (F := Ideal) x0) fun b t h d => (sq Q C b h).k t (ln h d) := fun i => by
  rw [val_main_v7_apply, val_main_v6_apply, val_main_v5_apply, val_main_v4_apply]
  have := split_row (o := 1) (i 0).isLt (i 1).isLt (i 2).isLt (i 3).isLt (by omega)
  exact entry hQ (o := 1) (i 0).isLt (i 1).isLt (i 2).isLt (i 3).isLt (by omega) _ this.1 this.2

theorem v_real : Is4 (val_main_v11 (F := Ideal) x0) fun b t h d => (sq Q C b h).v t (ln h d) := fun i => by
  rw [val_main_v11_apply, val_main_v10_apply, val_main_v9_apply, val_main_v8_apply]
  have := split_row (o := 2) (i 0).isLt (i 1).isLt (i 2).isLt (i 3).isLt (by omega)
  exact entry hQ (o := 2) (i 0).isLt (i 1).isLt (i 2).isLt (i 3).isLt (by omega) _ this.1 this.2

theorem z_real : Is4 (val_main_v14 (F := Ideal) x0) fun b h t s => (sq Q C b h).Z (h % 2) t s := fun i => by
  rw [val_main_v14_apply, val_main_v13_apply, val_main_cst_apply, val_main_v12_apply,
    sum_mul (fun d => (sq Q C (i 0).val (i 1).val).q (i 2).val (ln (i 1).val d)) (fun d => (sq Q C (i 0).val (i 1).val).k (i 3).val (ln (i 1).val d))
      (fun k => q_real (C := C) hQ (lidx_main_v12 i k)) (fun k => k_real (C := C) hQ (ridx_main_v12 i k))]
  show _ * Ideal.ofBits FTy.f32 _ = _
  rw [ofBits_eighth_f32, ← EReal.coe_mul]
  refine congrArg Real.toEReal ?_
  unfold Seq.Z Seq.qm
  show (∑ d ∈ Finset.range 64, (sq Q C (i 0).val (i 1).val).q (i 2).val (ln (i 1).val d) * (sq Q C (i 0).val (i 1).val).k (i 3).val (ln (i 1).val d)) * _ = _
  rw [head_sum (fun l => (sq Q C (i 0).val (i 1).val).q (i 2).val l) (fun l => (sq Q C (i 0).val (i 1).val).k (i 3).val l), Finset.sum_mul]
  refine Finset.sum_congr rfl fun l _ => ?_
  split <;> ring

theorem negz_real : Is4 (val_main_v20 (F := Ideal) x0) fun b h t s => -(sq Q C b h).Z (h % 2) t s := fun i => by
  rw [val_main_v20_apply]
  show -(_ : EReal) = _
  rw [z_real (C := C) hQ i, EReal.coe_neg]

theorem z0_real : Is4 (val_main_call0_v0 (F := Ideal) x0) fun b h t s => -(sq Q C b h).Z (h % 2) t s := fun i => by
  rw [val_main_call0_v0_apply]
  show -(_ : EReal) = _
  rw [z_real (C := C) hQ i, EReal.coe_neg]

theorem z2_real : Is4 (val_main_call2_v0 (F := Ideal) x0) fun b h t s => (sq Q C b h).Z (h % 2) t s := fun i => by
  rw [val_main_call2_v0_apply]
  show -(_ : EReal) = _
  rw [negz_real (C := C) hQ i, EReal.coe_neg, neg_neg]

/-- The logarithm of what a key takes. -/
theorem take_real : Is4 (val_main_v18_0 (F := Ideal) x0) fun b h t s => lb ((sq Q C b h).Z (h % 2) t s) := fun i => by
  show -(softplusV (F := Ideal) (val_main_call0_call0_v0 (F := Ideal)) (val_main_call0_v0 (F := Ideal) x0) i : EReal) = _
  rw [softplus_real (zero0 i) (z0_real (C := C) hQ i), ← EReal.coe_neg, neg_neg, neg_neg]

/-- The logarithm of what it leaves. -/
theorem leave_real : Is4 (val_main_v21_0 (F := Ideal) x0) fun b h t s => lb ((sq Q C b h).Z (h % 2) t s) - (sq Q C b h).Z (h % 2) t s := fun i => by
  show -(softplusV (F := Ideal) (val_main_call2_call0_v0 (F := Ideal)) (val_main_call2_v0 (F := Ideal) x0) i : EReal) = _
  rw [softplus_real (zero2 i) (z2_real (C := C) hQ i), ← EReal.coe_neg, neg_neg, lb_neg]

theorem take_slope : Is4 (val_main_v18_1 (F := Ideal) x0) fun b h t s => 1 - sg ((sq Q C b h).Z (h % 2) t s) := fun i => by
  show slopeV (F := Ideal) (val_main_call0_call0_v0 (F := Ideal)) (val_main_call0_call0_v13 (F := Ideal)) (val_main_call0_v0 (F := Ideal) x0) i = _
  rw [slope_real (zero0 i) (top0 i) (z0_real (C := C) hQ i), sg_neg]

theorem leave_slope : Is4 (val_main_v21_1 (F := Ideal) x0) fun b h t s => sg ((sq Q C b h).Z (h % 2) t s) := fun i => by
  show slopeV (F := Ideal) (val_main_call2_call0_v0 (F := Ideal)) (val_main_call2_call0_v13 (F := Ideal)) (val_main_call2_v0 (F := Ideal) x0) i = _
  rw [slope_real (zero2 i) (top2 i) (z2_real (C := C) hQ i)]

theorem m1_real : Is4 (val_main_v22_0 (F := Ideal) x0) fun b h t s => (sq Q C b h).m1 (h % 2) t s := fun i => by
  rw [val_main_v22_0_apply, val_main_v22_1_apply]
  refine (causal i _ _).trans ?_
  dsimp only [Seq.m1]
  split
  · exact leave_real (C := C) hQ i
  · rw [val_main_call3_v2_apply, val_main_call3_v0_apply, val_main_cst_1_apply, zero_bits, EReal.coe_zero]

theorem r_real : Is4 (val_main_v24 (F := Ideal) x0) fun b h t s => (sq Q C b h).R (h % 2) t (s + 1) := fun i => by
  have hi : (i 3).val < 2048 := (i 3).isLt
  rw [val_main_v24_apply]
  show val_main_v23 (F := Ideal) x0 i - val_main_v22_0 (F := Ideal) x0 i = _
  have e : val_main_v23 (F := Ideal) x0 i = (((sq Q C (i 0).val (i 1).val).R ((i 1).val % 2) (i 2).val (i 3).val : ℝ) : EReal) := by
    unfold val_main_v23
    exact running_from _ _ _ _ ((val_main_call4_v0_apply _).trans zero_bits) ((sq Q C (i 0).val (i 1).val).m1 ((i 1).val % 2) (i 2).val) i
      fun s => m1_real (C := C) hQ (ix4 (i 0) (i 1) (i 2) s)
  rw [e, m1_real (C := C) hQ i, ← EReal.coe_sub]
  refine congrArg Real.toEReal ?_
  unfold Seq.R
  rw [Finset.sum_eq_sum_Ico_succ_bot hi, add_sub_cancel_left]

theorem a_real : Is4 (val_main_v26 (F := Ideal) x0) fun b h t s => (sq Q C b h).A (h % 2) t s := fun i => by
  rw [val_main_v26_apply, val_main_v25_apply, val_main_v19_0_apply, val_main_v19_1_apply, causal]
  show Ideal.exp ((_ : EReal) + _) = _
  rw [r_real (C := C) hQ i, take_real (C := C) hQ i]
  dsimp only [Seq.A]
  split
  · rw [← EReal.coe_add, Ideal.exp_coe]
  · rw [val_main_call1_v2_apply, val_main_call1_v0_apply, val_main_cst_0_apply, bot_bits, EReal.bot_add]
    rw [Ideal.exp_bot, EReal.coe_zero]

section Both

variable (hC : ∀ (t : Fin 4096) (l : Fin 1024), x1 (ix2 t l) = ((C t l : ℝ) : EReal))

omit hQ in
include hC in
theorem g_real : Is4 (val_main_v30 (F := Ideal) x1) fun b t h d => (sq Q C b h).g t (ln h d) := fun i => by
  have h0 : (i 0).val < 2 := (i 0).isLt
  have h1 : (i 1).val < 2048 := (i 1).isLt
  have h2 : (i 2).val < 16 := (i 2).isLt
  have h3 : (i 3).val < 64 := (i 3).isLt
  rw [val_main_v30_apply, val_main_v29_apply]
  show x1 _ = ((C (2048 * (i 0).val + (i 1).val) (128 * ((i 2).val / 2) + ln (i 2).val (i 3).val) : ℝ) : EReal)
  rw [lane_eq]
  refine Eq.trans (congrArg x1 (?_ : _ = ix2 (⟨2048 * (i 0).val + (i 1).val, by omega⟩ : Fin 4096) (⟨64 * (i 2).val + (i 3).val, by omega⟩ : Fin 1024))) (hC _ _)
  funext a
  apply Fin.ext
  match a with
  | ⟨0, _⟩ => show ((((i 0).val * 2048 + (i 1).val) * 16 + (i 2).val) * 64 + (i 3).val) / 1024 = 2048 * (i 0).val + (i 1).val; omega
  | ⟨1, _⟩ => show ((((i 0).val * 2048 + (i 1).val) * 16 + (i 2).val) * 64 + (i 3).val) % 1024 = 64 * (i 2).val + (i 3).val; omega

omit hQ in
include hC in
theorem gt_real : Is4 (val_main_v31 (F := Ideal) x1) fun b h d t => (sq Q C b h).g t (ln h d) := fun i => by
  rw [val_main_v31_apply]
  exact g_real (Q := Q) hC (idx_main_v31 i)

include hC

theorem dA_real : Is4 (val_main_v32 (F := Ideal) x0 x1) fun b h t s => (sq Q C b h).dA (h % 2) t s := fun i => by
  rw [val_main_v32_apply,
    sum_mul (fun d => (sq Q C (i 0).val (i 1).val).g (i 2).val (ln (i 1).val d)) (fun d => (sq Q C (i 0).val (i 1).val).v (i 3).val (ln (i 1).val d))
      (fun k => gt_real (Q := Q) hC (lidx_main_v32 i k)) (fun k => v_real (C := C) hQ (ridx_main_v32 i k))]
  refine congrArg Real.toEReal ?_
  exact head_sum (fun l => (sq Q C (i 0).val (i 1).val).g (i 2).val l) (fun l => (sq Q C (i 0).val (i 1).val).v (i 3).val l) (i 1).val

theorem g35_real : Is4 (val_main_v35 (F := Ideal) x0 x1) fun b h t s => (sq Q C b h).G (h % 2) t s := fun i => by
  rw [val_main_v35_apply]
  show (_ : EReal) * _ = _
  rw [dA_real hQ hC i, a_real (C := C) hQ i, ← EReal.coe_mul]
  rfl

theorem l_real : Is4 (val_main_v38 (F := Ideal) x0 x1) fun b h t s => (sq Q C b h).L (h % 2) t s := fun i => by
  have hi : (i 3).val < 2048 := (i 3).isLt
  rw [val_main_v38_apply, val_main_v36_apply]
  show -(val_main_v35 (F := Ideal) x0 x1 i : EReal) + val_main_v37 (F := Ideal) x0 x1 i = _
  have e : val_main_v37 (F := Ideal) x0 x1 i
      = ((∑ u ∈ Finset.range ((i 3).val + 1), (sq Q C (i 0).val (i 1).val).G ((i 1).val % 2) (i 2).val u : ℝ) : EReal) := by
    unfold val_main_v37
    exact running_upto _ _ _ _ ((val_main_call5_v0_apply _).trans zero_bits) rfl ((sq Q C (i 0).val (i 1).val).G ((i 1).val % 2) (i 2).val) i
      fun s => g35_real hQ hC (ix4 (i 0) (i 1) (i 2) s)
  rw [e, g35_real hQ hC i, ← EReal.coe_neg, ← EReal.coe_add]
  refine congrArg Real.toEReal ?_
  unfold Seq.L
  rw [Finset.sum_range_succ]
  ring

theorem w_real : Is4 (val_main_v46 (F := Ideal) x0 x1) fun b h t s => (sq Q C b h).W (h % 2) t s * (1 / 8) := fun i => by
  rw [val_main_v46_apply, val_main_v45_apply, val_main_cst_2_apply, val_main_v44_apply, val_main_v41_apply, val_main_v40_apply,
    val_main_call7_v1_apply, val_main_call7_v0_apply, val_main_v39_apply, val_main_v43_apply, val_main_call9_v1_apply, val_main_call9_v0_apply,
    val_main_v42_apply, val_main_v22_1_apply, val_main_v19_1_apply, causal, val_main_call6_v0_apply, val_main_call6_cst_apply,
    val_main_call8_v0_apply, val_main_call8_cst_apply, zero_bits]
  rw [causal]
  show (-(-(-(_ : EReal) * _)) + -(-(_ : EReal) * _)) * Ideal.ofBits FTy.f32 _ = _
  rw [ofBits_eighth_f32, l_real hQ hC i, g35_real hQ hC i, take_slope (C := C) hQ i, leave_slope (C := C) hQ i]
  dsimp only [Seq.W]
  split
  · simp only [← EReal.coe_neg, ← EReal.coe_mul, ← EReal.coe_add]
    refine congrArg Real.toEReal ?_
    ring
  · simp

/-- The reference's gradient of the queries is the kernel's. -/
theorem dq_eq : val_main_v52 (F := Ideal) x0 x1 = arr Seq.dq Q C := funext fun i => by
  rw [val_main_v52_apply, val_main_v51_apply]
  refine flat (X := val_main_v50 (F := Ideal) x0 x1) (fun i => ?_) i
  have hd : (i 3).val < 64 := (i 3).isLt
  rw [val_main_v50_apply, val_main_v49_apply,
    sum_mul (fun s => (sq Q C (i 0).val (i 2).val).W ((i 2).val % 2) (i 1).val s * (1 / 8)) (fun s => (sq Q C (i 0).val (i 2).val).k s (ln (i 2).val (i 3).val))
      (fun k => w_real hQ hC (lidx_main_v49 (idx_main_v50 i) k)) (fun k => k_real (C := C) hQ (ridx_main_v49 (idx_main_v50 i) k))]
  refine congrArg Real.toEReal ?_
  show _ = (sq Q C (i 0).val (i 2).val).dq (i 1).val (ln (i 2).val (i 3).val)
  unfold Seq.dq
  have e : ln (i 2).val (i 3).val / 64 = (i 2).val % 2 := by unfold ln; omega
  rw [e]
  rcases Nat.mod_two_eq_zero_or_one (i 2).val with h | h <;> rw [h]
  · rw [if_pos rfl, Finset.sum_mul]
    exact Finset.sum_congr rfl fun s _ => by ring
  · rw [if_neg one_ne_zero, Finset.sum_mul]
    exact Finset.sum_congr rfl fun s _ => by ring

/-- The reference's gradient of the keys is the kernel's. -/
theorem dk_eq : val_main_v54 (F := Ideal) x0 x1 = arr (fun D => D.sumK 8) Q C := funext fun i => by
  rw [val_main_v54_apply, val_main_v53_apply]
  refine flat (X := val_main_v48 (F := Ideal) x0 x1) (fun i => ?_) i
  have hd : (i 3).val < 64 := (i 3).isLt
  rw [val_main_v48_apply, val_main_v47_apply,
    sum_mul (fun t => (sq Q C (i 0).val (i 2).val).W ((i 2).val % 2) t (i 1).val * (1 / 8)) (fun t => (sq Q C (i 0).val (i 2).val).q t (ln (i 2).val (i 3).val))
      (fun k => w_real hQ hC (lidx_main_v47 (idx_main_v48 i) k)) (fun k => q_real (C := C) hQ (ridx_main_v47 (idx_main_v48 i) k))]
  refine congrArg Real.toEReal ?_
  show _ = (sq Q C (i 0).val (i 2).val).sumK 8 (i 1).val (ln (i 2).val (i 3).val)
  unfold Seq.sumK Seq.addK Seq.qm
  simp only [← Finset.sum_add_distrib]
  rw [sum_blocks (fun t => (sq Q C (i 0).val (i 2).val).W 0 t (i 1).val * (if ln (i 2).val (i 3).val / 64 = 0 then (sq Q C (i 0).val (i 2).val).q t (ln (i 2).val (i 3).val) * (1 / 8) else 0)
    + (sq Q C (i 0).val (i 2).val).W 1 t (i 1).val * (if ln (i 2).val (i 3).val / 64 = 1 then (sq Q C (i 0).val (i 2).val).q t (ln (i 2).val (i 3).val) * (1 / 8) else 0)) 8]
  refine Finset.sum_congr rfl fun t _ => ?_
  rw [at_lane _ _ _ t _ hd fun l => (sq Q C (i 0).val (i 2).val).q t l * (1 / 8)]
  ring

/-- The reference's gradient of the values is the kernel's. -/
theorem dv_eq : val_main_v56 (F := Ideal) x0 x1 = arr (fun D => D.sumV 8) Q C := funext fun i => by
  rw [val_main_v56_apply, val_main_v55_apply]
  refine flat (X := val_main_v34 (F := Ideal) x0 x1) (fun i => ?_) i
  have hd : (i 3).val < 64 := (i 3).isLt
  rw [val_main_v34_apply, val_main_v33_apply,
    sum_mul (fun t => (sq Q C (i 0).val (i 2).val).g t (ln (i 2).val (i 3).val)) (fun t => (sq Q C (i 0).val (i 2).val).A ((i 2).val % 2) t (i 1).val)
      (fun k => gt_real hC (lidx_main_v33 (idx_main_v34 i) k)) (fun k => a_real (C := C) hQ (ridx_main_v33 (idx_main_v34 i) k))]
  refine congrArg Real.toEReal ?_
  show _ = (sq Q C (i 0).val (i 2).val).sumV 8 (i 1).val (ln (i 2).val (i 3).val)
  unfold Seq.sumV Seq.addV Seq.gm
  simp only [← Finset.sum_add_distrib]
  rw [sum_blocks (fun t => (sq Q C (i 0).val (i 2).val).A 0 t (i 1).val * (if ln (i 2).val (i 3).val / 64 = 0 then (sq Q C (i 0).val (i 2).val).g t (ln (i 2).val (i 3).val) else 0)
    + (sq Q C (i 0).val (i 2).val).A 1 t (i 1).val * (if ln (i 2).val (i 3).val / 64 = 1 then (sq Q C (i 0).val (i 2).val).g t (ln (i 2).val (i 3).val) else 0)) 8]
  refine Finset.sum_congr rfl fun t _ => ?_
  rw [at_lane _ _ _ t _ hd fun l => (sq Q C (i 0).val (i 2).val).g t l]
  ring

end Both

end Inputs

end Cert.AttnBRun
end
-- ==== Proof.AttnABody.lean ====
module

public import proofs.«01_k».proof.Proof.Gen.AttnAIdeal.Frame
public import proofs.«01_k».proof.Proof.Gen.AttnAIdeal.Skeleton
public import Idealize.ShloMosaic.Lib.Exec

/-! One run of the chunked-attention backward kernel's body: the operands, what it reads and writes, and its triple. -/

@[expose] public section

set_option maxRecDepth 16384
set_option maxHeartbeats 4000000

noncomputable section

namespace Cert.AttnARun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnAIdeal Cert.AttnAIdeal.Gen

variable {F : FTy → Type} [FloatOps F] [Named F]

local notation "𝕄" => MT nD τ sig Unit (Elt F) ℕ (UR sig nD τ) ℕ

/-- The kernel's operands: the windows' staging buffers and the two scratch sums. -/
structure Ops where
  /-- Eight tiles of queries. -/
  q : Memref sig .tc .vmem S1024x128 .bf16
  /-- The keys. -/
  k : Memref sig .tc .vmem S2048x128 .bf16
  /-- The values. -/
  v : Memref sig .tc .vmem S2048x128 .bf16
  /-- The bias band of the two heads. -/
  b : Memref sig .tc .vmem S2x128x640 .f32
  /-- The output's cotangent at the queries. -/
  g : Memref sig .tc .vmem S1024x128 .bf16
  /-- The gradient of the queries. -/
  dq : Memref sig .tc .vmem S1024x128 .bf16
  /-- The gradient of the keys. -/
  dk : Memref sig .tc .vmem S2048x128 .bf16
  /-- The gradient of the values. -/
  dv : Memref sig .tc .vmem S2048x128 .bf16
  /-- The gradient of the bias band. -/
  db : Memref sig .tc .vmem S2x128x640 .f32
  /-- The sums of the keys' gradient. -/
  ak : Memref sig .tc .vmem S2048x128 .f32
  /-- The sums of the values' gradient. -/
  av : Memref sig .tc .vmem S2048x128 .f32
  hq : q.IsWhole
  hk : k.IsWhole
  hv : v.IsWhole
  hb : b.IsWhole
  hg : g.IsWhole
  hdq : dq.IsWhole
  hdk : dk.IsWhole
  hdv : dv.IsWhole
  hdb : db.IsWhole
  hak : ak.IsWhole
  hav : av.IsWhole

/-- A buffer of core `c` with all its elements held at the contents `f`. -/
abbrev held {s : Shape} {e : EltTy} (c : Dev nD) (a : Memref sig .tc .vmem s e) (f : BufTy.Contents (Elt F) a.view.ty) : sProp 𝕄 :=
  iprop(a.view.loc (c : Thread nD τ) ↦[a.view.set]{fullShare} f)

/-- The contents of the buffers the body reads. -/
structure Ins (F : FTy → Type) (M : Ops) where
  q : BufTy.Contents (Elt F) M.q.view.ty
  k : BufTy.Contents (Elt F) M.k.view.ty
  v : BufTy.Contents (Elt F) M.v.view.ty
  b : BufTy.Contents (Elt F) M.b.view.ty
  g : BufTy.Contents (Elt F) M.g.view.ty

/-- The contents of the buffers the body writes. -/
structure Outs (F : FTy → Type) (M : Ops) where
  dq : BufTy.Contents (Elt F) M.dq.view.ty
  dk : BufTy.Contents (Elt F) M.dk.view.ty
  dv : BufTy.Contents (Elt F) M.dv.view.ty
  db : BufTy.Contents (Elt F) M.db.view.ty
  ak : BufTy.Contents (Elt F) M.ak.view.ty
  av : BufTy.Contents (Elt F) M.av.view.ty

/-- The body's buffers at core `c`. -/
abbrev bufs (c : Dev nD) (M : Ops) (x : Ins F M) (y : Outs F M) : sProp 𝕄 :=
  iprop(held c M.q x.q ∗ held c M.k x.k ∗ held c M.v x.v ∗ held c M.b x.b ∗ held c M.g x.g ∗ held c M.dq y.dq ∗ held c M.dk y.dk
    ∗ held c M.dv y.dv ∗ held c M.db y.db ∗ held c M.ak y.ak ∗ held c M.av y.av)

/-- The body at the operands. -/
abbrev body (i : grid0.Coords) (M : Ops) : Prog (TpuEff nD τ sig (Elt F) Λ₀ .tc) PUnit :=
  cc0_attn_a_bwd i M.q M.hq M.k M.hk M.v M.hv M.b M.hb M.g M.hg M.dq M.hdq M.dk M.hdk M.dv M.hdv M.db M.hdb M.ak M.hak M.av M.hav

/-- The first point of a head pair: the band's gradient is cleared. -/
abbrev start (i : grid0.Coords) : BitVec 1 :=
  Scalar.cmpi .ne (Scalar.extui (Scalar.andi (Scalar.cmpi .eq (BitVec.ofNat 32 (i 1).val) 0#32)
    (Scalar.cmpi .eq (BitVec.ofNat 32 (i 2).val) 0#32)) : BitVec 32) 0#32
/-- The first query group of a sequence: the sums are cleared. -/
abbrev first (i : grid0.Coords) : BitVec 1 :=
  Scalar.cmpi .ne (Scalar.extui (Scalar.cmpi .eq (BitVec.ofNat 32 (i 2).val) 0#32) : BitVec 32) 0#32

theorem start_iff : ∀ i : grid0.Coords, start i = 1#1 ↔ (i 1).val = 0 ∧ (i 2).val = 0 := by decide +kernel
theorem first_iff : ∀ i : grid0.Coords, first i = 1#1 ↔ (i 2).val = 0 := by decide +kernel
theorem last_iff : ∀ i : grid0.Coords, k0_cond3 i = 1#1 ↔ (i 2).val = 1 := by decide +kernel

set_option sl_exec.whnfOffsets true in
/-- What the body leaves in each buffer it writes, as functions of what it finds, with its triple: found by running it. -/
@[irreducible] def bodyRun (c : Dev nD) (i : grid0.Coords) (M : Ops) (x : Ins F M) :
    Σ' (dq : Outs F M → BufTy.Contents (Elt F) M.dq.view.ty) (dk : Outs F M → BufTy.Contents (Elt F) M.dk.view.ty)
      (dv : Outs F M → BufTy.Contents (Elt F) M.dv.view.ty) (db : Outs F M → BufTy.Contents (Elt F) M.db.view.ty)
      (ak : Outs F M → BufTy.Contents (Elt F) M.ak.view.ty),
      { av : Outs F M → BufTy.Contents (Elt F) M.av.view.ty //
        ∀ (E : Set ℕ) (y : Outs F M),
          bufs c M x y ⊢ wp frame (wpE (defs₀ (F := F)) Variants.none (c : Thread nD τ) none) E (body (F := F) i M)
            (fun _ => bufs c M x ⟨dq y, dk y, dv y, db y, ak y, av y⟩) } := by
  refine ⟨?_, ?_, ?_, ?_, ?_, ?_, fun E y => ?run⟩
  case run =>
    unfold body
    simp only [cc0_attn_a_bwd_eq_skeleton]; unfold cc0_attn_a_bwd_skel
    iintro ⟨HQ, HK, HV, HB, HG, Hdq, Hdk, Hdv, Hdb, Hak, Hav⟩
    sl_exec
    sl_step
    sl_close

end Cert.AttnARun

end
-- ==== Proof.AttnASteps.lean ====
module

public import proofs.«01_k».proof.Proof.AttnABody

/-! The chunked-attention backward kernel's body in named steps: what it computes for each query tile of a group, and the
rows it adds to the two sums. -/

@[expose] public section

set_option maxRecDepth 65536

noncomputable section

namespace Cert.AttnARun

open Idealize.ShloMosaic Idealize.ShloMosaic.TcCoe Idealize.ShloMosaic.Tactic
open Cert.AttnAIdeal Cert.AttnAIdeal.Gen

variable {F : FTy → Type} [FloatOps F] [Named F]

/-- The lanes of a head. -/
def lanes (h : Fin 2) : IVec S1x128 1 := match h with
  | 0 => k0_pay9
  | 1 => k0_pay10

/-- A tile's lanes of one head, the others zero. -/
def headOf (h : Fin 2) (x : FVec F S128x128 .bf16) : FVec F S128x128 .bf16 := k0_pay27 (lanes h) x

/-- Five tiles below each other. -/
def stack (T : Fin 5 → Vec F S128x128 .bf16) : FVec F S640x128 .bf16 := k0_pay11 (T 0) (T 1) (T 2) (T 3) (T 4)

/-- Rows against rows. -/
def nt (w : FVec F S640x128 .bf16) (a : FVec F S128x128 .bf16) : FVec F S128x640 .f32 := k0_pay61 w a

/-- Which keys of its window each query of a tile attends to, by the tile's number. -/
def validV (n : BitVec 32) : IVec S128x640 1 :=
  k0_pay80 n (iota .tc S128x640 32 [1] iota_S128x640_d1_w32) k0_pay77 64#32 k0_pay78 k0_pay79 (Scalar.cmpi .sgt 64#32 0#32)

/-- The softmax weights of a tile: of the products, the bias and the mask. -/
def probsV (ok : IVec S128x640 1) (s : FVec F S128x640 .f32) (b : Vec F S1x128x640 .f32) : FVec F S128x640 .f32 := k0_pay127 ok s b

/-- The scores' gradient of a tile: of the weights' gradient and the weights. -/
def dsV (dp p : FVec F S128x640 .f32) : FVec F S128x640 .f32 := k0_pay149 dp p

/-- The queries' gradient of a tile, from the two heads' scores' gradients. -/
def dqV (w : FVec F S640x128 .bf16) (d : Fin 2 → FVec F S128x640 .f32) : FVec F S128x128 .bf16 :=
  k0_pay235 (k0_pay233 k0_pay9 (k0_pay185 w (k0_pay169 (d 0))) (k0_pay186 w (k0_pay170 (d 1)))) k0_pay234

/-- A tile's part of the keys' gradient. -/
def dkV (q : Fin 2 → FVec F S128x128 .bf16) (d : Fin 2 → FVec F S128x640 .f32) : FVec F S640x128 .f32 :=
  k0_pay236 (k0_pay201 (q 0) (k0_pay169 (d 0))) (k0_pay202 (q 1) (k0_pay170 (d 1)))

/-- A tile's part of the values' gradient. -/
def dvV (g : Fin 2 → FVec F S128x128 .bf16) (p : Fin 2 → FVec F S128x640 .f32) : FVec F S640x128 .f32 :=
  k0_pay237 (k0_pay217 (g 0) (p 0)) (k0_pay218 (g 1) (p 1))

/-- One of the five tiles of a stack. -/
def part5 (d : Fin 5) (w : FVec F S640x128 .f32) : FVec F S128x128 .f32 := match d with
  | 0 => extractStridedSlice S128x128 ![0, 0] w slices_S640x128_o0_0_S128x128
  | 1 => extractStridedSlice S128x128 ![128, 0] w slices_S640x128_o128_0_S128x128
  | 2 => extractStridedSlice S128x128 ![256, 0] w slices_S640x128_o256_0_S128x128
  | 3 => extractStridedSlice S128x128 ![384, 0] w slices_S640x128_o384_0_S128x128
  | 4 => extractStridedSlice S128x128 ![512, 0] w slices_S640x128_o512_0_S128x128

/-- Rows of a sum with a tile added. -/
def addV (old t : FVec F S128x128 .f32) : FVec F S128x128 .f32 := shapeCast S128x128 (addf old t) shapeCasts_S128x128_S128x128

/-- Eight tiles' scores' gradients added to the band's. -/
def bandV (old : Vec F S1x128x640 .f32) (d : Fin 8 → FVec F S128x640 .f32) : FVec F S1x128x640 .f32 :=
  k0_pay167 (d 0) (d 1) (d 2) (d 3) (d 4) (d 5) (d 6) (d 7) old

section Point

variable (i : grid0.Coords) (M : Ops) (x : Ins F M)

/-- The tile of 128 rows that tile `u`'s window has at place `d`. -/
abbrev rowsAt {e : EltTy} {a : Memref sig .tc .vmem S2048x128 e} (f : BufTy.Contents (Elt F) a.view.ty) (u : Fin 8) (d : Fin 5) :
    S128x128.Idx → Elt F e :=
  View.readAt (Elt F) a.view (Rect.unit (s := S2048x128) (k0_off1 i (BitVec.ofNat 32 u.val) (BitVec.ofNat 32 d.val)) S128x128.size
    (k0_off1_inb i u d)).toLoadRect f

theorem tile_inb (u : Fin 8) : ∀ a, (![128 * u.val, 0] : Fin 2 → ℕ) a + S128x128.size a ≤ S1024x128.size a := by
  revert u; decide +kernel
theorem head_inb (h : Fin 2) : ∀ a, (![h.val, 0, 0] : Fin 3 → ℕ) a + S1x128x640.size a ≤ S2x128x640.size a := by
  revert h; decide +kernel

/-- Query tile `u` of a group. -/
abbrev tileAt {a : Memref sig .tc .vmem S1024x128 .bf16} (f : BufTy.Contents (Elt F) a.view.ty) (u : Fin 8) : S128x128.Idx → Elt F .bf16 :=
  View.readAt (Elt F) a.view (Rect.unit (s := S1024x128) ![128 * u.val, 0] S128x128.size (tile_inb u)).toLoadRect f

/-- One head's band. -/
abbrev headAt {a : Memref sig .tc .vmem S2x128x640 .f32} (f : BufTy.Contents (Elt F) a.view.ty) (h : Fin 2) : S1x128x640.Idx → Elt F .f32 :=
  View.readAt (Elt F) a.view (Rect.unit (s := S2x128x640) ![h.val, 0, 0] S1x128x640.size (head_inb h)).toLoadRect f

/-- The keys of tile `u`'s window. -/
def kW (u : Fin 8) : FVec F S640x128 .bf16 := stack fun d => rowsAt i (a := M.k) x.k u d
/-- The values of tile `u`'s window. -/
def vW (u : Fin 8) : FVec F S640x128 .bf16 := stack fun d => rowsAt i (a := M.v) x.v u d
/-- Tile `u`'s queries, one head. -/
def qT (u : Fin 8) (h : Fin 2) : FVec F S128x128 .bf16 := headOf h (tileAt (a := M.q) x.q u)
/-- Tile `u`'s cotangents, one head. -/
def gT (u : Fin 8) (h : Fin 2) : FVec F S128x128 .bf16 := headOf h (tileAt (a := M.g) x.g u)
/-- Tile `u`'s number in the sequence, as a word. -/
def num (u : Fin 8) : BitVec 32 := Scalar.addi (Scalar.muli (BitVec.ofNat 32 (i 2).val) 8#32) (BitVec.ofNat 32 u.val)
/-- Tile `u`'s weights. -/
def pT (u : Fin 8) (h : Fin 2) : FVec F S128x640 .f32 := probsV (validV (num i u)) (nt (kW i M x u) (qT M x u h)) (headAt (a := M.b) x.b h)
/-- Tile `u`'s scores' gradient. -/
def dsT (u : Fin 8) (h : Fin 2) : FVec F S128x640 .f32 := dsV (nt (vW i M x u) (gT M x u h)) (pT i M x u h)
/-- Tile `u`'s gradient of its queries. -/
def dqT (u : Fin 8) : FVec F S128x128 .bf16 := dqV (kW i M x u) (dsT i M x u)
/-- Tile `u`'s part of the keys' gradient. -/
def dkT (u : Fin 8) : FVec F S640x128 .f32 := dkV (qT M x u) (dsT i M x u)
/-- Tile `u`'s part of the values' gradient. -/
def dvT (u : Fin 8) : FVec F S640x128 .f32 := dvV (gT M x u) (pT i M x u)

/-- The rows of the queries' gradient to write. -/
abbrev dqP (u : Fin 8) : View.Piece (Elt F) S1024x128 .bf16 :=
  ⟨Rect.unit (s := S1024x128) ![128 * u.val, 0] S128x128.size (tile_inb u), dqT i M x u⟩

/-- One head's band to write. -/
abbrev headP (h : Fin 2) (b : FVec F S1x128x640 .f32) : View.Piece (Elt F) S2x128x640 .f32 :=
  ⟨Rect.unit (s := S2x128x640) ![h.val, 0, 0] S1x128x640.size (head_inb h), b⟩

/-- The query tile and the place in its window of the `n`th rows added. -/
abbrev tileOf (n : ℕ) : Fin 8 := ⟨n / 5 % 8, Nat.mod_lt _ (by norm_num)⟩
abbrev placeOf (n : ℕ) : Fin 5 := ⟨n % 5, Nat.mod_lt _ (by norm_num)⟩

/-- The first `n` additions to the rows of a sum, the last first. -/
def adds {a : Memref sig .tc .vmem S2048x128 .f32} (f : BufTy.Contents (Elt F) a.view.ty) (w : Fin 8 → FVec F S640x128 .f32) :
    ℕ → List (View.Piece (Elt F) S2048x128 .f32)
  | 0 => []
  | n + 1 => ⟨Rect.unit (s := S2048x128) (k0_off1 i (BitVec.ofNat 32 (tileOf n).val) (BitVec.ofNat 32 (placeOf n).val)) S128x128.size
        (k0_off1_inb i (tileOf n) (placeOf n)),
      addV (rowsAt i (a := a) (a.view.writes (Elt F) f (adds f w n)) (tileOf n) (placeOf n)) (part5 (placeOf n) (w (tileOf n)))⟩ :: adds f w n

/-- A whole sum. -/
abbrev sumP {e : EltTy} (x : S2048x128.Idx → Elt F e) : View.Piece (Elt F) S2048x128 e :=
  ⟨Rect.unit (s := S2048x128) ![0, 0] S2048x128.size inb_S2048x128_S2048x128_0_0, x⟩

variable (y : Outs F M)

/-- The keys' sum as the additions find it: cleared at the first group of a sequence. -/
def ak0 : BufTy.Contents (Elt F) M.ak.view.ty :=
  if first i = 1#1 then M.ak.view.writes (Elt F) y.ak [sumP k0_pay7] else y.ak
/-- The values' sum as the additions find it. -/
def av0 : BufTy.Contents (Elt F) M.av.view.ty :=
  if first i = 1#1 then M.av.view.writes (Elt F) y.av [sumP k0_pay8] else y.av
/-- The band's gradient as the additions find it: cleared at the first point of a head pair. -/
def db0 : BufTy.Contents (Elt F) M.db.view.ty :=
  if start i = 1#1 then M.db.view.writes (Elt F) y.db
    [⟨Rect.unit (s := S2x128x640) ![0, 0, 0] S2x128x640.size inb_S2x128x640_S2x128x640_0_0_0, k0_pay6⟩] else y.db

/-- A whole sum read. -/
abbrev whole {a : Memref sig .tc .vmem S2048x128 .f32} (f : BufTy.Contents (Elt F) a.view.ty) : S2048x128.Idx → Elt F .f32 :=
  View.readAt (Elt F) a.view (Rect.unit (s := S2048x128) ![0, 0] S2048x128.size inb_S2048x128_S2048x128_0_0).toLoadRect f

variable (c : Dev nD)

/-- The queries' gradient the body leaves. -/
theorem run_dq : (bodyRun c i M x).1 y = M.dq.view.writes (Elt F) y.dq
    [dqP i M x 7, dqP i M x 6, dqP i M x 5, dqP i M x 4, dqP i M x 3, dqP i M x 2, dqP i M x 1, dqP i M x 0] := by
  sl_kernel_rfl

/-- The band's gradient the body leaves. -/
theorem run_db : (bodyRun c i M x).2.2.2.1 y = M.db.view.writes (Elt F) (db0 i M y)
    [headP 1 (bandV (headAt (a := M.db) (db0 i M y) 1) fun u => dsT i M x u 1),
      headP 0 (bandV (headAt (a := M.db) (db0 i M y) 0) fun u => dsT i M x u 0)] := by
  sl_kernel_rfl

/-- The keys' sum the body leaves. -/
theorem run_ak : (bodyRun c i M x).2.2.2.2.1 y = M.ak.view.writes (Elt F) (ak0 i M y) (adds i (a := M.ak) (ak0 i M y) (dkT i M x) 40) := by
  sl_kernel_rfl

/-- The values' sum the body leaves. -/
theorem run_av : (bodyRun c i M x).2.2.2.2.2.1 y = M.av.view.writes (Elt F) (av0 i M y) (adds i (a := M.av) (av0 i M y) (dvT i M x) 40) := by
  sl_kernel_rfl

/-- The keys' gradient the body leaves: at a sequence's last group the sum, else as found. -/
theorem run_dk : (bodyRun c i M x).2.1 y = if k0_cond3 i = 1#1 then M.dk.view.writes (Elt F) y.dk
    [sumP (k0_pay4 (whole (a := M.ak) (M.ak.view.writes (Elt F) (ak0 i M y) (adds i (a := M.ak) (ak0 i M y) (dkT i M x) 40))))] else y.dk := by
  sl_kernel_rfl

/-- The values' gradient the body leaves, likewise. -/
theorem run_dv : (bodyRun c i M x).2.2.1 y = if k0_cond3 i = 1#1 then M.dv.view.writes (Elt F) y.dv
    [sumP (k0_pay5 (whole (a := M.av) (M.av.view.writes (Elt F) (av0 i M y) (adds i (a := M.av) (av0 i M y) (dvT i M x) 40))))] else y.dv := by
  sl_kernel_rfl

end Point

end Cert.AttnARun

end
-- ==== Proof.AttnAMath.lean ====
module

public import Mathlib.Analysis.SpecialFunctions.Exp
public import Mathlib.Algebra.BigOperators.Intervals

/-! Chunked attention's weights and gradients over the reals, for one sequence and two heads, and how a tile's window of keys
covers what its queries attend to. -/

@[expose] public section

noncomputable section

namespace Cert.AttnARun

/-- Which keys of its window a query of tile `n` attends to. -/
abbrev ok (n r j : ℕ) : Prop := (r / 64 ≤ j / 64 ∧ j / 64 ≤ r / 64 + 8) ∧ 512 ≤ j + 128 * n

/-- The key at column `j` of tile `n`'s window, where there is one. -/
abbrev key (n j : ℕ) : ℕ := 128 * n + j - 512

/-- Which keys a query attends to: its chunk of 64 and the eight before it. -/
abbrev Ok (t s : ℕ) : Prop := s / 64 ≤ t / 64 ∧ t / 64 ≤ s / 64 + 8

theorem Ok_key {n r j : ℕ} (hr : r < 128) (hj : 512 ≤ j + 128 * n) :
    Ok (128 * n + r) (key n j) ↔ r / 64 ≤ j / 64 ∧ j / 64 ≤ r / 64 + 8 := by
  unfold Ok key; omega

/-- A sum over a tile's window is the sum over all keys. -/
theorem sum_window {n r : ℕ} (hn : n < 16) (hr : r < 128) (f : ℕ → ℝ) (hf : ∀ s, ¬Ok (128 * n + r) s → f s = 0) :
    (∑ j ∈ Finset.range 640, if ok n r j then f (key n j) else 0) = ∑ s ∈ Finset.range 2048, f s := by
  rw [← Finset.sum_filter]
  refine Eq.trans (Finset.sum_bij (t := (Finset.range 2048).filter fun s => Ok (128 * n + r) s) (g := f) (fun j _ => key n j) (fun j hj => ?_)
    (fun j hj i hi h => ?_) (fun s hs => ?_) fun j _ => rfl) (Finset.sum_filter_of_ne fun s _ h => by_contra fun h' => h (hf s h'))
  · obtain ⟨h1, h2, h3⟩ := Finset.mem_filter.1 hj
    have := Finset.mem_range.1 h1
    exact Finset.mem_filter.2 ⟨Finset.mem_range.2 (by unfold key; omega), (Ok_key hr h3).2 h2⟩
  · have h3 := (Finset.mem_filter.1 hj).2.2
    have h4 := (Finset.mem_filter.1 hi).2.2
    unfold key at h; omega
  · obtain ⟨h1, h2⟩ := Finset.mem_filter.1 hs
    have := Finset.mem_range.1 h1
    have hk : key n (s + 512 - 128 * n) = s := by unfold key Ok at *; omega
    refine ⟨s + 512 - 128 * n, Finset.mem_filter.2 ⟨Finset.mem_range.2 (by unfold Ok at h2; omega), ?_, by unfold Ok at h2; omega⟩, hk⟩
    exact (Ok_key (n := n) (j := s + 512 - 128 * n) hr (by unfold Ok at h2; omega)).1 (by rw [hk]; exact h2)

/-- A sum over blocks of numbers. -/
theorem sum_blocks (b m : ℕ) (f : ℕ → ℝ) :
    ∑ k ∈ Finset.range (b * m), f k = ∑ u ∈ Finset.range m, ∑ d ∈ Finset.range b, f (b * u + d) := by
  induction m with
  | zero => simp
  | succ m ih => rw [Nat.mul_succ, Finset.sum_range_add, ih, Finset.sum_range_succ]

/-- Queries, keys, values, cotangents of a sequence and two heads; the heads' biases by relative position. -/
structure Seq where
  q : ℕ → ℕ → ℝ
  k : ℕ → ℕ → ℝ
  v : ℕ → ℕ → ℝ
  g : ℕ → ℕ → ℝ
  c : ℕ → ℕ → ℝ

/-- The product of two rows' lanes of a head. -/
def hs (h : ℕ) (a b : ℕ → ℝ) : ℝ := ∑ l ∈ Finset.range 128, (if l / 64 = h then a l else 0) * b l

namespace Seq

variable (D : Seq) (h : ℕ)

/-- The scores. -/
def z (t s : ℕ) : ℝ := hs h (D.q t) (D.k s) * (1 / 8) + D.c h (min 256 (t + 128 - s))
/-- Their exponentials where attended. -/
def e (t s : ℕ) : ℝ := if Ok t s then Real.exp (D.z h t s) else 0
/-- The weights. -/
def p (t s : ℕ) : ℝ := D.e h t s / ∑ s ∈ Finset.range 2048, D.e h t s
/-- The weights' cotangents. -/
def dp (t s : ℕ) : ℝ := hs h (D.g t) (D.v s)
/-- The scores' gradients. -/
def ds (t s : ℕ) : ℝ := D.p h t s * (D.dp h t s - ∑ s ∈ Finset.range 2048, D.p h t s * D.dp h t s)
/-- The queries' gradient. -/
def dq (t l : ℕ) : ℝ := (∑ s ∈ Finset.range 2048, D.ds (l / 64) t s * D.k s l) * (1 / 8)
/-- What tile `n` adds to the keys' and to the values' gradient. -/
def addK (n s l : ℕ) : ℝ := (∑ r ∈ Finset.range 128, D.ds (l / 64) (128 * n + r) s * D.q (128 * n + r) l) * (1 / 8)
def addV (n s l : ℕ) : ℝ := ∑ r ∈ Finset.range 128, D.p (l / 64) (128 * n + r) s * D.g (128 * n + r) l
/-- What tile `n` adds to the band's gradient. -/
def addB (n h r j : ℕ) : ℝ := if ok n r j then D.ds h (128 * n + r) (key n j) else 0
/-- What the first `n` tiles add. -/
def sumK (n s l : ℕ) : ℝ := ∑ i ∈ Finset.range n, D.addK i s l
def sumV (n s l : ℕ) : ℝ := ∑ i ∈ Finset.range n, D.addV i s l
def sumB (n h r j : ℕ) : ℝ := ∑ i ∈ Finset.range n, D.addB i h r j

theorem p_zero {t s : ℕ} (hs : ¬Ok t s) : D.p h t s = 0 := by unfold p e; rw [if_neg hs, zero_div]
theorem ds_zero {t s : ℕ} (hs : ¬Ok t s) : D.ds h t s = 0 := by unfold ds; rw [D.p_zero h hs, zero_mul]

theorem not_Ok {n s r : ℕ} (hr : r < 128) (hs : ¬(s / 128 ≤ n ∧ n ≤ s / 128 + 4)) : ¬Ok (128 * n + r) s := by unfold Ok; omega

theorem addK_zero {n s : ℕ} (l : ℕ) (hs : ¬(s / 128 ≤ n ∧ n ≤ s / 128 + 4)) : D.addK n s l = 0 := by
  unfold addK
  rw [Finset.sum_eq_zero fun r hr => ?_, zero_mul]
  rw [D.ds_zero _ (not_Ok (Finset.mem_range.1 hr) hs), zero_mul]
theorem addV_zero {n s : ℕ} (l : ℕ) (hs : ¬(s / 128 ≤ n ∧ n ≤ s / 128 + 4)) : D.addV n s l = 0 := by
  unfold addV
  refine Finset.sum_eq_zero fun r hr => ?_
  rw [D.p_zero _ (not_Ok (Finset.mem_range.1 hr) hs), zero_mul]

section Tile

variable {n : ℕ} (hn : n < 16)
include hn

/-- A tile's weights. -/
theorem tile_p {r j : ℕ} (hr : r < 128) {x : ℕ → ℝ} (hx : ∀ j, ok n r j → x j = D.z h (128 * n + r) (key n j)) :
    (if ok n r j then Real.exp (x j) else 0) / (∑ j ∈ Finset.range 640, if ok n r j then Real.exp (x j) else 0)
      = if ok n r j then D.p h (128 * n + r) (key n j) else 0 := by
  have he (j : ℕ) : (if ok n r j then Real.exp (x j) else 0) = if ok n r j then D.e h (128 * n + r) (key n j) else 0 := by
    by_cases hj : ok n r j
    · rw [if_pos hj, if_pos hj, hx j hj]; unfold e; rw [if_pos ((Ok_key hr hj.2).2 hj.1)]
    · rw [if_neg hj, if_neg hj]
  rw [Finset.sum_congr rfl fun j _ => he j, he, sum_window hn hr (D.e h (128 * n + r)) fun s hs => if_neg hs]
  split
  · rfl
  · exact zero_div _

/-- A tile's scores' gradients. -/
theorem tile_ds {r j : ℕ} (hr : r < 128) {x : ℕ → ℝ} (hx : ∀ j, ok n r j → x j = D.dp h (128 * n + r) (key n j)) :
    (if ok n r j then D.p h (128 * n + r) (key n j) else 0)
        * (x j - ∑ j ∈ Finset.range 640, (if ok n r j then D.p h (128 * n + r) (key n j) else 0) * x j)
      = D.addB n h r j := by
  have he (j : ℕ) : (if ok n r j then D.p h (128 * n + r) (key n j) else 0) * x j
      = if ok n r j then D.p h (128 * n + r) (key n j) * D.dp h (128 * n + r) (key n j) else 0 := by
    by_cases hj : ok n r j
    · rw [if_pos hj, if_pos hj, hx j hj]
    · rw [if_neg hj, if_neg hj, zero_mul]
  rw [Finset.sum_congr rfl fun j _ => he j, sum_window hn hr (fun s => D.p h (128 * n + r) s * D.dp h (128 * n + r) s)
    fun s hs => by rw [D.p_zero h hs, zero_mul]]
  unfold addB ds
  by_cases hj : ok n r j
  · rw [if_pos hj, if_pos hj, hx j hj]
  · rw [if_neg hj, if_neg hj, zero_mul]

/-- A tile's gradient of its queries. -/
theorem tile_dq {r l : ℕ} (hr : r < 128) {w : ℕ → ℝ} (hw : ∀ j, 512 ≤ j + 128 * n → w j = D.k (key n j) l) :
    (∑ j ∈ Finset.range 640, D.addB n (l / 64) r j * w j) * (1 / 8) = D.dq (128 * n + r) l := by
  unfold dq
  rw [← sum_window hn hr (fun s => D.ds (l / 64) (128 * n + r) s * D.k s l) fun s hs => by rw [D.ds_zero _ hs, zero_mul]]
  refine congrArg (· * (1 / 8 : ℝ)) (Finset.sum_congr rfl fun j _ => ?_)
  unfold addB
  by_cases hj : ok n r j
  · rw [if_pos hj, if_pos hj, hw j hj.2]
  · rw [if_neg hj, if_neg hj, zero_mul]

omit hn in
/-- A tile's part of the keys' gradient. -/
theorem tile_dk (j l : ℕ) :
    (∑ r ∈ Finset.range 128, D.addB n (l / 64) r j * D.q (128 * n + r) l) * (1 / 8)
      = if 512 ≤ j + 128 * n then D.addK n (key n j) l else 0 := by
  by_cases hj : 512 ≤ j + 128 * n
  · rw [if_pos hj]
    refine congrArg (· * (1 / 8 : ℝ)) (Finset.sum_congr rfl fun r hr => ?_)
    unfold addB
    by_cases h1 : ok n r j
    · rw [if_pos h1]
    · rw [if_neg h1, D.ds_zero _ fun h2 => h1 ⟨(Ok_key (Finset.mem_range.1 hr) hj).1 h2, hj⟩]
  · rw [if_neg hj, Finset.sum_eq_zero fun r _ => ?_, zero_mul]
    unfold addB
    rw [if_neg fun h => hj h.2, zero_mul]

omit hn in
/-- A tile's part of the values' gradient. -/
theorem tile_dv (j l : ℕ) :
    (∑ r ∈ Finset.range 128, (if ok n r j then D.p (l / 64) (128 * n + r) (key n j) else 0) * D.g (128 * n + r) l)
      = if 512 ≤ j + 128 * n then D.addV n (key n j) l else 0 := by
  by_cases hj : 512 ≤ j + 128 * n
  · rw [if_pos hj]
    refine Finset.sum_congr rfl fun r hr => ?_
    by_cases h1 : ok n r j
    · rw [if_pos h1]
    · rw [if_neg h1, D.p_zero _ fun h2 => h1 ⟨(Ok_key (Finset.mem_range.1 hr) hj).1 h2, hj⟩]
  · rw [if_neg hj]
    refine Finset.sum_eq_zero fun r _ => ?_
    rw [if_neg fun h => hj h.2, zero_mul]

end Tile

end Seq

/-- A tile's five parts add up to all it adds. -/
theorem sum_places {n s : ℕ} {F : ℕ → ℝ} (hF : ¬(s / 128 ≤ n ∧ n ≤ s / 128 + 4) → F s = 0) :
    (∑ d ∈ Finset.range 5, if n + d - 4 = s / 128 then (if 512 ≤ 128 * d + s % 128 + 128 * n then F (key n (128 * d + s % 128)) else 0) else 0)
      = F s := by
  have e (d : ℕ) : (if n + d - 4 = s / 128 then (if 512 ≤ 128 * d + s % 128 + 128 * n then F (key n (128 * d + s % 128)) else 0) else 0)
      = if n + d = s / 128 + 4 then F s else 0 := by
    by_cases h : n + d = s / 128 + 4
    · rw [if_pos h, if_pos (by omega), if_pos (by omega), show key n (128 * d + s % 128) = s by unfold key; omega]
    · rw [if_neg h]
      by_cases h1 : n + d - 4 = s / 128
      · rw [if_pos h1, if_neg (by omega)]
      · rw [if_neg h1]
  rw [Finset.sum_congr rfl fun d _ => e d]
  by_cases h : s / 128 ≤ n ∧ n ≤ s / 128 + 4
  · rw [Finset.sum_eq_single (s / 128 + 4 - n) (fun d _ hd => if_neg (by omega))
      (fun hd => absurd (Finset.mem_range.2 (by omega)) hd), if_pos (by omega)]
  · rw [hF h]
    exact Finset.sum_eq_zero fun d _ => ite_self _

end Cert.AttnARun

end
-- ==== Proof.AttnATiles.lean ====
module

public import proofs.«01_k».proof.Proof.AttnASteps
public import proofs.«01_k».proof.Proof.AttnBMath
public import proofs.«01_k».proof.Proof.AttnAMath

/-! The tile steps of the chunked-attention backward kernel over the reals: what each does with a tile of real numbers. -/

@[expose] public section

set_option maxRecDepth 16384

noncomputable section

namespace Cert.AttnARun

open Idealize.ShloMosaic Idealize.ShloMosaic.TcCoe
open Cert.AttnAIdeal Cert.AttnAIdeal.Gen
open Cert.AttnBRun (coe_sum coe_ite sum_fin sel_first sel_second ofBits_eighth_f32)

/-- A tile of real numbers: queries against keys, rows of queries, rows of keys. -/
def Re (X : S128x640.Idx → EReal) (f : ℕ → ℕ → ℝ) : Prop := ∀ (r : Fin 128) (j : Fin 640), X (ix2 r j) = ((f r j : ℝ) : EReal)
def ReR (X : S128x128.Idx → EReal) (f : ℕ → ℕ → ℝ) : Prop := ∀ (r : Fin 128) (l : Fin 128), X (ix2 r l) = ((f r l : ℝ) : EReal)
def ReW (X : S640x128.Idx → EReal) (f : ℕ → ℕ → ℝ) : Prop := ∀ (j : Fin 640) (l : Fin 128), X (ix2 j l) = ((f j l : ℝ) : EReal)

variable {x y : FVec Ideal S128x640 .f32} {a b : FVec Ideal S128x128 .bf16} {w : FVec Ideal S640x128 .bf16}
  {fx fy fa fb fw : ℕ → ℕ → ℝ}

theorem ReR.head (h : Fin 2) (ha : ReR a fa) : ReR (headOf h a) fun r l => if l / 64 = h then fa r l else 0 := fun r l => by
  match h with
  | 0 =>
    pointwise [headOf, lanes, k0_pay9, k0_pay27]
    rw [sel_first l.isLt, ha]; split <;> simp_all
  | 1 =>
    pointwise [headOf, lanes, k0_pay10, k0_pay27]
    rw [sel_second l.isLt, ha]; split <;> simp_all

theorem ReW.stack {T : Fin 5 → Vec Ideal S128x128 .bf16} {f : ℕ → ℕ → ℕ → ℝ} (hT : ∀ d : Fin 5, ReR (T d) (f d)) :
    ReW (stack T) fun j l => f (j / 128) (j % 128) l := fun j l => by
  have hj := j.isLt
  pointwise [Cert.AttnARun.stack, k0_pay11]
  have e (d : Fin 5) (h : j.val / 128 = d.val) (k : Fin 128) (hk : k.val = j.val % 128) :
      T d (ix2 k l) = ((f (j / 128) (j % 128) l : ℝ) : EReal) := by rw [hT, h, hk]
  by_cases h0 : j.val < 128
  · rw [dif_pos h0]; exact e 0 (by show _ = 0; omega) _ (by dsimp only; omega)
  rw [dif_neg h0]
  by_cases h1 : j.val - 128 < 128
  · rw [dif_pos h1]; exact e 1 (by show _ = 1; omega) _ (by dsimp only; omega)
  rw [dif_neg h1]
  by_cases h2 : j.val - 128 - 128 < 128
  · rw [dif_pos h2]; exact e 2 (by show _ = 2; omega) _ (by dsimp only; omega)
  rw [dif_neg h2]
  by_cases h3 : j.val - 128 - 128 - 128 < 128
  · rw [dif_pos h3]; exact e 3 (by show _ = 3; omega) _ (by dsimp only; omega)
  rw [dif_neg h3]
  exact e 4 (by show _ = 4; omega) _ (by dsimp only; omega)

theorem Re.nt (hw : ReW w fw) (ha : ReR a fa) : Re (nt w a) fun r j => ∑ l ∈ Finset.range 128, fa r l * fw j l := fun r j => by
  pointwise [Cert.AttnARun.nt, k0_pay61]
  rw [← sum_fin 128 fun l => fa r l * fw j l]
  exact Finset.sum_congr rfl fun l _ => by rw [ha, hw, EReal.coe_mul]

/-- The block of 64 of a number below 640, as the kernel computes it. -/
theorem block_word : ∀ j : Fin 640, Scalar.select
    (IntOp.andi (IntOp.cmpi CmpIPredicate.ne
        (IntOp.subi (BitVec.setWidth 32 (IntOp.cmpi CmpIPredicate.sgt (BitVec.ofNat 32 j.val) 0#32))
          (BitVec.setWidth 32 (IntOp.cmpi CmpIPredicate.slt (BitVec.ofNat 32 j.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 j.val) 64#32) 0#32))
    (IntOp.subi (IntOp.divsi ArithUnit.vector (BitVec.ofNat 32 j.val) 64#32) 1#32)
    (IntOp.divsi ArithUnit.vector (BitVec.ofNat 32 j.val) 64#32) = BitVec.ofNat 32 (j.val / 64) := by decide +kernel

theorem ok_block : ∀ (r : Fin 2) (j : Fin 10), IntOp.andi
    (IntOp.cmpi CmpIPredicate.sge (BitVec.ofNat 32 j.val) (BitVec.ofNat 32 r.val))
    (IntOp.cmpi CmpIPredicate.sle (BitVec.ofNat 32 j.val) (IntOp.addi (BitVec.ofNat 32 r.val) 8#32))
    = if r.val ≤ j.val ∧ j.val ≤ r.val + 8 then 1#1 else 0#1 := by decide +kernel

theorem ok_start : ∀ (n : Fin 16) (j : Fin 640),
    IntOp.cmpi CmpIPredicate.sge (BitVec.ofNat 32 j.val) (Scalar.subi (512#32) (Scalar.muli (BitVec.ofNat 32 n.val) 128#32))
    = if 512 ≤ j.val + 128 * n.val then 1#1 else 0#1 := by decide +kernel

theorem valid_apply {n : BitVec 32} {N : ℕ} (hn : n = BitVec.ofNat 32 N) (hN : N < 16) (r : Fin 128) (j : Fin 640) :
    validV n (ix2 r j) = if ok N r j then 1#1 else 0#1 := by
  have hr := r.isLt
  have hj := j.isLt
  pointwise [validV, k0_pay80, k0_pay77, k0_pay78, k0_pay79]
  have er := block_word (Fin.castLE (by norm_num : 128 ≤ 640) r)
  have eb := ok_block ⟨r / 64, by omega⟩ ⟨j / 64, by omega⟩
  have es := ok_start ⟨N, hN⟩ j
  dsimp only [Fin.val_castLE] at er eb es
  rw [er, block_word j, eb, hn, es]
  by_cases h1 : r.val / 64 ≤ j.val / 64 ∧ j.val / 64 ≤ r.val / 64 + 8 <;> by_cases h2 : 512 ≤ j.val + 128 * N <;>
    simp [ok, h1, h2, IntOp.andi]

/-- The largest of several numbers below the top, one of them real, is real. -/
theorem max_real {ι : Type} [Fintype ι] (f : ι → EReal) (ht : ∀ i, f i ≠ ⊤) (hb : ∃ i, f i ≠ ⊥) :
    ∃ M : ℝ, Finset.fold max ⊥ f Finset.univ = (M : EReal) := by
  have h1 : Finset.fold max ⊥ f Finset.univ ≠ ⊤ :=
    ((Finset.fold_max_lt (c := (⊤ : EReal))).2 ⟨bot_lt_top, fun i _ => (ht i).lt_top⟩).ne
  have h2 : Finset.fold max ⊥ f Finset.univ ≠ ⊥ :=
    ((Finset.lt_fold_max (c := (⊥ : EReal))).2 (.inr (hb.imp fun i hi => ⟨Finset.mem_univ i, hi.bot_lt⟩))).ne'
  exact ⟨_, (EReal.coe_toReal h1 h2).symm⟩

/-- Weights of a row: masked exponentials, over their sum. -/
theorem softmax_row {n : ℕ} (P : ℕ → Prop) [DecidablePred P] (z : ℕ → ℝ) (hP : ∃ j : Fin n, P j) (i : Fin n) (f : Fin n → EReal)
    (hf : ∀ j : Fin n, f j = if P j then ((z j : ℝ) : EReal) else ⊥) :
    Ideal.div (Ideal.exp (f i - Finset.fold max ⊥ f Finset.univ)) (∑ j, Ideal.exp (f j - Finset.fold max ⊥ f Finset.univ))
      = (((if P i then Real.exp (z i) else 0) / ∑ j ∈ Finset.range n, if P j then Real.exp (z j) else 0 : ℝ) : EReal) := by
  obtain ⟨M, hM⟩ := max_real f (fun j => by rw [hf]; split <;> simp) (hP.imp fun j hj => by rw [hf, if_pos hj]; simp)
  have he (j : Fin n) : Ideal.exp (f j - M) = (((if P j then Real.exp (z j) else 0) * Real.exp (-M) : ℝ) : EReal) := by
    rw [hf]; split
    · rw [← EReal.coe_sub, Ideal.exp_coe, sub_eq_add_neg, Real.exp_add]
    · rw [EReal.bot_sub, Ideal.exp_bot, zero_mul, EReal.coe_zero]
  have hpos : 0 < ∑ j ∈ Finset.range n, if P j then Real.exp (z j) else 0 := by
    obtain ⟨j, hj⟩ := hP
    refine Finset.sum_pos' (fun k _ => by split <;> positivity) ⟨j, Finset.mem_range.2 j.isLt, ?_⟩
    rw [if_pos hj]; positivity
  rw [hM, Finset.sum_congr rfl fun j _ => he j, sum_fin n fun j => (if P j then Real.exp (z j) else 0) * Real.exp (-M), he,
    ← Finset.sum_mul, Ideal.div_coe (mul_ne_zero hpos.ne' (Real.exp_ne_zero _))]
  exact congrArg Real.toEReal (by rw [mul_one_div]; exact mul_div_mul_right _ _ (Real.exp_ne_zero _))

theorem mask_named : Named.named (F := Ideal) (φ := .f32) κ "mask" 4048155338#32 = (⊥ : EReal) := rfl
theorem ofBits_bot : Ideal.ofBits FTy.f32 4286578688#32 = (⊥ : EReal) := by
  simp [Ideal.ofBits, Ideal.ieee]

theorem Re.probs {m : IVec S128x640 1} {t : Vec Ideal S1x128x640 .f32} {n : ℕ}
    (hm : ∀ (r : Fin 128) (j : Fin 640), m (ix2 r j) = if ok n r j then 1#1 else 0#1) (hx : Re x fx)
    (ht : ∀ (r : Fin 128) (j : Fin 640), t (ix3 0 r j) = ((fy r j : ℝ) : EReal)) :
    Re (probsV m x t) fun r j => (if ok n r j then Real.exp (fx r j * (1 / 8) + fy r j) else 0)
      / ∑ j ∈ Finset.range 640, if ok n r j then Real.exp (fx r j * (1 / 8) + fy r j) else 0 := fun r j => by
  have hr := r.isLt
  pointwise [probsV, k0_pay127]
  rw [mask_named, ofBits_bot]
  refine softmax_row (ok n r) (fun j => fx r j * (1 / 8) + fy r j)
    ⟨⟨512 + r, by omega⟩, ⟨⟨by show _ ≤ (512 + r.val) / 64; omega, by show (512 + r.val) / 64 ≤ _; omega⟩,
      by show 512 ≤ 512 + r.val + _; omega⟩⟩ j
    (fun x_1 => Scalar.select (m (ix2 r x_1)) (x (ix2 r x_1) * Ideal.ofBits FTy.f32 1040187392#32 + t (ix3 0 r x_1)) ⊥) fun j => ?_
  rw [hm, hx, ht, ofBits_eighth_f32, ← EReal.coe_mul, ← EReal.coe_add]
  split <;> rfl

theorem Re.ds (hx : Re x fx) (hy : Re y fy) :
    Re (dsV x y) fun r j => fy r j * (fx r j - ∑ s ∈ Finset.range 640, fy r s * fx r s) := fun r j => by
  pointwise [dsV, k0_pay149]
  rw [hx, hy, Finset.sum_congr rfl fun s _ => (show y (ix2 r s) * x (ix2 r s) = ((fy r s * fx r s : ℝ) : EReal) by rw [hx, hy, EReal.coe_mul]),
    sum_fin 640 fun s => fy r s * fx r s, ← EReal.coe_sub, ← EReal.coe_mul]

theorem ReR.dq {d : Fin 2 → FVec Ideal S128x640 .f32} {fd : ℕ → ℕ → ℕ → ℝ} (hw : ReW w fw) (hd : ∀ h : Fin 2, Re (d h) (fd h)) :
    ReR (dqV w d) fun r l => (∑ j ∈ Finset.range 640, fd (l / 64) r j * fw j l) * (1 / 8) := fun r l => by
  have hl := l.isLt
  pointwise [dqV, k0_pay9, k0_pay169, k0_pay170, k0_pay185, k0_pay186, k0_pay233, k0_pay234, k0_pay235]
  have e (h : Fin 2) : ∑ j, d h (ix2 r j) * w (ix2 j l) = ((∑ j ∈ Finset.range 640, fd h r j * fw j l : ℝ) : EReal) := by
    rw [← sum_fin 640 fun j => fd h r j * fw j l]
    exact Finset.sum_congr rfl fun j _ => by rw [hd, hw, EReal.coe_mul]
  rw [sel_first hl, e, e, ofBits_eighth_f32]
  by_cases h : l.val / 64 = 0
  · rw [if_pos h, h, ← EReal.coe_mul]; rfl
  · rw [if_neg h, show l.val / 64 = 1 by omega, ← EReal.coe_mul]; rfl

/-- One of two heads' lanes. -/
theorem two_heads {S : Finset ℕ} {u v : ℕ → ℕ → ℝ} {l : ℕ} (hl : l < 128) :
    ∑ r ∈ S, u 0 r * (if l / 64 = 0 then v r l else 0) + ∑ r ∈ S, u 1 r * (if l / 64 = 1 then v r l else 0)
      = ∑ r ∈ S, u (l / 64) r * v r l := by
  rcases (by omega : l / 64 = 0 ∨ l / 64 = 1) with h | h <;> simp [h]

theorem ReW.tn {g : Fin 2 → FVec Ideal S128x128 .bf16} {d : Fin 2 → FVec Ideal S128x640 .f32} {fd : ℕ → ℕ → ℕ → ℝ}
    (hg : ∀ h : Fin 2, ReR (g h) fun r l => if l / 64 = h then fa r l else 0) (hd : ∀ h : Fin 2, Re (d h) (fd h)) :
    ∀ (j : Fin 640) (l : Fin 128), (∑ r, d 0 (ix2 r j) * g 0 (ix2 r l)) + (∑ r, d 1 (ix2 r j) * g 1 (ix2 r l))
      = ((∑ r ∈ Finset.range 128, fd (l / 64) r j * fa r l : ℝ) : EReal) := fun j l => by
  have e (h : Fin 2) : ∑ r, d h (ix2 r j) * g h (ix2 r l)
      = ((∑ r ∈ Finset.range 128, fd h r j * (if l.val / 64 = h.val then fa r l else 0) : ℝ) : EReal) := by
    rw [← sum_fin 128 fun r => fd h r j * (if l.val / 64 = h.val then fa r l else 0)]
    exact Finset.sum_congr rfl fun r _ => by rw [hd, hg, EReal.coe_mul]
  rw [e, e, ← EReal.coe_add]
  exact congrArg Real.toEReal (two_heads (u := fun h r => fd h r j) l.isLt)

theorem ReW.dk {g : Fin 2 → FVec Ideal S128x128 .bf16} {d : Fin 2 → FVec Ideal S128x640 .f32} {fd : ℕ → ℕ → ℕ → ℝ}
    (hg : ∀ h : Fin 2, ReR (g h) fun r l => if l / 64 = h then fa r l else 0) (hd : ∀ h : Fin 2, Re (d h) (fd h)) :
    ReW (dkV g d) fun j l => (∑ r ∈ Finset.range 128, fd (l / 64) r j * fa r l) * (1 / 8) := fun j l => by
  pointwise [dkV, k0_pay169, k0_pay170, k0_pay201, k0_pay202, k0_pay236]
  rw [ReW.tn hg hd j l, ofBits_eighth_f32, ← EReal.coe_mul]

theorem ReW.dv {g : Fin 2 → FVec Ideal S128x128 .bf16} {d : Fin 2 → FVec Ideal S128x640 .f32} {fd : ℕ → ℕ → ℕ → ℝ}
    (hg : ∀ h : Fin 2, ReR (g h) fun r l => if l / 64 = h then fa r l else 0) (hd : ∀ h : Fin 2, Re (d h) (fd h)) :
    ReW (dvV g d) fun j l => ∑ r ∈ Finset.range 128, fd (l / 64) r j * fa r l := fun j l => by
  pointwise [dvV, k0_pay217, k0_pay218, k0_pay237]
  rw [ReW.tn hg hd j l]

theorem part5_apply (d : Fin 5) (v : FVec Ideal S640x128 .f32) {f : ℕ → ℕ → ℝ} (hv : ReW v f) (r l : Fin 128) :
    part5 d v (ix2 r l) = ((f (128 * d + r) l : ℝ) : EReal) := by
  have e (k : Fin 640) (hk : k.val = 128 * d.val + r.val) : v (ix2 k l) = ((f (128 * d + r) l : ℝ) : EReal) := by rw [hv, hk]
  match d with
  | 0 => pointwise [part5]; exact hv ⟨r.val, by omega⟩ l
  | 1 => pointwise [part5]; exact e _ (by simp; try omega)
  | 2 => pointwise [part5]; exact e _ (by simp; try omega)
  | 3 => pointwise [part5]; exact e _ (by simp; try omega)
  | 4 => pointwise [part5]; exact e _ (by simp; try omega)

theorem addV_apply (o t : FVec Ideal S128x128 .f32) (r l : Fin 128) : addV o t (ix2 r l) = o (ix2 r l) + t (ix2 r l) := by
  pointwise [addV]

theorem bandV_apply {old : Vec Ideal S1x128x640 .f32} {d : Fin 8 → FVec Ideal S128x640 .f32} {fo : ℕ → ℕ → ℝ} {fd : ℕ → ℕ → ℕ → ℝ}
    (ho : ∀ (r : Fin 128) (j : Fin 640), old (ix3 0 r j) = ((fo r j : ℝ) : EReal)) (hd : ∀ u : Fin 8, Re (d u) (fd u))
    (r : Fin 128) (j : Fin 640) :
    bandV old d (ix3 0 r j) = ((fo r j + ∑ u ∈ Finset.range 8, fd u r j : ℝ) : EReal) := by
  pointwise [bandV, k0_pay167]
  rw [ho, hd, hd, hd, hd, hd, hd, hd, hd]
  simp only [Finset.sum_range_succ, Finset.sum_range_zero, zero_add, EReal.coe_add]
  rfl

end Cert.AttnARun

end
-- ==== Proof.AttnAPoint.lean ====
module

public import proofs.«01_k».proof.Proof.AttnATiles
public import Idealize.ShloMosaic.Lib.WritesUnit
public import Idealize.ShloMosaic.Lib.Pipeline.ValueKit

/-! What a grid point's body leaves over the reals: its queries' gradient, and the sums with its eight tiles added. -/

@[expose] public section

set_option maxRecDepth 16384

noncomputable section

namespace Cert.AttnARun

open Idealize.ShloMosaic Idealize.ShloMosaic.TcCoe
open Cert.AttnAIdeal Cert.AttnAIdeal.Gen

/-- A whole sequence's rows, real. -/
abbrev Seqs (X : S2048x128.Idx → EReal) (f : ℕ → ℕ → ℝ) : Prop := ∀ (s : Fin 2048) (l : Fin 128), X (ix2 s l) = ((f s l : ℝ) : EReal)
/-- Two heads' bands, real. -/
abbrev Bands (X : S2x128x640.Idx → EReal) (f : ℕ → ℕ → ℕ → ℝ) : Prop :=
  ∀ (h : Fin 2) (r : Fin 128) (j : Fin 640), X (ix3 h r j) = ((f h r j : ℝ) : EReal)

theorem off_eq : ∀ (i : grid0.Coords) (u : Fin 8) (d : Fin 5), k0_off1 i (BitVec.ofNat 32 u.val) (BitVec.ofNat 32 d.val)
    = ![128 * (8 * (i 2).val + u.val + d.val - 4), 0] := by decide +kernel
theorem num_eq : ∀ (i : grid0.Coords) (u : Fin 8), num i u = BitVec.ofNat 32 (8 * (i 2).val + u.val) := by decide +kernel

section Memory

theorem rowsAt_apply {e : EltTy} {a : Memref sig .tc .vmem S2048x128 e} (i : grid0.Coords) (f : BufTy.Contents (Elt Ideal) a.view.ty)
    (u : Fin 8) (d : Fin 5) (r l : Fin 128) (hs : 128 * (8 * (i 2).val + u.val + d.val - 4) + r.val < 2048) :
    rowsAt (F := Ideal) i f u d (ix2 r l) = a.view.read (Elt Ideal) f (ix2 ⟨128 * (8 * (i 2).val + u.val + d.val - 4) + r.val, hs⟩ l) := by
  have ho := off_eq i u d
  refine View.ld_unit_apply_of (a.view.read (Elt Ideal) f) _ _ _ _ _ fun b => ?_
  match b with
  | ⟨0, _⟩ => exact congrArg (· + r.val) (congrFun ho 0).symm
  | ⟨1, _⟩ => exact (Nat.zero_add _).symm.trans (congrArg (· + l.val) (congrFun ho 1).symm)

theorem tileAt_apply {a : Memref sig .tc .vmem S1024x128 .bf16} (f : BufTy.Contents (Elt Ideal) a.view.ty) (u : Fin 8) (r l : Fin 128)
    (hs : 128 * u.val + r.val < 1024) :
    tileAt (F := Ideal) f u (ix2 r l) = a.view.read (Elt Ideal) f (ix2 ⟨128 * u.val + r.val, hs⟩ l) := by
  refine View.ld_unit_apply_of (a.view.read (Elt Ideal) f) _ _ _ _ _ fun b => ?_
  match b with
  | ⟨0, _⟩ => rfl
  | ⟨1, _⟩ => exact (Nat.zero_add _).symm

theorem headAt_apply {a : Memref sig .tc .vmem S2x128x640 .f32} (f : BufTy.Contents (Elt Ideal) a.view.ty) (h : Fin 2) (r : Fin 128)
    (j : Fin 640) : headAt (F := Ideal) f h (ix3 0 r j) = a.view.read (Elt Ideal) f (ix3 h r j) := by
  refine View.ld_unit_apply_of (a.view.read (Elt Ideal) f) _ _ _ _ _ fun b => ?_
  match b with
  | ⟨0, _⟩ => rfl
  | ⟨1, _⟩ => exact (Nat.zero_add _).symm
  | ⟨2, _⟩ => exact (Nat.zero_add _).symm

theorem whole_apply {a : Memref sig .tc .vmem S2048x128 .f32} (f : BufTy.Contents (Elt Ideal) a.view.ty) (y : S2048x128.Idx) :
    whole (F := Ideal) f y = a.view.read (Elt Ideal) f y :=
  View.ld_unit_apply_of (a.view.read (Elt Ideal) f) _ _ _ _ _ fun b => match b with
    | ⟨0, _⟩ => (Nat.zero_add _).symm
    | ⟨1, _⟩ => (Nat.zero_add _).symm

variable (i : grid0.Coords) {a : Memref sig .tc .vmem S2048x128 .f32} {f : BufTy.Contents (Elt Ideal) a.view.ty}

/-- The `k`th addition's rows of a tile's part, at a row and column. -/
abbrev added (i : grid0.Coords) (W : ℕ → ℕ → ℕ → ℝ) (k s l : ℕ) : ℝ :=
  if 8 * (i 2).val + k / 5 + k % 5 - 4 = s / 128 then W (k / 5) (128 * (k % 5) + s % 128) l else 0

theorem adds_succ (w : Fin 8 → FVec Ideal S640x128 .f32) (n : ℕ) : adds (F := Ideal) i f w (n + 1)
    = ⟨Rect.unit (s := S2048x128) (k0_off1 i (BitVec.ofNat 32 (tileOf n).val) (BitVec.ofNat 32 (placeOf n).val)) S128x128.size
        (k0_off1_inb i (tileOf n) (placeOf n)),
      addV (rowsAt i (a := a) (a.view.writes (Elt Ideal) f (adds i f w n)) (tileOf n) (placeOf n)) (part5 (placeOf n) (w (tileOf n)))⟩
      :: adds i f w n := rfl

/-- The sum after `n` additions. -/
theorem adds_read {old : ℕ → ℕ → ℝ} {w : Fin 8 → FVec Ideal S640x128 .f32} {W : ℕ → ℕ → ℕ → ℝ}
    (ho : Seqs (a.view.read (Elt Ideal) f) old) (hw : ∀ u : Fin 8, ReW (w u) (W u)) (n : ℕ) (hn : n ≤ 40) :
    Seqs (a.view.read (Elt Ideal) (a.view.writes (Elt Ideal) f (adds i f w n))) fun s l =>
      old s l + ∑ k ∈ Finset.range n, added i W k s l := by
  induction n with
  | zero => exact fun s l => (ho s l).trans (congrArg Real.toEReal (by dsimp only; rw [Finset.sum_range_zero, add_zero]))
  | succ n ih =>
    intro s l
    have hi : (i 2).val < 2 := (i 2).isLt
    have ih := ih (by omega)
    have hu : (tileOf n).val = n / 5 := Nat.mod_eq_of_lt (by omega)
    have hd : (placeOf n).val = n % 5 := rfl
    have ho : k0_off1 i (BitVec.ofNat 32 (tileOf n).val) (BitVec.ofNat 32 (placeOf n).val)
        = ![128 * (8 * (i 2).val + n / 5 + n % 5 - 4), 0] := (off_eq i (tileOf n) (placeOf n)).trans (by rw [hu])
    rw [adds_succ]
    by_cases h : 8 * (i 2).val + n / 5 + n % 5 - 4 = s.val / 128
    · have hs : s.val = 128 * (8 * (i 2).val + n / 5 + n % 5 - 4) + s.val % 128 := by omega
      have hr : s.val % 128 < 128 := Nat.mod_lt _ (by norm_num)
      refine (View.read_writes_cons_rows_of_mem a.view f (k0_off1_inb i (tileOf n) (placeOf n)) _ (adds i f w n) (ix2 s l)
        (ix2 ⟨s.val % 128, hr⟩ l) ho hs rfl).trans ?_
      rw [addV_apply, part5_apply _ _ (hw _), rowsAt_apply i _ _ _ _ _ (by rw [hu, hd, ← hs]; exact s.isLt), ih, ← EReal.coe_add]
      refine congrArg Real.toEReal ?_
      dsimp only
      rw [show n / 5 % 8 = n / 5 from hu, ← hs, Finset.sum_range_succ, ← add_assoc]
      refine congrArg _ ?_
      unfold added
      rw [if_pos h]
    · refine (View.read_writes_cons_rows_of_not_mem a.view f (W := 128) (k0_off1_inb i (tileOf n) (placeOf n)) _ (adds i f w n)
        (ix2 s l) ho rfl ?_).trans ((ih s l).trans (congrArg Real.toEReal ?_))
      · show s.val < 128 * (8 * (i 2).val + n / 5 + n % 5 - 4) ∨ 128 * (8 * (i 2).val + n / 5 + n % 5 - 4) + 128 ≤ s.val
        omega
      · dsimp only
        rw [Finset.sum_range_succ]
        have h0 : added i W n s l = 0 := if_neg h
        rw [h0, add_zero]

/-- The sum after all eight tiles. -/
theorem adds_all {old : ℕ → ℕ → ℝ} {w : Fin 8 → FVec Ideal S640x128 .f32} {G : ℕ → ℕ → ℕ → ℝ}
    (ho : Seqs (a.view.read (Elt Ideal) f) old)
    (hw : ∀ u : Fin 8, ReW (w u) fun j l => if 512 ≤ j + 128 * (8 * (i 2).val + u.val) then
      G (8 * (i 2).val + u.val) (key (8 * (i 2).val + u.val) j) l else 0)
    (hG : ∀ n s l, ¬(s / 128 ≤ n ∧ n ≤ s / 128 + 4) → G n s l = 0) :
    Seqs (a.view.read (Elt Ideal) (a.view.writes (Elt Ideal) f (adds i f w 40))) fun s l =>
      old s l + ∑ u ∈ Finset.range 8, G (8 * (i 2).val + u) s l := fun s l => by
  refine (adds_read i ho (W := fun u j l => if 512 ≤ j + 128 * (8 * (i 2).val + u) then
      G (8 * (i 2).val + u) (key (8 * (i 2).val + u) j) l else 0) hw 40 le_rfl s l).trans (congrArg Real.toEReal (congrArg _ ?_))
  rw [show (40 : ℕ) = 5 * 8 from rfl, sum_blocks]
  refine Finset.sum_congr rfl fun u _ => ?_
  rw [← sum_places (n := 8 * (i 2).val + u) (s := s) (F := fun s => G (8 * (i 2).val + u) s l) fun h => hG _ _ _ h]
  refine Finset.sum_congr rfl fun d hd => ?_
  have := Finset.mem_range.1 hd
  unfold added
  rw [show (5 * u + d) / 5 = u by omega, show (5 * u + d) % 5 = d by omega]

end Memory

/-- The operands at a grid point are a sequence's and two heads' real numbers. -/
structure Given (D : Seq) (i : grid0.Coords) (M : Ops) (x : Ins Ideal M) : Prop where
  q : ∀ (r : Fin 1024) (l : Fin 128), M.q.view.read (Elt Ideal) x.q (ix2 r l) = ((D.q (1024 * (i 2).val + r) l : ℝ) : EReal)
  g : ∀ (r : Fin 1024) (l : Fin 128), M.g.view.read (Elt Ideal) x.g (ix2 r l) = ((D.g (1024 * (i 2).val + r) l : ℝ) : EReal)
  k : ∀ (s : Fin 2048) (l : Fin 128), M.k.view.read (Elt Ideal) x.k (ix2 s l) = ((D.k s l : ℝ) : EReal)
  v : ∀ (s : Fin 2048) (l : Fin 128), M.v.view.read (Elt Ideal) x.v (ix2 s l) = ((D.v s l : ℝ) : EReal)
  b : Bands (M.b.view.read (Elt Ideal) x.b) fun h r j => D.c h (min 256 (640 + r - j))

section Point

variable {D : Seq} {i : grid0.Coords} {M : Ops} {x : Ins Ideal M} (hG : Given D i M x) (u : Fin 8)
include hG

theorem re_q (h : Fin 2) : ReR (qT M x u h) fun r l => if l / 64 = h then D.q (128 * (8 * (i 2).val + u) + r) l else 0 :=
  ReR.head h fun r l => (tileAt_apply _ u r l (by omega)).trans ((hG.q _ _).trans
    (by show ((D.q (1024 * (i 2).val + (128 * u.val + r.val)) l : ℝ) : EReal) = _
        rw [show 1024 * (i 2).val + (128 * u.val + r.val) = 128 * (8 * (i 2).val + u) + r by omega]))
theorem re_g (h : Fin 2) : ReR (gT M x u h) fun r l => if l / 64 = h then D.g (128 * (8 * (i 2).val + u) + r) l else 0 :=
  ReR.head h fun r l => (tileAt_apply _ u r l (by omega)).trans ((hG.g _ _).trans
    (by show ((D.g (1024 * (i 2).val + (128 * u.val + r.val)) l : ℝ) : EReal) = _
        rw [show 1024 * (i 2).val + (128 * u.val + r.val) = 128 * (8 * (i 2).val + u) + r by omega]))

/-- The rows a window holds. -/
abbrev held5 (n j : ℕ) : ℕ := 128 * (n + j / 128 - 4) + j % 128
omit hG in
theorem held5_key {n j : ℕ} (hj : 512 ≤ j + 128 * n) : held5 n j = key n j := by unfold held5 key; omega

theorem re_k : ReW (kW i M x u) fun j l => D.k (held5 (8 * (i 2).val + u) j) l :=
  ReW.stack (f := fun d r l => D.k (128 * (8 * (i 2).val + u + d - 4) + r) l) fun d r l => by
    have hi : (i 2).val < 2 := (i 2).isLt
    exact (rowsAt_apply i _ u d r l (by omega)).trans (hG.k _ _)
theorem re_v : ReW (vW i M x u) fun j l => D.v (held5 (8 * (i 2).val + u) j) l :=
  ReW.stack (f := fun d r l => D.v (128 * (8 * (i 2).val + u + d - 4) + r) l) fun d r l => by
    have hi : (i 2).val < 2 := (i 2).isLt
    exact (rowsAt_apply i _ u d r l (by omega)).trans (hG.v _ _)

/-- The tile's weights. -/
theorem re_p (h : Fin 2) : Re (pT i M x u h) fun r j => if ok (8 * (i 2).val + u) r j then
    D.p h (128 * (8 * (i 2).val + u) + r) (key (8 * (i 2).val + u) j) else 0 := fun r j => by
  have hi : (i 2).val < 2 := (i 2).isLt
  have hn : 8 * (i 2).val + u.val < 16 := by omega
  refine (Re.probs (n := 8 * (i 2).val + u) (fy := fun r j => D.c h (min 256 (640 + r - j))) (fun r j => valid_apply (num_eq i u) hn r j) (Re.nt (re_k hG u) (re_q hG u h))
    (fun r j => (headAt_apply _ h r j).trans (hG.b h r j)) r j).trans (congrArg Real.toEReal
      (D.tile_p h hn r.isLt (j := j) (x := fun j => hs h (D.q (128 * (8 * (i 2).val + u) + r)) (D.k (held5 (8 * (i 2).val + u) j)) * (1 / 8)
        + D.c h (min 256 (640 + r - j))) fun j hj => ?_))
  dsimp only
  unfold Seq.z hs
  rw [held5_key hj.2, show 128 * (8 * (i 2).val + u.val) + r.val + 128 - key (8 * (i 2).val + u) j = 640 + r - j by
    have := hj.2; unfold key; omega]

/-- The tile's scores' gradient. -/
theorem re_ds (h : Fin 2) : Re (dsT i M x u h) fun r j => D.addB (8 * (i 2).val + u) h r j := fun r j => by
  have hi : (i 2).val < 2 := (i 2).isLt
  have hn : 8 * (i 2).val + u.val < 16 := by omega
  refine (Re.ds (Re.nt (re_v hG u) (re_g hG u h)) (re_p hG u h) r j).trans (congrArg Real.toEReal
    (D.tile_ds h hn r.isLt (j := j) (x := fun j => hs h (D.g (128 * (8 * (i 2).val + u) + r)) (D.v (held5 (8 * (i 2).val + u) j)))
      fun j hj => ?_))
  dsimp only
  unfold Seq.dp hs
  rw [held5_key hj.2]

/-- The tile's gradient of its queries. -/
theorem re_dq : ReR (dqT i M x u) fun r l => D.dq (128 * (8 * (i 2).val + u) + r) l := fun r l => by
  have hi : (i 2).val < 2 := (i 2).isLt
  have hn : 8 * (i 2).val + u.val < 16 := by omega
  exact (ReR.dq (re_k hG u) (fd := fun h r j => D.addB (8 * (i 2).val + u) h r j) (fun h => re_ds hG u h) r l).trans (congrArg Real.toEReal
    (D.tile_dq hn r.isLt fun j hj => by rw [held5_key hj]))

theorem re_dk : ReW (dkT i M x u) fun j l => if 512 ≤ j + 128 * (8 * (i 2).val + u) then
    D.addK (8 * (i 2).val + u) (key (8 * (i 2).val + u) j) l else 0 := fun j l =>
  (ReW.dk (fa := fun r l => D.q (128 * (8 * (i 2).val + u) + r) l) (fun h => re_q hG u h)
    (fd := fun h r j => D.addB (8 * (i 2).val + u) h r j) (fun h => re_ds hG u h) j l).trans
    (congrArg Real.toEReal (D.tile_dk (n := 8 * (i 2).val + u) j l))

theorem re_dv : ReW (dvT i M x u) fun j l => if 512 ≤ j + 128 * (8 * (i 2).val + u) then
    D.addV (8 * (i 2).val + u) (key (8 * (i 2).val + u) j) l else 0 := fun j l =>
  (ReW.dv (fa := fun r l => D.g (128 * (8 * (i 2).val + u) + r) l) (fun h => re_g hG u h)
    (fd := fun h r j => if ok (8 * (i 2).val + u) r j then
      D.p h (128 * (8 * (i 2).val + u) + r) (key (8 * (i 2).val + u) j) else 0) (fun h => re_p hG u h) j l).trans
    (congrArg Real.toEReal (D.tile_dv (n := 8 * (i 2).val + u) j l))

omit u
variable (y : Outs Ideal M) (c : Dev nD)

/-- The queries' gradient the body leaves. -/
theorem point_dq (r : Fin 1024) (l : Fin 128) : M.dq.view.read (Elt Ideal) ((bodyRun (F := Ideal) c i M x).1 y) (ix2 r l)
    = ((D.dq (1024 * (i 2).val + r) l : ℝ) : EReal) := by
  rw [run_dq]
  have e (u : Fin 8) (h : r.val / 128 = u.val) (L) : M.dq.view.read (Elt Ideal) (M.dq.view.writes (Elt Ideal) y.dq (dqP i M x u :: L)) (ix2 r l)
      = ((D.dq (1024 * (i 2).val + r) l : ℝ) : EReal) := by
    have hr : r.val % 128 < 128 := Nat.mod_lt _ (by norm_num)
    refine (View.read_writes_cons_rows_of_mem M.dq.view y.dq (o := 128 * u.val) (tile_inb u) (dqT i M x u) L (ix2 r l)
      (ix2 ⟨r.val % 128, hr⟩ l) rfl (by show r.val = 128 * u.val + r.val % 128; omega) rfl).trans ((re_dq hG u _ _).trans ?_)
    show ((D.dq (128 * (8 * (i 2).val + u.val) + r.val % 128) l : ℝ) : EReal) = _
    rw [show 128 * (8 * (i 2).val + u.val) + r.val % 128 = 1024 * (i 2).val + r by omega]
  have n (u : Fin 8) (h : r.val / 128 ≠ u.val) (L) : M.dq.view.read (Elt Ideal) (M.dq.view.writes (Elt Ideal) y.dq (dqP i M x u :: L)) (ix2 r l)
      = M.dq.view.read (Elt Ideal) (M.dq.view.writes (Elt Ideal) y.dq L) (ix2 r l) :=
    View.read_writes_cons_rows_of_not_mem M.dq.view y.dq (o := 128 * u.val) (W := 128) (tile_inb u) (dqT i M x u) L (ix2 r l) rfl rfl
      (by show r.val < 128 * u.val ∨ 128 * u.val + 128 ≤ r.val; omega)
  have hr := r.isLt
  by_cases h7 : r.val / 128 = 7
  · exact e 7 h7 _
  rw [n 7 h7]
  by_cases h6 : r.val / 128 = 6
  · exact e 6 h6 _
  rw [n 6 h6]
  by_cases h5 : r.val / 128 = 5
  · exact e 5 h5 _
  rw [n 5 h5]
  by_cases h4 : r.val / 128 = 4
  · exact e 4 h4 _
  rw [n 4 h4]
  by_cases h3 : r.val / 128 = 3
  · exact e 3 h3 _
  rw [n 3 h3]
  by_cases h2 : r.val / 128 = 2
  · exact e 2 h2 _
  rw [n 2 h2]
  by_cases h1 : r.val / 128 = 1
  · exact e 1 h1 _
  rw [n 1 h1]
  exact e 0 (by show _ = 0; omega) _

/-- The keys' and the values' sums the body leaves. -/
theorem point_ak {old : ℕ → ℕ → ℝ} (ho : Seqs (M.ak.view.read (Elt Ideal) (ak0 i M y)) old) :
    Seqs (M.ak.view.read (Elt Ideal) ((bodyRun (F := Ideal) c i M x).2.2.2.2.1 y)) fun s l =>
      old s l + ∑ u ∈ Finset.range 8, D.addK (8 * (i 2).val + u) s l := by
  rw [run_ak]
  exact adds_all i (a := M.ak) (G := D.addK) ho (fun u => re_dk hG u) fun n s l h => D.addK_zero l h
theorem point_av {old : ℕ → ℕ → ℝ} (ho : Seqs (M.av.view.read (Elt Ideal) (av0 i M y)) old) :
    Seqs (M.av.view.read (Elt Ideal) ((bodyRun (F := Ideal) c i M x).2.2.2.2.2.1 y)) fun s l =>
      old s l + ∑ u ∈ Finset.range 8, D.addV (8 * (i 2).val + u) s l := by
  rw [run_av]
  exact adds_all i (a := M.av) (G := D.addV) ho (fun u => re_dv hG u) fun n s l h => D.addV_zero l h

/-- The band's gradient the body leaves. -/
theorem point_db {old : ℕ → ℕ → ℕ → ℝ} (ho : Bands (M.db.view.read (Elt Ideal) (db0 i M y)) old) :
    Bands (M.db.view.read (Elt Ideal) ((bodyRun (F := Ideal) c i M x).2.2.2.1 y)) fun h r j =>
      old h r j + ∑ u ∈ Finset.range 8, D.addB (8 * (i 2).val + u) h r j := by
  rw [run_db]
  have e (h : Fin 2) (r : Fin 128) (j : Fin 640) : bandV (headAt (a := M.db) (db0 i M y) h) (fun u => dsT i M x u h) (ix3 0 r j)
      = ((old h r j + ∑ u ∈ Finset.range 8, D.addB (8 * (i 2).val + u) h r j : ℝ) : EReal) :=
    bandV_apply (fo := old h) (fd := fun u r j => D.addB (8 * (i 2).val + u) h r j) (fun r j => (headAt_apply _ h r j).trans (ho h r j))
      (fun u => re_ds hG u h) r j
  have w (h : Fin 2) (b : FVec Ideal S1x128x640 .f32) (L) (r : Fin 128) (j : Fin 640) :
      M.db.view.read (Elt Ideal) (M.db.view.writes (Elt Ideal) (db0 i M y) (headP h b :: L)) (ix3 h r j) = b (ix3 0 r j) :=
    View.read_writes_cons_unit_of_mem M.db.view (db0 i M y) (off' := ![h.val, 0, 0]) (head_inb h) b L (ix3 h r j) (ix3 0 r j) rfl fun a => match a with
      | ⟨0, _⟩ => rfl
      | ⟨1, _⟩ => (Nat.zero_add _).symm
      | ⟨2, _⟩ => (Nat.zero_add _).symm
  intro h r j
  match h with
  | 0 =>
    refine (View.read_writes_cons_unit_of_not_mem M.db.view (db0 i M y) (off' := ![1, 0, 0]) (head_inb 1) _ _ (ix3 0 r j) rfl 0 (.inl ?_)).trans ((w 0 _ _ r j).trans (e 0 r j))
    show (0 : ℕ) < 1
    norm_num
  | 1 => exact (w 1 _ _ r j).trans (e 1 r j)

omit hG in
/-- The keys' gradient the body leaves at a sequence's end is the keys' sum. -/
theorem point_dk (h : k0_cond3 i = 1#1) (s : Fin 2048) (l : Fin 128) :
    (M.dk.view.read (Elt Ideal) ((bodyRun (F := Ideal) c i M x).2.1 y) (ix2 s l) : EReal)
      = M.ak.view.read (Elt Ideal) ((bodyRun (F := Ideal) c i M x).2.2.2.2.1 y) (ix2 s l) := by
  rw [run_dk, run_ak, if_pos h]
  exact (View.read_writes_cons_rows_of_mem M.dk.view y.dk (o := 0) inb_S2048x128_S2048x128_0_0 _ [] (ix2 s l) (ix2 s l) rfl
    (Nat.zero_add _).symm rfl).trans (whole_apply (a := M.ak) _ _)
omit hG in
theorem point_dv (h : k0_cond3 i = 1#1) (s : Fin 2048) (l : Fin 128) :
    (M.dv.view.read (Elt Ideal) ((bodyRun (F := Ideal) c i M x).2.2.1 y) (ix2 s l) : EReal)
      = M.av.view.read (Elt Ideal) ((bodyRun (F := Ideal) c i M x).2.2.2.2.2.1 y) (ix2 s l) := by
  rw [run_dv, run_av, if_pos h]
  exact (View.read_writes_cons_rows_of_mem M.dv.view y.dv (o := 0) inb_S2048x128_S2048x128_0_0 _ [] (ix2 s l) (ix2 s l) rfl
    (Nat.zero_add _).symm rfl).trans (whole_apply (a := M.av) _ _)

end Point

end Cert.AttnARun

end
-- ==== Proof.AttnAFrame.lean ====
module

public import proofs.«01_k».proof.Proof.AttnABody
public import proofs.«01_k».proof.Proof.Gen.AttnAIdeal.Frame
public import Idealize.ShloMosaic.Lib.Pipeline.DatRel
public import Idealize.ShloMosaic.Lib.Pipeline.ArrRel
public import Idealize.ShloMosaic.Lib.Claim

/-! The chunked-attention backward kernel's run over its grid: from any property of the two scratch sums and of the band's
gradient that every point keeps and any property of the other three result blocks that every point ensures. -/

@[expose] public section

set_option maxRecDepth 16384

noncomputable section

namespace Cert.AttnARun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnAIdeal Cert.AttnAIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The operands at grid point `t`. -/
abbrev opsAt (t : Fin cfg0.N) : Ops where
  q := win0_0.stage (cfg0.slots t 0)
  k := win0_1.stage (cfg0.slots t 1)
  v := win0_2.stage (cfg0.slots t 2)
  b := win0_3.stage (cfg0.slots t 3)
  g := win0_4.stage (cfg0.slots t 4)
  dq := win0_5.stage (cfg0.slots t 5)
  dk := win0_6.stage (cfg0.slots t 6)
  dv := win0_7.stage (cfg0.slots t 7)
  db := win0_8.stage (cfg0.slots t 8)
  ak := Memref.whole cc0_scratch0
  av := Memref.whole cc0_scratch1
  hq := hstage0_0 ((cfg0.slots t 0).cast nbuf0_0)
  hk := hstage0_1 ((cfg0.slots t 1).cast nbuf0_1)
  hv := hstage0_2 ((cfg0.slots t 2).cast nbuf0_2)
  hb := hstage0_3 ((cfg0.slots t 3).cast nbuf0_3)
  hg := hstage0_4 ((cfg0.slots t 4).cast nbuf0_4)
  hdq := hstage0_5 ((cfg0.slots t 5).cast nbuf0_5)
  hdk := hstage0_6 ((cfg0.slots t 6).cast nbuf0_6)
  hdv := hstage0_7 ((cfg0.slots t 7).cast nbuf0_7)
  hdb := hstage0_8 ((cfg0.slots t 8).cast nbuf0_8)
  hak := Memref.isWhole_whole _
  hav := Memref.isWhole_whole _

/-- What the body reads at grid point `t`: the input windows' blocks. -/
def insAt (c : Dev nD) (t : Fin cfg0.N) : Ins F (opsAt t) where
  q := (opsAt t).hq.unread (iblk m c 0 t)
  k := (opsAt t).hk.unread (iblk m c 1 t)
  v := (opsAt t).hv.unread (iblk m c 2 t)
  b := (opsAt t).hb.unread (iblk m c 3 t)
  g := (opsAt t).hg.unread (iblk m c 4 t)

/-- The body's run at grid point `t`. -/
abbrev runAt (c : Dev nD) (t : Fin cfg0.N) :=
  bodyRun (F := F) c (grid0.coords t) (opsAt t) (insAt m c t)

/-- What the body leaves at grid point `t`, of what it finds. -/
def outAt (c : Dev nD) (t : Fin cfg0.N) (y : Outs F (opsAt t)) : Outs F (opsAt t) :=
  let R := runAt m c t
  ⟨R.1 y, R.2.1 y, R.2.2.1 y, R.2.2.2.1 y, R.2.2.2.2.1 y, R.2.2.2.2.2.1 y⟩

/-- A property of the two scratch sums before each point, and of what each point leaves in the four result blocks. -/
structure Spec (F : FTy → Type) where
  sums : ℕ → (S2048x128.Idx → Elt F .f32) → (S2048x128.Idx → Elt F .f32) → Prop
  dq : Fin cfg0.N → (S1024x128.Idx → Elt F .bf16) → Prop
  dk : Fin cfg0.N → (S2048x128.Idx → Elt F .bf16) → Prop
  dv : Fin cfg0.N → (S2048x128.Idx → Elt F .bf16) → Prop
  db : Fin cfg0.N → (S2x128x640.Idx → Elt F .f32) → Prop

/-- What the body finds at point `t`: the sums and, within a head pair, the band's gradient as the point before left it. -/
structure Spec.Found (S : Spec F) (t : Fin cfg0.N) (y : Outs F (opsAt t)) : Prop where
  sums : S.sums t.val y.ak y.av
  db : t.val % 4 ≠ 0 → S.db ⟨t.val - 1, Nat.lt_of_le_of_lt (Nat.sub_le _ _) t.isLt⟩ ((opsAt t).db.view.read (Elt F) y.db)

/-- Every point keeps the sums' property and ensures the blocks'. -/
structure Spec.Kept (S : Spec F) (c : Dev nD) : Prop where
  start : ∀ a b, S.sums 0 a b
  sums : ∀ t (y : Outs F (opsAt t)), S.Found t y → S.sums (t.val + 1) (outAt m c t y).ak (outAt m c t y).av
  dq : ∀ t (y : Outs F (opsAt t)), S.Found t y → S.dq t ((opsAt t).dq.view.read (Elt F) (outAt m c t y).dq)
  dk : ∀ t (y : Outs F (opsAt t)), S.Found t y → S.dk t ((opsAt t).dk.view.read (Elt F) (outAt m c t y).dk)
  dv : ∀ t (y : Outs F (opsAt t)), S.Found t y → S.dv t ((opsAt t).dv.view.read (Elt F) (outAt m c t y).dv)
  db : ∀ t (y : Outs F (opsAt t)), S.Found t y → S.db t ((opsAt t).db.view.read (Elt F) (outAt m c t y).db)

variable (S : Dev nD → Spec F)

/-- The windows whose contents are held to a property: the results. -/
def outs0 : Fin 9 → Bool := fun w => decide (5 ≤ w.val)

/-- The property of what point `t` leaves in the window `w`. -/
def leaves0 (c : Dev nD) : (w : Fin cfg0.W) → Fin cfg0.N → ((cfg0.win w).block.Idx → Elt F (cfg0.win w).elt) → Prop
  | ⟨5, _⟩, t, X => (S c).dq t X
  | ⟨6, _⟩, t, X => (S c).dk t X
  | ⟨7, _⟩, t, X => (S c).dv t X
  | ⟨8, _⟩, t, X => (S c).db t X
  | _, _, _ => True

/-- The scratch buffers before point `n`: the sums at contents with the property. -/
def scratch (c : Dev nD) (n : ℕ) : sProp 𝕄 :=
  iprop(∃ a b, held c (Memref.whole cc0_scratch0) a ∗ held c (Memref.whole cc0_scratch1) b ∗ ⌜(S c).sums n a b⌝ ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := scratch S c t.val
  q := Pipeline.shareOf spec0
  owed _ := 0

theorem A_eq (c : Dev nD) (w : Fin cfg0.W) : (dats m S 0 c).A w = V m c (Pipeline.arrRef spec0 w) := by
  dsimp only [dats]

/-- The relational proof data: the inputs exact, the results held to their properties. -/
abbrev rdats (c : Dev nD) := (dats m S 0 c).toRRel outs0 (leaves0 S c)

/-- What the body is called with at point `t`, the windows one by one. -/
def bodyPre (c : Dev nD) (t : Fin cfg0.N) : sProp 𝕄 :=
  iprop((dats m S 0 c).Φ t.castSucc ∗ (dats m S 0 c).owesAt () t.castSucc
    ∗ (∃ d, owns (c : Thread nD τ) (opsAt t).q fullShare ((dats m S 0 c).before 0 t d))
    ∗ (∃ d, owns (c : Thread nD τ) (opsAt t).k fullShare ((dats m S 0 c).before 1 t d))
    ∗ (∃ d, owns (c : Thread nD τ) (opsAt t).v fullShare ((dats m S 0 c).before 2 t d))
    ∗ (∃ d, owns (c : Thread nD τ) (opsAt t).b fullShare ((dats m S 0 c).before 3 t d))
    ∗ (∃ d, owns (c : Thread nD τ) (opsAt t).g fullShare ((dats m S 0 c).before 4 t d))
    ∗ (∃ Y, ⌜(rdats m S c).Finds 5 t Y⌝ ∗ owns (c : Thread nD τ) (opsAt t).dq fullShare Y)
    ∗ (∃ Y, ⌜(rdats m S c).Finds 6 t Y⌝ ∗ owns (c : Thread nD τ) (opsAt t).dk fullShare Y)
    ∗ (∃ Y, ⌜(rdats m S c).Finds 7 t Y⌝ ∗ owns (c : Thread nD τ) (opsAt t).dv fullShare Y)
    ∗ (∃ Y, ⌜(rdats m S c).Finds 8 t Y⌝ ∗ owns (c : Thread nD τ) (opsAt t).db fullShare Y))

/-- What the body returns at point `t`. -/
def bodyPost (c : Dev nD) (t : Fin cfg0.N) : sProp 𝕄 :=
  iprop((dats m S 0 c).Φ t.succ ∗ (dats m S 0 c).owesAt () t.succ
    ∗ owns (c : Thread nD τ) (opsAt t).q fullShare ((dats m S 0 c).after 0 t)
    ∗ owns (c : Thread nD τ) (opsAt t).k fullShare ((dats m S 0 c).after 1 t)
    ∗ owns (c : Thread nD τ) (opsAt t).v fullShare ((dats m S 0 c).after 2 t)
    ∗ owns (c : Thread nD τ) (opsAt t).b fullShare ((dats m S 0 c).after 3 t)
    ∗ owns (c : Thread nD τ) (opsAt t).g fullShare ((dats m S 0 c).after 4 t)
    ∗ (∃ X, ⌜(S c).dq t X⌝ ∗ owns (c : Thread nD τ) (opsAt t).dq fullShare X)
    ∗ (∃ X, ⌜(S c).dk t X⌝ ∗ owns (c : Thread nD τ) (opsAt t).dk fullShare X)
    ∗ (∃ X, ⌜(S c).dv t X⌝ ∗ owns (c : Thread nD τ) (opsAt t).dv fullShare X)
    ∗ (∃ X, ⌜(S c).db t X⌝ ∗ owns (c : Thread nD τ) (opsAt t).db fullShare X))

theorem before0 (c : Dev nD) (t : Fin cfg0.N) (d) : (dats m S 0 c).before 0 t d = iblk m c 0 t :=
  before0_0_of m _ (A_eq m S c 0) (fun _ => by dsimp only [dats]) t d
theorem before1 (c : Dev nD) (t : Fin cfg0.N) (d) : (dats m S 0 c).before 1 t d = iblk m c 1 t :=
  before0_1_of m _ (A_eq m S c 1) (fun _ => by dsimp only [dats]) t d
theorem before2 (c : Dev nD) (t : Fin cfg0.N) (d) : (dats m S 0 c).before 2 t d = iblk m c 2 t :=
  before0_2_of m _ (A_eq m S c 2) (fun _ => by dsimp only [dats]) t d
theorem before3 (c : Dev nD) (t : Fin cfg0.N) (d) : (dats m S 0 c).before 3 t d = iblk m c 3 t :=
  before0_3_of m _ (A_eq m S c 3) (fun _ => by dsimp only [dats]) t d
theorem before4 (c : Dev nD) (t : Fin cfg0.N) (d) : (dats m S 0 c).before 4 t d = iblk m c 4 t :=
  before0_4_of m _ (A_eq m S c 4) (fun _ => by dsimp only [dats]) t d

/-- Within a head pair the band's gradient is found as the point before left it. -/
theorem finds_db (c : Dev nD) {t : Fin cfg0.N} (ht : t.val % 4 ≠ 0) {Y} (h : (rdats m S c).Finds 8 t Y) :
    (S c).db ⟨t.val - 1, Nat.lt_of_le_of_lt (Nat.sub_le _ _) t.isLt⟩ Y := by
  have hf : (cfg0.win 8).fetch t = false := by rfl
  have hp : ¬ (cfg0.win 8).flush ⟨t.val - 1, Nat.lt_of_le_of_lt (Nat.sub_le _ _) t.isLt⟩ = true :=
    fun e => by have := (flush0_8 _).mp e; dsimp only at this; omega
  exact Pipeline.Dat.toRRel_leaves _ (by decide) ((((rdats m S c).finds_of_pos hf (by omega) Y).mp h).resolve_left hp)

/-- A buffer that a memref is the whole of, owned at `X`, is held at the contents that read as `X`. -/
theorem owns_iff {s : Shape} {e : EltTy} (c : Dev nD) {a : Memref sig .tc .vmem s e} (h : a.IsWhole) (X : s.Idx → Elt F e) :
    (owns (c : Thread nD τ) a fullShare X : sProp 𝕄) ⊢ held c a (h.unread X) := by
  unfold owns
  iintro ⟨%f, %hf, H⟩
  obtain rfl := h.eq_unread hf
  iexact H

theorem owns_of {s : Shape} {e : EltTy} (c : Dev nD) {a : Memref sig .tc .vmem s e} (f : BufTy.Contents (Elt F) a.view.ty) :
    (held c a f : sProp 𝕄) ⊢ owns (c : Thread nD τ) a fullShare (a.view.read (Elt F) f) := by
  unfold owns
  iintro H
  iexists f; isplitr; · ipureintro; rfl
  iexact H

theorem owns_unread {s : Shape} {e : EltTy} (c : Dev nD) {a : Memref sig .tc .vmem s e} (h : a.IsWhole) (X : s.Idx → Elt F e)
    (f : BufTy.Contents (Elt F) a.view.ty) (hf : f = h.unread X) :
    (held c a f : sProp 𝕄) ⊢ owns (c : Thread nD τ) a fullShare X := by
  subst hf
  have := owns_of (F := F) c (a := a) (h.unread X)
  rwa [h.read_unread] at this

variable {m S}

/-- The body at any point, where every point keeps the properties. -/
theorem sound_body (c : Dev nD) (hS : (S c).Kept m c) (t : Fin cfg0.N) :
    bodyPre m S c t ⊢ wp frame (wpE (defs₀ (F := F)) Variants.none c none) Set.univ (bodyAt0 t) (fun _ => bodyPost m S c t) := by
  unfold bodyPre bodyPost
  simp only [before0, before1, before2, before3, before4]
  rw [show (dats m S 0 c).owesAt () t.succ = (dats m S 0 c).owesAt () t.castSucc from rfl]
  rw [show (dats m S 0 c).Φ t.castSucc = scratch S c t.val from rfl, show (dats m S 0 c).Φ t.succ = scratch S c (t.val + 1) from rfl,
    show (dats m S 0 c).after 0 t = iblk m c 0 t from rfl, show (dats m S 0 c).after 1 t = iblk m c 1 t from rfl,
    show (dats m S 0 c).after 2 t = iblk m c 2 t from rfl, show (dats m S 0 c).after 3 t = iblk m c 3 t from rfl,
    show (dats m S 0 c).after 4 t = iblk m c 4 t from rfl]
  unfold scratch
  iintro ⟨⟨%a, %b, Ha, Hb, %hs, Hg⟩, Ho, ⟨%d0, H0⟩, ⟨%d1, H1⟩, ⟨%d2, H2⟩, ⟨%d3, H3⟩, ⟨%d4, H4⟩, ⟨%Y5, -, H5⟩, ⟨%Y6, -, H6⟩, ⟨%Y7, -, H7⟩,
    ⟨%Y8, %h8, H8⟩⟩
  ihave H0 := (owns_iff c (opsAt t).hq _) $$ H0
  ihave H1 := (owns_iff c (opsAt t).hk _) $$ H1
  ihave H2 := (owns_iff c (opsAt t).hv _) $$ H2
  ihave H3 := (owns_iff c (opsAt t).hb _) $$ H3
  ihave H4 := (owns_iff c (opsAt t).hg _) $$ H4
  ihave H5 := (owns_iff c (opsAt t).hdq _) $$ H5
  ihave H6 := (owns_iff c (opsAt t).hdk _) $$ H6
  ihave H7 := (owns_iff c (opsAt t).hdv _) $$ H7
  ihave H8 := (owns_iff c (opsAt t).hdb _) $$ H8
  let y : Outs F (opsAt t) := ⟨(opsAt t).hdq.unread Y5, (opsAt t).hdk.unread Y6, (opsAt t).hdv.unread Y7, (opsAt t).hdb.unread Y8, a, b⟩
  have hy : (S c).Found t y := ⟨hs, fun ht => by
    show (S c).db _ ((opsAt t).db.view.read (Elt F) ((opsAt t).hdb.unread Y8))
    rw [(opsAt t).hdb.read_unread]; exact finds_db m S c ht h8⟩
  iapply (wp_wand_r Idealize.ShloMosaic.frame (wpE (defs₀ (F := F)) Variants.none (c : Thread nD τ) none) Set.univ)
  isplitl [H0 H1 H2 H3 H4 H5 H6 H7 H8 Ha Hb]
  · iapply ((runAt m c t).2.2.2.2.2.2 Set.univ y)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ha]; · iexact Ha
    iexact Hb
  · iintro %_ ⟨H0, H1, H2, H3, H4, H5, H6, H7, H8, Ha, Hb⟩
    isplitl [Ha Hb Hg]
    · iexists _, _
      isplitl [Ha]; · iexact Ha
      isplitl [Hb]; · iexact Hb
      isplitr; · ipureintro; exact hS.sums t y hy
      iexact Hg
    isplitl [Ho]; · iexact Ho
    isplitl [H0]; · iapply (owns_unread c (opsAt t).hq (iblk m c 0 t) (insAt m c t).q rfl) $$ H0
    isplitl [H1]; · iapply (owns_unread c (opsAt t).hk (iblk m c 1 t) (insAt m c t).k rfl) $$ H1
    isplitl [H2]; · iapply (owns_unread c (opsAt t).hv (iblk m c 2 t) (insAt m c t).v rfl) $$ H2
    isplitl [H3]; · iapply (owns_unread c (opsAt t).hb (iblk m c 3 t) (insAt m c t).b rfl) $$ H3
    isplitl [H4]; · iapply (owns_unread c (opsAt t).hg (iblk m c 4 t) (insAt m c t).g rfl) $$ H4
    isplitl [H5]
    · iexists _; isplitr; swap; · iapply (owns_of c _) $$ H5
      ipureintro; exact hS.dq t y hy
    isplitl [H6]
    · iexists _; isplitr; swap; · iapply (owns_of c _) $$ H6
      ipureintro; exact hS.dk t y hy
    isplitl [H7]
    · iexists _; isplitr; swap; · iapply (owns_of c _) $$ H7
      ipureintro; exact hS.dv t y hy
    iexists _; isplitr; swap; · iapply (owns_of c _) $$ H8
    ipureintro; exact hS.db t y hy

theorem defs₀_row (t : Fin cfg0.N) :
    defs₀ (F := F) .tc cfg0.body (cfg0.bodyArgs t (cfg0.slots t)) = bodyAt0 t := by
  unfold defs₀; rw [Defs.onTc_tc]

theorem body_obligation (c : Dev nD) (hS : (S c).Kept m c) :
    Pipeline.BodyObligationRel (dats (F := F) m S 0 c) (defs₀ (F := F)) Variants.none () Set.univ outs0 (leaves0 S c) := fun t => by
  rw [bigSep_W0, bigSep_W0, defs₀_row]
  exact triple_restated (sound_body c hS t) rfl .rfl fun _ => .rfl

/-- What the launch hands the body beside the windows, the scratch buffers as memrefs. -/
theorem PhiA_eq (c : Dev nD) :
    (Pipeline.ΦA spec0 c : sProp 𝕄)
      = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

theorem scratch_in (c : Dev nD) (hS : ∀ a b, (S c).sums 0 a b) : Pipeline.ΦA spec0 c ⊢ scratch S c 0 := by
  rw [PhiA_eq]; unfold scratch owns
  iintro ⟨⟨⟨%da, %a, -, Ha⟩, ⟨%db, %b, -, Hb⟩⟩, Hg⟩
  iexists a, b
  isplitl [Ha]; · iexact Ha
  isplitl [Hb]; · iexact Hb
  isplitr; · ipureintro; exact hS a b
  iexact Hg

theorem scratch_out (c : Dev nD) (n : ℕ) : scratch S c n ⊢ Pipeline.ΦA spec0 c := by
  rw [PhiA_eq]; unfold scratch
  iintro ⟨%a, %b, Ha, Hb, -, Hg⟩
  isplitl [Ha Hb]
  · isplitl [Ha]; · iexists _; iapply (owns_of c a) $$ Ha
    iexists _; iapply (owns_of c b) $$ Hb
  iexact Hg

set_option backward.isDefEq.respectTransparency.types false in
/-- The run of the program: every array at the end at contents that the properties allow. -/
theorem run_main (hS : ∀ c, (S c).Kept m c) :
    θ_run defs (onTc (τ := τ) (main (F := F))) (s₀ m ρ)
      (fun r => Pipeline.RDat.FramePost (cfgs 0) (fun c => rdats m S c) (V m) r ∧ r.2.sem = fun _ => 0) :=
  Pipeline.RDat.θ_run_frame_track_shared (Q' := _) cfgs (0 : Fin 1) launch₀0 defs₀ Variants.none (fun c => rdats m S c) m ρ main
    (hbody := fun c => (body_obligation c (hS c)).toRRel) (hq := fun _ _ _ => rfl) (howed := fun _ _ => rfl) (V := V m)
    (hmain := hmain m Variants.none) (hA := A_eq m S)
    (hin := fun c => scratch_in c (hS c).start) (hout := fun c => scratch_out c _)

/-- The property that says nothing. -/
def trivialSpec : Spec F := ⟨fun _ _ _ => True, fun _ _ => True, fun _ _ => True, fun _ _ => True, fun _ _ => True⟩

theorem trivialSpec_kept (c : Dev nD) : (trivialSpec (F := F)).Kept m c :=
  ⟨fun _ _ => trivial, fun _ _ _ => trivial, fun _ _ _ => trivial, fun _ _ _ => trivial, fun _ _ _ => trivial, fun _ _ _ => trivial⟩

variable (m)

/-- The run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 2 rfl).trans (V_main_arg0 m c),
      ((h.1 c).2 main_arg1 (Pipeline.mem_restRefs_of main_arg1 (by decide) (by decide))).trans (V_main_arg1 m c),
      (Pipeline.RDat.FramePost.arr_in h.1 c 4 rfl).trans (V_main_arg2 m c)⟩, h.2⟩)
    (run_main (S := fun _ => trivialSpec) ρ fun c => trivialSpec_kept c)

end Cert.AttnARun

end
-- ==== Proof.AttnAGather.lean ====
module

public import Idealize.ShloMosaic.Lib.ValueIdxCore
public import Idealize.ShloMosaic.PureOps.ShapeOps

/-! Rows of a table taken at an array of row numbers, and the row number of a relative position. -/

@[expose] public section

set_option maxRecDepth 16384

noncomputable section

namespace Cert.AttnARun

open Idealize.ShloMosaic Idealize.ShloMosaic.ValueIdx

/-- The dimension numbers of taking whole rows of a table `[N, C]` at row numbers `[R, S, 1]`. -/
abbrev rowDims (N C R S : Nat) (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- A row taken, at an entry: the table at the row number, read signed and kept inside, and the entry's column. -/
theorem gather_row_apply {α : Type} {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (c : Fin C) :
    Host.gather (rowDims N C R S wf) x idx (ix3 r s c)
      = x (ix2 ⟨min (idx (ix3 r s 0)).toInt.toNat (N - 1), by omega⟩ c) := by
  unfold Host.gather
  congr 1
  funext a
  refine Fin.ext ?_
  show (rowDims N C R S wf).start (ix3 r s c) idx a + (rowDims N C R S wf).batchCoord (ix3 r s c) a
      + (rowDims N C R S wf).offCoord (ix3 r s c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R S wf).startIndexMap from List.mem_singleton.mpr rfl)]
    have hsi : (rowDims N C R S wf).siIdx (ix3 r s c) ⟨List.idxOf (0 : Fin 2) (rowDims N C R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  · rw [show (rowDims N C R S wf).start (ix3 r s c) idx 1 = 0 from rfl]
    simp only [Nat.zero_add, Nat.add_zero]
    rfl

/-- The row number of a relative position: the position kept between −128 and 128, and 128 added; were it negative, it
would count from the table's end. -/
def rowWord (w : BitVec 32) : BitVec 32 :=
  let p := IntOp.addi (IntOp.minsi 128#32 (IntOp.maxsi 4294967168#32 w)) 128#32
  Scalar.select (IntOp.cmpi .slt p 0#32) (IntOp.addi p 257#32) p

theorem rowWord_all : ∀ x : Fin 4096, min (rowWord (BitVec.ofNat 32 x.val - 2048#32)).toInt.toNat 256 = min 256 (x.val - 1920) := by
  decide +kernel

/-- The row number of key `s` seen from query `t`. -/
theorem rowWord_sub (t s : ℕ) (ht : t < 2048) (hs : s < 2048) :
    min (rowWord (BitVec.ofNat 32 t - BitVec.ofNat 32 s)).toInt.toNat 256 = min 256 (t + 128 - s) := by
  have h := rowWord_all ⟨t + 2048 - s, by omega⟩
  dsimp only at h
  have e : BitVec.ofNat 32 (t + 2048 - s) - 2048#32 = BitVec.ofNat 32 t - BitVec.ofNat 32 s := by
    apply BitVec.eq_of_toNat_eq
    simp only [BitVec.toNat_sub, BitVec.toNat_ofNat]
    omega
  generalize hy : t + 2048 - s = y at h e
  rw [← e, h]
  omega

/-- The row number of window place `j` seen from row `r`. -/
theorem rowWord_band (r j : ℕ) (hr : r < 128) (hj : j < 640) :
    min (rowWord (BitVec.ofNat 32 r - BitVec.ofNat 32 j + 512#32)).toInt.toNat 256 = min 256 (640 + r - j) := by
  have h := rowWord_all ⟨r + 2560 - j, by omega⟩
  dsimp only at h
  have e : BitVec.ofNat 32 (r + 2560 - j) - 2048#32 = BitVec.ofNat 32 r - BitVec.ofNat 32 j + 512#32 := by
    apply BitVec.eq_of_toNat_eq
    simp only [BitVec.toNat_sub, BitVec.toNat_add, BitVec.toNat_ofNat]
    omega
  generalize hy : r + 2560 - j = y at h e
  rw [← e, h]
  omega

end Cert.AttnARun
end
-- ==== Proof.AttnAKept.lean ====
module

public import proofs.«01_k».proof.Proof.AttnAPoint
public import proofs.«01_k».proof.Proof.AttnAFrame
public import proofs.«01_k».proof.Proof.AttnAGather
public import proofs.«01_k».proof.Proof.Reals

/-! What every grid point of the chunked-attention backward kernel keeps and ensures, for real arguments. -/

@[expose] public section

set_option maxRecDepth 16384

noncomputable section

namespace Cert.AttnARun

open Idealize.ShloMosaic Idealize.ShloMosaic.TcCoe Idealize.ShloMosaic.Tactic
open Cert.Reals Cert.AttnAIdeal Cert.AttnAIdeal.Gen

/-- The sequence `b` and the heads `2 hp` and `2 hp + 1` of real arguments. -/
def seqAt (Q B C : ℕ → ℕ → ℝ) (hp b : ℕ) : Seq where
  q t l := Q (2048 * b + t) (128 * hp + l)
  k t l := Q (2048 * b + t) (1024 + (128 * hp + l))
  v t l := Q (2048 * b + t) (2048 + (128 * hp + l))
  g t l := C (2048 * b + t) (128 * hp + l)
  c h x := B x (2 * hp + h)

/-- The arguments are real. -/
structure Real (m : (ℓ : Loc nD τ sig) → Buf (Elt Ideal) ℓ) (c : Dev nD) (Q B C : ℕ → ℕ → ℝ) : Prop where
  qkv : ∀ (t : Fin 4096) (l : Fin 3072),
    (m ((c.tc : Thread nD τ).loc main_arg0) : S4096x3072.Idx → EReal) (ix2 t l) = ((Q t l : ℝ) : EReal)
  bias : ∀ (x : Fin 257) (h : Fin 16),
    (m ((c.tc : Thread nD τ).loc main_arg1) : S257x16.Idx → EReal) (ix2 x h) = ((B x h : ℝ) : EReal)
  g : ∀ (t : Fin 4096) (l : Fin 1024),
    (m ((c.tc : Thread nD τ).loc main_arg2) : S4096x1024.Idx → EReal) (ix2 t l) = ((C t l : ℝ) : EReal)

theorem coords_eq : ∀ t : Fin grid0.N, (grid0.coords t 0).val = t.val / 4 ∧ (grid0.coords t 1).val = t.val / 2 % 2
    ∧ (grid0.coords t 2).val = t.val % 2 := by decide +kernel
theorem index_q : ∀ t : Fin grid0.N, win0_0.index t 0 = 2 * (t.val / 2 % 2) + t.val % 2 ∧ win0_0.index t 1 = t.val / 4 := by
  decide +kernel
theorem index_k : ∀ t : Fin grid0.N, win0_1.index t 0 = t.val / 2 % 2 ∧ win0_1.index t 1 = 8 + t.val / 4 := by decide +kernel
theorem index_v : ∀ t : Fin grid0.N, win0_2.index t 0 = t.val / 2 % 2 ∧ win0_2.index t 1 = 16 + t.val / 4 := by decide +kernel
theorem index_b : ∀ t : Fin grid0.N, win0_3.index t 0 = t.val / 4 ∧ win0_3.index t 1 = 0 ∧ win0_3.index t 2 = 0 := by decide +kernel
theorem index_g : ∀ t : Fin grid0.N, win0_4.index t 0 = 2 * (t.val / 2 % 2) + t.val % 2 ∧ win0_4.index t 1 = t.val / 4 := by
  decide +kernel

/-- The band of biases the host prepares. -/
abbrev bandArr (m : (ℓ : Loc nD τ sig) → Buf (Elt Ideal) ℓ) (c : Dev nD) : S16x128x640.Idx → EReal := V m c main_v15

/-- The band at a head, a row and a place of its window: the table's entry of their relative position. -/
theorem bandArr_apply (m : (ℓ : Loc nD τ sig) → Buf (Elt Ideal) ℓ) (c : Dev nD) (h : Fin 16) (r : Fin 128) (j : Fin 640) :
    bandArr m c (ix3 h r j)
      = (m ((c.tc : Thread nD τ).loc main_arg1) : S257x16.Idx → EReal) (ix2 ⟨min 256 (640 + r.val - j.val), by omega⟩ h) := by
  after_reads_at
  refine (gather_row_apply (N := 257) (C := 16) (R := 128) (S := 640) (by decide)
    gather_S257x16_S128x640x1_S128x640x16_2_0_n_n_0_2_116.wf _ _ r j h).trans
    (congrArg (m ((c.tc : Thread nD τ).loc main_arg1)) (congrArg (fun k => ix2 k h) (Fin.ext ?_)))
  exact Eq.trans (congrArg (fun w : BitVec 32 => min w.toInt.toNat 256) rfl) (rowWord_band r.val j.val r.isLt j.isLt)

section

variable (m : (ℓ : Loc nD τ sig) → Buf (Elt Ideal) ℓ) (c : Dev nD) {Q B C : ℕ → ℕ → ℝ} (hR : Real m c Q B C)

/-- The data of grid point `n`. -/
abbrev dat (Q B C : ℕ → ℕ → ℝ) (n : ℕ) : Seq := seqAt Q B C (n / 4) (n / 2 % 2)

include hR

theorem blk_q (t : Fin grid0.N) (r : Fin 1024) (l : Fin 128) :
    (iblk m c 0 t : S1024x128.Idx → EReal) (ix2 r l) = (((dat Q B C t.val).q (1024 * (t.val % 2) + r) l : ℝ) : EReal) :=
  (congrFun (V_main_arg0 m c) _).trans (at_ix (g := Q) hR.qkv ((tile_at (index_q t).1 1024 r).trans (by omega)) (tile_at (index_q t).2 128 l))

theorem blk_g (t : Fin grid0.N) (r : Fin 1024) (l : Fin 128) :
    (iblk m c 4 t : S1024x128.Idx → EReal) (ix2 r l) = (((dat Q B C t.val).g (1024 * (t.val % 2) + r) l : ℝ) : EReal) :=
  (congrFun (V_main_arg2 m c) _).trans (at_ix (g := C) hR.g ((tile_at (index_g t).1 1024 r).trans (by omega)) (tile_at (index_g t).2 128 l))

theorem blk_k (t : Fin grid0.N) : Seqs (iblk m c 1 t : S2048x128.Idx → EReal) (dat Q B C t.val).k := fun s l =>
  (congrFun (V_main_arg0 m c) _).trans (at_ix (g := Q) hR.qkv (tile_at (index_k t).1 2048 s) ((tile_at (index_k t).2 128 l).trans (by omega)))

theorem blk_v (t : Fin grid0.N) : Seqs (iblk m c 2 t : S2048x128.Idx → EReal) (dat Q B C t.val).v := fun s l =>
  (congrFun (V_main_arg0 m c) _).trans (at_ix (g := Q) hR.qkv (tile_at (index_v t).1 2048 s) ((tile_at (index_v t).2 128 l).trans (by omega)))

theorem blk_b (t : Fin grid0.N) :
    Bands (iblk m c 3 t : S2x128x640.Idx → EReal) fun h r j => (dat Q B C t.val).c h (min 256 (640 + r - j)) := fun h r j => by
  have ht : t.val < 32 := t.isLt
  refine Eq.trans (congrArg (bandArr m c) (funext fun a => Fin.ext ?_)) ((bandArr_apply m c ⟨2 * (t.val / 4) + h.val, by omega⟩ r j).trans
    ((hR.bias _ _).trans rfl))
  match a with
  | ⟨0, _⟩ => show win0_3.index t 0 * 2 + 1 * h.val = 2 * (t.val / 4) + h.val; rw [(index_b t).1]; omega
  | ⟨1, _⟩ => show win0_3.index t 1 * 128 + 1 * r.val = r.val; rw [(index_b t).2.1]; omega
  | ⟨2, _⟩ => show win0_3.index t 2 * 640 + 1 * j.val = j.val; rw [(index_b t).2.2]; omega

/-- The operands at a grid point are real. -/
theorem given (t : Fin grid0.N) : Given (dat Q B C t.val) (grid0.coords t) (opsAt t) (insAt m c t) := by
  have e := (coords_eq t).2.2
  exact ⟨fun r l => (congrFun ((opsAt t).hq.read_unread _) _).trans ((blk_q m c hR t r l).trans (by rw [e])),
    fun r l => (congrFun ((opsAt t).hg.read_unread _) _).trans ((blk_g m c hR t r l).trans (by rw [e])),
    fun s l => (congrFun ((opsAt t).hk.read_unread _) _).trans (blk_k m c hR t s l),
    fun s l => (congrFun ((opsAt t).hv.read_unread _) _).trans (blk_v m c hR t s l),
    fun h r j => (congrFun ((opsAt t).hb.read_unread _) _).trans (blk_b m c hR t h r j)⟩

end

/-- The band's gradient after `n` points of a head pair: both sequences' tiles so far. -/
def bandTo (Q B C : ℕ → ℕ → ℝ) (hp n h r j : ℕ) : ℝ :=
  ∑ p ∈ Finset.range n, ∑ u ∈ Finset.range 8, (seqAt Q B C hp (p / 2)).addB (8 * (p % 2) + u) h r j

/-- The sums before each point are those of the tiles before it; each point leaves its rows' gradient of the queries and the
band's gradient so far, the last of a sequence and a pair of heads the gradients of the keys and the values. -/
def realSpec (Q B C : ℕ → ℕ → ℝ) : Spec Ideal where
  sums n a b := n % 2 ≠ 0 → Seqs a ((dat Q B C n).sumK 8) ∧ Seqs b ((dat Q B C n).sumV 8)
  dq t X := ∀ (r : Fin 1024) (l : Fin 128), X (ix2 r l) = (((dat Q B C t.val).dq (1024 * (t.val % 2) + r) l : ℝ) : EReal)
  dk t X := t.val % 2 = 1 → Seqs X ((dat Q B C t.val).sumK 16)
  dv t X := t.val % 2 = 1 → Seqs X ((dat Q B C t.val).sumV 16)
  db t X := Bands X (bandTo Q B C (t.val / 4) (t.val % 4 + 1))

section Points

variable (m : (ℓ : Loc nD τ sig) → Buf (Elt Ideal) ℓ) (c : Dev nD) {Q B C : ℕ → ℕ → ℝ} (hR : Real m c Q B C)

/-- A sum cleared. -/
theorem zero_seqs {a : Memref sig .tc .vmem S2048x128 .f32} (f : BufTy.Contents (Elt Ideal) a.view.ty) {x : FVec Ideal S2048x128 .f32}
    (hx : ∀ y, x y = 0) : Seqs (a.view.read (Elt Ideal) (a.view.writes (Elt Ideal) f [sumP (F := Ideal) x])) fun _ _ => 0 := fun s l =>
  (View.read_writes_cons_rows_of_mem a.view f (o := 0) inb_S2048x128_S2048x128_0_0 x [] (ix2 s l) (ix2 s l) rfl
    (Nat.zero_add _).symm rfl).trans ((hx _).trans EReal.coe_zero.symm)

theorem pay7_apply (y : S2048x128.Idx) : k0_pay7 (F := Ideal) y = (0 : EReal) := by
  pointwise [k0_pay7]
theorem pay8_apply (y : S2048x128.Idx) : k0_pay8 (F := Ideal) y = (0 : EReal) := by
  pointwise [k0_pay8]
theorem pay6_apply (y : S2x128x640.Idx) : k0_pay6 (F := Ideal) y = (0 : EReal) := by
  pointwise [k0_pay6]

/-- What the additions find in the two sums, at a first point and at a second. -/
theorem found_ak (i : grid0.Coords) (M : Ops) (y : Outs Ideal M) {f : ℕ → ℕ → ℝ}
    (h : (i 2).val ≠ 0 → Seqs (M.ak.view.read (Elt Ideal) y.ak) f) :
    Seqs (M.ak.view.read (Elt Ideal) (ak0 i M y)) (if (i 2).val = 0 then fun _ _ => 0 else f) := by
  unfold ak0
  by_cases h0 : (i 2).val = 0
  · rw [if_pos ((first_iff i).2 h0), if_pos h0]
    exact zero_seqs _ pay7_apply
  · rw [if_neg (mt (first_iff i).1 h0), if_neg h0]
    exact h h0
theorem found_av (i : grid0.Coords) (M : Ops) (y : Outs Ideal M) {f : ℕ → ℕ → ℝ}
    (h : (i 2).val ≠ 0 → Seqs (M.av.view.read (Elt Ideal) y.av) f) :
    Seqs (M.av.view.read (Elt Ideal) (av0 i M y)) (if (i 2).val = 0 then fun _ _ => 0 else f) := by
  unfold av0
  by_cases h0 : (i 2).val = 0
  · rw [if_pos ((first_iff i).2 h0), if_pos h0]
    exact zero_seqs _ pay8_apply
  · rw [if_neg (mt (first_iff i).1 h0), if_neg h0]
    exact h h0

/-- What the additions find in the band's gradient. -/
theorem found_db (i : grid0.Coords) (M : Ops) (y : Outs Ideal M) {f : ℕ → ℕ → ℕ → ℝ}
    (h0 : (i 1).val = 0 ∧ (i 2).val = 0 → f = fun _ _ _ => 0)
    (h : ¬((i 1).val = 0 ∧ (i 2).val = 0) → Bands (M.db.view.read (Elt Ideal) y.db) f) :
    Bands (M.db.view.read (Elt Ideal) (db0 i M y)) f := by
  unfold db0
  by_cases hi : (i 1).val = 0 ∧ (i 2).val = 0
  · rw [if_pos ((start_iff i).2 hi), h0 hi]
    exact fun h r j => (View.read_writes_cons_unit_of_mem M.db.view y.db (off' := ![0, 0, 0]) inb_S2x128x640_S2x128x640_0_0_0
      (k0_pay6 (F := Ideal)) [] (ix3 h r j) (ix3 h r j) rfl fun a => match a with
        | ⟨0, _⟩ => (Nat.zero_add _).symm
        | ⟨1, _⟩ => (Nat.zero_add _).symm
        | ⟨2, _⟩ => (Nat.zero_add _).symm).trans ((pay6_apply _).trans EReal.coe_zero.symm)
  · rw [if_neg (mt (start_iff i).1 hi)]
    exact h hi

include hR

/-- The sums after a point. -/
theorem after_ak (t : Fin grid0.N) (y : Outs Ideal (opsAt t)) (hs : (realSpec Q B C).Found t y) :
    Seqs ((opsAt t).ak.view.read (Elt Ideal) (outAt m c t y).ak) ((dat Q B C t.val).sumK (8 * (t.val % 2) + 8)) := fun s l => by
  have e := (coords_eq t).2.2
  refine (point_ak (given m c hR t) y c (found_ak (grid0.coords t) (opsAt t) y fun h => (hs.sums (by rwa [e] at h)).1) s l).trans
    (congrArg Real.toEReal ?_)
  rw [e]
  rcases Nat.mod_two_eq_zero_or_one t.val with h | h <;> rw [h]
  · rw [if_pos rfl]
    exact (zero_add _).trans (Finset.sum_congr rfl fun u _ => by rw [Nat.mul_zero, Nat.zero_add])
  · rw [if_neg one_ne_zero]
    exact (Finset.sum_range_add _ 8 8).symm
theorem after_av (t : Fin grid0.N) (y : Outs Ideal (opsAt t)) (hs : (realSpec Q B C).Found t y) :
    Seqs ((opsAt t).av.view.read (Elt Ideal) (outAt m c t y).av) ((dat Q B C t.val).sumV (8 * (t.val % 2) + 8)) := fun s l => by
  have e := (coords_eq t).2.2
  refine (point_av (given m c hR t) y c (found_av (grid0.coords t) (opsAt t) y fun h => (hs.sums (by rwa [e] at h)).2) s l).trans
    (congrArg Real.toEReal ?_)
  rw [e]
  rcases Nat.mod_two_eq_zero_or_one t.val with h | h <;> rw [h]
  · rw [if_pos rfl]
    exact (zero_add _).trans (Finset.sum_congr rfl fun u _ => by rw [Nat.mul_zero, Nat.zero_add])
  · rw [if_neg one_ne_zero]
    exact (Finset.sum_range_add _ 8 8).symm

/-- Every point keeps the sums and ensures the gradients. -/
theorem realSpec_kept : (realSpec Q B C).Kept m c where
  start a b h := absurd rfl h
  sums t y hs h := by
    have A := after_ak m c hR t y hs
    have A' := after_av m c hR t y hs
    have e0 : t.val % 2 = 0 := by omega
    have d2 : (t.val + 1) / 2 = t.val / 2 := by omega
    have d4 : (t.val + 1) / 4 = t.val / 4 := by omega
    rw [e0] at A A'
    show Seqs _ ((seqAt Q B C ((t.val + 1) / 4) ((t.val + 1) / 2 % 2)).sumK 8) ∧ Seqs _ ((seqAt Q B C ((t.val + 1) / 4) ((t.val + 1) / 2 % 2)).sumV 8)
    rw [d2, d4]
    exact ⟨A, A'⟩
  dq t y hs r l := (point_dq (given m c hR t) y c r l).trans (by rw [(coords_eq t).2.2])
  dk t y hs h s l := by
    have A := after_ak m c hR t y hs
    rw [h] at A
    exact (point_dk y c ((last_iff _).2 ((coords_eq t).2.2.trans h)) s l).trans (A s l)
  dv t y hs h s l := by
    have A := after_av m c hR t y hs
    rw [h] at A
    exact (point_dv y c ((last_iff _).2 ((coords_eq t).2.2.trans h)) s l).trans (A s l)
  db t y hs h r j := by
    obtain ⟨-, e1, e2⟩ := coords_eq t
    refine (point_db (given m c hR t) y c (old := bandTo Q B C (t.val / 4) (t.val % 4)) (found_db (grid0.coords t) (opsAt t) y (fun h => ?_)
      fun h => ?_) h r j).trans (congrArg Real.toEReal ?_)
    · rw [e1, e2] at h
      rw [show t.val % 4 = 0 by omega]
      exact funext fun h => funext fun r => funext fun j => Finset.sum_range_zero _
    · rw [e1, e2] at h
      have h4 : t.val % 4 ≠ 0 := by omega
      have F := hs.db h4
      have d : (t.val - 1) / 4 = t.val / 4 := by omega
      have d' : (t.val - 1) % 4 + 1 = t.val % 4 := by omega
      change Bands _ (bandTo Q B C ((t.val - 1) / 4) ((t.val - 1) % 4 + 1)) at F
      rw [d, d'] at F
      exact F
    · rw [e2]
      unfold bandTo
      rw [Finset.sum_range_succ _ (t.val % 4)]
      rw [show t.val % 4 / 2 = t.val / 2 % 2 by omega, show t.val % 4 % 2 = t.val % 2 by omega]

end Points

end Cert.AttnARun
end
-- ==== Proof.AttnAArr.lean ====
module

public import proofs.«01_k».proof.Proof.AttnAKept

/-! The four gradients the chunked-attention backward kernel's run leaves, for real arguments. -/

@[expose] public section

set_option maxRecDepth 16384

noncomputable section

namespace Cert.AttnARun

open Idealize.ShloMosaic Idealize.ShloMosaic.TcCoe Idealize.SL.Sem
open Idealize.ShloMosaic.Pipeline (Dat)
open Cert.Reals Cert.AttnAIdeal Cert.AttnAIdeal.Gen

/-- A gradient's array, from each sequence's and pair of heads' gradient. -/
def arr (f : Seq → ℕ → ℕ → ℝ) (Q B C : ℕ → ℕ → ℝ) : S4096x1024.Idx → EReal := fun i =>
  ((f (seqAt Q B C ((i 1).val / 128) ((i 0).val / 2048)) ((i 0).val % 2048) ((i 1).val % 128) : ℝ) : EReal)

/-- The band's gradient. -/
def arrB (Q B C : ℕ → ℕ → ℝ) : S16x128x640.Idx → EReal := fun i =>
  ((bandTo Q B C ((i 0).val / 2) 4 ((i 0).val % 2) (i 1).val (i 2).val : ℝ) : EReal)

theorem index_dq : ∀ t : Fin grid0.N, win0_5.index t 0 = 2 * (t.val / 2 % 2) + t.val % 2 ∧ win0_5.index t 1 = t.val / 4 := by
  decide +kernel
theorem index_dk : ∀ t : Fin grid0.N, win0_6.index t 0 = t.val / 2 % 2 ∧ win0_6.index t 1 = t.val / 4 := by decide +kernel
theorem index_db : ∀ t : Fin grid0.N, win0_8.index t 0 = t.val / 4 ∧ win0_8.index t 1 = 0 ∧ win0_8.index t 2 = 0 := by decide +kernel
theorem places_dq : ∀ (a : Fin 4) (b : Fin 8), ∃ t : Fin grid0.N, win0_5.index t 0 = a.val ∧ win0_5.index t 1 = b.val := by decide +kernel
theorem places_dk : ∀ (a : Fin 2) (b : Fin 8), ∃ t : Fin grid0.N, t.val % 2 = 1 ∧ win0_6.index t 0 = a.val ∧ win0_6.index t 1 = b.val := by
  decide +kernel

section Arrays

variable {c : Dev nD} {Q B C : ℕ → ℕ → ℝ} (d : Dat τ (Elt Ideal) Unit ℕ (UR sig nD τ) ℕ cfg0 c)

/-- A gradient's entry at a row of a sequence and a lane of a pair of heads. -/
theorem arr_block (f : Seq → ℕ → ℕ → ℝ) {t s l : ℕ} {i : S4096x1024.Idx} (hs : s < 2048) (hl : l < 128)
    (h0 : (i 0).val = 2048 * (t / 2 % 2) + s) (h1 : (i 1).val = 128 * (t / 4) + l) : ((f (dat Q B C t) s l : ℝ) : EReal) = arr f Q B C i := by
  unfold arr
  rw [h0, h1, show (128 * (t / 4) + l) / 128 = t / 4 by omega, show (128 * (t / 4) + l) % 128 = l by omega,
    show (2048 * (t / 2 % 2) + s) / 2048 = t / 2 % 2 by omega, show (2048 * (t / 2 % 2) + s) % 2048 = s by omega]

theorem arr_dq (h : ∀ t, (realSpec Q B C).dq t (d.after 5 t)) : d.arrAt 5 cfg0.N = arr Seq.dq Q B C :=
  d.arrAt_eq_of_emb 5 _ (fun t _ y => by
    obtain ⟨r, l, rfl⟩ := exists_ix2 y
    exact (h t r l).trans (arr_block Seq.dq (by omega) l.isLt ((tile_at (index_dq t).1 1024 r).trans (by omega)) (tile_at (index_dq t).2 128 l)))
    fun i => (blocks_cover 1024 128 rfl rfl win0_5.index places_dq (fun _ => ⟨_, rfl⟩) i).imp fun t ht => ⟨flush0_5 t, in_slice ht⟩

/-- An entry of a block of a whole sequence, read off the array. -/
theorem place_k (f : Seq → ℕ → ℕ → ℝ) (t : Fin cfg0.N) (s : Fin 2048) (l : Fin 128) :
    ((f (dat Q B C t.val) s.val l.val : ℝ) : EReal) = arr f Q B C (((cfg0.win 6).blk t).view.emb (ix2 s l)) :=
  arr_block f s.isLt l.isLt (tile_at (index_dk t).1 2048 s) (tile_at (index_dk t).2 128 l)

/-- The blocks of whole sequences written back cover the array. -/
theorem covered_k (i : S4096x1024.Idx) : ∃ t : Fin cfg0.N, t.val % 2 = 1 ∧ i ∈ (win0_6.rect t).set :=
  ok_cover (ok := fun t => t.val % 2 = 1) 2048 128 rfl rfl win0_6.index places_dk (fun _ => ⟨_, rfl⟩) i

theorem arr_dk (h : ∀ t, (cfg0.win 6).flush t = true → (realSpec Q B C).dk t (d.after 6 t)) :
    d.arrAt 6 cfg0.N = arr (fun D => D.sumK 16) Q B C :=
  d.arrAt_eq_of_emb 6 (arr (fun D => D.sumK 16) Q B C) (fun t hf y => by
    obtain ⟨s, l, rfl⟩ := exists_ix2 y
    exact (h t hf ((flush0_6 t).mp hf) s l).trans (place_k (fun D => D.sumK 16) t s l)) fun i =>
    (covered_k i).imp fun t ht => ⟨(flush0_6 t).mpr ht.1, in_slice ht.2⟩

theorem arr_dv (h : ∀ t, (cfg0.win 7).flush t = true → (realSpec Q B C).dv t (d.after 7 t)) :
    d.arrAt 7 cfg0.N = arr (fun D => D.sumV 16) Q B C :=
  d.arrAt_eq_of_emb 7 (arr (fun D => D.sumV 16) Q B C) (fun t hf y => by
    obtain ⟨s, l, rfl⟩ := exists_ix2 y
    exact (h t hf ((flush0_7 t).mp hf) s l).trans (place_k (fun D => D.sumV 16) t s l)) fun i =>
    (covered_k i).imp fun t ht => ⟨(flush0_7 t).mpr ht.1, in_slice ht.2⟩

theorem arr_db (h : ∀ t, (cfg0.win 8).flush t = true → (realSpec Q B C).db t (d.after 8 t)) : d.arrAt 8 cfg0.N = arrB Q B C :=
  d.arrAt_eq_of_emb 8 (arrB Q B C) (fun t hf y => by
    have ht : t.val < 32 := t.isLt
    have h4 := (flush0_8 t).mp hf
    show d.after 8 t y = _
    obtain ⟨p, r, j, rfl⟩ : ∃ (p : Fin 2) (r : Fin 128) (j : Fin 640), y = ix3 p r j := ⟨y 0, y 1, y 2, eq_ix3 y⟩
    have e : arrB Q B C (ix3 (⟨2 * (t.val / 4) + p.val, by omega⟩ : Fin 16) r j) = ((bandTo Q B C (t.val / 4) (t.val % 4 + 1) p r j : ℝ) : EReal) := by
      show ((bandTo Q B C ((2 * (t.val / 4) + p.val) / 2) 4 ((2 * (t.val / 4) + p.val) % 2) r.val j.val : ℝ) : EReal) = _
      rw [show (2 * (t.val / 4) + p.val) / 2 = t.val / 4 by omega, show (2 * (t.val / 4) + p.val) % 2 = p.val by omega, h4]
    refine (h t hf p r j).trans (e.symm.trans (congrArg _ (funext fun a => Fin.ext ?_)))
    match a with
    | ⟨0, _⟩ => show 2 * (t.val / 4) + p.val = win0_8.index t 0 * 2 + 1 * p.val; rw [(index_db t).1]; omega
    | ⟨1, _⟩ => show r.val = win0_8.index t 1 * 128 + 1 * r.val; rw [(index_db t).2.1]; omega
    | ⟨2, _⟩ => show j.val = win0_8.index t 2 * 640 + 1 * j.val; rw [(index_db t).2.2]; omega) fun i => by
    have h0 : (i 0).val < 16 := (i 0).isLt
    have h1 : (i 1).val < 128 := (i 1).isLt
    have h2 : (i 2).val < 640 := (i 2).isLt
    obtain ⟨t, ht⟩ : ∃ t : Fin cfg0.N, t.val = 4 * ((i 0).val / 2) + 3 :=
      ⟨⟨4 * ((i 0).val / 2) + 3, by rw [show cfg0.N = 32 from N_0]; omega⟩, rfl⟩
    refine ⟨t, (flush0_8 t).mpr (by omega), ?_⟩
    show i ∈ ((View.whole main_v16_3).slice (win0_8.rect t)).set
    rw [View.set_slice_whole, Rect.mem_set_unit]
    intro a
    match a with
    | ⟨0, _⟩ =>
      show win0_8.index t 0 * 2 ≤ (i 0).val ∧ (i 0).val < win0_8.index t 0 * 2 + 2
      rw [(index_db t).1]; omega
    | ⟨1, _⟩ =>
      show win0_8.index t 1 * 128 ≤ (i 1).val ∧ (i 1).val < win0_8.index t 1 * 128 + 128
      rw [(index_db t).2.1]; omega
    | ⟨2, _⟩ =>
      show win0_8.index t 2 * 640 ≤ (i 2).val ∧ (i 2).val < win0_8.index t 2 * 640 + 640
      rw [(index_db t).2.2]; omega

end Arrays

/-- The kernel's run for real arguments: the four gradients, the arguments unchanged. -/
theorem run_real (m : (ℓ : Loc nD τ sig) → Buf (Elt Ideal) ℓ) (ρ : Dev nD → PrngReg) (Q B C : Dev nD → ℕ → ℕ → ℝ)
    (hR : ∀ c, Real m c (Q c) (B c) (C c)) :
    θ_run defs (onTc (τ := τ) (main (F := Ideal))) ⟨m, fun _ => 0, ρ⟩ fun r => ∀ c : Dev nD,
      r.2.mem ((c.tc : Thread nD τ).loc main_v16_0) = arr Seq.dq (Q c) (B c) (C c)
      ∧ r.2.mem ((c.tc : Thread nD τ).loc main_v16_1) = arr (fun D => D.sumK 16) (Q c) (B c) (C c)
      ∧ r.2.mem ((c.tc : Thread nD τ).loc main_v16_2) = arr (fun D => D.sumV 16) (Q c) (B c) (C c)
      ∧ r.2.mem ((c.tc : Thread nD τ).loc main_v16_3) = arrB (Q c) (B c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      obtain ⟨after, hL, hA⟩ := h.1.exists_exact c
      refine ⟨(hA 5).trans (arr_dq _ fun t => ?_), (hA 6).trans (arr_dk _ fun t hf => ?_), (hA 7).trans (arr_dv _ fun t hf => ?_),
        (hA 8).trans (arr_db _ fun t hf => ?_),
        (Pipeline.RDat.FramePost.arr_in h.1 c 2 rfl).trans (V_main_arg0 m c),
        ((h.1 c).2 main_arg1 (Pipeline.mem_restRefs_of main_arg1 (by decide) (by decide))).trans (V_main_arg1 m c),
        (Pipeline.RDat.FramePost.arr_in h.1 c 4 rfl).trans (V_main_arg2 m c)⟩
      · exact Pipeline.Dat.toRRel_leaves _ (by decide) (hL 5 t (flush0_5 t))
      · exact Pipeline.Dat.toRRel_leaves _ (by decide) (hL 6 t hf)
      · exact Pipeline.Dat.toRRel_leaves _ (by decide) (hL 7 t hf)
      · exact Pipeline.Dat.toRRel_leaves _ (by decide) (hL 8 t hf))
    (run_main (S := fun c => realSpec (Q c) (B c) (C c)) ρ fun c => realSpec_kept m c (hR c))

end Cert.AttnARun
end
-- ==== Proof.AttnARefRow.lean ====
module

public import proofs.«01_k».proof.Proof.AttnBRefValue
public import proofs.«01_k».proof.Proof.AttnAArr
public import proofs.«01_k».proof.Proof.Gen.AttnARefIdeal.Read
public import Idealize.ShloMosaic.Lib.Pointwise

/-! The chunked-attention reference's scores, weights and their gradients, for real arguments. -/

@[expose] public section

set_option maxRecDepth 16384

noncomputable section

namespace Cert.AttnARun

open Idealize.ShloMosaic Idealize.ShloMosaic.TcCoe Idealize.SL.Sem Idealize.ShloMosaic.Tactic
open Cert.AttnARefIdeal Cert.AttnARefIdeal.Gen Cert.AttnARefIdeal.Read
open Cert.AttnBRun (Is4 ln lane_eq entry split_row sum_mul head_sum zero_bits bot_bits sum_fin ofBits_eighth_f32)

/-- The numbers of a sequence's head: those of its pair of heads. -/
abbrev sq (Q B C : ℕ → ℕ → ℝ) (b h : ℕ) : Seq := seqAt Q B C (h / 2) b

/-- The sign of a word. -/
def sgnWord (w : BitVec 32) : BitVec 32 := if w = 0 then 0 else if w.msb then -1 else 1
/-- A word divided by 64 and rounded down. -/
def chunkWord (w : BitVec 32) : BitVec 32 :=
  Scalar.select (IntOp.andi (IntOp.cmpi .ne (sgnWord w) (sgnWord 64#32)) (IntOp.cmpi .ne (IntOp.remsi .host w 64#32) 0#32))
    (IntOp.subi (IntOp.divsi .host w 64#32) 1#32) (IntOp.divsi .host w 64#32)

/-- A position's chunk. -/
theorem chunkWord_eq : ∀ x : Fin 2048, chunkWord (BitVec.ofNat 32 x.val) = BitVec.ofNat 32 (x.val / 64) := by decide +kernel

/-- Whether a chunk attends to another. -/
theorem chunk_le : ∀ a b : Fin 32, IntOp.andi (IntOp.cmpi CmpIPredicate.sle (BitVec.ofNat 32 b.val) (BitVec.ofNat 32 a.val))
    (IntOp.cmpi CmpIPredicate.sle (BitVec.ofNat 32 a.val) (IntOp.addi (BitVec.ofNat 32 b.val) 8#32))
    = if b.val ≤ a.val ∧ a.val ≤ b.val + 8 then 1#1 else 0#1 := by decide +kernel

theorem row_chunk (i : S2048x2048.Idx) : val_main_v33 (F := Ideal) i = BitVec.ofNat 32 ((i 0).val / 64) := by
  refine Eq.trans ?_ (chunkWord_eq ⟨(i 0).val, (i 0).isLt⟩)
  rw [val_main_v33_apply, val_main_call1_v11_apply, val_main_call1_v6_apply, val_main_call1_v10_apply, val_main_call1_v13_apply,
    val_main_call1_v2_apply, val_main_call1_v8_apply, val_main_call1_v5_apply, val_main_call1_v1_apply, val_main_call1_v7_apply,
    val_main_call1_v9_apply, val_main_call1_v12_apply]
  rfl

theorem col_chunk (i : S2048x2048.Idx) : val_main_v35 (F := Ideal) i = BitVec.ofNat 32 ((i 1).val / 64) := by
  refine Eq.trans ?_ (chunkWord_eq ⟨(i 1).val, (i 1).isLt⟩)
  rw [val_main_v35_apply, val_main_call2_v11_apply, val_main_call2_v6_apply, val_main_call2_v10_apply, val_main_call2_v13_apply,
    val_main_call2_v2_apply, val_main_call2_v8_apply, val_main_call2_v5_apply, val_main_call2_v1_apply, val_main_call2_v7_apply,
    val_main_call2_v9_apply, val_main_call2_v12_apply]
  rfl

/-- Whether a query attends to a key. -/
theorem attended (i : S2x16x2048x2048.Idx) {α : Type} (x y : α) :
    Scalar.select (val_main_v41_1 (F := Ideal) i) x y = if Ok (i 2).val (i 3).val then x else y := by
  have h2 : (i 2).val < 2048 := (i 2).isLt
  have h3 : (i 3).val < 2048 := (i 3).isLt
  rw [val_main_v41_1_apply, val_main_v40_apply, val_main_v36_apply, val_main_v39_apply, val_main_v38_apply, val_main_v37_apply,
    val_main_c_6_apply, row_chunk, col_chunk]
  have h := chunk_le ⟨(i 2).val / 64, by omega⟩ ⟨(i 3).val / 64, by omega⟩
  dsimp only at h
  show Scalar.select (IntOp.andi (IntOp.cmpi CmpIPredicate.sle (BitVec.ofNat 32 ((i 3).val / 64)) (BitVec.ofNat 32 ((i 2).val / 64)))
    (IntOp.cmpi CmpIPredicate.sle (BitVec.ofNat 32 ((i 2).val / 64)) (IntOp.addi (BitVec.ofNat 32 ((i 3).val / 64)) 8#32))) x y = _
  rw [h]
  by_cases hk : Ok (i 2).val (i 3).val
  · rw [if_pos hk, if_pos hk]; rfl
  · rw [if_neg hk, if_neg hk]; rfl

/-- A row's exponentials, its largest score subtracted: one positive number times the exponentials. -/
theorem exp_row {n : ℕ} (P : ℕ → Prop) [DecidablePred P] (z : ℕ → ℝ) (hP : ∃ j : Fin n, P j) (f : Fin n → EReal)
    (hf : ∀ j : Fin n, f j = if P j then ((z j : ℝ) : EReal) else ⊥) :
    ∃ x : ℝ, 0 < x ∧ ∀ j, Ideal.exp (f j - max ⊥ (Finset.fold max ⊥ f Finset.univ)) = (((if P j then Real.exp (z j) else 0) * x : ℝ) : EReal) := by
  obtain ⟨M, hM⟩ := max_real f (fun j => by rw [hf]; split <;> simp) (hP.imp fun j hj => by rw [hf, if_pos hj]; simp)
  refine ⟨Real.exp (-M), Real.exp_pos _, fun j => ?_⟩
  rw [hM, max_eq_right bot_le, hf]; split
  · rw [← EReal.coe_sub, Ideal.exp_coe, sub_eq_add_neg, Real.exp_add]
  · rw [EReal.bot_sub, Ideal.exp_bot, zero_mul, EReal.coe_zero]

variable {x0 : (⟨S4096x3072, .bf16⟩ : BufTy).Contents (Elt Ideal)} {x1 : (⟨S257x16, .f32⟩ : BufTy).Contents (Elt Ideal)}
  {x2 : (⟨S4096x1024, .bf16⟩ : BufTy).Contents (Elt Ideal)} {Q B C : ℕ → ℕ → ℝ}

section Inputs

variable (hQ : ∀ (t : Fin 4096) (l : Fin 3072), x0 (ix2 t l) = ((Q t l : ℝ) : EReal))

section Packed
include hQ

theorem q_real : Is4 (val_main_v3 (F := Ideal) x0) fun b t h d => (sq Q B C b h).q t (ln h d) := fun i => by
  rw [val_main_v3_apply, val_main_v2_apply, val_main_v1_apply, val_main_v0_apply]
  have := split_row (o := 0) (i 0).isLt (i 1).isLt (i 2).isLt (i 3).isLt (by omega)
  refine (entry hQ (o := 0) (i 0).isLt (i 1).isLt (i 2).isLt (i 3).isLt (by omega) _ this.1 this.2).trans ?_
  rw [Nat.mul_zero, Nat.zero_add]
  rfl

theorem k_real : Is4 (val_main_v7 (F := Ideal) x0) fun b t h d => (sq Q B C b h).k t (ln h d) := fun i => by
  rw [val_main_v7_apply, val_main_v6_apply, val_main_v5_apply, val_main_v4_apply]
  have := split_row (o := 1) (i 0).isLt (i 1).isLt (i 2).isLt (i 3).isLt (by omega)
  exact entry hQ (o := 1) (i 0).isLt (i 1).isLt (i 2).isLt (i 3).isLt (by omega) _ this.1 this.2

theorem v_real : Is4 (val_main_v11 (F := Ideal) x0) fun b t h d => (sq Q B C b h).v t (ln h d) := fun i => by
  rw [val_main_v11_apply, val_main_v10_apply, val_main_v9_apply, val_main_v8_apply]
  have := split_row (o := 2) (i 0).isLt (i 1).isLt (i 2).isLt (i 3).isLt (by omega)
  exact entry hQ (o := 2) (i 0).isLt (i 1).isLt (i 2).isLt (i 3).isLt (by omega) _ this.1 this.2
end Packed

section Scores
variable (hB : ∀ (x : Fin 257) (h : Fin 16), x1 (ix2 x h) = ((B x h : ℝ) : EReal))

include hB in
/-- The bias of a key from a query: the table's entry of their relative position. -/
theorem bias_real (i : S2x16x2048x2048.Idx) :
    val_main_v30 (F := Ideal) x1 i = (((sq Q B C (i 0).val (i 1).val).c ((i 1).val % 2) (min 256 ((i 2).val + 128 - (i 3).val)) : ℝ) : EReal) := by
  have h1 : (i 1).val < 16 := (i 1).isLt
  have h2 : (i 2).val < 2048 := (i 2).isLt
  have h3 : (i 3).val < 2048 := (i 3).isLt
  rw [val_main_v30_apply, val_main_v29_apply, val_main_v25_apply]
  unfold val_main_v24
  have e : idx_main_v25 (idx_main_v29 (idx_main_v30 i)) = ix3 (⟨(i 2).val, h2⟩ : Fin 2048) (⟨(i 3).val, h3⟩ : Fin 2048) (⟨(i 1).val, h1⟩ : Fin 16) := by
    funext a
    match a with
    | ⟨0, _⟩ => rfl
    | ⟨1, _⟩ => rfl
    | ⟨2, _⟩ => rfl
  rw [e]
  have hw : val_main_v23 (F := Ideal) (ix3 (⟨(i 2).val, h2⟩ : Fin 2048) (⟨(i 3).val, h3⟩ : Fin 2048) (0 : Fin 1))
      = rowWord (BitVec.ofNat 32 (i 2).val - BitVec.ofNat 32 (i 3).val) := by
    rw [val_main_v23_apply, val_main_v22_apply, val_main_v21_apply, val_main_v19_apply, val_main_v17_apply, val_main_v15_apply,
      val_main_call0_v2_apply, val_main_call0_v1_apply, val_main_call0_v4_apply, val_main_v16_apply, val_main_v18_apply, val_main_v20_apply]
    rfl
  refine (gather_row_apply (N := 257) (C := 16) (R := 2048) (S := 2048) (by decide)
    gather_S257x16_S2048x2048x1_S2048x2048x16_2_0_n_n_0_2_116.wf x1 _ _ _ _).trans ?_
  refine (hB _ _).trans (congrArg Real.toEReal ?_)
  show B (min (val_main_v23 (F := Ideal) (ix3 (⟨(i 2).val, h2⟩ : Fin 2048) (⟨(i 3).val, h3⟩ : Fin 2048) (0 : Fin 1))).toInt.toNat 256) (i 1).val
    = B (min 256 ((i 2).val + 128 - (i 3).val)) (2 * ((i 1).val / 2) + (i 1).val % 2)
  rw [hw, rowWord_sub _ _ h2 h3, Nat.div_add_mod]

include hQ hB

theorem z_real : Is4 (val_main_v31 (F := Ideal) x0 x1) fun b h t s => (sq Q B C b h).z (h % 2) t s := fun i => by
  rw [val_main_v31_apply, val_main_v28_apply, val_main_v27_apply, val_main_cst_apply, val_main_v26_apply, bias_real (Q := Q) (C := C) hB,
    sum_mul (fun d => (sq Q B C (i 0).val (i 1).val).q (i 2).val (ln (i 1).val d)) (fun d => (sq Q B C (i 0).val (i 1).val).k (i 3).val (ln (i 1).val d))
      (fun k => q_real (B := B) (C := C) hQ (lidx_main_v26 i k)) (fun k => k_real (B := B) (C := C) hQ (ridx_main_v26 i k))]
  show _ * Ideal.ofBits FTy.f32 _ + _ = _
  rw [ofBits_eighth_f32, ← EReal.coe_mul, ← EReal.coe_add]
  refine congrArg Real.toEReal ?_
  unfold Seq.z hs
  rw [head_sum (fun l => (sq Q B C (i 0).val (i 1).val).q (i 2).val l) (fun l => (sq Q B C (i 0).val (i 1).val).k (i 3).val l)]

theorem masked_real (i : S2x16x2048x2048.Idx) : val_main_v41_0 (F := Ideal) x0 x1 i
    = if Ok (i 2).val (i 3).val then (((sq Q B C (i 0).val (i 1).val).z ((i 1).val % 2) (i 2).val (i 3).val : ℝ) : EReal) else ⊥ := by
  rw [val_main_v41_0_apply, attended, z_real (C := C) hQ hB i, val_main_call3_v2_apply, val_main_call3_v0_apply, val_main_cst_7_apply, bot_bits]

/-- A row's exponentials. -/
theorem ex_real {b h t : ℕ} (hb : b < 2) (hh : h < 16) (ht : t < 2048) : ∃ x : ℝ, 0 < x ∧ ∀ i : S2x16x2048x2048.Idx,
    (i 0).val = b → (i 1).val = h → (i 2).val = t → val_main_v62 (F := Ideal) x0 x1 i = (((sq Q B C b h).e (h % 2) t (i 3).val * x : ℝ) : EReal) := by
  obtain ⟨x, hx, he⟩ := exp_row (n := 2048) (Ok t) ((sq Q B C b h).z (h % 2) t) ⟨⟨t, ht⟩, by unfold Ok; dsimp only; omega⟩
    (fun k => val_main_v41_0 (F := Ideal) x0 x1 (ix4 (⟨b, hb⟩ : Fin 2) (⟨h, hh⟩ : Fin 16) (⟨t, ht⟩ : Fin 2048) k))
    fun k => masked_real (C := C) hQ hB _
  refine ⟨x, hx, fun i h0 h1 h2 => ?_⟩
  subst h0 h1 h2
  refine Eq.trans ?_ (he (i 3))
  have hm : val_main_v42 (F := Ideal) x0 x1 (idx_main_v59 (idx_main_v60 i)) = Finset.fold max ⊥
      (fun k => val_main_v41_0 (F := Ideal) x0 x1 (ix4 (⟨(i 0).val, hb⟩ : Fin 2) (⟨(i 1).val, hh⟩ : Fin 16) (⟨(i 2).val, ht⟩ : Fin 2048) k)) Finset.univ := by
    unfold val_main_v42
    pointwise
    rw [val_main_cst_8_apply, bot_bits]
  rw [val_main_v62_apply, val_main_v61_apply, val_main_v60_apply, val_main_v59_apply, val_main_v49_apply, val_main_v48_apply,
    val_main_cst_10_apply, bot_bits, hm]
  have hi : i = ix4 (⟨(i 0).val, hb⟩ : Fin 2) (⟨(i 1).val, hh⟩ : Fin 16) (⟨(i 2).val, ht⟩ : Fin 2048) (i 3) := eq_ix4 i
  show Ideal.exp (val_main_v41_0 (F := Ideal) x0 x1 i - max ⊥ _) = _
  exact congrArg (fun k => Ideal.exp (val_main_v41_0 (F := Ideal) x0 x1 k - max ⊥ _)) hi

end Scores

end Inputs

end Cert.AttnARun
end
-- ==== Proof.AttnARefValue.lean ====
module

public import proofs.«01_k».proof.Proof.AttnARefRow

/-! The chunked-attention reference's gradients of the queries, the keys and the values, for real arguments. -/

@[expose] public section

set_option maxRecDepth 16384

noncomputable section

namespace Cert.AttnARun

open Idealize.ShloMosaic Idealize.ShloMosaic.TcCoe Idealize.SL.Sem
open Cert.AttnARefIdeal Cert.AttnARefIdeal.Gen Cert.AttnARefIdeal.Read
open Cert.AttnBRun (Is4 ln lane_eq sum_mul head_sum zero_bits sum_fin ofBits_eighth_f32)

theorem one_bits : Ideal.ofBits FTy.f32 0x3F800000#32 = ((1 : ℝ) : EReal) := by
  simp [Ideal.ofBits, Ideal.ieee]
  rw [← EReal.coe_mul]
  norm_num

/-- A query's exponentials have a positive sum: it attends to itself. -/
theorem Seq.e_sum_pos (D : Seq) (h : ℕ) {t : ℕ} (ht : t < 2048) : 0 < ∑ s ∈ Finset.range 2048, D.e h t s := by
  refine Finset.sum_pos' (fun s _ => by unfold Seq.e; split <;> positivity) ⟨t, Finset.mem_range.2 ht, ?_⟩
  unfold Seq.e
  rw [if_pos (by unfold Ok; omega)]
  exact Real.exp_pos _

theorem ln_div (h d : ℕ) (hd : d < 64) : ln h d / 64 = h % 2 := by unfold ln; omega

variable {x0 : (⟨S4096x3072, .bf16⟩ : BufTy).Contents (Elt Ideal)} {x1 : (⟨S257x16, .f32⟩ : BufTy).Contents (Elt Ideal)}
  {x2 : (⟨S4096x1024, .bf16⟩ : BufTy).Contents (Elt Ideal)} {Q B C : ℕ → ℕ → ℝ}

/-- A gradient of the reference, laid out by rows and lanes. -/
theorem flat {X : S2x2048x16x64.Idx → EReal} {f : Seq → ℕ → ℕ → ℝ} (hX : Is4 X fun b t h d => f (sq Q B C b h) t (ln h d)) (i : S4096x1024.Idx) :
    X (idx_main_v134 i) = arr f Q B C i := by
  have h0 : (i 0).val < 4096 := (i 0).isLt
  have h1 : (i 1).val < 1024 := (i 1).isLt
  refine (hX _).trans ?_
  show ((f (seqAt Q B C (((i 0).val * 1024 + (i 1).val) / 64 % 16 / 2) (((i 0).val * 1024 + (i 1).val) / 2097152)) (((i 0).val * 1024 + (i 1).val) / 1024 % 2048)
    (64 * (((i 0).val * 1024 + (i 1).val) / 64 % 16 % 2) + ((i 0).val * 1024 + (i 1).val) % 64) : ℝ) : EReal) = _
  rw [show ((i 0).val * 1024 + (i 1).val) / 64 % 16 / 2 = (i 1).val / 128 by omega, show ((i 0).val * 1024 + (i 1).val) / 2097152 = (i 0).val / 2048 by omega,
    show ((i 0).val * 1024 + (i 1).val) / 1024 % 2048 = (i 0).val % 2048 by omega,
    show 64 * (((i 0).val * 1024 + (i 1).val) / 64 % 16 % 2) + ((i 0).val * 1024 + (i 1).val) % 64 = (i 1).val % 128 by omega]
  rfl

section Row

variable {b h t : ℕ} {x : ℝ} (he : ∀ i : S2x16x2048x2048.Idx, (i 0).val = b → (i 1).val = h → (i 2).val = t →
  val_main_v62 (F := Ideal) x0 x1 i = (((sq Q B C b h).e (h % 2) t (i 3).val * x : ℝ) : EReal))
include he

/-- The sum of a row's exponentials. -/
theorem sum_real (j : S2x16x2048.Idx) (h0 : (j 0).val = b) (h1 : (j 1).val = h) (h2 : (j 2).val = t) :
    val_main_v63 (F := Ideal) x0 x1 j = (((∑ s ∈ Finset.range 2048, (sq Q B C b h).e (h % 2) t s) * x : ℝ) : EReal) := by
  rw [val_main_v63_apply, val_main_cst_16_apply, zero_bits, zero_add,
    Finset.sum_congr rfl fun k _ => he (idx_main_v63 j k) h0 h1 h2, sum_fin 2048 fun s => (sq Q B C b h).e (h % 2) t s * x, Finset.sum_mul]

/-- One over its square. -/
theorem square_real (hS : (∑ s ∈ Finset.range 2048, (sq Q B C b h).e (h % 2) t s) * x ≠ 0) (j : S2x16x2048x1.Idx)
    (h0 : (j 0).val = b) (h1 : (j 1).val = h) (h2 : (j 2).val = t) : val_main_v69 (F := Ideal) x0 x1 j
      = ((1 / ((∑ s ∈ Finset.range 2048, (sq Q B C b h).e (h % 2) t s) * x * ((∑ s ∈ Finset.range 2048, (sq Q B C b h).e (h % 2) t s) * x)) : ℝ) : EReal) := by
  rw [val_main_v69_apply, val_main_v68_apply, val_main_cst_17_apply, val_main_v67_apply, val_main_v64_apply, sum_real he _ h0 h1 h2]
  show Ideal.div (Ideal.ofBits FTy.f32 _) (_ * _) = _
  rw [one_bits, ← EReal.coe_mul, Ideal.div_coe (mul_ne_zero hS hS), EReal.coe_one, one_mul]

end Row

section Inputs

variable (hQ : ∀ (t : Fin 4096) (l : Fin 3072), x0 (ix2 t l) = ((Q t l : ℝ) : EReal))
  (hB : ∀ (x : Fin 257) (h : Fin 16), x1 (ix2 x h) = ((B x h : ℝ) : EReal))
  (hC : ∀ (t : Fin 4096) (l : Fin 1024), x2 (ix2 t l) = ((C t l : ℝ) : EReal))

include hQ hB in
theorem p_real : Is4 (val_main_v66 (F := Ideal) x0 x1) fun b h t s => (sq Q B C b h).p (h % 2) t s := fun i => by
  obtain ⟨x, hx, he⟩ := ex_real (C := C) hQ hB (i 0).isLt (i 1).isLt (i 2).isLt
  have hS := (sq Q B C (i 0).val (i 1).val).e_sum_pos ((i 1).val % 2) (i 2).isLt
  rw [val_main_v66_apply, val_main_v65_apply, val_main_v64_apply, sum_real he _ rfl rfl rfl, he i rfl rfl rfl]
  show Ideal.div _ _ = _
  rw [Ideal.div_coe (mul_ne_zero hS.ne' hx.ne')]
  refine congrArg Real.toEReal ?_
  rw [mul_one_div]
  exact mul_div_mul_right _ _ hx.ne'

include hC in
theorem g_real : Is4 (val_main_v73 (F := Ideal) x2) fun b t h d => (sq Q B C b h).g t (ln h d) := fun i => by
  have h0 : (i 0).val < 2 := (i 0).isLt
  have h1 : (i 1).val < 2048 := (i 1).isLt
  have h2 : (i 2).val < 16 := (i 2).isLt
  have h3 : (i 3).val < 64 := (i 3).isLt
  rw [val_main_v73_apply, val_main_v72_apply]
  show x2 _ = ((C (2048 * (i 0).val + (i 1).val) (128 * ((i 2).val / 2) + ln (i 2).val (i 3).val) : ℝ) : EReal)
  rw [lane_eq]
  refine Eq.trans (congrArg x2 (?_ : _ = ix2 (⟨2048 * (i 0).val + (i 1).val, by omega⟩ : Fin 4096) (⟨64 * (i 2).val + (i 3).val, by omega⟩ : Fin 1024))) (hC _ _)
  funext a
  apply Fin.ext
  match a with
  | ⟨0, _⟩ => show ((((i 0).val * 2048 + (i 1).val) * 16 + (i 2).val) * 64 + (i 3).val) / 1024 = 2048 * (i 0).val + (i 1).val; omega
  | ⟨1, _⟩ => show ((((i 0).val * 2048 + (i 1).val) * 16 + (i 2).val) * 64 + (i 3).val) % 1024 = 64 * (i 2).val + (i 3).val; omega

include hC in
theorem gt_real : Is4 (val_main_v74 (F := Ideal) x2) fun b h d t => (sq Q B C b h).g t (ln h d) := fun i => by
  rw [val_main_v74_apply]
  exact g_real (Q := Q) (B := B) hC (idx_main_v74 i)

include hQ hC in
theorem dp_real : Is4 (val_main_v75 (F := Ideal) x0 x2) fun b h t s => (sq Q B C b h).dp (h % 2) t s := fun i => by
  rw [val_main_v75_apply,
    sum_mul (fun d => (sq Q B C (i 0).val (i 1).val).g (i 2).val (ln (i 1).val d)) (fun d => (sq Q B C (i 0).val (i 1).val).v (i 3).val (ln (i 1).val d))
      (fun k => gt_real (Q := Q) (B := B) hC (lidx_main_v75 i k)) (fun k => v_real (B := B) (C := C) hQ (ridx_main_v75 i k))]
  refine congrArg Real.toEReal ?_
  exact head_sum (fun l => (sq Q B C (i 0).val (i 1).val).g (i 2).val l) (fun l => (sq Q B C (i 0).val (i 1).val).v (i 3).val l) (i 1).val

include hQ hB hC

theorem ds_real : Is4 (val_main_v90 (F := Ideal) x0 x1 x2) fun b h t s => (sq Q B C b h).ds (h % 2) t s := fun i => by
  have b0 : (i 0).val < 2 := (i 0).isLt
  have b1 : (i 1).val < 16 := (i 1).isLt
  have b2 : (i 2).val < 2048 := (i 2).isLt
  obtain ⟨x, hx, he⟩ := ex_real (C := C) hQ hB b0 b1 b2
  have hS := (sq Q B C (i 0).val (i 1).val).e_sum_pos ((i 1).val % 2) b2
  have hSx := mul_ne_zero hS.ne' hx.ne'
  rw [val_main_v90_apply, attended, val_main_call4_v0_apply, val_main_call4_cst_apply, zero_bits]
  split
  case isFalse hk => dsimp only; rw [Seq.ds_zero _ _ hk, EReal.coe_zero]
  rw [val_main_v89_apply, val_main_v88_apply, val_main_v85_apply, val_main_v84_apply, val_main_v64_apply, val_main_v87_apply, val_main_v86_apply,
    val_main_cst_19_apply, zero_bits, zero_add, Fin.sum_univ_one, val_main_v83_apply, val_main_v82_apply, val_main_v81_apply,
    val_main_cst_18_apply, zero_bits, zero_add, sum_real he _ rfl rfl rfl, dp_real (B := B) hQ hC i, he i rfl rfl rfl]
  have hrow : ∀ k : Fin 2048, val_main_v80 (F := Ideal) x0 x1 x2 (idx_main_v81 (idx_main_v82 (idx_main_v86 (idx_main_v87 i) 0)) k)
      = (((sq Q B C (i 0).val (i 1).val).dp ((i 1).val % 2) (i 2).val k.val
        * (1 / ((∑ s ∈ Finset.range 2048, (sq Q B C (i 0).val (i 1).val).e ((i 1).val % 2) (i 2).val s) * x
          * ((∑ s ∈ Finset.range 2048, (sq Q B C (i 0).val (i 1).val).e ((i 1).val % 2) (i 2).val s) * x)))
        * ((sq Q B C (i 0).val (i 1).val).e ((i 1).val % 2) (i 2).val k.val * x) : ℝ) : EReal) := fun k => by
    have e : idx_main_v81 (idx_main_v82 (idx_main_v86 (idx_main_v87 i) 0)) k
        = ix4 (⟨(i 0).val, b0⟩ : Fin 2) (⟨(i 1).val, b1⟩ : Fin 16) (⟨(i 2).val, b2⟩ : Fin 2048) k := by
      funext a
      apply Fin.ext
      match a with
      | ⟨0, _⟩ => show ((((i 0).val * 16 + (i 1).val) * 2048 + (i 2).val) * 1 + 0) / 32768 = (i 0).val; omega
      | ⟨1, _⟩ => show ((((i 0).val * 16 + (i 1).val) * 2048 + (i 2).val) * 1 + 0) / 2048 % 16 = (i 1).val; omega
      | ⟨2, _⟩ => show ((((i 0).val * 16 + (i 1).val) * 2048 + (i 2).val) * 1 + 0) % 2048 = (i 2).val; omega
      | ⟨3, _⟩ => rfl
    have d := dp_real (B := B) hQ hC (ix4 (⟨(i 0).val, b0⟩ : Fin 2) (⟨(i 1).val, b1⟩ : Fin 16) (⟨(i 2).val, b2⟩ : Fin 2048) k)
    have w := he (ix4 (⟨(i 0).val, b0⟩ : Fin 2) (⟨(i 1).val, b1⟩ : Fin 16) (⟨(i 2).val, b2⟩ : Fin 2048) k) rfl rfl rfl
    dsimp only at d w
    rw [e, val_main_v80_apply, val_main_v79_apply, val_main_v78_apply, d, square_real he hSx _ rfl rfl rfl, w]
    show (_ : EReal) * _ * _ = _
    rw [← EReal.coe_mul, ← EReal.coe_mul]
    rfl
  rw [Finset.sum_congr rfl fun k _ => hrow k, sum_fin 2048 fun k => (sq Q B C (i 0).val (i 1).val).dp ((i 1).val % 2) (i 2).val k
        * (1 / ((∑ s ∈ Finset.range 2048, (sq Q B C (i 0).val (i 1).val).e ((i 1).val % 2) (i 2).val s) * x
          * ((∑ s ∈ Finset.range 2048, (sq Q B C (i 0).val (i 1).val).e ((i 1).val % 2) (i 2).val s) * x)))
        * ((sq Q B C (i 0).val (i 1).val).e ((i 1).val % 2) (i 2).val k * x)]
  show (Ideal.div (_ : EReal) _ + -(_ : EReal)) * (_ : EReal) = _
  dsimp only
  rw [Ideal.div_coe hSx, ← EReal.coe_neg, ← EReal.coe_mul, ← EReal.coe_add, ← EReal.coe_mul]
  refine congrArg Real.toEReal ?_
  dsimp only
  generalize sq Q B C (i 0).val (i 1).val = D at *
  generalize (i 1).val % 2 = h at *
  unfold Seq.ds Seq.p
  generalize (∑ s ∈ Finset.range 2048, D.e h (i 2).val s) = S at *
  have es : ∑ k ∈ Finset.range 2048, D.dp h (i 2).val k * (1 / (S * x * (S * x))) * (D.e h (i 2).val k * x)
      = (∑ k ∈ Finset.range 2048, D.e h (i 2).val k / S * D.dp h (i 2).val k) / (S * x) := by
    rw [Finset.sum_div]
    refine Finset.sum_congr rfl fun k _ => ?_
    have := hS.ne'
    have := hx.ne'
    field_simp
  rw [es]
  have := hS.ne'
  have := hx.ne'
  field_simp
  ring

theorem dsc_real : Is4 (val_main_v95 (F := Ideal) x0 x1 x2) fun b h t s => (sq Q B C b h).ds (h % 2) t s * (1 / 8) := fun i => by
  rw [val_main_v95_apply, val_main_v94_apply, val_main_cst_22_apply, ds_real hQ hB hC i]
  show (_ : EReal) * Ideal.ofBits FTy.f32 _ = _
  rw [ofBits_eighth_f32, ← EReal.coe_mul]

/-- The reference's gradient of the queries is the kernel's. -/
theorem dq_eq : val_main_v135 (F := Ideal) x0 x1 x2 = arr Seq.dq Q B C := funext fun i => by
  rw [val_main_v135_apply, val_main_v134_apply]
  refine flat (X := val_main_v99 (F := Ideal) x0 x1 x2) (fun i => ?_) i
  have hd : (i 3).val < 64 := (i 3).isLt
  rw [val_main_v99_apply, val_main_v98_apply,
    sum_mul (fun s => (sq Q B C (i 0).val (i 2).val).ds ((i 2).val % 2) (i 1).val s * (1 / 8)) (fun s => (sq Q B C (i 0).val (i 2).val).k s (ln (i 2).val (i 3).val))
      (fun k => dsc_real hQ hB hC (lidx_main_v98 (idx_main_v99 i) k)) (fun k => k_real (B := B) (C := C) hQ (ridx_main_v98 (idx_main_v99 i) k))]
  refine congrArg Real.toEReal ?_
  show _ = (sq Q B C (i 0).val (i 2).val).dq (i 1).val (ln (i 2).val (i 3).val)
  unfold Seq.dq
  rw [ln_div _ _ hd, Finset.sum_mul]
  exact Finset.sum_congr rfl fun s _ => by ring

/-- The reference's gradient of the keys is the kernel's. -/
theorem dk_eq : val_main_v137 (F := Ideal) x0 x1 x2 = arr (fun D => D.sumK 16) Q B C := funext fun i => by
  rw [val_main_v137_apply, val_main_v136_apply]
  refine flat (X := val_main_v97 (F := Ideal) x0 x1 x2) (fun i => ?_) i
  have hd : (i 3).val < 64 := (i 3).isLt
  rw [val_main_v97_apply, val_main_v96_apply,
    sum_mul (fun t => (sq Q B C (i 0).val (i 2).val).ds ((i 2).val % 2) t (i 1).val * (1 / 8)) (fun t => (sq Q B C (i 0).val (i 2).val).q t (ln (i 2).val (i 3).val))
      (fun k => dsc_real hQ hB hC (lidx_main_v96 (idx_main_v97 i) k)) (fun k => q_real (B := B) (C := C) hQ (ridx_main_v96 (idx_main_v97 i) k))]
  refine congrArg Real.toEReal ?_
  show _ = (sq Q B C (i 0).val (i 2).val).sumK 16 (i 1).val (ln (i 2).val (i 3).val)
  unfold Seq.sumK Seq.addK
  rw [ln_div _ _ hd, ← Finset.sum_mul, ← sum_blocks 128 16 fun t => (sq Q B C (i 0).val (i 2).val).ds ((i 2).val % 2) t (i 1).val
    * (sq Q B C (i 0).val (i 2).val).q t (ln (i 2).val (i 3).val), Finset.sum_mul]
  exact Finset.sum_congr rfl fun s _ => by ring

/-- The reference's gradient of the values is the kernel's. -/
theorem dv_eq : val_main_v139 (F := Ideal) x0 x1 x2 = arr (fun D => D.sumV 16) Q B C := funext fun i => by
  rw [val_main_v139_apply, val_main_v138_apply]
  refine flat (X := val_main_v77 (F := Ideal) x0 x1 x2) (fun i => ?_) i
  have hd : (i 3).val < 64 := (i 3).isLt
  rw [val_main_v77_apply, val_main_v76_apply,
    sum_mul (fun t => (sq Q B C (i 0).val (i 2).val).g t (ln (i 2).val (i 3).val)) (fun t => (sq Q B C (i 0).val (i 2).val).p ((i 2).val % 2) t (i 1).val)
      (fun k => gt_real (Q := Q) (B := B) hC (lidx_main_v76 (idx_main_v77 i) k)) (fun k => p_real (C := C) hQ hB (ridx_main_v76 (idx_main_v77 i) k))]
  refine congrArg Real.toEReal ?_
  show _ = (sq Q B C (i 0).val (i 2).val).sumV 16 (i 1).val (ln (i 2).val (i 3).val)
  unfold Seq.sumV Seq.addV
  rw [ln_div _ _ hd, ← sum_blocks 128 16 fun t => (sq Q B C (i 0).val (i 2).val).p ((i 2).val % 2) t (i 1).val
    * (sq Q B C (i 0).val (i 2).val).g t (ln (i 2).val (i 3).val)]
  exact Finset.sum_congr rfl fun s _ => mul_comm _ _

end Inputs

end Cert.AttnARun
end
-- ==== Proof.AttnARefBand.lean ====
module

public import proofs.«01_k».proof.Proof.AttnARefValue
public import Idealize.ShloMosaic.Lib.KernelVsHost

/-! The chunked-attention reference's gradient of the band of biases, for real arguments. -/

@[expose] public section

set_option maxRecDepth 16384

noncomputable section

namespace Cert.AttnARun

open Idealize.ShloMosaic Idealize.ShloMosaic.TcCoe Idealize.SL.Sem
open Cert.AttnARefIdeal Cert.AttnARefIdeal.Gen Cert.AttnARefIdeal.Read
open Cert.AttnBRun (zero_bits sum_fin)

variable {x0 : (⟨S4096x3072, .bf16⟩ : BufTy).Contents (Elt Ideal)} {x1 : (⟨S257x16, .f32⟩ : BufTy).Contents (Elt Ideal)}
  {x2 : (⟨S4096x1024, .bf16⟩ : BufTy).Contents (Elt Ideal)} {Q B C : ℕ → ℕ → ℝ}

/-- What the two sequences add to the band's gradient at their tile `n`. -/
def both (Q B C : ℕ → ℕ → ℝ) (h r j n : ℕ) : ℝ := ∑ b ∈ Finset.range 2, (sq Q B C b h).addB n (h % 2) r j

/-- The kernel's order of adding, and the reference's. -/
theorem bandTo_eq (Q B C : ℕ → ℕ → ℝ) (h r j : ℕ) :
    bandTo Q B C (h / 2) 4 (h % 2) r j = ∑ n ∈ Finset.range 16, both Q B C h r j n := by
  unfold bandTo both
  simp only [Finset.sum_range_succ, Finset.sum_range_zero]
  norm_num
  ring

variable (hQ : ∀ (t : Fin 4096) (l : Fin 3072), x0 (ix2 t l) = ((Q t l : ℝ) : EReal))
  (hB : ∀ (x : Fin 257) (h : Fin 16), x1 (ix2 x h) = ((B x h : ℝ) : EReal))
  (hC : ∀ (t : Fin 4096) (l : Fin 1024), x2 (ix2 t l) = ((C t l : ℝ) : EReal))
include hQ hB hC

/-- The scores' gradients, summed over the sequences. -/
theorem dsum_real (i : S16x2048x2048.Idx) : val_main_v93 (F := Ideal) x0 x1 x2 i
    = ((∑ b ∈ Finset.range 2, (sq Q B C b (i 0).val).ds ((i 0).val % 2) (i 1).val (i 2).val : ℝ) : EReal) := by
  have b0 : (i 0).val < 16 := (i 0).isLt
  have b1 : (i 1).val < 2048 := (i 1).isLt
  have b2 : (i 2).val < 2048 := (i 2).isLt
  rw [val_main_v93_apply, val_main_cst_21_apply, zero_bits, zero_add, Fin.sum_univ_one, val_main_v92_apply, val_main_v91_apply,
    val_main_cst_20_apply, zero_bits, zero_add, ← sum_fin 2 fun b => (sq Q B C b (i 0).val).ds ((i 0).val % 2) (i 1).val (i 2).val]
  refine Finset.sum_congr rfl fun b _ => ?_
  have e : idx_main_v91 (idx_main_v92 (idx_main_v93 i 0)) b
      = ix4 b (⟨(i 0).val, b0⟩ : Fin 16) (⟨(i 1).val, b1⟩ : Fin 2048) (⟨(i 2).val, b2⟩ : Fin 2048) := by
    funext a
    apply Fin.ext
    match a with
    | ⟨0, _⟩ => rfl
    | ⟨1, _⟩ => show (((0 * 16 + (i 0).val) * 2048 + (i 1).val) * 2048 + (i 2).val) / 4194304 = (i 0).val; omega
    | ⟨2, _⟩ => show (((0 * 16 + (i 0).val) * 2048 + (i 1).val) * 2048 + (i 2).val) / 2048 % 2048 = (i 1).val; omega
    | ⟨3, _⟩ => show (((0 * 16 + (i 0).val) * 2048 + (i 1).val) * 2048 + (i 2).val) % 2048 = (i 2).val; omega
  rw [e]
  exact ds_real hQ hB hC _

/-- An entry of a tile's window of the padded scores' gradients. -/
theorem window_real (n : ℕ) {r j : ℕ} (hr : r < 128) (i : S16x2048x2560.Idx) (h1 : (i 1).val = 128 * n + r) (h2 : (i 2).val = 128 * n + j) :
    val_main_v100 (F := Ideal) x0 x1 x2 i = ((both Q B C (i 0).val r j n : ℝ) : EReal) := by
  have b0 : (i 0).val < 16 := (i 0).isLt
  have b1 : (i 1).val < 2048 := (i 1).isLt
  have b2 : (i 2).val < 2560 := (i 2).isLt
  unfold val_main_v100
  by_cases hj : 512 ≤ j + 128 * n
  · refine (pad_apply_of_inside _ _ _ _ _ _ _ i (ix3 (⟨(i 0).val, b0⟩ : Fin 16) (⟨(i 1).val, b1⟩ : Fin 2048) (⟨(i 2).val - 512, by omega⟩ : Fin 2048))
      fun a => ?_).trans ?_
    · match a with
      | ⟨0, _⟩ => show (i 0).val = 0 + (i 0).val * 1; omega
      | ⟨1, _⟩ => show (i 1).val = 0 + (i 1).val * 1; omega
      | ⟨2, _⟩ => show (i 2).val = 512 + ((i 2).val - 512) * 1; omega
    refine (dsum_real hQ hB hC _).trans (congrArg Real.toEReal (Finset.sum_congr rfl fun b _ => ?_))
    show (sq Q B C b (i 0).val).ds ((i 0).val % 2) (i 1).val ((i 2).val - 512) = _
    rw [h1, show (i 2).val - 512 = key n j by unfold key; omega]
    unfold Seq.addB
    by_cases hk : ok n r j
    · rw [if_pos hk]
    · rw [if_neg hk, Seq.ds_zero _ _ fun h => hk ⟨(Ok_key hr hj).1 h, hj⟩]
  · refine (pad_apply_of_not_inside _ _ _ _ _ _ _ i (2 : Fin 3) fun h => hj (by have : 512 ≤ (i 2).val := h.1; omega)).trans ?_
    have e : both Q B C (i 0).val r j n = 0 := Finset.sum_eq_zero fun b _ => if_neg fun h => hj h.2
    rw [e, EReal.coe_zero]
    show ((((0#32 : BitVec 32).toInt : ℝ)) : EReal) = 0
    simp

/-- The reference's gradient of the band is the kernel's. -/
theorem dband_eq : val_main_v133 (F := Ideal) x0 x1 x2 = arrB Q B C := funext fun i => by
  have hr : (i 1).val < 128 := (i 1).isLt
  have w (n : ℕ) (k : S16x2048x2560.Idx) (h0 : k 0 = i 0) (h1 : (k 1).val = 128 * n + (i 1).val) (h2 : (k 2).val = 128 * n + (i 2).val) :
      val_main_v100 (F := Ideal) x0 x1 x2 k = ((both Q B C (i 0).val (i 1).val (i 2).val n : ℝ) : EReal) := by
    rw [window_real hQ hB hC n hr k h1 h2, h0]
  have z (a : ℕ) : a = 128 * 0 + a := by omega
  unfold arrB
  rw [bandTo_eq]
  rw [val_main_v133_apply, val_main_v131_apply, val_main_v129_apply, val_main_v127_apply, val_main_v125_apply, val_main_v123_apply,
    val_main_v121_apply, val_main_v119_apply, val_main_v117_apply, val_main_v115_apply, val_main_v113_apply, val_main_v111_apply,
    val_main_v109_apply, val_main_v107_apply, val_main_v105_apply, val_main_v103_apply, val_main_v102_apply, val_main_cst_24_apply, zero_bits,
    val_main_v101_apply, val_main_v104_apply, val_main_v106_apply, val_main_v108_apply, val_main_v110_apply, val_main_v112_apply,
    val_main_v114_apply, val_main_v116_apply, val_main_v118_apply, val_main_v120_apply, val_main_v122_apply, val_main_v124_apply,
    val_main_v126_apply, val_main_v128_apply, val_main_v130_apply, val_main_v132_apply,
    w 0 (idx_main_v101 i) rfl (z _) (z _), w 1 (idx_main_v104 i) rfl rfl rfl, w 2 (idx_main_v106 i) rfl rfl rfl, w 3 (idx_main_v108 i) rfl rfl rfl,
    w 4 (idx_main_v110 i) rfl rfl rfl, w 5 (idx_main_v112 i) rfl rfl rfl, w 6 (idx_main_v114 i) rfl rfl rfl, w 7 (idx_main_v116 i) rfl rfl rfl,
    w 8 (idx_main_v118 i) rfl rfl rfl, w 9 (idx_main_v120 i) rfl rfl rfl, w 10 (idx_main_v122 i) rfl rfl rfl, w 11 (idx_main_v124 i) rfl rfl rfl,
    w 12 (idx_main_v126 i) rfl rfl rfl, w 13 (idx_main_v128 i) rfl rfl rfl, w 14 (idx_main_v130 i) rfl rfl rfl, w 15 (idx_main_v132 i) rfl rfl rfl]
  generalize both Q B C (i 0).val (i 1).val (i 2).val = f
  show (((((((((((((((((0 : EReal) + _) + _) + _) + _) + _) + _) + _) + _) + _) + _) + _) + _) + _) + _) + _) + _) = _
  simp only [Finset.sum_range_succ, Finset.sum_range_zero, EReal.coe_add, EReal.coe_zero]

end Cert.AttnARun
end
-- ==== Proof.AttnBValue.lean ====
module

public import proofs.«01_k».proof.Proof.AttnBFrame
public import proofs.«01_k».proof.Proof.AttnBRefValue
public import proofs.«01_k».proof.Proof.Gen.AttnBRefIdeal.Run
public import proofs.«01_k».proof.Proof.Gen.AttnB
public import proofs.«01_k».proof.Defs

/-! The stick-breaking backward kernel and its reference end with equal gradients. -/

@[expose] public section

set_option maxRecDepth 16384

noncomputable section

namespace Cert.AttnBRun

open Idealize.ShloMosaic Idealize.ShloMosaic.TcCoe Idealize.SL.Sem

/-- The shapes' facts of the predicate. -/
theorem pre_facts : Cert.Pre_finite_attn_b.Facts where
  bitsLt_bf16_f32 := by decide
  bcast_S_S4096x3072 := by decide
  bcast_S_S4096x1024 := by decide

/-- A number whose absolute value lies below infinity is real. -/
theorem real_of_lt {x : EReal} (h : Ideal.cmp .olt (max x (-x)) ⊤ = 1#1) : x = ((x.toReal : ℝ) : EReal) := by
  have hlt : max x (-x) < ⊤ := by
    by_contra hn
    simp [Ideal.cmp, hn] at h
  refine (EReal.coe_toReal (fun e => ?_) fun e => ?_).symm
  · rw [e] at hlt; simp at hlt
  · rw [e] at hlt; simp at hlt

/-- The frame at the bits: the two printed programs are the same text. -/
theorem frame_bits : Cert.quiescent_AttnB := fun m ρ _ => Eq.mp (by sl_kernel_rfl) (frame (F := Bits) m ρ)

/-- The reference's frame. -/
theorem frame_ref : Cert.quiescent_AttnBRefIdeal := fun m ρ _ =>
  (θ_run Cert.AttnBRefIdeal.defs _ _).mono (fun r h => ⟨fun c => (h c).2.2.2, sem_eq_zero_of_no_sems (by decide) r.2⟩)
    (Cert.AttnBRefIdeal.Value.run (F := Ideal) m ρ)

/-- The queries', keys' and values' numbers, and the output cotangents', as functions of row and lane. -/
def nums {A B : ℕ} (x : (⟨2, ![A, B]⟩ : Shape).Idx → EReal) (t l : ℕ) : ℝ :=
  if h : t < A ∧ l < B then (x (ix2 ⟨t, h.1⟩ ⟨l, h.2⟩)).toReal else 0

theorem nums_eq {A B : ℕ} {x : (⟨2, ![A, B]⟩ : Shape).Idx → EReal} (h : ∀ i, x i = (((x i).toReal : ℝ) : EReal)) (t : Fin A) (l : Fin B) :
    x (ix2 t l) = ((nums x t.val l.val : ℝ) : EReal) := by
  unfold nums
  rw [dif_pos ⟨t.isLt, l.isLt⟩]
  exact h _

section Pre

variable (m : (ℓ : Loc Cert.AttnBIdeal.nD Cert.AttnBIdeal.τ Cert.AttnBIdeal.sig) → Buf (Elt Ideal) ℓ) (c : Dev Cert.AttnBIdeal.nD)

/-- The numbers of the packed queries, keys and values. -/
abbrev argQ : ℕ → ℕ → ℝ := nums (m ((c.tc : Thread Cert.AttnBIdeal.nD Cert.AttnBIdeal.τ).loc Cert.AttnBIdeal.main_arg0))
/-- The numbers of the output cotangents. -/
abbrev argC : ℕ → ℕ → ℝ := nums (m ((c.tc : Thread Cert.AttnBIdeal.nD Cert.AttnBIdeal.τ).loc Cert.AttnBIdeal.main_arg1))

/-- The precondition says that the arguments are real. -/
theorem real_of_pre (hP : Cert.Pre_AttnBIdeal_finite_attn_b (hPre_finite_attn_b := pre_facts) m) : Real m c (argQ m c) (argC m c) := by
  obtain ⟨h0, h1⟩ := hP c
  constructor
  · exact fun t l => nums_eq (fun i => real_of_lt (by rw [← top_bits]; exact congrFun h0 i)) t l
  · exact fun t l => nums_eq (fun i => real_of_lt (by rw [← top_bits]; exact congrFun h1 i)) t l

end Pre

/-- The stick-breaking backward kernel and the derivative of the plainly written attention end with equal results. -/
theorem algebraic : Cert.algebraic_AttnBIdeal_AttnBRefIdeal_pre_finite_attn_b (hPre_finite_attn_b := pre_facts) := fun m ρ m' ρ' hP hag =>
  have hR := fun c => real_of_pre m c hP
  ⟨fun c => arr Seq.dq (argQ m c) (argC m c), fun c => arr (fun D => D.sumK 8) (argQ m c) (argC m c),
    fun c => arr (fun D => D.sumV 8) (argQ m c) (argC m c), run_real m ρ _ _ hR,
    (θ_run Cert.AttnBRefIdeal.defs _ _).mono
      (fun _ h c => ⟨(h c).1.trans ((Cert.AttnBRefIdeal.Read.val_main_v52_eq m' c).trans (by rw [(hag c).1, (hag c).2]; exact dq_eq (hR c).qkv (hR c).g)),
        (h c).2.1.trans ((Cert.AttnBRefIdeal.Read.val_main_v54_eq m' c).trans (by rw [(hag c).1, (hag c).2]; exact dk_eq (hR c).qkv (hR c).g)),
        (h c).2.2.1.trans ((Cert.AttnBRefIdeal.Read.val_main_v56_eq m' c).trans (by rw [(hag c).1, (hag c).2]; exact dv_eq (hR c).qkv (hR c).g)), (h c).2.2.2⟩)
      (Cert.AttnBRefIdeal.Value.run (F := Ideal) m' ρ')⟩

end Cert.AttnBRun

end
-- ==== Proof.AttnAValue.lean ====
module

public import proofs.«01_k».proof.Proof.AttnARefBand
public import proofs.«01_k».proof.Proof.AttnBValue
public import proofs.«01_k».proof.Proof.Gen.AttnARefIdeal.Run
public import proofs.«01_k».proof.Proof.Gen.Pre_finite_attn_a
public import proofs.«01_k».proof.Defs

/-! The chunked-attention backward kernel and its reference end with equal gradients. -/

@[expose] public section

set_option maxRecDepth 16384

noncomputable section

namespace Cert.AttnAValue

open Idealize.ShloMosaic Idealize.ShloMosaic.TcCoe Idealize.SL.Sem
open Cert.AttnARun
open Cert.AttnBRun (real_of_lt nums nums_eq top_bits)

section Pre

variable (m : (ℓ : Loc Cert.AttnAIdeal.nD Cert.AttnAIdeal.τ Cert.AttnAIdeal.sig) → Buf (Elt Ideal) ℓ) (c : Dev Cert.AttnAIdeal.nD)

/-- The numbers of the packed queries, keys and values. -/
abbrev argQ : ℕ → ℕ → ℝ := nums (m ((c.tc : Thread Cert.AttnAIdeal.nD Cert.AttnAIdeal.τ).loc Cert.AttnAIdeal.main_arg0))
/-- The numbers of the bias table. -/
abbrev argB : ℕ → ℕ → ℝ := nums (m ((c.tc : Thread Cert.AttnAIdeal.nD Cert.AttnAIdeal.τ).loc Cert.AttnAIdeal.main_arg1))
/-- The numbers of the output cotangents. -/
abbrev argC : ℕ → ℕ → ℝ := nums (m ((c.tc : Thread Cert.AttnAIdeal.nD Cert.AttnAIdeal.τ).loc Cert.AttnAIdeal.main_arg2))

/-- The precondition says that the arguments are real. -/
theorem real_of_pre (hP : Cert.Pre_AttnAIdeal_finite_attn_a (hPre_finite_attn_a := Cert.Pre_finite_attn_a.Gen.facts) m) :
    Real m c (argQ m c) (argB m c) (argC m c) := by
  obtain ⟨h0, h1, h2⟩ := hP c
  constructor
  · exact fun t l => nums_eq (fun i => real_of_lt (by rw [← top_bits]; exact congrFun h0 i)) t l
  · exact fun x h => nums_eq (fun i => real_of_lt (by rw [← top_bits]; exact congrFun h1 i)) x h
  · exact fun t l => nums_eq (fun i => real_of_lt (by rw [← top_bits]; exact congrFun h2 i)) t l

end Pre

section Ref

open Cert.AttnARefIdeal Cert.AttnARefIdeal.Read

variable {V : Valuation Cert.AttnARefIdeal.τ Cert.AttnARefIdeal.sig (Elt Ideal)} {Q B C : ℕ → ℕ → ℝ}

/-- The reference's four results, as functions of its arguments, are the gradients of the attention. -/
theorem results_eq
    (hQ : ∀ (t : Fin 4096) (l : Fin 3072), (V (Proc.devRef .tc main_arg0) : S4096x3072.Idx → EReal) (ix2 t l) = ((Q t l : ℝ) : EReal))
    (hB : ∀ (x : Fin 257) (h : Fin 16), (V (Proc.devRef .tc main_arg1) : S257x16.Idx → EReal) (ix2 x h) = ((B x h : ℝ) : EReal))
    (hC : ∀ (t : Fin 4096) (l : Fin 1024), (V (Proc.devRef .tc main_arg2) : S4096x1024.Idx → EReal) (ix2 t l) = ((C t l : ℝ) : EReal)) :
    val_main_v135 (F := Ideal) (V (Proc.devRef .tc main_arg0)) (V (Proc.devRef .tc main_arg1)) (V (Proc.devRef .tc main_arg2)) = arr Seq.dq Q B C
    ∧ val_main_v137 (F := Ideal) (V (Proc.devRef .tc main_arg0)) (V (Proc.devRef .tc main_arg1)) (V (Proc.devRef .tc main_arg2)) = arr (fun D => D.sumK 16) Q B C
    ∧ val_main_v139 (F := Ideal) (V (Proc.devRef .tc main_arg0)) (V (Proc.devRef .tc main_arg1)) (V (Proc.devRef .tc main_arg2)) = arr (fun D => D.sumV 16) Q B C
    ∧ val_main_v133 (F := Ideal) (V (Proc.devRef .tc main_arg0)) (V (Proc.devRef .tc main_arg1)) (V (Proc.devRef .tc main_arg2)) = arrB Q B C :=
  ⟨dq_eq hQ hB hC, dk_eq hQ hB hC, dv_eq hQ hB hC, dband_eq hQ hB hC⟩

end Ref

/-- The reference run at real arguments ends with the gradients of the attention. -/
theorem ref_run (m' : (ℓ : Loc Cert.AttnARefIdeal.nD Cert.AttnARefIdeal.τ Cert.AttnARefIdeal.sig) → Buf (Elt Ideal) ℓ)
    (ρ' : Dev Cert.AttnARefIdeal.nD → PrngReg) (Q B C : Dev Cert.AttnARefIdeal.nD → ℕ → ℕ → ℝ)
    (hv : ∀ c, Cert.AttnARefIdeal.Read.val_main_v135 (F := Ideal) (StableHlo.launchContents m' c (Proc.devRef .tc Cert.AttnARefIdeal.main_arg0)) (StableHlo.launchContents m' c (Proc.devRef .tc Cert.AttnARefIdeal.main_arg1)) (StableHlo.launchContents m' c (Proc.devRef .tc Cert.AttnARefIdeal.main_arg2)) = arr Seq.dq (Q c) (B c) (C c)
      ∧ Cert.AttnARefIdeal.Read.val_main_v137 (F := Ideal) (StableHlo.launchContents m' c (Proc.devRef .tc Cert.AttnARefIdeal.main_arg0)) (StableHlo.launchContents m' c (Proc.devRef .tc Cert.AttnARefIdeal.main_arg1)) (StableHlo.launchContents m' c (Proc.devRef .tc Cert.AttnARefIdeal.main_arg2)) = arr (fun D => D.sumK 16) (Q c) (B c) (C c)
      ∧ Cert.AttnARefIdeal.Read.val_main_v139 (F := Ideal) (StableHlo.launchContents m' c (Proc.devRef .tc Cert.AttnARefIdeal.main_arg0)) (StableHlo.launchContents m' c (Proc.devRef .tc Cert.AttnARefIdeal.main_arg1)) (StableHlo.launchContents m' c (Proc.devRef .tc Cert.AttnARefIdeal.main_arg2)) = arr (fun D => D.sumV 16) (Q c) (B c) (C c)
      ∧ Cert.AttnARefIdeal.Read.val_main_v133 (F := Ideal) (StableHlo.launchContents m' c (Proc.devRef .tc Cert.AttnARefIdeal.main_arg0)) (StableHlo.launchContents m' c (Proc.devRef .tc Cert.AttnARefIdeal.main_arg1)) (StableHlo.launchContents m' c (Proc.devRef .tc Cert.AttnARefIdeal.main_arg2)) = arrB (Q c) (B c) (C c)) :
    θ_run (Cert.AttnARefIdeal.defs (F := Ideal)) (onTc (τ := Cert.AttnARefIdeal.τ) (Cert.AttnARefIdeal.main (F := Ideal))) ⟨m', fun _ => 0, ρ'⟩ (fun r => ∀ c : Dev Cert.AttnARefIdeal.nD,
      r.2.mem ((c.tc : Thread Cert.AttnARefIdeal.nD Cert.AttnARefIdeal.τ).loc Cert.AttnARefIdeal.main_v135) = arr Seq.dq (Q c) (B c) (C c)
      ∧ r.2.mem ((c.tc : Thread Cert.AttnARefIdeal.nD Cert.AttnARefIdeal.τ).loc Cert.AttnARefIdeal.main_v137) = arr (fun D => D.sumK 16) (Q c) (B c) (C c)
      ∧ r.2.mem ((c.tc : Thread Cert.AttnARefIdeal.nD Cert.AttnARefIdeal.τ).loc Cert.AttnARefIdeal.main_v139) = arr (fun D => D.sumV 16) (Q c) (B c) (C c)
      ∧ r.2.mem ((c.tc : Thread Cert.AttnARefIdeal.nD Cert.AttnARefIdeal.τ).loc Cert.AttnARefIdeal.main_v133) = arrB (Q c) (B c) (C c)
      ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)) := by
  refine (θ_run _ _ _).mono (fun r h c => ?_) (Cert.AttnARefIdeal.Value.run (F := Ideal) m' ρ')
  obtain ⟨h1, h2, h3, h4, h5⟩ := h c
  obtain ⟨e1, e2, e3, e4⟩ := hv c
  rw [Cert.AttnARefIdeal.Read.val_main_v135_eq] at h1
  rw [Cert.AttnARefIdeal.Read.val_main_v137_eq] at h2
  rw [Cert.AttnARefIdeal.Read.val_main_v139_eq] at h3
  rw [Cert.AttnARefIdeal.Read.val_main_v133_eq] at h4
  exact ⟨h1.trans e1, h2.trans e2, h3.trans e3, h4.trans e4, h5⟩

/-- The chunked-attention backward kernel and the derivative of the plainly written attention end with equal results. -/
theorem algebraic : Cert.algebraic_AttnAIdeal_AttnARefIdeal_pre_finite_attn_a (hPre_finite_attn_a := Cert.Pre_finite_attn_a.Gen.facts) :=
  fun m ρ m' ρ' hP hag =>
  have hR := fun c => real_of_pre m c hP
  ⟨fun c => arr Seq.dq (argQ m c) (argB m c) (argC m c), fun c => arr (fun D => D.sumK 16) (argQ m c) (argB m c) (argC m c),
    fun c => arr (fun D => D.sumV 16) (argQ m c) (argB m c) (argC m c), fun c => arrB (argQ m c) (argB m c) (argC m c),
    run_real m ρ _ _ _ hR,
    ref_run m' ρ' (fun c => argQ m c) (fun c => argB m c) (fun c => argC m c) (fun c => results_eq
      (fun t l => (congrFun (hag c).1 (ix2 t l)).trans ((hR c).qkv t l))
      (fun x h => (congrFun (hag c).2.1 (ix2 x h)).trans ((hR c).bias x h))
      (fun t l => (congrFun (hag c).2.2 (ix2 t l)).trans ((hR c).g t l)))⟩

end Cert.AttnAValue

end
-- ==== Proof.AttnAQuiet.lean ====
/- The chunked attention's backward kernel leaves its arguments, in bits and in real numbers, and its one named constant. -/
module

public import proofs.«01_k».proof.Defs
public import proofs.«01_k».proof.Proof.Gen.AttnA
public import proofs.«01_k».proof.Proof.AttnAFrame

@[expose] public section

noncomputable section

namespace Cert.AttnARun

open Idealize.ShloMosaic Idealize.ShloMosaic.Tactic Idealize.SL.Sem

/-- In bits a named constant is its word. -/
@[reducible] def namedBits : Named Bits := ⟨fun _ _ φ w => FloatOps.ofBits φ w⟩

/-- The kernel as printed is the idealized one with the constant read as its word. -/
theorem frame_bits : Cert.quiescent_AttnA := fun m ρ _ => Eq.mp (by sl_kernel_rfl) (@frame Bits _ namedBits m ρ)

/-- The mask's constant stands for minus infinity. -/
theorem preserves : Cert.preserves_AttnA_AttnAIdeal := IdealRules.named_const.statement _ _ _ _ _ rfl

end Cert.AttnARun

end
-- ==== Proof.AttnBFwdRun.lean ====
module

public import proofs.«01_k».proof.Proof.Gen.AttnBFwdIdeal.Frame
public import proofs.«01_k».proof.Proof.Gen.AttnBFwdIdeal.Loops
public import proofs.«01_k».proof.Proof.Gen.AttnBFwd
public import proofs.«01_k».proof.Defs
public import Idealize.ShloMosaic.Lib.Claim
public import Idealize.ShloMosaic.Lib.VecWindow

/-! The stick-breaking forward kernel's run: one grid point's body, and the program over its grid. -/

@[expose] public section

set_option maxRecDepth 16384
set_option maxHeartbeats 4000000

noncomputable section

namespace Cert.AttnBFwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnBFwdIdeal Cert.AttnBFwdIdeal.Gen

variable {F : FTy → Type} [FloatOps F]

local notation "𝕄" => MT nD τ sig Unit (Elt F) ℕ (UR sig nD τ) ℕ

theorem trips1 : ∀ i : grid0.Coords, (k0_t1_loop i).trips = (i 2).val / 2 := by decide +kernel
theorem trips2 : ∀ i : grid0.Coords, (k0_t2_loop i).trips = 0 := by decide +kernel
theorem cond1_iff : ∀ i : grid0.Coords, k0_cond1 i = 1#1 ↔ (i 2).val % 2 = 1 := by decide +kernel
theorem off1_eq : ∀ i : grid0.Coords, k0_off1 i = ![256 * (i 2).val, 0] := by decide +kernel
theorem off2_eq : ∀ i : grid0.Coords, k0_cond1 i = 1#1 → k0_off2 i = ![256 * ((i 2).val - 1), 0] := by decide +kernel
theorem off3_eq : ∀ i : grid0.Coords, k0_off3 i = ![256 * (i 2).val, 0] := by decide +kernel
theorem off4_eq : ∀ (i : grid0.Coords) (k : Fin (k0_t1_loop i).trips),
    k0_off4 i k = ![256 * (2 * ((i 2).val / 2) - 1 - 2 * k.val), 0] := by decide +kernel
theorem off5_eq : ∀ (i : grid0.Coords) (k : Fin (k0_t1_loop i).trips),
    k0_off5 i k = ![256 * (2 * ((i 2).val / 2) - 2 - 2 * k.val), 0] := by decide +kernel

/-- The windows' staging buffers. -/
structure Ops where
  /-- A block of queries. -/
  q : Memref sig .tc .vmem S256x128 .bf16
  /-- The keys. -/
  k : Memref sig .tc .vmem S2048x128 .bf16
  /-- The values. -/
  v : Memref sig .tc .vmem S2048x128 .bf16
  /-- The block's outputs. -/
  o : Memref sig .tc .vmem S256x128 .bf16
  hq : q.IsWhole
  hk : k.IsWhole
  hv : v.IsWhole
  ho : o.IsWhole

/-- A buffer of core `c` with all its elements held at the contents `f`. -/
abbrev held {s : Shape} {e : EltTy} (c : Dev nD) (a : Memref sig .tc .vmem s e) (f : BufTy.Contents (Elt F) a.view.ty) : sProp 𝕄 :=
  iprop(a.view.loc (c : Thread nD τ) ↦[a.view.set]{fullShare} f)

/-- The output's block, to write. -/
abbrev piece (x : FVec F S256x128 .bf16) : View.Piece (Elt F) S256x128 .bf16 :=
  ⟨Rect.unit (s := S256x128) ![0, 0] S256x128.size inb_S256x128_S256x128_0_0, x⟩

/-- What the body writes, as a function of the blocks it reads, with its triple: found by running it, at an even query
block and at an odd one. -/
@[irreducible] def bodyRun (c : Dev nD) (i : grid0.Coords) (M : Ops) (q : Vec F S256x128 .bf16) (k v : Vec F S2048x128 .bf16)
    (b : Bool) (h : b = true ↔ (i 2).val % 2 = 1) :
    { x : FVec F S256x128 .bf16 // ∀ (E : Set ℕ) (y : BufTy.Contents (Elt F) M.o.view.ty),
      (iprop(held c M.q (M.hq.unread q) ∗ held c M.k (M.hk.unread k) ∗ held c M.v (M.hv.unread v) ∗ held c M.o y) : sProp 𝕄)
        ⊢ wp frame (wpE (defs₀ (F := F)) Variants.none (c : Thread nD τ) none) E (cc0_attn_b_fwd i M.q M.hq M.k M.hk M.v M.hv M.o M.ho)
          (fun _ => iprop(held c M.q (M.hq.unread q) ∗ held c M.k (M.hk.unread k) ∗ held c M.v (M.hv.unread v)
            ∗ held c M.o (M.o.view.writes (Elt F) y [piece x]))) } := by
  have e := h.trans (cond1_iff i).symm
  cases b <;> simp only [true_iff, false_iff, Bool.false_eq_true] at e
  all_goals
    exact (by
      refine ⟨?_, fun E y => ?run⟩
      case run =>
        simp only [cc0_attn_b_fwd_eq_skeleton]; unfold cc0_attn_b_fwd_skel
        iintro ⟨HQ, HK, HV, HO⟩
        sl_exec (disch := first | sl_exact e)
        sl_step
        sl_close)

variable (m : (ℓ : Loc nD τ sig) → Buf (Elt F) ℓ) (ρ : Dev nD → PrngReg)

/-- The operands at grid point `t`. -/
abbrev opsAt (t : Fin cfg0.N) : Ops where
  q := win0_0.stage (cfg0.slots t 0)
  k := win0_1.stage (cfg0.slots t 1)
  v := win0_2.stage (cfg0.slots t 2)
  o := win0_3.stage (cfg0.slots t 3)
  hq := hstage0_0 ((cfg0.slots t 0).cast nbuf0_0)
  hk := hstage0_1 ((cfg0.slots t 1).cast nbuf0_1)
  hv := hstage0_2 ((cfg0.slots t 2).cast nbuf0_2)
  ho := hstage0_3 ((cfg0.slots t 3).cast nbuf0_3)

/-- The body's run at grid point `t`. -/
abbrev runAt (c : Dev nD) (t : Fin cfg0.N) :=
  bodyRun (F := F) c (grid0.coords t) (opsAt t) (iblk m c 0 t) (iblk m c 1 t) (iblk m c 2 t)
    (decide ((grid0.coords t 2).val % 2 = 1)) decide_eq_true_iff

/-- The pipeline's proof data: the inputs' blocks stay, the output's is what the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (runAt m c t).1
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (opsAt t).q fullShare ((dats m 0 c).before 0 t d))
    ∗ (∃ d, owns (c : Thread nD τ) (opsAt t).k fullShare ((dats m 0 c).before 1 t d))
    ∗ (∃ d, owns (c : Thread nD τ) (opsAt t).v fullShare ((dats m 0 c).before 2 t d))
    ∗ (∃ d, owns (c : Thread nD τ) (opsAt t).o fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (opsAt t).q fullShare ((dats m 0 c).after 0 t)
    ∗ owns (c : Thread nD τ) (opsAt t).k fullShare ((dats m 0 c).after 1 t)
    ∗ owns (c : Thread nD τ) (opsAt t).v fullShare ((dats m 0 c).after 2 t)
    ∗ owns (c : Thread nD τ) (opsAt t).o fullShare ((dats m 0 c).after 3 t))

theorem before0 (c : Dev nD) (t : Fin cfg0.N) (d) : (dats m 0 c).before 0 t d = iblk m c 0 t :=
  before0_0_of m _ (A_eq m c 0) (fun _ => by dsimp only [dats]) t d
theorem before1 (c : Dev nD) (t : Fin cfg0.N) (d) : (dats m 0 c).before 1 t d = iblk m c 1 t :=
  before0_1_of m _ (A_eq m c 1) (fun _ => by dsimp only [dats]) t d
theorem before2 (c : Dev nD) (t : Fin cfg0.N) (d) : (dats m 0 c).before 2 t d = iblk m c 2 t :=
  before0_2_of m _ (A_eq m c 2) (fun _ => by dsimp only [dats]) t d

/-- A whole buffer owned at `X` is held at the contents that read as `X`, and back. -/
theorem owns_iff {s : Shape} {e : EltTy} (c : Dev nD) {a : Memref sig .tc .vmem s e} (h : a.IsWhole) (X : s.Idx → Elt F e) :
    (owns (c : Thread nD τ) a fullShare X : sProp 𝕄) ⊢ held c a (h.unread X) := by
  unfold owns
  iintro ⟨%f, %hf, H⟩
  obtain rfl := h.eq_unread hf
  iexact H

theorem owns_of {s : Shape} {e : EltTy} (c : Dev nD) {a : Memref sig .tc .vmem s e} (X : s.Idx → Elt F e)
    (f : BufTy.Contents (Elt F) a.view.ty) (hf : a.view.read (Elt F) f = X) :
    (held c a f : sProp 𝕄) ⊢ owns (c : Thread nD τ) a fullShare X := by
  unfold owns
  iintro H
  iexists f; isplitr; · ipureintro; exact hf
  iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2]
  rw [show (dats m 0 c).owesAt () t.succ = (dats m 0 c).owesAt () t.castSucc from rfl,
    show (dats m 0 c).Φ t.succ = (dats m 0 c).Φ t.castSucc from rfl,
    show (dats m 0 c).after 0 t = iblk m c 0 t from rfl, show (dats m 0 c).after 1 t = iblk m c 1 t from rfl,
    show (dats m 0 c).after 2 t = iblk m c 2 t from rfl, show (dats m 0 c).after 3 t = (runAt m c t).1 from rfl]
  iintro ⟨HΦ, Ho, ⟨%d0, H0⟩, ⟨%d1, H1⟩, ⟨%d2, H2⟩, ⟨%d3, H3⟩⟩
  ihave H0 := (owns_iff c (opsAt t).hq _) $$ H0
  ihave H1 := (owns_iff c (opsAt t).hk _) $$ H1
  ihave H2 := (owns_iff c (opsAt t).hv _) $$ H2
  ihave H3 := (owns_iff c (opsAt t).ho _) $$ H3
  iapply (wp_wand_r Idealize.ShloMosaic.frame (wpE (defs₀ (F := F)) Variants.none (c : Thread nD τ) none) Set.univ)
  isplitl [H0 H1 H2 H3]
  · iapply ((runAt m c t).2 Set.univ _)
    isplitl [H0]; · iexact H0
    isplitl [H1]; · iexact H1
    isplitl [H2]; · iexact H2
    iexact H3
  · iintro %_ ⟨H0, H1, H2, H3⟩
    isplitl [HΦ]; · iexact HΦ
    isplitl [Ho]; · iexact Ho
    isplitl [H0]; · iapply (owns_of c _ _ ((opsAt t).hq.read_unread _)) $$ H0
    isplitl [H1]; · iapply (owns_of c _ _ ((opsAt t).hk.read_unread _)) $$ H1
    isplitl [H2]; · iapply (owns_of c _ _ ((opsAt t).hv.read_unread _)) $$ H2
    iapply (owns_of c _ _ (View.read_writes_full _ _ _ _ _)) $$ H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every array at the end at what the proof data says. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run ends with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The kernel's frame at bit patterns. -/
theorem frame_bits : Cert.quiescent_AttnBFwd := fun m ρ _ => Eq.mp (by sl_kernel_rfl) (frame (F := Bits) m ρ)

/-- No operation was replaced. -/
theorem preserves : Cert.preserves_AttnBFwd_AttnBFwdIdeal := trivial

end Cert.AttnBFwdRun

end
-- ==== Proof.AttnBFwdPoint.lean ====
module

public import proofs.«01_k».proof.Proof.AttnBFwdRun
public import proofs.«01_k».proof.Proof.AttnBMath
public import Idealize.ShloMosaic.Lib.WritesUnit
public import Idealize.ShloMosaic.Lib.Pipeline.ValueKit.Tiles

/-! One grid point of the stick-breaking forward kernel, for real arguments: the outputs of a block of queries. -/

@[expose] public section

set_option maxRecDepth 16384

noncomputable section

namespace Cert.AttnBFwdRun

open Idealize.ShloMosaic Idealize.ShloMosaic.TcCoe
open Cert.AttnBFwdIdeal Cert.AttnBFwdIdeal.Gen
open Cert.AttnBRun (nt nn rV wV Re ReR ReC Seq tile_scores tile_weights tile_right sel_first sum_block R_beyond A_beyond)

variable {F : FTy → Type} [FloatOps F]

/-- What the sweep carries: per head the sums to the right of the tile and the outputs so far. -/
abbrev Acc (F : FTy → Type) := FVec F S256x1 .f32 × FVec F S256x128 .f32 × FVec F S256x1 .f32 × FVec F S256x128 .f32

/-- One tile of the sweep, both heads. -/
def step (d : Bool) (q0 q1 kt vt : FVec F S256x128 .bf16) (acc : Acc F) : Acc F :=
  (rV d Cert.AttnBIdeal.Gen.k0_pay258 (nt q0 kt) acc.1,
    addf acc.2.1 (nn (wV d Cert.AttnBIdeal.Gen.k0_pay258 (nt q0 kt) acc.1) vt),
    rV d Cert.AttnBIdeal.Gen.k0_pay258 (nt q1 kt) acc.2.2.1,
    addf acc.2.2.2 (nn (wV d Cert.AttnBIdeal.Gen.k0_pay258 (nt q1 kt) acc.2.2.1) vt))

/-- What the sweep starts from. -/
abbrev start : Acc F := (Cert.AttnBIdeal.Gen.k0_pay267, Cert.AttnBIdeal.Gen.k0_pay277, Cert.AttnBIdeal.Gen.k0_pay267, Cert.AttnBIdeal.Gen.k0_pay277)

section Form

variable (c : Dev nD) (i : grid0.Coords) (M : Ops) (q : Vec F S256x128 .bf16) (k v : Vec F S2048x128 .bf16)

/-- Rows of the keys or the values, read at offsets. -/
abbrev rows {a : Memref sig .tc .vmem S2048x128 .bf16} (f : BufTy.Contents (Elt F) a.view.ty) (off : Fin 2 → ℕ)
    (h : ∀ b, off b + S256x128.size b ≤ S2048x128.size b) : S256x128.Idx → Elt F .bf16 :=
  View.readAt (Elt F) a.view (Rect.unit (s := S2048x128) off S256x128.size h).toLoadRect f

/-- The block of queries, read. -/
abbrev full {a : Memref sig .tc .vmem S256x128 .bf16} (f : BufTy.Contents (Elt F) a.view.ty) : S256x128.Idx → Elt F .bf16 :=
  View.readAt (Elt F) a.view (Rect.unit (s := S256x128) ![0, 0] S256x128.size inb_S256x128_S256x128_0_0).toLoadRect f

/-- The scaled queries, the lanes of one head each. -/
abbrev q0 : FVec F S256x128 .bf16 := Cert.AttnBIdeal.Gen.k0_pay263 (full (F := F) (a := M.q) (M.hq.unread q))
abbrev q1 : FVec F S256x128 .bf16 := Cert.AttnBIdeal.Gen.k0_pay264 (full (F := F) (a := M.q) (M.hq.unread q))

/-- One tile of the sweep at the keys and the values of the offsets. -/
abbrev stepAt (d : Bool) (off : Fin 2 → ℕ) (h : ∀ b, off b + S256x128.size b ≤ S2048x128.size b) : Acc F → Acc F :=
  step d (q0 M q) (q1 M q) (rows (F := F) (a := M.k) (M.hk.unread k) off h) (rows (F := F) (a := M.v) (M.hv.unread v) off h)

/-- What the loop over pairs of tiles carries after `n` trips. -/
abbrev st1 (w2 w50 : BitVec 32) (init : Acc F) (n : ℕ) : Acc F :=
  st_k0_t1 Variants.none c none i M.q M.hq M.k M.hk M.v M.hv M.o M.ho w2 k0_pay92 (q0 M q) (q1 M q) k0_pay96 k0_pay97 w50
    (M.hk.unread k) (M.hv.unread v) init n

/-- One trip is two tiles. -/
theorem trip_eq (w2 w50 : BitVec 32) (t : Fin (k0_t1_loop i).trips) :
    ∃ h4 h5, ∀ acc : Acc F, tripR_k0_t1 Variants.none c none i M.q M.hq M.k M.hk M.v M.hv M.o M.ho w2 k0_pay92 (q0 M q) (q1 M q)
      k0_pay96 k0_pay97 w50 (M.hk.unread k) (M.hv.unread v) t acc
      = stepAt M q k v false (k0_off5 i t) h5 (stepAt M q k v false (k0_off4 i t) h4 acc) := by
  unfold tripR_k0_t1 trip_k0_t1
  exact ⟨_, _, fun acc => rfl⟩

/-- What a point writes, from the tiles before its loops. -/
def Form (init : Acc F) (x : FVec F S256x128 .bf16) : Prop :=
  ∃ w2 w50 w72 : BitVec 32,
    let s := st_k0_t2 Variants.none c none i M.q M.hq M.k M.hk M.v M.hv M.o M.ho w2 k0_pay92 (q0 M q) (q1 M q) k0_pay96 k0_pay97 w50
      w72 (M.hk.unread k) (M.hv.unread v) (st1 c i M q k v w2 w50 init (k0_t1_loop i).trips) (k0_t2_loop i).trips
    x = k0_pay1 s.2.1 s.2.2.2 k0_pay121

attribute [local irreducible] st_k0_t1 st_k0_t2

/-- At an even query block the sweep starts with the diagonal tile. -/
theorem even_eq (h : false = true ↔ (i 2).val % 2 = 1) :
    ∃ h3, Form c i M q k v (stepAt M q k v true (k0_off3 i) h3 start) (bodyRun (F := F) c i M q k v false h).1 := by
  have e : ¬k0_cond1 i = 1#1 := fun h' => Bool.false_ne_true (h.mpr ((cond1_iff i).mp h'))
  unfold bodyRun Form
  exact ⟨k0_off3_inb i e, _, _, _, rfl⟩

/-- At an odd query block it starts with the diagonal tile and the one before it. -/
theorem odd_eq (h : true = true ↔ (i 2).val % 2 = 1) :
    ∃ h1 h2, Form c i M q k v (stepAt M q k v false (k0_off2 i) h2 (stepAt M q k v true (k0_off1 i) h1 start))
      (bodyRun (F := F) c i M q k v true h).1 := by
  have e : k0_cond1 i = 1#1 := (cond1_iff i).mpr (h.mp rfl)
  unfold bodyRun Form
  exact ⟨k0_off1_inb i e, k0_off2_inb i e, _, _, _, rfl⟩

end Form

/-- The sweep down to key block `lo`. -/
structure SweepAt (D : Seq) (qi lo : ℕ) (acc : Acc Ideal) : Prop where
  r0 : ReC acc.1 fun r => D.R 0 (256 * qi + r) (256 * lo)
  o0 : ReR acc.2.1 fun r l => ∑ s ∈ Finset.Ico (256 * lo) 2048, D.A 0 (256 * qi + r) s * D.v s l
  r1 : ReC acc.2.2.1 fun r => D.R 1 (256 * qi + r) (256 * lo)
  o1 : ReR acc.2.2.2 fun r l => ∑ s ∈ Finset.Ico (256 * lo) 2048, D.A 1 (256 * qi + r) s * D.v s l

/-- The outputs: the values by the weights of the lane's head. -/
def out (D : Seq) (t l : ℕ) : ℝ := ∑ s ∈ Finset.range 2048, D.A (l / 64) t s * D.v s l

section Sweep

variable {D : Seq} {qi : ℕ}

/-- Before the first tile nothing is summed. -/
theorem SweepAt.start (hq : qi < 8) : SweepAt D qi (qi + 1) (start (F := Ideal)) := by
  have e : ∀ h r l, r < 256 → (0 : ℝ) = ∑ s ∈ Finset.Ico (256 * (qi + 1)) 2048, D.A h (256 * qi + r) s * D.v s l := fun h r l hr =>
    (Finset.sum_eq_zero fun s hs => by rw [A_beyond D h (by have := (Finset.mem_Ico.1 hs).1; omega), zero_mul]).symm
  exact ⟨ReC.zero.congr fun r hr => (R_beyond D 0 hr).symm, ReR.zero.congr fun r hr l _ => e 0 r l hr,
    ReC.zero.congr fun r hr => (R_beyond D 1 hr).symm, ReR.zero.congr fun r hr l _ => e 1 r l hr⟩

/-- The outputs' sum with a tile more. -/
theorem sum_tile (h r l : ℕ) {kb : ℕ} (hk : kb < 8) :
    ∑ s ∈ Finset.Ico (256 * (kb + 1)) 2048, D.A h (256 * qi + r) s * D.v s l
      + ∑ s ∈ Finset.range 256, Cert.AttnBRun.tl (D.A h) qi kb r s * D.v (256 * kb + s) l
      = ∑ s ∈ Finset.Ico (256 * kb) 2048, D.A h (256 * qi + r) s * D.v s l := by
  rw [Finset.range_eq_Ico, add_comm]
  refine Eq.trans (congrArg (· + _) (sum_block (fun s => D.A h (256 * qi + r) s * D.v s l) kb 0)) ?_
  exact Finset.sum_Ico_consecutive _ (by omega) (by omega)

variable {a0 a1 kt vt : FVec Ideal S256x128 .bf16} (h0 : ReR a0 fun r l => D.qm 0 (256 * qi + r) l)
  (h1 : ReR a1 fun r l => D.qm 1 (256 * qi + r) l)

include h0 h1 in
/-- One tile of the sweep. -/
theorem SweepAt.tile {lo kb : ℕ} {acc : Acc Ideal} (hS : SweepAt D qi lo acc) (hlo : lo = kb + 1) (hq : qi < 8) (hk : kb ≤ qi)
    {d : Bool} (hd : d = true ↔ kb = qi) (hkt : ReR kt fun r l => D.k (256 * kb + r) l) (hvt : ReR vt fun r l => D.v (256 * kb + r) l) :
    SweepAt D qi kb (step d a0 a1 kt vt acc) := by
  subst hlo
  have z0 := tile_scores D 0 h0 hkt
  have z1 := tile_scores D 1 h1 hkt
  have w0 := tile_weights D 0 hd hk hq z0 hS.r0
  have w1 := tile_weights D 1 hd hk hq z1 hS.r1
  exact ⟨tile_right D 0 hd hk hq z0 hS.r0, (hS.o0.add (ReR.nn w0 hvt)).congr fun r _ l _ => sum_tile 0 r l (by omega),
    tile_right D 1 hd hk hq z1 hS.r1, (hS.o1.add (ReR.nn w1 hvt)).congr fun r _ l _ => sum_tile 1 r l (by omega)⟩

/-- The outputs, the lanes of each head from its sweep. -/
theorem SweepAt.out {acc : Acc Ideal} (hS : SweepAt D qi 0 acc) :
    ReR (k0_pay1 acc.2.1 acc.2.2.2 k0_pay121) fun r l => out D (256 * qi + r) l := fun r l => by
  have hl := l.isLt
  pointwise [k0_pay1, k0_pay121]
  rw [sel_first hl, hS.o0, hS.o1]
  unfold AttnBFwdRun.out
  rw [Finset.range_eq_Ico]
  split
  · rename_i h; rw [h]
  · rename_i h; rw [show l.val / 64 = 1 by omega]

end Sweep

section Point

variable {D : Seq} {i : grid0.Coords} {q : Vec Ideal S256x128 .bf16} {k v : Vec Ideal S2048x128 .bf16}
  (hq : ReR q fun r l => D.q (256 * (i 2).val + r) l)
  (hk : ∀ (s : Fin 2048) (l : Fin 128), k (ix2 s l) = ((D.k s l : ℝ) : EReal))
  (hv : ∀ (s : Fin 2048) (l : Fin 128), v (ix2 s l) = ((D.v s l : ℝ) : EReal)) (M : Ops) (c : Dev nD)

/-- Rows read from real keys or values are real. -/
theorem rows_re {a : Memref sig .tc .vmem S2048x128 .bf16} (ha : a.IsWhole) {x : Vec Ideal S2048x128 .bf16} {G : ℕ → ℕ → ℝ}
    (hx : ∀ (s : Fin 2048) (l : Fin 128), x (ix2 s l) = ((G s l : ℝ) : EReal)) {off : Fin 2 → ℕ}
    (h : ∀ b, off b + S256x128.size b ≤ S2048x128.size b) {j : ℕ} (hj : j < 8) (ho : off = ![256 * j, 0]) :
    ReR (rows (F := Ideal) (a := a) (ha.unread x) off h) fun r l => G (256 * j + r) l := fun r l => by
  subst ho
  refine Eq.trans (View.ld_unit_apply_of (a.view.read (Elt Ideal) (ha.unread x)) _ _ _ _
    (ix2 (⟨256 * j + r.val, by omega⟩ : Fin 2048) l) fun b => ?_) ((congrFun (ha.read_unread x) _).trans (hx _ l))
  match b with
  | ⟨0, _⟩ => rfl
  | ⟨1, _⟩ => exact (Nat.zero_add _).symm

include hq in
/-- The queries read are real. -/
theorem full_re : ReR (full (F := Ideal) (a := M.q) (M.hq.unread q)) fun r l => D.q (256 * (i 2).val + r) l := fun r l => by
  refine Eq.trans (View.ld_unit_apply_of (M.q.view.read (Elt Ideal) (M.hq.unread q)) _ _ _ _ (ix2 r l) fun b => ?_)
    ((congrFun (M.hq.read_unread q) _).trans (hq r l))
  match b with
  | ⟨0, _⟩ => exact (Nat.zero_add _).symm
  | ⟨1, _⟩ => exact (Nat.zero_add _).symm

attribute [local irreducible] rV wV nt nn

include hq hk hv

/-- One tile at the block's keys and values. -/
theorem tile_at {lo kb : ℕ} {acc : Acc Ideal} (hS : SweepAt D (i 2).val lo acc) (hlo : lo = kb + 1) (hkb : kb ≤ (i 2).val) {d : Bool}
    (hd : d = true ↔ kb = (i 2).val) {off : Fin 2 → ℕ} (h : ∀ b, off b + S256x128.size b ≤ S2048x128.size b) (ho : off = ![256 * kb, 0]) :
    SweepAt D (i 2).val kb (stepAt M q k v d off h acc) := by
  have h8 : (i 2).val < 8 := (i 2).isLt
  exact hS.tile (full_re hq M).q0 (full_re hq M).q1 hlo h8 hkb hd (rows_re M.hk hk h (by omega) ho) (rows_re M.hv hv h (by omega) ho)

/-- The loop over pairs of tiles. -/
theorem loop_at (w2 w50 : BitVec 32) {init : Acc Ideal} (h0 : SweepAt D (i 2).val (2 * ((i 2).val / 2)) init) (n : ℕ)
    (hn : n ≤ (k0_t1_loop i).trips) : SweepAt D (i 2).val (2 * ((i 2).val / 2) - 2 * n) (st1 c i M q k v w2 w50 init n) := by
  induction n with
  | zero => exact h0
  | succ n ih =>
    have hS := ih (by omega)
    have hn' := hn
    rw [trips1] at hn'
    unfold st1 at hS ⊢
    rw [st_k0_t1_succ _ _ _ _ _ _ _ _ _ _ _ _ _ _ _ _ _ _ _ _ _ _ ⟨n, by omega⟩]
    obtain ⟨h4, h5, e⟩ := trip_eq c i M q k v w2 w50 ⟨n, by omega⟩
    rw [e]
    have f : ∀ {kb : ℕ}, kb < (i 2).val → (false = true ↔ kb = (i 2).val) := fun h => ⟨fun e => absurd e Bool.false_ne_true, fun e => by omega⟩
    have hA := tile_at hq hk hv M hS (kb := 2 * ((i 2).val / 2) - 1 - 2 * n) (by omega) (by omega) (f (by omega)) h4 (off4_eq i _)
    have hB := tile_at hq hk hv M hA (kb := 2 * ((i 2).val / 2) - 2 - 2 * n) (by omega) (by omega) (f (by omega)) h5 (off5_eq i _)
    rwa [show 2 * ((i 2).val / 2) - 2 * (n + 1) = 2 * ((i 2).val / 2) - 2 - 2 * n by omega]

/-- What a point writes, from the tiles before its loops: its outputs. -/
theorem form_re {init : Acc Ideal} (h0 : SweepAt D (i 2).val (2 * ((i 2).val / 2)) init) {x : FVec Ideal S256x128 .bf16}
    (hx : Form c i M q k v init x) : ReR x fun r l => out D (256 * (i 2).val + r) l := by
  obtain ⟨w2, w50, w72, e⟩ := hx
  have hL := loop_at hq hk hv M c w2 w50 h0 _ le_rfl
  rw [trips1, Nat.sub_self] at hL
  rw [e, trips2, trips1]
  exact hL.out

/-- What a point writes: the outputs of its queries. -/
theorem point_re (b : Bool) (h : b = true ↔ (i 2).val % 2 = 1) :
    ReR (bodyRun (F := Ideal) c i M q k v b h).1 fun r l => out D (256 * (i 2).val + r) l := by
  have h8 : (i 2).val < 8 := (i 2).isLt
  have hS := SweepAt.start (D := D) h8
  cases b
  · obtain ⟨h3, hF⟩ := even_eq c i M q k v h
    have hp : (i 2).val % 2 ≠ 1 := fun e => Bool.false_ne_true (h.mpr e)
    have hT := tile_at hq hk hv M hS rfl le_rfl (d := true) (by simp) h3 (off3_eq i)
    refine form_re hq hk hv M c ?_ hF
    rwa [show 2 * ((i 2).val / 2) = (i 2).val by omega]
  · obtain ⟨h1, h2, hF⟩ := odd_eq c i M q k v h
    have hp := h.mp rfl
    have hT := tile_at hq hk hv M hS rfl le_rfl (d := true) (by simp) h1 (off1_eq i)
    have hU := tile_at hq hk hv M hT (kb := (i 2).val - 1) (by omega) (by omega) (d := false)
      ⟨fun e => absurd e Bool.false_ne_true, fun e => by omega⟩ h2 (off2_eq i ((cond1_iff i).mpr hp))
    refine form_re hq hk hv M c ?_ hF
    rwa [show 2 * ((i 2).val / 2) = (i 2).val - 1 by omega]

end Point

end Cert.AttnBFwdRun

end
-- ==== Proof.AttnBFwdValue.lean ====
module

public import proofs.«01_k».proof.Proof.AttnBFwdPoint
public import proofs.«01_k».proof.Proof.AttnBValue
public import proofs.«01_k».proof.Proof.Gen.AttnBFwdRefIdeal.Read
public import proofs.«01_k».proof.Proof.Gen.Pre_finite_attn_b_fwd
public import proofs.«01_k».proof.Defs
public import proofs.«01_k».proof.Proof.Reals

/-! The stick-breaking forward kernel and its reference end with equal outputs. -/

@[expose] public section

set_option maxRecDepth 16384

noncomputable section

namespace Cert.AttnBFwdRun

open Idealize.ShloMosaic Idealize.ShloMosaic.TcCoe Idealize.SL.Sem
open Cert.Reals Cert.AttnBFwdIdeal Cert.AttnBFwdIdeal.Gen
open Cert.AttnBRun (Seq ReR seqAt dat arr arr_block)

/-- The packed queries, keys and values are real. -/
abbrev Real (m : (ℓ : Loc nD τ sig) → Buf (Elt Ideal) ℓ) (c : Dev nD) (Q : ℕ → ℕ → ℝ) : Prop :=
  ∀ (t : Fin 4096) (l : Fin 3072), (m ((c.tc : Thread nD τ).loc main_arg0) : S4096x3072.Idx → EReal) (ix2 t l) = ((Q t l : ℝ) : EReal)

/-- The query block of a grid point. -/
theorem coords_eq : ∀ t : Fin grid0.N, (grid0.coords t 2).val = t.val % 8 := by decide +kernel
/-- The block of each array a grid point sees. -/
theorem index_q : ∀ t : Fin grid0.N, win0_0.index t 0 = 8 * (t.val / 8 % 2) + t.val % 8 ∧ win0_0.index t 1 = t.val / 16 := by
  decide +kernel
theorem index_k : ∀ t : Fin grid0.N, win0_1.index t 0 = t.val / 8 % 2 ∧ win0_1.index t 1 = 8 + t.val / 16 := by decide +kernel
theorem index_v : ∀ t : Fin grid0.N, win0_2.index t 0 = t.val / 8 % 2 ∧ win0_2.index t 1 = 16 + t.val / 16 := by decide +kernel
theorem index_o : ∀ t : Fin grid0.N, win0_3.index t 0 = 8 * (t.val / 8 % 2) + t.val % 8 ∧ win0_3.index t 1 = t.val / 16 := by
  decide +kernel
theorem places_o : ∀ (a : Fin 16) (b : Fin 8), ∃ t : Fin grid0.N, win0_3.index t 0 = a.val ∧ win0_3.index t 1 = b.val := by decide +kernel

/-- No cotangents. -/
abbrev none₂ : ℕ → ℕ → ℝ := fun _ _ => 0

section

variable (m : (ℓ : Loc nD τ sig) → Buf (Elt Ideal) ℓ) (c : Dev nD) {Q : ℕ → ℕ → ℝ} (hR : Real m c Q)
include hR

/-- The queries a point sees. -/
theorem blk_q (t : Fin grid0.N) (r : Fin 256) (l : Fin 128) :
    (iblk m c 0 t : S256x128.Idx → EReal) (ix2 r l) = (((dat Q none₂ t.val).q (256 * (t.val % 8) + r) l : ℝ) : EReal) :=
  (congrFun (V_main_arg0 m c) _).trans (at_ix (g := Q) hR ((Reals.tile_at (index_q t).1 256 r).trans (by omega)) (Reals.tile_at (index_q t).2 128 l))

/-- The keys a point sees. -/
theorem blk_k (t : Fin grid0.N) (s : Fin 2048) (l : Fin 128) :
    (iblk m c 1 t : S2048x128.Idx → EReal) (ix2 s l) = (((dat Q none₂ t.val).k s l : ℝ) : EReal) :=
  (congrFun (V_main_arg0 m c) _).trans (at_ix (g := Q) hR (Reals.tile_at (index_k t).1 2048 s) ((Reals.tile_at (index_k t).2 128 l).trans (by omega)))

/-- The values a point sees. -/
theorem blk_v (t : Fin grid0.N) (s : Fin 2048) (l : Fin 128) :
    (iblk m c 2 t : S2048x128.Idx → EReal) (ix2 s l) = (((dat Q none₂ t.val).v s l : ℝ) : EReal) :=
  (congrFun (V_main_arg0 m c) _).trans (at_ix (g := Q) hR (Reals.tile_at (index_v t).1 2048 s) ((Reals.tile_at (index_v t).2 128 l).trans (by omega)))

/-- What a point writes back: the outputs of its queries. -/
theorem after_o (t : Fin cfg0.N) (r : Fin 256) (l : Fin 128) : ((dats m 0 c).after 3 t : S256x128.Idx → EReal) (ix2 r l)
    = ((out (dat Q none₂ t.val) (256 * (t.val % 8) + r) l : ℝ) : EReal) := by
  have e := coords_eq t
  exact (point_re (D := dat Q none₂ t.val) (fun r l => (blk_q m c hR t r l).trans (by rw [e])) (blk_k m c hR t) (blk_v m c hR t)
    (opsAt t) c _ _ r l).trans (by rw [e])

/-- The output's array. -/
theorem arr_o : (dats m 0 c).arrAt 3 cfg0.N = arr out Q none₂ :=
  (dats m 0 c).arrAt_eq_of_emb 3 _ (fun t _ y => by
    obtain ⟨r, l, rfl⟩ := exists_ix2 y
    exact (after_o m c hR t r l).trans (arr_block out (by omega) l.isLt ((Reals.tile_at (index_o t).1 256 r).trans (by omega)) (Reals.tile_at (index_o t).2 128 l)))
    fun i => (blocks_cover 256 128 rfl rfl win0_3.index places_o (fun _ => ⟨_, rfl⟩) i).imp fun t ht => ⟨flush0_3 t, in_slice ht⟩

end

end Cert.AttnBFwdRun

namespace Cert.AttnBFwdValue

open Idealize.ShloMosaic Idealize.ShloMosaic.TcCoe Idealize.SL.Sem
open Cert.AttnBFwdRun
open Cert.AttnBRun (Seq seqAt sq arr flat a_real v_real real_of_lt nums nums_eq top_bits Is4 ln sum_mul)

section Ref

open Cert.AttnBFwdRefIdeal Cert.AttnBFwdRefIdeal.Read

variable {x0 : (⟨S4096x3072, .bf16⟩ : BufTy).Contents (Elt Ideal)} {Q : ℕ → ℕ → ℝ}
  (hQ : ∀ (t : Fin 4096) (l : Fin 3072), x0 (ix2 t l) = ((Q t l : ℝ) : EReal))
include hQ

/-- The reference's weights. -/
theorem weights_real : Is4 (val_main_v26 (F := Ideal) x0) fun b h t s => (sq Q none₂ b h).A (h % 2) t s := a_real (C := none₂) hQ

/-- The reference's values. -/
theorem values_real : Is4 (val_main_v11 (F := Ideal) x0) fun b t h d => (sq Q none₂ b h).v t (ln h d) := v_real (C := none₂) hQ

/-- The reference's outputs are the kernel's. -/
theorem out_eq : val_main_v30 (F := Ideal) x0 = arr out Q none₂ := funext fun i => by
  rw [val_main_v30_apply, val_main_v29_apply]
  refine flat (X := val_main_v28 (F := Ideal) x0) (fun i => ?_) i
  have hd : (i 3).val < 64 := (i 3).isLt
  rw [val_main_v28_apply, val_main_v27_apply,
    sum_mul (fun s => (sq Q none₂ (i 0).val (i 2).val).v s (ln (i 2).val (i 3).val)) (fun s => (sq Q none₂ (i 0).val (i 2).val).A ((i 2).val % 2) (i 1).val s)
      (fun k => values_real hQ (lidx_main_v27 (idx_main_v28 i) k)) (fun k => weights_real hQ (ridx_main_v27 (idx_main_v28 i) k))]
  refine congrArg Real.toEReal ?_
  show _ = out (sq Q none₂ (i 0).val (i 2).val) (i 1).val (ln (i 2).val (i 3).val)
  unfold out
  rw [show ln (i 2).val (i 3).val / 64 = (i 2).val % 2 by unfold ln; omega]
  exact Finset.sum_congr rfl fun s _ => mul_comm _ _

end Ref

/-- The precondition says that the packed queries, keys and values are real. -/
theorem real_of_pre (m : (ℓ : Loc Cert.AttnBFwdIdeal.nD Cert.AttnBFwdIdeal.τ Cert.AttnBFwdIdeal.sig) → Buf (Elt Ideal) ℓ) (c : Dev Cert.AttnBFwdIdeal.nD)
    (hP : Cert.Pre_AttnBFwdIdeal_finite_attn_b_fwd (hPre_finite_attn_b_fwd := Cert.Pre_finite_attn_b_fwd.Gen.facts) m) :
    Real m c (nums (m ((c.tc : Thread Cert.AttnBFwdIdeal.nD Cert.AttnBFwdIdeal.τ).loc Cert.AttnBFwdIdeal.main_arg0))) :=
  fun t l => nums_eq (fun i => real_of_lt (by rw [← top_bits]; exact congrFun (hP c) i)) t l

/-- The stick-breaking forward kernel and the plainly written attention end with equal results. -/
theorem algebraic : Cert.algebraic_AttnBFwdIdeal_AttnBFwdRefIdeal_pre_finite_attn_b_fwd
    (hPre_finite_attn_b_fwd := Cert.Pre_finite_attn_b_fwd.Gen.facts) := fun m ρ m' ρ' hP hag =>
  have hR := fun c => real_of_pre m c hP
  ⟨fun c => arr out _ none₂,
    (θ_run _ _ _).mono (fun r h c => ⟨((h.1 c).1 3).trans (arr_o m c (hR c)),
      ((h.1 c).1 2).trans (((dats m 0 c).arrAt_in 2 rfl _).trans ((A_eq m c 2).trans (Cert.AttnBFwdIdeal.Gen.V_main_arg0 m c)))⟩) (run_main (F := Ideal) m ρ),
    (θ_run _ _ _).mono (fun r h c => by
      obtain ⟨h1, h2⟩ := h c
      rw [Cert.AttnBFwdRefIdeal.Read.val_main_v30_eq] at h1
      exact ⟨h1.trans (out_eq fun t l => (congrFun (hag c) (ix2 t l)).trans (hR c t l)), h2⟩)
      (Cert.AttnBFwdRefIdeal.Value.run (F := Ideal) m' ρ')⟩

end Cert.AttnBFwdValue

end
-- ==== Proof.AttnAFwdPoint.lean ====
module

public import proofs.«01_k».proof.Proof.AttnAKept
public import proofs.«01_k».proof.Proof.Gen.AttnAFwdIdeal.Value

/-! What a grid point of the chunked-attention forward kernel writes, over the reals. -/

@[expose] public section

set_option maxRecDepth 65536

noncomputable section

/-- A query's output: its weights' sum of the values. -/
def Cert.AttnARun.Seq.o (D : AttnARun.Seq) (t l : ℕ) : ℝ := ∑ s ∈ Finset.range 2048, D.p (l / 64) t s * D.v s l

/-- A tile's outputs. -/
theorem Cert.AttnARun.Seq.tile_o (D : AttnARun.Seq) {n r l : ℕ} (hn : n < 16) (hr : r < 128) {w : ℕ → ℝ}
    (hw : ∀ j, 512 ≤ j + 128 * n → w j = D.v (AttnARun.key n j) l) :
    (∑ j ∈ Finset.range 640, (if AttnARun.ok n r j then D.p (l / 64) (128 * n + r) (AttnARun.key n j) else 0) * w j) = D.o (128 * n + r) l := by
  unfold o
  rw [← AttnARun.sum_window hn hr (fun s => D.p (l / 64) (128 * n + r) s * D.v s l) fun s hs => by rw [D.p_zero _ hs, zero_mul]]
  refine Finset.sum_congr rfl fun j _ => ?_
  by_cases hj : AttnARun.ok n r j
  · rw [if_pos hj, if_pos hj, hw j hj.2]
  · rw [if_neg hj, if_neg hj, zero_mul]

namespace Cert.AttnAFwdRun

open Idealize.ShloMosaic Idealize.ShloMosaic.TcCoe Idealize.ShloMosaic.Tactic
open Cert.AttnAFwdIdeal Cert.AttnAFwdIdeal.Gen
open Cert.AttnARun (Seq hs ok key stack nt headOf validV probsV tile_inb head_inb Re ReR ReW Seqs Bands held5 held5_key valid_apply)
open Cert.AttnBRun (sum_fin sel_first)

section Steps

variable {F : FTy → Type} [FloatOps F] [Named F] (i : grid0.Coords)

/-- The tile of 128 rows that tile `u`'s window has at place `d`. -/
abbrev rowsAt {a : Memref sig .tc .vmem S2048x128 .bf16} (f : BufTy.Contents (Elt F) a.view.ty) (u : Fin 8) (d : Fin 5) :
    S128x128.Idx → Elt F .bf16 :=
  View.readAt (Elt F) a.view (Rect.unit (s := S2048x128) (k0_off1 i (BitVec.ofNat 32 u.val) (BitVec.ofNat 32 d.val)) S128x128.size
    (k0_off1_inb i u d)).toLoadRect f

/-- Query tile `u` of a group. -/
abbrev tileAt {a : Memref sig .tc .vmem S1024x128 .bf16} (f : BufTy.Contents (Elt F) a.view.ty) (u : Fin 8) : S128x128.Idx → Elt F .bf16 :=
  View.readAt (Elt F) a.view (Rect.unit (s := S1024x128) ![128 * u.val, 0] S128x128.size (tile_inb u)).toLoadRect f

/-- One head's band. -/
abbrev headAt {a : Memref sig .tc .vmem S2x128x640 .f32} (f : BufTy.Contents (Elt F) a.view.ty) (h : Fin 2) : S1x128x640.Idx → Elt F .f32 :=
  View.readAt (Elt F) a.view (Rect.unit (s := S2x128x640) ![h.val, 0, 0] S1x128x640.size (head_inb h)).toLoadRect f

/-- Tile `u`'s number in the sequence, as a word. -/
def num (u : Fin 8) : BitVec 32 := Scalar.addi (Scalar.muli (BitVec.ofNat 32 (i 2).val) 8#32) (BitVec.ofNat 32 u.val)

/-- A tile's outputs: of its window's values and the two heads' weights. -/
def outV (w : FVec F S640x128 .bf16) (p : Fin 2 → FVec F S128x640 .f32) : FVec F S128x128 .bf16 :=
  k0_pay124 k0_pay2 (k0_pay108 w (p 0)) (k0_pay109 w (p 1))

variable {a3 : Memref sig .tc .vmem S1024x128 .bf16} (h3 : a3.IsWhole) {a4 : Memref sig .tc .vmem S2048x128 .bf16} (h4 : a4.IsWhole)
  {a5 : Memref sig .tc .vmem S2048x128 .bf16} (h5 : a5.IsWhole) {a6 : Memref sig .tc .vmem S2x128x640 .f32} (h6 : a6.IsWhole)
  (x0 : Vec F S1024x128 .bf16) (x1 : Vec F S2048x128 .bf16) (x2 : Vec F S2048x128 .bf16) (x3 : Vec F S2x128x640 .f32)

/-- The keys, or the values, of tile `u`'s window. -/
def wW (u : Fin 8) : FVec F S640x128 .bf16 := stack fun d => rowsAt i (a := a4) (h4.unread x1) u d
/-- Tile `u`'s queries, one head. -/
def qT (u : Fin 8) (h : Fin 2) : FVec F S128x128 .bf16 := headOf h (tileAt (a := a3) (h3.unread x0) u)
/-- Tile `u`'s weights. -/
def pT (u : Fin 8) (h : Fin 2) : FVec F S128x640 .f32 :=
  probsV (validV (num i u)) (nt (wW i h4 x1 u) (qT h3 x0 u h)) (headAt (a := a6) (h6.unread x3) h)
/-- Tile `u`'s outputs. -/
def oT (u : Fin 8) : FVec F S128x128 .bf16 := outV (wW i h5 x2 u) (pT i h3 h4 h6 x0 x1 x3 u)
/-- The rows of the output to write. -/
abbrev oP (u : Fin 8) : View.Piece (Elt F) S1024x128 .bf16 :=
  ⟨Rect.unit (s := S1024x128) ![128 * u.val, 0] S128x128.size (tile_inb u), oT i h3 h4 h5 h6 x0 x1 x2 x3 u⟩

/-- The rows the body writes. -/
theorem run_o (c : Dev nD) (a7 : Memref sig .tc .vmem S1024x128 .bf16) (h7 : a7.IsWhole) :
    (kernelRun0_A (F := F) c i a3 h3 a4 h4 a5 h5 a6 h6 a7 h7 x0 x1 x2 x3).1
      = [oP i h3 h4 h5 h6 x0 x1 x2 x3 7, oP i h3 h4 h5 h6 x0 x1 x2 x3 6, oP i h3 h4 h5 h6 x0 x1 x2 x3 5, oP i h3 h4 h5 h6 x0 x1 x2 x3 4,
        oP i h3 h4 h5 h6 x0 x1 x2 x3 3, oP i h3 h4 h5 h6 x0 x1 x2 x3 2, oP i h3 h4 h5 h6 x0 x1 x2 x3 1, oP i h3 h4 h5 h6 x0 x1 x2 x3 0] := by
  sl_kernel_rfl

end Steps

theorem off_eq : ∀ (i : grid0.Coords) (u : Fin 8) (d : Fin 5), k0_off1 i (BitVec.ofNat 32 u.val) (BitVec.ofNat 32 d.val)
    = ![128 * (8 * (i 2).val + u.val + d.val - 4), 0] := by decide +kernel
theorem num_eq : ∀ (i : grid0.Coords) (u : Fin 8), num i u = BitVec.ofNat 32 (8 * (i 2).val + u.val) := by decide +kernel

/-- A tile of rows to write. -/
abbrev tP (w : Fin 8 → FVec Ideal S128x128 .bf16) (u : Fin 8) : View.Piece (Elt Ideal) S1024x128 .bf16 :=
  ⟨Rect.unit (s := S1024x128) ![128 * u.val, 0] S128x128.size (tile_inb u), w u⟩

/-- Eight tiles of rows written, at an entry. -/
theorem tiles_read {κ₀ : Kind} {sp : Space} (v : View sig κ₀ sp S1024x128 .bf16) (f : v.ty.Contents (Elt Ideal)) (w : Fin 8 → FVec Ideal S128x128 .bf16) {g : ℕ → ℕ → ℝ}
    (hw : ∀ u : Fin 8, ReR (w u) fun r l => g (128 * u + r) l) (r : Fin 1024) (l : Fin 128) :
    v.read (Elt Ideal) (v.writes (Elt Ideal) f [tP w 7, tP w 6, tP w 5, tP w 4, tP w 3, tP w 2, tP w 1, tP w 0]) (ix2 r l) = ((g r l : ℝ) : EReal) := by
  have e (u : Fin 8) (h : r.val / 128 = u.val) (L) : v.read (Elt Ideal) (v.writes (Elt Ideal) f (tP w u :: L)) (ix2 r l) = ((g r l : ℝ) : EReal) := by
    have hr : r.val % 128 < 128 := Nat.mod_lt _ (by norm_num)
    refine (View.read_writes_cons_rows_of_mem v f (o := 128 * u.val) (tile_inb u) (w u) L (ix2 r l)
      (ix2 ⟨r.val % 128, hr⟩ l) rfl (by show r.val = 128 * u.val + r.val % 128; omega) rfl).trans ((hw u _ _).trans ?_)
    show ((g (128 * u.val + r.val % 128) l : ℝ) : EReal) = _
    rw [show 128 * u.val + r.val % 128 = r by omega]
  have n (u : Fin 8) (h : r.val / 128 ≠ u.val) (L) : v.read (Elt Ideal) (v.writes (Elt Ideal) f (tP w u :: L)) (ix2 r l)
      = v.read (Elt Ideal) (v.writes (Elt Ideal) f L) (ix2 r l) :=
    View.read_writes_cons_rows_of_not_mem v f (o := 128 * u.val) (W := 128) (tile_inb u) (w u) L (ix2 r l) rfl rfl
      (by show r.val < 128 * u.val ∨ 128 * u.val + 128 ≤ r.val; omega)
  have hr := r.isLt
  by_cases h7 : r.val / 128 = 7
  · exact e 7 h7 _
  rw [n 7 h7]
  by_cases h6 : r.val / 128 = 6
  · exact e 6 h6 _
  rw [n 6 h6]
  by_cases h5 : r.val / 128 = 5
  · exact e 5 h5 _
  rw [n 5 h5]
  by_cases h4 : r.val / 128 = 4
  · exact e 4 h4 _
  rw [n 4 h4]
  by_cases h3 : r.val / 128 = 3
  · exact e 3 h3 _
  rw [n 3 h3]
  by_cases h2 : r.val / 128 = 2
  · exact e 2 h2 _
  rw [n 2 h2]
  by_cases h1 : r.val / 128 = 1
  · exact e 1 h1 _
  rw [n 1 h1]
  exact e 0 (by show _ = 0; omega) _

section Point

variable {i : grid0.Coords} {D : Seq} {a3 : Memref sig .tc .vmem S1024x128 .bf16} {h3 : a3.IsWhole} {a4 : Memref sig .tc .vmem S2048x128 .bf16} {h4 : a4.IsWhole}
  {a5 : Memref sig .tc .vmem S2048x128 .bf16} {h5 : a5.IsWhole} {a6 : Memref sig .tc .vmem S2x128x640 .f32} {h6 : a6.IsWhole}
  {x0 : Vec Ideal S1024x128 .bf16} {x1 : Vec Ideal S2048x128 .bf16} {x2 : Vec Ideal S2048x128 .bf16} {x3 : Vec Ideal S2x128x640 .f32}

/-- The window's rows, real. -/
theorem re_w {f : ℕ → ℕ → ℝ} (hx : Seqs x1 f) (u : Fin 8) : ReW (wW i h4 x1 u) fun j l => f (held5 (8 * (i 2).val + u) j) l :=
  ReW.stack (f := fun d r l => f (128 * (8 * (i 2).val + u + d - 4) + r) l) fun d r l => by
    have hi : (i 2).val < 2 := (i 2).isLt
    have hs : 128 * (8 * (i 2).val + u.val + d.val - 4) + r.val < 2048 := by omega
    have ho := off_eq i u d
    refine (View.ld_unit_apply_of (a4.view.read (Elt Ideal) (h4.unread x1)) _ _ _ _ (ix2 ⟨_, hs⟩ l) fun b => ?_).trans
      ((congrFun (h4.read_unread _) _).trans (hx _ _))
    match b with
    | ⟨0, _⟩ => exact congrArg (· + r.val) (congrFun ho 0).symm
    | ⟨1, _⟩ => exact (Nat.zero_add _).symm.trans (congrArg (· + l.val) (congrFun ho 1).symm)

/-- The tile's queries, real. -/
theorem re_q (hx : ∀ (r : Fin 1024) (l : Fin 128), x0 (ix2 r l) = ((D.q (1024 * (i 2).val + r) l : ℝ) : EReal)) (u : Fin 8) (h : Fin 2) :
    ReR (qT h3 x0 u h) fun r l => if l / 64 = h then D.q (128 * (8 * (i 2).val + u) + r) l else 0 :=
  ReR.head h fun r l => by
    refine (View.ld_unit_apply_of (a3.view.read (Elt Ideal) (h3.unread x0)) _ _ _ _ (ix2 ⟨128 * u.val + r.val, by omega⟩ l) fun b => ?_).trans
      ((congrFun (h3.read_unread _) _).trans ((hx _ _).trans ?_))
    · match b with
      | ⟨0, _⟩ => rfl
      | ⟨1, _⟩ => exact (Nat.zero_add _).symm
    · show ((D.q (1024 * (i 2).val + (128 * u.val + r.val)) l : ℝ) : EReal) = _
      rw [show 1024 * (i 2).val + (128 * u.val + r.val) = 128 * (8 * (i 2).val + u) + r by omega]

theorem re_b (hx : Bands x3 fun h r j => D.c h (min 256 (640 + r - j))) (h : Fin 2) (r : Fin 128) (j : Fin 640) :
    headAt (F := Ideal) (a := a6) (h6.unread x3) h (ix3 0 r j) = ((D.c h (min 256 (640 + r - j)) : ℝ) : EReal) := by
  refine (View.ld_unit_apply_of (a6.view.read (Elt Ideal) (h6.unread x3)) _ _ _ _ (ix3 h r j) fun b => ?_).trans
    ((congrFun (h6.read_unread _) _).trans (hx _ _ _))
  match b with
  | ⟨0, _⟩ => rfl
  | ⟨1, _⟩ => exact (Nat.zero_add _).symm
  | ⟨2, _⟩ => exact (Nat.zero_add _).symm

variable (hq : ∀ (r : Fin 1024) (l : Fin 128), x0 (ix2 r l) = ((D.q (1024 * (i 2).val + r) l : ℝ) : EReal)) (hk : Seqs x1 D.k)
  (hv : Seqs x2 D.v) (hb : Bands x3 fun h r j => D.c h (min 256 (640 + r - j)))

include hq hk hb in
/-- The tile's weights. -/
theorem re_p (u : Fin 8) (h : Fin 2) : Re (pT i h3 h4 h6 x0 x1 x3 u h) fun r j => if ok (8 * (i 2).val + u) r j then
    D.p h (128 * (8 * (i 2).val + u) + r) (key (8 * (i 2).val + u) j) else 0 := fun r j => by
  have hi : (i 2).val < 2 := (i 2).isLt
  have hn : 8 * (i 2).val + u.val < 16 := by omega
  refine (Re.probs (n := 8 * (i 2).val + u) (fy := fun r j => D.c h (min 256 (640 + r - j))) (fun r j => valid_apply (num_eq i u) hn r j)
    (Re.nt (re_w hk u) (re_q hq u h)) (re_b hb h) r j).trans (congrArg Real.toEReal
      (D.tile_p h hn r.isLt (j := j) (x := fun j => hs h (D.q (128 * (8 * (i 2).val + u) + r)) (D.k (held5 (8 * (i 2).val + u) j)) * (1 / 8)
        + D.c h (min 256 (640 + r - j))) fun j hj => ?_))
  dsimp only
  unfold Seq.z hs
  rw [held5_key hj.2, show 128 * (8 * (i 2).val + u.val) + r.val + 128 - key (8 * (i 2).val + u) j = 640 + r - j by
    have := hj.2; unfold key; omega]

/-- The weighted sums of two heads, each on its lanes. -/
theorem re_out {w : FVec Ideal S640x128 .bf16} {fw : ℕ → ℕ → ℝ} {d : Fin 2 → FVec Ideal S128x640 .f32} {fd : ℕ → ℕ → ℕ → ℝ}
    (hw : ReW w fw) (hd : ∀ h : Fin 2, Re (d h) (fd h)) :
    ReR (outV w d) fun r l => ∑ j ∈ Finset.range 640, fd (l / 64) r j * fw j l := fun r l => by
  have hl := l.isLt
  pointwise [outV, k0_pay2, k0_pay108, k0_pay109, k0_pay124]
  have e (h : Fin 2) : ∑ j, d h (ix2 r j) * w (ix2 j l) = ((∑ j ∈ Finset.range 640, fd h r j * fw j l : ℝ) : EReal) := by
    rw [← sum_fin 640 fun j => fd h r j * fw j l]
    exact Finset.sum_congr rfl fun j _ => by rw [hd, hw, EReal.coe_mul]
  rw [sel_first hl, e, e]
  by_cases h : l.val / 64 = 0
  · rw [if_pos h, h]; rfl
  · rw [if_neg h, show l.val / 64 = 1 by omega]; rfl

include hq hk hv hb

/-- The tile's outputs. -/
theorem re_o (u : Fin 8) : ReR (oT i h3 h4 h5 h6 x0 x1 x2 x3 u) fun r l => D.o (128 * (8 * (i 2).val + u) + r) l := fun r l => by
  have hi : (i 2).val < 2 := (i 2).isLt
  have hn : 8 * (i 2).val + u.val < 16 := by omega
  exact (re_out (re_w hv u) (fd := fun h r j => if ok (8 * (i 2).val + u) r j then
    D.p h (128 * (8 * (i 2).val + u) + r) (key (8 * (i 2).val + u) j) else 0) (fun h => re_p hq hk hb u h) r l).trans (congrArg Real.toEReal
    (D.tile_o hn r.isLt fun j hj => by rw [held5_key hj]))

/-- The block the point writes. -/
theorem point_o (c : Dev nD) (a7 : Memref sig .tc .vmem S1024x128 .bf16) (h7 : a7.IsWhole) (r : Fin 1024) (l : Fin 128) :
    out0_A_4 (F := Ideal) c i a3 h3 a4 h4 a5 h5 a6 h6 a7 h7 x0 x1 x2 x3 (ix2 r l) = ((D.o (1024 * (i 2).val + r) l : ℝ) : EReal) := by
  unfold out0_A_4
  rw [run_o]
  exact tiles_read VO0_4 VO0_4.junk (oT i h3 h4 h5 h6 x0 x1 x2 x3) (g := fun r l => D.o (1024 * (i 2).val + r) l) (fun u r l =>
    (re_o hq hk hv hb u r l).trans (congrArg Real.toEReal (by
      dsimp only
      rw [show 128 * (8 * (i 2).val + u.val) + r.val = 1024 * (i 2).val + (128 * u + r) by omega]))) r l

end Point

end Cert.AttnAFwdRun

end
-- ==== Proof.AttnAFwdValue.lean ====
module

public import proofs.«01_k».proof.Proof.AttnAFwdPoint
public import proofs.«01_k».proof.Proof.AttnARefValue
public import proofs.«01_k».proof.Proof.AttnBValue
public import proofs.«01_k».proof.Proof.Gen.AttnAFwdRefIdeal.Read
public import proofs.«01_k».proof.Proof.Gen.Pre_finite_attn_a_fwd
public import proofs.«01_k».proof.Defs
public import proofs.«01_k».proof.Proof.Reals

/-! The chunked-attention forward kernel and its reference end with equal outputs. -/

@[expose] public section

set_option maxRecDepth 16384

noncomputable section

namespace Cert.AttnAFwdRun

open Idealize.ShloMosaic Idealize.ShloMosaic.TcCoe Idealize.SL.Sem Idealize.ShloMosaic.Tactic
open Cert.Reals Cert.AttnAFwdIdeal Cert.AttnAFwdIdeal.Gen
open Cert.AttnARun (Seq Seqs Bands seqAt dat arr arr_block gather_row_apply rowWord_band)

/-- The arguments are real. -/
structure Real (m : (ℓ : Loc nD τ sig) → Buf (Elt Ideal) ℓ) (c : Dev nD) (Q B : ℕ → ℕ → ℝ) : Prop where
  qkv : ∀ (t : Fin 4096) (l : Fin 3072),
    (m ((c.tc : Thread nD τ).loc main_arg0) : S4096x3072.Idx → EReal) (ix2 t l) = ((Q t l : ℝ) : EReal)
  bias : ∀ (x : Fin 257) (h : Fin 16),
    (m ((c.tc : Thread nD τ).loc main_arg1) : S257x16.Idx → EReal) (ix2 x h) = ((B x h : ℝ) : EReal)

theorem coords_eq : ∀ t : Fin grid0.N, (grid0.coords t 2).val = t.val % 2 := by decide +kernel
theorem index_q : ∀ t : Fin grid0.N, win0_0.index t 0 = 2 * (t.val / 2 % 2) + t.val % 2 ∧ win0_0.index t 1 = t.val / 4 := by
  decide +kernel
theorem index_k : ∀ t : Fin grid0.N, win0_1.index t 0 = t.val / 2 % 2 ∧ win0_1.index t 1 = 8 + t.val / 4 := by decide +kernel
theorem index_v : ∀ t : Fin grid0.N, win0_2.index t 0 = t.val / 2 % 2 ∧ win0_2.index t 1 = 16 + t.val / 4 := by decide +kernel
theorem index_b : ∀ t : Fin grid0.N, win0_3.index t 0 = t.val / 4 ∧ win0_3.index t 1 = 0 ∧ win0_3.index t 2 = 0 := by decide +kernel
theorem index_o : ∀ t : Fin grid0.N, win0_4.index t 0 = 2 * (t.val / 2 % 2) + t.val % 2 ∧ win0_4.index t 1 = t.val / 4 := by
  decide +kernel

/-- The band of biases the host prepares. -/
abbrev bandArr (m : (ℓ : Loc nD τ sig) → Buf (Elt Ideal) ℓ) (c : Dev nD) : S16x128x640.Idx → EReal := V m c main_v15

/-- The band at a head, a row and a place of its window: the table's entry of their relative position. -/
theorem bandArr_apply (m : (ℓ : Loc nD τ sig) → Buf (Elt Ideal) ℓ) (c : Dev nD) (h : Fin 16) (r : Fin 128) (j : Fin 640) :
    bandArr m c (ix3 h r j)
      = (m ((c.tc : Thread nD τ).loc main_arg1) : S257x16.Idx → EReal) (ix2 ⟨min 256 (640 + r.val - j.val), by omega⟩ h) := by
  after_reads_at
  refine (gather_row_apply (N := 257) (C := 16) (R := 128) (S := 640) (by decide)
    gather_S257x16_S128x640x1_S128x640x16_2_0_n_n_0_2_116.wf _ _ r j h).trans
    (congrArg (m ((c.tc : Thread nD τ).loc main_arg1)) (congrArg (fun k => ix2 k h) (Fin.ext ?_)))
  exact Eq.trans (congrArg (fun w : BitVec 32 => min w.toInt.toNat 256) rfl) (rowWord_band r.val j.val r.isLt j.isLt)

theorem places_o : ∀ (a : Fin 4) (b : Fin 8), ∃ t : Fin grid0.N, win0_4.index t 0 = a.val ∧ win0_4.index t 1 = b.val := by decide +kernel

/-- No cotangents. -/
abbrev none₂ : ℕ → ℕ → ℝ := fun _ _ => 0

section

variable (m : (ℓ : Loc nD τ sig) → Buf (Elt Ideal) ℓ) (ρ : Dev nD → PrngReg) (c : Dev nD) {Q B : ℕ → ℕ → ℝ} (hR : Real m c Q B)
include hR

theorem blk_q (t : Fin grid0.N) (r : Fin 1024) (l : Fin 128) :
    (iblk m c 0 t : S1024x128.Idx → EReal) (ix2 r l) = (((dat Q B none₂ t.val).q (1024 * (t.val % 2) + r) l : ℝ) : EReal) :=
  (congrFun (V_main_arg0 m c) _).trans (at_ix (g := Q) hR.qkv ((tile_at (index_q t).1 1024 r).trans (by omega)) (tile_at (index_q t).2 128 l))

theorem blk_k (t : Fin grid0.N) : Seqs (iblk m c 1 t : S2048x128.Idx → EReal) (dat Q B none₂ t.val).k := fun s l =>
  (congrFun (V_main_arg0 m c) _).trans (at_ix (g := Q) hR.qkv (tile_at (index_k t).1 2048 s) ((tile_at (index_k t).2 128 l).trans (by omega)))

theorem blk_v (t : Fin grid0.N) : Seqs (iblk m c 2 t : S2048x128.Idx → EReal) (dat Q B none₂ t.val).v := fun s l =>
  (congrFun (V_main_arg0 m c) _).trans (at_ix (g := Q) hR.qkv (tile_at (index_v t).1 2048 s) ((tile_at (index_v t).2 128 l).trans (by omega)))

theorem blk_b (t : Fin grid0.N) :
    Bands (iblk m c 3 t : S2x128x640.Idx → EReal) fun h r j => (dat Q B none₂ t.val).c h (min 256 (640 + r - j)) := fun h r j => by
  have ht : t.val < 32 := t.isLt
  refine Eq.trans (congrArg (bandArr m c) (funext fun a => Fin.ext ?_)) ((bandArr_apply m c ⟨2 * (t.val / 4) + h.val, by omega⟩ r j).trans
    ((hR.bias _ _).trans rfl))
  match a with
  | ⟨0, _⟩ => show win0_3.index t 0 * 2 + 1 * h.val = 2 * (t.val / 4) + h.val; rw [(index_b t).1]; omega
  | ⟨1, _⟩ => show win0_3.index t 1 * 128 + 1 * r.val = r.val; rw [(index_b t).2.1]; omega
  | ⟨2, _⟩ => show win0_3.index t 2 * 640 + 1 * j.val = j.val; rw [(index_b t).2.2]; omega

/-- What a point writes back: the outputs of its rows. -/
theorem flushed_o (t : Fin cfg0.N) (r : Fin 1024) (l : Fin 128) : ((dats m 0 c).flushed 4 t : S1024x128.Idx → EReal) (ix2 r l)
    = (((dat Q B none₂ t.val).o (1024 * (t.val % 2) + r) l : ℝ) : EReal) := by
  rw [Cert.AttnAFwdIdeal.Value.flushed4_A]
  have e := coords_eq t
  refine (point_o (D := dat Q B none₂ t.val) (fun r l => (blk_q m c hR t r l).trans (by rw [e])) (blk_k m c hR t) (blk_v m c hR t) (blk_b m c hR t)
    c _ _ r l).trans (by rw [e])

/-- The output's array. -/
theorem arr_o : (dats m 0 c).arrAt 4 cfg0.N = arr Seq.o Q B none₂ :=
  (dats m 0 c).arrAt_eq_of_emb 4 _ (fun t _ y => by
    obtain ⟨r, l, rfl⟩ := exists_ix2 y
    exact (flushed_o m c hR t r l).trans (arr_block Seq.o (by omega) l.isLt ((tile_at (index_o t).1 1024 r).trans (by omega)) (tile_at (index_o t).2 128 l)))
    fun i => (blocks_cover 1024 128 rfl rfl win0_4.index places_o (fun _ => ⟨_, rfl⟩) i).imp fun t ht => ⟨flush0_4 t, in_slice ht⟩

end

end Cert.AttnAFwdRun

namespace Cert.AttnAFwdValue

open Idealize.ShloMosaic Idealize.ShloMosaic.TcCoe Idealize.SL.Sem
open Cert.AttnAFwdRun
open Cert.AttnARun (Seq seqAt sq arr flat ln_div p_real v_real)
open Cert.AttnBRun (real_of_lt nums nums_eq top_bits Is4 ln sum_mul)

section Ref

open Cert.AttnAFwdRefIdeal Cert.AttnAFwdRefIdeal.Read

variable {x0 : (⟨S4096x3072, .bf16⟩ : BufTy).Contents (Elt Ideal)} {x1 : (⟨S257x16, .f32⟩ : BufTy).Contents (Elt Ideal)} {Q B : ℕ → ℕ → ℝ}
  (hQ : ∀ (t : Fin 4096) (l : Fin 3072), x0 (ix2 t l) = ((Q t l : ℝ) : EReal))
  (hB : ∀ (x : Fin 257) (h : Fin 16), x1 (ix2 x h) = ((B x h : ℝ) : EReal))

include hQ hB in
/-- The reference's weights. -/
theorem w_real : Is4 (val_main_v52 (F := Ideal) x0 x1) fun b h t s => (sq Q B none₂ b h).p (h % 2) t s := p_real (C := none₂) hQ hB

include hQ in
/-- The reference's values. -/
theorem values_real : Is4 (val_main_v11 (F := Ideal) x0) fun b t h d => (sq Q B none₂ b h).v t (ln h d) := v_real (C := none₂) hQ

include hQ hB in
/-- The reference's outputs are the kernel's. -/
theorem out_eq : val_main_v56 (F := Ideal) x0 x1 = arr Seq.o Q B none₂ := funext fun i => by
  rw [val_main_v56_apply, val_main_v55_apply]
  refine flat (X := val_main_v54 (F := Ideal) x0 x1) (fun i => ?_) i
  have hd : (i 3).val < 64 := (i 3).isLt
  rw [val_main_v54_apply, val_main_v53_apply,
    sum_mul (fun s => (sq Q B none₂ (i 0).val (i 2).val).v s (ln (i 2).val (i 3).val)) (fun s => (sq Q B none₂ (i 0).val (i 2).val).p ((i 2).val % 2) (i 1).val s)
      (fun k => values_real (B := B) hQ (lidx_main_v53 (idx_main_v54 i) k)) (fun k => w_real hQ hB (ridx_main_v53 (idx_main_v54 i) k))]
  refine congrArg Real.toEReal ?_
  show _ = (sq Q B none₂ (i 0).val (i 2).val).o (i 1).val (ln (i 2).val (i 3).val)
  unfold Seq.o
  rw [ln_div _ _ hd]
  exact Finset.sum_congr rfl fun s _ => mul_comm _ _

end Ref

/-- The precondition says that the arguments are real. -/
theorem real_of_pre (m : (ℓ : Loc Cert.AttnAFwdIdeal.nD Cert.AttnAFwdIdeal.τ Cert.AttnAFwdIdeal.sig) → Buf (Elt Ideal) ℓ) (c : Dev Cert.AttnAFwdIdeal.nD)
    (hP : Cert.Pre_AttnAFwdIdeal_finite_attn_a_fwd (hPre_finite_attn_a_fwd := Cert.Pre_finite_attn_a_fwd.Gen.facts) m) :
    Real m c (nums (m ((c.tc : Thread Cert.AttnAFwdIdeal.nD Cert.AttnAFwdIdeal.τ).loc Cert.AttnAFwdIdeal.main_arg0)))
      (nums (m ((c.tc : Thread Cert.AttnAFwdIdeal.nD Cert.AttnAFwdIdeal.τ).loc Cert.AttnAFwdIdeal.main_arg1))) := by
  obtain ⟨h0, h1⟩ := hP c
  constructor
  · exact fun t l => nums_eq (fun i => real_of_lt (by rw [← top_bits]; exact congrFun h0 i)) t l
  · exact fun x h => nums_eq (fun i => real_of_lt (by rw [← top_bits]; exact congrFun h1 i)) x h

/-- The mask's constant stands for minus infinity. -/
theorem preserves : Cert.preserves_AttnAFwd_AttnAFwdIdeal := IdealRules.named_const.statement _ _ _ _ _ rfl

/-- The chunked-attention forward kernel and the plainly written attention end with equal results. -/
theorem algebraic : Cert.algebraic_AttnAFwdIdeal_AttnAFwdRefIdeal_pre_finite_attn_a_fwd
    (hPre_finite_attn_a_fwd := Cert.Pre_finite_attn_a_fwd.Gen.facts) := fun m ρ m' ρ' hP hag =>
  have hR := fun c => real_of_pre m c hP
  ⟨fun c => arr Seq.o _ _ none₂,
    (θ_run _ _ _).mono (fun r h c => ⟨(h c).1.trans (arr_o m c (hR c)), (h c).2⟩) (Cert.AttnAFwdIdeal.Value.run_blocks (F := Ideal) m ρ),
    (θ_run _ _ _).mono (fun r h c => by
      obtain ⟨h1, h2⟩ := h c
      rw [Cert.AttnAFwdRefIdeal.Read.val_main_v56_eq] at h1
      exact ⟨h1.trans (out_eq (fun t l => (congrFun (hag c).1 (ix2 t l)).trans ((hR c).qkv t l))
        (fun x h => (congrFun (hag c).2 (ix2 x h)).trans ((hR c).bias x h))), h2⟩) (Cert.AttnAFwdRefIdeal.Value.run (F := Ideal) m' ρ')⟩

end Cert.AttnAFwdValue

end
-- ==== Proof.FfnUpValue.lean ====
/- The gated unit's forward call: two products and the gate of the first times the second, in four by four blocks of three column
   pieces each; against the plainly written lines. Both sides are the same expressions, so that no argument need be finite. -/
module

public import proofs.«01_k».proof.Defs
public import proofs.«01_k».proof.Proof.Reals
public import proofs.«01_k».proof.Proof.Gen.FfnUpIdeal.Value
public import proofs.«01_k».proof.Proof.Gen.FfnUpRefIdeal.Read

@[expose] public section

set_option maxRecDepth 16384

noncomputable section

namespace Cert.FfnUpValue

open Cert.Reals Cert.FfnUpIdeal Cert.FfnUpIdeal.Gen Idealize.ShloMosaic Idealize.ShloMosaic.TcCoe Idealize.SL.Sem
open Idealize.ShloMosaic.Pipeline (Dat)

/-! ## One block -/

/-- Three column pieces side by side: where each piece is its part of `G`, the block is `G`. -/
theorem three_pieces (G : Fin 1024 → Fin 768 → EReal) (p q s : Vec Ideal S1024x256 .bf16)
    (hp : ∀ r (k : Fin 256), p (ix2 r k) = G r ⟨0 + k.val, by omega⟩) (hq : ∀ r (k : Fin 256), q (ix2 r k) = G r ⟨256 + k.val, by omega⟩)
    (hs : ∀ r (k : Fin 256), s (ix2 r k) = G r ⟨512 + k.val, by omega⟩) (r : Fin 1024) (j : Fin 768) :
    View.canon (Val := Elt Ideal) (e := .bf16) [⟨r0_3, s⟩, ⟨r0_2, q⟩, ⟨r0_1, p⟩] (ix2 r j) = G r j := by
  have piece : ∀ (w : Vec Ideal S1024x256 .bf16) (o : ℕ) (ho : o + 256 ≤ 768), (∀ r (k : Fin 256), w (ix2 r k) = G r ⟨o + k.val, by omega⟩) →
      ∀ x : S1024x256.Idx, (∀ a : Fin 2, ((ix2 r j : S1024x768.Idx) a).val = ![0, o] a + (x a).val) → w x = G r j := by
    intro w o ho hw x hx
    obtain ⟨r', k, rfl⟩ := exists_ix2 x
    obtain rfl : r = r' := Fin.ext ((hx 0).trans (Nat.zero_add _))
    obtain rfl : j = ⟨o + k.val, by omega⟩ := Fin.ext (hx 1)
    exact hw r k
  refine View.canon_eq_of_allAt _ _ _ (cover0_3 s q p (ix2 r j)) (View.allAt_cons_unit _ _ _ _ _ ?_ (View.allAt_cons_unit _ _ _ _ _ ?_
    (View.allAt_cons_unit _ _ _ _ _ ?_ (View.allAt_nil _ _))))
  · exact piece s 512 (by omega) hs
  · exact piece q 256 (by omega) hq
  · exact piece p 0 (by omega) hp

/-- One entry of a product. -/
def entry (a b : Fin 1024 → EReal) : EReal := ∑ k, a k * b k

/-- One entry of the gated product. -/
def gated (h u : EReal) : EReal := h * Ideal.logistic h * u

section Body

variable (x : Vec Ideal S1024x1024 .bf16) (w v : Vec Ideal S1024x768 .bf16)

/-- A column piece of a weight. -/
theorem piece_cols (q : ℕ) (hq : q + 256 ≤ 768) (inb : ∀ a, ![0, q] a + S1024x256.size a ≤ S1024x768.size a) (r : Fin 1024) (k : Fin 256) :
    View.ld (Val := Elt Ideal) (e' := .bf16) w (Rect.unit (s := S1024x768) ![0, q] S1024x256.size inb) (ix2 r k) = w (ix2 r ⟨q + k.val, by omega⟩) :=
  View.ld_unit_apply_of (S := S1024x768) (e := .bf16) w _ _ inb (ix2 r k) (ix2 r ⟨q + k.val, by omega⟩) fun a => by
    match a with
    | ⟨0, _⟩ => show r.val = 0 + r.val; omega
    | ⟨1, _⟩ => rfl

theorem prod_apply (y : Vec Ideal S1024x256 .bf16) (r : Fin 1024) (k : Fin 256) :
    k0_pay5 (F := Ideal) x y (ix2 r k) = entry (fun l => x (ix2 r l)) fun l => y (ix2 l k) := by
  pointwise [k0_pay5]
  rfl

theorem gate_apply (h u : FVec Ideal S1024x256 .f32) (i : S1024x256.Idx) : k0_pay4 (F := Ideal) h u i = gated (h i) (u i) := by
  pointwise [k0_pay4]
  rfl

/-- The product of a block of rows with a block of columns, at a column piece. -/
theorem prod_piece (q : ℕ) (hq : q + 256 ≤ 768) (inb : ∀ a, ![0, q] a + S1024x256.size a ≤ S1024x768.size a) (r : Fin 1024) (k : Fin 256) :
    k0_pay5 (F := Ideal) (View.ld x r0_0) (View.ld w (Rect.unit (s := S1024x768) ![0, q] S1024x256.size inb)) (ix2 r k)
      = entry (fun l => x (ix2 r l)) fun l => w (ix2 l ⟨q + k.val, by omega⟩) := by
  rw [prod_apply, View.ld_unit_zero (S := S1024x1024) zero_off]
  exact congrArg (entry _) (funext fun l => piece_cols w q hq inb l k)

theorem h_block (r : Fin 1024) (j : Fin 768) : out0_3 x w v (ix2 r j) = entry (fun l => x (ix2 r l)) fun l => w (ix2 l j) :=
  three_pieces (fun r j => entry (fun l => x (ix2 r l)) fun l => w (ix2 l j)) _ _ _ (prod_piece x w 0 (by omega) _)
    (prod_piece x w 256 (by omega) _) (prod_piece x w 512 (by omega) _) r j

theorem u_block (r : Fin 1024) (j : Fin 768) : out0_4 x w v (ix2 r j) = entry (fun l => x (ix2 r l)) fun l => v (ix2 l j) :=
  h_block x v w r j

theorem a_block (r : Fin 1024) (j : Fin 768) :
    out0_5 x w v (ix2 r j) = gated (entry (fun l => x (ix2 r l)) fun l => w (ix2 l j)) (entry (fun l => x (ix2 r l)) fun l => v (ix2 l j)) := by
  refine three_pieces (fun r j => gated (entry (fun l => x (ix2 r l)) fun l => w (ix2 l j)) (entry (fun l => x (ix2 r l)) fun l => v (ix2 l j)))
    _ _ _ ?_ ?_ ?_ r j <;> intro r k
  · exact (gate_apply _ _ _).trans (congrArg₂ gated (prod_piece x w 0 (by omega) _ r k) (prod_piece x v 0 (by omega) _ r k))
  · exact (gate_apply _ _ _).trans (congrArg₂ gated (prod_piece x w 256 (by omega) _ r k) (prod_piece x v 256 (by omega) _ r k))
  · exact (gate_apply _ _ _).trans (congrArg₂ gated (prod_piece x w 512 (by omega) _ r k) (prod_piece x v 512 (by omega) _ r k))

end Body

/-! ## The whole arrays -/

variable (m : (ℓ : Loc nD τ sig) → Buf (Elt Ideal) ℓ) (ρ : Dev nD → PrngReg)

/-- The launched arguments. -/
abbrev argX (c : Dev nD) : S4096x1024.Idx → EReal := m ((c : Thread nD τ).loc main_arg0)
abbrev argG (c : Dev nD) : S1024x3072.Idx → EReal := m ((c : Thread nD τ).loc main_arg1)
abbrev argU (c : Dev nD) : S1024x3072.Idx → EReal := m ((c : Thread nD τ).loc main_arg2)

/-- The product of two arrays, and the gated product of three. -/
def product (x : S4096x1024.Idx → EReal) (w : S1024x3072.Idx → EReal) : S4096x3072.Idx → EReal := fun i =>
  entry (fun l => x (ix2 (i 0) l)) fun l => w (ix2 l (i 1))
def gatedArr (x : S4096x1024.Idx → EReal) (w v : S1024x3072.Idx → EReal) : S4096x3072.Idx → EReal := fun i => gated (product x w i) (product x v i)

/-- A block of a result is of the rows of the input's block and of the columns of the weights'; there is one at every place. -/
theorem index : ∀ t : Fin grid0.N, (win0_0.index t 0 = win0_3.index t 0 ∧ win0_0.index t 1 = 0)
    ∧ (win0_1.index t 0 = 0 ∧ win0_1.index t 1 = win0_3.index t 1) ∧ win0_2.index t 0 = 0 ∧ win0_2.index t 1 = win0_3.index t 1 := by decide +kernel
theorem places : ∀ a b : Fin 4, ∃ t : Fin grid0.N, win0_3.index t 0 = a.val ∧ win0_3.index t 1 = b.val := by decide +kernel
theorem covered : ∀ i : S4096x3072.Idx, ∃ t : Fin cfg0.N, i ∈ (win0_3.rect t).set :=
  blocks_cover 1024 768 rfl rfl win0_3.index places fun _ => ⟨_, rfl⟩

/-- An entry of a block of each product is that of the whole one. -/
theorem prod_g (c : Dev nD) (t : Fin cfg0.N) (r : Fin 1024) (k : Fin 768) :
    entry (fun l => (iblk m c 0 t : S1024x1024.Idx → EReal) (ix2 r l)) (fun l => (iblk m c 1 t : S1024x768.Idx → EReal) (ix2 l k))
      = product (argX m c) (argG m c) (((cfg0.win 3).blk t).view.emb (ix2 r k)) :=
  congrArg₂ entry (funext fun l => congrArg (argX m c) (idx2 (congrArg (· * 1024 + 1 * r.val) (index t).1.1) (whole_at (index t).1.2 1024 l)))
    (funext fun l => congrArg (argG m c) (idx2 (whole_at (index t).2.1.1 1024 l) (congrArg (· * 768 + 1 * k.val) (index t).2.1.2)))
theorem prod_u (c : Dev nD) (t : Fin cfg0.N) (r : Fin 1024) (k : Fin 768) :
    entry (fun l => (iblk m c 0 t : S1024x1024.Idx → EReal) (ix2 r l)) (fun l => (iblk m c 2 t : S1024x768.Idx → EReal) (ix2 l k))
      = product (argX m c) (argU m c) (((cfg0.win 3).blk t).view.emb (ix2 r k)) :=
  congrArg₂ entry (funext fun l => congrArg (argX m c) (idx2 (congrArg (· * 1024 + 1 * r.val) (index t).1.1) (whole_at (index t).1.2 1024 l)))
    (funext fun l => congrArg (argU m c) (idx2 (whole_at (index t).2.2.1 1024 l) (congrArg (· * 768 + 1 * k.val) (index t).2.2.2)))

theorem final_h (c : Dev nD) : (dats m 0 c).arrAt 3 cfg0.N = product (argX m c) (argG m c) :=
  (dats m 0 c).arrAt_eq_of_cover 3 _
    (fun t _ => by
      rw [Value.flushed3]
      funext j
      obtain ⟨r, k, rfl⟩ := exists_ix2 j
      exact (h_block (iblk m c 0 t) (iblk m c 1 t) (iblk m c 2 t) r k).trans (prod_g m c t r k))
    fun i => (covered i).imp fun t ht => ⟨flush0_3 t, in_slice ht⟩

theorem final_u (c : Dev nD) : (dats m 0 c).arrAt 4 cfg0.N = product (argX m c) (argU m c) :=
  (dats m 0 c).arrAt_eq_of_cover 4 _
    (fun t _ => by
      rw [Value.flushed4]
      funext j
      obtain ⟨r, k, rfl⟩ := exists_ix2 j
      exact (u_block (iblk m c 0 t) (iblk m c 1 t) (iblk m c 2 t) r k).trans (prod_u m c t r k))
    fun i => (covered i).imp fun t ht => ⟨flush0_4 t, in_slice ht⟩

theorem final_a (c : Dev nD) : (dats m 0 c).arrAt 5 cfg0.N = gatedArr (argX m c) (argG m c) (argU m c) :=
  (dats m 0 c).arrAt_eq_of_cover 5 _
    (fun t _ => by
      rw [Value.flushed5]
      funext j
      obtain ⟨r, k, rfl⟩ := exists_ix2 j
      exact (a_block (iblk m c 0 t) (iblk m c 1 t) (iblk m c 2 t) r k).trans (congrArg₂ gated (prod_g m c t r k) (prod_u m c t r k)))
    fun i => (covered i).imp fun t ht => ⟨flush0_5 t, in_slice ht⟩

section Reference

open Cert.FfnUpRefIdeal.Read

/-- The plainly written products and gate. -/
theorem ref_h (x : S4096x1024.Idx → EReal) (w : S1024x3072.Idx → EReal) : val_main_v5 (F := Ideal) x w = product x w := by
  funext i
  obtain ⟨p, j, rfl⟩ := exists_ix2 i
  pointwise [val_main_v5, val_main_v3, val_main_v0, val_main_v1]
  rfl

theorem ref_u (x : S4096x1024.Idx → EReal) (w : S1024x3072.Idx → EReal) : val_main_v6 (F := Ideal) x w = product x w := ref_h x w

theorem ref_a (x : S4096x1024.Idx → EReal) (w v : S1024x3072.Idx → EReal) : val_main_v9 (F := Ideal) x w v = gatedArr x w v := by
  funext i
  have hh : val_main_v3 (F := Ideal) x w i = product x w i := congrFun (ref_h x w) i
  have hu : val_main_v4 (F := Ideal) x v i = product x v i := congrFun (ref_u x v) i
  pointwise [val_main_v9, val_main_v8, val_main_v7, val_main_call0_v5, val_main_call0_v4, val_main_call0_cst_0, val_main_call0_v3, val_main_call0_v2,
    val_main_call0_cst, val_main_call0_v1, val_main_call0_v0]
  rw [hh, hu]
  rfl

end Reference

/-- The kernel and the plainly written lines end with equal results. -/
theorem algebraic : Cert.algebraic_FfnUpIdeal_FfnUpRefIdeal := fun m ρ m' ρ' _ hag =>
  ⟨fun c => product (argX m c) (argG m c), fun c => product (argX m c) (argU m c), fun c => gatedArr (argX m c) (argG m c) (argU m c),
    (θ_run defs _ _).mono (fun _ h c => ⟨(h c).1.trans (final_h m c), (h c).2.1.trans (final_u m c), (h c).2.2.1.trans (final_a m c), (h c).2.2.2⟩)
      (Value.run_blocks m ρ),
    (θ_run Cert.FfnUpRefIdeal.defs _ _).mono
      (fun _ h c => by
        obtain ⟨g0, g1, g2⟩ := hag c
        refine ⟨(h c).1.trans ((Cert.FfnUpRefIdeal.Read.val_main_v5_eq _ _).trans (by rw [g0, g1]; exact ref_h _ _)),
          (h c).2.1.trans ((Cert.FfnUpRefIdeal.Read.val_main_v6_eq _ _).trans (by rw [g0, g2]; exact ref_u _ _)),
          (h c).2.2.1.trans ((Cert.FfnUpRefIdeal.Read.val_main_v9_eq _ _ _).trans (by rw [g0, g1, g2]; exact ref_a _ _ _)), (h c).2.2.2⟩)
      (Cert.FfnUpRefIdeal.Value.run (F := Ideal) m' ρ')⟩

end Cert.FfnUpValue

end
-- ==== Proof.DownLnValue.lean ====
/- The feed-forward layer's last product with the residual and the layer norm after it, in eight tiles of two row pieces each; against
   the plainly written lines. Both sides are the same expressions, so that no argument need be finite. -/
module

public import proofs.«01_k».proof.Defs
public import proofs.«01_k».proof.Proof.Reals
public import proofs.«01_k».proof.Proof.Gen.DownLnIdeal.Value
public import proofs.«01_k».proof.Proof.Gen.DownLnRefIdeal.Read

@[expose] public section

set_option maxRecDepth 16384

noncomputable section

namespace Cert.DownLnValue

open Cert.Reals Cert.DownLnIdeal Cert.DownLnIdeal.Gen Idealize.ShloMosaic Idealize.ShloMosaic.TcCoe Idealize.SL.Sem
open Idealize.ShloMosaic.Pipeline (Dat)

/-! ## One row -/

/-- The residual's row: the scaled input and half the product. -/
def stream (a : Fin 3072 → EReal) (w : Fin 3072 → Fin 1024 → EReal) (x : Fin 1024 → EReal) (k : Fin 1024) : EReal :=
  Ideal.ofBits .f32 0x3FD744FD#32 * x k + Ideal.ofBits .f32 0x3F000000#32 * ∑ j, a j * w j k

/-- A row less its mean. -/
def centred (z : Fin 1024 → EReal) (k : Fin 1024) : EReal := z k - Ideal.div (∑ l, z l) (Ideal.ofBits .f32 0x44800000#32)

/-- The norm of a row, with its gain and shift. -/
def norm (z g b : Fin 1024 → EReal) (k : Fin 1024) : EReal :=
  centred z k * Ideal.rsqrt (Ideal.div (∑ l, centred z l * centred z l) (Ideal.ofBits .f32 0x44800000#32) + Ideal.ofBits .f32 0x3727C5AC#32) * g k + b k

/-! ## One tile -/

/-- Two row pieces one above the other: where each piece is its part of `G`, the tile is `G`. -/
theorem two_pieces {e : EltTy} (G : Fin 512 → Fin 1024 → Elt Ideal e) (p q : S256x1024.Idx → Elt Ideal e)
    (hp : ∀ (r : Fin 256) k, p (ix2 r k) = G ⟨0 + r.val, by omega⟩ k) (hq : ∀ (r : Fin 256) k, q (ix2 r k) = G ⟨256 + r.val, by omega⟩ k)
    (r : Fin 512) (k : Fin 1024) : View.canon (Val := Elt Ideal) (e := e) [⟨r0_5, q⟩, ⟨r0_3, p⟩] (ix2 r k) = G r k := by
  have piece : ∀ (w : S256x1024.Idx → Elt Ideal e) (o : ℕ) (ho : o + 256 ≤ 512), (∀ (r : Fin 256) k, w (ix2 r k) = G ⟨o + r.val, by omega⟩ k) →
      ∀ x : S256x1024.Idx, (∀ a : Fin 2, ((ix2 r k : S512x1024.Idx) a).val = ![o, 0] a + (x a).val) → w x = G r k := by
    intro w o ho hw x hx
    obtain ⟨r', k', rfl⟩ := exists_ix2 x
    obtain rfl : k = k' := Fin.ext ((hx 1).trans (Nat.zero_add _))
    obtain rfl : r = ⟨o + r'.val, by omega⟩ := Fin.ext (hx 0)
    exact hw r' k
  refine View.canon_eq_of_allAt _ _ _ (View.cover_of_tiled [⟨r0_5, q⟩, ⟨r0_3, p⟩] S256x1024.size (by rfl) _)
    (View.allAt_cons_unit _ _ _ _ _ ?_ (View.allAt_cons_unit _ _ _ _ _ ?_ (View.allAt_nil _ _)))
  · exact piece q 256 (by omega) hq
  · exact piece p 0 (by omega) hp

section Tile

/-- The stored row of a piece. -/
theorem stream_apply (a : Vec Ideal S256x3072 .bf16) (w : Vec Ideal S3072x1024 .bf16) (x : Vec Ideal S256x1024 .f32) (r : Fin 256) (k : Fin 1024) :
    k0_pay3 (F := Ideal) a w x (ix2 r k) = stream (fun j => a (ix2 r j)) (fun j l => w (ix2 j l)) (fun l => x (ix2 r l)) k := by
  pointwise [k0_pay3]
  rfl

/-- The normalised row of a piece. -/
theorem norm_apply (v x : FVec Ideal S256x1024 .f32) (g b : Vec Ideal S1x1024 .f32) (r : Fin 256) (k : Fin 1024) :
    k0_pay7 (F := Ideal) v x g b (ix2 r k) = norm (fun l => k0_pay6 (F := Ideal) v x (ix2 r l)) (fun l => g (ix2 0 l)) (fun l => b (ix2 0 l)) k := by
  pointwise [k0_pay7]
  rfl

variable (a : Vec Ideal S512x3072 .bf16) (w : Vec Ideal S3072x1024 .bf16) (x : Vec Ideal S512x1024 .f32) (g b : Vec Ideal S1x1024 .f32)

/-- A tile's row of the residual, and of its norm. -/
def tileZ (r : Fin 512) (k : Fin 1024) : EReal := stream (fun j => a (ix2 r j)) (fun j l => w (ix2 j l)) (fun l => x (ix2 r l)) k
def tileO (r : Fin 512) (k : Fin 1024) : EReal := norm (tileZ a w x r) (fun l => g (ix2 0 l)) (fun l => b (ix2 0 l)) k

/-- A row piece of a block. -/
theorem piece_rows {W : ℕ} {e : EltTy} (y : (⟨2, ![512, W]⟩ : Shape).Idx → Elt Ideal e) (o : ℕ) (ho : o + 256 ≤ 512)
    (inb : ∀ d, ![o, 0] d + ![256, W] d ≤ (⟨2, ![512, W]⟩ : Shape).size d) (r : Fin 256) (k : Fin W) :
    View.ld (Val := Elt Ideal) (e' := e) y (Rect.unit (s := ⟨2, ![512, W]⟩) ![o, 0] ![256, W] inb) (ix2 r k) = y (ix2 ⟨o + r.val, by omega⟩ k) :=
  View.ld_unit_apply_of (S := ⟨2, ![512, W]⟩) (e := e) y _ _ inb (ix2 r k) (ix2 ⟨o + r.val, by omega⟩ k) fun d => by
    match d with
    | ⟨0, _⟩ => rfl
    | ⟨1, _⟩ => show k.val = 0 + k.val; omega

/-- The residual of a row piece. -/
theorem z_piece (o : ℕ) (ho : o + 256 ≤ 512) (ia) (ix) (r : Fin 256) (k : Fin 1024) :
    k0_pay3 (F := Ideal) (View.ld a (Rect.unit (s := S512x3072) ![o, 0] S256x3072.size ia)) (View.ld w r0_1)
      (View.ld x (Rect.unit (s := S512x1024) ![o, 0] S256x1024.size ix)) (ix2 r k) = tileZ a w x ⟨o + r.val, by omega⟩ k := by
  rw [stream_apply, View.ld_unit_zero (S := S3072x1024) zero_off]
  unfold tileZ
  rw [show (fun j => View.ld a (Rect.unit (s := S512x3072) ![o, 0] S256x3072.size ia) (ix2 r j)) = fun j => a (ix2 ⟨o + r.val, by omega⟩ j) from
      funext fun j => piece_rows a o ho ia r j,
    show (fun l => View.ld x (Rect.unit (s := S512x1024) ![o, 0] S256x1024.size ix) (ix2 r l)) = fun l => x (ix2 ⟨o + r.val, by omega⟩ l) from
      funext fun l => piece_rows x o ho ix r l]

/-- The norm of a row piece. -/
theorem o_piece (o : ℕ) (ho : o + 256 ≤ 512) (ia) (ix) (r : Fin 256) (k : Fin 1024) :
    k0_pay7 (F := Ideal) (k0_pay2 (View.ld a (Rect.unit (s := S512x3072) ![o, 0] S256x3072.size ia)) (View.ld w r0_1))
      (View.ld x (Rect.unit (s := S512x1024) ![o, 0] S256x1024.size ix)) (View.ld g r0_4) (View.ld b r0_4) (ix2 r k)
      = tileO a w x g b ⟨o + r.val, by omega⟩ k := by
  rw [norm_apply, View.ld_unit_zero (S := S1x1024) zero_off, View.ld_unit_zero (S := S1x1024) zero_off]
  exact congrArg (fun z => norm z _ _ k) (funext fun l => z_piece a w x o ho ia ix r l)

theorem z_tile (r : Fin 512) (k : Fin 1024) : out0_5 a w x g b (ix2 r k) = tileZ a w x r k :=
  two_pieces (e := .f32) (tileZ a w x) _ _ (z_piece a w x 0 (by omega) _ _) (z_piece a w x 256 (by omega) _ _) r k

theorem o_tile (r : Fin 512) (k : Fin 1024) : out0_6 a w x g b (ix2 r k) = tileO a w x g b r k :=
  two_pieces (e := .f32) (tileO a w x g b) _ _ (o_piece a w x g b 0 (by omega) _ _) (o_piece a w x g b 256 (by omega) _ _) r k

theorem ob_tile (r : Fin 512) (k : Fin 1024) : out0_7 a w x g b (ix2 r k) = tileO a w x g b r k :=
  two_pieces (e := .bf16) (tileO a w x g b) _ _ (o_piece a w x g b 0 (by omega) _ _) (o_piece a w x g b 256 (by omega) _ _) r k

end Tile

/-! ## The whole arrays -/

variable (m : (ℓ : Loc nD τ sig) → Buf (Elt Ideal) ℓ) (ρ : Dev nD → PrngReg)

/-- The launched arguments. -/
abbrev argA (c : Dev nD) : S4096x3072.Idx → EReal := m ((c : Thread nD τ).loc main_arg0)
abbrev argW (c : Dev nD) : S3072x1024.Idx → EReal := m ((c : Thread nD τ).loc main_arg1)
abbrev argX (c : Dev nD) : S4096x1024.Idx → EReal := m ((c : Thread nD τ).loc main_arg2)
abbrev argG (c : Dev nD) : S1024.Idx → EReal := m ((c : Thread nD τ).loc main_arg3)
abbrev argB (c : Dev nD) : S1024.Idx → EReal := m ((c : Thread nD τ).loc main_arg4)

/-- Gain and shift as the host lays them out. -/
theorem gain_apply (c : Dev nD) (k : Fin 1024) : (V m c main_v0 : S1x1024.Idx → EReal) (ix2 0 k) = argG m c (ix1 k) := by
  after_reads_at
theorem shift_apply (c : Dev nD) (k : Fin 1024) : (V m c main_v1 : S1x1024.Idx → EReal) (ix2 0 k) = argB m c (ix1 k) := by
  after_reads_at

/-- The residual of three arrays, and its norm. -/
def zArr (a : S4096x3072.Idx → EReal) (w : S3072x1024.Idx → EReal) (x : S4096x1024.Idx → EReal) : S4096x1024.Idx → EReal := fun i =>
  stream (fun j => a (ix2 (i 0) j)) (fun j l => w (ix2 j l)) (fun l => x (ix2 (i 0) l)) (i 1)
def oArr (a : S4096x3072.Idx → EReal) (w : S3072x1024.Idx → EReal) (x : S4096x1024.Idx → EReal) (g b : S1024.Idx → EReal) :
    S4096x1024.Idx → EReal := fun i => norm (fun k => zArr a w x (ix2 (i 0) k)) (fun k => g (ix1 k)) (fun k => b (ix1 k)) (i 1)

/-- Where the windows stand: the windows of rows at the point's tile, the others at their whole arrays. -/
theorem index_rows : ∀ t : Fin grid0.N, (win0_0.index t 0 = t.val ∧ win0_0.index t 1 = 0) ∧ win0_2.index t 0 = t.val ∧ win0_2.index t 1 = 0 := by decide +kernel
theorem index_out : ∀ t : Fin grid0.N, win0_5.index t 0 = t.val ∧ win0_5.index t 1 = 0 := by decide +kernel
theorem index_whole : ∀ (t : Fin cfg0.N) (a : Fin 2), win0_1.index t a = 0 ∧ win0_3.index t a = 0 ∧ win0_4.index t a = 0 :=
  (by decide +kernel : ∀ (t : Fin grid0.N) (a : Fin 2), win0_1.index t a = 0 ∧ win0_3.index t a = 0 ∧ win0_4.index t a = 0)

/-- Row `r` of tile `t`. -/
def rowOf (t : Fin cfg0.N) (r : Fin 512) : Fin 4096 := ⟨512 * t.val + r.val, by have := t.isLt.trans_eq N_0; omega⟩

theorem block_a (c : Dev nD) (t : Fin cfg0.N) (r : Fin 512) (j : Fin 3072) :
    (iblk m c 0 t : S512x3072.Idx → EReal) (ix2 r j) = argA m c (ix2 (rowOf t r) j) :=
  (congrFun (V_main_arg0 m c) _).trans (congrArg (argA m c) (idx2 (tile_at (index_rows t).1.1 512 r) (whole_at (index_rows t).1.2 3072 j)))

theorem block_w (c : Dev nD) (t : Fin cfg0.N) (j : Fin 3072) (k : Fin 1024) :
    (iblk m c 1 t : S3072x1024.Idx → EReal) (ix2 j k) = argW m c (ix2 j k) :=
  (congrFun (V_main_arg1 m c) _).trans (congrArg (argW m c) (idx2 (whole_at (index_whole t 0).1 3072 j) (whole_at (index_whole t 1).1 1024 k)))

theorem block_x (c : Dev nD) (t : Fin cfg0.N) (r : Fin 512) (k : Fin 1024) :
    (iblk m c 2 t : S512x1024.Idx → EReal) (ix2 r k) = argX m c (ix2 (rowOf t r) k) :=
  (congrFun (V_main_arg2 m c) _).trans (congrArg (argX m c) (idx2 (tile_at (index_rows t).2.1 512 r) (whole_at (index_rows t).2.2 1024 k)))

theorem block_g (c : Dev nD) (t : Fin cfg0.N) (k : Fin 1024) : (iblk m c 3 t : S1x1024.Idx → EReal) (ix2 0 k) = argG m c (ix1 k) := by
  rw [← gain_apply]
  exact congrArg (V m c main_v0 : S1x1024.Idx → EReal) (idx2 (whole_at (index_whole t 0).2.1 1 0) (whole_at (index_whole t 1).2.1 1024 k))

theorem block_b (c : Dev nD) (t : Fin cfg0.N) (k : Fin 1024) : (iblk m c 4 t : S1x1024.Idx → EReal) (ix2 0 k) = argB m c (ix1 k) := by
  rw [← shift_apply]
  exact congrArg (V m c main_v1 : S1x1024.Idx → EReal) (idx2 (whole_at (index_whole t 0).2.2 1 0) (whole_at (index_whole t 1).2.2 1024 k))

/-- The place of entry `(r, k)` of tile `t`, for each of the three results. -/
theorem place (t : Fin cfg0.N) (r : Fin 512) (k : Fin 1024) :
    ((cfg0.win 5).blk t).view.emb (ix2 r k) = (ix2 (rowOf t r) k : S4096x1024.Idx) :=
  idx2 (tile_at (index_out t).1 512 r) (whole_at (index_out t).2 1024 k)

/-- The tiles of a result cover it. -/
theorem covered (i : S4096x1024.Idx) : ∃ t : Fin cfg0.N, i ∈ (win0_5.rect t).set :=
  tiles_cover 512 rfl win0_5.index index_out (fun _ => ⟨_, rfl⟩) i

/-- A tile of the residual, and of its norm, in the arrays' terms. -/
theorem z_at (c : Dev nD) (t : Fin cfg0.N) (r : Fin 512) :
    tileZ (iblk m c 0 t) (iblk m c 1 t) (iblk m c 2 t) r = fun k => zArr (argA m c) (argW m c) (argX m c) (ix2 (rowOf t r) k) := by
  funext k
  unfold tileZ
  simp only [block_a, block_w, block_x]
  rfl

theorem o_at (c : Dev nD) (t : Fin cfg0.N) (r : Fin 512) (k : Fin 1024) :
    tileO (iblk m c 0 t) (iblk m c 1 t) (iblk m c 2 t) (iblk m c 3 t) (iblk m c 4 t) r k
      = oArr (argA m c) (argW m c) (argX m c) (argG m c) (argB m c) (ix2 (rowOf t r) k) := by
  unfold tileO
  rw [z_at]
  simp only [block_g, block_b]
  rfl

theorem final_z (c : Dev nD) : (dats m 0 c).arrAt 5 cfg0.N = zArr (argA m c) (argW m c) (argX m c) :=
  (dats m 0 c).arrAt_eq_of_cover 5 _
    (fun t _ => by
      rw [Value.flushed5]
      funext j
      rw [View.read_apply]
      obtain ⟨r, k, rfl⟩ := exists_ix2 j
      rw [place]
      exact (z_tile _ _ _ _ _ r k).trans (congrFun (z_at m c t r) k))
    fun i => (covered i).imp fun t ht => ⟨flush0_5 t, in_slice ht⟩

theorem final_o (c : Dev nD) : (dats m 0 c).arrAt 6 cfg0.N = oArr (argA m c) (argW m c) (argX m c) (argG m c) (argB m c) :=
  (dats m 0 c).arrAt_eq_of_cover 6 _
    (fun t _ => by
      rw [Value.flushed6]
      funext j
      rw [View.read_apply]
      obtain ⟨r, k, rfl⟩ := exists_ix2 j
      rw [show ((cfg0.win 6).blk t).view.emb (ix2 r k) = (ix2 (rowOf t r) k : S4096x1024.Idx) from place t r k]
      exact (o_tile _ _ _ _ _ r k).trans (o_at m c t r k))
    fun i => (covered i).imp fun t ht => ⟨flush0_6 t, in_slice ht⟩

theorem final_ob (c : Dev nD) : (dats m 0 c).arrAt 7 cfg0.N = oArr (argA m c) (argW m c) (argX m c) (argG m c) (argB m c) :=
  (dats m 0 c).arrAt_eq_of_cover 7 _
    (fun t _ => by
      rw [Value.flushed7]
      funext j
      rw [View.read_apply]
      obtain ⟨r, k, rfl⟩ := exists_ix2 j
      rw [show ((cfg0.win 7).blk t).view.emb (ix2 r k) = (ix2 (rowOf t r) k : S4096x1024.Idx) from place t r k]
      exact (ob_tile _ _ _ _ _ r k).trans (o_at m c t r k))
    fun i => (covered i).imp fun t ht => ⟨flush0_7 t, in_slice ht⟩

section Reference

open Cert.DownLnRefIdeal.Read

variable (a : S4096x3072.Idx → EReal) (w : S3072x1024.Idx → EReal) (x : S4096x1024.Idx → EReal) (g b : S1024.Idx → EReal)

/-- The plainly written residual, its deviations, and its norm. -/
theorem ref_z (p : Fin 4096) (k : Fin 1024) : val_main_v7 (F := Ideal) a w x (ix2 p k) = zArr a w x (ix2 p k) := by
  pointwise [val_main_v7, val_main_v6, val_main_v5, val_main_v4, val_main_v3, val_main_v2, val_main_v1, val_main_v0, val_main_cst, val_main_cst_0]
  rfl

theorem ref_centred (p : Fin 4096) (k : Fin 1024) : val_main_v20 (F := Ideal) a w x (ix2 p k) = centred (fun l => zArr a w x (ix2 p l)) k := by
  pointwise [val_main_v20, val_main_v19, val_main_v11, val_main_v10, val_main_v9, val_main_v8, val_main_cst_1, val_main_cst_2]
  simp only [ref_z]
  rfl

theorem ref_o : val_main_v31 (F := Ideal) a w x g b = oArr a w x g b := by
  funext i
  obtain ⟨p, k, rfl⟩ := exists_ix2 i
  have hc : ∀ l, val_main_v13 (F := Ideal) a w x (ix2 p l) = centred (fun l => zArr a w x (ix2 p l)) l := ref_centred a w x p
  pointwise [val_main_v31, val_main_v30, val_main_v29, val_main_v28, val_main_v27, val_main_v26, val_main_v25, val_main_v24, val_main_v23, val_main_v22,
    val_main_v21, val_main_v18, val_main_v17, val_main_v16, val_main_v15, val_main_v14, val_main_cst_3, val_main_cst_4, val_main_cst_5]
  simp only [ref_centred, hc]
  rfl

end Reference

/-- The kernel and the plainly written lines end with equal results. -/
theorem algebraic : Cert.algebraic_DownLnIdeal_DownLnRefIdeal := fun m ρ m' ρ' _ hag =>
  ⟨fun c => zArr (argA m c) (argW m c) (argX m c), fun c => oArr (argA m c) (argW m c) (argX m c) (argG m c) (argB m c),
    fun c => oArr (argA m c) (argW m c) (argX m c) (argG m c) (argB m c),
    (θ_run defs _ _).mono (fun _ h c => ⟨(h c).1.trans (final_z m c), (h c).2.1.trans (final_o m c), (h c).2.2.1.trans (final_ob m c), (h c).2.2.2⟩)
      (Value.run_blocks m ρ),
    (θ_run Cert.DownLnRefIdeal.defs _ _).mono
      (fun _ h c => by
        obtain ⟨g0, g1, g2, g3, g4⟩ := hag c
        have hz : Cert.DownLnRefIdeal.Read.val_main_v7 (F := Ideal) (argA m c) (argW m c) (argX m c) = zArr (argA m c) (argW m c) (argX m c) := by
          funext i
          obtain ⟨p, k, rfl⟩ := exists_ix2 i
          exact ref_z _ _ _ p k
        refine ⟨(h c).1.trans ((Cert.DownLnRefIdeal.Read.val_main_v7_eq _ _ _).trans (by rw [g0, g1, g2]; exact hz)),
          (h c).2.1.trans ((Cert.DownLnRefIdeal.Read.val_main_v31_eq _ _).trans (by rw [g0, g1, g2, g3, g4]; exact ref_o _ _ _ _ _)),
          (h c).2.2.1.trans ((Cert.DownLnRefIdeal.Read.val_main_v32_eq _ _).trans (by rw [g0, g1, g2, g3, g4]; exact ref_o _ _ _ _ _)),
          (h c).2.2.2⟩)
      (Cert.DownLnRefIdeal.Value.run (F := Ideal) m' ρ')⟩

end Cert.DownLnValue

end
-- ==== Proof.BiasBandValue.lean ====
/- The band of biases: sixteen points of eight band rows, each the table times the indicator of its clipped distances; against the
   plainly written lookup. The indicator takes the table in three parts, so that its entries must be numbers. -/
module

public import proofs.«01_k».proof.Proof.BiasBody
public import proofs.«01_k».proof.Proof.AttnAGather
public import proofs.«01_k».proof.Proof.Gen.BiasBandIdeal.Value
public import proofs.«01_k».proof.Proof.Gen.BiasBandRefIdeal.Read

@[expose] public section

set_option maxRecDepth 16384

noncomputable section

namespace Cert.BiasBandValue

open Cert.Reals Cert.BiasBandIdeal Cert.BiasBandIdeal.Gen Idealize.ShloMosaic Idealize.ShloMosaic.TcCoe Idealize.SL.Sem
open Idealize.ShloMosaic.Pipeline (Dat)
open Cert.BiasValue (rel rel_word)

/-! ## One band row -/

section Body

variable {F : FTy → Type} [FloatOps F]

/-- The indicator of "the clipped distance of band row `b` from key `j` is `r`", keys across. -/
def hot (b : BitVec 32) : FVec F S384x640 .bf16 :=
  truncf .bf16 (select
    (cmpi .eq (iota .tc S384x640 32 [0] iota_S384x640_d0_w32)
      (addi (minsi (broadcast S384x640 128#32) (maxsi (broadcast S384x640 4294967168#32)
        (addi (subi (broadcast S384x640 b) (iota .tc S384x640 32 [1] iota_S384x640_d1_w32)) (broadcast S384x640 512#32))))
        (broadcast S384x640 128#32)))
    (broadcast S384x640 (Scalar.ofBits .f32 0x3F800000#32 : F .f32)) (broadcast S384x640 (Scalar.ofBits .f32 0x00000000#32 : F .f32)))
    bitsLt_bf16_f32

/-- A product with the indicator, onto zero. -/
def prod (v : FVec F S16x384 .bf16) (w : FVec F S384x640 .bf16) : FVec F S16x640 .f32 :=
  matmul dot_S16x384_S384x640_S16x640_1_0_0_1_n_n none v w (constant S16x640 .f32 0x00000000#32)

/-- One band row: the three parts of the table, each times the indicator. -/
def bandRow (b : BitVec 32) (x : Vec F S16x384 .f32) : FVec F S1x16x640 .f32 :=
  shapeCast S1x16x640 (addf (addf (addf (broadcast S16x640 (Scalar.ofBits .f32 0x00000000#32 : F .f32)) (prod (k0_pay4 x) (hot b)))
    (prod (k0_pay6 x) (hot b))) (prod (k0_pay7 x) (hot b))) shapeCasts_S16x640_S1x16x640

/-- The first band row of a point, as a word. -/
def base (i : grid0.Coords) : BitVec 32 := Scalar.muli (BitVec.ofNat 32 (i 0).val) 8#32

/-- A point's tile is its eight band rows. -/
theorem tile_eq (i : grid0.Coords) (x : Vec F S16x384 .f32) : out0_1 i x = View.canon
    [⟨r0_8, bandRow (Scalar.addi (base i) 7#32) (View.ld x r0_0)⟩, ⟨r0_7, bandRow (Scalar.addi (base i) 6#32) (View.ld x r0_0)⟩,
     ⟨r0_6, bandRow (Scalar.addi (base i) 5#32) (View.ld x r0_0)⟩, ⟨r0_5, bandRow (Scalar.addi (base i) 4#32) (View.ld x r0_0)⟩,
     ⟨r0_4, bandRow (Scalar.addi (base i) 3#32) (View.ld x r0_0)⟩, ⟨r0_3, bandRow (Scalar.addi (base i) 2#32) (View.ld x r0_0)⟩,
     ⟨r0_2, bandRow (Scalar.addi (base i) 1#32) (View.ld x r0_0)⟩, ⟨r0_1, bandRow (Scalar.addi (base i) 0#32) (View.ld x r0_0)⟩] := rfl

end Body

/-- The indicator's entries. -/
theorem hot_apply {p : ℕ} (hp : p < 128) (r : Fin 384) (j : Fin 640) :
    hot (F := Ideal) (BitVec.ofNat 32 p) (ix2 r j) = (((if rel p j.val = r.val then 1 else 0 : ℝ)) : EReal) := by
  have e : hot (F := Ideal) (BitVec.ofNat 32 p) (ix2 r j) = Scalar.select (IntOp.cmpi CmpIPredicate.eq (BitVec.ofNat 32 r.val)
        (IntOp.addi (IntOp.minsi (128#32) (IntOp.maxsi (4294967168#32) (IntOp.addi (IntOp.subi (BitVec.ofNat 32 p) (BitVec.ofNat 32 j.val)) 512#32)))
          128#32)) (1 : EReal) 0 := by
    pointwise [hot]
  rw [e, rel_word hp j.isLt, WordCmp.cmpi_eq_eq, WordCmp.select_decide]
  have hr : rel p j.val < 2 ^ 32 := by unfold rel; norm_num
  have h2 : r.val < 2 ^ 32 := by norm_num; omega
  by_cases q : rel p j.val = r.val
  · rw [if_pos (by rw [q]), if_pos q]; rfl
  · rw [if_neg (by rw [WordCmp.ofNat_eq_ofNat_iff h2 hr]; omega), if_neg q]; rfl

/-- The product of numbers with the indicator picks the entry at the clipped distance. -/
theorem prod_coe {p : ℕ} (hp : p < 128) (v : FVec Ideal S16x384 .bf16) (g : ℕ → ℕ → ℝ)
    (hv : ∀ (h : Fin 16) (r : Fin 384), v (ix2 h r) = ((g h.val r.val : ℝ) : EReal)) (h : Fin 16) (j : Fin 640) :
    prod v (hot (BitVec.ofNat 32 p)) (ix2 h j) = ((g h.val (rel p j.val) : ℝ) : EReal) := by
  have e : prod v (hot (BitVec.ofNat 32 p)) (ix2 h j) = ∑ k : Fin 384, v (ix2 h k) * hot (BitVec.ofNat 32 p) (ix2 k j) := by
    pointwise [prod]
  have hr : rel p j.val < 384 := by unfold rel; omega
  rw [e, Finset.sum_eq_single (⟨rel p j.val, hr⟩ : Fin 384)]
  · rw [hot_apply hp, if_pos rfl, hv, EReal.coe_one, mul_one]
  · intro r _ hne
    rw [hot_apply hp, if_neg fun q => hne (Fin.ext q.symm), EReal.coe_zero, mul_zero]
  · exact fun q => absurd (Finset.mem_univ _) q

/-- A band row of a table of numbers. -/
theorem bandRow_coe {p : ℕ} (hp : p < 128) (x : Vec Ideal S16x384 .f32) (g : ℕ → ℕ → ℝ)
    (hx : ∀ (h : Fin 16) (r : Fin 384), x (ix2 h r) = ((g h.val r.val : ℝ) : EReal)) (h : Fin 16) (j : Fin 640) :
    bandRow (F := Ideal) (BitVec.ofNat 32 p) x (ix3 0 h j) = ((g h.val (rel p j.val) : ℝ) : EReal) := by
  have h4 : ∀ (h : Fin 16) (r : Fin 384), k0_pay4 (F := Ideal) x (ix2 h r) = ((g h.val r.val : ℝ) : EReal) := fun h r => by
    pointwise [k0_pay4, k0_pay3]
    exact hx h r
  have h6 : ∀ (h : Fin 16) (r : Fin 384), k0_pay6 (F := Ideal) x (ix2 h r) = ((0 : ℝ) : EReal) := fun h r => by
    pointwise [k0_pay6, k0_pay5, k0_pay4, k0_pay3]
    rw [hx, ← EReal.coe_sub, sub_self]
  have h7 : ∀ (h : Fin 16) (r : Fin 384), k0_pay7 (F := Ideal) x (ix2 h r) = ((0 : ℝ) : EReal) := fun h r => by
    show k0_pay6 (F := Ideal) x (ix2 h r) - k0_pay6 (F := Ideal) x (ix2 h r) = _
    rw [h6, ← EReal.coe_sub, sub_self]
  have e : bandRow (F := Ideal) (BitVec.ofNat 32 p) x (ix3 0 h j) = ((Ideal.ofBits .f32 0x00000000#32 + prod (k0_pay4 x) (hot (BitVec.ofNat 32 p)) (ix2 h j))
      + prod (k0_pay6 x) (hot (BitVec.ofNat 32 p)) (ix2 h j)) + prod (k0_pay7 x) (hot (BitVec.ofNat 32 p)) (ix2 h j) := by
    pointwise [bandRow]
  rw [e, prod_coe hp _ g h4, prod_coe hp _ (fun _ _ => 0) h6, prod_coe hp _ (fun _ _ => 0) h7,
    show Ideal.ofBits .f32 0x00000000#32 = 0 from by simp [Ideal.ofBits, Ideal.ieee], EReal.coe_zero, zero_add, add_zero, add_zero]

theorem base_at : ∀ t : Fin grid0.N, base (grid0.coords t) = BitVec.ofNat 32 (8 * t.val) := by decide +kernel

/-- A point's tile of a table of numbers: at band row `8t + k` and key `j`, the entry at the clipped distance. -/
theorem tile_coe (t : Fin cfg0.N) (x : Vec Ideal S16x384 .f32) (g : ℕ → ℕ → ℝ)
    (hx : ∀ (h : Fin 16) (r : Fin 384), x (ix2 h r) = ((g h.val r.val : ℝ) : EReal)) (k : Fin 8) (h : Fin 16) (j : Fin 640) :
    out0_1 (grid0.coords t) x (ix3 k h j) = ((g h.val (rel (8 * t.val + k.val) j.val) : ℝ) : EReal) := by
  have ht : t.val < 16 := t.isLt.trans_eq N_0
  rw [tile_eq, View.ld_unit_zero (S := S16x384) zero_off, base_at]
  have row : ∀ (w : S1x16x640.Idx → EReal) (o : ℕ) (ho : o < 8), w = bandRow (F := Ideal) (Scalar.addi (BitVec.ofNat 32 (8 * t.val)) (BitVec.ofNat 32 o)) x →
      ∀ y : S1x16x640.Idx, (∀ a : Fin 3, ((ix3 k h j : S8x16x640.Idx) a).val = ![o, 0, 0] a + (y a).val) →
      w y = ((g h.val (rel (8 * t.val + k.val) j.val) : ℝ) : EReal) := by
    intro w o ho hw y hy
    obtain ⟨z, h', j', rfl⟩ : ∃ (z : Fin 1) (h' : Fin 16) (j' : Fin 640), y = ix3 z h' j' := ⟨y 0, y 1, y 2, eq_ix3 y⟩
    obtain rfl : z = 0 := Subsingleton.elim _ _
    obtain rfl : h = h' := Fin.ext ((hy 1).trans (Nat.zero_add _))
    obtain rfl : j = j' := Fin.ext ((hy 2).trans (Nat.zero_add _))
    have hk : k.val = o := hy 0
    have e : Scalar.addi (BitVec.ofNat 32 (8 * t.val)) (BitVec.ofNat 32 o) = BitVec.ofNat 32 (8 * t.val + o) := by
      show BitVec.ofNat 32 (8 * t.val) + BitVec.ofNat 32 o = _
      rw [BitVec.ofNat_add]
    rw [hw, e, bandRow_coe (by omega) x g hx, hk]
  refine View.canon_eq_of_allAt _ _ _ (cover0_1 _ _ _ _ _ _ _ _ _)
    (View.allAt_cons_unit _ _ _ _ _ ?_ (View.allAt_cons_unit _ _ _ _ _ ?_ (View.allAt_cons_unit _ _ _ _ _ ?_ (View.allAt_cons_unit _ _ _ _ _ ?_
      (View.allAt_cons_unit _ _ _ _ _ ?_ (View.allAt_cons_unit _ _ _ _ _ ?_ (View.allAt_cons_unit _ _ _ _ _ ?_ (View.allAt_cons_unit _ _ _ _ _ ?_
        (View.allAt_nil _ _)))))))))
  · exact row _ 7 (by omega) rfl
  · exact row _ 6 (by omega) rfl
  · exact row _ 5 (by omega) rfl
  · exact row _ 4 (by omega) rfl
  · exact row _ 3 (by omega) rfl
  · exact row _ 2 (by omega) rfl
  · exact row _ 1 (by omega) rfl
  · exact row _ 0 (by omega) rfl

/-! ## The whole band -/

variable (m : (ℓ : Loc nD τ sig) → Buf (Elt Ideal) ℓ) (ρ : Dev nD → PrngReg)

/-- The launched table. -/
abbrev argT (c : Dev nD) : S257x16.Idx → EReal := m ((c : Thread nD τ).loc main_arg0)

/-- The table's numbers, heads first; zero past its end. -/
def nums (x : S257x16.Idx → EReal) (h r : ℕ) : ℝ := if q : r < 257 ∧ h < 16 then (x (ix2 ⟨r, q.1⟩ ⟨h, q.2⟩)).toReal else 0

/-- The band of a table: at band row `p`, head `h` and key `j`, the entry at the clipped distance. -/
def bandOf (x : S257x16.Idx → EReal) : S128x16x640.Idx → EReal := fun i => ((nums x (i 1).val (rel (i 0).val (i 2).val) : ℝ) : EReal)

/-- Every entry of the table is a number. -/
def Numbers (x : S257x16.Idx → EReal) : Prop := ∀ (r : Fin 257) (h : Fin 16), x (ix2 r h) = ((nums x h.val r.val : ℝ) : EReal)

/-- The table as the host lays it out: turned, with zeros past its end. -/
theorem host_table (c : Dev nD) : (V m c main_v1 : S16x384.Idx → EReal) = pad S16x384 ![0, 0] ![0, 127] ![0, 0]
    (transpose S16x257 [1, 0] (argT m c) transposes_S257x16_S16x257_1_0) (sitofp (F := Ideal) .f32 (constantI S_ 32 0#32))
    pads_S16x257_S16x384_000_01270 h_S_ := by
  after_reads_simp
  rfl

theorem host_coe (c : Dev nD) (hn : Numbers (argT m c)) (h : Fin 16) (r : Fin 384) :
    (V m c main_v1 : S16x384.Idx → EReal) (ix2 h r) = ((nums (argT m c) h.val r.val : ℝ) : EReal) := by
  rw [host_table]
  by_cases q : r.val < 257
  · refine (pad_apply_of_inside _ _ _ _ _ _ _ _ (ix2 h (⟨r.val, q⟩ : Fin 257)) fun a => ?_).trans ?_
    · match a with
      | ⟨0, _⟩ => show h.val = 0 + h.val * 1; omega
      | ⟨1, _⟩ => show r.val = 0 + r.val * 1; omega
    · refine Eq.trans ?_ (hn ⟨r.val, q⟩ h)
      pointwise
  · refine (pad_apply_of_not_inside _ _ _ _ _ _ _ _ (1 : Fin 2) fun w => q ?_).trans ?_
    · have h2 : (r.val - 0) / 1 < 257 := w.2.2
      omega
    · unfold nums
      rw [dif_neg fun w => q w.1, EReal.coe_zero]
      show ((((0#32 : BitVec 32).toInt : ℝ)) : EReal) = 0
      simp

/-- Where the windows stand: the table whole, the band at the point's eight rows. -/
theorem index_in : ∀ (t : Fin cfg0.N) (a : Fin 2), win0_0.index t a = 0 :=
  (by decide +kernel : ∀ (t : Fin grid0.N) (a : Fin 2), win0_0.index t a = 0)
theorem index_out : ∀ t : Fin grid0.N, win0_1.index t 0 = t.val ∧ win0_1.index t 1 = 0 ∧ win0_1.index t 2 = 0 := by decide +kernel

theorem block (c : Dev nD) (t : Fin cfg0.N) (h : Fin 16) (r : Fin 384) :
    (iblk m c 0 t : S16x384.Idx → EReal) (ix2 h r) = (V m c main_v1 : S16x384.Idx → EReal) (ix2 h r) :=
  congrArg (V m c main_v1 : S16x384.Idx → EReal) (idx2 (whole_at (index_in t 0) 16 h) (whole_at (index_in t 1) 384 r))

theorem final (c : Dev nD) (hn : Numbers (argT m c)) : (dats m 0 c).arrAt 1 cfg0.N = bandOf (argT m c) :=
  (dats m 0 c).arrAt_eq_of_cover 1 _
    (fun t _ => by
      have ht : t.val < 16 := t.isLt.trans_eq N_0
      rw [Value.flushed1]
      funext y
      rw [View.read_apply]
      obtain ⟨k, h, j, rfl⟩ : ∃ (k : Fin 8) (h : Fin 16) (j : Fin 640), y = ix3 k h j := ⟨y 0, y 1, y 2, eq_ix3 y⟩
      have e : ((cfg0.win 1).blk t).view.emb (ix3 k h j) = (ix3 (⟨8 * t.val + k.val, by omega⟩ : Fin 128) h j : S128x16x640.Idx) := by
        funext a; apply Fin.ext
        match a with
        | ⟨0, _⟩ => exact tile_at (index_out t).1 8 k
        | ⟨1, _⟩ => exact whole_at (index_out t).2.1 16 h
        | ⟨2, _⟩ => exact whole_at (index_out t).2.2 640 j
      rw [e]
      exact tile_coe t _ (nums (argT m c)) (fun h r => (block m c t h r).trans (host_coe m c hn h r)) k h j)
    fun i => by
      have h0 : (i 0).val < 128 := (i 0).isLt
      have h1 : (i 1).val < 16 := (i 1).isLt
      have h2 : (i 2).val < 640 := (i 2).isLt
      obtain ⟨t, ht⟩ : ∃ t : Fin cfg0.N, t.val = (i 0).val / 8 := ⟨⟨(i 0).val / 8, by rw [show cfg0.N = 16 from N_0]; omega⟩, rfl⟩
      refine ⟨t, flush0_1 t, ?_⟩
      show i ∈ ((View.whole main_v2).slice (win0_1.rect t)).set
      rw [View.set_slice_whole, Rect.mem_set_unit]
      intro a
      match a with
      | ⟨0, _⟩ => show win0_1.index t 0 * 8 ≤ (i 0).val ∧ (i 0).val < win0_1.index t 0 * 8 + 8; rw [(index_out t).1]; omega
      | ⟨1, _⟩ => show win0_1.index t 1 * 16 ≤ (i 1).val ∧ (i 1).val < win0_1.index t 1 * 16 + 16; rw [(index_out t).2.1]; omega
      | ⟨2, _⟩ => show win0_1.index t 2 * 640 ≤ (i 2).val ∧ (i 2).val < win0_1.index t 2 * 640 + 640; rw [(index_out t).2.2]; omega

section Reference

open Cert.BiasBandRefIdeal.Read Cert.BiasBandRefIdeal.Gen

/-- The plainly written lookup is the band. -/
theorem ref_band (x : S257x16.Idx → EReal) (hn : Numbers x) : val_main_v15 (F := Ideal) x = bandOf x := by
  funext i
  obtain ⟨p, h, j, rfl⟩ : ∃ (p : Fin 128) (h : Fin 16) (j : Fin 640), i = ix3 p h j := ⟨i 0, i 1, i 2, eq_ix3 i⟩
  rw [val_main_v15_apply]
  have e : idx_main_v15 (ix3 p h j) = ix3 p j h := by
    funext a
    match a with
    | ⟨0, _⟩ => rfl
    | ⟨1, _⟩ => rfl
    | ⟨2, _⟩ => rfl
  have hw : val_main_v13 (F := Ideal) (ix3 p j (0 : Fin 1)) = AttnARun.rowWord (BitVec.ofNat 32 p.val - BitVec.ofNat 32 j.val + 512#32) := by
    rw [val_main_v13_apply, val_main_v12_apply, val_main_v11_apply, val_main_v9_apply, val_main_v7_apply, val_main_v5_apply,
      val_main_call0_v2_apply, val_main_call0_v1_apply, val_main_call0_v4_apply, val_main_v6_apply, val_main_v8_apply, val_main_v10_apply]
    rfl
  rw [e]
  refine (AttnARun.gather_row_apply (N := 257) (C := 16) (R := 128) (S := 640) (by decide)
    Cert.BiasBandRefIdeal.gather_S257x16_S128x640x1_S128x640x16_2_0_n_n_0_2_116.wf x _ _ _ _).trans ((hn _ _).trans (congrArg Real.toEReal ?_))
  show nums x h.val (min (val_main_v13 (F := Ideal) (ix3 p j (0 : Fin 1))).toInt.toNat 256) = nums x h.val (min 256 (p.val + 640 - j.val))
  rw [hw, AttnARun.rowWord_band _ _ p.isLt j.isLt, Nat.add_comm 640]

end Reference

/-- The shapes' facts of the predicate. -/
theorem pre_facts : Cert.Pre_finite_band.Facts where
  bcast_S_S257x16 := by decide

/-- A finite table's entries are numbers. -/
theorem numbers_of_pre (c : Dev nD) (hP : Cert.Pre_BiasBandIdeal_finite_band (hPre_finite_band := pre_facts) m) : Numbers (argT m c) := by
  intro r h
  unfold nums
  rw [dif_pos ⟨r.isLt, h.isLt⟩]
  exact number_of_lt (congrFun (hP c) (ix2 r h))

/-- The kernel's band of biases and the plain lookup end with equal results. -/
theorem algebraic : Cert.algebraic_BiasBandIdeal_BiasBandRefIdeal_pre_finite_band (hPre_finite_band := pre_facts) := fun m ρ m' ρ' hP hag =>
  ⟨fun c => bandOf (argT m c),
    (θ_run defs _ _).mono (fun _ h c => ⟨(h c).1.trans (final m c (numbers_of_pre m c hP)), (h c).2⟩) (Value.run_blocks m ρ),
    (θ_run Cert.BiasBandRefIdeal.defs _ _).mono
      (fun _ h c => ⟨(h c).1.trans ((Cert.BiasBandRefIdeal.Read.val_main_v15_eq _).trans (by rw [hag c]; exact ref_band _ (numbers_of_pre m c hP))), (h c).2⟩)
      (Cert.BiasBandRefIdeal.Value.run (F := Ideal) m' ρ')⟩

end Cert.BiasBandValue

end
-- ==== Proof.MmNnValue.lean ====
/- A plain product of activations and a weight, in four by four blocks; against the plainly written product. -/
module

public import proofs.«01_k».proof.Defs
public import proofs.«01_k».proof.Proof.Reals
public import proofs.«01_k».proof.Proof.Gen.MmNnIdeal.Value
public import proofs.«01_k».proof.Proof.Gen.MmNnRefIdeal.Read

@[expose] public section

set_option maxRecDepth 16384

noncomputable section

namespace Cert.MmNnValue

open Cert.Reals Cert.MmNnIdeal Cert.MmNnIdeal.Gen Idealize.ShloMosaic Idealize.ShloMosaic.TcCoe Idealize.SL.Sem
open Idealize.ShloMosaic.Pipeline (Dat)

/-- One block's store, at an entry. -/
theorem block_apply (x : Vec Ideal S1024x1024 .bf16) (w : Vec Ideal S1024x768 .bf16) (r : Fin 1024) (k : Fin 768) :
    out0_2 x w (ix2 r k) = ∑ l : Fin 1024, x (ix2 r l) * w (ix2 l k) := by
  unfold out0_2
  rw [View.canon_unit_zero (S := S1024x768) zero_off, View.ld_unit_zero (S := S1024x1024) zero_off, View.ld_unit_zero (S := S1024x768) zero_off]
  pointwise [k0_pay1]

variable (m : (ℓ : Loc nD τ sig) → Buf (Elt Ideal) ℓ) (ρ : Dev nD → PrngReg)

/-- The launched arguments, and the product of two arrays. -/
abbrev argX (c : Dev nD) : S4096x1024.Idx → EReal := m ((c : Thread nD τ).loc main_arg0)
abbrev argW (c : Dev nD) : S1024x3072.Idx → EReal := m ((c : Thread nD τ).loc main_arg1)
def product (x : S4096x1024.Idx → EReal) (w : S1024x3072.Idx → EReal) : S4096x3072.Idx → EReal := fun i =>
  ∑ l, x (ix2 (i 0) l) * w (ix2 l (i 1))

/-- A block of the result is of the rows of the one factor's block and of the columns of the other's; there is one at every place. -/
theorem index : ∀ t : Fin grid0.N, win0_0.index t 0 = win0_2.index t 0 ∧ win0_0.index t 1 = 0 ∧ win0_1.index t 0 = 0
    ∧ win0_1.index t 1 = win0_2.index t 1 := by decide +kernel
theorem places : ∀ a b : Fin 4, ∃ t : Fin grid0.N, win0_2.index t 0 = a.val ∧ win0_2.index t 1 = b.val := by decide +kernel

/-- The array the blocks leave is the product. -/
theorem final (c : Dev nD) : (dats m 0 c).arrAt 2 cfg0.N = product (argX m c) (argW m c) :=
  (dats m 0 c).arrAt_eq_of_cover 2 _
    (fun t _ => by
      obtain ⟨h0, h1, h2, h3⟩ := index t
      rw [Value.flushed2]
      funext j
      obtain ⟨r, k, rfl⟩ := exists_ix2 j
      let e : S4096x3072.Idx := ((cfg0.win 2).blk t).view.emb (ix2 r k)
      show _ = ∑ l : Fin 1024, argX m c (ix2 (e 0) l) * argW m c (ix2 l (e 1))
      exact (block_apply (iblk m c 0 t) (iblk m c 1 t) r k).trans (Finset.sum_congr rfl fun l _ => congrArg₂ (· * ·)
        (congrArg (argX m c) (idx2 (congrArg (· * 1024 + 1 * r.val) h0) (whole_at h1 1024 l)))
        (congrArg (argW m c) (idx2 (whole_at h2 1024 l) (congrArg (· * 768 + 1 * k.val) h3)))))
    fun i => (blocks_cover 1024 768 rfl rfl win0_2.index places (fun _ => ⟨_, rfl⟩) i).imp fun t ht => ⟨flush0_2 t, in_slice ht⟩

open Cert.MmNnRefIdeal.Read in
/-- The plainly written product. -/
theorem ref (x : S4096x1024.Idx → EReal) (w : S1024x3072.Idx → EReal) : val_main_v3 (F := Ideal) x w = product x w := by
  funext i
  obtain ⟨p, j, rfl⟩ := exists_ix2 i
  pointwise [val_main_v3, val_main_v2, val_main_v0, val_main_v1]
  rfl

/-- The kernel and the plainly written line end with equal results. -/
theorem algebraic : Cert.algebraic_MmNnIdeal_MmNnRefIdeal := fun m ρ m' ρ' _ hag =>
  ⟨fun c => product (argX m c) (argW m c),
    (θ_run defs _ _).mono (fun _ h c => ⟨(h c).1.trans (final m c), (h c).2⟩) (Value.run_blocks m ρ),
    (θ_run Cert.MmNnRefIdeal.defs _ _).mono
      (fun _ h c => by
        obtain ⟨g0, g1⟩ := hag c
        exact ⟨(h c).1.trans ((Cert.MmNnRefIdeal.Read.val_main_v3_eq _ _).trans (by rw [g0, g1]; exact ref _ _)), (h c).2⟩)
      (Cert.MmNnRefIdeal.Value.run (F := Ideal) m' ρ')⟩

end Cert.MmNnValue

end
-- ==== Proof.MmNtValue.lean ====
/- A plain product of a gradient and a transposed weight, in four by two blocks; against the derivative of the plainly written
   product. -/
module

public import proofs.«01_k».proof.Defs
public import proofs.«01_k».proof.Proof.Reals
public import proofs.«01_k».proof.Proof.Gen.MmNtIdeal.Value
public import proofs.«01_k».proof.Proof.Gen.MmNtRefIdeal.Read

@[expose] public section

set_option maxRecDepth 16384

noncomputable section

namespace Cert.MmNtValue

open Cert.Reals Cert.MmNtIdeal Cert.MmNtIdeal.Gen Idealize.ShloMosaic Idealize.ShloMosaic.TcCoe Idealize.SL.Sem
open Idealize.ShloMosaic.Pipeline (Dat)

/-- One block's store, at an entry. -/
theorem block_apply (c : Dev nD) (i : grid0.Coords) (a2 : Memref sig .tc .vmem S1024x1024 .bf16) (h2 : a2.IsWhole)
    (a3 : Memref sig .tc .vmem S512x1024 .bf16) (h3 : a3.IsWhole) (a5 : Memref sig .tc .vmem S1024x512 .bf16) (h5 : a5.IsWhole)
    (x : Vec Ideal S1024x1024 .bf16) (w : Vec Ideal S512x1024 .bf16) (r : Fin 1024) (k : Fin 512) :
    out0_A_2 c i a2 h2 a3 h3 a5 h5 x w (ix2 r k) = ∑ l : Fin 1024, x (ix2 r l) * w (ix2 k l) := by
  unfold out0_A_2
  rw [View.read_writes_eq_canon _ _ _ (fun _ => cover0_A_2 ..)]
  unfold kernelRun0_A
  dsimp only
  sl_unfold_words
  simp only [View.canon_unit_zero (S := S1024x512) zero_off, View.readAt_eq_ld, h2.read_unread, h3.read_unread,
    View.ld_unit_zero (S := S1024x1024) zero_off, View.ld_unit_zero (S := S512x1024) zero_off]
  pointwise [k0_pay1]

variable (m : (ℓ : Loc nD τ sig) → Buf (Elt Ideal) ℓ) (ρ : Dev nD → PrngReg)

/-- The launched arguments, and the product of an array and a transposed one. -/
abbrev argZ (c : Dev nD) : S4096x1024.Idx → EReal := m ((c : Thread nD τ).loc main_arg0)
abbrev argW (c : Dev nD) : S1024x1024.Idx → EReal := m ((c : Thread nD τ).loc main_arg1)
def product (x : S4096x1024.Idx → EReal) (w : S1024x1024.Idx → EReal) : S4096x1024.Idx → EReal := fun i =>
  ∑ l, x (ix2 (i 0) l) * w (ix2 (i 1) l)

/-- A block of the result is of the rows of the one factor's block and, as columns, of the rows of the other's; there is one at
    every place. -/
theorem index : ∀ t : Fin grid0.N, win0_0.index t 0 = win0_2.index t 0 ∧ win0_0.index t 1 = 0 ∧ win0_1.index t 0 = win0_2.index t 1
    ∧ win0_1.index t 1 = 0 := by decide +kernel
theorem places : ∀ (a : Fin 4) (b : Fin 2), ∃ t : Fin grid0.N, win0_2.index t 0 = a.val ∧ win0_2.index t 1 = b.val := by decide +kernel

/-- The array the blocks leave is the product. -/
theorem final (c : Dev nD) : (dats m 0 c).arrAt 2 cfg0.N = product (argZ m c) (argW m c) :=
  (dats m 0 c).arrAt_eq_of_cover 2 _
    (fun t _ => by
      obtain ⟨h0, h1, h2, h3⟩ := index t
      rw [Value.flushed2_A]
      funext j
      obtain ⟨r, k, rfl⟩ := exists_ix2 j
      let e : S4096x1024.Idx := ((cfg0.win 2).blk t).view.emb (ix2 r k)
      show _ = ∑ l : Fin 1024, argZ m c (ix2 (e 0) l) * argW m c (ix2 (e 1) l)
      exact (block_apply c _ _ _ _ _ _ _ (iblk m c 0 t) (iblk m c 1 t) r k).trans (Finset.sum_congr rfl fun l _ => congrArg₂ (· * ·)
        (congrArg (argZ m c) (idx2 (congrArg (· * 1024 + 1 * r.val) h0) (whole_at h1 1024 l)))
        (congrArg (argW m c) (idx2 (congrArg (· * 512 + 1 * k.val) h2) (whole_at h3 1024 l)))))
    fun i => (blocks_cover 1024 512 rfl rfl win0_2.index places (fun _ => ⟨_, rfl⟩) i).imp fun t ht => ⟨flush0_2 t, in_slice ht⟩

open Cert.MmNtRefIdeal.Read in
/-- The derivative of the plainly written product. -/
theorem ref (x : S4096x1024.Idx → EReal) (w : S1024x1024.Idx → EReal) : val_main_v5 (F := Ideal) x w = product x w := by
  funext i
  obtain ⟨p, j, rfl⟩ := exists_ix2 i
  pointwise [val_main_v5, val_main_v4, val_main_v0, val_main_v1]
  rfl

/-- The kernel and the derivative of the plainly written line end with equal results. -/
theorem algebraic : Cert.algebraic_MmNtIdeal_MmNtRefIdeal := fun m ρ m' ρ' _ hag =>
  ⟨fun c => product (argZ m c) (argW m c),
    (θ_run defs _ _).mono (fun _ h c => ⟨(h c).1.trans (final m c), (h c).2⟩) (Value.run_blocks m ρ),
    (θ_run Cert.MmNtRefIdeal.defs _ _).mono
      (fun _ h c => by
        obtain ⟨g0, g1, _⟩ := hag c
        exact ⟨(h c).1.trans ((Cert.MmNtRefIdeal.Read.val_main_v5_eq _ _).trans (by rw [g0, g1]; exact ref _ _)), (h c).2⟩)
      (Cert.MmNtRefIdeal.Value.run (F := Ideal) m' ρ')⟩

end Cert.MmNtValue

end
-- ==== Proof.SumDevValue.lean ====
/- The sum over the devices of their parts of a gradient; against the plainly written sum. -/
module

public import proofs.«01_k».proof.Defs
public import proofs.«01_k».proof.Proof.Reals
public import proofs.«01_k».proof.Proof.Gen.SumDevIdeal.Value
public import proofs.«01_k».proof.Proof.Gen.SumDevRefIdeal.Read

@[expose] public section

noncomputable section

namespace Cert.SumDevValue

open Cert.Reals Cert.SumDevIdeal Cert.SumDevIdeal.Gen Idealize.ShloMosaic Idealize.ShloMosaic.TcCoe Idealize.SL.Sem

/-- The sum of the eight parts, at an entry. -/
theorem sum_apply (g : Vec Ideal S8x40x1024 .f32) (r : Fin 40) (k : Fin 1024) :
    Value.G1 (F := Ideal) g (ix2 r k) = ∑ d : Fin 8, g (ix3 d r k) := by
  refine (Value.piece1_0 (F := Ideal) _ _ _ _ _ _ _ _ (ix2 r k)).trans ?_
  rw [Fin.sum_univ_eight]
  have at_part : ∀ (d : Fin 8) (inb : ∀ a, ![d.val, 0, 0] a + S1x40x1024.size a ≤ S8x40x1024.size a) (i : S1x40x1024.Idx), (i 1).val = r.val →
      (i 2).val = k.val → View.ld (Val := Elt Ideal) (e' := .f32) g (Rect.unit (s := S8x40x1024) ![d.val, 0, 0] S1x40x1024.size inb) i = g (ix3 d r k) := by
    intro d inb i h1 h2
    refine View.ld_unit_apply_of (Val := Elt Ideal) (S := S8x40x1024) (e := .f32) g _ _ inb i (ix3 d r k) fun a => ?_
    match a with
    | ⟨0, _⟩ => have : (i 0).val < 1 := (i 0).isLt; show d.val = d.val + (i 0).val; omega
    | ⟨1, _⟩ => show r.val = 0 + (i 1).val; omega
    | ⟨2, _⟩ => show k.val = 0 + (i 2).val; omega
  have h0 : ∀ x : ℕ, 0 + 1 * x = x := fun x => by omega
  exact congrArg₂ (· + ·) (congrArg₂ (· + ·) (congrArg₂ (· + ·) (congrArg₂ (· + ·) (congrArg₂ (· + ·) (congrArg₂ (· + ·) (congrArg₂ (· + ·)
    (at_part 0 _ _ (h0 _) (h0 _)) (at_part 1 _ _ (h0 _) (h0 _))) (at_part 2 _ _ (h0 _) (h0 _))) (at_part 3 _ _ (h0 _) (h0 _)))
    (at_part 4 _ _ (h0 _) (h0 _))) (at_part 5 _ _ (h0 _) (h0 _))) (at_part 6 _ _ (h0 _) (h0 _))) (at_part 7 _ _ (h0 _) (h0 _))

open Cert.SumDevRefIdeal.Read in
/-- The plainly written sum. -/
theorem ref (g : S8x40x1024.Idx → EReal) : val_main_v0 (F := Ideal) g = Value.G1 (F := Ideal) g := by
  funext i
  obtain ⟨r, k, rfl⟩ := exists_ix2 i
  rw [sum_apply, val_main_v0_apply]
  refine Eq.trans (congrArg₂ (· + ·) (Ideal.ofBits_zero .f32) (Finset.sum_congr rfl fun d _ => congrArg g (funext fun a => ?_))) (zero_add _)
  match a with
  | ⟨0, _⟩ => rfl
  | ⟨1, _⟩ => rfl
  | ⟨2, _⟩ => rfl

/-- The kernel and the plainly written line end with equal results. -/
theorem algebraic : Cert.algebraic_SumDevIdeal_SumDevRefIdeal := fun m ρ m' ρ' _ hag =>
  ⟨fun c => Value.G1 (F := Ideal) (m ((c : Thread nD τ).loc main_arg0)), Value.run m ρ,
    (θ_run Cert.SumDevRefIdeal.defs _ _).mono
      (fun _ h c => ⟨(h c).1.trans ((Cert.SumDevRefIdeal.Read.val_main_v0_eq _).trans (by rw [hag c]; exact ref _)), (h c).2⟩)
      (Cert.SumDevRefIdeal.Value.run (F := Ideal) m' ρ')⟩

end Cert.SumDevValue

end
-- ==== Proof.lean ====
module

public import proofs.«01_k».proof.Proof.Gen.LossHead.Frame
public import proofs.«01_k».proof.Proof.Gen.AttnB.Loops
public import proofs.«01_k».proof.Proof.Gen.AttnB.Frame
public import proofs.«01_k».proof.Proof.LossValue
public import proofs.«01_k».proof.Proof.Gen.BiasBwd.Frame
public import proofs.«01_k».proof.Proof.Gen.Pre_finite_bias
public import proofs.«01_k».proof.Proof.Frames
public import proofs.«01_k».proof.Proof.BiasValue
public import proofs.«01_k».proof.Proof.Gen.LnBwd.Frame
public import proofs.«01_k».proof.Proof.Gen.Pre_finite_ln
public import proofs.«01_k».proof.Proof.LnValue
public import proofs.«01_k».proof.Proof.Gen.DxMix.Frame
public import proofs.«01_k».proof.Proof.Gen.Pre_finite_mix
public import proofs.«01_k».proof.Proof.DxMixValue
public import proofs.«01_k».proof.Proof.Gen.DxFfn.Frame
public import proofs.«01_k».proof.Proof.Gen.Pre_finite_ffn
public import proofs.«01_k».proof.Proof.DxFfnValue
public import proofs.«01_k».proof.Proof.Gen.FfnMid.Frame
public import proofs.«01_k».proof.Proof.Gen.Pre_finite_mid
public import proofs.«01_k».proof.Proof.FfnMidValue
public import proofs.«01_k».proof.Proof.Gen.DxFirst.Frame
public import proofs.«01_k».proof.Proof.DxFirstValue
public import proofs.«01_k».proof.Proof.Gen.AttnA.Skeleton
public import proofs.«01_k».proof.Proof.Gen.AttnA.Frame
public import proofs.«01_k».proof.Proof.AttnAValue
public import proofs.«01_k».proof.Proof.AttnAQuiet
public import proofs.«01_k».proof.Proof.Gen.AttnBFwd.Loops
public import proofs.«01_k».proof.Proof.Gen.AttnBFwd.Frame
public import proofs.«01_k».proof.Proof.AttnBFwdValue
public import proofs.«01_k».proof.Proof.Gen.AttnAFwd.Frame
public import proofs.«01_k».proof.Proof.AttnAFwdValue
public import proofs.«01_k».proof.Proof.Gen.FfnUp.Frame
public import proofs.«01_k».proof.Proof.FfnUpValue
public import proofs.«01_k».proof.Proof.Gen.DownLn.Frame
public import proofs.«01_k».proof.Proof.DownLnValue
public import proofs.«01_k».proof.Proof.Gen.BiasBand.Frame
public import proofs.«01_k».proof.Proof.Gen.Pre_finite_band
public import proofs.«01_k».proof.Proof.BiasBandValue
public import proofs.«01_k».proof.Proof.Gen.MmNn.Frame
public import proofs.«01_k».proof.Proof.MmNnValue
public import proofs.«01_k».proof.Proof.Gen.MmNt.Frame
public import proofs.«01_k».proof.Proof.MmNtValue
public import proofs.«01_k».proof.Proof.Gen.SumDev.Frame
public import proofs.«01_k».proof.Proof.SumDevValue

@[expose] public section

noncomputable section

namespace Cert.Proof

open Idealize.ShloMosaic Idealize.SL.Sem

/-- Every claim of the certificate. -/
theorem claim : Cert.Claim :=
  ⟨Cert.LossHead.Gen.facts, Cert.LossHeadIdeal.Gen.facts, Cert.LossRefIdeal.Gen.facts, Cert.AttnB.Gen.facts, Cert.AttnBIdeal.Gen.facts,
    Cert.AttnBRefIdeal.Gen.facts, Cert.BiasBwd.Gen.facts, Cert.BiasBwdIdeal.Gen.facts, Cert.BiasRefIdeal.Gen.facts, Cert.LnBwd.Gen.facts,
    Cert.LnBwdIdeal.Gen.facts, Cert.LnRefIdeal.Gen.facts, Cert.DxMix.Gen.facts, Cert.DxMixIdeal.Gen.facts, Cert.DxMixRefIdeal.Gen.facts,
    Cert.DxFfn.Gen.facts, Cert.DxFfnIdeal.Gen.facts, Cert.DxFfnRefIdeal.Gen.facts, Cert.FfnMid.Gen.facts, Cert.FfnMidIdeal.Gen.facts,
    Cert.FfnMidRefIdeal.Gen.facts, Cert.DxFirst.Gen.facts, Cert.DxFirstIdeal.Gen.facts, Cert.DxFirstRefIdeal.Gen.facts, Cert.AttnA.Gen.facts,
    Cert.AttnAIdeal.Gen.facts, Cert.AttnARefIdeal.Gen.facts, Cert.AttnBFwd.Gen.facts, Cert.AttnBFwdIdeal.Gen.facts, Cert.AttnBFwdRefIdeal.Gen.facts,
    Cert.AttnAFwd.Gen.facts, Cert.AttnAFwdIdeal.Gen.facts, Cert.AttnAFwdRefIdeal.Gen.facts, Cert.FfnUp.Gen.facts, Cert.FfnUpIdeal.Gen.facts,
    Cert.FfnUpRefIdeal.Gen.facts, Cert.DownLn.Gen.facts, Cert.DownLnIdeal.Gen.facts, Cert.DownLnRefIdeal.Gen.facts, Cert.BiasBand.Gen.facts,
    Cert.BiasBandIdeal.Gen.facts, Cert.BiasBandRefIdeal.Gen.facts, Cert.MmNn.Gen.facts, Cert.MmNnIdeal.Gen.facts, Cert.MmNnRefIdeal.Gen.facts,
    Cert.MmNt.Gen.facts, Cert.MmNtIdeal.Gen.facts, Cert.MmNtRefIdeal.Gen.facts, Cert.SumDev.Gen.facts, Cert.SumDevIdeal.Gen.facts,
    Cert.SumDevRefIdeal.Gen.facts,
    Cert.AttnBRun.pre_facts, Cert.Pre_finite_bias.Gen.facts, Cert.Pre_finite_ln.Gen.facts, Cert.Pre_finite_mix.Gen.facts,
    Cert.Pre_finite_ffn.Gen.facts, Cert.Pre_finite_mid.Gen.facts, Cert.Pre_finite_attn_a.Gen.facts, Cert.Pre_finite_attn_b_fwd.Gen.facts,
    Cert.Pre_finite_attn_a_fwd.Gen.facts, Cert.Pre_finite_band.Gen.facts,
    fun m ρ _ => Cert.LossHead.Gen.frame m ρ, fun m ρ _ => Cert.LossHeadIdeal.Gen.frame m ρ, Cert.LossValue.frame_ref, Cert.AttnBRun.frame_bits,
    fun m ρ _ => Cert.AttnBRun.frame m ρ, fun m ρ _ => Cert.AttnBRun.frame m ρ, Cert.AttnBRun.frame_ref,
    fun m ρ _ => Cert.AttnBRun.frame_ref m ρ trivial, fun m ρ _ => Cert.BiasBwd.Gen.frame m ρ, fun m ρ _ => Cert.BiasBwdIdeal.Gen.frame m ρ,
    fun m ρ _ => Cert.BiasBwdIdeal.Gen.frame m ρ, Cert.RefFrames.bias, fun m ρ _ => Cert.RefFrames.bias m ρ trivial,
    fun m ρ _ => Cert.LnBwd.Gen.frame m ρ, fun m ρ _ => Cert.LnBwdIdeal.Gen.frame m ρ, fun m ρ _ => Cert.LnBwdIdeal.Gen.frame m ρ, Cert.RefFrames.ln,
    fun m ρ _ => Cert.RefFrames.ln m ρ trivial, fun m ρ _ => Cert.DxMix.Gen.frame m ρ, fun m ρ _ => Cert.DxMixIdeal.Gen.frame m ρ,
    fun m ρ _ => Cert.DxMixIdeal.Gen.frame m ρ, Cert.RefFrames.mix, fun m ρ _ => Cert.RefFrames.mix m ρ trivial,
    fun m ρ _ => Cert.DxFfn.Gen.frame m ρ, fun m ρ _ => Cert.DxFfnIdeal.Gen.frame m ρ, fun m ρ _ => Cert.DxFfnIdeal.Gen.frame m ρ, Cert.RefFrames.ffn,
    fun m ρ _ => Cert.RefFrames.ffn m ρ trivial, fun m ρ _ => Cert.FfnMid.Gen.frame m ρ, fun m ρ _ => Cert.FfnMidIdeal.Gen.frame m ρ,
    fun m ρ _ => Cert.FfnMidIdeal.Gen.frame m ρ, Cert.RefFrames.mid, fun m ρ _ => Cert.RefFrames.mid m ρ trivial,
    fun m ρ _ => Cert.DxFirst.Gen.frame m ρ, fun m ρ _ => Cert.DxFirstIdeal.Gen.frame m ρ, Cert.RefFrames.first, Cert.AttnARun.frame_bits,
    fun m ρ _ => Cert.AttnARun.frame m ρ, fun m ρ _ => Cert.AttnARun.frame m ρ, Cert.RefFrames.attn_a, fun m ρ _ => Cert.RefFrames.attn_a m ρ trivial,
    Cert.AttnBFwdRun.frame_bits, fun m ρ _ => Cert.AttnBFwdRun.frame m ρ, fun m ρ _ => Cert.AttnBFwdRun.frame m ρ, Cert.RefFrames.attn_b_fwd,
    fun m ρ _ => Cert.RefFrames.attn_b_fwd m ρ trivial, fun m ρ _ => Cert.AttnAFwd.Gen.frame m ρ, fun m ρ _ => Cert.AttnAFwdIdeal.Gen.frame m ρ,
    fun m ρ _ => Cert.AttnAFwdIdeal.Gen.frame m ρ, Cert.RefFrames.attn_a_fwd, fun m ρ _ => Cert.RefFrames.attn_a_fwd m ρ trivial,
    fun m ρ _ => Cert.FfnUp.Gen.frame m ρ, fun m ρ _ => Cert.FfnUpIdeal.Gen.frame m ρ, Cert.RefFrames.up, fun m ρ _ => Cert.DownLn.Gen.frame m ρ,
    fun m ρ _ => Cert.DownLnIdeal.Gen.frame m ρ, Cert.RefFrames.down, fun m ρ _ => Cert.BiasBand.Gen.frame m ρ,
    fun m ρ _ => Cert.BiasBandIdeal.Gen.frame m ρ, fun m ρ _ => Cert.BiasBandIdeal.Gen.frame m ρ, Cert.RefFrames.band,
    fun m ρ _ => Cert.RefFrames.band m ρ trivial, fun m ρ _ => Cert.MmNn.Gen.frame m ρ, fun m ρ _ => Cert.MmNnIdeal.Gen.frame m ρ, Cert.RefFrames.nn,
    fun m ρ _ => Cert.MmNt.Gen.frame m ρ, fun m ρ _ => Cert.MmNtIdeal.Gen.frame m ρ, Cert.RefFrames.nt, fun m ρ _ => Cert.SumDev.Gen.frame m ρ,
    fun m ρ _ => Cert.SumDevIdeal.Gen.frame m ρ, Cert.RefFrames.sum,
    trivial, Cert.LossValue.algebraic, trivial, Cert.AttnBRun.algebraic, trivial, Cert.BiasValue.algebraic, trivial, Cert.LnValue.algebraic, trivial,
    Cert.DxMixValue.algebraic, trivial, Cert.DxFfnValue.algebraic, trivial, Cert.FfnMidValue.algebraic, trivial, Cert.DxFirstValue.algebraic,
    Cert.AttnARun.preserves, Cert.AttnAValue.algebraic, Cert.AttnBFwdRun.preserves, Cert.AttnBFwdValue.algebraic, Cert.AttnAFwdValue.preserves,
    Cert.AttnAFwdValue.algebraic, trivial, Cert.FfnUpValue.algebraic, trivial, Cert.DownLnValue.algebraic, trivial, Cert.BiasBandValue.algebraic,
    trivial, Cert.MmNnValue.algebraic, trivial, Cert.MmNtValue.algebraic, trivial, Cert.SumDevValue.algebraic⟩

end Cert.Proof

end
